-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluKernelIdeal_finite_swiglu [hPre_finite_swiglu : Cert.Pre_finite_swiglu.Facts] (m : (ℓ : Loc Cert.SwigluKernelIdeal.nD Cert.SwigluKernelIdeal.τ Cert.SwigluKernelIdeal.sig) → Buf (Elt Ideal) ℓ) : Prop :=
  ∀ c : Dev Cert.SwigluKernelIdeal.nD,
    (Cert.Pre_finite_swiglu.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1)) (m ((c.tc : Thread Cert.SwigluKernelIdeal.nD Cert.SwigluKernelIdeal.τ).loc Cert.SwigluKernelIdeal.main_arg2)) (m ((c.tc : Thread Cert.SwigluKernelIdeal.nD Cert.SwigluKernelIdeal.τ).loc Cert.SwigluKernelIdeal.main_arg3))) = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_finite_swiglu [hPre_finite_swiglu : Cert.Pre_finite_swiglu.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_finite_swiglu.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1)) (m ((c.tc : Thread Cert.SwigluReferenceIdeal.nD Cert.SwigluReferenceIdeal.τ).loc Cert.SwigluReferenceIdeal.main_arg2)) (m ((c.tc : Thread Cert.SwigluReferenceIdeal.nD Cert.SwigluReferenceIdeal.τ).loc Cert.SwigluReferenceIdeal.main_arg3))) = (fun _ => 1#1)

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_finite_sb [hPre_finite_sb : Cert.Pre_finite_sb.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_finite_sb.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_finite_sb [hPre_finite_sb : Cert.Pre_finite_sb.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))) = (fun _ => 1#1)

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite_norm2 [hPre_finite_norm2 : Cert.Pre_finite_norm2.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite_norm2.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6)) (m ((c.tc : Thread Cert.NormKernelIdeal.nD Cert.NormKernelIdeal.τ).loc Cert.NormKernelIdeal.main_arg7)) (m ((c.tc : Thread Cert.NormKernelIdeal.nD Cert.NormKernelIdeal.τ).loc Cert.NormKernelIdeal.main_arg8)) (m ((c.tc : Thread Cert.NormKernelIdeal.nD Cert.NormKernelIdeal.τ).loc Cert.NormKernelIdeal.main_arg9)) (m ((c.tc : Thread Cert.NormKernelIdeal.nD Cert.NormKernelIdeal.τ).loc Cert.NormKernelIdeal.main_arg10))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite_norm2 [hPre_finite_norm2 : Cert.Pre_finite_norm2.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite_norm2.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6)) (m ((c.tc : Thread Cert.NormReferenceIdeal.nD Cert.NormReferenceIdeal.τ).loc Cert.NormReferenceIdeal.main_arg7)) (m ((c.tc : Thread Cert.NormReferenceIdeal.nD Cert.NormReferenceIdeal.τ).loc Cert.NormReferenceIdeal.main_arg8)) (m ((c.tc : Thread Cert.NormReferenceIdeal.nD Cert.NormReferenceIdeal.τ).loc Cert.NormReferenceIdeal.main_arg9)) (m ((c.tc : Thread Cert.NormReferenceIdeal.nD Cert.NormReferenceIdeal.τ).loc Cert.NormReferenceIdeal.main_arg10))) = (fun _ => 1#1)

def Pre_NormBKernel (m : (ℓ : Loc Cert.NormBKernel.nD Cert.NormBKernel.τ Cert.NormBKernel.sig) → Buf (Elt Bits) ℓ) : Prop :=
  True

def Pre_NormBKernelIdeal (m : (ℓ : Loc Cert.NormBKernelIdeal.nD Cert.NormBKernelIdeal.τ Cert.NormBKernelIdeal.sig) → Buf (Elt Ideal) ℓ) : Prop :=
  True

def Pre_NormBKernelIdeal_finite_norm1b [hPre_finite_norm1b : Cert.Pre_finite_norm1b.Facts] (m : (ℓ : Loc Cert.NormBKernelIdeal.nD Cert.NormBKernelIdeal.τ Cert.NormBKernelIdeal.sig) → Buf (Elt Ideal) ℓ) : Prop :=
  ∀ c : Dev Cert.NormBKernelIdeal.nD,
    (Cert.Pre_finite_norm1b.fn (F := Ideal) (m ((c.tc : Thread Cert.NormBKernelIdeal.nD Cert.NormBKernelIdeal.τ).loc Cert.NormBKernelIdeal.main_arg0)) (m ((c.tc : Thread Cert.NormBKernelIdeal.nD Cert.NormBKernelIdeal.τ).loc Cert.NormBKernelIdeal.main_arg1)) (m ((c.tc : Thread Cert.NormBKernelIdeal.nD Cert.NormBKernelIdeal.τ).loc Cert.NormBKernelIdeal.main_arg2)) (m ((c.tc : Thread Cert.NormBKernelIdeal.nD Cert.NormBKernelIdeal.τ).loc Cert.NormBKernelIdeal.main_arg3)) (m ((c.tc : Thread Cert.NormBKernelIdeal.nD Cert.NormBKernelIdeal.τ).loc Cert.NormBKernelIdeal.main_arg4)) (m ((c.tc : Thread Cert.NormBKernelIdeal.nD Cert.NormBKernelIdeal.τ).loc Cert.NormBKernelIdeal.main_arg5)) (m ((c.tc : Thread Cert.NormBKernelIdeal.nD Cert.NormBKernelIdeal.τ).loc Cert.NormBKernelIdeal.main_arg6)) (m ((c.tc : Thread Cert.NormBKernelIdeal.nD Cert.NormBKernelIdeal.τ).loc Cert.NormBKernelIdeal.main_arg7)) (m ((c.tc : Thread Cert.NormBKernelIdeal.nD Cert.NormBKernelIdeal.τ).loc Cert.NormBKernelIdeal.main_arg8)) (m ((c.tc : Thread Cert.NormBKernelIdeal.nD Cert.NormBKernelIdeal.τ).loc Cert.NormBKernelIdeal.main_arg9)) (m ((c.tc : Thread Cert.NormBKernelIdeal.nD Cert.NormBKernelIdeal.τ).loc Cert.NormBKernelIdeal.main_arg10))) = (fun _ => 1#1)

def Pre_NormBReferenceIdeal (m : (ℓ : Loc Cert.NormBReferenceIdeal.nD Cert.NormBReferenceIdeal.τ Cert.NormBReferenceIdeal.sig) → Buf (Elt Ideal) ℓ) : Prop :=
  True

def Pre_NormBReferenceIdeal_finite_norm1b [hPre_finite_norm1b : Cert.Pre_finite_norm1b.Facts] (m : (ℓ : Loc Cert.NormBReferenceIdeal.nD Cert.NormBReferenceIdeal.τ Cert.NormBReferenceIdeal.sig) → Buf (Elt Ideal) ℓ) : Prop :=
  ∀ c : Dev Cert.NormBReferenceIdeal.nD,
    (Cert.Pre_finite_norm1b.fn (F := Ideal) (m ((c.tc : Thread Cert.NormBReferenceIdeal.nD Cert.NormBReferenceIdeal.τ).loc Cert.NormBReferenceIdeal.main_arg0)) (m ((c.tc : Thread Cert.NormBReferenceIdeal.nD Cert.NormBReferenceIdeal.τ).loc Cert.NormBReferenceIdeal.main_arg1)) (m ((c.tc : Thread Cert.NormBReferenceIdeal.nD Cert.NormBReferenceIdeal.τ).loc Cert.NormBReferenceIdeal.main_arg2)) (m ((c.tc : Thread Cert.NormBReferenceIdeal.nD Cert.NormBReferenceIdeal.τ).loc Cert.NormBReferenceIdeal.main_arg3)) (m ((c.tc : Thread Cert.NormBReferenceIdeal.nD Cert.NormBReferenceIdeal.τ).loc Cert.NormBReferenceIdeal.main_arg4)) (m ((c.tc : Thread Cert.NormBReferenceIdeal.nD Cert.NormBReferenceIdeal.τ).loc Cert.NormBReferenceIdeal.main_arg5)) (m ((c.tc : Thread Cert.NormBReferenceIdeal.nD Cert.NormBReferenceIdeal.τ).loc Cert.NormBReferenceIdeal.main_arg6)) (m ((c.tc : Thread Cert.NormBReferenceIdeal.nD Cert.NormBReferenceIdeal.τ).loc Cert.NormBReferenceIdeal.main_arg7)) (m ((c.tc : Thread Cert.NormBReferenceIdeal.nD Cert.NormBReferenceIdeal.τ).loc Cert.NormBReferenceIdeal.main_arg8)) (m ((c.tc : Thread Cert.NormBReferenceIdeal.nD Cert.NormBReferenceIdeal.τ).loc Cert.NormBReferenceIdeal.main_arg9)) (m ((c.tc : Thread Cert.NormBReferenceIdeal.nD Cert.NormBReferenceIdeal.τ).loc Cert.NormBReferenceIdeal.main_arg10))) = (fun _ => 1#1)

def Pre_NormAKernel (m : (ℓ : Loc Cert.NormAKernel.nD Cert.NormAKernel.τ Cert.NormAKernel.sig) → Buf (Elt Bits) ℓ) : Prop :=
  True

def Pre_NormAKernelIdeal (m : (ℓ : Loc Cert.NormAKernelIdeal.nD Cert.NormAKernelIdeal.τ Cert.NormAKernelIdeal.sig) → Buf (Elt Ideal) ℓ) : Prop :=
  True

def Pre_NormAKernelIdeal_finite_norm1a [hPre_finite_norm1a : Cert.Pre_finite_norm1a.Facts] (m : (ℓ : Loc Cert.NormAKernelIdeal.nD Cert.NormAKernelIdeal.τ Cert.NormAKernelIdeal.sig) → Buf (Elt Ideal) ℓ) : Prop :=
  ∀ c : Dev Cert.NormAKernelIdeal.nD,
    (Cert.Pre_finite_norm1a.fn (F := Ideal) (m ((c.tc : Thread Cert.NormAKernelIdeal.nD Cert.NormAKernelIdeal.τ).loc Cert.NormAKernelIdeal.main_arg0)) (m ((c.tc : Thread Cert.NormAKernelIdeal.nD Cert.NormAKernelIdeal.τ).loc Cert.NormAKernelIdeal.main_arg1)) (m ((c.tc : Thread Cert.NormAKernelIdeal.nD Cert.NormAKernelIdeal.τ).loc Cert.NormAKernelIdeal.main_arg2)) (m ((c.tc : Thread Cert.NormAKernelIdeal.nD Cert.NormAKernelIdeal.τ).loc Cert.NormAKernelIdeal.main_arg3)) (m ((c.tc : Thread Cert.NormAKernelIdeal.nD Cert.NormAKernelIdeal.τ).loc Cert.NormAKernelIdeal.main_arg4)) (m ((c.tc : Thread Cert.NormAKernelIdeal.nD Cert.NormAKernelIdeal.τ).loc Cert.NormAKernelIdeal.main_arg5)) (m ((c.tc : Thread Cert.NormAKernelIdeal.nD Cert.NormAKernelIdeal.τ).loc Cert.NormAKernelIdeal.main_arg6)) (m ((c.tc : Thread Cert.NormAKernelIdeal.nD Cert.NormAKernelIdeal.τ).loc Cert.NormAKernelIdeal.main_arg7)) (m ((c.tc : Thread Cert.NormAKernelIdeal.nD Cert.NormAKernelIdeal.τ).loc Cert.NormAKernelIdeal.main_arg8))) = (fun _ => 1#1)

def Pre_NormAReferenceIdeal (m : (ℓ : Loc Cert.NormAReferenceIdeal.nD Cert.NormAReferenceIdeal.τ Cert.NormAReferenceIdeal.sig) → Buf (Elt Ideal) ℓ) : Prop :=
  True

def Pre_NormAReferenceIdeal_finite_norm1a [hPre_finite_norm1a : Cert.Pre_finite_norm1a.Facts] (m : (ℓ : Loc Cert.NormAReferenceIdeal.nD Cert.NormAReferenceIdeal.τ Cert.NormAReferenceIdeal.sig) → Buf (Elt Ideal) ℓ) : Prop :=
  ∀ c : Dev Cert.NormAReferenceIdeal.nD,
    (Cert.Pre_finite_norm1a.fn (F := Ideal) (m ((c.tc : Thread Cert.NormAReferenceIdeal.nD Cert.NormAReferenceIdeal.τ).loc Cert.NormAReferenceIdeal.main_arg0)) (m ((c.tc : Thread Cert.NormAReferenceIdeal.nD Cert.NormAReferenceIdeal.τ).loc Cert.NormAReferenceIdeal.main_arg1)) (m ((c.tc : Thread Cert.NormAReferenceIdeal.nD Cert.NormAReferenceIdeal.τ).loc Cert.NormAReferenceIdeal.main_arg2)) (m ((c.tc : Thread Cert.NormAReferenceIdeal.nD Cert.NormAReferenceIdeal.τ).loc Cert.NormAReferenceIdeal.main_arg3)) (m ((c.tc : Thread Cert.NormAReferenceIdeal.nD Cert.NormAReferenceIdeal.τ).loc Cert.NormAReferenceIdeal.main_arg4)) (m ((c.tc : Thread Cert.NormAReferenceIdeal.nD Cert.NormAReferenceIdeal.τ).loc Cert.NormAReferenceIdeal.main_arg5)) (m ((c.tc : Thread Cert.NormAReferenceIdeal.nD Cert.NormAReferenceIdeal.τ).loc Cert.NormAReferenceIdeal.main_arg6)) (m ((c.tc : Thread Cert.NormAReferenceIdeal.nD Cert.NormAReferenceIdeal.τ).loc Cert.NormAReferenceIdeal.main_arg7)) (m ((c.tc : Thread Cert.NormAReferenceIdeal.nD Cert.NormAReferenceIdeal.τ).loc Cert.NormAReferenceIdeal.main_arg8))) = (fun _ => 1#1)

def Pre_NormZKernel (m : (ℓ : Loc Cert.NormZKernel.nD Cert.NormZKernel.τ Cert.NormZKernel.sig) → Buf (Elt Bits) ℓ) : Prop :=
  True

def Pre_NormZKernelIdeal (m : (ℓ : Loc Cert.NormZKernelIdeal.nD Cert.NormZKernelIdeal.τ Cert.NormZKernelIdeal.sig) → Buf (Elt Ideal) ℓ) : Prop :=
  True

def Pre_NormZKernelIdeal_finite_norm0 [hPre_finite_norm0 : Cert.Pre_finite_norm0.Facts] (m : (ℓ : Loc Cert.NormZKernelIdeal.nD Cert.NormZKernelIdeal.τ Cert.NormZKernelIdeal.sig) → Buf (Elt Ideal) ℓ) : Prop :=
  ∀ c : Dev Cert.NormZKernelIdeal.nD,
    (Cert.Pre_finite_norm0.fn (F := Ideal) (m ((c.tc : Thread Cert.NormZKernelIdeal.nD Cert.NormZKernelIdeal.τ).loc Cert.NormZKernelIdeal.main_arg0)) (m ((c.tc : Thread Cert.NormZKernelIdeal.nD Cert.NormZKernelIdeal.τ).loc Cert.NormZKernelIdeal.main_arg1)) (m ((c.tc : Thread Cert.NormZKernelIdeal.nD Cert.NormZKernelIdeal.τ).loc Cert.NormZKernelIdeal.main_arg2)) (m ((c.tc : Thread Cert.NormZKernelIdeal.nD Cert.NormZKernelIdeal.τ).loc Cert.NormZKernelIdeal.main_arg3)) (m ((c.tc : Thread Cert.NormZKernelIdeal.nD Cert.NormZKernelIdeal.τ).loc Cert.NormZKernelIdeal.main_arg4)) (m ((c.tc : Thread Cert.NormZKernelIdeal.nD Cert.NormZKernelIdeal.τ).loc Cert.NormZKernelIdeal.main_arg5)) (m ((c.tc : Thread Cert.NormZKernelIdeal.nD Cert.NormZKernelIdeal.τ).loc Cert.NormZKernelIdeal.main_arg6))) = (fun _ => 1#1)

def Pre_NormZReferenceIdeal (m : (ℓ : Loc Cert.NormZReferenceIdeal.nD Cert.NormZReferenceIdeal.τ Cert.NormZReferenceIdeal.sig) → Buf (Elt Ideal) ℓ) : Prop :=
  True

def Pre_NormZReferenceIdeal_finite_norm0 [hPre_finite_norm0 : Cert.Pre_finite_norm0.Facts] (m : (ℓ : Loc Cert.NormZReferenceIdeal.nD Cert.NormZReferenceIdeal.τ Cert.NormZReferenceIdeal.sig) → Buf (Elt Ideal) ℓ) : Prop :=
  ∀ c : Dev Cert.NormZReferenceIdeal.nD,
    (Cert.Pre_finite_norm0.fn (F := Ideal) (m ((c.tc : Thread Cert.NormZReferenceIdeal.nD Cert.NormZReferenceIdeal.τ).loc Cert.NormZReferenceIdeal.main_arg0)) (m ((c.tc : Thread Cert.NormZReferenceIdeal.nD Cert.NormZReferenceIdeal.τ).loc Cert.NormZReferenceIdeal.main_arg1)) (m ((c.tc : Thread Cert.NormZReferenceIdeal.nD Cert.NormZReferenceIdeal.τ).loc Cert.NormZReferenceIdeal.main_arg2)) (m ((c.tc : Thread Cert.NormZReferenceIdeal.nD Cert.NormZReferenceIdeal.τ).loc Cert.NormZReferenceIdeal.main_arg3)) (m ((c.tc : Thread Cert.NormZReferenceIdeal.nD Cert.NormZReferenceIdeal.τ).loc Cert.NormZReferenceIdeal.main_arg4)) (m ((c.tc : Thread Cert.NormZReferenceIdeal.nD Cert.NormZReferenceIdeal.τ).loc Cert.NormZReferenceIdeal.main_arg5)) (m ((c.tc : Thread Cert.NormZReferenceIdeal.nD Cert.NormZReferenceIdeal.τ).loc Cert.NormZReferenceIdeal.main_arg6))) = (fun _ => 1#1)

def Pre_QkKernel (m : (ℓ : Loc Cert.QkKernel.nD Cert.QkKernel.τ Cert.QkKernel.sig) → Buf (Elt Bits) ℓ) : Prop :=
  True

def Pre_QkKernelIdeal (m : (ℓ : Loc Cert.QkKernelIdeal.nD Cert.QkKernelIdeal.τ Cert.QkKernelIdeal.sig) → Buf (Elt Ideal) ℓ) : Prop :=
  True

def Pre_QkReferenceIdeal (m : (ℓ : Loc Cert.QkReferenceIdeal.nD Cert.QkReferenceIdeal.τ Cert.QkReferenceIdeal.sig) → Buf (Elt Ideal) ℓ) : Prop :=
  True

def Pre_SwaKernel (m : (ℓ : Loc Cert.SwaKernel.nD Cert.SwaKernel.τ Cert.SwaKernel.sig) → Buf (Elt Bits) ℓ) : Prop :=
  True

def Pre_SwaKernelIdeal (m : (ℓ : Loc Cert.SwaKernelIdeal.nD Cert.SwaKernelIdeal.τ Cert.SwaKernelIdeal.sig) → Buf (Elt Ideal) ℓ) : Prop :=
  True

def Pre_UnitKernel (m : (ℓ : Loc Cert.UnitKernel.nD Cert.UnitKernel.τ Cert.UnitKernel.sig) → Buf (Elt Bits) ℓ) : Prop :=
  True

def Pre_UnitKernelIdeal (m : (ℓ : Loc Cert.UnitKernelIdeal.nD Cert.UnitKernelIdeal.τ Cert.UnitKernelIdeal.sig) → Buf (Elt Ideal) ℓ) : Prop :=
  True

def Pre_UnitReferenceIdeal (m : (ℓ : Loc Cert.UnitReferenceIdeal.nD Cert.UnitReferenceIdeal.τ Cert.UnitReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutAKernel (m : (ℓ : Loc Cert.OutAKernel.nD Cert.OutAKernel.τ Cert.OutAKernel.sig) → Buf (Elt Bits) ℓ) : Prop :=
  True

def Pre_OutAKernelIdeal (m : (ℓ : Loc Cert.OutAKernelIdeal.nD Cert.OutAKernelIdeal.τ Cert.OutAKernelIdeal.sig) → Buf (Elt Ideal) ℓ) : Prop :=
  True

def Pre_OutAReferenceIdeal (m : (ℓ : Loc Cert.OutAReferenceIdeal.nD Cert.OutAReferenceIdeal.τ Cert.OutAReferenceIdeal.sig) → Buf (Elt Ideal) ℓ) : Prop :=
  True

def Pre_TopKernel (m : (ℓ : Loc Cert.TopKernel.nD Cert.TopKernel.τ Cert.TopKernel.sig) → Buf (Elt Bits) ℓ) : Prop :=
  True

def Pre_TopKernelIdeal (m : (ℓ : Loc Cert.TopKernelIdeal.nD Cert.TopKernelIdeal.τ Cert.TopKernelIdeal.sig) → Buf (Elt Ideal) ℓ) : Prop :=
  True

def Pre_TopReferenceIdeal (m : (ℓ : Loc Cert.TopReferenceIdeal.nD Cert.TopReferenceIdeal.τ Cert.TopReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_AdaFwdKernel (m : (ℓ : Loc Cert.AdaFwdKernel.nD Cert.AdaFwdKernel.τ Cert.AdaFwdKernel.sig) → Buf (Elt Bits) ℓ) : Prop :=
  True

def Pre_AdaFwdKernelIdeal (m : (ℓ : Loc Cert.AdaFwdKernelIdeal.nD Cert.AdaFwdKernelIdeal.τ Cert.AdaFwdKernelIdeal.sig) → Buf (Elt Ideal) ℓ) : Prop :=
  True

def Pre_AdaFwdReferenceIdeal (m : (ℓ : Loc Cert.AdaFwdReferenceIdeal.nD Cert.AdaFwdReferenceIdeal.τ Cert.AdaFwdReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_SumMKernel (m : (ℓ : Loc Cert.SumMKernel.nD Cert.SumMKernel.τ Cert.SumMKernel.sig) → Buf (Elt Bits) ℓ) : Prop :=
  True

def Pre_SumMKernelIdeal (m : (ℓ : Loc Cert.SumMKernelIdeal.nD Cert.SumMKernelIdeal.τ Cert.SumMKernelIdeal.sig) → Buf (Elt Ideal) ℓ) : Prop :=
  True

def Pre_SumMReferenceIdeal (m : (ℓ : Loc Cert.SumMReferenceIdeal.nD Cert.SumMReferenceIdeal.τ Cert.SumMReferenceIdeal.sig) → Buf (Elt Ideal) ℓ) : Prop :=
  True

def Pre_SumNKernel (m : (ℓ : Loc Cert.SumNKernel.nD Cert.SumNKernel.τ Cert.SumNKernel.sig) → Buf (Elt Bits) ℓ) : Prop :=
  True

def Pre_SumNKernelIdeal (m : (ℓ : Loc Cert.SumNKernelIdeal.nD Cert.SumNKernelIdeal.τ Cert.SumNKernelIdeal.sig) → Buf (Elt Ideal) ℓ) : Prop :=
  True

def Pre_SumNReferenceIdeal (m : (ℓ : Loc Cert.SumNReferenceIdeal.nD Cert.SumNReferenceIdeal.τ Cert.SumNReferenceIdeal.sig) → Buf (Elt Ideal) ℓ) : Prop :=
  True

def Pre_NtKernel (m : (ℓ : Loc Cert.NtKernel.nD Cert.NtKernel.τ Cert.NtKernel.sig) → Buf (Elt Bits) ℓ) : Prop :=
  True

def Pre_NtKernelIdeal (m : (ℓ : Loc Cert.NtKernelIdeal.nD Cert.NtKernelIdeal.τ Cert.NtKernelIdeal.sig) → Buf (Elt Ideal) ℓ) : Prop :=
  True

def Pre_NtReferenceIdeal (m : (ℓ : Loc Cert.NtReferenceIdeal.nD Cert.NtReferenceIdeal.τ Cert.NtReferenceIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1)
      ∧ r.2.mem ((c.tc : Thread Cert.SwigluKernel.nD Cert.SwigluKernel.τ).loc Cert.SwigluKernel.main_arg2) = m ((c.tc : Thread Cert.SwigluKernel.nD Cert.SwigluKernel.τ).loc Cert.SwigluKernel.main_arg2)
      ∧ r.2.mem ((c.tc : Thread Cert.SwigluKernel.nD Cert.SwigluKernel.τ).loc Cert.SwigluKernel.main_arg3) = m ((c.tc : Thread Cert.SwigluKernel.nD Cert.SwigluKernel.τ).loc Cert.SwigluKernel.main_arg3))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
      ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ r.2.sem = fun _ => 0)

def quiescent_SwigluKernelIdeal_pre_finite_swiglu [hSwigluKernelIdeal : Cert.SwigluKernelIdeal.Facts] [hPre_finite_swiglu : Cert.Pre_finite_swiglu.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal_finite_swiglu m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
      ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_SwigluReferenceIdeal_pre_finite_swiglu [hSwigluReferenceIdeal : Cert.SwigluReferenceIdeal.Facts] [hPre_finite_swiglu : Cert.Pre_finite_swiglu.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_finite_swiglu m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbKernelIdeal_pre_finite_sb [hSbKernelIdeal : Cert.SbKernelIdeal.Facts] [hPre_finite_sb : Cert.Pre_finite_sb.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_finite_sb m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SbReferenceIdeal_pre_finite_sb [hSbReferenceIdeal : Cert.SbReferenceIdeal.Facts] [hPre_finite_sb : Cert.Pre_finite_sb.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_finite_sb m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6)
      ∧ r.2.mem ((c.tc : Thread Cert.NormKernel.nD Cert.NormKernel.τ).loc Cert.NormKernel.main_arg7) = m ((c.tc : Thread Cert.NormKernel.nD Cert.NormKernel.τ).loc Cert.NormKernel.main_arg7)
      ∧ r.2.mem ((c.tc : Thread Cert.NormKernel.nD Cert.NormKernel.τ).loc Cert.NormKernel.main_arg8) = m ((c.tc : Thread Cert.NormKernel.nD Cert.NormKernel.τ).loc Cert.NormKernel.main_arg8)
      ∧ r.2.mem ((c.tc : Thread Cert.NormKernel.nD Cert.NormKernel.τ).loc Cert.NormKernel.main_arg9) = m ((c.tc : Thread Cert.NormKernel.nD Cert.NormKernel.τ).loc Cert.NormKernel.main_arg9)
      ∧ r.2.mem ((c.tc : Thread Cert.NormKernel.nD Cert.NormKernel.τ).loc Cert.NormKernel.main_arg10) = m ((c.tc : Thread Cert.NormKernel.nD Cert.NormKernel.τ).loc Cert.NormKernel.main_arg10))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6)
      ∧ r.2.mem ((c.tc : Thread Cert.NormKernelIdeal.nD Cert.NormKernelIdeal.τ).loc Cert.NormKernelIdeal.main_arg7) = m ((c.tc : Thread Cert.NormKernelIdeal.nD Cert.NormKernelIdeal.τ).loc Cert.NormKernelIdeal.main_arg7)
      ∧ r.2.mem ((c.tc : Thread Cert.NormKernelIdeal.nD Cert.NormKernelIdeal.τ).loc Cert.NormKernelIdeal.main_arg8) = m ((c.tc : Thread Cert.NormKernelIdeal.nD Cert.NormKernelIdeal.τ).loc Cert.NormKernelIdeal.main_arg8)
      ∧ r.2.mem ((c.tc : Thread Cert.NormKernelIdeal.nD Cert.NormKernelIdeal.τ).loc Cert.NormKernelIdeal.main_arg9) = m ((c.tc : Thread Cert.NormKernelIdeal.nD Cert.NormKernelIdeal.τ).loc Cert.NormKernelIdeal.main_arg9)
      ∧ r.2.mem ((c.tc : Thread Cert.NormKernelIdeal.nD Cert.NormKernelIdeal.τ).loc Cert.NormKernelIdeal.main_arg10) = m ((c.tc : Thread Cert.NormKernelIdeal.nD Cert.NormKernelIdeal.τ).loc Cert.NormKernelIdeal.main_arg10))
      ∧ r.2.sem = fun _ => 0)

def quiescent_NormKernelIdeal_pre_finite_norm2 [hNormKernelIdeal : Cert.NormKernelIdeal.Facts] [hPre_finite_norm2 : Cert.Pre_finite_norm2.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite_norm2 m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6)
      ∧ r.2.mem ((c.tc : Thread Cert.NormKernelIdeal.nD Cert.NormKernelIdeal.τ).loc Cert.NormKernelIdeal.main_arg7) = m ((c.tc : Thread Cert.NormKernelIdeal.nD Cert.NormKernelIdeal.τ).loc Cert.NormKernelIdeal.main_arg7)
      ∧ r.2.mem ((c.tc : Thread Cert.NormKernelIdeal.nD Cert.NormKernelIdeal.τ).loc Cert.NormKernelIdeal.main_arg8) = m ((c.tc : Thread Cert.NormKernelIdeal.nD Cert.NormKernelIdeal.τ).loc Cert.NormKernelIdeal.main_arg8)
      ∧ r.2.mem ((c.tc : Thread Cert.NormKernelIdeal.nD Cert.NormKernelIdeal.τ).loc Cert.NormKernelIdeal.main_arg9) = m ((c.tc : Thread Cert.NormKernelIdeal.nD Cert.NormKernelIdeal.τ).loc Cert.NormKernelIdeal.main_arg9)
      ∧ r.2.mem ((c.tc : Thread Cert.NormKernelIdeal.nD Cert.NormKernelIdeal.τ).loc Cert.NormKernelIdeal.main_arg10) = m ((c.tc : Thread Cert.NormKernelIdeal.nD Cert.NormKernelIdeal.τ).loc Cert.NormKernelIdeal.main_arg10))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6)
      ∧ r.2.mem ((c.tc : Thread Cert.NormReferenceIdeal.nD Cert.NormReferenceIdeal.τ).loc Cert.NormReferenceIdeal.main_arg7) = m ((c.tc : Thread Cert.NormReferenceIdeal.nD Cert.NormReferenceIdeal.τ).loc Cert.NormReferenceIdeal.main_arg7)
      ∧ r.2.mem ((c.tc : Thread Cert.NormReferenceIdeal.nD Cert.NormReferenceIdeal.τ).loc Cert.NormReferenceIdeal.main_arg8) = m ((c.tc : Thread Cert.NormReferenceIdeal.nD Cert.NormReferenceIdeal.τ).loc Cert.NormReferenceIdeal.main_arg8)
      ∧ r.2.mem ((c.tc : Thread Cert.NormReferenceIdeal.nD Cert.NormReferenceIdeal.τ).loc Cert.NormReferenceIdeal.main_arg9) = m ((c.tc : Thread Cert.NormReferenceIdeal.nD Cert.NormReferenceIdeal.τ).loc Cert.NormReferenceIdeal.main_arg9)
      ∧ r.2.mem ((c.tc : Thread Cert.NormReferenceIdeal.nD Cert.NormReferenceIdeal.τ).loc Cert.NormReferenceIdeal.main_arg10) = m ((c.tc : Thread Cert.NormReferenceIdeal.nD Cert.NormReferenceIdeal.τ).loc Cert.NormReferenceIdeal.main_arg10))
      ∧ r.2.sem = fun _ => 0)

def quiescent_NormReferenceIdeal_pre_finite_norm2 [hNormReferenceIdeal : Cert.NormReferenceIdeal.Facts] [hPre_finite_norm2 : Cert.Pre_finite_norm2.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite_norm2 m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6)
      ∧ r.2.mem ((c.tc : Thread Cert.NormReferenceIdeal.nD Cert.NormReferenceIdeal.τ).loc Cert.NormReferenceIdeal.main_arg7) = m ((c.tc : Thread Cert.NormReferenceIdeal.nD Cert.NormReferenceIdeal.τ).loc Cert.NormReferenceIdeal.main_arg7)
      ∧ r.2.mem ((c.tc : Thread Cert.NormReferenceIdeal.nD Cert.NormReferenceIdeal.τ).loc Cert.NormReferenceIdeal.main_arg8) = m ((c.tc : Thread Cert.NormReferenceIdeal.nD Cert.NormReferenceIdeal.τ).loc Cert.NormReferenceIdeal.main_arg8)
      ∧ r.2.mem ((c.tc : Thread Cert.NormReferenceIdeal.nD Cert.NormReferenceIdeal.τ).loc Cert.NormReferenceIdeal.main_arg9) = m ((c.tc : Thread Cert.NormReferenceIdeal.nD Cert.NormReferenceIdeal.τ).loc Cert.NormReferenceIdeal.main_arg9)
      ∧ r.2.mem ((c.tc : Thread Cert.NormReferenceIdeal.nD Cert.NormReferenceIdeal.τ).loc Cert.NormReferenceIdeal.main_arg10) = m ((c.tc : Thread Cert.NormReferenceIdeal.nD Cert.NormReferenceIdeal.τ).loc Cert.NormReferenceIdeal.main_arg10))
      ∧ r.2.sem = fun _ => 0)

def quiescent_NormBKernel [hNormBKernel : Cert.NormBKernel.Facts] : Prop :=
  ∀ (m : (ℓ : Loc Cert.NormBKernel.nD Cert.NormBKernel.τ Cert.NormBKernel.sig) → Buf (Elt Bits) ℓ) (g : Dev Cert.NormBKernel.nD → PrngReg), Pre_NormBKernel m →
    θ_run (Cert.NormBKernel.defs (F := Bits)) (onTc (τ := Cert.NormBKernel.τ) (Cert.NormBKernel.main (F := Bits))) ⟨m, fun _ => 0, g⟩ (fun r => (∀ c : Dev Cert.NormBKernel.nD,
      r.2.mem ((c.tc : Thread Cert.NormBKernel.nD Cert.NormBKernel.τ).loc Cert.NormBKernel.main_arg0) = m ((c.tc : Thread Cert.NormBKernel.nD Cert.NormBKernel.τ).loc Cert.NormBKernel.main_arg0)
      ∧ r.2.mem ((c.tc : Thread Cert.NormBKernel.nD Cert.NormBKernel.τ).loc Cert.NormBKernel.main_arg1) = m ((c.tc : Thread Cert.NormBKernel.nD Cert.NormBKernel.τ).loc Cert.NormBKernel.main_arg1)
      ∧ r.2.mem ((c.tc : Thread Cert.NormBKernel.nD Cert.NormBKernel.τ).loc Cert.NormBKernel.main_arg2) = m ((c.tc : Thread Cert.NormBKernel.nD Cert.NormBKernel.τ).loc Cert.NormBKernel.main_arg2)
      ∧ r.2.mem ((c.tc : Thread Cert.NormBKernel.nD Cert.NormBKernel.τ).loc Cert.NormBKernel.main_arg3) = m ((c.tc : Thread Cert.NormBKernel.nD Cert.NormBKernel.τ).loc Cert.NormBKernel.main_arg3)
      ∧ r.2.mem ((c.tc : Thread Cert.NormBKernel.nD Cert.NormBKernel.τ).loc Cert.NormBKernel.main_arg4) = m ((c.tc : Thread Cert.NormBKernel.nD Cert.NormBKernel.τ).loc Cert.NormBKernel.main_arg4)
      ∧ r.2.mem ((c.tc : Thread Cert.NormBKernel.nD Cert.NormBKernel.τ).loc Cert.NormBKernel.main_arg5) = m ((c.tc : Thread Cert.NormBKernel.nD Cert.NormBKernel.τ).loc Cert.NormBKernel.main_arg5)
      ∧ r.2.mem ((c.tc : Thread Cert.NormBKernel.nD Cert.NormBKernel.τ).loc Cert.NormBKernel.main_arg6) = m ((c.tc : Thread Cert.NormBKernel.nD Cert.NormBKernel.τ).loc Cert.NormBKernel.main_arg6)
      ∧ r.2.mem ((c.tc : Thread Cert.NormBKernel.nD Cert.NormBKernel.τ).loc Cert.NormBKernel.main_arg7) = m ((c.tc : Thread Cert.NormBKernel.nD Cert.NormBKernel.τ).loc Cert.NormBKernel.main_arg7)
      ∧ r.2.mem ((c.tc : Thread Cert.NormBKernel.nD Cert.NormBKernel.τ).loc Cert.NormBKernel.main_arg8) = m ((c.tc : Thread Cert.NormBKernel.nD Cert.NormBKernel.τ).loc Cert.NormBKernel.main_arg8)
      ∧ r.2.mem ((c.tc : Thread Cert.NormBKernel.nD Cert.NormBKernel.τ).loc Cert.NormBKernel.main_arg9) = m ((c.tc : Thread Cert.NormBKernel.nD Cert.NormBKernel.τ).loc Cert.NormBKernel.main_arg9)
      ∧ r.2.mem ((c.tc : Thread Cert.NormBKernel.nD Cert.NormBKernel.τ).loc Cert.NormBKernel.main_arg10) = m ((c.tc : Thread Cert.NormBKernel.nD Cert.NormBKernel.τ).loc Cert.NormBKernel.main_arg10))
      ∧ r.2.sem = fun _ => 0)

def quiescent_NormBKernelIdeal [hNormBKernelIdeal : Cert.NormBKernelIdeal.Facts] : Prop :=
  ∀ (m : (ℓ : Loc Cert.NormBKernelIdeal.nD Cert.NormBKernelIdeal.τ Cert.NormBKernelIdeal.sig) → Buf (Elt Ideal) ℓ) (g : Dev Cert.NormBKernelIdeal.nD → PrngReg), Pre_NormBKernelIdeal m →
    θ_run (Cert.NormBKernelIdeal.defs (F := Ideal)) (onTc (τ := Cert.NormBKernelIdeal.τ) (Cert.NormBKernelIdeal.main (F := Ideal))) ⟨m, fun _ => 0, g⟩ (fun r => (∀ c : Dev Cert.NormBKernelIdeal.nD,
      r.2.mem ((c.tc : Thread Cert.NormBKernelIdeal.nD Cert.NormBKernelIdeal.τ).loc Cert.NormBKernelIdeal.main_arg0) = m ((c.tc : Thread Cert.NormBKernelIdeal.nD Cert.NormBKernelIdeal.τ).loc Cert.NormBKernelIdeal.main_arg0)
      ∧ r.2.mem ((c.tc : Thread Cert.NormBKernelIdeal.nD Cert.NormBKernelIdeal.τ).loc Cert.NormBKernelIdeal.main_arg1) = m ((c.tc : Thread Cert.NormBKernelIdeal.nD Cert.NormBKernelIdeal.τ).loc Cert.NormBKernelIdeal.main_arg1)
      ∧ r.2.mem ((c.tc : Thread Cert.NormBKernelIdeal.nD Cert.NormBKernelIdeal.τ).loc Cert.NormBKernelIdeal.main_arg2) = m ((c.tc : Thread Cert.NormBKernelIdeal.nD Cert.NormBKernelIdeal.τ).loc Cert.NormBKernelIdeal.main_arg2)
      ∧ r.2.mem ((c.tc : Thread Cert.NormBKernelIdeal.nD Cert.NormBKernelIdeal.τ).loc Cert.NormBKernelIdeal.main_arg3) = m ((c.tc : Thread Cert.NormBKernelIdeal.nD Cert.NormBKernelIdeal.τ).loc Cert.NormBKernelIdeal.main_arg3)
      ∧ r.2.mem ((c.tc : Thread Cert.NormBKernelIdeal.nD Cert.NormBKernelIdeal.τ).loc Cert.NormBKernelIdeal.main_arg4) = m ((c.tc : Thread Cert.NormBKernelIdeal.nD Cert.NormBKernelIdeal.τ).loc Cert.NormBKernelIdeal.main_arg4)
      ∧ r.2.mem ((c.tc : Thread Cert.NormBKernelIdeal.nD Cert.NormBKernelIdeal.τ).loc Cert.NormBKernelIdeal.main_arg5) = m ((c.tc : Thread Cert.NormBKernelIdeal.nD Cert.NormBKernelIdeal.τ).loc Cert.NormBKernelIdeal.main_arg5)
      ∧ r.2.mem ((c.tc : Thread Cert.NormBKernelIdeal.nD Cert.NormBKernelIdeal.τ).loc Cert.NormBKernelIdeal.main_arg6) = m ((c.tc : Thread Cert.NormBKernelIdeal.nD Cert.NormBKernelIdeal.τ).loc Cert.NormBKernelIdeal.main_arg6)
      ∧ r.2.mem ((c.tc : Thread Cert.NormBKernelIdeal.nD Cert.NormBKernelIdeal.τ).loc Cert.NormBKernelIdeal.main_arg7) = m ((c.tc : Thread Cert.NormBKernelIdeal.nD Cert.NormBKernelIdeal.τ).loc Cert.NormBKernelIdeal.main_arg7)
      ∧ r.2.mem ((c.tc : Thread Cert.NormBKernelIdeal.nD Cert.NormBKernelIdeal.τ).loc Cert.NormBKernelIdeal.main_arg8) = m ((c.tc : Thread Cert.NormBKernelIdeal.nD Cert.NormBKernelIdeal.τ).loc Cert.NormBKernelIdeal.main_arg8)
      ∧ r.2.mem ((c.tc : Thread Cert.NormBKernelIdeal.nD Cert.NormBKernelIdeal.τ).loc Cert.NormBKernelIdeal.main_arg9) = m ((c.tc : Thread Cert.NormBKernelIdeal.nD Cert.NormBKernelIdeal.τ).loc Cert.NormBKernelIdeal.main_arg9)
      ∧ r.2.mem ((c.tc : Thread Cert.NormBKernelIdeal.nD Cert.NormBKernelIdeal.τ).loc Cert.NormBKernelIdeal.main_arg10) = m ((c.tc : Thread Cert.NormBKernelIdeal.nD Cert.NormBKernelIdeal.τ).loc Cert.NormBKernelIdeal.main_arg10))
      ∧ r.2.sem = fun _ => 0)

def quiescent_NormBKernelIdeal_pre_finite_norm1b [hNormBKernelIdeal : Cert.NormBKernelIdeal.Facts] [hPre_finite_norm1b : Cert.Pre_finite_norm1b.Facts] : Prop :=
  ∀ (m : (ℓ : Loc Cert.NormBKernelIdeal.nD Cert.NormBKernelIdeal.τ Cert.NormBKernelIdeal.sig) → Buf (Elt Ideal) ℓ) (g : Dev Cert.NormBKernelIdeal.nD → PrngReg), Pre_NormBKernelIdeal_finite_norm1b m →
    θ_run (Cert.NormBKernelIdeal.defs (F := Ideal)) (onTc (τ := Cert.NormBKernelIdeal.τ) (Cert.NormBKernelIdeal.main (F := Ideal))) ⟨m, fun _ => 0, g⟩ (fun r => (∀ c : Dev Cert.NormBKernelIdeal.nD,
      r.2.mem ((c.tc : Thread Cert.NormBKernelIdeal.nD Cert.NormBKernelIdeal.τ).loc Cert.NormBKernelIdeal.main_arg0) = m ((c.tc : Thread Cert.NormBKernelIdeal.nD Cert.NormBKernelIdeal.τ).loc Cert.NormBKernelIdeal.main_arg0)
      ∧ r.2.mem ((c.tc : Thread Cert.NormBKernelIdeal.nD Cert.NormBKernelIdeal.τ).loc Cert.NormBKernelIdeal.main_arg1) = m ((c.tc : Thread Cert.NormBKernelIdeal.nD Cert.NormBKernelIdeal.τ).loc Cert.NormBKernelIdeal.main_arg1)
      ∧ r.2.mem ((c.tc : Thread Cert.NormBKernelIdeal.nD Cert.NormBKernelIdeal.τ).loc Cert.NormBKernelIdeal.main_arg2) = m ((c.tc : Thread Cert.NormBKernelIdeal.nD Cert.NormBKernelIdeal.τ).loc Cert.NormBKernelIdeal.main_arg2)
      ∧ r.2.mem ((c.tc : Thread Cert.NormBKernelIdeal.nD Cert.NormBKernelIdeal.τ).loc Cert.NormBKernelIdeal.main_arg3) = m ((c.tc : Thread Cert.NormBKernelIdeal.nD Cert.NormBKernelIdeal.τ).loc Cert.NormBKernelIdeal.main_arg3)
      ∧ r.2.mem ((c.tc : Thread Cert.NormBKernelIdeal.nD Cert.NormBKernelIdeal.τ).loc Cert.NormBKernelIdeal.main_arg4) = m ((c.tc : Thread Cert.NormBKernelIdeal.nD Cert.NormBKernelIdeal.τ).loc Cert.NormBKernelIdeal.main_arg4)
      ∧ r.2.mem ((c.tc : Thread Cert.NormBKernelIdeal.nD Cert.NormBKernelIdeal.τ).loc Cert.NormBKernelIdeal.main_arg5) = m ((c.tc : Thread Cert.NormBKernelIdeal.nD Cert.NormBKernelIdeal.τ).loc Cert.NormBKernelIdeal.main_arg5)
      ∧ r.2.mem ((c.tc : Thread Cert.NormBKernelIdeal.nD Cert.NormBKernelIdeal.τ).loc Cert.NormBKernelIdeal.main_arg6) = m ((c.tc : Thread Cert.NormBKernelIdeal.nD Cert.NormBKernelIdeal.τ).loc Cert.NormBKernelIdeal.main_arg6)
      ∧ r.2.mem ((c.tc : Thread Cert.NormBKernelIdeal.nD Cert.NormBKernelIdeal.τ).loc Cert.NormBKernelIdeal.main_arg7) = m ((c.tc : Thread Cert.NormBKernelIdeal.nD Cert.NormBKernelIdeal.τ).loc Cert.NormBKernelIdeal.main_arg7)
      ∧ r.2.mem ((c.tc : Thread Cert.NormBKernelIdeal.nD Cert.NormBKernelIdeal.τ).loc Cert.NormBKernelIdeal.main_arg8) = m ((c.tc : Thread Cert.NormBKernelIdeal.nD Cert.NormBKernelIdeal.τ).loc Cert.NormBKernelIdeal.main_arg8)
      ∧ r.2.mem ((c.tc : Thread Cert.NormBKernelIdeal.nD Cert.NormBKernelIdeal.τ).loc Cert.NormBKernelIdeal.main_arg9) = m ((c.tc : Thread Cert.NormBKernelIdeal.nD Cert.NormBKernelIdeal.τ).loc Cert.NormBKernelIdeal.main_arg9)
      ∧ r.2.mem ((c.tc : Thread Cert.NormBKernelIdeal.nD Cert.NormBKernelIdeal.τ).loc Cert.NormBKernelIdeal.main_arg10) = m ((c.tc : Thread Cert.NormBKernelIdeal.nD Cert.NormBKernelIdeal.τ).loc Cert.NormBKernelIdeal.main_arg10))
      ∧ r.2.sem = fun _ => 0)

def quiescent_NormBReferenceIdeal [hNormBReferenceIdeal : Cert.NormBReferenceIdeal.Facts] : Prop :=
  ∀ (m : (ℓ : Loc Cert.NormBReferenceIdeal.nD Cert.NormBReferenceIdeal.τ Cert.NormBReferenceIdeal.sig) → Buf (Elt Ideal) ℓ) (g : Dev Cert.NormBReferenceIdeal.nD → PrngReg), Pre_NormBReferenceIdeal m →
    θ_run (Cert.NormBReferenceIdeal.defs (F := Ideal)) (onTc (τ := Cert.NormBReferenceIdeal.τ) (Cert.NormBReferenceIdeal.main (F := Ideal))) ⟨m, fun _ => 0, g⟩ (fun r => (∀ c : Dev Cert.NormBReferenceIdeal.nD,
      r.2.mem ((c.tc : Thread Cert.NormBReferenceIdeal.nD Cert.NormBReferenceIdeal.τ).loc Cert.NormBReferenceIdeal.main_arg0) = m ((c.tc : Thread Cert.NormBReferenceIdeal.nD Cert.NormBReferenceIdeal.τ).loc Cert.NormBReferenceIdeal.main_arg0)
      ∧ r.2.mem ((c.tc : Thread Cert.NormBReferenceIdeal.nD Cert.NormBReferenceIdeal.τ).loc Cert.NormBReferenceIdeal.main_arg1) = m ((c.tc : Thread Cert.NormBReferenceIdeal.nD Cert.NormBReferenceIdeal.τ).loc Cert.NormBReferenceIdeal.main_arg1)
      ∧ r.2.mem ((c.tc : Thread Cert.NormBReferenceIdeal.nD Cert.NormBReferenceIdeal.τ).loc Cert.NormBReferenceIdeal.main_arg2) = m ((c.tc : Thread Cert.NormBReferenceIdeal.nD Cert.NormBReferenceIdeal.τ).loc Cert.NormBReferenceIdeal.main_arg2)
      ∧ r.2.mem ((c.tc : Thread Cert.NormBReferenceIdeal.nD Cert.NormBReferenceIdeal.τ).loc Cert.NormBReferenceIdeal.main_arg3) = m ((c.tc : Thread Cert.NormBReferenceIdeal.nD Cert.NormBReferenceIdeal.τ).loc Cert.NormBReferenceIdeal.main_arg3)
      ∧ r.2.mem ((c.tc : Thread Cert.NormBReferenceIdeal.nD Cert.NormBReferenceIdeal.τ).loc Cert.NormBReferenceIdeal.main_arg4) = m ((c.tc : Thread Cert.NormBReferenceIdeal.nD Cert.NormBReferenceIdeal.τ).loc Cert.NormBReferenceIdeal.main_arg4)
      ∧ r.2.mem ((c.tc : Thread Cert.NormBReferenceIdeal.nD Cert.NormBReferenceIdeal.τ).loc Cert.NormBReferenceIdeal.main_arg5) = m ((c.tc : Thread Cert.NormBReferenceIdeal.nD Cert.NormBReferenceIdeal.τ).loc Cert.NormBReferenceIdeal.main_arg5)
      ∧ r.2.mem ((c.tc : Thread Cert.NormBReferenceIdeal.nD Cert.NormBReferenceIdeal.τ).loc Cert.NormBReferenceIdeal.main_arg6) = m ((c.tc : Thread Cert.NormBReferenceIdeal.nD Cert.NormBReferenceIdeal.τ).loc Cert.NormBReferenceIdeal.main_arg6)
      ∧ r.2.mem ((c.tc : Thread Cert.NormBReferenceIdeal.nD Cert.NormBReferenceIdeal.τ).loc Cert.NormBReferenceIdeal.main_arg7) = m ((c.tc : Thread Cert.NormBReferenceIdeal.nD Cert.NormBReferenceIdeal.τ).loc Cert.NormBReferenceIdeal.main_arg7)
      ∧ r.2.mem ((c.tc : Thread Cert.NormBReferenceIdeal.nD Cert.NormBReferenceIdeal.τ).loc Cert.NormBReferenceIdeal.main_arg8) = m ((c.tc : Thread Cert.NormBReferenceIdeal.nD Cert.NormBReferenceIdeal.τ).loc Cert.NormBReferenceIdeal.main_arg8)
      ∧ r.2.mem ((c.tc : Thread Cert.NormBReferenceIdeal.nD Cert.NormBReferenceIdeal.τ).loc Cert.NormBReferenceIdeal.main_arg9) = m ((c.tc : Thread Cert.NormBReferenceIdeal.nD Cert.NormBReferenceIdeal.τ).loc Cert.NormBReferenceIdeal.main_arg9)
      ∧ r.2.mem ((c.tc : Thread Cert.NormBReferenceIdeal.nD Cert.NormBReferenceIdeal.τ).loc Cert.NormBReferenceIdeal.main_arg10) = m ((c.tc : Thread Cert.NormBReferenceIdeal.nD Cert.NormBReferenceIdeal.τ).loc Cert.NormBReferenceIdeal.main_arg10))
      ∧ r.2.sem = fun _ => 0)

def quiescent_NormBReferenceIdeal_pre_finite_norm1b [hNormBReferenceIdeal : Cert.NormBReferenceIdeal.Facts] [hPre_finite_norm1b : Cert.Pre_finite_norm1b.Facts] : Prop :=
  ∀ (m : (ℓ : Loc Cert.NormBReferenceIdeal.nD Cert.NormBReferenceIdeal.τ Cert.NormBReferenceIdeal.sig) → Buf (Elt Ideal) ℓ) (g : Dev Cert.NormBReferenceIdeal.nD → PrngReg), Pre_NormBReferenceIdeal_finite_norm1b m →
    θ_run (Cert.NormBReferenceIdeal.defs (F := Ideal)) (onTc (τ := Cert.NormBReferenceIdeal.τ) (Cert.NormBReferenceIdeal.main (F := Ideal))) ⟨m, fun _ => 0, g⟩ (fun r => (∀ c : Dev Cert.NormBReferenceIdeal.nD,
      r.2.mem ((c.tc : Thread Cert.NormBReferenceIdeal.nD Cert.NormBReferenceIdeal.τ).loc Cert.NormBReferenceIdeal.main_arg0) = m ((c.tc : Thread Cert.NormBReferenceIdeal.nD Cert.NormBReferenceIdeal.τ).loc Cert.NormBReferenceIdeal.main_arg0)
      ∧ r.2.mem ((c.tc : Thread Cert.NormBReferenceIdeal.nD Cert.NormBReferenceIdeal.τ).loc Cert.NormBReferenceIdeal.main_arg1) = m ((c.tc : Thread Cert.NormBReferenceIdeal.nD Cert.NormBReferenceIdeal.τ).loc Cert.NormBReferenceIdeal.main_arg1)
      ∧ r.2.mem ((c.tc : Thread Cert.NormBReferenceIdeal.nD Cert.NormBReferenceIdeal.τ).loc Cert.NormBReferenceIdeal.main_arg2) = m ((c.tc : Thread Cert.NormBReferenceIdeal.nD Cert.NormBReferenceIdeal.τ).loc Cert.NormBReferenceIdeal.main_arg2)
      ∧ r.2.mem ((c.tc : Thread Cert.NormBReferenceIdeal.nD Cert.NormBReferenceIdeal.τ).loc Cert.NormBReferenceIdeal.main_arg3) = m ((c.tc : Thread Cert.NormBReferenceIdeal.nD Cert.NormBReferenceIdeal.τ).loc Cert.NormBReferenceIdeal.main_arg3)
      ∧ r.2.mem ((c.tc : Thread Cert.NormBReferenceIdeal.nD Cert.NormBReferenceIdeal.τ).loc Cert.NormBReferenceIdeal.main_arg4) = m ((c.tc : Thread Cert.NormBReferenceIdeal.nD Cert.NormBReferenceIdeal.τ).loc Cert.NormBReferenceIdeal.main_arg4)
      ∧ r.2.mem ((c.tc : Thread Cert.NormBReferenceIdeal.nD Cert.NormBReferenceIdeal.τ).loc Cert.NormBReferenceIdeal.main_arg5) = m ((c.tc : Thread Cert.NormBReferenceIdeal.nD Cert.NormBReferenceIdeal.τ).loc Cert.NormBReferenceIdeal.main_arg5)
      ∧ r.2.mem ((c.tc : Thread Cert.NormBReferenceIdeal.nD Cert.NormBReferenceIdeal.τ).loc Cert.NormBReferenceIdeal.main_arg6) = m ((c.tc : Thread Cert.NormBReferenceIdeal.nD Cert.NormBReferenceIdeal.τ).loc Cert.NormBReferenceIdeal.main_arg6)
      ∧ r.2.mem ((c.tc : Thread Cert.NormBReferenceIdeal.nD Cert.NormBReferenceIdeal.τ).loc Cert.NormBReferenceIdeal.main_arg7) = m ((c.tc : Thread Cert.NormBReferenceIdeal.nD Cert.NormBReferenceIdeal.τ).loc Cert.NormBReferenceIdeal.main_arg7)
      ∧ r.2.mem ((c.tc : Thread Cert.NormBReferenceIdeal.nD Cert.NormBReferenceIdeal.τ).loc Cert.NormBReferenceIdeal.main_arg8) = m ((c.tc : Thread Cert.NormBReferenceIdeal.nD Cert.NormBReferenceIdeal.τ).loc Cert.NormBReferenceIdeal.main_arg8)
      ∧ r.2.mem ((c.tc : Thread Cert.NormBReferenceIdeal.nD Cert.NormBReferenceIdeal.τ).loc Cert.NormBReferenceIdeal.main_arg9) = m ((c.tc : Thread Cert.NormBReferenceIdeal.nD Cert.NormBReferenceIdeal.τ).loc Cert.NormBReferenceIdeal.main_arg9)
      ∧ r.2.mem ((c.tc : Thread Cert.NormBReferenceIdeal.nD Cert.NormBReferenceIdeal.τ).loc Cert.NormBReferenceIdeal.main_arg10) = m ((c.tc : Thread Cert.NormBReferenceIdeal.nD Cert.NormBReferenceIdeal.τ).loc Cert.NormBReferenceIdeal.main_arg10))
      ∧ r.2.sem = fun _ => 0)

def quiescent_NormAKernel [hNormAKernel : Cert.NormAKernel.Facts] : Prop :=
  ∀ (m : (ℓ : Loc Cert.NormAKernel.nD Cert.NormAKernel.τ Cert.NormAKernel.sig) → Buf (Elt Bits) ℓ) (g : Dev Cert.NormAKernel.nD → PrngReg), Pre_NormAKernel m →
    θ_run (Cert.NormAKernel.defs (F := Bits)) (onTc (τ := Cert.NormAKernel.τ) (Cert.NormAKernel.main (F := Bits))) ⟨m, fun _ => 0, g⟩ (fun r => (∀ c : Dev Cert.NormAKernel.nD,
      r.2.mem ((c.tc : Thread Cert.NormAKernel.nD Cert.NormAKernel.τ).loc Cert.NormAKernel.main_arg0) = m ((c.tc : Thread Cert.NormAKernel.nD Cert.NormAKernel.τ).loc Cert.NormAKernel.main_arg0)
      ∧ r.2.mem ((c.tc : Thread Cert.NormAKernel.nD Cert.NormAKernel.τ).loc Cert.NormAKernel.main_arg1) = m ((c.tc : Thread Cert.NormAKernel.nD Cert.NormAKernel.τ).loc Cert.NormAKernel.main_arg1)
      ∧ r.2.mem ((c.tc : Thread Cert.NormAKernel.nD Cert.NormAKernel.τ).loc Cert.NormAKernel.main_arg2) = m ((c.tc : Thread Cert.NormAKernel.nD Cert.NormAKernel.τ).loc Cert.NormAKernel.main_arg2)
      ∧ r.2.mem ((c.tc : Thread Cert.NormAKernel.nD Cert.NormAKernel.τ).loc Cert.NormAKernel.main_arg3) = m ((c.tc : Thread Cert.NormAKernel.nD Cert.NormAKernel.τ).loc Cert.NormAKernel.main_arg3)
      ∧ r.2.mem ((c.tc : Thread Cert.NormAKernel.nD Cert.NormAKernel.τ).loc Cert.NormAKernel.main_arg4) = m ((c.tc : Thread Cert.NormAKernel.nD Cert.NormAKernel.τ).loc Cert.NormAKernel.main_arg4)
      ∧ r.2.mem ((c.tc : Thread Cert.NormAKernel.nD Cert.NormAKernel.τ).loc Cert.NormAKernel.main_arg5) = m ((c.tc : Thread Cert.NormAKernel.nD Cert.NormAKernel.τ).loc Cert.NormAKernel.main_arg5)
      ∧ r.2.mem ((c.tc : Thread Cert.NormAKernel.nD Cert.NormAKernel.τ).loc Cert.NormAKernel.main_arg6) = m ((c.tc : Thread Cert.NormAKernel.nD Cert.NormAKernel.τ).loc Cert.NormAKernel.main_arg6)
      ∧ r.2.mem ((c.tc : Thread Cert.NormAKernel.nD Cert.NormAKernel.τ).loc Cert.NormAKernel.main_arg7) = m ((c.tc : Thread Cert.NormAKernel.nD Cert.NormAKernel.τ).loc Cert.NormAKernel.main_arg7)
      ∧ r.2.mem ((c.tc : Thread Cert.NormAKernel.nD Cert.NormAKernel.τ).loc Cert.NormAKernel.main_arg8) = m ((c.tc : Thread Cert.NormAKernel.nD Cert.NormAKernel.τ).loc Cert.NormAKernel.main_arg8))
      ∧ r.2.sem = fun _ => 0)

def quiescent_NormAKernelIdeal [hNormAKernelIdeal : Cert.NormAKernelIdeal.Facts] : Prop :=
  ∀ (m : (ℓ : Loc Cert.NormAKernelIdeal.nD Cert.NormAKernelIdeal.τ Cert.NormAKernelIdeal.sig) → Buf (Elt Ideal) ℓ) (g : Dev Cert.NormAKernelIdeal.nD → PrngReg), Pre_NormAKernelIdeal m →
    θ_run (Cert.NormAKernelIdeal.defs (F := Ideal)) (onTc (τ := Cert.NormAKernelIdeal.τ) (Cert.NormAKernelIdeal.main (F := Ideal))) ⟨m, fun _ => 0, g⟩ (fun r => (∀ c : Dev Cert.NormAKernelIdeal.nD,
      r.2.mem ((c.tc : Thread Cert.NormAKernelIdeal.nD Cert.NormAKernelIdeal.τ).loc Cert.NormAKernelIdeal.main_arg0) = m ((c.tc : Thread Cert.NormAKernelIdeal.nD Cert.NormAKernelIdeal.τ).loc Cert.NormAKernelIdeal.main_arg0)
      ∧ r.2.mem ((c.tc : Thread Cert.NormAKernelIdeal.nD Cert.NormAKernelIdeal.τ).loc Cert.NormAKernelIdeal.main_arg1) = m ((c.tc : Thread Cert.NormAKernelIdeal.nD Cert.NormAKernelIdeal.τ).loc Cert.NormAKernelIdeal.main_arg1)
      ∧ r.2.mem ((c.tc : Thread Cert.NormAKernelIdeal.nD Cert.NormAKernelIdeal.τ).loc Cert.NormAKernelIdeal.main_arg2) = m ((c.tc : Thread Cert.NormAKernelIdeal.nD Cert.NormAKernelIdeal.τ).loc Cert.NormAKernelIdeal.main_arg2)
      ∧ r.2.mem ((c.tc : Thread Cert.NormAKernelIdeal.nD Cert.NormAKernelIdeal.τ).loc Cert.NormAKernelIdeal.main_arg3) = m ((c.tc : Thread Cert.NormAKernelIdeal.nD Cert.NormAKernelIdeal.τ).loc Cert.NormAKernelIdeal.main_arg3)
      ∧ r.2.mem ((c.tc : Thread Cert.NormAKernelIdeal.nD Cert.NormAKernelIdeal.τ).loc Cert.NormAKernelIdeal.main_arg4) = m ((c.tc : Thread Cert.NormAKernelIdeal.nD Cert.NormAKernelIdeal.τ).loc Cert.NormAKernelIdeal.main_arg4)
      ∧ r.2.mem ((c.tc : Thread Cert.NormAKernelIdeal.nD Cert.NormAKernelIdeal.τ).loc Cert.NormAKernelIdeal.main_arg5) = m ((c.tc : Thread Cert.NormAKernelIdeal.nD Cert.NormAKernelIdeal.τ).loc Cert.NormAKernelIdeal.main_arg5)
      ∧ r.2.mem ((c.tc : Thread Cert.NormAKernelIdeal.nD Cert.NormAKernelIdeal.τ).loc Cert.NormAKernelIdeal.main_arg6) = m ((c.tc : Thread Cert.NormAKernelIdeal.nD Cert.NormAKernelIdeal.τ).loc Cert.NormAKernelIdeal.main_arg6)
      ∧ r.2.mem ((c.tc : Thread Cert.NormAKernelIdeal.nD Cert.NormAKernelIdeal.τ).loc Cert.NormAKernelIdeal.main_arg7) = m ((c.tc : Thread Cert.NormAKernelIdeal.nD Cert.NormAKernelIdeal.τ).loc Cert.NormAKernelIdeal.main_arg7)
      ∧ r.2.mem ((c.tc : Thread Cert.NormAKernelIdeal.nD Cert.NormAKernelIdeal.τ).loc Cert.NormAKernelIdeal.main_arg8) = m ((c.tc : Thread Cert.NormAKernelIdeal.nD Cert.NormAKernelIdeal.τ).loc Cert.NormAKernelIdeal.main_arg8))
      ∧ r.2.sem = fun _ => 0)

def quiescent_NormAKernelIdeal_pre_finite_norm1a [hNormAKernelIdeal : Cert.NormAKernelIdeal.Facts] [hPre_finite_norm1a : Cert.Pre_finite_norm1a.Facts] : Prop :=
  ∀ (m : (ℓ : Loc Cert.NormAKernelIdeal.nD Cert.NormAKernelIdeal.τ Cert.NormAKernelIdeal.sig) → Buf (Elt Ideal) ℓ) (g : Dev Cert.NormAKernelIdeal.nD → PrngReg), Pre_NormAKernelIdeal_finite_norm1a m →
    θ_run (Cert.NormAKernelIdeal.defs (F := Ideal)) (onTc (τ := Cert.NormAKernelIdeal.τ) (Cert.NormAKernelIdeal.main (F := Ideal))) ⟨m, fun _ => 0, g⟩ (fun r => (∀ c : Dev Cert.NormAKernelIdeal.nD,
      r.2.mem ((c.tc : Thread Cert.NormAKernelIdeal.nD Cert.NormAKernelIdeal.τ).loc Cert.NormAKernelIdeal.main_arg0) = m ((c.tc : Thread Cert.NormAKernelIdeal.nD Cert.NormAKernelIdeal.τ).loc Cert.NormAKernelIdeal.main_arg0)
      ∧ r.2.mem ((c.tc : Thread Cert.NormAKernelIdeal.nD Cert.NormAKernelIdeal.τ).loc Cert.NormAKernelIdeal.main_arg1) = m ((c.tc : Thread Cert.NormAKernelIdeal.nD Cert.NormAKernelIdeal.τ).loc Cert.NormAKernelIdeal.main_arg1)
      ∧ r.2.mem ((c.tc : Thread Cert.NormAKernelIdeal.nD Cert.NormAKernelIdeal.τ).loc Cert.NormAKernelIdeal.main_arg2) = m ((c.tc : Thread Cert.NormAKernelIdeal.nD Cert.NormAKernelIdeal.τ).loc Cert.NormAKernelIdeal.main_arg2)
      ∧ r.2.mem ((c.tc : Thread Cert.NormAKernelIdeal.nD Cert.NormAKernelIdeal.τ).loc Cert.NormAKernelIdeal.main_arg3) = m ((c.tc : Thread Cert.NormAKernelIdeal.nD Cert.NormAKernelIdeal.τ).loc Cert.NormAKernelIdeal.main_arg3)
      ∧ r.2.mem ((c.tc : Thread Cert.NormAKernelIdeal.nD Cert.NormAKernelIdeal.τ).loc Cert.NormAKernelIdeal.main_arg4) = m ((c.tc : Thread Cert.NormAKernelIdeal.nD Cert.NormAKernelIdeal.τ).loc Cert.NormAKernelIdeal.main_arg4)
      ∧ r.2.mem ((c.tc : Thread Cert.NormAKernelIdeal.nD Cert.NormAKernelIdeal.τ).loc Cert.NormAKernelIdeal.main_arg5) = m ((c.tc : Thread Cert.NormAKernelIdeal.nD Cert.NormAKernelIdeal.τ).loc Cert.NormAKernelIdeal.main_arg5)
      ∧ r.2.mem ((c.tc : Thread Cert.NormAKernelIdeal.nD Cert.NormAKernelIdeal.τ).loc Cert.NormAKernelIdeal.main_arg6) = m ((c.tc : Thread Cert.NormAKernelIdeal.nD Cert.NormAKernelIdeal.τ).loc Cert.NormAKernelIdeal.main_arg6)
      ∧ r.2.mem ((c.tc : Thread Cert.NormAKernelIdeal.nD Cert.NormAKernelIdeal.τ).loc Cert.NormAKernelIdeal.main_arg7) = m ((c.tc : Thread Cert.NormAKernelIdeal.nD Cert.NormAKernelIdeal.τ).loc Cert.NormAKernelIdeal.main_arg7)
      ∧ r.2.mem ((c.tc : Thread Cert.NormAKernelIdeal.nD Cert.NormAKernelIdeal.τ).loc Cert.NormAKernelIdeal.main_arg8) = m ((c.tc : Thread Cert.NormAKernelIdeal.nD Cert.NormAKernelIdeal.τ).loc Cert.NormAKernelIdeal.main_arg8))
      ∧ r.2.sem = fun _ => 0)

def quiescent_NormAReferenceIdeal [hNormAReferenceIdeal : Cert.NormAReferenceIdeal.Facts] : Prop :=
  ∀ (m : (ℓ : Loc Cert.NormAReferenceIdeal.nD Cert.NormAReferenceIdeal.τ Cert.NormAReferenceIdeal.sig) → Buf (Elt Ideal) ℓ) (g : Dev Cert.NormAReferenceIdeal.nD → PrngReg), Pre_NormAReferenceIdeal m →
    θ_run (Cert.NormAReferenceIdeal.defs (F := Ideal)) (onTc (τ := Cert.NormAReferenceIdeal.τ) (Cert.NormAReferenceIdeal.main (F := Ideal))) ⟨m, fun _ => 0, g⟩ (fun r => (∀ c : Dev Cert.NormAReferenceIdeal.nD,
      r.2.mem ((c.tc : Thread Cert.NormAReferenceIdeal.nD Cert.NormAReferenceIdeal.τ).loc Cert.NormAReferenceIdeal.main_arg0) = m ((c.tc : Thread Cert.NormAReferenceIdeal.nD Cert.NormAReferenceIdeal.τ).loc Cert.NormAReferenceIdeal.main_arg0)
      ∧ r.2.mem ((c.tc : Thread Cert.NormAReferenceIdeal.nD Cert.NormAReferenceIdeal.τ).loc Cert.NormAReferenceIdeal.main_arg1) = m ((c.tc : Thread Cert.NormAReferenceIdeal.nD Cert.NormAReferenceIdeal.τ).loc Cert.NormAReferenceIdeal.main_arg1)
      ∧ r.2.mem ((c.tc : Thread Cert.NormAReferenceIdeal.nD Cert.NormAReferenceIdeal.τ).loc Cert.NormAReferenceIdeal.main_arg2) = m ((c.tc : Thread Cert.NormAReferenceIdeal.nD Cert.NormAReferenceIdeal.τ).loc Cert.NormAReferenceIdeal.main_arg2)
      ∧ r.2.mem ((c.tc : Thread Cert.NormAReferenceIdeal.nD Cert.NormAReferenceIdeal.τ).loc Cert.NormAReferenceIdeal.main_arg3) = m ((c.tc : Thread Cert.NormAReferenceIdeal.nD Cert.NormAReferenceIdeal.τ).loc Cert.NormAReferenceIdeal.main_arg3)
      ∧ r.2.mem ((c.tc : Thread Cert.NormAReferenceIdeal.nD Cert.NormAReferenceIdeal.τ).loc Cert.NormAReferenceIdeal.main_arg4) = m ((c.tc : Thread Cert.NormAReferenceIdeal.nD Cert.NormAReferenceIdeal.τ).loc Cert.NormAReferenceIdeal.main_arg4)
      ∧ r.2.mem ((c.tc : Thread Cert.NormAReferenceIdeal.nD Cert.NormAReferenceIdeal.τ).loc Cert.NormAReferenceIdeal.main_arg5) = m ((c.tc : Thread Cert.NormAReferenceIdeal.nD Cert.NormAReferenceIdeal.τ).loc Cert.NormAReferenceIdeal.main_arg5)
      ∧ r.2.mem ((c.tc : Thread Cert.NormAReferenceIdeal.nD Cert.NormAReferenceIdeal.τ).loc Cert.NormAReferenceIdeal.main_arg6) = m ((c.tc : Thread Cert.NormAReferenceIdeal.nD Cert.NormAReferenceIdeal.τ).loc Cert.NormAReferenceIdeal.main_arg6)
      ∧ r.2.mem ((c.tc : Thread Cert.NormAReferenceIdeal.nD Cert.NormAReferenceIdeal.τ).loc Cert.NormAReferenceIdeal.main_arg7) = m ((c.tc : Thread Cert.NormAReferenceIdeal.nD Cert.NormAReferenceIdeal.τ).loc Cert.NormAReferenceIdeal.main_arg7)
      ∧ r.2.mem ((c.tc : Thread Cert.NormAReferenceIdeal.nD Cert.NormAReferenceIdeal.τ).loc Cert.NormAReferenceIdeal.main_arg8) = m ((c.tc : Thread Cert.NormAReferenceIdeal.nD Cert.NormAReferenceIdeal.τ).loc Cert.NormAReferenceIdeal.main_arg8))
      ∧ r.2.sem = fun _ => 0)

def quiescent_NormAReferenceIdeal_pre_finite_norm1a [hNormAReferenceIdeal : Cert.NormAReferenceIdeal.Facts] [hPre_finite_norm1a : Cert.Pre_finite_norm1a.Facts] : Prop :=
  ∀ (m : (ℓ : Loc Cert.NormAReferenceIdeal.nD Cert.NormAReferenceIdeal.τ Cert.NormAReferenceIdeal.sig) → Buf (Elt Ideal) ℓ) (g : Dev Cert.NormAReferenceIdeal.nD → PrngReg), Pre_NormAReferenceIdeal_finite_norm1a m →
    θ_run (Cert.NormAReferenceIdeal.defs (F := Ideal)) (onTc (τ := Cert.NormAReferenceIdeal.τ) (Cert.NormAReferenceIdeal.main (F := Ideal))) ⟨m, fun _ => 0, g⟩ (fun r => (∀ c : Dev Cert.NormAReferenceIdeal.nD,
      r.2.mem ((c.tc : Thread Cert.NormAReferenceIdeal.nD Cert.NormAReferenceIdeal.τ).loc Cert.NormAReferenceIdeal.main_arg0) = m ((c.tc : Thread Cert.NormAReferenceIdeal.nD Cert.NormAReferenceIdeal.τ).loc Cert.NormAReferenceIdeal.main_arg0)
      ∧ r.2.mem ((c.tc : Thread Cert.NormAReferenceIdeal.nD Cert.NormAReferenceIdeal.τ).loc Cert.NormAReferenceIdeal.main_arg1) = m ((c.tc : Thread Cert.NormAReferenceIdeal.nD Cert.NormAReferenceIdeal.τ).loc Cert.NormAReferenceIdeal.main_arg1)
      ∧ r.2.mem ((c.tc : Thread Cert.NormAReferenceIdeal.nD Cert.NormAReferenceIdeal.τ).loc Cert.NormAReferenceIdeal.main_arg2) = m ((c.tc : Thread Cert.NormAReferenceIdeal.nD Cert.NormAReferenceIdeal.τ).loc Cert.NormAReferenceIdeal.main_arg2)
      ∧ r.2.mem ((c.tc : Thread Cert.NormAReferenceIdeal.nD Cert.NormAReferenceIdeal.τ).loc Cert.NormAReferenceIdeal.main_arg3) = m ((c.tc : Thread Cert.NormAReferenceIdeal.nD Cert.NormAReferenceIdeal.τ).loc Cert.NormAReferenceIdeal.main_arg3)
      ∧ r.2.mem ((c.tc : Thread Cert.NormAReferenceIdeal.nD Cert.NormAReferenceIdeal.τ).loc Cert.NormAReferenceIdeal.main_arg4) = m ((c.tc : Thread Cert.NormAReferenceIdeal.nD Cert.NormAReferenceIdeal.τ).loc Cert.NormAReferenceIdeal.main_arg4)
      ∧ r.2.mem ((c.tc : Thread Cert.NormAReferenceIdeal.nD Cert.NormAReferenceIdeal.τ).loc Cert.NormAReferenceIdeal.main_arg5) = m ((c.tc : Thread Cert.NormAReferenceIdeal.nD Cert.NormAReferenceIdeal.τ).loc Cert.NormAReferenceIdeal.main_arg5)
      ∧ r.2.mem ((c.tc : Thread Cert.NormAReferenceIdeal.nD Cert.NormAReferenceIdeal.τ).loc Cert.NormAReferenceIdeal.main_arg6) = m ((c.tc : Thread Cert.NormAReferenceIdeal.nD Cert.NormAReferenceIdeal.τ).loc Cert.NormAReferenceIdeal.main_arg6)
      ∧ r.2.mem ((c.tc : Thread Cert.NormAReferenceIdeal.nD Cert.NormAReferenceIdeal.τ).loc Cert.NormAReferenceIdeal.main_arg7) = m ((c.tc : Thread Cert.NormAReferenceIdeal.nD Cert.NormAReferenceIdeal.τ).loc Cert.NormAReferenceIdeal.main_arg7)
      ∧ r.2.mem ((c.tc : Thread Cert.NormAReferenceIdeal.nD Cert.NormAReferenceIdeal.τ).loc Cert.NormAReferenceIdeal.main_arg8) = m ((c.tc : Thread Cert.NormAReferenceIdeal.nD Cert.NormAReferenceIdeal.τ).loc Cert.NormAReferenceIdeal.main_arg8))
      ∧ r.2.sem = fun _ => 0)

def quiescent_NormZKernel [hNormZKernel : Cert.NormZKernel.Facts] : Prop :=
  ∀ (m : (ℓ : Loc Cert.NormZKernel.nD Cert.NormZKernel.τ Cert.NormZKernel.sig) → Buf (Elt Bits) ℓ) (g : Dev Cert.NormZKernel.nD → PrngReg), Pre_NormZKernel m →
    θ_run (Cert.NormZKernel.defs (F := Bits)) (onTc (τ := Cert.NormZKernel.τ) (Cert.NormZKernel.main (F := Bits))) ⟨m, fun _ => 0, g⟩ (fun r => (∀ c : Dev Cert.NormZKernel.nD,
      r.2.mem ((c.tc : Thread Cert.NormZKernel.nD Cert.NormZKernel.τ).loc Cert.NormZKernel.main_arg0) = m ((c.tc : Thread Cert.NormZKernel.nD Cert.NormZKernel.τ).loc Cert.NormZKernel.main_arg0)
      ∧ r.2.mem ((c.tc : Thread Cert.NormZKernel.nD Cert.NormZKernel.τ).loc Cert.NormZKernel.main_arg1) = m ((c.tc : Thread Cert.NormZKernel.nD Cert.NormZKernel.τ).loc Cert.NormZKernel.main_arg1)
      ∧ r.2.mem ((c.tc : Thread Cert.NormZKernel.nD Cert.NormZKernel.τ).loc Cert.NormZKernel.main_arg2) = m ((c.tc : Thread Cert.NormZKernel.nD Cert.NormZKernel.τ).loc Cert.NormZKernel.main_arg2)
      ∧ r.2.mem ((c.tc : Thread Cert.NormZKernel.nD Cert.NormZKernel.τ).loc Cert.NormZKernel.main_arg3) = m ((c.tc : Thread Cert.NormZKernel.nD Cert.NormZKernel.τ).loc Cert.NormZKernel.main_arg3)
      ∧ r.2.mem ((c.tc : Thread Cert.NormZKernel.nD Cert.NormZKernel.τ).loc Cert.NormZKernel.main_arg4) = m ((c.tc : Thread Cert.NormZKernel.nD Cert.NormZKernel.τ).loc Cert.NormZKernel.main_arg4)
      ∧ r.2.mem ((c.tc : Thread Cert.NormZKernel.nD Cert.NormZKernel.τ).loc Cert.NormZKernel.main_arg5) = m ((c.tc : Thread Cert.NormZKernel.nD Cert.NormZKernel.τ).loc Cert.NormZKernel.main_arg5)
      ∧ r.2.mem ((c.tc : Thread Cert.NormZKernel.nD Cert.NormZKernel.τ).loc Cert.NormZKernel.main_arg6) = m ((c.tc : Thread Cert.NormZKernel.nD Cert.NormZKernel.τ).loc Cert.NormZKernel.main_arg6))
      ∧ r.2.sem = fun _ => 0)

def quiescent_NormZKernelIdeal [hNormZKernelIdeal : Cert.NormZKernelIdeal.Facts] : Prop :=
  ∀ (m : (ℓ : Loc Cert.NormZKernelIdeal.nD Cert.NormZKernelIdeal.τ Cert.NormZKernelIdeal.sig) → Buf (Elt Ideal) ℓ) (g : Dev Cert.NormZKernelIdeal.nD → PrngReg), Pre_NormZKernelIdeal m →
    θ_run (Cert.NormZKernelIdeal.defs (F := Ideal)) (onTc (τ := Cert.NormZKernelIdeal.τ) (Cert.NormZKernelIdeal.main (F := Ideal))) ⟨m, fun _ => 0, g⟩ (fun r => (∀ c : Dev Cert.NormZKernelIdeal.nD,
      r.2.mem ((c.tc : Thread Cert.NormZKernelIdeal.nD Cert.NormZKernelIdeal.τ).loc Cert.NormZKernelIdeal.main_arg0) = m ((c.tc : Thread Cert.NormZKernelIdeal.nD Cert.NormZKernelIdeal.τ).loc Cert.NormZKernelIdeal.main_arg0)
      ∧ r.2.mem ((c.tc : Thread Cert.NormZKernelIdeal.nD Cert.NormZKernelIdeal.τ).loc Cert.NormZKernelIdeal.main_arg1) = m ((c.tc : Thread Cert.NormZKernelIdeal.nD Cert.NormZKernelIdeal.τ).loc Cert.NormZKernelIdeal.main_arg1)
      ∧ r.2.mem ((c.tc : Thread Cert.NormZKernelIdeal.nD Cert.NormZKernelIdeal.τ).loc Cert.NormZKernelIdeal.main_arg2) = m ((c.tc : Thread Cert.NormZKernelIdeal.nD Cert.NormZKernelIdeal.τ).loc Cert.NormZKernelIdeal.main_arg2)
      ∧ r.2.mem ((c.tc : Thread Cert.NormZKernelIdeal.nD Cert.NormZKernelIdeal.τ).loc Cert.NormZKernelIdeal.main_arg3) = m ((c.tc : Thread Cert.NormZKernelIdeal.nD Cert.NormZKernelIdeal.τ).loc Cert.NormZKernelIdeal.main_arg3)
      ∧ r.2.mem ((c.tc : Thread Cert.NormZKernelIdeal.nD Cert.NormZKernelIdeal.τ).loc Cert.NormZKernelIdeal.main_arg4) = m ((c.tc : Thread Cert.NormZKernelIdeal.nD Cert.NormZKernelIdeal.τ).loc Cert.NormZKernelIdeal.main_arg4)
      ∧ r.2.mem ((c.tc : Thread Cert.NormZKernelIdeal.nD Cert.NormZKernelIdeal.τ).loc Cert.NormZKernelIdeal.main_arg5) = m ((c.tc : Thread Cert.NormZKernelIdeal.nD Cert.NormZKernelIdeal.τ).loc Cert.NormZKernelIdeal.main_arg5)
      ∧ r.2.mem ((c.tc : Thread Cert.NormZKernelIdeal.nD Cert.NormZKernelIdeal.τ).loc Cert.NormZKernelIdeal.main_arg6) = m ((c.tc : Thread Cert.NormZKernelIdeal.nD Cert.NormZKernelIdeal.τ).loc Cert.NormZKernelIdeal.main_arg6))
      ∧ r.2.sem = fun _ => 0)

def quiescent_NormZKernelIdeal_pre_finite_norm0 [hNormZKernelIdeal : Cert.NormZKernelIdeal.Facts] [hPre_finite_norm0 : Cert.Pre_finite_norm0.Facts] : Prop :=
  ∀ (m : (ℓ : Loc Cert.NormZKernelIdeal.nD Cert.NormZKernelIdeal.τ Cert.NormZKernelIdeal.sig) → Buf (Elt Ideal) ℓ) (g : Dev Cert.NormZKernelIdeal.nD → PrngReg), Pre_NormZKernelIdeal_finite_norm0 m →
    θ_run (Cert.NormZKernelIdeal.defs (F := Ideal)) (onTc (τ := Cert.NormZKernelIdeal.τ) (Cert.NormZKernelIdeal.main (F := Ideal))) ⟨m, fun _ => 0, g⟩ (fun r => (∀ c : Dev Cert.NormZKernelIdeal.nD,
      r.2.mem ((c.tc : Thread Cert.NormZKernelIdeal.nD Cert.NormZKernelIdeal.τ).loc Cert.NormZKernelIdeal.main_arg0) = m ((c.tc : Thread Cert.NormZKernelIdeal.nD Cert.NormZKernelIdeal.τ).loc Cert.NormZKernelIdeal.main_arg0)
      ∧ r.2.mem ((c.tc : Thread Cert.NormZKernelIdeal.nD Cert.NormZKernelIdeal.τ).loc Cert.NormZKernelIdeal.main_arg1) = m ((c.tc : Thread Cert.NormZKernelIdeal.nD Cert.NormZKernelIdeal.τ).loc Cert.NormZKernelIdeal.main_arg1)
      ∧ r.2.mem ((c.tc : Thread Cert.NormZKernelIdeal.nD Cert.NormZKernelIdeal.τ).loc Cert.NormZKernelIdeal.main_arg2) = m ((c.tc : Thread Cert.NormZKernelIdeal.nD Cert.NormZKernelIdeal.τ).loc Cert.NormZKernelIdeal.main_arg2)
      ∧ r.2.mem ((c.tc : Thread Cert.NormZKernelIdeal.nD Cert.NormZKernelIdeal.τ).loc Cert.NormZKernelIdeal.main_arg3) = m ((c.tc : Thread Cert.NormZKernelIdeal.nD Cert.NormZKernelIdeal.τ).loc Cert.NormZKernelIdeal.main_arg3)
      ∧ r.2.mem ((c.tc : Thread Cert.NormZKernelIdeal.nD Cert.NormZKernelIdeal.τ).loc Cert.NormZKernelIdeal.main_arg4) = m ((c.tc : Thread Cert.NormZKernelIdeal.nD Cert.NormZKernelIdeal.τ).loc Cert.NormZKernelIdeal.main_arg4)
      ∧ r.2.mem ((c.tc : Thread Cert.NormZKernelIdeal.nD Cert.NormZKernelIdeal.τ).loc Cert.NormZKernelIdeal.main_arg5) = m ((c.tc : Thread Cert.NormZKernelIdeal.nD Cert.NormZKernelIdeal.τ).loc Cert.NormZKernelIdeal.main_arg5)
      ∧ r.2.mem ((c.tc : Thread Cert.NormZKernelIdeal.nD Cert.NormZKernelIdeal.τ).loc Cert.NormZKernelIdeal.main_arg6) = m ((c.tc : Thread Cert.NormZKernelIdeal.nD Cert.NormZKernelIdeal.τ).loc Cert.NormZKernelIdeal.main_arg6))
      ∧ r.2.sem = fun _ => 0)

def quiescent_NormZReferenceIdeal [hNormZReferenceIdeal : Cert.NormZReferenceIdeal.Facts] : Prop :=
  ∀ (m : (ℓ : Loc Cert.NormZReferenceIdeal.nD Cert.NormZReferenceIdeal.τ Cert.NormZReferenceIdeal.sig) → Buf (Elt Ideal) ℓ) (g : Dev Cert.NormZReferenceIdeal.nD → PrngReg), Pre_NormZReferenceIdeal m →
    θ_run (Cert.NormZReferenceIdeal.defs (F := Ideal)) (onTc (τ := Cert.NormZReferenceIdeal.τ) (Cert.NormZReferenceIdeal.main (F := Ideal))) ⟨m, fun _ => 0, g⟩ (fun r => (∀ c : Dev Cert.NormZReferenceIdeal.nD,
      r.2.mem ((c.tc : Thread Cert.NormZReferenceIdeal.nD Cert.NormZReferenceIdeal.τ).loc Cert.NormZReferenceIdeal.main_arg0) = m ((c.tc : Thread Cert.NormZReferenceIdeal.nD Cert.NormZReferenceIdeal.τ).loc Cert.NormZReferenceIdeal.main_arg0)
      ∧ r.2.mem ((c.tc : Thread Cert.NormZReferenceIdeal.nD Cert.NormZReferenceIdeal.τ).loc Cert.NormZReferenceIdeal.main_arg1) = m ((c.tc : Thread Cert.NormZReferenceIdeal.nD Cert.NormZReferenceIdeal.τ).loc Cert.NormZReferenceIdeal.main_arg1)
      ∧ r.2.mem ((c.tc : Thread Cert.NormZReferenceIdeal.nD Cert.NormZReferenceIdeal.τ).loc Cert.NormZReferenceIdeal.main_arg2) = m ((c.tc : Thread Cert.NormZReferenceIdeal.nD Cert.NormZReferenceIdeal.τ).loc Cert.NormZReferenceIdeal.main_arg2)
      ∧ r.2.mem ((c.tc : Thread Cert.NormZReferenceIdeal.nD Cert.NormZReferenceIdeal.τ).loc Cert.NormZReferenceIdeal.main_arg3) = m ((c.tc : Thread Cert.NormZReferenceIdeal.nD Cert.NormZReferenceIdeal.τ).loc Cert.NormZReferenceIdeal.main_arg3)
      ∧ r.2.mem ((c.tc : Thread Cert.NormZReferenceIdeal.nD Cert.NormZReferenceIdeal.τ).loc Cert.NormZReferenceIdeal.main_arg4) = m ((c.tc : Thread Cert.NormZReferenceIdeal.nD Cert.NormZReferenceIdeal.τ).loc Cert.NormZReferenceIdeal.main_arg4)
      ∧ r.2.mem ((c.tc : Thread Cert.NormZReferenceIdeal.nD Cert.NormZReferenceIdeal.τ).loc Cert.NormZReferenceIdeal.main_arg5) = m ((c.tc : Thread Cert.NormZReferenceIdeal.nD Cert.NormZReferenceIdeal.τ).loc Cert.NormZReferenceIdeal.main_arg5)
      ∧ r.2.mem ((c.tc : Thread Cert.NormZReferenceIdeal.nD Cert.NormZReferenceIdeal.τ).loc Cert.NormZReferenceIdeal.main_arg6) = m ((c.tc : Thread Cert.NormZReferenceIdeal.nD Cert.NormZReferenceIdeal.τ).loc Cert.NormZReferenceIdeal.main_arg6))
      ∧ r.2.sem = fun _ => 0)

def quiescent_NormZReferenceIdeal_pre_finite_norm0 [hNormZReferenceIdeal : Cert.NormZReferenceIdeal.Facts] [hPre_finite_norm0 : Cert.Pre_finite_norm0.Facts] : Prop :=
  ∀ (m : (ℓ : Loc Cert.NormZReferenceIdeal.nD Cert.NormZReferenceIdeal.τ Cert.NormZReferenceIdeal.sig) → Buf (Elt Ideal) ℓ) (g : Dev Cert.NormZReferenceIdeal.nD → PrngReg), Pre_NormZReferenceIdeal_finite_norm0 m →
    θ_run (Cert.NormZReferenceIdeal.defs (F := Ideal)) (onTc (τ := Cert.NormZReferenceIdeal.τ) (Cert.NormZReferenceIdeal.main (F := Ideal))) ⟨m, fun _ => 0, g⟩ (fun r => (∀ c : Dev Cert.NormZReferenceIdeal.nD,
      r.2.mem ((c.tc : Thread Cert.NormZReferenceIdeal.nD Cert.NormZReferenceIdeal.τ).loc Cert.NormZReferenceIdeal.main_arg0) = m ((c.tc : Thread Cert.NormZReferenceIdeal.nD Cert.NormZReferenceIdeal.τ).loc Cert.NormZReferenceIdeal.main_arg0)
      ∧ r.2.mem ((c.tc : Thread Cert.NormZReferenceIdeal.nD Cert.NormZReferenceIdeal.τ).loc Cert.NormZReferenceIdeal.main_arg1) = m ((c.tc : Thread Cert.NormZReferenceIdeal.nD Cert.NormZReferenceIdeal.τ).loc Cert.NormZReferenceIdeal.main_arg1)
      ∧ r.2.mem ((c.tc : Thread Cert.NormZReferenceIdeal.nD Cert.NormZReferenceIdeal.τ).loc Cert.NormZReferenceIdeal.main_arg2) = m ((c.tc : Thread Cert.NormZReferenceIdeal.nD Cert.NormZReferenceIdeal.τ).loc Cert.NormZReferenceIdeal.main_arg2)
      ∧ r.2.mem ((c.tc : Thread Cert.NormZReferenceIdeal.nD Cert.NormZReferenceIdeal.τ).loc Cert.NormZReferenceIdeal.main_arg3) = m ((c.tc : Thread Cert.NormZReferenceIdeal.nD Cert.NormZReferenceIdeal.τ).loc Cert.NormZReferenceIdeal.main_arg3)
      ∧ r.2.mem ((c.tc : Thread Cert.NormZReferenceIdeal.nD Cert.NormZReferenceIdeal.τ).loc Cert.NormZReferenceIdeal.main_arg4) = m ((c.tc : Thread Cert.NormZReferenceIdeal.nD Cert.NormZReferenceIdeal.τ).loc Cert.NormZReferenceIdeal.main_arg4)
      ∧ r.2.mem ((c.tc : Thread Cert.NormZReferenceIdeal.nD Cert.NormZReferenceIdeal.τ).loc Cert.NormZReferenceIdeal.main_arg5) = m ((c.tc : Thread Cert.NormZReferenceIdeal.nD Cert.NormZReferenceIdeal.τ).loc Cert.NormZReferenceIdeal.main_arg5)
      ∧ r.2.mem ((c.tc : Thread Cert.NormZReferenceIdeal.nD Cert.NormZReferenceIdeal.τ).loc Cert.NormZReferenceIdeal.main_arg6) = m ((c.tc : Thread Cert.NormZReferenceIdeal.nD Cert.NormZReferenceIdeal.τ).loc Cert.NormZReferenceIdeal.main_arg6))
      ∧ r.2.sem = fun _ => 0)

def quiescent_QkKernel [hQkKernel : Cert.QkKernel.Facts] : Prop :=
  ∀ (m : (ℓ : Loc Cert.QkKernel.nD Cert.QkKernel.τ Cert.QkKernel.sig) → Buf (Elt Bits) ℓ) (g : Dev Cert.QkKernel.nD → PrngReg), Pre_QkKernel m →
    θ_run (Cert.QkKernel.defs (F := Bits)) (onTc (τ := Cert.QkKernel.τ) (Cert.QkKernel.main (F := Bits))) ⟨m, fun _ => 0, g⟩ (fun r => (∀ c : Dev Cert.QkKernel.nD,
      r.2.mem ((c.tc : Thread Cert.QkKernel.nD Cert.QkKernel.τ).loc Cert.QkKernel.main_arg0) = m ((c.tc : Thread Cert.QkKernel.nD Cert.QkKernel.τ).loc Cert.QkKernel.main_arg0)
      ∧ r.2.mem ((c.tc : Thread Cert.QkKernel.nD Cert.QkKernel.τ).loc Cert.QkKernel.main_arg1) = m ((c.tc : Thread Cert.QkKernel.nD Cert.QkKernel.τ).loc Cert.QkKernel.main_arg1)
      ∧ r.2.mem ((c.tc : Thread Cert.QkKernel.nD Cert.QkKernel.τ).loc Cert.QkKernel.main_arg2) = m ((c.tc : Thread Cert.QkKernel.nD Cert.QkKernel.τ).loc Cert.QkKernel.main_arg2)
      ∧ r.2.mem ((c.tc : Thread Cert.QkKernel.nD Cert.QkKernel.τ).loc Cert.QkKernel.main_arg3) = m ((c.tc : Thread Cert.QkKernel.nD Cert.QkKernel.τ).loc Cert.QkKernel.main_arg3)
      ∧ r.2.mem ((c.tc : Thread Cert.QkKernel.nD Cert.QkKernel.τ).loc Cert.QkKernel.main_arg4) = m ((c.tc : Thread Cert.QkKernel.nD Cert.QkKernel.τ).loc Cert.QkKernel.main_arg4)
      ∧ r.2.mem ((c.tc : Thread Cert.QkKernel.nD Cert.QkKernel.τ).loc Cert.QkKernel.main_arg5) = m ((c.tc : Thread Cert.QkKernel.nD Cert.QkKernel.τ).loc Cert.QkKernel.main_arg5)
      ∧ r.2.mem ((c.tc : Thread Cert.QkKernel.nD Cert.QkKernel.τ).loc Cert.QkKernel.main_arg6) = m ((c.tc : Thread Cert.QkKernel.nD Cert.QkKernel.τ).loc Cert.QkKernel.main_arg6)
      ∧ r.2.mem ((c.tc : Thread Cert.QkKernel.nD Cert.QkKernel.τ).loc Cert.QkKernel.main_arg7) = m ((c.tc : Thread Cert.QkKernel.nD Cert.QkKernel.τ).loc Cert.QkKernel.main_arg7)
      ∧ r.2.mem ((c.tc : Thread Cert.QkKernel.nD Cert.QkKernel.τ).loc Cert.QkKernel.main_arg8) = m ((c.tc : Thread Cert.QkKernel.nD Cert.QkKernel.τ).loc Cert.QkKernel.main_arg8))
      ∧ r.2.sem = fun _ => 0)

def quiescent_QkKernelIdeal [hQkKernelIdeal : Cert.QkKernelIdeal.Facts] : Prop :=
  ∀ (m : (ℓ : Loc Cert.QkKernelIdeal.nD Cert.QkKernelIdeal.τ Cert.QkKernelIdeal.sig) → Buf (Elt Ideal) ℓ) (g : Dev Cert.QkKernelIdeal.nD → PrngReg), Pre_QkKernelIdeal m →
    θ_run (Cert.QkKernelIdeal.defs (F := Ideal)) (onTc (τ := Cert.QkKernelIdeal.τ) (Cert.QkKernelIdeal.main (F := Ideal))) ⟨m, fun _ => 0, g⟩ (fun r => (∀ c : Dev Cert.QkKernelIdeal.nD,
      r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
      ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
      ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
      ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
      ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4)
      ∧ r.2.mem ((c.tc : Thread Cert.QkKernelIdeal.nD Cert.QkKernelIdeal.τ).loc Cert.QkKernelIdeal.main_arg5) = m ((c.tc : Thread Cert.QkKernelIdeal.nD Cert.QkKernelIdeal.τ).loc Cert.QkKernelIdeal.main_arg5)
      ∧ r.2.mem ((c.tc : Thread Cert.QkKernelIdeal.nD Cert.QkKernelIdeal.τ).loc Cert.QkKernelIdeal.main_arg6) = m ((c.tc : Thread Cert.QkKernelIdeal.nD Cert.QkKernelIdeal.τ).loc Cert.QkKernelIdeal.main_arg6)
      ∧ r.2.mem ((c.tc : Thread Cert.QkKernelIdeal.nD Cert.QkKernelIdeal.τ).loc Cert.QkKernelIdeal.main_arg7) = m ((c.tc : Thread Cert.QkKernelIdeal.nD Cert.QkKernelIdeal.τ).loc Cert.QkKernelIdeal.main_arg7)
      ∧ r.2.mem ((c.tc : Thread Cert.QkKernelIdeal.nD Cert.QkKernelIdeal.τ).loc Cert.QkKernelIdeal.main_arg8) = m ((c.tc : Thread Cert.QkKernelIdeal.nD Cert.QkKernelIdeal.τ).loc Cert.QkKernelIdeal.main_arg8))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5)
      ∧ r.2.mem ((c.tc : Thread Cert.QkReferenceIdeal.nD Cert.QkReferenceIdeal.τ).loc Cert.QkReferenceIdeal.main_arg6) = m ((c.tc : Thread Cert.QkReferenceIdeal.nD Cert.QkReferenceIdeal.τ).loc Cert.QkReferenceIdeal.main_arg6)
      ∧ r.2.mem ((c.tc : Thread Cert.QkReferenceIdeal.nD Cert.QkReferenceIdeal.τ).loc Cert.QkReferenceIdeal.main_arg7) = m ((c.tc : Thread Cert.QkReferenceIdeal.nD Cert.QkReferenceIdeal.τ).loc Cert.QkReferenceIdeal.main_arg7)
      ∧ r.2.mem ((c.tc : Thread Cert.QkReferenceIdeal.nD Cert.QkReferenceIdeal.τ).loc Cert.QkReferenceIdeal.main_arg8) = m ((c.tc : Thread Cert.QkReferenceIdeal.nD Cert.QkReferenceIdeal.τ).loc Cert.QkReferenceIdeal.main_arg8))
      ∧ r.2.sem = fun _ => 0)

def quiescent_SwaKernel [hSwaKernel : Cert.SwaKernel.Facts] : Prop :=
  ∀ (m : (ℓ : Loc Cert.SwaKernel.nD Cert.SwaKernel.τ Cert.SwaKernel.sig) → Buf (Elt Bits) ℓ) (g : Dev Cert.SwaKernel.nD → PrngReg), Pre_SwaKernel m →
    θ_run (Cert.SwaKernel.defs (F := Bits)) (onTc (τ := Cert.SwaKernel.τ) (Cert.SwaKernel.main (F := Bits))) ⟨m, fun _ => 0, g⟩ (fun r => (∀ c : Dev Cert.SwaKernel.nD,
      r.2.mem ((c.tc : Thread Cert.SwaKernel.nD Cert.SwaKernel.τ).loc Cert.SwaKernel.main_arg0) = m ((c.tc : Thread Cert.SwaKernel.nD Cert.SwaKernel.τ).loc Cert.SwaKernel.main_arg0)
      ∧ r.2.mem ((c.tc : Thread Cert.SwaKernel.nD Cert.SwaKernel.τ).loc Cert.SwaKernel.main_arg1) = m ((c.tc : Thread Cert.SwaKernel.nD Cert.SwaKernel.τ).loc Cert.SwaKernel.main_arg1)
      ∧ r.2.mem ((c.tc : Thread Cert.SwaKernel.nD Cert.SwaKernel.τ).loc Cert.SwaKernel.main_arg2) = m ((c.tc : Thread Cert.SwaKernel.nD Cert.SwaKernel.τ).loc Cert.SwaKernel.main_arg2)
      ∧ r.2.mem ((c.tc : Thread Cert.SwaKernel.nD Cert.SwaKernel.τ).loc Cert.SwaKernel.main_arg3) = m ((c.tc : Thread Cert.SwaKernel.nD Cert.SwaKernel.τ).loc Cert.SwaKernel.main_arg3)
      ∧ r.2.mem ((c.tc : Thread Cert.SwaKernel.nD Cert.SwaKernel.τ).loc Cert.SwaKernel.main_arg4) = m ((c.tc : Thread Cert.SwaKernel.nD Cert.SwaKernel.τ).loc Cert.SwaKernel.main_arg4))
      ∧ r.2.sem = fun _ => 0)

def quiescent_SwaKernelIdeal [hSwaKernelIdeal : Cert.SwaKernelIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
      ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3)
      ∧ r.2.mem ((c.tc : Thread Cert.SwaKernelIdeal.nD Cert.SwaKernelIdeal.τ).loc Cert.SwaKernelIdeal.main_arg4) = m ((c.tc : Thread Cert.SwaKernelIdeal.nD Cert.SwaKernelIdeal.τ).loc Cert.SwaKernelIdeal.main_arg4))
      ∧ r.2.sem = fun _ => 0)

def quiescent_UnitKernel [hUnitKernel : Cert.UnitKernel.Facts] : Prop :=
  ∀ (m : (ℓ : Loc Cert.UnitKernel.nD Cert.UnitKernel.τ Cert.UnitKernel.sig) → Buf (Elt Bits) ℓ) (g : Dev Cert.UnitKernel.nD → PrngReg), Pre_UnitKernel m →
    θ_run (Cert.UnitKernel.defs (F := Bits)) (onTc (τ := Cert.UnitKernel.τ) (Cert.UnitKernel.main (F := Bits))) ⟨m, fun _ => 0, g⟩ (fun r => (∀ c : Dev Cert.UnitKernel.nD,
      r.2.mem ((c.tc : Thread Cert.UnitKernel.nD Cert.UnitKernel.τ).loc Cert.UnitKernel.main_arg0) = m ((c.tc : Thread Cert.UnitKernel.nD Cert.UnitKernel.τ).loc Cert.UnitKernel.main_arg0)
      ∧ r.2.mem ((c.tc : Thread Cert.UnitKernel.nD Cert.UnitKernel.τ).loc Cert.UnitKernel.main_arg1) = m ((c.tc : Thread Cert.UnitKernel.nD Cert.UnitKernel.τ).loc Cert.UnitKernel.main_arg1)
      ∧ r.2.mem ((c.tc : Thread Cert.UnitKernel.nD Cert.UnitKernel.τ).loc Cert.UnitKernel.main_arg2) = m ((c.tc : Thread Cert.UnitKernel.nD Cert.UnitKernel.τ).loc Cert.UnitKernel.main_arg2))
      ∧ r.2.sem = fun _ => 0)

def quiescent_UnitKernelIdeal [hUnitKernelIdeal : Cert.UnitKernelIdeal.Facts] : Prop :=
  ∀ (m : (ℓ : Loc Cert.UnitKernelIdeal.nD Cert.UnitKernelIdeal.τ Cert.UnitKernelIdeal.sig) → Buf (Elt Ideal) ℓ) (g : Dev Cert.UnitKernelIdeal.nD → PrngReg), Pre_UnitKernelIdeal m →
    θ_run (Cert.UnitKernelIdeal.defs (F := Ideal)) (onTc (τ := Cert.UnitKernelIdeal.τ) (Cert.UnitKernelIdeal.main (F := Ideal))) ⟨m, fun _ => 0, g⟩ (fun r => (∀ c : Dev Cert.UnitKernelIdeal.nD,
      r.2.mem ((c.tc : Thread Cert.UnitKernelIdeal.nD Cert.UnitKernelIdeal.τ).loc Cert.UnitKernelIdeal.main_arg0) = m ((c.tc : Thread Cert.UnitKernelIdeal.nD Cert.UnitKernelIdeal.τ).loc Cert.UnitKernelIdeal.main_arg0)
      ∧ r.2.mem ((c.tc : Thread Cert.UnitKernelIdeal.nD Cert.UnitKernelIdeal.τ).loc Cert.UnitKernelIdeal.main_arg1) = m ((c.tc : Thread Cert.UnitKernelIdeal.nD Cert.UnitKernelIdeal.τ).loc Cert.UnitKernelIdeal.main_arg1)
      ∧ r.2.mem ((c.tc : Thread Cert.UnitKernelIdeal.nD Cert.UnitKernelIdeal.τ).loc Cert.UnitKernelIdeal.main_arg2) = m ((c.tc : Thread Cert.UnitKernelIdeal.nD Cert.UnitKernelIdeal.τ).loc Cert.UnitKernelIdeal.main_arg2))
      ∧ r.2.sem = fun _ => 0)

def quiescent_UnitReferenceIdeal [hUnitReferenceIdeal : Cert.UnitReferenceIdeal.Facts] : Prop :=
  ∀ (m : (ℓ : Loc Cert.UnitReferenceIdeal.nD Cert.UnitReferenceIdeal.τ Cert.UnitReferenceIdeal.sig) → Buf (Elt Ideal) ℓ) (g : Dev Cert.UnitReferenceIdeal.nD → PrngReg), Pre_UnitReferenceIdeal m →
    θ_run (Cert.UnitReferenceIdeal.defs (F := Ideal)) (onTc (τ := Cert.UnitReferenceIdeal.τ) (Cert.UnitReferenceIdeal.main (F := Ideal))) ⟨m, fun _ => 0, g⟩ (fun r => (∀ c : Dev Cert.UnitReferenceIdeal.nD,
      r.2.mem ((c.tc : Thread Cert.UnitReferenceIdeal.nD Cert.UnitReferenceIdeal.τ).loc Cert.UnitReferenceIdeal.main_arg0) = m ((c.tc : Thread Cert.UnitReferenceIdeal.nD Cert.UnitReferenceIdeal.τ).loc Cert.UnitReferenceIdeal.main_arg0)
      ∧ r.2.mem ((c.tc : Thread Cert.UnitReferenceIdeal.nD Cert.UnitReferenceIdeal.τ).loc Cert.UnitReferenceIdeal.main_arg1) = m ((c.tc : Thread Cert.UnitReferenceIdeal.nD Cert.UnitReferenceIdeal.τ).loc Cert.UnitReferenceIdeal.main_arg1)
      ∧ r.2.mem ((c.tc : Thread Cert.UnitReferenceIdeal.nD Cert.UnitReferenceIdeal.τ).loc Cert.UnitReferenceIdeal.main_arg2) = m ((c.tc : Thread Cert.UnitReferenceIdeal.nD Cert.UnitReferenceIdeal.τ).loc Cert.UnitReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_OutAKernel [hOutAKernel : Cert.OutAKernel.Facts] : Prop :=
  ∀ (m : (ℓ : Loc Cert.OutAKernel.nD Cert.OutAKernel.τ Cert.OutAKernel.sig) → Buf (Elt Bits) ℓ) (g : Dev Cert.OutAKernel.nD → PrngReg), Pre_OutAKernel m →
    θ_run (Cert.OutAKernel.defs (F := Bits)) (onTc (τ := Cert.OutAKernel.τ) (Cert.OutAKernel.main (F := Bits))) ⟨m, fun _ => 0, g⟩ (fun r => (∀ c : Dev Cert.OutAKernel.nD,
      r.2.mem ((c.tc : Thread Cert.OutAKernel.nD Cert.OutAKernel.τ).loc Cert.OutAKernel.main_arg0) = m ((c.tc : Thread Cert.OutAKernel.nD Cert.OutAKernel.τ).loc Cert.OutAKernel.main_arg0)
      ∧ r.2.mem ((c.tc : Thread Cert.OutAKernel.nD Cert.OutAKernel.τ).loc Cert.OutAKernel.main_arg1) = m ((c.tc : Thread Cert.OutAKernel.nD Cert.OutAKernel.τ).loc Cert.OutAKernel.main_arg1)
      ∧ r.2.mem ((c.tc : Thread Cert.OutAKernel.nD Cert.OutAKernel.τ).loc Cert.OutAKernel.main_arg2) = m ((c.tc : Thread Cert.OutAKernel.nD Cert.OutAKernel.τ).loc Cert.OutAKernel.main_arg2)
      ∧ r.2.mem ((c.tc : Thread Cert.OutAKernel.nD Cert.OutAKernel.τ).loc Cert.OutAKernel.main_arg3) = m ((c.tc : Thread Cert.OutAKernel.nD Cert.OutAKernel.τ).loc Cert.OutAKernel.main_arg3)
      ∧ r.2.mem ((c.tc : Thread Cert.OutAKernel.nD Cert.OutAKernel.τ).loc Cert.OutAKernel.main_arg4) = m ((c.tc : Thread Cert.OutAKernel.nD Cert.OutAKernel.τ).loc Cert.OutAKernel.main_arg4)
      ∧ r.2.mem ((c.tc : Thread Cert.OutAKernel.nD Cert.OutAKernel.τ).loc Cert.OutAKernel.main_arg5) = m ((c.tc : Thread Cert.OutAKernel.nD Cert.OutAKernel.τ).loc Cert.OutAKernel.main_arg5)
      ∧ r.2.mem ((c.tc : Thread Cert.OutAKernel.nD Cert.OutAKernel.τ).loc Cert.OutAKernel.main_arg6) = m ((c.tc : Thread Cert.OutAKernel.nD Cert.OutAKernel.τ).loc Cert.OutAKernel.main_arg6))
      ∧ r.2.sem = fun _ => 0)

def quiescent_OutAKernelIdeal [hOutAKernelIdeal : Cert.OutAKernelIdeal.Facts] : Prop :=
  ∀ (m : (ℓ : Loc Cert.OutAKernelIdeal.nD Cert.OutAKernelIdeal.τ Cert.OutAKernelIdeal.sig) → Buf (Elt Ideal) ℓ) (g : Dev Cert.OutAKernelIdeal.nD → PrngReg), Pre_OutAKernelIdeal m →
    θ_run (Cert.OutAKernelIdeal.defs (F := Ideal)) (onTc (τ := Cert.OutAKernelIdeal.τ) (Cert.OutAKernelIdeal.main (F := Ideal))) ⟨m, fun _ => 0, g⟩ (fun r => (∀ c : Dev Cert.OutAKernelIdeal.nD,
      r.2.mem ((c.tc : Thread Cert.OutAKernelIdeal.nD Cert.OutAKernelIdeal.τ).loc Cert.OutAKernelIdeal.main_arg0) = m ((c.tc : Thread Cert.OutAKernelIdeal.nD Cert.OutAKernelIdeal.τ).loc Cert.OutAKernelIdeal.main_arg0)
      ∧ r.2.mem ((c.tc : Thread Cert.OutAKernelIdeal.nD Cert.OutAKernelIdeal.τ).loc Cert.OutAKernelIdeal.main_arg1) = m ((c.tc : Thread Cert.OutAKernelIdeal.nD Cert.OutAKernelIdeal.τ).loc Cert.OutAKernelIdeal.main_arg1)
      ∧ r.2.mem ((c.tc : Thread Cert.OutAKernelIdeal.nD Cert.OutAKernelIdeal.τ).loc Cert.OutAKernelIdeal.main_arg2) = m ((c.tc : Thread Cert.OutAKernelIdeal.nD Cert.OutAKernelIdeal.τ).loc Cert.OutAKernelIdeal.main_arg2)
      ∧ r.2.mem ((c.tc : Thread Cert.OutAKernelIdeal.nD Cert.OutAKernelIdeal.τ).loc Cert.OutAKernelIdeal.main_arg3) = m ((c.tc : Thread Cert.OutAKernelIdeal.nD Cert.OutAKernelIdeal.τ).loc Cert.OutAKernelIdeal.main_arg3)
      ∧ r.2.mem ((c.tc : Thread Cert.OutAKernelIdeal.nD Cert.OutAKernelIdeal.τ).loc Cert.OutAKernelIdeal.main_arg4) = m ((c.tc : Thread Cert.OutAKernelIdeal.nD Cert.OutAKernelIdeal.τ).loc Cert.OutAKernelIdeal.main_arg4)
      ∧ r.2.mem ((c.tc : Thread Cert.OutAKernelIdeal.nD Cert.OutAKernelIdeal.τ).loc Cert.OutAKernelIdeal.main_arg5) = m ((c.tc : Thread Cert.OutAKernelIdeal.nD Cert.OutAKernelIdeal.τ).loc Cert.OutAKernelIdeal.main_arg5)
      ∧ r.2.mem ((c.tc : Thread Cert.OutAKernelIdeal.nD Cert.OutAKernelIdeal.τ).loc Cert.OutAKernelIdeal.main_arg6) = m ((c.tc : Thread Cert.OutAKernelIdeal.nD Cert.OutAKernelIdeal.τ).loc Cert.OutAKernelIdeal.main_arg6))
      ∧ r.2.sem = fun _ => 0)

def quiescent_OutAReferenceIdeal [hOutAReferenceIdeal : Cert.OutAReferenceIdeal.Facts] : Prop :=
  ∀ (m : (ℓ : Loc Cert.OutAReferenceIdeal.nD Cert.OutAReferenceIdeal.τ Cert.OutAReferenceIdeal.sig) → Buf (Elt Ideal) ℓ) (g : Dev Cert.OutAReferenceIdeal.nD → PrngReg), Pre_OutAReferenceIdeal m →
    θ_run (Cert.OutAReferenceIdeal.defs (F := Ideal)) (onTc (τ := Cert.OutAReferenceIdeal.τ) (Cert.OutAReferenceIdeal.main (F := Ideal))) ⟨m, fun _ => 0, g⟩ (fun r => (∀ c : Dev Cert.OutAReferenceIdeal.nD,
      r.2.mem ((c.tc : Thread Cert.OutAReferenceIdeal.nD Cert.OutAReferenceIdeal.τ).loc Cert.OutAReferenceIdeal.main_arg0) = m ((c.tc : Thread Cert.OutAReferenceIdeal.nD Cert.OutAReferenceIdeal.τ).loc Cert.OutAReferenceIdeal.main_arg0)
      ∧ r.2.mem ((c.tc : Thread Cert.OutAReferenceIdeal.nD Cert.OutAReferenceIdeal.τ).loc Cert.OutAReferenceIdeal.main_arg1) = m ((c.tc : Thread Cert.OutAReferenceIdeal.nD Cert.OutAReferenceIdeal.τ).loc Cert.OutAReferenceIdeal.main_arg1)
      ∧ r.2.mem ((c.tc : Thread Cert.OutAReferenceIdeal.nD Cert.OutAReferenceIdeal.τ).loc Cert.OutAReferenceIdeal.main_arg2) = m ((c.tc : Thread Cert.OutAReferenceIdeal.nD Cert.OutAReferenceIdeal.τ).loc Cert.OutAReferenceIdeal.main_arg2)
      ∧ r.2.mem ((c.tc : Thread Cert.OutAReferenceIdeal.nD Cert.OutAReferenceIdeal.τ).loc Cert.OutAReferenceIdeal.main_arg3) = m ((c.tc : Thread Cert.OutAReferenceIdeal.nD Cert.OutAReferenceIdeal.τ).loc Cert.OutAReferenceIdeal.main_arg3)
      ∧ r.2.mem ((c.tc : Thread Cert.OutAReferenceIdeal.nD Cert.OutAReferenceIdeal.τ).loc Cert.OutAReferenceIdeal.main_arg4) = m ((c.tc : Thread Cert.OutAReferenceIdeal.nD Cert.OutAReferenceIdeal.τ).loc Cert.OutAReferenceIdeal.main_arg4)
      ∧ r.2.mem ((c.tc : Thread Cert.OutAReferenceIdeal.nD Cert.OutAReferenceIdeal.τ).loc Cert.OutAReferenceIdeal.main_arg5) = m ((c.tc : Thread Cert.OutAReferenceIdeal.nD Cert.OutAReferenceIdeal.τ).loc Cert.OutAReferenceIdeal.main_arg5)
      ∧ r.2.mem ((c.tc : Thread Cert.OutAReferenceIdeal.nD Cert.OutAReferenceIdeal.τ).loc Cert.OutAReferenceIdeal.main_arg6) = m ((c.tc : Thread Cert.OutAReferenceIdeal.nD Cert.OutAReferenceIdeal.τ).loc Cert.OutAReferenceIdeal.main_arg6))
      ∧ r.2.sem = fun _ => 0)

def quiescent_TopKernel [hTopKernel : Cert.TopKernel.Facts] : Prop :=
  ∀ (m : (ℓ : Loc Cert.TopKernel.nD Cert.TopKernel.τ Cert.TopKernel.sig) → Buf (Elt Bits) ℓ) (g : Dev Cert.TopKernel.nD → PrngReg), Pre_TopKernel m →
    θ_run (Cert.TopKernel.defs (F := Bits)) (onTc (τ := Cert.TopKernel.τ) (Cert.TopKernel.main (F := Bits))) ⟨m, fun _ => 0, g⟩ (fun r => (∀ c : Dev Cert.TopKernel.nD,
      r.2.mem ((c.tc : Thread Cert.TopKernel.nD Cert.TopKernel.τ).loc Cert.TopKernel.main_arg0) = m ((c.tc : Thread Cert.TopKernel.nD Cert.TopKernel.τ).loc Cert.TopKernel.main_arg0)
      ∧ r.2.mem ((c.tc : Thread Cert.TopKernel.nD Cert.TopKernel.τ).loc Cert.TopKernel.main_arg1) = m ((c.tc : Thread Cert.TopKernel.nD Cert.TopKernel.τ).loc Cert.TopKernel.main_arg1)
      ∧ r.2.mem ((c.tc : Thread Cert.TopKernel.nD Cert.TopKernel.τ).loc Cert.TopKernel.main_arg2) = m ((c.tc : Thread Cert.TopKernel.nD Cert.TopKernel.τ).loc Cert.TopKernel.main_arg2)
      ∧ r.2.mem ((c.tc : Thread Cert.TopKernel.nD Cert.TopKernel.τ).loc Cert.TopKernel.main_arg3) = m ((c.tc : Thread Cert.TopKernel.nD Cert.TopKernel.τ).loc Cert.TopKernel.main_arg3))
      ∧ r.2.sem = fun _ => 0)

def quiescent_TopKernelIdeal [hTopKernelIdeal : Cert.TopKernelIdeal.Facts] : Prop :=
  ∀ (m : (ℓ : Loc Cert.TopKernelIdeal.nD Cert.TopKernelIdeal.τ Cert.TopKernelIdeal.sig) → Buf (Elt Ideal) ℓ) (g : Dev Cert.TopKernelIdeal.nD → PrngReg), Pre_TopKernelIdeal m →
    θ_run (Cert.TopKernelIdeal.defs (F := Ideal)) (onTc (τ := Cert.TopKernelIdeal.τ) (Cert.TopKernelIdeal.main (F := Ideal))) ⟨m, fun _ => 0, g⟩ (fun r => (∀ c : Dev Cert.TopKernelIdeal.nD,
      r.2.mem ((c.tc : Thread Cert.TopKernelIdeal.nD Cert.TopKernelIdeal.τ).loc Cert.TopKernelIdeal.main_arg0) = m ((c.tc : Thread Cert.TopKernelIdeal.nD Cert.TopKernelIdeal.τ).loc Cert.TopKernelIdeal.main_arg0)
      ∧ r.2.mem ((c.tc : Thread Cert.TopKernelIdeal.nD Cert.TopKernelIdeal.τ).loc Cert.TopKernelIdeal.main_arg1) = m ((c.tc : Thread Cert.TopKernelIdeal.nD Cert.TopKernelIdeal.τ).loc Cert.TopKernelIdeal.main_arg1)
      ∧ r.2.mem ((c.tc : Thread Cert.TopKernelIdeal.nD Cert.TopKernelIdeal.τ).loc Cert.TopKernelIdeal.main_arg2) = m ((c.tc : Thread Cert.TopKernelIdeal.nD Cert.TopKernelIdeal.τ).loc Cert.TopKernelIdeal.main_arg2)
      ∧ r.2.mem ((c.tc : Thread Cert.TopKernelIdeal.nD Cert.TopKernelIdeal.τ).loc Cert.TopKernelIdeal.main_arg3) = m ((c.tc : Thread Cert.TopKernelIdeal.nD Cert.TopKernelIdeal.τ).loc Cert.TopKernelIdeal.main_arg3))
      ∧ r.2.sem = fun _ => 0)

def quiescent_TopReferenceIdeal [hTopReferenceIdeal : Cert.TopReferenceIdeal.Facts] : Prop :=
  ∀ (m : (ℓ : Loc Cert.TopReferenceIdeal.nD Cert.TopReferenceIdeal.τ Cert.TopReferenceIdeal.sig) → Buf (Elt Ideal) ℓ) (g : Dev Cert.TopReferenceIdeal.nD → PrngReg), Pre_TopReferenceIdeal m →
    θ_run (Cert.TopReferenceIdeal.defs (F := Ideal)) (onTc (τ := Cert.TopReferenceIdeal.τ) (Cert.TopReferenceIdeal.main (F := Ideal))) ⟨m, fun _ => 0, g⟩ (fun r => (∀ c : Dev Cert.TopReferenceIdeal.nD,
      r.2.mem ((c.tc : Thread Cert.TopReferenceIdeal.nD Cert.TopReferenceIdeal.τ).loc Cert.TopReferenceIdeal.main_arg0) = m ((c.tc : Thread Cert.TopReferenceIdeal.nD Cert.TopReferenceIdeal.τ).loc Cert.TopReferenceIdeal.main_arg0)
      ∧ r.2.mem ((c.tc : Thread Cert.TopReferenceIdeal.nD Cert.TopReferenceIdeal.τ).loc Cert.TopReferenceIdeal.main_arg1) = m ((c.tc : Thread Cert.TopReferenceIdeal.nD Cert.TopReferenceIdeal.τ).loc Cert.TopReferenceIdeal.main_arg1)
      ∧ r.2.mem ((c.tc : Thread Cert.TopReferenceIdeal.nD Cert.TopReferenceIdeal.τ).loc Cert.TopReferenceIdeal.main_arg2) = m ((c.tc : Thread Cert.TopReferenceIdeal.nD Cert.TopReferenceIdeal.τ).loc Cert.TopReferenceIdeal.main_arg2)
      ∧ r.2.mem ((c.tc : Thread Cert.TopReferenceIdeal.nD Cert.TopReferenceIdeal.τ).loc Cert.TopReferenceIdeal.main_arg3) = m ((c.tc : Thread Cert.TopReferenceIdeal.nD Cert.TopReferenceIdeal.τ).loc Cert.TopReferenceIdeal.main_arg3))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_AdaFwdKernel [hAdaFwdKernel : Cert.AdaFwdKernel.Facts] : Prop :=
  ∀ (m : (ℓ : Loc Cert.AdaFwdKernel.nD Cert.AdaFwdKernel.τ Cert.AdaFwdKernel.sig) → Buf (Elt Bits) ℓ) (g : Dev Cert.AdaFwdKernel.nD → PrngReg), Pre_AdaFwdKernel m →
    θ_run (Cert.AdaFwdKernel.defs (F := Bits)) (onTc (τ := Cert.AdaFwdKernel.τ) (Cert.AdaFwdKernel.main (F := Bits))) ⟨m, fun _ => 0, g⟩ (fun r => (∀ c : Dev Cert.AdaFwdKernel.nD,
      r.2.mem ((c.tc : Thread Cert.AdaFwdKernel.nD Cert.AdaFwdKernel.τ).loc Cert.AdaFwdKernel.main_arg0) = m ((c.tc : Thread Cert.AdaFwdKernel.nD Cert.AdaFwdKernel.τ).loc Cert.AdaFwdKernel.main_arg0)
      ∧ r.2.mem ((c.tc : Thread Cert.AdaFwdKernel.nD Cert.AdaFwdKernel.τ).loc Cert.AdaFwdKernel.main_arg1) = m ((c.tc : Thread Cert.AdaFwdKernel.nD Cert.AdaFwdKernel.τ).loc Cert.AdaFwdKernel.main_arg1)
      ∧ r.2.mem ((c.tc : Thread Cert.AdaFwdKernel.nD Cert.AdaFwdKernel.τ).loc Cert.AdaFwdKernel.main_arg2) = m ((c.tc : Thread Cert.AdaFwdKernel.nD Cert.AdaFwdKernel.τ).loc Cert.AdaFwdKernel.main_arg2))
      ∧ r.2.sem = fun _ => 0)

def quiescent_AdaFwdKernelIdeal [hAdaFwdKernelIdeal : Cert.AdaFwdKernelIdeal.Facts] : Prop :=
  ∀ (m : (ℓ : Loc Cert.AdaFwdKernelIdeal.nD Cert.AdaFwdKernelIdeal.τ Cert.AdaFwdKernelIdeal.sig) → Buf (Elt Ideal) ℓ) (g : Dev Cert.AdaFwdKernelIdeal.nD → PrngReg), Pre_AdaFwdKernelIdeal m →
    θ_run (Cert.AdaFwdKernelIdeal.defs (F := Ideal)) (onTc (τ := Cert.AdaFwdKernelIdeal.τ) (Cert.AdaFwdKernelIdeal.main (F := Ideal))) ⟨m, fun _ => 0, g⟩ (fun r => (∀ c : Dev Cert.AdaFwdKernelIdeal.nD,
      r.2.mem ((c.tc : Thread Cert.AdaFwdKernelIdeal.nD Cert.AdaFwdKernelIdeal.τ).loc Cert.AdaFwdKernelIdeal.main_arg0) = m ((c.tc : Thread Cert.AdaFwdKernelIdeal.nD Cert.AdaFwdKernelIdeal.τ).loc Cert.AdaFwdKernelIdeal.main_arg0)
      ∧ r.2.mem ((c.tc : Thread Cert.AdaFwdKernelIdeal.nD Cert.AdaFwdKernelIdeal.τ).loc Cert.AdaFwdKernelIdeal.main_arg1) = m ((c.tc : Thread Cert.AdaFwdKernelIdeal.nD Cert.AdaFwdKernelIdeal.τ).loc Cert.AdaFwdKernelIdeal.main_arg1)
      ∧ r.2.mem ((c.tc : Thread Cert.AdaFwdKernelIdeal.nD Cert.AdaFwdKernelIdeal.τ).loc Cert.AdaFwdKernelIdeal.main_arg2) = m ((c.tc : Thread Cert.AdaFwdKernelIdeal.nD Cert.AdaFwdKernelIdeal.τ).loc Cert.AdaFwdKernelIdeal.main_arg2))
      ∧ r.2.sem = fun _ => 0)

def quiescent_AdaFwdReferenceIdeal [hAdaFwdReferenceIdeal : Cert.AdaFwdReferenceIdeal.Facts] : Prop :=
  ∀ (m : (ℓ : Loc Cert.AdaFwdReferenceIdeal.nD Cert.AdaFwdReferenceIdeal.τ Cert.AdaFwdReferenceIdeal.sig) → Buf (Elt Ideal) ℓ) (g : Dev Cert.AdaFwdReferenceIdeal.nD → PrngReg), Pre_AdaFwdReferenceIdeal m →
    θ_run (Cert.AdaFwdReferenceIdeal.defs (F := Ideal)) (onTc (τ := Cert.AdaFwdReferenceIdeal.τ) (Cert.AdaFwdReferenceIdeal.main (F := Ideal))) ⟨m, fun _ => 0, g⟩ (fun r => (∀ c : Dev Cert.AdaFwdReferenceIdeal.nD,
      r.2.mem ((c.tc : Thread Cert.AdaFwdReferenceIdeal.nD Cert.AdaFwdReferenceIdeal.τ).loc Cert.AdaFwdReferenceIdeal.main_arg0) = m ((c.tc : Thread Cert.AdaFwdReferenceIdeal.nD Cert.AdaFwdReferenceIdeal.τ).loc Cert.AdaFwdReferenceIdeal.main_arg0)
      ∧ r.2.mem ((c.tc : Thread Cert.AdaFwdReferenceIdeal.nD Cert.AdaFwdReferenceIdeal.τ).loc Cert.AdaFwdReferenceIdeal.main_arg1) = m ((c.tc : Thread Cert.AdaFwdReferenceIdeal.nD Cert.AdaFwdReferenceIdeal.τ).loc Cert.AdaFwdReferenceIdeal.main_arg1)
      ∧ r.2.mem ((c.tc : Thread Cert.AdaFwdReferenceIdeal.nD Cert.AdaFwdReferenceIdeal.τ).loc Cert.AdaFwdReferenceIdeal.main_arg2) = m ((c.tc : Thread Cert.AdaFwdReferenceIdeal.nD Cert.AdaFwdReferenceIdeal.τ).loc Cert.AdaFwdReferenceIdeal.main_arg2))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_SumMKernel [hSumMKernel : Cert.SumMKernel.Facts] : Prop :=
  ∀ (m : (ℓ : Loc Cert.SumMKernel.nD Cert.SumMKernel.τ Cert.SumMKernel.sig) → Buf (Elt Bits) ℓ) (g : Dev Cert.SumMKernel.nD → PrngReg), Pre_SumMKernel m →
    θ_run (Cert.SumMKernel.defs (F := Bits)) (onTc (τ := Cert.SumMKernel.τ) (Cert.SumMKernel.main (F := Bits))) ⟨m, fun _ => 0, g⟩ (fun r => (∀ c : Dev Cert.SumMKernel.nD,
      r.2.mem ((c.tc : Thread Cert.SumMKernel.nD Cert.SumMKernel.τ).loc Cert.SumMKernel.main_arg0) = m ((c.tc : Thread Cert.SumMKernel.nD Cert.SumMKernel.τ).loc Cert.SumMKernel.main_arg0))
      ∧ r.2.sem = fun _ => 0)

def quiescent_SumMKernelIdeal [hSumMKernelIdeal : Cert.SumMKernelIdeal.Facts] : Prop :=
  ∀ (m : (ℓ : Loc Cert.SumMKernelIdeal.nD Cert.SumMKernelIdeal.τ Cert.SumMKernelIdeal.sig) → Buf (Elt Ideal) ℓ) (g : Dev Cert.SumMKernelIdeal.nD → PrngReg), Pre_SumMKernelIdeal m →
    θ_run (Cert.SumMKernelIdeal.defs (F := Ideal)) (onTc (τ := Cert.SumMKernelIdeal.τ) (Cert.SumMKernelIdeal.main (F := Ideal))) ⟨m, fun _ => 0, g⟩ (fun r => (∀ c : Dev Cert.SumMKernelIdeal.nD,
      r.2.mem ((c.tc : Thread Cert.SumMKernelIdeal.nD Cert.SumMKernelIdeal.τ).loc Cert.SumMKernelIdeal.main_arg0) = m ((c.tc : Thread Cert.SumMKernelIdeal.nD Cert.SumMKernelIdeal.τ).loc Cert.SumMKernelIdeal.main_arg0))
      ∧ r.2.sem = fun _ => 0)

def quiescent_SumMReferenceIdeal [hSumMReferenceIdeal : Cert.SumMReferenceIdeal.Facts] : Prop :=
  ∀ (m : (ℓ : Loc Cert.SumMReferenceIdeal.nD Cert.SumMReferenceIdeal.τ Cert.SumMReferenceIdeal.sig) → Buf (Elt Ideal) ℓ) (g : Dev Cert.SumMReferenceIdeal.nD → PrngReg), Pre_SumMReferenceIdeal m →
    θ_run (Cert.SumMReferenceIdeal.defs (F := Ideal)) (onTc (τ := Cert.SumMReferenceIdeal.τ) (Cert.SumMReferenceIdeal.main (F := Ideal))) ⟨m, fun _ => 0, g⟩ (fun r => (∀ c : Dev Cert.SumMReferenceIdeal.nD,
      r.2.mem ((c.tc : Thread Cert.SumMReferenceIdeal.nD Cert.SumMReferenceIdeal.τ).loc Cert.SumMReferenceIdeal.main_arg0) = m ((c.tc : Thread Cert.SumMReferenceIdeal.nD Cert.SumMReferenceIdeal.τ).loc Cert.SumMReferenceIdeal.main_arg0))
      ∧ r.2.sem = fun _ => 0)

def quiescent_SumNKernel [hSumNKernel : Cert.SumNKernel.Facts] : Prop :=
  ∀ (m : (ℓ : Loc Cert.SumNKernel.nD Cert.SumNKernel.τ Cert.SumNKernel.sig) → Buf (Elt Bits) ℓ) (g : Dev Cert.SumNKernel.nD → PrngReg), Pre_SumNKernel m →
    θ_run (Cert.SumNKernel.defs (F := Bits)) (onTc (τ := Cert.SumNKernel.τ) (Cert.SumNKernel.main (F := Bits))) ⟨m, fun _ => 0, g⟩ (fun r => (∀ c : Dev Cert.SumNKernel.nD,
      r.2.mem ((c.tc : Thread Cert.SumNKernel.nD Cert.SumNKernel.τ).loc Cert.SumNKernel.main_arg0) = m ((c.tc : Thread Cert.SumNKernel.nD Cert.SumNKernel.τ).loc Cert.SumNKernel.main_arg0))
      ∧ r.2.sem = fun _ => 0)

def quiescent_SumNKernelIdeal [hSumNKernelIdeal : Cert.SumNKernelIdeal.Facts] : Prop :=
  ∀ (m : (ℓ : Loc Cert.SumNKernelIdeal.nD Cert.SumNKernelIdeal.τ Cert.SumNKernelIdeal.sig) → Buf (Elt Ideal) ℓ) (g : Dev Cert.SumNKernelIdeal.nD → PrngReg), Pre_SumNKernelIdeal m →
    θ_run (Cert.SumNKernelIdeal.defs (F := Ideal)) (onTc (τ := Cert.SumNKernelIdeal.τ) (Cert.SumNKernelIdeal.main (F := Ideal))) ⟨m, fun _ => 0, g⟩ (fun r => (∀ c : Dev Cert.SumNKernelIdeal.nD,
      r.2.mem ((c.tc : Thread Cert.SumNKernelIdeal.nD Cert.SumNKernelIdeal.τ).loc Cert.SumNKernelIdeal.main_arg0) = m ((c.tc : Thread Cert.SumNKernelIdeal.nD Cert.SumNKernelIdeal.τ).loc Cert.SumNKernelIdeal.main_arg0))
      ∧ r.2.sem = fun _ => 0)

def quiescent_SumNReferenceIdeal [hSumNReferenceIdeal : Cert.SumNReferenceIdeal.Facts] : Prop :=
  ∀ (m : (ℓ : Loc Cert.SumNReferenceIdeal.nD Cert.SumNReferenceIdeal.τ Cert.SumNReferenceIdeal.sig) → Buf (Elt Ideal) ℓ) (g : Dev Cert.SumNReferenceIdeal.nD → PrngReg), Pre_SumNReferenceIdeal m →
    θ_run (Cert.SumNReferenceIdeal.defs (F := Ideal)) (onTc (τ := Cert.SumNReferenceIdeal.τ) (Cert.SumNReferenceIdeal.main (F := Ideal))) ⟨m, fun _ => 0, g⟩ (fun r => (∀ c : Dev Cert.SumNReferenceIdeal.nD,
      r.2.mem ((c.tc : Thread Cert.SumNReferenceIdeal.nD Cert.SumNReferenceIdeal.τ).loc Cert.SumNReferenceIdeal.main_arg0) = m ((c.tc : Thread Cert.SumNReferenceIdeal.nD Cert.SumNReferenceIdeal.τ).loc Cert.SumNReferenceIdeal.main_arg0))
      ∧ r.2.sem = fun _ => 0)

def quiescent_NtKernel [hNtKernel : Cert.NtKernel.Facts] : Prop :=
  ∀ (m : (ℓ : Loc Cert.NtKernel.nD Cert.NtKernel.τ Cert.NtKernel.sig) → Buf (Elt Bits) ℓ) (g : Dev Cert.NtKernel.nD → PrngReg), Pre_NtKernel m →
    θ_run (Cert.NtKernel.defs (F := Bits)) (onTc (τ := Cert.NtKernel.τ) (Cert.NtKernel.main (F := Bits))) ⟨m, fun _ => 0, g⟩ (fun r => (∀ c : Dev Cert.NtKernel.nD,
      r.2.mem ((c.tc : Thread Cert.NtKernel.nD Cert.NtKernel.τ).loc Cert.NtKernel.main_arg0) = m ((c.tc : Thread Cert.NtKernel.nD Cert.NtKernel.τ).loc Cert.NtKernel.main_arg0)
      ∧ r.2.mem ((c.tc : Thread Cert.NtKernel.nD Cert.NtKernel.τ).loc Cert.NtKernel.main_arg1) = m ((c.tc : Thread Cert.NtKernel.nD Cert.NtKernel.τ).loc Cert.NtKernel.main_arg1))
      ∧ r.2.sem = fun _ => 0)

def quiescent_NtKernelIdeal [hNtKernelIdeal : Cert.NtKernelIdeal.Facts] : Prop :=
  ∀ (m : (ℓ : Loc Cert.NtKernelIdeal.nD Cert.NtKernelIdeal.τ Cert.NtKernelIdeal.sig) → Buf (Elt Ideal) ℓ) (g : Dev Cert.NtKernelIdeal.nD → PrngReg), Pre_NtKernelIdeal m →
    θ_run (Cert.NtKernelIdeal.defs (F := Ideal)) (onTc (τ := Cert.NtKernelIdeal.τ) (Cert.NtKernelIdeal.main (F := Ideal))) ⟨m, fun _ => 0, g⟩ (fun r => (∀ c : Dev Cert.NtKernelIdeal.nD,
      r.2.mem ((c.tc : Thread Cert.NtKernelIdeal.nD Cert.NtKernelIdeal.τ).loc Cert.NtKernelIdeal.main_arg0) = m ((c.tc : Thread Cert.NtKernelIdeal.nD Cert.NtKernelIdeal.τ).loc Cert.NtKernelIdeal.main_arg0)
      ∧ r.2.mem ((c.tc : Thread Cert.NtKernelIdeal.nD Cert.NtKernelIdeal.τ).loc Cert.NtKernelIdeal.main_arg1) = m ((c.tc : Thread Cert.NtKernelIdeal.nD Cert.NtKernelIdeal.τ).loc Cert.NtKernelIdeal.main_arg1))
      ∧ r.2.sem = fun _ => 0)

def quiescent_NtReferenceIdeal [hNtReferenceIdeal : Cert.NtReferenceIdeal.Facts] : Prop :=
  ∀ (m : (ℓ : Loc Cert.NtReferenceIdeal.nD Cert.NtReferenceIdeal.τ Cert.NtReferenceIdeal.sig) → Buf (Elt Ideal) ℓ) (g : Dev Cert.NtReferenceIdeal.nD → PrngReg), Pre_NtReferenceIdeal m →
    θ_run (Cert.NtReferenceIdeal.defs (F := Ideal)) (onTc (τ := Cert.NtReferenceIdeal.τ) (Cert.NtReferenceIdeal.main (F := Ideal))) ⟨m, fun _ => 0, g⟩ (fun r => (∀ c : Dev Cert.NtReferenceIdeal.nD,
      r.2.mem ((c.tc : Thread Cert.NtReferenceIdeal.nD Cert.NtReferenceIdeal.τ).loc Cert.NtReferenceIdeal.main_arg0) = m ((c.tc : Thread Cert.NtReferenceIdeal.nD Cert.NtReferenceIdeal.τ).loc Cert.NtReferenceIdeal.main_arg0)
      ∧ r.2.mem ((c.tc : Thread Cert.NtReferenceIdeal.nD Cert.NtReferenceIdeal.τ).loc Cert.NtReferenceIdeal.main_arg1) = m ((c.tc : Thread Cert.NtReferenceIdeal.nD Cert.NtReferenceIdeal.τ).loc Cert.NtReferenceIdeal.main_arg1))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v2_0)) (v1 : (c : Dev Cert.GateKernelIdeal.nD) → Buf (Elt Ideal) ((c.tc : Thread Cert.GateKernelIdeal.nD Cert.GateKernelIdeal.τ).loc Cert.GateKernelIdeal.main_v2_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2_0) = v0 c
          ∧ r.2.mem ((c.tc : Thread Cert.GateKernelIdeal.nD Cert.GateKernelIdeal.τ).loc Cert.GateKernelIdeal.main_v2_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v9) = v0 c
          ∧ r.2.mem ((c.tc : Thread Cert.GateReferenceIdeal.nD Cert.GateReferenceIdeal.τ).loc Cert.GateReferenceIdeal.main_v7) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v16) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_SwigluKernel_SwigluKernelIdeal : Prop :=
  True

def algebraic_SwigluKernelIdeal_SwigluReferenceIdeal_pre_finite_swiglu [hSwigluKernelIdeal : Cert.SwigluKernelIdeal.Facts] [hSwigluReferenceIdeal : Cert.SwigluReferenceIdeal.Facts] [hPre_finite_swiglu : Cert.Pre_finite_swiglu.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal_finite_swiglu m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)
      ∧ m' ((c.tc : Thread Cert.SwigluReferenceIdeal.nD Cert.SwigluReferenceIdeal.τ).loc Cert.SwigluReferenceIdeal.main_arg2) = m ((c.tc : Thread Cert.SwigluKernelIdeal.nD Cert.SwigluKernelIdeal.τ).loc Cert.SwigluKernelIdeal.main_arg2)
      ∧ m' ((c.tc : Thread Cert.SwigluReferenceIdeal.nD Cert.SwigluReferenceIdeal.τ).loc Cert.SwigluReferenceIdeal.main_arg3) = m ((c.tc : Thread Cert.SwigluKernelIdeal.nD Cert.SwigluKernelIdeal.τ).loc Cert.SwigluKernelIdeal.main_arg3)) →
    ∃ (v0 : (c : Dev Cert.SwigluKernelIdeal.nD) → Buf (Elt Ideal) ((c.tc : Thread Cert.SwigluKernelIdeal.nD Cert.SwigluKernelIdeal.τ).loc Cert.SwigluKernelIdeal.main_v4_0)) (v1 : (c : Dev Cert.SwigluKernelIdeal.nD) → Buf (Elt Ideal) ((c.tc : Thread Cert.SwigluKernelIdeal.nD Cert.SwigluKernelIdeal.τ).loc Cert.SwigluKernelIdeal.main_v4_1)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v4_0) = v0 c
          ∧ r.2.mem ((c.tc : Thread Cert.SwigluKernelIdeal.nD Cert.SwigluKernelIdeal.τ).loc Cert.SwigluKernelIdeal.main_v4_1) = v1 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
          ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
          ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v11) = v0 c
          ∧ r.2.mem ((c.tc : Thread Cert.SwigluReferenceIdeal.nD Cert.SwigluReferenceIdeal.τ).loc Cert.SwigluReferenceIdeal.main_v13) = v1 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2)
          ∧ r.2.mem ((c.tc : Thread Cert.SwigluReferenceIdeal.nD Cert.SwigluReferenceIdeal.τ).loc Cert.SwigluReferenceIdeal.main_arg3) = m' ((c.tc : Thread Cert.SwigluReferenceIdeal.nD Cert.SwigluReferenceIdeal.τ).loc Cert.SwigluReferenceIdeal.main_arg3))

def preserves_SbKernel_SbKernelIdeal : Prop :=
  IdealRules.named_const.Statement Cert.SbKernelIdeal.κ "l2e" .f32 0xBFB8AA3B#32 ((-((Real.log 2)⁻¹) : ℝ) : EReal)

def algebraic_SbKernelIdeal_SbReferenceIdeal_pre_finite_sb [hSbKernelIdeal : Cert.SbKernelIdeal.Facts] [hSbReferenceIdeal : Cert.SbReferenceIdeal.Facts] [hPre_finite_sb : Cert.Pre_finite_sb.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_finite_sb m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)) →
    ∃ (v0 : (c : Dev Cert.SbKernelIdeal.nD) → Buf (Elt Ideal) ((c.tc : Thread Cert.SbKernelIdeal.nD Cert.SbKernelIdeal.τ).loc Cert.SbKernelIdeal.main_v27_0)) (v1 : (c : Dev Cert.SbKernelIdeal.nD) → Buf (Elt Ideal) ((c.tc : Thread Cert.SbKernelIdeal.nD Cert.SbKernelIdeal.τ).loc Cert.SbKernelIdeal.main_v27_1)) (v2 : (c : Dev Cert.SbKernelIdeal.nD) → Buf (Elt Ideal) ((c.tc : Thread Cert.SbKernelIdeal.nD Cert.SbKernelIdeal.τ).loc Cert.SbKernelIdeal.main_v27_2)) (v3 : (c : Dev Cert.SbKernelIdeal.nD) → Buf (Elt Ideal) ((c.tc : Thread Cert.SbKernelIdeal.nD Cert.SbKernelIdeal.τ).loc Cert.SbKernelIdeal.main_v27_3)) (v4 : (c : Dev Cert.SbKernelIdeal.nD) → Buf (Elt Ideal) ((c.tc : Thread Cert.SbKernelIdeal.nD Cert.SbKernelIdeal.τ).loc Cert.SbKernelIdeal.main_v27_4)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v27_0) = v0 c
          ∧ r.2.mem ((c.tc : Thread Cert.SbKernelIdeal.nD Cert.SbKernelIdeal.τ).loc Cert.SbKernelIdeal.main_v27_1) = v1 c
          ∧ r.2.mem ((c.tc : Thread Cert.SbKernelIdeal.nD Cert.SbKernelIdeal.τ).loc Cert.SbKernelIdeal.main_v27_2) = v2 c
          ∧ r.2.mem ((c.tc : Thread Cert.SbKernelIdeal.nD Cert.SbKernelIdeal.τ).loc Cert.SbKernelIdeal.main_v27_3) = v3 c
          ∧ r.2.mem ((c.tc : Thread Cert.SbKernelIdeal.nD Cert.SbKernelIdeal.τ).loc Cert.SbKernelIdeal.main_v27_4) = v4 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v64) = v0 c
          ∧ r.2.mem ((c.tc : Thread Cert.SbReferenceIdeal.nD Cert.SbReferenceIdeal.τ).loc Cert.SbReferenceIdeal.main_v66) = v1 c
          ∧ r.2.mem ((c.tc : Thread Cert.SbReferenceIdeal.nD Cert.SbReferenceIdeal.τ).loc Cert.SbReferenceIdeal.main_v68) = v2 c
          ∧ r.2.mem ((c.tc : Thread Cert.SbReferenceIdeal.nD Cert.SbReferenceIdeal.τ).loc Cert.SbReferenceIdeal.main_v70) = v3 c
          ∧ r.2.mem ((c.tc : Thread Cert.SbReferenceIdeal.nD Cert.SbReferenceIdeal.τ).loc Cert.SbReferenceIdeal.main_v72) = v4 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v0)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v0) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_NormKernel_NormKernelIdeal : Prop :=
  True

def algebraic_NormKernelIdeal_NormReferenceIdeal_pre_finite_norm2 [hNormKernelIdeal : Cert.NormKernelIdeal.Facts] [hNormReferenceIdeal : Cert.NormReferenceIdeal.Facts] [hPre_finite_norm2 : Cert.Pre_finite_norm2.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite_norm2 m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)
      ∧ m' ((c.tc : Thread Cert.NormReferenceIdeal.nD Cert.NormReferenceIdeal.τ).loc Cert.NormReferenceIdeal.main_arg7) = m ((c.tc : Thread Cert.NormKernelIdeal.nD Cert.NormKernelIdeal.τ).loc Cert.NormKernelIdeal.main_arg7)
      ∧ m' ((c.tc : Thread Cert.NormReferenceIdeal.nD Cert.NormReferenceIdeal.τ).loc Cert.NormReferenceIdeal.main_arg8) = m ((c.tc : Thread Cert.NormKernelIdeal.nD Cert.NormKernelIdeal.τ).loc Cert.NormKernelIdeal.main_arg8)
      ∧ m' ((c.tc : Thread Cert.NormReferenceIdeal.nD Cert.NormReferenceIdeal.τ).loc Cert.NormReferenceIdeal.main_arg9) = m ((c.tc : Thread Cert.NormKernelIdeal.nD Cert.NormKernelIdeal.τ).loc Cert.NormKernelIdeal.main_arg9)
      ∧ m' ((c.tc : Thread Cert.NormReferenceIdeal.nD Cert.NormReferenceIdeal.τ).loc Cert.NormReferenceIdeal.main_arg10) = m ((c.tc : Thread Cert.NormKernelIdeal.nD Cert.NormKernelIdeal.τ).loc Cert.NormKernelIdeal.main_arg10)) →
    ∃ (v0 : (c : Dev Cert.NormKernelIdeal.nD) → Buf (Elt Ideal) ((c.tc : Thread Cert.NormKernelIdeal.nD Cert.NormKernelIdeal.τ).loc Cert.NormKernelIdeal.main_v14_0)) (v1 : (c : Dev Cert.NormKernelIdeal.nD) → Buf (Elt Ideal) ((c.tc : Thread Cert.NormKernelIdeal.nD Cert.NormKernelIdeal.τ).loc Cert.NormKernelIdeal.main_v14_1)) (v2 : (c : Dev Cert.NormKernelIdeal.nD) → Buf (Elt Ideal) ((c.tc : Thread Cert.NormKernelIdeal.nD Cert.NormKernelIdeal.τ).loc Cert.NormKernelIdeal.main_v14_2)) (v3 : (c : Dev Cert.NormKernelIdeal.nD) → Buf (Elt Ideal) ((c.tc : Thread Cert.NormKernelIdeal.nD Cert.NormKernelIdeal.τ).loc Cert.NormKernelIdeal.main_v14_3)) (v4 : (c : Dev Cert.NormKernelIdeal.nD) → Buf (Elt Ideal) ((c.tc : Thread Cert.NormKernelIdeal.nD Cert.NormKernelIdeal.τ).loc Cert.NormKernelIdeal.main_v14_4)) (v5 : (c : Dev Cert.NormKernelIdeal.nD) → Buf (Elt Ideal) ((c.tc : Thread Cert.NormKernelIdeal.nD Cert.NormKernelIdeal.τ).loc Cert.NormKernelIdeal.main_v14_5)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v14_0) = v0 c
          ∧ r.2.mem ((c.tc : Thread Cert.NormKernelIdeal.nD Cert.NormKernelIdeal.τ).loc Cert.NormKernelIdeal.main_v14_1) = v1 c
          ∧ r.2.mem ((c.tc : Thread Cert.NormKernelIdeal.nD Cert.NormKernelIdeal.τ).loc Cert.NormKernelIdeal.main_v14_2) = v2 c
          ∧ r.2.mem ((c.tc : Thread Cert.NormKernelIdeal.nD Cert.NormKernelIdeal.τ).loc Cert.NormKernelIdeal.main_v14_3) = v3 c
          ∧ r.2.mem ((c.tc : Thread Cert.NormKernelIdeal.nD Cert.NormKernelIdeal.τ).loc Cert.NormKernelIdeal.main_v14_4) = v4 c
          ∧ r.2.mem ((c.tc : Thread Cert.NormKernelIdeal.nD Cert.NormKernelIdeal.τ).loc Cert.NormKernelIdeal.main_v14_5) = v5 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6)
          ∧ r.2.mem ((c.tc : Thread Cert.NormKernelIdeal.nD Cert.NormKernelIdeal.τ).loc Cert.NormKernelIdeal.main_arg7) = m ((c.tc : Thread Cert.NormKernelIdeal.nD Cert.NormKernelIdeal.τ).loc Cert.NormKernelIdeal.main_arg7)
          ∧ r.2.mem ((c.tc : Thread Cert.NormKernelIdeal.nD Cert.NormKernelIdeal.τ).loc Cert.NormKernelIdeal.main_arg8) = m ((c.tc : Thread Cert.NormKernelIdeal.nD Cert.NormKernelIdeal.τ).loc Cert.NormKernelIdeal.main_arg8)
          ∧ r.2.mem ((c.tc : Thread Cert.NormKernelIdeal.nD Cert.NormKernelIdeal.τ).loc Cert.NormKernelIdeal.main_arg9) = m ((c.tc : Thread Cert.NormKernelIdeal.nD Cert.NormKernelIdeal.τ).loc Cert.NormKernelIdeal.main_arg9)
          ∧ r.2.mem ((c.tc : Thread Cert.NormKernelIdeal.nD Cert.NormKernelIdeal.τ).loc Cert.NormKernelIdeal.main_arg10) = m ((c.tc : Thread Cert.NormKernelIdeal.nD Cert.NormKernelIdeal.τ).loc Cert.NormKernelIdeal.main_arg10))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v66) = v0 c
          ∧ r.2.mem ((c.tc : Thread Cert.NormReferenceIdeal.nD Cert.NormReferenceIdeal.τ).loc Cert.NormReferenceIdeal.main_v34) = v1 c
          ∧ r.2.mem ((c.tc : Thread Cert.NormReferenceIdeal.nD Cert.NormReferenceIdeal.τ).loc Cert.NormReferenceIdeal.main_v37) = v2 c
          ∧ r.2.mem ((c.tc : Thread Cert.NormReferenceIdeal.nD Cert.NormReferenceIdeal.τ).loc Cert.NormReferenceIdeal.main_v42) = v3 c
          ∧ r.2.mem ((c.tc : Thread Cert.NormReferenceIdeal.nD Cert.NormReferenceIdeal.τ).loc Cert.NormReferenceIdeal.main_v68) = v4 c
          ∧ r.2.mem ((c.tc : Thread Cert.NormReferenceIdeal.nD Cert.NormReferenceIdeal.τ).loc Cert.NormReferenceIdeal.main_v65) = v5 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6)
          ∧ r.2.mem ((c.tc : Thread Cert.NormReferenceIdeal.nD Cert.NormReferenceIdeal.τ).loc Cert.NormReferenceIdeal.main_arg7) = m' ((c.tc : Thread Cert.NormReferenceIdeal.nD Cert.NormReferenceIdeal.τ).loc Cert.NormReferenceIdeal.main_arg7)
          ∧ r.2.mem ((c.tc : Thread Cert.NormReferenceIdeal.nD Cert.NormReferenceIdeal.τ).loc Cert.NormReferenceIdeal.main_arg8) = m' ((c.tc : Thread Cert.NormReferenceIdeal.nD Cert.NormReferenceIdeal.τ).loc Cert.NormReferenceIdeal.main_arg8)
          ∧ r.2.mem ((c.tc : Thread Cert.NormReferenceIdeal.nD Cert.NormReferenceIdeal.τ).loc Cert.NormReferenceIdeal.main_arg9) = m' ((c.tc : Thread Cert.NormReferenceIdeal.nD Cert.NormReferenceIdeal.τ).loc Cert.NormReferenceIdeal.main_arg9)
          ∧ r.2.mem ((c.tc : Thread Cert.NormReferenceIdeal.nD Cert.NormReferenceIdeal.τ).loc Cert.NormReferenceIdeal.main_arg10) = m' ((c.tc : Thread Cert.NormReferenceIdeal.nD Cert.NormReferenceIdeal.τ).loc Cert.NormReferenceIdeal.main_arg10))

def preserves_NormBKernel_NormBKernelIdeal : Prop :=
  True

def algebraic_NormBKernelIdeal_NormBReferenceIdeal_pre_finite_norm1b [hNormBKernelIdeal : Cert.NormBKernelIdeal.Facts] [hNormBReferenceIdeal : Cert.NormBReferenceIdeal.Facts] [hPre_finite_norm1b : Cert.Pre_finite_norm1b.Facts] : Prop :=
  ∀ (m : (ℓ : Loc Cert.NormBKernelIdeal.nD Cert.NormBKernelIdeal.τ Cert.NormBKernelIdeal.sig) → Buf (Elt Ideal) ℓ) (g : Dev Cert.NormBKernelIdeal.nD → PrngReg)
    (m' : (ℓ : Loc Cert.NormBReferenceIdeal.nD Cert.NormBReferenceIdeal.τ Cert.NormBReferenceIdeal.sig) → Buf (Elt Ideal) ℓ) (g' : Dev Cert.NormBReferenceIdeal.nD → PrngReg), Pre_NormBKernelIdeal_finite_norm1b m →
    (∀ c : Dev Cert.NormBKernelIdeal.nD,
      m' ((c.tc : Thread Cert.NormBReferenceIdeal.nD Cert.NormBReferenceIdeal.τ).loc Cert.NormBReferenceIdeal.main_arg0) = m ((c.tc : Thread Cert.NormBKernelIdeal.nD Cert.NormBKernelIdeal.τ).loc Cert.NormBKernelIdeal.main_arg0)
      ∧ m' ((c.tc : Thread Cert.NormBReferenceIdeal.nD Cert.NormBReferenceIdeal.τ).loc Cert.NormBReferenceIdeal.main_arg1) = m ((c.tc : Thread Cert.NormBKernelIdeal.nD Cert.NormBKernelIdeal.τ).loc Cert.NormBKernelIdeal.main_arg1)
      ∧ m' ((c.tc : Thread Cert.NormBReferenceIdeal.nD Cert.NormBReferenceIdeal.τ).loc Cert.NormBReferenceIdeal.main_arg2) = m ((c.tc : Thread Cert.NormBKernelIdeal.nD Cert.NormBKernelIdeal.τ).loc Cert.NormBKernelIdeal.main_arg2)
      ∧ m' ((c.tc : Thread Cert.NormBReferenceIdeal.nD Cert.NormBReferenceIdeal.τ).loc Cert.NormBReferenceIdeal.main_arg3) = m ((c.tc : Thread Cert.NormBKernelIdeal.nD Cert.NormBKernelIdeal.τ).loc Cert.NormBKernelIdeal.main_arg3)
      ∧ m' ((c.tc : Thread Cert.NormBReferenceIdeal.nD Cert.NormBReferenceIdeal.τ).loc Cert.NormBReferenceIdeal.main_arg4) = m ((c.tc : Thread Cert.NormBKernelIdeal.nD Cert.NormBKernelIdeal.τ).loc Cert.NormBKernelIdeal.main_arg4)
      ∧ m' ((c.tc : Thread Cert.NormBReferenceIdeal.nD Cert.NormBReferenceIdeal.τ).loc Cert.NormBReferenceIdeal.main_arg5) = m ((c.tc : Thread Cert.NormBKernelIdeal.nD Cert.NormBKernelIdeal.τ).loc Cert.NormBKernelIdeal.main_arg5)
      ∧ m' ((c.tc : Thread Cert.NormBReferenceIdeal.nD Cert.NormBReferenceIdeal.τ).loc Cert.NormBReferenceIdeal.main_arg6) = m ((c.tc : Thread Cert.NormBKernelIdeal.nD Cert.NormBKernelIdeal.τ).loc Cert.NormBKernelIdeal.main_arg6)
      ∧ m' ((c.tc : Thread Cert.NormBReferenceIdeal.nD Cert.NormBReferenceIdeal.τ).loc Cert.NormBReferenceIdeal.main_arg7) = m ((c.tc : Thread Cert.NormBKernelIdeal.nD Cert.NormBKernelIdeal.τ).loc Cert.NormBKernelIdeal.main_arg7)
      ∧ m' ((c.tc : Thread Cert.NormBReferenceIdeal.nD Cert.NormBReferenceIdeal.τ).loc Cert.NormBReferenceIdeal.main_arg8) = m ((c.tc : Thread Cert.NormBKernelIdeal.nD Cert.NormBKernelIdeal.τ).loc Cert.NormBKernelIdeal.main_arg8)
      ∧ m' ((c.tc : Thread Cert.NormBReferenceIdeal.nD Cert.NormBReferenceIdeal.τ).loc Cert.NormBReferenceIdeal.main_arg9) = m ((c.tc : Thread Cert.NormBKernelIdeal.nD Cert.NormBKernelIdeal.τ).loc Cert.NormBKernelIdeal.main_arg9)
      ∧ m' ((c.tc : Thread Cert.NormBReferenceIdeal.nD Cert.NormBReferenceIdeal.τ).loc Cert.NormBReferenceIdeal.main_arg10) = m ((c.tc : Thread Cert.NormBKernelIdeal.nD Cert.NormBKernelIdeal.τ).loc Cert.NormBKernelIdeal.main_arg10)) →
    ∃ (v0 : (c : Dev Cert.NormBKernelIdeal.nD) → Buf (Elt Ideal) ((c.tc : Thread Cert.NormBKernelIdeal.nD Cert.NormBKernelIdeal.τ).loc Cert.NormBKernelIdeal.main_v16_0)) (v1 : (c : Dev Cert.NormBKernelIdeal.nD) → Buf (Elt Ideal) ((c.tc : Thread Cert.NormBKernelIdeal.nD Cert.NormBKernelIdeal.τ).loc Cert.NormBKernelIdeal.main_v16_1)) (v2 : (c : Dev Cert.NormBKernelIdeal.nD) → Buf (Elt Ideal) ((c.tc : Thread Cert.NormBKernelIdeal.nD Cert.NormBKernelIdeal.τ).loc Cert.NormBKernelIdeal.main_v16_2)) (v3 : (c : Dev Cert.NormBKernelIdeal.nD) → Buf (Elt Ideal) ((c.tc : Thread Cert.NormBKernelIdeal.nD Cert.NormBKernelIdeal.τ).loc Cert.NormBKernelIdeal.main_v16_3)) (v4 : (c : Dev Cert.NormBKernelIdeal.nD) → Buf (Elt Ideal) ((c.tc : Thread Cert.NormBKernelIdeal.nD Cert.NormBKernelIdeal.τ).loc Cert.NormBKernelIdeal.main_v16_4)) (v5 : (c : Dev Cert.NormBKernelIdeal.nD) → Buf (Elt Ideal) ((c.tc : Thread Cert.NormBKernelIdeal.nD Cert.NormBKernelIdeal.τ).loc Cert.NormBKernelIdeal.main_v16_5)),
      θ_run (Cert.NormBKernelIdeal.defs (F := Ideal)) (onTc (τ := Cert.NormBKernelIdeal.τ) (Cert.NormBKernelIdeal.main (F := Ideal))) ⟨m, fun _ => 0, g⟩ (fun r => ∀ c : Dev Cert.NormBKernelIdeal.nD,
          r.2.mem ((c.tc : Thread Cert.NormBKernelIdeal.nD Cert.NormBKernelIdeal.τ).loc Cert.NormBKernelIdeal.main_v16_0) = v0 c
          ∧ r.2.mem ((c.tc : Thread Cert.NormBKernelIdeal.nD Cert.NormBKernelIdeal.τ).loc Cert.NormBKernelIdeal.main_v16_1) = v1 c
          ∧ r.2.mem ((c.tc : Thread Cert.NormBKernelIdeal.nD Cert.NormBKernelIdeal.τ).loc Cert.NormBKernelIdeal.main_v16_2) = v2 c
          ∧ r.2.mem ((c.tc : Thread Cert.NormBKernelIdeal.nD Cert.NormBKernelIdeal.τ).loc Cert.NormBKernelIdeal.main_v16_3) = v3 c
          ∧ r.2.mem ((c.tc : Thread Cert.NormBKernelIdeal.nD Cert.NormBKernelIdeal.τ).loc Cert.NormBKernelIdeal.main_v16_4) = v4 c
          ∧ r.2.mem ((c.tc : Thread Cert.NormBKernelIdeal.nD Cert.NormBKernelIdeal.τ).loc Cert.NormBKernelIdeal.main_v16_5) = v5 c
          ∧ r.2.mem ((c.tc : Thread Cert.NormBKernelIdeal.nD Cert.NormBKernelIdeal.τ).loc Cert.NormBKernelIdeal.main_arg0) = m ((c.tc : Thread Cert.NormBKernelIdeal.nD Cert.NormBKernelIdeal.τ).loc Cert.NormBKernelIdeal.main_arg0)
          ∧ r.2.mem ((c.tc : Thread Cert.NormBKernelIdeal.nD Cert.NormBKernelIdeal.τ).loc Cert.NormBKernelIdeal.main_arg1) = m ((c.tc : Thread Cert.NormBKernelIdeal.nD Cert.NormBKernelIdeal.τ).loc Cert.NormBKernelIdeal.main_arg1)
          ∧ r.2.mem ((c.tc : Thread Cert.NormBKernelIdeal.nD Cert.NormBKernelIdeal.τ).loc Cert.NormBKernelIdeal.main_arg2) = m ((c.tc : Thread Cert.NormBKernelIdeal.nD Cert.NormBKernelIdeal.τ).loc Cert.NormBKernelIdeal.main_arg2)
          ∧ r.2.mem ((c.tc : Thread Cert.NormBKernelIdeal.nD Cert.NormBKernelIdeal.τ).loc Cert.NormBKernelIdeal.main_arg3) = m ((c.tc : Thread Cert.NormBKernelIdeal.nD Cert.NormBKernelIdeal.τ).loc Cert.NormBKernelIdeal.main_arg3)
          ∧ r.2.mem ((c.tc : Thread Cert.NormBKernelIdeal.nD Cert.NormBKernelIdeal.τ).loc Cert.NormBKernelIdeal.main_arg4) = m ((c.tc : Thread Cert.NormBKernelIdeal.nD Cert.NormBKernelIdeal.τ).loc Cert.NormBKernelIdeal.main_arg4)
          ∧ r.2.mem ((c.tc : Thread Cert.NormBKernelIdeal.nD Cert.NormBKernelIdeal.τ).loc Cert.NormBKernelIdeal.main_arg5) = m ((c.tc : Thread Cert.NormBKernelIdeal.nD Cert.NormBKernelIdeal.τ).loc Cert.NormBKernelIdeal.main_arg5)
          ∧ r.2.mem ((c.tc : Thread Cert.NormBKernelIdeal.nD Cert.NormBKernelIdeal.τ).loc Cert.NormBKernelIdeal.main_arg6) = m ((c.tc : Thread Cert.NormBKernelIdeal.nD Cert.NormBKernelIdeal.τ).loc Cert.NormBKernelIdeal.main_arg6)
          ∧ r.2.mem ((c.tc : Thread Cert.NormBKernelIdeal.nD Cert.NormBKernelIdeal.τ).loc Cert.NormBKernelIdeal.main_arg7) = m ((c.tc : Thread Cert.NormBKernelIdeal.nD Cert.NormBKernelIdeal.τ).loc Cert.NormBKernelIdeal.main_arg7)
          ∧ r.2.mem ((c.tc : Thread Cert.NormBKernelIdeal.nD Cert.NormBKernelIdeal.τ).loc Cert.NormBKernelIdeal.main_arg8) = m ((c.tc : Thread Cert.NormBKernelIdeal.nD Cert.NormBKernelIdeal.τ).loc Cert.NormBKernelIdeal.main_arg8)
          ∧ r.2.mem ((c.tc : Thread Cert.NormBKernelIdeal.nD Cert.NormBKernelIdeal.τ).loc Cert.NormBKernelIdeal.main_arg9) = m ((c.tc : Thread Cert.NormBKernelIdeal.nD Cert.NormBKernelIdeal.τ).loc Cert.NormBKernelIdeal.main_arg9)
          ∧ r.2.mem ((c.tc : Thread Cert.NormBKernelIdeal.nD Cert.NormBKernelIdeal.τ).loc Cert.NormBKernelIdeal.main_arg10) = m ((c.tc : Thread Cert.NormBKernelIdeal.nD Cert.NormBKernelIdeal.τ).loc Cert.NormBKernelIdeal.main_arg10))
      ∧ θ_run (Cert.NormBReferenceIdeal.defs (F := Ideal)) (onTc (τ := Cert.NormBReferenceIdeal.τ) (Cert.NormBReferenceIdeal.main (F := Ideal))) ⟨m', fun _ => 0, g'⟩ (fun r => ∀ c : Dev Cert.NormBReferenceIdeal.nD,
          r.2.mem ((c.tc : Thread Cert.NormBReferenceIdeal.nD Cert.NormBReferenceIdeal.τ).loc Cert.NormBReferenceIdeal.main_v68) = v0 c
          ∧ r.2.mem ((c.tc : Thread Cert.NormBReferenceIdeal.nD Cert.NormBReferenceIdeal.τ).loc Cert.NormBReferenceIdeal.main_v36) = v1 c
          ∧ r.2.mem ((c.tc : Thread Cert.NormBReferenceIdeal.nD Cert.NormBReferenceIdeal.τ).loc Cert.NormBReferenceIdeal.main_v39) = v2 c
          ∧ r.2.mem ((c.tc : Thread Cert.NormBReferenceIdeal.nD Cert.NormBReferenceIdeal.τ).loc Cert.NormBReferenceIdeal.main_v44) = v3 c
          ∧ r.2.mem ((c.tc : Thread Cert.NormBReferenceIdeal.nD Cert.NormBReferenceIdeal.τ).loc Cert.NormBReferenceIdeal.main_v70) = v4 c
          ∧ r.2.mem ((c.tc : Thread Cert.NormBReferenceIdeal.nD Cert.NormBReferenceIdeal.τ).loc Cert.NormBReferenceIdeal.main_v67) = v5 c
          ∧ r.2.mem ((c.tc : Thread Cert.NormBReferenceIdeal.nD Cert.NormBReferenceIdeal.τ).loc Cert.NormBReferenceIdeal.main_arg0) = m' ((c.tc : Thread Cert.NormBReferenceIdeal.nD Cert.NormBReferenceIdeal.τ).loc Cert.NormBReferenceIdeal.main_arg0)
          ∧ r.2.mem ((c.tc : Thread Cert.NormBReferenceIdeal.nD Cert.NormBReferenceIdeal.τ).loc Cert.NormBReferenceIdeal.main_arg1) = m' ((c.tc : Thread Cert.NormBReferenceIdeal.nD Cert.NormBReferenceIdeal.τ).loc Cert.NormBReferenceIdeal.main_arg1)
          ∧ r.2.mem ((c.tc : Thread Cert.NormBReferenceIdeal.nD Cert.NormBReferenceIdeal.τ).loc Cert.NormBReferenceIdeal.main_arg2) = m' ((c.tc : Thread Cert.NormBReferenceIdeal.nD Cert.NormBReferenceIdeal.τ).loc Cert.NormBReferenceIdeal.main_arg2)
          ∧ r.2.mem ((c.tc : Thread Cert.NormBReferenceIdeal.nD Cert.NormBReferenceIdeal.τ).loc Cert.NormBReferenceIdeal.main_arg3) = m' ((c.tc : Thread Cert.NormBReferenceIdeal.nD Cert.NormBReferenceIdeal.τ).loc Cert.NormBReferenceIdeal.main_arg3)
          ∧ r.2.mem ((c.tc : Thread Cert.NormBReferenceIdeal.nD Cert.NormBReferenceIdeal.τ).loc Cert.NormBReferenceIdeal.main_arg4) = m' ((c.tc : Thread Cert.NormBReferenceIdeal.nD Cert.NormBReferenceIdeal.τ).loc Cert.NormBReferenceIdeal.main_arg4)
          ∧ r.2.mem ((c.tc : Thread Cert.NormBReferenceIdeal.nD Cert.NormBReferenceIdeal.τ).loc Cert.NormBReferenceIdeal.main_arg5) = m' ((c.tc : Thread Cert.NormBReferenceIdeal.nD Cert.NormBReferenceIdeal.τ).loc Cert.NormBReferenceIdeal.main_arg5)
          ∧ r.2.mem ((c.tc : Thread Cert.NormBReferenceIdeal.nD Cert.NormBReferenceIdeal.τ).loc Cert.NormBReferenceIdeal.main_arg6) = m' ((c.tc : Thread Cert.NormBReferenceIdeal.nD Cert.NormBReferenceIdeal.τ).loc Cert.NormBReferenceIdeal.main_arg6)
          ∧ r.2.mem ((c.tc : Thread Cert.NormBReferenceIdeal.nD Cert.NormBReferenceIdeal.τ).loc Cert.NormBReferenceIdeal.main_arg7) = m' ((c.tc : Thread Cert.NormBReferenceIdeal.nD Cert.NormBReferenceIdeal.τ).loc Cert.NormBReferenceIdeal.main_arg7)
          ∧ r.2.mem ((c.tc : Thread Cert.NormBReferenceIdeal.nD Cert.NormBReferenceIdeal.τ).loc Cert.NormBReferenceIdeal.main_arg8) = m' ((c.tc : Thread Cert.NormBReferenceIdeal.nD Cert.NormBReferenceIdeal.τ).loc Cert.NormBReferenceIdeal.main_arg8)
          ∧ r.2.mem ((c.tc : Thread Cert.NormBReferenceIdeal.nD Cert.NormBReferenceIdeal.τ).loc Cert.NormBReferenceIdeal.main_arg9) = m' ((c.tc : Thread Cert.NormBReferenceIdeal.nD Cert.NormBReferenceIdeal.τ).loc Cert.NormBReferenceIdeal.main_arg9)
          ∧ r.2.mem ((c.tc : Thread Cert.NormBReferenceIdeal.nD Cert.NormBReferenceIdeal.τ).loc Cert.NormBReferenceIdeal.main_arg10) = m' ((c.tc : Thread Cert.NormBReferenceIdeal.nD Cert.NormBReferenceIdeal.τ).loc Cert.NormBReferenceIdeal.main_arg10))

def preserves_NormAKernel_NormAKernelIdeal : Prop :=
  True

def algebraic_NormAKernelIdeal_NormAReferenceIdeal_pre_finite_norm1a [hNormAKernelIdeal : Cert.NormAKernelIdeal.Facts] [hNormAReferenceIdeal : Cert.NormAReferenceIdeal.Facts] [hPre_finite_norm1a : Cert.Pre_finite_norm1a.Facts] : Prop :=
  ∀ (m : (ℓ : Loc Cert.NormAKernelIdeal.nD Cert.NormAKernelIdeal.τ Cert.NormAKernelIdeal.sig) → Buf (Elt Ideal) ℓ) (g : Dev Cert.NormAKernelIdeal.nD → PrngReg)
    (m' : (ℓ : Loc Cert.NormAReferenceIdeal.nD Cert.NormAReferenceIdeal.τ Cert.NormAReferenceIdeal.sig) → Buf (Elt Ideal) ℓ) (g' : Dev Cert.NormAReferenceIdeal.nD → PrngReg), Pre_NormAKernelIdeal_finite_norm1a m →
    (∀ c : Dev Cert.NormAKernelIdeal.nD,
      m' ((c.tc : Thread Cert.NormAReferenceIdeal.nD Cert.NormAReferenceIdeal.τ).loc Cert.NormAReferenceIdeal.main_arg0) = m ((c.tc : Thread Cert.NormAKernelIdeal.nD Cert.NormAKernelIdeal.τ).loc Cert.NormAKernelIdeal.main_arg0)
      ∧ m' ((c.tc : Thread Cert.NormAReferenceIdeal.nD Cert.NormAReferenceIdeal.τ).loc Cert.NormAReferenceIdeal.main_arg1) = m ((c.tc : Thread Cert.NormAKernelIdeal.nD Cert.NormAKernelIdeal.τ).loc Cert.NormAKernelIdeal.main_arg1)
      ∧ m' ((c.tc : Thread Cert.NormAReferenceIdeal.nD Cert.NormAReferenceIdeal.τ).loc Cert.NormAReferenceIdeal.main_arg2) = m ((c.tc : Thread Cert.NormAKernelIdeal.nD Cert.NormAKernelIdeal.τ).loc Cert.NormAKernelIdeal.main_arg2)
      ∧ m' ((c.tc : Thread Cert.NormAReferenceIdeal.nD Cert.NormAReferenceIdeal.τ).loc Cert.NormAReferenceIdeal.main_arg3) = m ((c.tc : Thread Cert.NormAKernelIdeal.nD Cert.NormAKernelIdeal.τ).loc Cert.NormAKernelIdeal.main_arg3)
      ∧ m' ((c.tc : Thread Cert.NormAReferenceIdeal.nD Cert.NormAReferenceIdeal.τ).loc Cert.NormAReferenceIdeal.main_arg4) = m ((c.tc : Thread Cert.NormAKernelIdeal.nD Cert.NormAKernelIdeal.τ).loc Cert.NormAKernelIdeal.main_arg4)
      ∧ m' ((c.tc : Thread Cert.NormAReferenceIdeal.nD Cert.NormAReferenceIdeal.τ).loc Cert.NormAReferenceIdeal.main_arg5) = m ((c.tc : Thread Cert.NormAKernelIdeal.nD Cert.NormAKernelIdeal.τ).loc Cert.NormAKernelIdeal.main_arg5)
      ∧ m' ((c.tc : Thread Cert.NormAReferenceIdeal.nD Cert.NormAReferenceIdeal.τ).loc Cert.NormAReferenceIdeal.main_arg6) = m ((c.tc : Thread Cert.NormAKernelIdeal.nD Cert.NormAKernelIdeal.τ).loc Cert.NormAKernelIdeal.main_arg6)
      ∧ m' ((c.tc : Thread Cert.NormAReferenceIdeal.nD Cert.NormAReferenceIdeal.τ).loc Cert.NormAReferenceIdeal.main_arg7) = m ((c.tc : Thread Cert.NormAKernelIdeal.nD Cert.NormAKernelIdeal.τ).loc Cert.NormAKernelIdeal.main_arg7)
      ∧ m' ((c.tc : Thread Cert.NormAReferenceIdeal.nD Cert.NormAReferenceIdeal.τ).loc Cert.NormAReferenceIdeal.main_arg8) = m ((c.tc : Thread Cert.NormAKernelIdeal.nD Cert.NormAKernelIdeal.τ).loc Cert.NormAKernelIdeal.main_arg8)) →
    ∃ (v0 : (c : Dev Cert.NormAKernelIdeal.nD) → Buf (Elt Ideal) ((c.tc : Thread Cert.NormAKernelIdeal.nD Cert.NormAKernelIdeal.τ).loc Cert.NormAKernelIdeal.main_v11_0)) (v1 : (c : Dev Cert.NormAKernelIdeal.nD) → Buf (Elt Ideal) ((c.tc : Thread Cert.NormAKernelIdeal.nD Cert.NormAKernelIdeal.τ).loc Cert.NormAKernelIdeal.main_v11_1)) (v2 : (c : Dev Cert.NormAKernelIdeal.nD) → Buf (Elt Ideal) ((c.tc : Thread Cert.NormAKernelIdeal.nD Cert.NormAKernelIdeal.τ).loc Cert.NormAKernelIdeal.main_v11_2)) (v3 : (c : Dev Cert.NormAKernelIdeal.nD) → Buf (Elt Ideal) ((c.tc : Thread Cert.NormAKernelIdeal.nD Cert.NormAKernelIdeal.τ).loc Cert.NormAKernelIdeal.main_v11_3)) (v4 : (c : Dev Cert.NormAKernelIdeal.nD) → Buf (Elt Ideal) ((c.tc : Thread Cert.NormAKernelIdeal.nD Cert.NormAKernelIdeal.τ).loc Cert.NormAKernelIdeal.main_v11_4)) (v5 : (c : Dev Cert.NormAKernelIdeal.nD) → Buf (Elt Ideal) ((c.tc : Thread Cert.NormAKernelIdeal.nD Cert.NormAKernelIdeal.τ).loc Cert.NormAKernelIdeal.main_v11_5)),
      θ_run (Cert.NormAKernelIdeal.defs (F := Ideal)) (onTc (τ := Cert.NormAKernelIdeal.τ) (Cert.NormAKernelIdeal.main (F := Ideal))) ⟨m, fun _ => 0, g⟩ (fun r => ∀ c : Dev Cert.NormAKernelIdeal.nD,
          r.2.mem ((c.tc : Thread Cert.NormAKernelIdeal.nD Cert.NormAKernelIdeal.τ).loc Cert.NormAKernelIdeal.main_v11_0) = v0 c
          ∧ r.2.mem ((c.tc : Thread Cert.NormAKernelIdeal.nD Cert.NormAKernelIdeal.τ).loc Cert.NormAKernelIdeal.main_v11_1) = v1 c
          ∧ r.2.mem ((c.tc : Thread Cert.NormAKernelIdeal.nD Cert.NormAKernelIdeal.τ).loc Cert.NormAKernelIdeal.main_v11_2) = v2 c
          ∧ r.2.mem ((c.tc : Thread Cert.NormAKernelIdeal.nD Cert.NormAKernelIdeal.τ).loc Cert.NormAKernelIdeal.main_v11_3) = v3 c
          ∧ r.2.mem ((c.tc : Thread Cert.NormAKernelIdeal.nD Cert.NormAKernelIdeal.τ).loc Cert.NormAKernelIdeal.main_v11_4) = v4 c
          ∧ r.2.mem ((c.tc : Thread Cert.NormAKernelIdeal.nD Cert.NormAKernelIdeal.τ).loc Cert.NormAKernelIdeal.main_v11_5) = v5 c
          ∧ r.2.mem ((c.tc : Thread Cert.NormAKernelIdeal.nD Cert.NormAKernelIdeal.τ).loc Cert.NormAKernelIdeal.main_arg0) = m ((c.tc : Thread Cert.NormAKernelIdeal.nD Cert.NormAKernelIdeal.τ).loc Cert.NormAKernelIdeal.main_arg0)
          ∧ r.2.mem ((c.tc : Thread Cert.NormAKernelIdeal.nD Cert.NormAKernelIdeal.τ).loc Cert.NormAKernelIdeal.main_arg1) = m ((c.tc : Thread Cert.NormAKernelIdeal.nD Cert.NormAKernelIdeal.τ).loc Cert.NormAKernelIdeal.main_arg1)
          ∧ r.2.mem ((c.tc : Thread Cert.NormAKernelIdeal.nD Cert.NormAKernelIdeal.τ).loc Cert.NormAKernelIdeal.main_arg2) = m ((c.tc : Thread Cert.NormAKernelIdeal.nD Cert.NormAKernelIdeal.τ).loc Cert.NormAKernelIdeal.main_arg2)
          ∧ r.2.mem ((c.tc : Thread Cert.NormAKernelIdeal.nD Cert.NormAKernelIdeal.τ).loc Cert.NormAKernelIdeal.main_arg3) = m ((c.tc : Thread Cert.NormAKernelIdeal.nD Cert.NormAKernelIdeal.τ).loc Cert.NormAKernelIdeal.main_arg3)
          ∧ r.2.mem ((c.tc : Thread Cert.NormAKernelIdeal.nD Cert.NormAKernelIdeal.τ).loc Cert.NormAKernelIdeal.main_arg4) = m ((c.tc : Thread Cert.NormAKernelIdeal.nD Cert.NormAKernelIdeal.τ).loc Cert.NormAKernelIdeal.main_arg4)
          ∧ r.2.mem ((c.tc : Thread Cert.NormAKernelIdeal.nD Cert.NormAKernelIdeal.τ).loc Cert.NormAKernelIdeal.main_arg5) = m ((c.tc : Thread Cert.NormAKernelIdeal.nD Cert.NormAKernelIdeal.τ).loc Cert.NormAKernelIdeal.main_arg5)
          ∧ r.2.mem ((c.tc : Thread Cert.NormAKernelIdeal.nD Cert.NormAKernelIdeal.τ).loc Cert.NormAKernelIdeal.main_arg6) = m ((c.tc : Thread Cert.NormAKernelIdeal.nD Cert.NormAKernelIdeal.τ).loc Cert.NormAKernelIdeal.main_arg6)
          ∧ r.2.mem ((c.tc : Thread Cert.NormAKernelIdeal.nD Cert.NormAKernelIdeal.τ).loc Cert.NormAKernelIdeal.main_arg7) = m ((c.tc : Thread Cert.NormAKernelIdeal.nD Cert.NormAKernelIdeal.τ).loc Cert.NormAKernelIdeal.main_arg7)
          ∧ r.2.mem ((c.tc : Thread Cert.NormAKernelIdeal.nD Cert.NormAKernelIdeal.τ).loc Cert.NormAKernelIdeal.main_arg8) = m ((c.tc : Thread Cert.NormAKernelIdeal.nD Cert.NormAKernelIdeal.τ).loc Cert.NormAKernelIdeal.main_arg8))
      ∧ θ_run (Cert.NormAReferenceIdeal.defs (F := Ideal)) (onTc (τ := Cert.NormAReferenceIdeal.τ) (Cert.NormAReferenceIdeal.main (F := Ideal))) ⟨m', fun _ => 0, g'⟩ (fun r => ∀ c : Dev Cert.NormAReferenceIdeal.nD,
          r.2.mem ((c.tc : Thread Cert.NormAReferenceIdeal.nD Cert.NormAReferenceIdeal.τ).loc Cert.NormAReferenceIdeal.main_v62) = v0 c
          ∧ r.2.mem ((c.tc : Thread Cert.NormAReferenceIdeal.nD Cert.NormAReferenceIdeal.τ).loc Cert.NormAReferenceIdeal.main_v30) = v1 c
          ∧ r.2.mem ((c.tc : Thread Cert.NormAReferenceIdeal.nD Cert.NormAReferenceIdeal.τ).loc Cert.NormAReferenceIdeal.main_v33) = v2 c
          ∧ r.2.mem ((c.tc : Thread Cert.NormAReferenceIdeal.nD Cert.NormAReferenceIdeal.τ).loc Cert.NormAReferenceIdeal.main_v38) = v3 c
          ∧ r.2.mem ((c.tc : Thread Cert.NormAReferenceIdeal.nD Cert.NormAReferenceIdeal.τ).loc Cert.NormAReferenceIdeal.main_v64) = v4 c
          ∧ r.2.mem ((c.tc : Thread Cert.NormAReferenceIdeal.nD Cert.NormAReferenceIdeal.τ).loc Cert.NormAReferenceIdeal.main_v61) = v5 c
          ∧ r.2.mem ((c.tc : Thread Cert.NormAReferenceIdeal.nD Cert.NormAReferenceIdeal.τ).loc Cert.NormAReferenceIdeal.main_arg0) = m' ((c.tc : Thread Cert.NormAReferenceIdeal.nD Cert.NormAReferenceIdeal.τ).loc Cert.NormAReferenceIdeal.main_arg0)
          ∧ r.2.mem ((c.tc : Thread Cert.NormAReferenceIdeal.nD Cert.NormAReferenceIdeal.τ).loc Cert.NormAReferenceIdeal.main_arg1) = m' ((c.tc : Thread Cert.NormAReferenceIdeal.nD Cert.NormAReferenceIdeal.τ).loc Cert.NormAReferenceIdeal.main_arg1)
          ∧ r.2.mem ((c.tc : Thread Cert.NormAReferenceIdeal.nD Cert.NormAReferenceIdeal.τ).loc Cert.NormAReferenceIdeal.main_arg2) = m' ((c.tc : Thread Cert.NormAReferenceIdeal.nD Cert.NormAReferenceIdeal.τ).loc Cert.NormAReferenceIdeal.main_arg2)
          ∧ r.2.mem ((c.tc : Thread Cert.NormAReferenceIdeal.nD Cert.NormAReferenceIdeal.τ).loc Cert.NormAReferenceIdeal.main_arg3) = m' ((c.tc : Thread Cert.NormAReferenceIdeal.nD Cert.NormAReferenceIdeal.τ).loc Cert.NormAReferenceIdeal.main_arg3)
          ∧ r.2.mem ((c.tc : Thread Cert.NormAReferenceIdeal.nD Cert.NormAReferenceIdeal.τ).loc Cert.NormAReferenceIdeal.main_arg4) = m' ((c.tc : Thread Cert.NormAReferenceIdeal.nD Cert.NormAReferenceIdeal.τ).loc Cert.NormAReferenceIdeal.main_arg4)
          ∧ r.2.mem ((c.tc : Thread Cert.NormAReferenceIdeal.nD Cert.NormAReferenceIdeal.τ).loc Cert.NormAReferenceIdeal.main_arg5) = m' ((c.tc : Thread Cert.NormAReferenceIdeal.nD Cert.NormAReferenceIdeal.τ).loc Cert.NormAReferenceIdeal.main_arg5)
          ∧ r.2.mem ((c.tc : Thread Cert.NormAReferenceIdeal.nD Cert.NormAReferenceIdeal.τ).loc Cert.NormAReferenceIdeal.main_arg6) = m' ((c.tc : Thread Cert.NormAReferenceIdeal.nD Cert.NormAReferenceIdeal.τ).loc Cert.NormAReferenceIdeal.main_arg6)
          ∧ r.2.mem ((c.tc : Thread Cert.NormAReferenceIdeal.nD Cert.NormAReferenceIdeal.τ).loc Cert.NormAReferenceIdeal.main_arg7) = m' ((c.tc : Thread Cert.NormAReferenceIdeal.nD Cert.NormAReferenceIdeal.τ).loc Cert.NormAReferenceIdeal.main_arg7)
          ∧ r.2.mem ((c.tc : Thread Cert.NormAReferenceIdeal.nD Cert.NormAReferenceIdeal.τ).loc Cert.NormAReferenceIdeal.main_arg8) = m' ((c.tc : Thread Cert.NormAReferenceIdeal.nD Cert.NormAReferenceIdeal.τ).loc Cert.NormAReferenceIdeal.main_arg8))

def preserves_NormZKernel_NormZKernelIdeal : Prop :=
  True

def algebraic_NormZKernelIdeal_NormZReferenceIdeal_pre_finite_norm0 [hNormZKernelIdeal : Cert.NormZKernelIdeal.Facts] [hNormZReferenceIdeal : Cert.NormZReferenceIdeal.Facts] [hPre_finite_norm0 : Cert.Pre_finite_norm0.Facts] : Prop :=
  ∀ (m : (ℓ : Loc Cert.NormZKernelIdeal.nD Cert.NormZKernelIdeal.τ Cert.NormZKernelIdeal.sig) → Buf (Elt Ideal) ℓ) (g : Dev Cert.NormZKernelIdeal.nD → PrngReg)
    (m' : (ℓ : Loc Cert.NormZReferenceIdeal.nD Cert.NormZReferenceIdeal.τ Cert.NormZReferenceIdeal.sig) → Buf (Elt Ideal) ℓ) (g' : Dev Cert.NormZReferenceIdeal.nD → PrngReg), Pre_NormZKernelIdeal_finite_norm0 m →
    (∀ c : Dev Cert.NormZKernelIdeal.nD,
      m' ((c.tc : Thread Cert.NormZReferenceIdeal.nD Cert.NormZReferenceIdeal.τ).loc Cert.NormZReferenceIdeal.main_arg0) = m ((c.tc : Thread Cert.NormZKernelIdeal.nD Cert.NormZKernelIdeal.τ).loc Cert.NormZKernelIdeal.main_arg0)
      ∧ m' ((c.tc : Thread Cert.NormZReferenceIdeal.nD Cert.NormZReferenceIdeal.τ).loc Cert.NormZReferenceIdeal.main_arg1) = m ((c.tc : Thread Cert.NormZKernelIdeal.nD Cert.NormZKernelIdeal.τ).loc Cert.NormZKernelIdeal.main_arg1)
      ∧ m' ((c.tc : Thread Cert.NormZReferenceIdeal.nD Cert.NormZReferenceIdeal.τ).loc Cert.NormZReferenceIdeal.main_arg2) = m ((c.tc : Thread Cert.NormZKernelIdeal.nD Cert.NormZKernelIdeal.τ).loc Cert.NormZKernelIdeal.main_arg2)
      ∧ m' ((c.tc : Thread Cert.NormZReferenceIdeal.nD Cert.NormZReferenceIdeal.τ).loc Cert.NormZReferenceIdeal.main_arg3) = m ((c.tc : Thread Cert.NormZKernelIdeal.nD Cert.NormZKernelIdeal.τ).loc Cert.NormZKernelIdeal.main_arg3)
      ∧ m' ((c.tc : Thread Cert.NormZReferenceIdeal.nD Cert.NormZReferenceIdeal.τ).loc Cert.NormZReferenceIdeal.main_arg4) = m ((c.tc : Thread Cert.NormZKernelIdeal.nD Cert.NormZKernelIdeal.τ).loc Cert.NormZKernelIdeal.main_arg4)
      ∧ m' ((c.tc : Thread Cert.NormZReferenceIdeal.nD Cert.NormZReferenceIdeal.τ).loc Cert.NormZReferenceIdeal.main_arg5) = m ((c.tc : Thread Cert.NormZKernelIdeal.nD Cert.NormZKernelIdeal.τ).loc Cert.NormZKernelIdeal.main_arg5)
      ∧ m' ((c.tc : Thread Cert.NormZReferenceIdeal.nD Cert.NormZReferenceIdeal.τ).loc Cert.NormZReferenceIdeal.main_arg6) = m ((c.tc : Thread Cert.NormZKernelIdeal.nD Cert.NormZKernelIdeal.τ).loc Cert.NormZKernelIdeal.main_arg6)) →
    ∃ (v0 : (c : Dev Cert.NormZKernelIdeal.nD) → Buf (Elt Ideal) ((c.tc : Thread Cert.NormZKernelIdeal.nD Cert.NormZKernelIdeal.τ).loc Cert.NormZKernelIdeal.main_v6_0)) (v1 : (c : Dev Cert.NormZKernelIdeal.nD) → Buf (Elt Ideal) ((c.tc : Thread Cert.NormZKernelIdeal.nD Cert.NormZKernelIdeal.τ).loc Cert.NormZKernelIdeal.main_v6_1)) (v2 : (c : Dev Cert.NormZKernelIdeal.nD) → Buf (Elt Ideal) ((c.tc : Thread Cert.NormZKernelIdeal.nD Cert.NormZKernelIdeal.τ).loc Cert.NormZKernelIdeal.main_v6_2)) (v3 : (c : Dev Cert.NormZKernelIdeal.nD) → Buf (Elt Ideal) ((c.tc : Thread Cert.NormZKernelIdeal.nD Cert.NormZKernelIdeal.τ).loc Cert.NormZKernelIdeal.main_v6_3)),
      θ_run (Cert.NormZKernelIdeal.defs (F := Ideal)) (onTc (τ := Cert.NormZKernelIdeal.τ) (Cert.NormZKernelIdeal.main (F := Ideal))) ⟨m, fun _ => 0, g⟩ (fun r => ∀ c : Dev Cert.NormZKernelIdeal.nD,
          r.2.mem ((c.tc : Thread Cert.NormZKernelIdeal.nD Cert.NormZKernelIdeal.τ).loc Cert.NormZKernelIdeal.main_v6_0) = v0 c
          ∧ r.2.mem ((c.tc : Thread Cert.NormZKernelIdeal.nD Cert.NormZKernelIdeal.τ).loc Cert.NormZKernelIdeal.main_v6_1) = v1 c
          ∧ r.2.mem ((c.tc : Thread Cert.NormZKernelIdeal.nD Cert.NormZKernelIdeal.τ).loc Cert.NormZKernelIdeal.main_v6_2) = v2 c
          ∧ r.2.mem ((c.tc : Thread Cert.NormZKernelIdeal.nD Cert.NormZKernelIdeal.τ).loc Cert.NormZKernelIdeal.main_v6_3) = v3 c
          ∧ r.2.mem ((c.tc : Thread Cert.NormZKernelIdeal.nD Cert.NormZKernelIdeal.τ).loc Cert.NormZKernelIdeal.main_arg0) = m ((c.tc : Thread Cert.NormZKernelIdeal.nD Cert.NormZKernelIdeal.τ).loc Cert.NormZKernelIdeal.main_arg0)
          ∧ r.2.mem ((c.tc : Thread Cert.NormZKernelIdeal.nD Cert.NormZKernelIdeal.τ).loc Cert.NormZKernelIdeal.main_arg1) = m ((c.tc : Thread Cert.NormZKernelIdeal.nD Cert.NormZKernelIdeal.τ).loc Cert.NormZKernelIdeal.main_arg1)
          ∧ r.2.mem ((c.tc : Thread Cert.NormZKernelIdeal.nD Cert.NormZKernelIdeal.τ).loc Cert.NormZKernelIdeal.main_arg2) = m ((c.tc : Thread Cert.NormZKernelIdeal.nD Cert.NormZKernelIdeal.τ).loc Cert.NormZKernelIdeal.main_arg2)
          ∧ r.2.mem ((c.tc : Thread Cert.NormZKernelIdeal.nD Cert.NormZKernelIdeal.τ).loc Cert.NormZKernelIdeal.main_arg3) = m ((c.tc : Thread Cert.NormZKernelIdeal.nD Cert.NormZKernelIdeal.τ).loc Cert.NormZKernelIdeal.main_arg3)
          ∧ r.2.mem ((c.tc : Thread Cert.NormZKernelIdeal.nD Cert.NormZKernelIdeal.τ).loc Cert.NormZKernelIdeal.main_arg4) = m ((c.tc : Thread Cert.NormZKernelIdeal.nD Cert.NormZKernelIdeal.τ).loc Cert.NormZKernelIdeal.main_arg4)
          ∧ r.2.mem ((c.tc : Thread Cert.NormZKernelIdeal.nD Cert.NormZKernelIdeal.τ).loc Cert.NormZKernelIdeal.main_arg5) = m ((c.tc : Thread Cert.NormZKernelIdeal.nD Cert.NormZKernelIdeal.τ).loc Cert.NormZKernelIdeal.main_arg5)
          ∧ r.2.mem ((c.tc : Thread Cert.NormZKernelIdeal.nD Cert.NormZKernelIdeal.τ).loc Cert.NormZKernelIdeal.main_arg6) = m ((c.tc : Thread Cert.NormZKernelIdeal.nD Cert.NormZKernelIdeal.τ).loc Cert.NormZKernelIdeal.main_arg6))
      ∧ θ_run (Cert.NormZReferenceIdeal.defs (F := Ideal)) (onTc (τ := Cert.NormZReferenceIdeal.τ) (Cert.NormZReferenceIdeal.main (F := Ideal))) ⟨m', fun _ => 0, g'⟩ (fun r => ∀ c : Dev Cert.NormZReferenceIdeal.nD,
          r.2.mem ((c.tc : Thread Cert.NormZReferenceIdeal.nD Cert.NormZReferenceIdeal.τ).loc Cert.NormZReferenceIdeal.main_v52) = v0 c
          ∧ r.2.mem ((c.tc : Thread Cert.NormZReferenceIdeal.nD Cert.NormZReferenceIdeal.τ).loc Cert.NormZReferenceIdeal.main_v26) = v1 c
          ∧ r.2.mem ((c.tc : Thread Cert.NormZReferenceIdeal.nD Cert.NormZReferenceIdeal.τ).loc Cert.NormZReferenceIdeal.main_v29) = v2 c
          ∧ r.2.mem ((c.tc : Thread Cert.NormZReferenceIdeal.nD Cert.NormZReferenceIdeal.τ).loc Cert.NormZReferenceIdeal.main_v34) = v3 c
          ∧ r.2.mem ((c.tc : Thread Cert.NormZReferenceIdeal.nD Cert.NormZReferenceIdeal.τ).loc Cert.NormZReferenceIdeal.main_arg0) = m' ((c.tc : Thread Cert.NormZReferenceIdeal.nD Cert.NormZReferenceIdeal.τ).loc Cert.NormZReferenceIdeal.main_arg0)
          ∧ r.2.mem ((c.tc : Thread Cert.NormZReferenceIdeal.nD Cert.NormZReferenceIdeal.τ).loc Cert.NormZReferenceIdeal.main_arg1) = m' ((c.tc : Thread Cert.NormZReferenceIdeal.nD Cert.NormZReferenceIdeal.τ).loc Cert.NormZReferenceIdeal.main_arg1)
          ∧ r.2.mem ((c.tc : Thread Cert.NormZReferenceIdeal.nD Cert.NormZReferenceIdeal.τ).loc Cert.NormZReferenceIdeal.main_arg2) = m' ((c.tc : Thread Cert.NormZReferenceIdeal.nD Cert.NormZReferenceIdeal.τ).loc Cert.NormZReferenceIdeal.main_arg2)
          ∧ r.2.mem ((c.tc : Thread Cert.NormZReferenceIdeal.nD Cert.NormZReferenceIdeal.τ).loc Cert.NormZReferenceIdeal.main_arg3) = m' ((c.tc : Thread Cert.NormZReferenceIdeal.nD Cert.NormZReferenceIdeal.τ).loc Cert.NormZReferenceIdeal.main_arg3)
          ∧ r.2.mem ((c.tc : Thread Cert.NormZReferenceIdeal.nD Cert.NormZReferenceIdeal.τ).loc Cert.NormZReferenceIdeal.main_arg4) = m' ((c.tc : Thread Cert.NormZReferenceIdeal.nD Cert.NormZReferenceIdeal.τ).loc Cert.NormZReferenceIdeal.main_arg4)
          ∧ r.2.mem ((c.tc : Thread Cert.NormZReferenceIdeal.nD Cert.NormZReferenceIdeal.τ).loc Cert.NormZReferenceIdeal.main_arg5) = m' ((c.tc : Thread Cert.NormZReferenceIdeal.nD Cert.NormZReferenceIdeal.τ).loc Cert.NormZReferenceIdeal.main_arg5)
          ∧ r.2.mem ((c.tc : Thread Cert.NormZReferenceIdeal.nD Cert.NormZReferenceIdeal.τ).loc Cert.NormZReferenceIdeal.main_arg6) = m' ((c.tc : Thread Cert.NormZReferenceIdeal.nD Cert.NormZReferenceIdeal.τ).loc Cert.NormZReferenceIdeal.main_arg6))

def preserves_QkKernel_QkKernelIdeal : Prop :=
  True

def preserves_SwaKernel_SwaKernelIdeal : Prop :=
  True

def preserves_UnitKernel_UnitKernelIdeal : Prop :=
  True

def algebraic_UnitKernelIdeal_UnitReferenceIdeal [hUnitKernelIdeal : Cert.UnitKernelIdeal.Facts] [hUnitReferenceIdeal : Cert.UnitReferenceIdeal.Facts] : Prop :=
  ∀ (m : (ℓ : Loc Cert.UnitKernelIdeal.nD Cert.UnitKernelIdeal.τ Cert.UnitKernelIdeal.sig) → Buf (Elt Ideal) ℓ) (g : Dev Cert.UnitKernelIdeal.nD → PrngReg)
    (m' : (ℓ : Loc Cert.UnitReferenceIdeal.nD Cert.UnitReferenceIdeal.τ Cert.UnitReferenceIdeal.sig) → Buf (Elt Ideal) ℓ) (g' : Dev Cert.UnitReferenceIdeal.nD → PrngReg), Pre_UnitKernelIdeal m →
    (∀ c : Dev Cert.UnitKernelIdeal.nD,
      m' ((c.tc : Thread Cert.UnitReferenceIdeal.nD Cert.UnitReferenceIdeal.τ).loc Cert.UnitReferenceIdeal.main_arg0) = m ((c.tc : Thread Cert.UnitKernelIdeal.nD Cert.UnitKernelIdeal.τ).loc Cert.UnitKernelIdeal.main_arg0)
      ∧ m' ((c.tc : Thread Cert.UnitReferenceIdeal.nD Cert.UnitReferenceIdeal.τ).loc Cert.UnitReferenceIdeal.main_arg1) = m ((c.tc : Thread Cert.UnitKernelIdeal.nD Cert.UnitKernelIdeal.τ).loc Cert.UnitKernelIdeal.main_arg1)
      ∧ m' ((c.tc : Thread Cert.UnitReferenceIdeal.nD Cert.UnitReferenceIdeal.τ).loc Cert.UnitReferenceIdeal.main_arg2) = m ((c.tc : Thread Cert.UnitKernelIdeal.nD Cert.UnitKernelIdeal.τ).loc Cert.UnitKernelIdeal.main_arg2)) →
    ∃ (v0 : (c : Dev Cert.UnitKernelIdeal.nD) → Buf (Elt Ideal) ((c.tc : Thread Cert.UnitKernelIdeal.nD Cert.UnitKernelIdeal.τ).loc Cert.UnitKernelIdeal.main_v5_0)) (v1 : (c : Dev Cert.UnitKernelIdeal.nD) → Buf (Elt Ideal) ((c.tc : Thread Cert.UnitKernelIdeal.nD Cert.UnitKernelIdeal.τ).loc Cert.UnitKernelIdeal.main_v5_1)) (v2 : (c : Dev Cert.UnitKernelIdeal.nD) → Buf (Elt Ideal) ((c.tc : Thread Cert.UnitKernelIdeal.nD Cert.UnitKernelIdeal.τ).loc Cert.UnitKernelIdeal.main_v5_2)),
      θ_run (Cert.UnitKernelIdeal.defs (F := Ideal)) (onTc (τ := Cert.UnitKernelIdeal.τ) (Cert.UnitKernelIdeal.main (F := Ideal))) ⟨m, fun _ => 0, g⟩ (fun r => ∀ c : Dev Cert.UnitKernelIdeal.nD,
          r.2.mem ((c.tc : Thread Cert.UnitKernelIdeal.nD Cert.UnitKernelIdeal.τ).loc Cert.UnitKernelIdeal.main_v5_0) = v0 c
          ∧ r.2.mem ((c.tc : Thread Cert.UnitKernelIdeal.nD Cert.UnitKernelIdeal.τ).loc Cert.UnitKernelIdeal.main_v5_1) = v1 c
          ∧ r.2.mem ((c.tc : Thread Cert.UnitKernelIdeal.nD Cert.UnitKernelIdeal.τ).loc Cert.UnitKernelIdeal.main_v5_2) = v2 c
          ∧ r.2.mem ((c.tc : Thread Cert.UnitKernelIdeal.nD Cert.UnitKernelIdeal.τ).loc Cert.UnitKernelIdeal.main_arg0) = m ((c.tc : Thread Cert.UnitKernelIdeal.nD Cert.UnitKernelIdeal.τ).loc Cert.UnitKernelIdeal.main_arg0)
          ∧ r.2.mem ((c.tc : Thread Cert.UnitKernelIdeal.nD Cert.UnitKernelIdeal.τ).loc Cert.UnitKernelIdeal.main_arg1) = m ((c.tc : Thread Cert.UnitKernelIdeal.nD Cert.UnitKernelIdeal.τ).loc Cert.UnitKernelIdeal.main_arg1)
          ∧ r.2.mem ((c.tc : Thread Cert.UnitKernelIdeal.nD Cert.UnitKernelIdeal.τ).loc Cert.UnitKernelIdeal.main_arg2) = m ((c.tc : Thread Cert.UnitKernelIdeal.nD Cert.UnitKernelIdeal.τ).loc Cert.UnitKernelIdeal.main_arg2))
      ∧ θ_run (Cert.UnitReferenceIdeal.defs (F := Ideal)) (onTc (τ := Cert.UnitReferenceIdeal.τ) (Cert.UnitReferenceIdeal.main (F := Ideal))) ⟨m', fun _ => 0, g'⟩ (fun r => ∀ c : Dev Cert.UnitReferenceIdeal.nD,
          r.2.mem ((c.tc : Thread Cert.UnitReferenceIdeal.nD Cert.UnitReferenceIdeal.τ).loc Cert.UnitReferenceIdeal.main_v6) = v0 c
          ∧ r.2.mem ((c.tc : Thread Cert.UnitReferenceIdeal.nD Cert.UnitReferenceIdeal.τ).loc Cert.UnitReferenceIdeal.main_v8) = v1 c
          ∧ r.2.mem ((c.tc : Thread Cert.UnitReferenceIdeal.nD Cert.UnitReferenceIdeal.τ).loc Cert.UnitReferenceIdeal.main_v10) = v2 c
          ∧ r.2.mem ((c.tc : Thread Cert.UnitReferenceIdeal.nD Cert.UnitReferenceIdeal.τ).loc Cert.UnitReferenceIdeal.main_arg0) = m' ((c.tc : Thread Cert.UnitReferenceIdeal.nD Cert.UnitReferenceIdeal.τ).loc Cert.UnitReferenceIdeal.main_arg0)
          ∧ r.2.mem ((c.tc : Thread Cert.UnitReferenceIdeal.nD Cert.UnitReferenceIdeal.τ).loc Cert.UnitReferenceIdeal.main_arg1) = m' ((c.tc : Thread Cert.UnitReferenceIdeal.nD Cert.UnitReferenceIdeal.τ).loc Cert.UnitReferenceIdeal.main_arg1)
          ∧ r.2.mem ((c.tc : Thread Cert.UnitReferenceIdeal.nD Cert.UnitReferenceIdeal.τ).loc Cert.UnitReferenceIdeal.main_arg2) = m' ((c.tc : Thread Cert.UnitReferenceIdeal.nD Cert.UnitReferenceIdeal.τ).loc Cert.UnitReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v4_0)) (v1 : (c : Dev Cert.OutKernelIdeal.nD) → Buf (Elt Ideal) ((c.tc : Thread Cert.OutKernelIdeal.nD Cert.OutKernelIdeal.τ).loc Cert.OutKernelIdeal.main_v4_1)) (v2 : (c : Dev Cert.OutKernelIdeal.nD) → Buf (Elt Ideal) ((c.tc : Thread Cert.OutKernelIdeal.nD Cert.OutKernelIdeal.τ).loc Cert.OutKernelIdeal.main_v4_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v4_0) = v0 c
          ∧ r.2.mem ((c.tc : Thread Cert.OutKernelIdeal.nD Cert.OutKernelIdeal.τ).loc Cert.OutKernelIdeal.main_v4_1) = v1 c
          ∧ r.2.mem ((c.tc : Thread Cert.OutKernelIdeal.nD Cert.OutKernelIdeal.τ).loc Cert.OutKernelIdeal.main_v4_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_v7) = v1 c
          ∧ r.2.mem ((c.tc : Thread Cert.OutReferenceIdeal.nD Cert.OutReferenceIdeal.τ).loc Cert.OutReferenceIdeal.main_v28) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_OutAKernel_OutAKernelIdeal : Prop :=
  True

def algebraic_OutAKernelIdeal_OutAReferenceIdeal [hOutAKernelIdeal : Cert.OutAKernelIdeal.Facts] [hOutAReferenceIdeal : Cert.OutAReferenceIdeal.Facts] : Prop :=
  ∀ (m : (ℓ : Loc Cert.OutAKernelIdeal.nD Cert.OutAKernelIdeal.τ Cert.OutAKernelIdeal.sig) → Buf (Elt Ideal) ℓ) (g : Dev Cert.OutAKernelIdeal.nD → PrngReg)
    (m' : (ℓ : Loc Cert.OutAReferenceIdeal.nD Cert.OutAReferenceIdeal.τ Cert.OutAReferenceIdeal.sig) → Buf (Elt Ideal) ℓ) (g' : Dev Cert.OutAReferenceIdeal.nD → PrngReg), Pre_OutAKernelIdeal m →
    (∀ c : Dev Cert.OutAKernelIdeal.nD,
      m' ((c.tc : Thread Cert.OutAReferenceIdeal.nD Cert.OutAReferenceIdeal.τ).loc Cert.OutAReferenceIdeal.main_arg0) = m ((c.tc : Thread Cert.OutAKernelIdeal.nD Cert.OutAKernelIdeal.τ).loc Cert.OutAKernelIdeal.main_arg0)
      ∧ m' ((c.tc : Thread Cert.OutAReferenceIdeal.nD Cert.OutAReferenceIdeal.τ).loc Cert.OutAReferenceIdeal.main_arg1) = m ((c.tc : Thread Cert.OutAKernelIdeal.nD Cert.OutAKernelIdeal.τ).loc Cert.OutAKernelIdeal.main_arg1)
      ∧ m' ((c.tc : Thread Cert.OutAReferenceIdeal.nD Cert.OutAReferenceIdeal.τ).loc Cert.OutAReferenceIdeal.main_arg2) = m ((c.tc : Thread Cert.OutAKernelIdeal.nD Cert.OutAKernelIdeal.τ).loc Cert.OutAKernelIdeal.main_arg2)
      ∧ m' ((c.tc : Thread Cert.OutAReferenceIdeal.nD Cert.OutAReferenceIdeal.τ).loc Cert.OutAReferenceIdeal.main_arg3) = m ((c.tc : Thread Cert.OutAKernelIdeal.nD Cert.OutAKernelIdeal.τ).loc Cert.OutAKernelIdeal.main_arg3)
      ∧ m' ((c.tc : Thread Cert.OutAReferenceIdeal.nD Cert.OutAReferenceIdeal.τ).loc Cert.OutAReferenceIdeal.main_arg4) = m ((c.tc : Thread Cert.OutAKernelIdeal.nD Cert.OutAKernelIdeal.τ).loc Cert.OutAKernelIdeal.main_arg4)
      ∧ m' ((c.tc : Thread Cert.OutAReferenceIdeal.nD Cert.OutAReferenceIdeal.τ).loc Cert.OutAReferenceIdeal.main_arg5) = m ((c.tc : Thread Cert.OutAKernelIdeal.nD Cert.OutAKernelIdeal.τ).loc Cert.OutAKernelIdeal.main_arg5)
      ∧ m' ((c.tc : Thread Cert.OutAReferenceIdeal.nD Cert.OutAReferenceIdeal.τ).loc Cert.OutAReferenceIdeal.main_arg6) = m ((c.tc : Thread Cert.OutAKernelIdeal.nD Cert.OutAKernelIdeal.τ).loc Cert.OutAKernelIdeal.main_arg6)) →
    ∃ (v0 : (c : Dev Cert.OutAKernelIdeal.nD) → Buf (Elt Ideal) ((c.tc : Thread Cert.OutAKernelIdeal.nD Cert.OutAKernelIdeal.τ).loc Cert.OutAKernelIdeal.main_v4_0)) (v1 : (c : Dev Cert.OutAKernelIdeal.nD) → Buf (Elt Ideal) ((c.tc : Thread Cert.OutAKernelIdeal.nD Cert.OutAKernelIdeal.τ).loc Cert.OutAKernelIdeal.main_v4_1)) (v2 : (c : Dev Cert.OutAKernelIdeal.nD) → Buf (Elt Ideal) ((c.tc : Thread Cert.OutAKernelIdeal.nD Cert.OutAKernelIdeal.τ).loc Cert.OutAKernelIdeal.main_v4_2)),
      θ_run (Cert.OutAKernelIdeal.defs (F := Ideal)) (onTc (τ := Cert.OutAKernelIdeal.τ) (Cert.OutAKernelIdeal.main (F := Ideal))) ⟨m, fun _ => 0, g⟩ (fun r => ∀ c : Dev Cert.OutAKernelIdeal.nD,
          r.2.mem ((c.tc : Thread Cert.OutAKernelIdeal.nD Cert.OutAKernelIdeal.τ).loc Cert.OutAKernelIdeal.main_v4_0) = v0 c
          ∧ r.2.mem ((c.tc : Thread Cert.OutAKernelIdeal.nD Cert.OutAKernelIdeal.τ).loc Cert.OutAKernelIdeal.main_v4_1) = v1 c
          ∧ r.2.mem ((c.tc : Thread Cert.OutAKernelIdeal.nD Cert.OutAKernelIdeal.τ).loc Cert.OutAKernelIdeal.main_v4_2) = v2 c
          ∧ r.2.mem ((c.tc : Thread Cert.OutAKernelIdeal.nD Cert.OutAKernelIdeal.τ).loc Cert.OutAKernelIdeal.main_arg0) = m ((c.tc : Thread Cert.OutAKernelIdeal.nD Cert.OutAKernelIdeal.τ).loc Cert.OutAKernelIdeal.main_arg0)
          ∧ r.2.mem ((c.tc : Thread Cert.OutAKernelIdeal.nD Cert.OutAKernelIdeal.τ).loc Cert.OutAKernelIdeal.main_arg1) = m ((c.tc : Thread Cert.OutAKernelIdeal.nD Cert.OutAKernelIdeal.τ).loc Cert.OutAKernelIdeal.main_arg1)
          ∧ r.2.mem ((c.tc : Thread Cert.OutAKernelIdeal.nD Cert.OutAKernelIdeal.τ).loc Cert.OutAKernelIdeal.main_arg2) = m ((c.tc : Thread Cert.OutAKernelIdeal.nD Cert.OutAKernelIdeal.τ).loc Cert.OutAKernelIdeal.main_arg2)
          ∧ r.2.mem ((c.tc : Thread Cert.OutAKernelIdeal.nD Cert.OutAKernelIdeal.τ).loc Cert.OutAKernelIdeal.main_arg3) = m ((c.tc : Thread Cert.OutAKernelIdeal.nD Cert.OutAKernelIdeal.τ).loc Cert.OutAKernelIdeal.main_arg3)
          ∧ r.2.mem ((c.tc : Thread Cert.OutAKernelIdeal.nD Cert.OutAKernelIdeal.τ).loc Cert.OutAKernelIdeal.main_arg4) = m ((c.tc : Thread Cert.OutAKernelIdeal.nD Cert.OutAKernelIdeal.τ).loc Cert.OutAKernelIdeal.main_arg4)
          ∧ r.2.mem ((c.tc : Thread Cert.OutAKernelIdeal.nD Cert.OutAKernelIdeal.τ).loc Cert.OutAKernelIdeal.main_arg5) = m ((c.tc : Thread Cert.OutAKernelIdeal.nD Cert.OutAKernelIdeal.τ).loc Cert.OutAKernelIdeal.main_arg5)
          ∧ r.2.mem ((c.tc : Thread Cert.OutAKernelIdeal.nD Cert.OutAKernelIdeal.τ).loc Cert.OutAKernelIdeal.main_arg6) = m ((c.tc : Thread Cert.OutAKernelIdeal.nD Cert.OutAKernelIdeal.τ).loc Cert.OutAKernelIdeal.main_arg6))
      ∧ θ_run (Cert.OutAReferenceIdeal.defs (F := Ideal)) (onTc (τ := Cert.OutAReferenceIdeal.τ) (Cert.OutAReferenceIdeal.main (F := Ideal))) ⟨m', fun _ => 0, g'⟩ (fun r => ∀ c : Dev Cert.OutAReferenceIdeal.nD,
          r.2.mem ((c.tc : Thread Cert.OutAReferenceIdeal.nD Cert.OutAReferenceIdeal.τ).loc Cert.OutAReferenceIdeal.main_v6) = v0 c
          ∧ r.2.mem ((c.tc : Thread Cert.OutAReferenceIdeal.nD Cert.OutAReferenceIdeal.τ).loc Cert.OutAReferenceIdeal.main_v7) = v1 c
          ∧ r.2.mem ((c.tc : Thread Cert.OutAReferenceIdeal.nD Cert.OutAReferenceIdeal.τ).loc Cert.OutAReferenceIdeal.main_v28) = v2 c
          ∧ r.2.mem ((c.tc : Thread Cert.OutAReferenceIdeal.nD Cert.OutAReferenceIdeal.τ).loc Cert.OutAReferenceIdeal.main_arg0) = m' ((c.tc : Thread Cert.OutAReferenceIdeal.nD Cert.OutAReferenceIdeal.τ).loc Cert.OutAReferenceIdeal.main_arg0)
          ∧ r.2.mem ((c.tc : Thread Cert.OutAReferenceIdeal.nD Cert.OutAReferenceIdeal.τ).loc Cert.OutAReferenceIdeal.main_arg1) = m' ((c.tc : Thread Cert.OutAReferenceIdeal.nD Cert.OutAReferenceIdeal.τ).loc Cert.OutAReferenceIdeal.main_arg1)
          ∧ r.2.mem ((c.tc : Thread Cert.OutAReferenceIdeal.nD Cert.OutAReferenceIdeal.τ).loc Cert.OutAReferenceIdeal.main_arg2) = m' ((c.tc : Thread Cert.OutAReferenceIdeal.nD Cert.OutAReferenceIdeal.τ).loc Cert.OutAReferenceIdeal.main_arg2)
          ∧ r.2.mem ((c.tc : Thread Cert.OutAReferenceIdeal.nD Cert.OutAReferenceIdeal.τ).loc Cert.OutAReferenceIdeal.main_arg3) = m' ((c.tc : Thread Cert.OutAReferenceIdeal.nD Cert.OutAReferenceIdeal.τ).loc Cert.OutAReferenceIdeal.main_arg3)
          ∧ r.2.mem ((c.tc : Thread Cert.OutAReferenceIdeal.nD Cert.OutAReferenceIdeal.τ).loc Cert.OutAReferenceIdeal.main_arg4) = m' ((c.tc : Thread Cert.OutAReferenceIdeal.nD Cert.OutAReferenceIdeal.τ).loc Cert.OutAReferenceIdeal.main_arg4)
          ∧ r.2.mem ((c.tc : Thread Cert.OutAReferenceIdeal.nD Cert.OutAReferenceIdeal.τ).loc Cert.OutAReferenceIdeal.main_arg5) = m' ((c.tc : Thread Cert.OutAReferenceIdeal.nD Cert.OutAReferenceIdeal.τ).loc Cert.OutAReferenceIdeal.main_arg5)
          ∧ r.2.mem ((c.tc : Thread Cert.OutAReferenceIdeal.nD Cert.OutAReferenceIdeal.τ).loc Cert.OutAReferenceIdeal.main_arg6) = m' ((c.tc : Thread Cert.OutAReferenceIdeal.nD Cert.OutAReferenceIdeal.τ).loc Cert.OutAReferenceIdeal.main_arg6))

def preserves_TopKernel_TopKernelIdeal : Prop :=
  True

def algebraic_TopKernelIdeal_TopReferenceIdeal [hTopKernelIdeal : Cert.TopKernelIdeal.Facts] [hTopReferenceIdeal : Cert.TopReferenceIdeal.Facts] : Prop :=
  ∀ (m : (ℓ : Loc Cert.TopKernelIdeal.nD Cert.TopKernelIdeal.τ Cert.TopKernelIdeal.sig) → Buf (Elt Ideal) ℓ) (g : Dev Cert.TopKernelIdeal.nD → PrngReg)
    (m' : (ℓ : Loc Cert.TopReferenceIdeal.nD Cert.TopReferenceIdeal.τ Cert.TopReferenceIdeal.sig) → Buf (Elt Ideal) ℓ) (g' : Dev Cert.TopReferenceIdeal.nD → PrngReg), Pre_TopKernelIdeal m →
    (∀ c : Dev Cert.TopKernelIdeal.nD,
      m' ((c.tc : Thread Cert.TopReferenceIdeal.nD Cert.TopReferenceIdeal.τ).loc Cert.TopReferenceIdeal.main_arg0) = m ((c.tc : Thread Cert.TopKernelIdeal.nD Cert.TopKernelIdeal.τ).loc Cert.TopKernelIdeal.main_arg0)
      ∧ m' ((c.tc : Thread Cert.TopReferenceIdeal.nD Cert.TopReferenceIdeal.τ).loc Cert.TopReferenceIdeal.main_arg1) = m ((c.tc : Thread Cert.TopKernelIdeal.nD Cert.TopKernelIdeal.τ).loc Cert.TopKernelIdeal.main_arg1)
      ∧ m' ((c.tc : Thread Cert.TopReferenceIdeal.nD Cert.TopReferenceIdeal.τ).loc Cert.TopReferenceIdeal.main_arg2) = m ((c.tc : Thread Cert.TopKernelIdeal.nD Cert.TopKernelIdeal.τ).loc Cert.TopKernelIdeal.main_arg2)
      ∧ m' ((c.tc : Thread Cert.TopReferenceIdeal.nD Cert.TopReferenceIdeal.τ).loc Cert.TopReferenceIdeal.main_arg3) = m ((c.tc : Thread Cert.TopKernelIdeal.nD Cert.TopKernelIdeal.τ).loc Cert.TopKernelIdeal.main_arg3)) →
    ∃ (v0 : (c : Dev Cert.TopKernelIdeal.nD) → Buf (Elt Ideal) ((c.tc : Thread Cert.TopKernelIdeal.nD Cert.TopKernelIdeal.τ).loc Cert.TopKernelIdeal.main_v3_0)) (v1 : (c : Dev Cert.TopKernelIdeal.nD) → Buf (Elt Ideal) ((c.tc : Thread Cert.TopKernelIdeal.nD Cert.TopKernelIdeal.τ).loc Cert.TopKernelIdeal.main_v3_1)),
      θ_run (Cert.TopKernelIdeal.defs (F := Ideal)) (onTc (τ := Cert.TopKernelIdeal.τ) (Cert.TopKernelIdeal.main (F := Ideal))) ⟨m, fun _ => 0, g⟩ (fun r => ∀ c : Dev Cert.TopKernelIdeal.nD,
          r.2.mem ((c.tc : Thread Cert.TopKernelIdeal.nD Cert.TopKernelIdeal.τ).loc Cert.TopKernelIdeal.main_v3_0) = v0 c
          ∧ r.2.mem ((c.tc : Thread Cert.TopKernelIdeal.nD Cert.TopKernelIdeal.τ).loc Cert.TopKernelIdeal.main_v3_1) = v1 c
          ∧ r.2.mem ((c.tc : Thread Cert.TopKernelIdeal.nD Cert.TopKernelIdeal.τ).loc Cert.TopKernelIdeal.main_arg0) = m ((c.tc : Thread Cert.TopKernelIdeal.nD Cert.TopKernelIdeal.τ).loc Cert.TopKernelIdeal.main_arg0)
          ∧ r.2.mem ((c.tc : Thread Cert.TopKernelIdeal.nD Cert.TopKernelIdeal.τ).loc Cert.TopKernelIdeal.main_arg1) = m ((c.tc : Thread Cert.TopKernelIdeal.nD Cert.TopKernelIdeal.τ).loc Cert.TopKernelIdeal.main_arg1)
          ∧ r.2.mem ((c.tc : Thread Cert.TopKernelIdeal.nD Cert.TopKernelIdeal.τ).loc Cert.TopKernelIdeal.main_arg2) = m ((c.tc : Thread Cert.TopKernelIdeal.nD Cert.TopKernelIdeal.τ).loc Cert.TopKernelIdeal.main_arg2)
          ∧ r.2.mem ((c.tc : Thread Cert.TopKernelIdeal.nD Cert.TopKernelIdeal.τ).loc Cert.TopKernelIdeal.main_arg3) = m ((c.tc : Thread Cert.TopKernelIdeal.nD Cert.TopKernelIdeal.τ).loc Cert.TopKernelIdeal.main_arg3))
      ∧ θ_run (Cert.TopReferenceIdeal.defs (F := Ideal)) (onTc (τ := Cert.TopReferenceIdeal.τ) (Cert.TopReferenceIdeal.main (F := Ideal))) ⟨m', fun _ => 0, g'⟩ (fun r => ∀ c : Dev Cert.TopReferenceIdeal.nD,
          r.2.mem ((c.tc : Thread Cert.TopReferenceIdeal.nD Cert.TopReferenceIdeal.τ).loc Cert.TopReferenceIdeal.main_v3) = v0 c
          ∧ r.2.mem ((c.tc : Thread Cert.TopReferenceIdeal.nD Cert.TopReferenceIdeal.τ).loc Cert.TopReferenceIdeal.main_v7) = v1 c
          ∧ r.2.mem ((c.tc : Thread Cert.TopReferenceIdeal.nD Cert.TopReferenceIdeal.τ).loc Cert.TopReferenceIdeal.main_arg0) = m' ((c.tc : Thread Cert.TopReferenceIdeal.nD Cert.TopReferenceIdeal.τ).loc Cert.TopReferenceIdeal.main_arg0)
          ∧ r.2.mem ((c.tc : Thread Cert.TopReferenceIdeal.nD Cert.TopReferenceIdeal.τ).loc Cert.TopReferenceIdeal.main_arg1) = m' ((c.tc : Thread Cert.TopReferenceIdeal.nD Cert.TopReferenceIdeal.τ).loc Cert.TopReferenceIdeal.main_arg1)
          ∧ r.2.mem ((c.tc : Thread Cert.TopReferenceIdeal.nD Cert.TopReferenceIdeal.τ).loc Cert.TopReferenceIdeal.main_arg2) = m' ((c.tc : Thread Cert.TopReferenceIdeal.nD Cert.TopReferenceIdeal.τ).loc Cert.TopReferenceIdeal.main_arg2)
          ∧ r.2.mem ((c.tc : Thread Cert.TopReferenceIdeal.nD Cert.TopReferenceIdeal.τ).loc Cert.TopReferenceIdeal.main_arg3) = m' ((c.tc : Thread Cert.TopReferenceIdeal.nD Cert.TopReferenceIdeal.τ).loc Cert.TopReferenceIdeal.main_arg3))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v2)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v2) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v20) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_AdaFwdKernel_AdaFwdKernelIdeal : Prop :=
  True

def algebraic_AdaFwdKernelIdeal_AdaFwdReferenceIdeal [hAdaFwdKernelIdeal : Cert.AdaFwdKernelIdeal.Facts] [hAdaFwdReferenceIdeal : Cert.AdaFwdReferenceIdeal.Facts] : Prop :=
  ∀ (m : (ℓ : Loc Cert.AdaFwdKernelIdeal.nD Cert.AdaFwdKernelIdeal.τ Cert.AdaFwdKernelIdeal.sig) → Buf (Elt Ideal) ℓ) (g : Dev Cert.AdaFwdKernelIdeal.nD → PrngReg)
    (m' : (ℓ : Loc Cert.AdaFwdReferenceIdeal.nD Cert.AdaFwdReferenceIdeal.τ Cert.AdaFwdReferenceIdeal.sig) → Buf (Elt Ideal) ℓ) (g' : Dev Cert.AdaFwdReferenceIdeal.nD → PrngReg), Pre_AdaFwdKernelIdeal m →
    (∀ c : Dev Cert.AdaFwdKernelIdeal.nD,
      m' ((c.tc : Thread Cert.AdaFwdReferenceIdeal.nD Cert.AdaFwdReferenceIdeal.τ).loc Cert.AdaFwdReferenceIdeal.main_arg0) = m ((c.tc : Thread Cert.AdaFwdKernelIdeal.nD Cert.AdaFwdKernelIdeal.τ).loc Cert.AdaFwdKernelIdeal.main_arg0)
      ∧ m' ((c.tc : Thread Cert.AdaFwdReferenceIdeal.nD Cert.AdaFwdReferenceIdeal.τ).loc Cert.AdaFwdReferenceIdeal.main_arg1) = m ((c.tc : Thread Cert.AdaFwdKernelIdeal.nD Cert.AdaFwdKernelIdeal.τ).loc Cert.AdaFwdKernelIdeal.main_arg1)
      ∧ m' ((c.tc : Thread Cert.AdaFwdReferenceIdeal.nD Cert.AdaFwdReferenceIdeal.τ).loc Cert.AdaFwdReferenceIdeal.main_arg2) = m ((c.tc : Thread Cert.AdaFwdKernelIdeal.nD Cert.AdaFwdKernelIdeal.τ).loc Cert.AdaFwdKernelIdeal.main_arg2)) →
    ∃ (v0 : (c : Dev Cert.AdaFwdKernelIdeal.nD) → Buf (Elt Ideal) ((c.tc : Thread Cert.AdaFwdKernelIdeal.nD Cert.AdaFwdKernelIdeal.τ).loc Cert.AdaFwdKernelIdeal.main_v1)),
      θ_run (Cert.AdaFwdKernelIdeal.defs (F := Ideal)) (onTc (τ := Cert.AdaFwdKernelIdeal.τ) (Cert.AdaFwdKernelIdeal.main (F := Ideal))) ⟨m, fun _ => 0, g⟩ (fun r => ∀ c : Dev Cert.AdaFwdKernelIdeal.nD,
          r.2.mem ((c.tc : Thread Cert.AdaFwdKernelIdeal.nD Cert.AdaFwdKernelIdeal.τ).loc Cert.AdaFwdKernelIdeal.main_v1) = v0 c
          ∧ r.2.mem ((c.tc : Thread Cert.AdaFwdKernelIdeal.nD Cert.AdaFwdKernelIdeal.τ).loc Cert.AdaFwdKernelIdeal.main_arg0) = m ((c.tc : Thread Cert.AdaFwdKernelIdeal.nD Cert.AdaFwdKernelIdeal.τ).loc Cert.AdaFwdKernelIdeal.main_arg0)
          ∧ r.2.mem ((c.tc : Thread Cert.AdaFwdKernelIdeal.nD Cert.AdaFwdKernelIdeal.τ).loc Cert.AdaFwdKernelIdeal.main_arg1) = m ((c.tc : Thread Cert.AdaFwdKernelIdeal.nD Cert.AdaFwdKernelIdeal.τ).loc Cert.AdaFwdKernelIdeal.main_arg1)
          ∧ r.2.mem ((c.tc : Thread Cert.AdaFwdKernelIdeal.nD Cert.AdaFwdKernelIdeal.τ).loc Cert.AdaFwdKernelIdeal.main_arg2) = m ((c.tc : Thread Cert.AdaFwdKernelIdeal.nD Cert.AdaFwdKernelIdeal.τ).loc Cert.AdaFwdKernelIdeal.main_arg2))
      ∧ θ_run (Cert.AdaFwdReferenceIdeal.defs (F := Ideal)) (onTc (τ := Cert.AdaFwdReferenceIdeal.τ) (Cert.AdaFwdReferenceIdeal.main (F := Ideal))) ⟨m', fun _ => 0, g'⟩ (fun r => ∀ c : Dev Cert.AdaFwdReferenceIdeal.nD,
          r.2.mem ((c.tc : Thread Cert.AdaFwdReferenceIdeal.nD Cert.AdaFwdReferenceIdeal.τ).loc Cert.AdaFwdReferenceIdeal.main_v5) = v0 c
          ∧ r.2.mem ((c.tc : Thread Cert.AdaFwdReferenceIdeal.nD Cert.AdaFwdReferenceIdeal.τ).loc Cert.AdaFwdReferenceIdeal.main_arg0) = m' ((c.tc : Thread Cert.AdaFwdReferenceIdeal.nD Cert.AdaFwdReferenceIdeal.τ).loc Cert.AdaFwdReferenceIdeal.main_arg0)
          ∧ r.2.mem ((c.tc : Thread Cert.AdaFwdReferenceIdeal.nD Cert.AdaFwdReferenceIdeal.τ).loc Cert.AdaFwdReferenceIdeal.main_arg1) = m' ((c.tc : Thread Cert.AdaFwdReferenceIdeal.nD Cert.AdaFwdReferenceIdeal.τ).loc Cert.AdaFwdReferenceIdeal.main_arg1)
          ∧ r.2.mem ((c.tc : Thread Cert.AdaFwdReferenceIdeal.nD Cert.AdaFwdReferenceIdeal.τ).loc Cert.AdaFwdReferenceIdeal.main_arg2) = m' ((c.tc : Thread Cert.AdaFwdReferenceIdeal.nD Cert.AdaFwdReferenceIdeal.τ).loc Cert.AdaFwdReferenceIdeal.main_arg2))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v24) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v26) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_SumMKernel_SumMKernelIdeal : Prop :=
  True

def algebraic_SumMKernelIdeal_SumMReferenceIdeal [hSumMKernelIdeal : Cert.SumMKernelIdeal.Facts] [hSumMReferenceIdeal : Cert.SumMReferenceIdeal.Facts] : Prop :=
  ∀ (m : (ℓ : Loc Cert.SumMKernelIdeal.nD Cert.SumMKernelIdeal.τ Cert.SumMKernelIdeal.sig) → Buf (Elt Ideal) ℓ) (g : Dev Cert.SumMKernelIdeal.nD → PrngReg)
    (m' : (ℓ : Loc Cert.SumMReferenceIdeal.nD Cert.SumMReferenceIdeal.τ Cert.SumMReferenceIdeal.sig) → Buf (Elt Ideal) ℓ) (g' : Dev Cert.SumMReferenceIdeal.nD → PrngReg), Pre_SumMKernelIdeal m →
    (∀ c : Dev Cert.SumMKernelIdeal.nD,
      m' ((c.tc : Thread Cert.SumMReferenceIdeal.nD Cert.SumMReferenceIdeal.τ).loc Cert.SumMReferenceIdeal.main_arg0) = m ((c.tc : Thread Cert.SumMKernelIdeal.nD Cert.SumMKernelIdeal.τ).loc Cert.SumMKernelIdeal.main_arg0)) →
    ∃ (v0 : (c : Dev Cert.SumMKernelIdeal.nD) → Buf (Elt Ideal) ((c.tc : Thread Cert.SumMKernelIdeal.nD Cert.SumMKernelIdeal.τ).loc Cert.SumMKernelIdeal.main_v0)),
      θ_run (Cert.SumMKernelIdeal.defs (F := Ideal)) (onTc (τ := Cert.SumMKernelIdeal.τ) (Cert.SumMKernelIdeal.main (F := Ideal))) ⟨m, fun _ => 0, g⟩ (fun r => ∀ c : Dev Cert.SumMKernelIdeal.nD,
          r.2.mem ((c.tc : Thread Cert.SumMKernelIdeal.nD Cert.SumMKernelIdeal.τ).loc Cert.SumMKernelIdeal.main_v0) = v0 c
          ∧ r.2.mem ((c.tc : Thread Cert.SumMKernelIdeal.nD Cert.SumMKernelIdeal.τ).loc Cert.SumMKernelIdeal.main_arg0) = m ((c.tc : Thread Cert.SumMKernelIdeal.nD Cert.SumMKernelIdeal.τ).loc Cert.SumMKernelIdeal.main_arg0))
      ∧ θ_run (Cert.SumMReferenceIdeal.defs (F := Ideal)) (onTc (τ := Cert.SumMReferenceIdeal.τ) (Cert.SumMReferenceIdeal.main (F := Ideal))) ⟨m', fun _ => 0, g'⟩ (fun r => ∀ c : Dev Cert.SumMReferenceIdeal.nD,
          r.2.mem ((c.tc : Thread Cert.SumMReferenceIdeal.nD Cert.SumMReferenceIdeal.τ).loc Cert.SumMReferenceIdeal.main_v0) = v0 c
          ∧ r.2.mem ((c.tc : Thread Cert.SumMReferenceIdeal.nD Cert.SumMReferenceIdeal.τ).loc Cert.SumMReferenceIdeal.main_arg0) = m' ((c.tc : Thread Cert.SumMReferenceIdeal.nD Cert.SumMReferenceIdeal.τ).loc Cert.SumMReferenceIdeal.main_arg0))

def preserves_SumNKernel_SumNKernelIdeal : Prop :=
  True

def algebraic_SumNKernelIdeal_SumNReferenceIdeal [hSumNKernelIdeal : Cert.SumNKernelIdeal.Facts] [hSumNReferenceIdeal : Cert.SumNReferenceIdeal.Facts] : Prop :=
  ∀ (m : (ℓ : Loc Cert.SumNKernelIdeal.nD Cert.SumNKernelIdeal.τ Cert.SumNKernelIdeal.sig) → Buf (Elt Ideal) ℓ) (g : Dev Cert.SumNKernelIdeal.nD → PrngReg)
    (m' : (ℓ : Loc Cert.SumNReferenceIdeal.nD Cert.SumNReferenceIdeal.τ Cert.SumNReferenceIdeal.sig) → Buf (Elt Ideal) ℓ) (g' : Dev Cert.SumNReferenceIdeal.nD → PrngReg), Pre_SumNKernelIdeal m →
    (∀ c : Dev Cert.SumNKernelIdeal.nD,
      m' ((c.tc : Thread Cert.SumNReferenceIdeal.nD Cert.SumNReferenceIdeal.τ).loc Cert.SumNReferenceIdeal.main_arg0) = m ((c.tc : Thread Cert.SumNKernelIdeal.nD Cert.SumNKernelIdeal.τ).loc Cert.SumNKernelIdeal.main_arg0)) →
    ∃ (v0 : (c : Dev Cert.SumNKernelIdeal.nD) → Buf (Elt Ideal) ((c.tc : Thread Cert.SumNKernelIdeal.nD Cert.SumNKernelIdeal.τ).loc Cert.SumNKernelIdeal.main_v1)),
      θ_run (Cert.SumNKernelIdeal.defs (F := Ideal)) (onTc (τ := Cert.SumNKernelIdeal.τ) (Cert.SumNKernelIdeal.main (F := Ideal))) ⟨m, fun _ => 0, g⟩ (fun r => ∀ c : Dev Cert.SumNKernelIdeal.nD,
          r.2.mem ((c.tc : Thread Cert.SumNKernelIdeal.nD Cert.SumNKernelIdeal.τ).loc Cert.SumNKernelIdeal.main_v1) = v0 c
          ∧ r.2.mem ((c.tc : Thread Cert.SumNKernelIdeal.nD Cert.SumNKernelIdeal.τ).loc Cert.SumNKernelIdeal.main_arg0) = m ((c.tc : Thread Cert.SumNKernelIdeal.nD Cert.SumNKernelIdeal.τ).loc Cert.SumNKernelIdeal.main_arg0))
      ∧ θ_run (Cert.SumNReferenceIdeal.defs (F := Ideal)) (onTc (τ := Cert.SumNReferenceIdeal.τ) (Cert.SumNReferenceIdeal.main (F := Ideal))) ⟨m', fun _ => 0, g'⟩ (fun r => ∀ c : Dev Cert.SumNReferenceIdeal.nD,
          r.2.mem ((c.tc : Thread Cert.SumNReferenceIdeal.nD Cert.SumNReferenceIdeal.τ).loc Cert.SumNReferenceIdeal.main_v0) = v0 c
          ∧ r.2.mem ((c.tc : Thread Cert.SumNReferenceIdeal.nD Cert.SumNReferenceIdeal.τ).loc Cert.SumNReferenceIdeal.main_arg0) = m' ((c.tc : Thread Cert.SumNReferenceIdeal.nD Cert.SumNReferenceIdeal.τ).loc Cert.SumNReferenceIdeal.main_arg0))

def preserves_NtKernel_NtKernelIdeal : Prop :=
  True

def algebraic_NtKernelIdeal_NtReferenceIdeal [hNtKernelIdeal : Cert.NtKernelIdeal.Facts] [hNtReferenceIdeal : Cert.NtReferenceIdeal.Facts] : Prop :=
  ∀ (m : (ℓ : Loc Cert.NtKernelIdeal.nD Cert.NtKernelIdeal.τ Cert.NtKernelIdeal.sig) → Buf (Elt Ideal) ℓ) (g : Dev Cert.NtKernelIdeal.nD → PrngReg)
    (m' : (ℓ : Loc Cert.NtReferenceIdeal.nD Cert.NtReferenceIdeal.τ Cert.NtReferenceIdeal.sig) → Buf (Elt Ideal) ℓ) (g' : Dev Cert.NtReferenceIdeal.nD → PrngReg), Pre_NtKernelIdeal m →
    (∀ c : Dev Cert.NtKernelIdeal.nD,
      m' ((c.tc : Thread Cert.NtReferenceIdeal.nD Cert.NtReferenceIdeal.τ).loc Cert.NtReferenceIdeal.main_arg0) = m ((c.tc : Thread Cert.NtKernelIdeal.nD Cert.NtKernelIdeal.τ).loc Cert.NtKernelIdeal.main_arg0)
      ∧ m' ((c.tc : Thread Cert.NtReferenceIdeal.nD Cert.NtReferenceIdeal.τ).loc Cert.NtReferenceIdeal.main_arg1) = m ((c.tc : Thread Cert.NtKernelIdeal.nD Cert.NtKernelIdeal.τ).loc Cert.NtKernelIdeal.main_arg1)) →
    ∃ (v0 : (c : Dev Cert.NtKernelIdeal.nD) → Buf (Elt Ideal) ((c.tc : Thread Cert.NtKernelIdeal.nD Cert.NtKernelIdeal.τ).loc Cert.NtKernelIdeal.main_v3)),
      θ_run (Cert.NtKernelIdeal.defs (F := Ideal)) (onTc (τ := Cert.NtKernelIdeal.τ) (Cert.NtKernelIdeal.main (F := Ideal))) ⟨m, fun _ => 0, g⟩ (fun r => ∀ c : Dev Cert.NtKernelIdeal.nD,
          r.2.mem ((c.tc : Thread Cert.NtKernelIdeal.nD Cert.NtKernelIdeal.τ).loc Cert.NtKernelIdeal.main_v3) = v0 c
          ∧ r.2.mem ((c.tc : Thread Cert.NtKernelIdeal.nD Cert.NtKernelIdeal.τ).loc Cert.NtKernelIdeal.main_arg0) = m ((c.tc : Thread Cert.NtKernelIdeal.nD Cert.NtKernelIdeal.τ).loc Cert.NtKernelIdeal.main_arg0)
          ∧ r.2.mem ((c.tc : Thread Cert.NtKernelIdeal.nD Cert.NtKernelIdeal.τ).loc Cert.NtKernelIdeal.main_arg1) = m ((c.tc : Thread Cert.NtKernelIdeal.nD Cert.NtKernelIdeal.τ).loc Cert.NtKernelIdeal.main_arg1))
      ∧ θ_run (Cert.NtReferenceIdeal.defs (F := Ideal)) (onTc (τ := Cert.NtReferenceIdeal.τ) (Cert.NtReferenceIdeal.main (F := Ideal))) ⟨m', fun _ => 0, g'⟩ (fun r => ∀ c : Dev Cert.NtReferenceIdeal.nD,
          r.2.mem ((c.tc : Thread Cert.NtReferenceIdeal.nD Cert.NtReferenceIdeal.τ).loc Cert.NtReferenceIdeal.main_v3) = v0 c
          ∧ r.2.mem ((c.tc : Thread Cert.NtReferenceIdeal.nD Cert.NtReferenceIdeal.τ).loc Cert.NtReferenceIdeal.main_arg0) = m' ((c.tc : Thread Cert.NtReferenceIdeal.nD Cert.NtReferenceIdeal.τ).loc Cert.NtReferenceIdeal.main_arg0)
          ∧ r.2.mem ((c.tc : Thread Cert.NtReferenceIdeal.nD Cert.NtReferenceIdeal.τ).loc Cert.NtReferenceIdeal.main_arg1) = m' ((c.tc : Thread Cert.NtReferenceIdeal.nD Cert.NtReferenceIdeal.τ).loc Cert.NtReferenceIdeal.main_arg1))

def preserves_TnKernel_TnKernelIdeal : Prop :=
  True

def algebraic_TnKernelIdeal_TnReferenceIdeal [hTnKernelIdeal : Cert.TnKernelIdeal.Facts] [hTnReferenceIdeal : Cert.TnReferenceIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnKernelIdeal m →
    (∀ c : Dev Cert.TnKernelIdeal.nD,
      m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0)
      ∧ m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)) →
    ∃ (v0 : (c : Dev Cert.TnKernelIdeal.nD) → Buf (Elt Ideal) ((c.tc : Thread Cert.TnKernelIdeal.nD Cert.TnKernelIdeal.τ).loc Cert.TnKernelIdeal.main_v0)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v0) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v4) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1))

def Claim : Prop :=
  ∃ (hGateKernel : Cert.GateKernel.Facts) (hGateKernelIdeal : Cert.GateKernelIdeal.Facts) (hGateReferenceIdeal : Cert.GateReferenceIdeal.Facts) (hLossKernel : Cert.LossKernel.Facts) (hLossKernelIdeal : Cert.LossKernelIdeal.Facts) (hLossReferenceIdeal : Cert.LossReferenceIdeal.Facts) (hSwigluKernel : Cert.SwigluKernel.Facts) (hSwigluKernelIdeal : Cert.SwigluKernelIdeal.Facts) (hSwigluReferenceIdeal : Cert.SwigluReferenceIdeal.Facts) (hSbKernel : Cert.SbKernel.Facts) (hSbKernelIdeal : Cert.SbKernelIdeal.Facts) (hSbReferenceIdeal : Cert.SbReferenceIdeal.Facts) (hAdaKernel : Cert.AdaKernel.Facts) (hAdaKernelIdeal : Cert.AdaKernelIdeal.Facts) (hAdaReferenceIdeal : Cert.AdaReferenceIdeal.Facts) (hNormKernel : Cert.NormKernel.Facts) (hNormKernelIdeal : Cert.NormKernelIdeal.Facts) (hNormReferenceIdeal : Cert.NormReferenceIdeal.Facts) (hNormBKernel : Cert.NormBKernel.Facts) (hNormBKernelIdeal : Cert.NormBKernelIdeal.Facts) (hNormBReferenceIdeal : Cert.NormBReferenceIdeal.Facts) (hNormAKernel : Cert.NormAKernel.Facts) (hNormAKernelIdeal : Cert.NormAKernelIdeal.Facts) (hNormAReferenceIdeal : Cert.NormAReferenceIdeal.Facts) (hNormZKernel : Cert.NormZKernel.Facts) (hNormZKernelIdeal : Cert.NormZKernelIdeal.Facts) (hNormZReferenceIdeal : Cert.NormZReferenceIdeal.Facts) (hQkKernel : Cert.QkKernel.Facts) (hQkKernelIdeal : Cert.QkKernelIdeal.Facts) (hQkReferenceIdeal : Cert.QkReferenceIdeal.Facts) (hSwaKernel : Cert.SwaKernel.Facts) (hSwaKernelIdeal : Cert.SwaKernelIdeal.Facts) (hUnitKernel : Cert.UnitKernel.Facts) (hUnitKernelIdeal : Cert.UnitKernelIdeal.Facts) (hUnitReferenceIdeal : Cert.UnitReferenceIdeal.Facts) (hOutKernel : Cert.OutKernel.Facts) (hOutKernelIdeal : Cert.OutKernelIdeal.Facts) (hOutReferenceIdeal : Cert.OutReferenceIdeal.Facts) (hOutAKernel : Cert.OutAKernel.Facts) (hOutAKernelIdeal : Cert.OutAKernelIdeal.Facts) (hOutAReferenceIdeal : Cert.OutAReferenceIdeal.Facts) (hTopKernel : Cert.TopKernel.Facts) (hTopKernelIdeal : Cert.TopKernelIdeal.Facts) (hTopReferenceIdeal : Cert.TopReferenceIdeal.Facts) (hModKernel : Cert.ModKernel.Facts) (hModKernelIdeal : Cert.ModKernelIdeal.Facts) (hModReferenceIdeal : Cert.ModReferenceIdeal.Facts) (hAdaFwdKernel : Cert.AdaFwdKernel.Facts) (hAdaFwdKernelIdeal : Cert.AdaFwdKernelIdeal.Facts) (hAdaFwdReferenceIdeal : Cert.AdaFwdReferenceIdeal.Facts) (hAdamKernel : Cert.AdamKernel.Facts) (hAdamKernelIdeal : Cert.AdamKernelIdeal.Facts) (hAdamReferenceIdeal : Cert.AdamReferenceIdeal.Facts) (hSumKernel : Cert.SumKernel.Facts) (hSumKernelIdeal : Cert.SumKernelIdeal.Facts) (hSumReferenceIdeal : Cert.SumReferenceIdeal.Facts) (hSumMKernel : Cert.SumMKernel.Facts) (hSumMKernelIdeal : Cert.SumMKernelIdeal.Facts) (hSumMReferenceIdeal : Cert.SumMReferenceIdeal.Facts) (hSumNKernel : Cert.SumNKernel.Facts) (hSumNKernelIdeal : Cert.SumNKernelIdeal.Facts) (hSumNReferenceIdeal : Cert.SumNReferenceIdeal.Facts) (hNtKernel : Cert.NtKernel.Facts) (hNtKernelIdeal : Cert.NtKernelIdeal.Facts) (hNtReferenceIdeal : Cert.NtReferenceIdeal.Facts) (hTnKernel : Cert.TnKernel.Facts) (hTnKernelIdeal : Cert.TnKernelIdeal.Facts) (hTnReferenceIdeal : Cert.TnReferenceIdeal.Facts) (hPre_finite_swiglu : Cert.Pre_finite_swiglu.Facts) (hPre_finite_sb : Cert.Pre_finite_sb.Facts) (hPre_finite_norm2 : Cert.Pre_finite_norm2.Facts) (hPre_finite_norm1b : Cert.Pre_finite_norm1b.Facts) (hPre_finite_norm1a : Cert.Pre_finite_norm1a.Facts) (hPre_finite_norm0 : Cert.Pre_finite_norm0.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_SwigluKernel (hSwigluKernel := hSwigluKernel)
    ∧ quiescent_SwigluKernelIdeal (hSwigluKernelIdeal := hSwigluKernelIdeal)
    ∧ quiescent_SwigluKernelIdeal_pre_finite_swiglu (hSwigluKernelIdeal := hSwigluKernelIdeal) (hPre_finite_swiglu := hPre_finite_swiglu)
    ∧ quiescent_SwigluReferenceIdeal (hSwigluReferenceIdeal := hSwigluReferenceIdeal)
    ∧ quiescent_SwigluReferenceIdeal_pre_finite_swiglu (hSwigluReferenceIdeal := hSwigluReferenceIdeal) (hPre_finite_swiglu := hPre_finite_swiglu)
    ∧ quiescent_SbKernel (hSbKernel := hSbKernel)
    ∧ quiescent_SbKernelIdeal (hSbKernelIdeal := hSbKernelIdeal)
    ∧ quiescent_SbKernelIdeal_pre_finite_sb (hSbKernelIdeal := hSbKernelIdeal) (hPre_finite_sb := hPre_finite_sb)
    ∧ quiescent_SbReferenceIdeal (hSbReferenceIdeal := hSbReferenceIdeal)
    ∧ quiescent_SbReferenceIdeal_pre_finite_sb (hSbReferenceIdeal := hSbReferenceIdeal) (hPre_finite_sb := hPre_finite_sb)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_NormKernel (hNormKernel := hNormKernel)
    ∧ quiescent_NormKernelIdeal (hNormKernelIdeal := hNormKernelIdeal)
    ∧ quiescent_NormKernelIdeal_pre_finite_norm2 (hNormKernelIdeal := hNormKernelIdeal) (hPre_finite_norm2 := hPre_finite_norm2)
    ∧ quiescent_NormReferenceIdeal (hNormReferenceIdeal := hNormReferenceIdeal)
    ∧ quiescent_NormReferenceIdeal_pre_finite_norm2 (hNormReferenceIdeal := hNormReferenceIdeal) (hPre_finite_norm2 := hPre_finite_norm2)
    ∧ quiescent_NormBKernel (hNormBKernel := hNormBKernel)
    ∧ quiescent_NormBKernelIdeal (hNormBKernelIdeal := hNormBKernelIdeal)
    ∧ quiescent_NormBKernelIdeal_pre_finite_norm1b (hNormBKernelIdeal := hNormBKernelIdeal) (hPre_finite_norm1b := hPre_finite_norm1b)
    ∧ quiescent_NormBReferenceIdeal (hNormBReferenceIdeal := hNormBReferenceIdeal)
    ∧ quiescent_NormBReferenceIdeal_pre_finite_norm1b (hNormBReferenceIdeal := hNormBReferenceIdeal) (hPre_finite_norm1b := hPre_finite_norm1b)
    ∧ quiescent_NormAKernel (hNormAKernel := hNormAKernel)
    ∧ quiescent_NormAKernelIdeal (hNormAKernelIdeal := hNormAKernelIdeal)
    ∧ quiescent_NormAKernelIdeal_pre_finite_norm1a (hNormAKernelIdeal := hNormAKernelIdeal) (hPre_finite_norm1a := hPre_finite_norm1a)
    ∧ quiescent_NormAReferenceIdeal (hNormAReferenceIdeal := hNormAReferenceIdeal)
    ∧ quiescent_NormAReferenceIdeal_pre_finite_norm1a (hNormAReferenceIdeal := hNormAReferenceIdeal) (hPre_finite_norm1a := hPre_finite_norm1a)
    ∧ quiescent_NormZKernel (hNormZKernel := hNormZKernel)
    ∧ quiescent_NormZKernelIdeal (hNormZKernelIdeal := hNormZKernelIdeal)
    ∧ quiescent_NormZKernelIdeal_pre_finite_norm0 (hNormZKernelIdeal := hNormZKernelIdeal) (hPre_finite_norm0 := hPre_finite_norm0)
    ∧ quiescent_NormZReferenceIdeal (hNormZReferenceIdeal := hNormZReferenceIdeal)
    ∧ quiescent_NormZReferenceIdeal_pre_finite_norm0 (hNormZReferenceIdeal := hNormZReferenceIdeal) (hPre_finite_norm0 := hPre_finite_norm0)
    ∧ quiescent_QkKernel (hQkKernel := hQkKernel)
    ∧ quiescent_QkKernelIdeal (hQkKernelIdeal := hQkKernelIdeal)
    ∧ quiescent_QkReferenceIdeal (hQkReferenceIdeal := hQkReferenceIdeal)
    ∧ quiescent_SwaKernel (hSwaKernel := hSwaKernel)
    ∧ quiescent_SwaKernelIdeal (hSwaKernelIdeal := hSwaKernelIdeal)
    ∧ quiescent_UnitKernel (hUnitKernel := hUnitKernel)
    ∧ quiescent_UnitKernelIdeal (hUnitKernelIdeal := hUnitKernelIdeal)
    ∧ quiescent_UnitReferenceIdeal (hUnitReferenceIdeal := hUnitReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_OutAKernel (hOutAKernel := hOutAKernel)
    ∧ quiescent_OutAKernelIdeal (hOutAKernelIdeal := hOutAKernelIdeal)
    ∧ quiescent_OutAReferenceIdeal (hOutAReferenceIdeal := hOutAReferenceIdeal)
    ∧ quiescent_TopKernel (hTopKernel := hTopKernel)
    ∧ quiescent_TopKernelIdeal (hTopKernelIdeal := hTopKernelIdeal)
    ∧ quiescent_TopReferenceIdeal (hTopReferenceIdeal := hTopReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_AdaFwdKernel (hAdaFwdKernel := hAdaFwdKernel)
    ∧ quiescent_AdaFwdKernelIdeal (hAdaFwdKernelIdeal := hAdaFwdKernelIdeal)
    ∧ quiescent_AdaFwdReferenceIdeal (hAdaFwdReferenceIdeal := hAdaFwdReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_SumMKernel (hSumMKernel := hSumMKernel)
    ∧ quiescent_SumMKernelIdeal (hSumMKernelIdeal := hSumMKernelIdeal)
    ∧ quiescent_SumMReferenceIdeal (hSumMReferenceIdeal := hSumMReferenceIdeal)
    ∧ quiescent_SumNKernel (hSumNKernel := hSumNKernel)
    ∧ quiescent_SumNKernelIdeal (hSumNKernelIdeal := hSumNKernelIdeal)
    ∧ quiescent_SumNReferenceIdeal (hSumNReferenceIdeal := hSumNReferenceIdeal)
    ∧ quiescent_NtKernel (hNtKernel := hNtKernel)
    ∧ quiescent_NtKernelIdeal (hNtKernelIdeal := hNtKernelIdeal)
    ∧ quiescent_NtReferenceIdeal (hNtReferenceIdeal := hNtReferenceIdeal)
    ∧ quiescent_TnKernel (hTnKernel := hTnKernel)
    ∧ quiescent_TnKernelIdeal (hTnKernelIdeal := hTnKernelIdeal)
    ∧ quiescent_TnReferenceIdeal (hTnReferenceIdeal := hTnReferenceIdeal)
    ∧ preserves_GateKernel_GateKernelIdeal
    ∧ algebraic_GateKernelIdeal_GateReferenceIdeal (hGateKernelIdeal := hGateKernelIdeal) (hGateReferenceIdeal := hGateReferenceIdeal)
    ∧ preserves_LossKernel_LossKernelIdeal
    ∧ algebraic_LossKernelIdeal_LossReferenceIdeal (hLossKernelIdeal := hLossKernelIdeal) (hLossReferenceIdeal := hLossReferenceIdeal)
    ∧ preserves_SwigluKernel_SwigluKernelIdeal
    ∧ algebraic_SwigluKernelIdeal_SwigluReferenceIdeal_pre_finite_swiglu (hSwigluKernelIdeal := hSwigluKernelIdeal) (hSwigluReferenceIdeal := hSwigluReferenceIdeal) (hPre_finite_swiglu := hPre_finite_swiglu)
    ∧ preserves_SbKernel_SbKernelIdeal
    ∧ algebraic_SbKernelIdeal_SbReferenceIdeal_pre_finite_sb (hSbKernelIdeal := hSbKernelIdeal) (hSbReferenceIdeal := hSbReferenceIdeal) (hPre_finite_sb := hPre_finite_sb)
    ∧ preserves_AdaKernel_AdaKernelIdeal
    ∧ algebraic_AdaKernelIdeal_AdaReferenceIdeal (hAdaKernelIdeal := hAdaKernelIdeal) (hAdaReferenceIdeal := hAdaReferenceIdeal)
    ∧ preserves_NormKernel_NormKernelIdeal
    ∧ algebraic_NormKernelIdeal_NormReferenceIdeal_pre_finite_norm2 (hNormKernelIdeal := hNormKernelIdeal) (hNormReferenceIdeal := hNormReferenceIdeal) (hPre_finite_norm2 := hPre_finite_norm2)
    ∧ preserves_NormBKernel_NormBKernelIdeal
    ∧ algebraic_NormBKernelIdeal_NormBReferenceIdeal_pre_finite_norm1b (hNormBKernelIdeal := hNormBKernelIdeal) (hNormBReferenceIdeal := hNormBReferenceIdeal) (hPre_finite_norm1b := hPre_finite_norm1b)
    ∧ preserves_NormAKernel_NormAKernelIdeal
    ∧ algebraic_NormAKernelIdeal_NormAReferenceIdeal_pre_finite_norm1a (hNormAKernelIdeal := hNormAKernelIdeal) (hNormAReferenceIdeal := hNormAReferenceIdeal) (hPre_finite_norm1a := hPre_finite_norm1a)
    ∧ preserves_NormZKernel_NormZKernelIdeal
    ∧ algebraic_NormZKernelIdeal_NormZReferenceIdeal_pre_finite_norm0 (hNormZKernelIdeal := hNormZKernelIdeal) (hNormZReferenceIdeal := hNormZReferenceIdeal) (hPre_finite_norm0 := hPre_finite_norm0)
    ∧ preserves_QkKernel_QkKernelIdeal
    ∧ preserves_SwaKernel_SwaKernelIdeal
    ∧ preserves_UnitKernel_UnitKernelIdeal
    ∧ algebraic_UnitKernelIdeal_UnitReferenceIdeal (hUnitKernelIdeal := hUnitKernelIdeal) (hUnitReferenceIdeal := hUnitReferenceIdeal)
    ∧ preserves_OutKernel_OutKernelIdeal
    ∧ algebraic_OutKernelIdeal_OutReferenceIdeal (hOutKernelIdeal := hOutKernelIdeal) (hOutReferenceIdeal := hOutReferenceIdeal)
    ∧ preserves_OutAKernel_OutAKernelIdeal
    ∧ algebraic_OutAKernelIdeal_OutAReferenceIdeal (hOutAKernelIdeal := hOutAKernelIdeal) (hOutAReferenceIdeal := hOutAReferenceIdeal)
    ∧ preserves_TopKernel_TopKernelIdeal
    ∧ algebraic_TopKernelIdeal_TopReferenceIdeal (hTopKernelIdeal := hTopKernelIdeal) (hTopReferenceIdeal := hTopReferenceIdeal)
    ∧ preserves_ModKernel_ModKernelIdeal
    ∧ algebraic_ModKernelIdeal_ModReferenceIdeal (hModKernelIdeal := hModKernelIdeal) (hModReferenceIdeal := hModReferenceIdeal)
    ∧ preserves_AdaFwdKernel_AdaFwdKernelIdeal
    ∧ algebraic_AdaFwdKernelIdeal_AdaFwdReferenceIdeal (hAdaFwdKernelIdeal := hAdaFwdKernelIdeal) (hAdaFwdReferenceIdeal := hAdaFwdReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_SumKernel_SumKernelIdeal
    ∧ algebraic_SumKernelIdeal_SumReferenceIdeal (hSumKernelIdeal := hSumKernelIdeal) (hSumReferenceIdeal := hSumReferenceIdeal)
    ∧ preserves_SumMKernel_SumMKernelIdeal
    ∧ algebraic_SumMKernelIdeal_SumMReferenceIdeal (hSumMKernelIdeal := hSumMKernelIdeal) (hSumMReferenceIdeal := hSumMReferenceIdeal)
    ∧ preserves_SumNKernel_SumNKernelIdeal
    ∧ algebraic_SumNKernelIdeal_SumNReferenceIdeal (hSumNKernelIdeal := hSumNKernelIdeal) (hSumNReferenceIdeal := hSumNReferenceIdeal)
    ∧ preserves_NtKernel_NtKernelIdeal
    ∧ algebraic_NtKernelIdeal_NtReferenceIdeal (hNtKernelIdeal := hNtKernelIdeal) (hNtReferenceIdeal := hNtReferenceIdeal)
    ∧ preserves_TnKernel_TnKernelIdeal
    ∧ algebraic_TnKernelIdeal_TnReferenceIdeal (hTnKernelIdeal := hTnKernelIdeal) (hTnReferenceIdeal := hTnReferenceIdeal)
-- ==== Pre_finite_norm0.lean ====
abbrev S2x4096x1024 : Shape := ⟨3, ![2, 4096, 1024]⟩
abbrev S1024 : Shape := ⟨1, ![1024]⟩
abbrev S2x1x1024 : Shape := ⟨3, ![2, 1, 1024]⟩
abbrev S1024x1280 : Shape := ⟨2, ![1024, 1280]⟩
abbrev S2x4096x1280 : Shape := ⟨3, ![2, 4096, 1280]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x1280 : S_.BroadcastsInDim S1024x1280 (![] : Fin 0 → Fin S1024x1280.rank)
  reducesTo_S1024x1280_S_d0_1 : S1024x1280.ReducesTo [0, 1] S_
  bcast_S_S2x4096x1280 : S_.BroadcastsInDim S2x4096x1280 (![] : Fin 0 → Fin S2x4096x1280.rank)
  reducesTo_S2x4096x1280_S_d0_1_2 : S2x4096x1280.ReducesTo [0, 1, 2] S_

variable [Facts]

def fn_part1 {F : FTy → Type} [FloatOps F] (main_arg6 : FVec F S2x4096x1280 .bf16) (main_v3 : IVec S_ 1) (main_v7 : IVec S_ 1) (main_v11 : IVec S_ 1) (main_v15 : IVec S_ 1) : IVec S_ 1 :=
  let main_v16 : FVec F S2x4096x1280 .bf16 := Host.absf main_arg6
  let main_cst_6 : FVec F S_ .bf16 := constant S_ .bf16 0x7F80#16
  let main_v17 : FVec F S2x4096x1280 .bf16 := broadcastInDim S2x4096x1280 ![] bcast_S_S2x4096x1280 main_cst_6
  let main_v18 : IVec S2x4096x1280 1 := cmpf .olt main_v16 main_v17
  let main_c_7 : IVec S_ 1 := constantI S_ 1 1#1
  let main_v19 : IVec S_ 1 := (fun x v => Host.reduce IntOp.andi x v reducesTo_S2x4096x1280_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x4096x1024 .f32) (main_arg1 : FVec F S1024 .f32) (main_arg2 : FVec F S2x1x1024 .f32) (main_arg3 : FVec F S2x1x1024 .f32) (main_arg4 : FVec F S1024x1280 .f32) (main_arg5 : FVec F S2x4096x1024 .f32) (main_arg6 : FVec F S2x4096x1280 .bf16) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S1024x1280 .f32 := Host.absf main_arg4
  let main_cst_4 : FVec F S_ .f32 := constant S_ .f32 0x7F800000#32
  let main_v13 : FVec F S1024x1280 .f32 := broadcastInDim S1024x1280 ![] bcast_S_S1024x1280 main_cst_4
  let main_v14 : IVec S1024x1280 1 := cmpf .olt main_v12 main_v13
  let main_c_5 : IVec S_ 1 := constantI S_ 1 1#1
  let main_v15 : IVec S_ 1 := (fun x v => Host.reduce IntOp.andi x v reducesTo_S1024x1280_S_d0_1 h_S_) main_v14 main_c_5
  fn_part1 (F := F) main_arg6 main_v3 main_v7 main_v11 main_v15
-- ==== Pre_finite_norm1a.lean ====
abbrev S2x4096x1024 : Shape := ⟨3, ![2, 4096, 1024]⟩
abbrev S2x1x1024 : Shape := ⟨3, ![2, 1, 1024]⟩
abbrev S1024 : Shape := ⟨1, ![1024]⟩
abbrev S1024x1280 : Shape := ⟨2, ![1024, 1280]⟩
abbrev S2x4096x1280 : Shape := ⟨3, ![2, 4096, 1280]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1024 : S_.BroadcastsInDim S1024 (![] : Fin 0 → Fin S1024.rank)
  reducesTo_S1024_S_d0 : S1024.ReducesTo [0] S_
  bcast_S_S1024x1280 : S_.BroadcastsInDim S1024x1280 (![] : Fin 0 → Fin S1024x1280.rank)
  reducesTo_S1024x1280_S_d0_1 : S1024x1280.ReducesTo [0, 1] S_
  bcast_S_S2x4096x1280 : S_.BroadcastsInDim S2x4096x1280 (![] : Fin 0 → Fin S2x4096x1280.rank)
  reducesTo_S2x4096x1280_S_d0_1_2 : S2x4096x1280.ReducesTo [0, 1, 2] S_

variable [Facts]

def fn_part1 {F : FTy → Type} [FloatOps F] (main_arg4 : FVec F S2x1x1024 .f32) (main_arg6 : FVec F S1024x1280 .f32) (main_arg8 : FVec F S2x4096x1280 .bf16) (main_v3 : IVec S_ 1) (main_v7 : IVec S_ 1) (main_v11 : IVec S_ 1) (main_v15 : IVec S_ 1) : IVec S_ 1 :=
  let main_v16 : FVec F S2x1x1024 .f32 := Host.absf main_arg4
  let main_cst_6 : FVec F S_ .f32 := constant S_ .f32 0x7F800000#32
  let main_v17 : FVec F S2x1x1024 .f32 := broadcastInDim S2x1x1024 ![] bcast_S_S2x1x1024 main_cst_6
  let main_v18 : IVec S2x1x1024 1 := cmpf .olt main_v16 main_v17
  let main_c_7 : IVec S_ 1 := constantI S_ 1 1#1
  let main_v19 : IVec S_ 1 := (fun x v => Host.reduce IntOp.andi x v reducesTo_S2x1x1024_S_d0_1_2 h_S_) main_v18 main_c_7
  let main_v20 : FVec F S1024x1280 .f32 := Host.absf main_arg6
  let main_cst_8 : FVec F S_ .f32 := constant S_ .f32 0x7F800000#32
  let main_v21 : FVec F S1024x1280 .f32 := broadcastInDim S1024x1280 ![] bcast_S_S1024x1280 main_cst_8
  let main_v22 : IVec S1024x1280 1 := cmpf .olt main_v20 main_v21
  let main_c_9 : IVec S_ 1 := constantI S_ 1 1#1
  let main_v23 : IVec S_ 1 := (fun x v => Host.reduce IntOp.andi x v reducesTo_S1024x1280_S_d0_1 h_S_) main_v22 main_c_9
  let main_v24 : FVec F S2x4096x1280 .bf16 := Host.absf main_arg8
  let main_cst_10 : FVec F S_ .bf16 := constant S_ .bf16 0x7F80#16
  let main_v25 : FVec F S2x4096x1280 .bf16 := broadcastInDim S2x4096x1280 ![] bcast_S_S2x4096x1280 main_cst_10
  let main_v26 : IVec S2x4096x1280 1 := cmpf .olt main_v24 main_v25
  let main_c_11 : IVec S_ 1 := constantI S_ 1 1#1
  let main_v27 : IVec S_ 1 := (fun x v => Host.reduce IntOp.andi x v reducesTo_S2x4096x1280_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x4096x1024 .f32) (main_arg1 : FVec F S2x4096x1024 .bf16) (main_arg2 : FVec F S2x1x1024 .f32) (main_arg3 : FVec F S1024 .f32) (main_arg4 : FVec F S2x1x1024 .f32) (main_arg5 : FVec F S2x1x1024 .f32) (main_arg6 : FVec F S1024x1280 .f32) (main_arg7 : FVec F S2x4096x1024 .f32) (main_arg8 : FVec F S2x4096x1280 .bf16) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .bf16 := Host.absf main_arg1
  let main_cst_0 : FVec F S_ .bf16 := constant S_ .bf16 0x7F80#16
  let main_v5 : FVec F S2x4096x1024 .bf16 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg6 main_arg8 main_v3 main_v7 main_v11 main_v15
-- ==== Pre_finite_norm1b.lean ====
abbrev S2x4096x1024 : Shape := ⟨3, ![2, 4096, 1024]⟩
abbrev S2x1x1024 : Shape := ⟨3, ![2, 1, 1024]⟩
abbrev S1024 : Shape := ⟨1, ![1024]⟩
abbrev S1024x3072 : Shape := ⟨2, ![1024, 3072]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_

variable [Facts]

def fn_part2 {F : FTy → Type} [FloatOps F] (main_arg10 : FVec F S2x4096x1024 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x4096x1024 .bf16 := Host.absf main_arg10
  let main_cst_14 : FVec F S_ .bf16 := constant S_ .bf16 0x7F80#16
  let main_v33 : FVec F S2x4096x1024 .bf16 := broadcastInDim S2x4096x1024 ![] bcast_S_S2x4096x1024 main_cst_14
  let main_v34 : IVec S2x4096x1024 1 := cmpf .olt main_v32 main_v33
  let main_c_15 : IVec S_ 1 := constantI S_ 1 1#1
  let main_v35 : IVec S_ 1 := (fun x v => Host.reduce IntOp.andi x v reducesTo_S2x4096x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2x1x1024 .f32) (main_arg6 : FVec F S1024x3072 .f32) (main_arg8 : FVec F S2x4096x1024 .bf16) (main_arg9 : FVec F S2x4096x1024 .bf16) (main_arg10 : FVec F S2x4096x1024 .bf16) (main_v3 : IVec S_ 1) (main_v7 : IVec S_ 1) (main_v11 : IVec S_ 1) (main_v15 : IVec S_ 1) : IVec S_ 1 :=
  let main_v16 : FVec F S2x1x1024 .f32 := Host.absf main_arg4
  let main_cst_6 : FVec F S_ .f32 := constant S_ .f32 0x7F800000#32
  let main_v17 : FVec F S2x1x1024 .f32 := broadcastInDim S2x1x1024 ![] bcast_S_S2x1x1024 main_cst_6
  let main_v18 : IVec S2x1x1024 1 := cmpf .olt main_v16 main_v17
  let main_c_7 : IVec S_ 1 := constantI S_ 1 1#1
  let main_v19 : IVec S_ 1 := (fun x v => Host.reduce IntOp.andi x v reducesTo_S2x1x1024_S_d0_1_2 h_S_) main_v18 main_c_7
  let main_v20 : FVec F S1024x3072 .f32 := Host.absf main_arg6
  let main_cst_8 : FVec F S_ .f32 := constant S_ .f32 0x7F800000#32
  let main_v21 : FVec F S1024x3072 .f32 := broadcastInDim S1024x3072 ![] bcast_S_S1024x3072 main_cst_8
  let main_v22 : IVec S1024x3072 1 := cmpf .olt main_v20 main_v21
  let main_c_9 : IVec S_ 1 := constantI S_ 1 1#1
  let main_v23 : IVec S_ 1 := (fun x v => Host.reduce IntOp.andi x v reducesTo_S1024x3072_S_d0_1 h_S_) main_v22 main_c_9
  let main_v24 : FVec F S2x4096x1024 .bf16 := Host.absf main_arg8
  let main_cst_10 : FVec F S_ .bf16 := constant S_ .bf16 0x7F80#16
  let main_v25 : FVec F S2x4096x1024 .bf16 := broadcastInDim S2x4096x1024 ![] bcast_S_S2x4096x1024 main_cst_10
  let main_v26 : IVec S2x4096x1024 1 := cmpf .olt main_v24 main_v25
  let main_c_11 : IVec S_ 1 := constantI S_ 1 1#1
  let main_v27 : IVec S_ 1 := (fun x v => Host.reduce IntOp.andi x v reducesTo_S2x4096x1024_S_d0_1_2 h_S_) main_v26 main_c_11
  let main_v28 : FVec F S2x4096x1024 .bf16 := Host.absf main_arg9
  let main_cst_12 : FVec F S_ .bf16 := constant S_ .bf16 0x7F80#16
  let main_v29 : FVec F S2x4096x1024 .bf16 := broadcastInDim S2x4096x1024 ![] bcast_S_S2x4096x1024 main_cst_12
  let main_v30 : IVec S2x4096x1024 1 := cmpf .olt main_v28 main_v29
  let main_c_13 : IVec S_ 1 := constantI S_ 1 1#1
  let main_v31 : IVec S_ 1 := (fun x v => Host.reduce IntOp.andi x v reducesTo_S2x4096x1024_S_d0_1_2 h_S_) main_v30 main_c_13
  fn_part2 (F := F) main_arg10 main_v3 main_v7 main_v11 main_v15 main_v19 main_v23 main_v27 main_v31

def fn {F : FTy → Type} [FloatOps F] (main_arg0 : FVec F S2x4096x1024 .f32) (main_arg1 : FVec F S2x4096x1024 .bf16) (main_arg2 : FVec F S2x1x1024 .f32) (main_arg3 : FVec F S1024 .f32) (main_arg4 : FVec F S2x1x1024 .f32) (main_arg5 : FVec F S2x1x1024 .f32) (main_arg6 : FVec F S1024x3072 .f32) (main_arg7 : FVec F S2x4096x1024 .f32) (main_arg8 : FVec F S2x4096x1024 .bf16) (main_arg9 : FVec F S2x4096x1024 .bf16) (main_arg10 : FVec F S2x4096x1024 .bf16) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .bf16 := Host.absf main_arg1
  let main_cst_0 : FVec F S_ .bf16 := constant S_ .bf16 0x7F80#16
  let main_v5 : FVec F S2x4096x1024 .bf16 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg6 main_arg8 main_arg9 main_arg10 main_v3 main_v7 main_v11 main_v15
-- ==== Pre_finite_norm2.lean ====
abbrev S2x4096x1024 : Shape := ⟨3, ![2, 4096, 1024]⟩
abbrev S2x1x1024 : Shape := ⟨3, ![2, 1, 1024]⟩
abbrev S1024 : Shape := ⟨1, ![1024]⟩
abbrev S1024x2816 : Shape := ⟨2, ![1024, 2816]⟩
abbrev S2x4096x2816 : Shape := ⟨3, ![2, 4096, 2816]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn_part2 {F : FTy → Type} [FloatOps F] (main_arg10 : FVec F S2x4096x2816 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x4096x2816 .bf16 := Host.absf main_arg10
  let main_cst_14 : FVec F S_ .bf16 := constant S_ .bf16 0x7F80#16
  let main_v33 : FVec F S2x4096x2816 .bf16 := broadcastInDim S2x4096x2816 ![] bcast_S_S2x4096x2816 main_cst_14
  let main_v34 : IVec S2x4096x2816 1 := cmpf .olt main_v32 main_v33
  let main_c_15 : IVec S_ 1 := constantI S_ 1 1#1
  let main_v35 : IVec S_ 1 := (fun x v => Host.reduce IntOp.andi x v reducesTo_S2x4096x2816_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2x1x1024 .f32) (main_arg6 : FVec F S1024x2816 .f32) (main_arg7 : FVec F S1024x2816 .f32) (main_arg9 : FVec F S2x4096x2816 .bf16) (main_arg10 : FVec F S2x4096x2816 .bf16) (main_v3 : IVec S_ 1) (main_v7 : IVec S_ 1) (main_v11 : IVec S_ 1) (main_v15 : IVec S_ 1) : IVec S_ 1 :=
  let main_v16 : FVec F S2x1x1024 .f32 := Host.absf main_arg4
  let main_cst_6 : FVec F S_ .f32 := constant S_ .f32 0x7F800000#32
  let main_v17 : FVec F S2x1x1024 .f32 := broadcastInDim S2x1x1024 ![] bcast_S_S2x1x1024 main_cst_6
  let main_v18 : IVec S2x1x1024 1 := cmpf .olt main_v16 main_v17
  let main_c_7 : IVec S_ 1 := constantI S_ 1 1#1
  let main_v19 : IVec S_ 1 := (fun x v => Host.reduce IntOp.andi x v reducesTo_S2x1x1024_S_d0_1_2 h_S_) main_v18 main_c_7
  let main_v20 : FVec F S1024x2816 .f32 := Host.absf main_arg6
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S1024x2816 .f32 := Host.absf main_arg7
  let main_cst_10 : FVec F S_ .f32 := constant S_ .f32 0x7F800000#32
  let main_v25 : FVec F S1024x2816 .f32 := broadcastInDim S1024x2816 ![] bcast_S_S1024x2816 main_cst_10
  let main_v26 : IVec S1024x2816 1 := cmpf .olt main_v24 main_v25
  let main_c_11 : IVec S_ 1 := constantI S_ 1 1#1
  let main_v27 : IVec S_ 1 := (fun x v => Host.reduce IntOp.andi x v reducesTo_S1024x2816_S_d0_1 h_S_) main_v26 main_c_11
  let main_v28 : FVec F S2x4096x2816 .bf16 := Host.absf main_arg9
  let main_cst_12 : FVec F S_ .bf16 := constant S_ .bf16 0x7F80#16
  let main_v29 : FVec F S2x4096x2816 .bf16 := broadcastInDim S2x4096x2816 ![] bcast_S_S2x4096x2816 main_cst_12
  let main_v30 : IVec S2x4096x2816 1 := cmpf .olt main_v28 main_v29
  let main_c_13 : IVec S_ 1 := constantI S_ 1 1#1
  let main_v31 : IVec S_ 1 := (fun x v => Host.reduce IntOp.andi x v reducesTo_S2x4096x2816_S_d0_1_2 h_S_) main_v30 main_c_13
  fn_part2 (F := F) main_arg10 main_v3 main_v7 main_v11 main_v15 main_v19 main_v23 main_v27 main_v31

def fn {F : FTy → Type} [FloatOps F] (main_arg0 : FVec F S2x4096x1024 .f32) (main_arg1 : FVec F S2x4096x1024 .bf16) (main_arg2 : FVec F S2x1x1024 .f32) (main_arg3 : FVec F S1024 .f32) (main_arg4 : FVec F S2x1x1024 .f32) (main_arg5 : FVec F S2x1x1024 .f32) (main_arg6 : FVec F S1024x2816 .f32) (main_arg7 : FVec F S1024x2816 .f32) (main_arg8 : FVec F S2x4096x1024 .f32) (main_arg9 : FVec F S2x4096x2816 .bf16) (main_arg10 : FVec F S2x4096x2816 .bf16) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .bf16 := Host.absf main_arg1
  let main_cst_0 : FVec F S_ .bf16 := constant S_ .bf16 0x7F80#16
  let main_v5 : FVec F S2x4096x1024 .bf16 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg6 main_arg7 main_arg9 main_arg10 main_v3 main_v7 main_v11 main_v15
-- ==== Pre_finite_sb.lean ====
abbrev S2x4096x3072 : Shape := ⟨3, ![2, 4096, 3072]⟩
abbrev S2x4096x1024 : Shape := ⟨3, ![2, 4096, 1024]⟩
abbrev S_ : Shape := ⟨0, ![]⟩

class Facts : Prop where
  bcast_S_S2x4096x3072 : S_.BroadcastsInDim S2x4096x3072 (![] : Fin 0 → Fin S2x4096x3072.rank)
  reducesTo_S2x4096x3072_S_d0_1_2 : S2x4096x3072.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn {F : FTy → Type} [FloatOps F] (main_arg0 : FVec F S2x4096x3072 .bf16) (main_arg1 : FVec F S2x4096x1024 .bf16) : IVec S_ 1 :=
  let main_v0 : FVec F S2x4096x3072 .bf16 := Host.absf main_arg0
  let main_cst : FVec F S_ .bf16 := constant S_ .bf16 0x7F80#16
  let main_v1 : FVec F S2x4096x3072 .bf16 := broadcastInDim S2x4096x3072 ![] bcast_S_S2x4096x3072 main_cst
  let main_v2 : IVec S2x4096x3072 1 := cmpf .olt main_v0 main_v1
  let main_c : IVec S_ 1 := constantI S_ 1 1#1
  let main_v3 : IVec S_ 1 := (fun x v => Host.reduce IntOp.andi x v reducesTo_S2x4096x3072_S_d0_1_2 h_S_) main_v2 main_c
  let main_v4 : FVec F S2x4096x1024 .bf16 := Host.absf main_arg1
  let main_cst_0 : FVec F S_ .bf16 := constant S_ .bf16 0x7F80#16
  let main_v5 : FVec F S2x4096x1024 .bf16 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  main_v8
-- ==== Pre_finite_swiglu.lean ====
abbrev S2x4096x1024 : Shape := ⟨3, ![2, 4096, 1024]⟩
abbrev S2816x1024 : Shape := ⟨2, ![2816, 1024]⟩
abbrev S2x4096x2816 : Shape := ⟨3, ![2, 4096, 2816]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn {F : FTy → Type} [FloatOps F] (main_arg0 : FVec F S2x4096x1024 .bf16) (main_arg1 : FVec F S2816x1024 .f32) (main_arg2 : FVec F S2x4096x2816 .bf16) (main_arg3 : FVec F S2x4096x2816 .bf16) : IVec S_ 1 :=
  let main_v0 : FVec F S2x4096x1024 .bf16 := Host.absf main_arg0
  let main_cst : FVec F S_ .bf16 := constant S_ .bf16 0x7F80#16
  let main_v1 : FVec F S2x4096x1024 .bf16 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2x4096x2816 .bf16 := Host.absf main_arg3
  let main_cst_2 : FVec F S_ .bf16 := constant S_ .bf16 0x7F80#16
  let main_v10 : FVec F S2x4096x2816 .bf16 := broadcastInDim S2x4096x2816 ![] bcast_S_S2x4096x2816 main_cst_2
  let main_v11 : IVec S2x4096x2816 1 := cmpf .olt main_v9 main_v10
  let main_c_3 : IVec S_ 1 := constantI S_ 1 1#1
  let main_v12 : IVec S_ 1 := (fun x v => Host.reduce IntOp.andi x v reducesTo_S2x4096x2816_S_d0_1_2 h_S_) main_v11 main_c_3
  let main_v13 : IVec S_ 1 := andi main_v8 main_v12
  main_v13
-- ==== GateKernel.lean ====
abbrev S2x4096x1024 : Shape := ⟨3, ![2, 4096, 1024]⟩
abbrev S2x1x1024 : Shape := ⟨3, ![2, 1, 1024]⟩
abbrev S8192x1024 : Shape := ⟨2, ![8192, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateReferenceIdeal.lean ====
abbrev S2x4096x1024 : Shape := ⟨3, ![2, 4096, 1024]⟩
abbrev S2x1x1024 : Shape := ⟨3, ![2, 1, 1024]⟩
abbrev S_ : Shape := ⟨0, ![]⟩
abbrev S2x1024 : Shape := ⟨2, ![2, 1024]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S_, .f32⟩
  | .hbm, ⟨10, _⟩ => ⟨S2x1024, .f32⟩
  | .hbm, ⟨11, _⟩ => ⟨S2x1x1024, .f32⟩
  | .hbm, ⟨12, _⟩ => ⟨S8192x1024, .f32⟩
  | .hbm, ⟨13, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== LossKernel.lean ====
abbrev S2x4096x1024 : Shape := ⟨3, ![2, 4096, 1024]⟩
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S2x4096x1024 : Shape := ⟨3, ![2, 4096, 1024]⟩
abbrev S_ : Shape := ⟨0, ![]⟩
abbrev S2x4096 : Shape := ⟨2, ![2, 4096]⟩
abbrev S8192x1024 : Shape := ⟨2, ![8192, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096, .f32⟩
  | .hbm, ⟨20, _⟩ => ⟨S_, .f32⟩
  | .hbm, ⟨21, _⟩ => ⟨S2x4096, .f32⟩
  | .hbm, ⟨22, _⟩ => ⟨S2x4096, .f32⟩
  | .hbm, ⟨23, _⟩ => ⟨S2x4096x1024, .f32⟩
  | .hbm, ⟨24, _⟩ => ⟨S2x4096x1024, .f32⟩
  | .hbm, ⟨25, _⟩ => ⟨S8192x1024, .f32⟩
  | .hbm, ⟨26, _⟩ => ⟨S8x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== SwigluKernel.lean ====
abbrev S2x4096x1024 : Shape := ⟨3, ![2, 4096, 1024]⟩
abbrev S2816x1024 : Shape := ⟨2, ![2816, 1024]⟩
abbrev S2x4096x2816 : Shape := ⟨3, ![2, 4096, 2816]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x1024, .bf16⟩
  | .hbm, ⟨1, _⟩ => ⟨S2816x1024, .f32⟩
  | .hbm, ⟨2, _⟩ => ⟨S2x4096x2816, .bf16⟩
  | .hbm, ⟨3, _⟩ => ⟨S2x4096x2816, .bf16⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluReferenceIdeal.lean ====
abbrev S2x4096x1024 : Shape := ⟨3, ![2, 4096, 1024]⟩
abbrev S2816x1024 : Shape := ⟨2, ![2816, 1024]⟩
abbrev S2x4096x2816 : Shape := ⟨3, ![2, 4096, 2816]⟩
abbrev S_ : Shape := ⟨0, ![]⟩
abbrev S8192x2816 : Shape := ⟨2, ![8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2816x1024, .f32⟩
  | .hbm, ⟨2, _⟩ => ⟨S2x4096x2816, .bf16⟩
  | .hbm, ⟨3, _⟩ => ⟨S2x4096x2816, .bf16⟩
  | .hbm, ⟨4, _⟩ => ⟨S2x4096x2816, .f32⟩
  | .hbm, ⟨5, _⟩ => ⟨S2x4096x2816, .f32⟩
  | .hbm, ⟨6, _⟩ => ⟨S2x4096x2816, .f32⟩
  | .hbm, ⟨7, _⟩ => ⟨S2x4096x2816, .f32⟩
  | .hbm, ⟨8, _⟩ => ⟨S_, .f32⟩
  | .hbm, ⟨9, _⟩ => ⟨S2x4096x2816, .f32⟩
  | .hbm, ⟨10, _⟩ => ⟨S2x4096x2816, .f32⟩
  | .hbm, ⟨11, _⟩ => ⟨S_, .f32⟩
  | .hbm, ⟨12, _⟩ => ⟨S2x4096x2816, .f32⟩
  | .hbm, ⟨13, _⟩ => ⟨S2x4096x2816, .f32⟩
  | .hbm, ⟨14, _⟩ => ⟨S_, .f32⟩
  | .hbm, ⟨15, _⟩ => ⟨S2x4096x2816, .f32⟩
  | .hbm, ⟨16, _⟩ => ⟨S2x4096x2816, .f32⟩
  | .hbm, ⟨17, _⟩ => ⟨S2x4096x2816, .f32⟩
  | .hbm, ⟨18, _⟩ => ⟨S2x4096x2816, .f32⟩
  | .hbm, ⟨19, _⟩ => ⟨S2x4096x2816, .f32⟩
  | .hbm, ⟨20, _⟩ => ⟨S2x4096x1024, .f32⟩
  | .hbm, ⟨21, _⟩ => ⟨S2x4096x1024, .f32⟩
  | .hbm, ⟨22, _⟩ => ⟨S2x4096x2816, .f32⟩
  | .hbm, ⟨23, _⟩ => ⟨S2x4096x2816, .f32⟩
  | .hbm, ⟨24, _⟩ => ⟨S2x4096x2816, .f32⟩
  | .hbm, ⟨25, _⟩ => ⟨S2x4096x2816, .f32⟩
  | .hbm, ⟨26, _⟩ => ⟨S2x4096x2816, .f32⟩
  | .hbm, ⟨27, _⟩ => ⟨S2x4096x2816, .f32⟩
  | .hbm, ⟨28, _⟩ => ⟨S2x4096x2816, .f32⟩
  | .hbm, ⟨29, _⟩ => ⟨S8192x2816, .f32⟩
  | .hbm, ⟨30, _⟩ => ⟨S8192x2816, .bf16⟩
  | .hbm, ⟨31, _⟩ => ⟨S8192x2816, .f32⟩
  | .hbm, ⟨32, _⟩ => ⟨S8192x2816, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== SbKernel.lean ====
abbrev S2x4096x3072 : Shape := ⟨3, ![2, 4096, 3072]⟩
abbrev S2x4096x1024 : Shape := ⟨3, ![2, 4096, 1024]⟩
abbrev S8192x3072 : Shape := ⟨2, ![8192, 3072]⟩
abbrev S2x4096x16x64 : Shape := ⟨4, ![2, 4096, 16, 64]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x4096x16 : Shape := ⟨3, ![2, 4096, 16]⟩
abbrev S8192x16 : Shape := ⟨2, ![8192, 16]⟩
abbrev S8192x16x64 : Shape := ⟨3, ![8192, 16, 64]⟩
abbrev S8192x1024 : Shape := ⟨2, ![8192, 1024]⟩
abbrev S2048x4096 : Shape := ⟨2, ![2048, 4096]⟩
abbrev S256x128 : Shape := ⟨2, ![256, 128]⟩
abbrev S4096x128 : Shape := ⟨2, ![4096, 128]⟩
abbrev S128x4096 : Shape := ⟨2, ![128, 4096]⟩
abbrev S128x256 : Shape := ⟨2, ![128, 256]⟩
abbrev S256x1 : Shape := ⟨2, ![256, 1]⟩
abbrev S256x256 : Shape := ⟨2, ![256, 256]⟩
abbrev S256 : Shape := ⟨1, ![256]⟩

abbrev nBuf : Space → Nat
  | .hbm => 55
  | .vmem => 20
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x1024, .bf16⟩
  | .hbm, ⟨2, _⟩ => ⟨S8192x3072, .bf16⟩
  | .hbm, ⟨3, _⟩ => ⟨S2x4096x3072, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x16x64, .f32⟩
  | .hbm, ⟨8, _⟩ => ⟨S2x4096x16x64, .f32⟩
  | .hbm, ⟨9, _⟩ => ⟨S2x4096x16x64, .f32⟩
  | .hbm, ⟨10, _⟩ => ⟨S2x16x4096x4096, .f32⟩
  | .hbm, ⟨11, _⟩ => ⟨S_, .f32⟩
  | .hbm, ⟨12, _⟩ => ⟨S2x16x4096x4096, .f32⟩
  | .hbm, ⟨13, _⟩ => ⟨S2x16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S2x16x4096x4096, .f32⟩
  | .hbm, ⟨22, _⟩ => ⟨S2x16x4096x4096, .f32⟩
  | .hbm, ⟨23, _⟩ => ⟨S_, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S2x16x4096, .f32⟩
  | .hbm, ⟨45, _⟩ => ⟨S2x4096x16, .f32⟩
  | .hbm, ⟨46, _⟩ => ⟨S8192x16, .f32⟩
  | .hbm, ⟨47, _⟩ => ⟨S8192x16x64, .f32⟩
  | .hbm, ⟨48, _⟩ => ⟨S8192x1024, .f32⟩
  | .hbm, ⟨49, _⟩ => ⟨S8192x1024, .bf16⟩
  | .hbm, ⟨50, _⟩ => ⟨S8192x1024, .bf16⟩
  | .hbm, ⟨51, _⟩ => ⟨S2048x4096, .f32⟩
  | .hbm, ⟨52, _⟩ => ⟨S2048x4096, .f32⟩
  | .hbm, ⟨53, _⟩ => ⟨S8192x1024, .bf16⟩
  | .hbm, ⟨54, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev main_v27_3 : Ref sig .tc := ⟨.hbm, 53, rfl⟩
abbrev main_v27_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_23 : BitVec 32 := 0#32
  let arg2 : BitVec 32 := BitVec.ofNat 32 (i 2).val
  let c0_i32_18 : BitVec 32 := 0#32
  let v60 : BitVec 1 := Scalar.cmpi .sgt arg2 c0_i32_18
  let v61 : BitVec 32 := Scalar.extui v60
  let c0_i32_19 : BitVec 32 := 0#32
  let v62 : BitVec 1 := Scalar.cmpi .slt arg2 c0_i32_19
  let v63 : BitVec 32 := Scalar.extui v62
  let v64 : BitVec 32 := Scalar.subi v61 v63
  let c2_i32 : BitVec 32 := 2#32
  let c0_i32_20 : BitVec 32 := 0#32
  let v65 : BitVec 1 := Scalar.cmpi .sgt c2_i32 c0_i32_20
  let v66 : BitVec 32 := Scalar.extui v65
  let c0_i32_21 : BitVec 32 := 0#32
  let v67 : BitVec 1 := Scalar.cmpi .slt c2_i32 c0_i32_21
  let v68 : BitVec 32 := Scalar.extui v67
  let v69 : BitVec 32 := Scalar.subi v66 v68
  let v70 : BitVec 1 := Scalar.cmpi .ne v64 v69
  let v71 : BitVec 32 := Scalar.remsi arg2 c2_i32
  let c0_i32_22 : BitVec 32 := 0#32
  let v72 : BitVec 1 := Scalar.cmpi .ne v71 c0_i32_22
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_25 : BitVec 32 := 1#32
  ⟨c0_i32_23, v80, c1_i32_25⟩
def k0_mult1 (i : grid0.Coords) (k0_t1 : Fin (k0_t1_loop i).trips) : BitVec 32 :=
  let c2_i32_40 : BitVec 32 := 2#32
  let c0_i32_23 : BitVec 32 := 0#32
  let c1_i32_25 : BitVec 32 := 1#32
  let arg13 : BitVec 32 := Scf.iv c0_i32_23 c1_i32_25 k0_t1
  let v108 : BitVec 32 := Scalar.muli c2_i32_40 arg13
  let c0_i32_41 : BitVec 32 := 0#32
  let v109 : BitVec 32 := Scalar.addi v108 c0_i32_41
  let c256_i32 : BitVec 32 := 256#32
  let v112 : BitVec 32 := Scalar.muli v109 c256_i32
  v112
def k0_mult2 (i : grid0.Coords) (k0_t1 : Fin (k0_t1_loop i).trips) : BitVec 32 :=
  let c2_i32_42 : BitVec 32 := 2#32
  let c0_i32_23 : BitVec 32 := 0#32
  let c1_i32_25 : BitVec 32 := 1#32
  let arg13 : BitVec 32 := Scf.iv c0_i32_23 c1_i32_25 k0_t1
  let v110 : BitVec 32 := Scalar.muli c2_i32_42 arg13
  let c1_i32_43 : BitVec 32 := 1#32
  let v111 : BitVec 32 := Scalar.addi v110 c1_i32_43
  let c256_i32_44 : BitVec 32 := 256#32
  let v114 : BitVec 32 := Scalar.muli v111 c256_i32_44
  v114
def k0_off1 (i : grid0.Coords) (k0_t1 : Fin (k0_t1_loop i).trips) (c0_i32_41 : BitVec 32) : Fin 2 → Nat :=
  let c2_i32_40 : BitVec 32 := 2#32
  let c0_i32_23 : BitVec 32 := 0#32
  let c1_i32_25 : BitVec 32 := 1#32
  let arg13 : BitVec 32 := Scf.iv c0_i32_23 c1_i32_25 k0_t1
  let v108 : BitVec 32 := Scalar.muli c2_i32_40 arg13
  let v109 : BitVec 32 := Scalar.addi v108 c0_i32_41
  let c256_i32 : BitVec 32 := 256#32
  let v112 : BitVec 32 := Scalar.muli v109 c256_i32
  let v113 : BitVec 32 := v112
  let v116 : Index := Scalar.indexCast v113
  let c0_45 : Index := 0#32
  ![v116.toNat, 0]
def k0_off2 (i : grid0.Coords) (k0_t1 : Fin (k0_t1_loop i).trips) (c0_i32_41 : BitVec 32) : Fin 2 → Nat :=
  let c0_89 : Index := 0#32
  let c2_i32_40 : BitVec 32 := 2#32
  let c0_i32_23 : BitVec 32 := 0#32
  let c1_i32_25 : BitVec 32 := 1#32
  let arg13 : BitVec 32 := Scf.iv c0_i32_23 c1_i32_25 k0_t1
  let v108 : BitVec 32 := Scalar.muli c2_i32_40 arg13
  let v109 : BitVec 32 := Scalar.addi v108 c0_i32_41
  let c256_i32 : BitVec 32 := 256#32
  let v112 : BitVec 32 := Scalar.muli v109 c256_i32
  let v113 : BitVec 32 := v112
  let v280 : Index := Scalar.indexCast v113
  ![0, v280.toNat]
@[reducible] def k0_t2_loop (i : grid0.Coords) : Scf.Loop 32 :=
  let c0_i32_23 : BitVec 32 := 0#32
  let arg2 : BitVec 32 := BitVec.ofNat 32 (i 2).val
  let c0_i32_18 : BitVec 32 := 0#32
  let v60 : BitVec 1 := Scalar.cmpi .sgt arg2 c0_i32_18
  let v61 : BitVec 32 := Scalar.extui v60
  let c0_i32_19 : BitVec 32 := 0#32
  let v62 : BitVec 1 := Scalar.cmpi .slt arg2 c0_i32_19
  let v63 : BitVec 32 := Scalar.extui v62
  let v64 : BitVec 32 := Scalar.subi v61 v63
  let c2_i32 : BitVec 32 := 2#32
  let c0_i32_20 : BitVec 32 := 0#32
  let v65 : BitVec 1 := Scalar.cmpi .sgt c2_i32 c0_i32_20
  let v66 : BitVec 32 := Scalar.extui v65
  let c0_i32_21 : BitVec 32 := 0#32
  let v67 : BitVec 1 := Scalar.cmpi .slt c2_i32 c0_i32_21
  let v68 : BitVec 32 := Scalar.extui v67
  let v69 : BitVec 32 := Scalar.subi v66 v68
  let v70 : BitVec 1 := Scalar.cmpi .ne v64 v69
  let v71 : BitVec 32 := Scalar.remsi arg2 c2_i32
  let c0_i32_22 : BitVec 32 := 0#32
  let v72 : BitVec 1 := Scalar.cmpi .ne v71 c0_i32_22
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let v77 : BitVec 32 := Scalar.addi c0_i32_23 v76
  let c1_i32_26 : BitVec 32 := 1#32
  ⟨v80, v77, c1_i32_26⟩
def k0_mult3 (i : grid0.Coords) (k0_t2 : Fin (k0_t2_loop i).trips) : BitVec 32 :=
  let c2_i32_40 : BitVec 32 := 2#32
  let c0_i32_23 : BitVec 32 := 0#32
  let arg2 : BitVec 32 := BitVec.ofNat 32 (i 2).val
  let c0_i32_18 : BitVec 32 := 0#32
  let v60 : BitVec 1 := Scalar.cmpi .sgt arg2 c0_i32_18
  let v61 : BitVec 32 := Scalar.extui v60
  let c0_i32_19 : BitVec 32 := 0#32
  let v62 : BitVec 1 := Scalar.cmpi .slt arg2 c0_i32_19
  let v63 : BitVec 32 := Scalar.extui v62
  let v64 : BitVec 32 := Scalar.subi v61 v63
  let c2_i32 : BitVec 32 := 2#32
  let c0_i32_20 : BitVec 32 := 0#32
  let v65 : BitVec 1 := Scalar.cmpi .sgt c2_i32 c0_i32_20
  let v66 : BitVec 32 := Scalar.extui v65
  let c0_i32_21 : BitVec 32 := 0#32
  let v67 : BitVec 1 := Scalar.cmpi .slt c2_i32 c0_i32_21
  let v68 : BitVec 32 := Scalar.extui v67
  let v69 : BitVec 32 := Scalar.subi v66 v68
  let v70 : BitVec 1 := Scalar.cmpi .ne v64 v69
  let v71 : BitVec 32 := Scalar.remsi arg2 c2_i32
  let c0_i32_22 : BitVec 32 := 0#32
  let v72 : BitVec 1 := Scalar.cmpi .ne v71 c0_i32_22
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg13 : BitVec 32 := Scf.iv v80 c1_i32_26 k0_t2
  let v108 : BitVec 32 := Scalar.muli c2_i32_40 arg13
  let c0_i32_41 : BitVec 32 := 0#32
  let v109 : BitVec 32 := Scalar.addi v108 c0_i32_41
  let c256_i32 : BitVec 32 := 256#32
  let v112 : BitVec 32 := Scalar.muli v109 c256_i32
  v112
def k0_mult4 (i : grid0.Coords) (k0_t2 : Fin (k0_t2_loop i).trips) : BitVec 32 :=
  let c2_i32_42 : BitVec 32 := 2#32
  let c0_i32_23 : BitVec 32 := 0#32
  let arg2 : BitVec 32 := BitVec.ofNat 32 (i 2).val
  let c0_i32_18 : BitVec 32 := 0#32
  let v60 : BitVec 1 := Scalar.cmpi .sgt arg2 c0_i32_18
  let v61 : BitVec 32 := Scalar.extui v60
  let c0_i32_19 : BitVec 32 := 0#32
  let v62 : BitVec 1 := Scalar.cmpi .slt arg2 c0_i32_19
  let v63 : BitVec 32 := Scalar.extui v62
  let v64 : BitVec 32 := Scalar.subi v61 v63
  let c2_i32 : BitVec 32 := 2#32
  let c0_i32_20 : BitVec 32 := 0#32
  let v65 : BitVec 1 := Scalar.cmpi .sgt c2_i32 c0_i32_20
  let v66 : BitVec 32 := Scalar.extui v65
  let c0_i32_21 : BitVec 32 := 0#32
  let v67 : BitVec 1 := Scalar.cmpi .slt c2_i32 c0_i32_21
  let v68 : BitVec 32 := Scalar.extui v67
  let v69 : BitVec 32 := Scalar.subi v66 v68
  let v70 : BitVec 1 := Scalar.cmpi .ne v64 v69
  let v71 : BitVec 32 := Scalar.remsi arg2 c2_i32
  let c0_i32_22 : BitVec 32 := 0#32
  let v72 : BitVec 1 := Scalar.cmpi .ne v71 c0_i32_22
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg13 : BitVec 32 := Scf.iv v80 c1_i32_26 k0_t2
  let v110 : BitVec 32 := Scalar.muli c2_i32_42 arg13
  let c1_i32_43 : BitVec 32 := 1#32
  let v111 : BitVec 32 := Scalar.addi v110 c1_i32_43
  let c256_i32_44 : BitVec 32 := 256#32
  let v114 : BitVec 32 := Scalar.muli v111 c256_i32_44
  v114
def k0_off3 (i : grid0.Coords) (k0_t2 : Fin (k0_t2_loop i).trips) (c0_i32_41 : BitVec 32) : Fin 2 → Nat :=
  let c2_i32_40 : BitVec 32 := 2#32
  let c0_i32_23 : BitVec 32 := 0#32
  let arg2 : BitVec 32 := BitVec.ofNat 32 (i 2).val
  let c0_i32_18 : BitVec 32 := 0#32
  let v60 : BitVec 1 := Scalar.cmpi .sgt arg2 c0_i32_18
  let v61 : BitVec 32 := Scalar.extui v60
  let c0_i32_19 : BitVec 32 := 0#32
  let v62 : BitVec 1 := Scalar.cmpi .slt arg2 c0_i32_19
  let v63 : BitVec 32 := Scalar.extui v62
  let v64 : BitVec 32 := Scalar.subi v61 v63
  let c2_i32 : BitVec 32 := 2#32
  let c0_i32_20 : BitVec 32 := 0#32
  let v65 : BitVec 1 := Scalar.cmpi .sgt c2_i32 c0_i32_20
  let v66 : BitVec 32 := Scalar.extui v65
  let c0_i32_21 : BitVec 32 := 0#32
  let v67 : BitVec 1 := Scalar.cmpi .slt c2_i32 c0_i32_21
  let v68 : BitVec 32 := Scalar.extui v67
  let v69 : BitVec 32 := Scalar.subi v66 v68
  let v70 : BitVec 1 := Scalar.cmpi .ne v64 v69
  let v71 : BitVec 32 := Scalar.remsi arg2 c2_i32
  let c0_i32_22 : BitVec 32 := 0#32
  let v72 : BitVec 1 := Scalar.cmpi .ne v71 c0_i32_22
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg13 : BitVec 32 := Scf.iv v80 c1_i32_26 k0_t2
  let v108 : BitVec 32 := Scalar.muli c2_i32_40 arg13
  let v109 : BitVec 32 := Scalar.addi v108 c0_i32_41
  let c256_i32 : BitVec 32 := 256#32
  let v112 : BitVec 32 := Scalar.muli v109 c256_i32
  let v113 : BitVec 32 := v112
  let v116 : Index := Scalar.indexCast v113
  let c0_45 : Index := 0#32
  ![v116.toNat, 0]
def k0_off4 (i : grid0.Coords) (k0_t2 : Fin (k0_t2_loop i).trips) (c0_i32_41 : BitVec 32) : Fin 2 → Nat :=
  let c0_89 : Index := 0#32
  let c2_i32_40 : BitVec 32 := 2#32
  let c0_i32_23 : BitVec 32 := 0#32
  let arg2 : BitVec 32 := BitVec.ofNat 32 (i 2).val
  let c0_i32_18 : BitVec 32 := 0#32
  let v60 : BitVec 1 := Scalar.cmpi .sgt arg2 c0_i32_18
  let v61 : BitVec 32 := Scalar.extui v60
  let c0_i32_19 : BitVec 32 := 0#32
  let v62 : BitVec 1 := Scalar.cmpi .slt arg2 c0_i32_19
  let v63 : BitVec 32 := Scalar.extui v62
  let v64 : BitVec 32 := Scalar.subi v61 v63
  let c2_i32 : BitVec 32 := 2#32
  let c0_i32_20 : BitVec 32 := 0#32
  let v65 : BitVec 1 := Scalar.cmpi .sgt c2_i32 c0_i32_20
  let v66 : BitVec 32 := Scalar.extui v65
  let c0_i32_21 : BitVec 32 := 0#32
  let v67 : BitVec 1 := Scalar.cmpi .slt c2_i32 c0_i32_21
  let v68 : BitVec 32 := Scalar.extui v67
  let v69 : BitVec 32 := Scalar.subi v66 v68
  let v70 : BitVec 1 := Scalar.cmpi .ne v64 v69
  let v71 : BitVec 32 := Scalar.remsi arg2 c2_i32
  let c0_i32_22 : BitVec 32 := 0#32
  let v72 : BitVec 1 := Scalar.cmpi .ne v71 c0_i32_22
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg13 : BitVec 32 := Scf.iv v80 c1_i32_26 k0_t2
  let v108 : BitVec 32 := Scalar.muli c2_i32_40 arg13
  let v109 : BitVec 32 := Scalar.addi v108 c0_i32_41
  let c256_i32 : BitVec 32 := 256#32
  let v112 : BitVec 32 := Scalar.muli v109 c256_i32
  let v113 : BitVec 32 := v112
  let v280 : Index := Scalar.indexCast v113
  ![0, v280.toNat]
def k0_cond2 (i : grid0.Coords) : BitVec 1 :=
  let arg2 : BitVec 32 := BitVec.ofNat 32 (i 2).val
  let c2_i32_27 : BitVec 32 := 2#32
  let c0_i32_28 : BitVec 32 := 0#32
  let v83 : BitVec 1 := Scalar.cmpi .eq c2_i32_27 c0_i32_28
  let c1_i32_29 : BitVec 32 := 1#32
  let v84 : BitVec 32 := Scalar.select v83 c1_i32_29 c2_i32_27
  let v85 : BitVec 32 := Scalar.remsi arg2 v84
  let c0_i32_31 : BitVec 32 := 0#32
  let v87 : BitVec 1 := Scalar.cmpi .slt v85 c0_i32_31
  let c0_i32_32 : BitVec 32 := 0#32
  let v88 : BitVec 1 := Scalar.cmpi .slt v84 c0_i32_32
  let v89 : BitVec 1 := Scalar.xori v87 v88
  let c0_i32_30 : BitVec 32 := 0#32
  let v86 : BitVec 1 := Scalar.cmpi .ne v85 c0_i32_30
  let v90 : BitVec 1 := Scalar.andi v89 v86
  let v91 : BitVec 32 := Scalar.addi v85 v84
  let v92 : BitVec 32 := Scalar.select v90 v91 v85
  let c1_i32_33 : BitVec 32 := 1#32
  let v93 : BitVec 1 := Scalar.cmpi .slt v92 c1_i32_33
  let v94 : BitVec 32 := Scalar.extui v93
  let c0_i32_34 : BitVec 32 := 0#32
  let v95 : BitVec 1 := Scalar.cmpi .ne v94 c0_i32_34
  v95

def k0_mult5 (i : grid0.Coords) : BitVec 32 :=
  let arg2 : BitVec 32 := BitVec.ofNat 32 (i 2).val
  let c256_i32 : BitVec 32 := 256#32
  let v108 : BitVec 32 := Scalar.muli arg2 c256_i32
  v108
def k0_off5 (i : grid0.Coords) : Fin 2 → Nat :=
  let arg2 : BitVec 32 := BitVec.ofNat 32 (i 2).val
  let c256_i32 : BitVec 32 := 256#32
  let v108 : BitVec 32 := Scalar.muli arg2 c256_i32
  let v109 : BitVec 32 := v108
  let v110 : Index := Scalar.indexCast v109
  let c0_40 : Index := 0#32
  ![v110.toNat, 0]
def k0_off6 (i : grid0.Coords) : Fin 2 → Nat :=
  let c0_66 : Index := 0#32
  let arg2 : BitVec 32 := BitVec.ofNat 32 (i 2).val
  let c256_i32 : BitVec 32 := 256#32
  let v108 : BitVec 32 := Scalar.muli arg2 c256_i32
  let v109 : BitVec 32 := v108
  let v204 : Index := Scalar.indexCast v109
  ![0, v204.toNat]
def k0_mult6 (i : grid0.Coords) : BitVec 32 :=
  let arg2 : BitVec 32 := BitVec.ofNat 32 (i 2).val
  let c1_i32_40 : BitVec 32 := 1#32
  let v108 : BitVec 32 := Scalar.subi arg2 c1_i32_40
  let c0_i32_41 : BitVec 32 := 0#32
  let v109 : BitVec 32 := Scalar.addi v108 c0_i32_41
  let c256_i32 : BitVec 32 := 256#32
  let v110 : BitVec 32 := Scalar.muli v109 c256_i32
  v110
def k0_mult7 (i : grid0.Coords) : BitVec 32 :=
  let arg2 : BitVec 32 := BitVec.ofNat 32 (i 2).val
  let c256_i32_42 : BitVec 32 := 256#32
  let v112 : BitVec 32 := Scalar.muli arg2 c256_i32_42
  v112
def k0_off7 (i : grid0.Coords) : Fin 2 → Nat :=
  let arg2 : BitVec 32 := BitVec.ofNat 32 (i 2).val
  let c1_i32_40 : BitVec 32 := 1#32
  let v108 : BitVec 32 := Scalar.subi arg2 c1_i32_40
  let c0_i32_41 : BitVec 32 := 0#32
  let v109 : BitVec 32 := Scalar.addi v108 c0_i32_41
  let c256_i32 : BitVec 32 := 256#32
  let v110 : BitVec 32 := Scalar.muli v109 c256_i32
  let v111 : BitVec 32 := v110
  let v114 : Index := Scalar.indexCast v111
  let c0_43 : Index := 0#32
  ![v114.toNat, 0]
def k0_off8 (i : grid0.Coords) : Fin 2 → Nat :=
  let arg2 : BitVec 32 := BitVec.ofNat 32 (i 2).val
  let c256_i32_42 : BitVec 32 := 256#32
  let v112 : BitVec 32 := Scalar.muli arg2 c256_i32_42
  let v113 : BitVec 32 := v112
  let v117 : Index := Scalar.indexCast v113
  let c0_44 : Index := 0#32
  ![v117.toNat, 0]
def k0_off9 (i : grid0.Coords) : Fin 2 → Nat :=
  let c0_91 : Index := 0#32
  let arg2 : BitVec 32 := BitVec.ofNat 32 (i 2).val
  let c1_i32_40 : BitVec 32 := 1#32
  let v108 : BitVec 32 := Scalar.subi arg2 c1_i32_40
  let c0_i32_41 : BitVec 32 := 0#32
  let v109 : BitVec 32 := Scalar.addi v108 c0_i32_41
  let c256_i32 : BitVec 32 := 256#32
  let v110 : BitVec 32 := Scalar.muli v109 c256_i32
  let v111 : BitVec 32 := v110
  let v290 : Index := Scalar.indexCast v111
  ![0, v290.toNat]
def k0_off10 (i : grid0.Coords) : Fin 2 → Nat :=
  let c0_99 : Index := 0#32
  let arg2 : BitVec 32 := BitVec.ofNat 32 (i 2).val
  let c256_i32_42 : BitVec 32 := 256#32
  let v112 : BitVec 32 := Scalar.muli arg2 c256_i32_42
  let v113 : BitVec 32 := v112
  let v310 : Index := Scalar.indexCast v113
  ![0, v310.toNat]
def k0_cond3 (i : grid0.Coords) : BitVec 1 :=
  let arg2 : BitVec 32 := BitVec.ofNat 32 (i 2).val
  let c15_i32 : BitVec 32 := 15#32
  let v105 : BitVec 1 := Scalar.cmpi .eq arg2 c15_i32
  let v106 : BitVec 32 := Scalar.extui v105
  let c0_i32_39 : BitVec 32 := 0#32
  let v107 : BitVec 1 := Scalar.cmpi .ne v106 c0_i32_39
  v107

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== SbKernelIdeal.lean ====
variable {F : FTy → Type} [FloatOps F] [Named F]
def κ : String → Option EReal := fun
  | "l2e" => some ((-((Real.log 2)⁻¹) : ℝ) : EReal)
  | _ => none
-- ==== SbReferenceIdeal.lean ====
abbrev S2x4096x3072 : Shape := ⟨3, ![2, 4096, 3072]⟩
abbrev S2x4096x1024 : Shape := ⟨3, ![2, 4096, 1024]⟩
abbrev S2x4096x16x64 : Shape := ⟨4, ![2, 4096, 16, 64]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096x4095 : Shape := ⟨4, ![2, 16, 4096, 4095]⟩
abbrev S2x16x4096x1 : Shape := ⟨4, ![2, 16, 4096, 1]⟩
abbrev S2x16x64x4096 : Shape := ⟨4, ![2, 16, 64, 4096]⟩
abbrev S2x16x4096x64 : Shape := ⟨4, ![2, 16, 4096, 64]⟩
abbrev S8192x1024 : Shape := ⟨2, ![8192, 1024]⟩
abbrev S2x1024x4096 : Shape := ⟨3, ![2, 1024, 4096]⟩
abbrev S2048x4096 : Shape := ⟨2, ![2048, 4096]⟩

abbrev nBuf : Space → Nat
  | .hbm => 198
  | .vmem => 0
  | .smem => 0
  | _ => 0

abbrev hbmTy0_0 (i : Nat) : BufTy := match i % 128 with
  | 0 => ⟨S2x4096x3072, .bf16⟩
  | 1 => ⟨S2x4096x1024, .bf16⟩
  | 2 => ⟨S2x4096x3072, .f32⟩
  | 3 => ⟨S2x4096x1024, .f32⟩
  | 4 => ⟨S2x4096x1024, .f32⟩
  | 5 => ⟨S2x4096x1024, .f32⟩
  | 6 => ⟨S2x4096x16x64, .f32⟩
  | 7 => ⟨S2x4096x16x64, .f32⟩
  | 8 => ⟨S2x4096x16x64, .f32⟩
  | 9 => ⟨S2x16x4096x4096, .f32⟩
  | 10 => ⟨S_, .f32⟩
  | 11 => ⟨S2x16x4096x4096, .f32⟩
  | 12 => ⟨S2x16x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S2x16x4096x4096, .f32⟩
  | 21 => ⟨S_, .f32⟩
  | 22 => ⟨S2x16x4096x4096, .f32⟩
  | 23 => ⟨S2x16x4096x4096, .f32⟩
  | 24 => ⟨S2x16x4096x4096, .f32⟩
  | 25 => ⟨S2x16x4096x4096, .f32⟩
  | 26 => ⟨S2x16x4096x4096, .i1⟩
  | 27 => ⟨S2x16x4096x4096, .f32⟩
  | 28 => ⟨S2x16x4096x4096, .f32⟩
  | 29 => ⟨S2x16x4096x4096, .f32⟩
  | 30 => ⟨S2x16x4096x4096, .f32⟩
  | 31 => ⟨S2x16x4096x4096, .f32⟩
  | 32 => ⟨S2x16x4096x4096, .f32⟩
  | 33 => ⟨S2x16x4096x4096, .f32⟩
  | 34 => ⟨S2x16x4096x4096, .f32⟩
  | 35 => ⟨S_, .f32⟩
  | 36 => ⟨S2x16x4096x4096, .f32⟩
  | 37 => ⟨S2x16x4096x4096, .i1⟩
  | 38 => ⟨S_, .f32⟩
  | 39 => ⟨S2x16x4096x4096, .f32⟩
  | 40 => ⟨S2x16x4096x4096, .f32⟩
  | 41 => ⟨S_, .f32⟩
  | 42 => ⟨S2x16x4096x4096, .f32⟩
  | 43 => ⟨S2x16x4096x4096, .i1⟩
  | 44 => ⟨S_, .f32⟩
  | 45 => ⟨S2x16x4096x4096, .f32⟩
  | 46 => ⟨S2x16x4096x4096, .f32⟩
  | 47 => ⟨S2x16x4096x4096, .f32⟩
  | 48 => ⟨S2x16x4096x4096, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S2x16x4096x4096, .f32⟩
  | 57 => ⟨S2x16x4096x4096, .i1⟩
  | 58 => ⟨S_, .f32⟩
  | 59 => ⟨S2x16x4096x4096, .f32⟩
  | 60 => ⟨S2x16x4096x4096, .f32⟩
  | 61 => ⟨S2x16x4096x4096, .f32⟩
  | 62 => ⟨S2x16x4096x4096, .f32⟩
  | 63 => ⟨S2x16x4096x4096, .f32⟩
  | 64 => ⟨S_, .f32⟩
  | 65 => ⟨S2x16x4096x4096, .f32⟩
  | 66 => ⟨S2x16x4096x4096, .f32⟩
  | 67 => ⟨S2x16x4096x4096, .f32⟩
  | 68 => ⟨S2x16x4096x4096, .f32⟩
  | 69 => ⟨S2x16x4096x4096, .f32⟩
  | 70 => ⟨S_, .f32⟩
  | 71 => ⟨S2x16x4096x4096, .f32⟩
  | 72 => ⟨S2x16x4096x4096, .f32⟩
  | 73 => ⟨S2x16x4096x4096, .f32⟩
  | 74 => ⟨S2x16x4096x4096, .f32⟩
  | 75 => ⟨S2x16x4096x4096, .i1⟩
  | 76 => ⟨S2x16x4096x4096, .f32⟩
  | 77 => ⟨S2x16x4096x4096, .f32⟩
  | 78 => ⟨S2x16x4096x4096, .f32⟩
  | 79 => ⟨S2x16x4096x4096, .f32⟩
  | 80 => ⟨S2x16x4096x4096, .f32⟩
  | 81 => ⟨S2x16x4096x4096, .f32⟩
  | 82 => ⟨S2x16x4096x4096, .f32⟩
  | 83 => ⟨S2x16x4096x4096, .f32⟩
  | 84 => ⟨S_, .f32⟩
  | 85 => ⟨S2x16x4096x4096, .f32⟩
  | 86 => ⟨S2x16x4096x4096, .i1⟩
  | 87 => ⟨S_, .f32⟩
  | 88 => ⟨S2x16x4096x4096, .f32⟩
  | 89 => ⟨S2x16x4096x4096, .f32⟩
  | 90 => ⟨S_, .f32⟩
  | 91 => ⟨S2x16x4096x4096, .f32⟩
  | 92 => ⟨S2x16x4096x4096, .i1⟩
  | 93 => ⟨S_, .f32⟩
  | 94 => ⟨S2x16x4096x4096, .f32⟩
  | 95 => ⟨S2x16x4096x4096, .f32⟩
  | 96 => ⟨S2x16x4096x4096, .f32⟩
  | 97 => ⟨S2x16x4096x4096, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S2x16x4096x4096, .f32⟩
  | 106 => ⟨S2x16x4096x4096, .i1⟩
  | 107 => ⟨S_, .f32⟩
  | 108 => ⟨S2x16x4096x4096, .f32⟩
  | 109 => ⟨S2x16x4096x4096, .f32⟩
  | 110 => ⟨S2x16x4096x4096, .f32⟩
  | 111 => ⟨S2x16x4096x4096, .f32⟩
  | 112 => ⟨S2x16x4096x4096, .f32⟩
  | 113 => ⟨S_, .f32⟩
  | 114 => ⟨S2x16x4096x4096, .f32⟩
  | 115 => ⟨S2x16x4096x4096, .f32⟩
  | 116 => ⟨S2x16x4096x4096, .f32⟩
  | 117 => ⟨S_, .f32⟩
  | 118 => ⟨S_, .f32⟩
  | 119 => ⟨S2x16x4096x4096, .i1⟩
  | 120 => ⟨S2x16x4096x4096, .f32⟩
  | 121 => ⟨S2x16x4096x4096, .f32⟩
  | 122 => ⟨S_, .f32⟩
  | 123 => ⟨S2x16x4096x4096, .f32⟩
  | 124 => ⟨S_, .f32⟩
  | 125 => ⟨S_, .f32⟩
  | 126 => ⟨S2x16x4096x4096, .f32⟩
  | 127 => ⟨S2x16x4096x4095, .f32⟩
  | _ => ⟨S2x4096x3072, .bf16⟩

abbrev hbmTy0_1 (i : Nat) : BufTy := match i % 128 with
  | 0 => ⟨S2x16x4096x1, .f32⟩
  | 1 => ⟨S_, .f32⟩
  | 2 => ⟨S2x16x4096x1, .f32⟩
  | 3 => ⟨S2x16x4096x4096, .f32⟩
  | 4 => ⟨S_, .f32⟩
  | 5 => ⟨S2x16x4096x1, .f32⟩
  | 6 => ⟨S2x16x4096x4096, .f32⟩
  | 7 => ⟨S2x16x4096x4096, .f32⟩
  | 8 => ⟨S_, .f32⟩
  | 9 => ⟨S_, .f32⟩
  | 10 => ⟨S2x16x4096x4096, .i1⟩
  | 11 => ⟨S2x16x4096x4096, .f32⟩
  | 12 => ⟨S2x16x4096x4096, .f32⟩
  | 13 => ⟨S_, .f32⟩
  | 14 => ⟨S2x16x4096x4096, .f32⟩
  | 15 => ⟨S2x16x64x4096, .f32⟩
  | 16 => ⟨S2x4096x16x64, .f32⟩
  | 17 => ⟨S2x4096x1024, .f32⟩
  | 18 => ⟨S2x4096x1024, .f32⟩
  | 19 => ⟨S2x4096x16x64, .f32⟩
  | 20 => ⟨S2x16x64x4096, .f32⟩
  | 21 => ⟨S2x16x4096x4096, .f32⟩
  | 22 => ⟨S2x16x64x4096, .f32⟩
  | 23 => ⟨S2x4096x16x64, .f32⟩
  | 24 => ⟨S_, .f32⟩
  | 25 => ⟨S2x16x4096x4096, .f32⟩
  | 26 => ⟨S2x16x4096x4096, .f32⟩
  | 27 => ⟨S2x16x4096x4096, .f32⟩
  | 28 => ⟨S2x16x4096x4095, .f32⟩
  | 29 => ⟨S2x16x4096x1, .f32⟩
  | 30 => ⟨S_, .f32⟩
  | 31 => ⟨S2x16x4096x4096, .f32⟩
  | 32 => ⟨S_, .f32⟩
  | 33 => ⟨S_, .f32⟩
  | 34 => ⟨S2x16x4096x4096, .f32⟩
  | 35 => ⟨S_, .f32⟩
  | 36 => ⟨S2x16x4096x4096, .f32⟩
  | 37 => ⟨S2x16x4096x4096, .f32⟩
  | 38 => ⟨S2x16x4096x4096, .f32⟩
  | 39 => ⟨S2x16x4096x4096, .f32⟩
  | 40 => ⟨S2x16x4096x4096, .f32⟩
  | 41 => ⟨S2x16x4096x4096, .f32⟩
  | 42 => ⟨S2x16x4096x4096, .f32⟩
  | 43 => ⟨S2x16x4096x4096, .f32⟩
  | 44 => ⟨S2x16x4096x4096, .f32⟩
  | 45 => ⟨S2x16x4096x4096, .f32⟩
  | 46 => ⟨S_, .f32⟩
  | 47 => ⟨S2x16x4096x4096, .f32⟩
  | 48 => ⟨S2x16x4096x4096, .f32⟩
  | 49 => ⟨S2x16x4096x64, .f32⟩
  | 50 => ⟨S2x4096x16x64, .f32⟩
  | 51 => ⟨S2x16x4096x64, .f32⟩
  | 52 => ⟨S2x4096x16x64, .f32⟩
  | 53 => ⟨S2x4096x1024, .f32⟩
  | 54 => ⟨S2x4096x1024, .f32⟩
  | 55 => ⟨S2x4096x1024, .f32⟩
  | 56 => ⟨S2x4096x3072, .f32⟩
  | 57 => ⟨S2x4096x1024, .f32⟩
  | 58 => ⟨S2x4096x1024, .f32⟩
  | 59 => ⟨S2x4096x1024, .f32⟩
  | 60 => ⟨S8192x1024, .f32⟩
  | 61 => ⟨S8192x1024, .bf16⟩
  | 62 => ⟨S2x1024x4096, .f32⟩
  | 63 => ⟨S2048x4096, .f32⟩
  | 64 => ⟨S2x1024x4096, .f32⟩
  | 65 => ⟨S2048x4096, .f32⟩
  | 66 => ⟨S8192x1024, .f32⟩
  | 67 => ⟨S8192x1024, .bf16⟩
  | 68 => ⟨S8192x1024, .f32⟩
  | 69 => ⟨S8192x1024, .bf16⟩
  | _ => ⟨S2x4096x3072, .bf16⟩

abbrev hbmTy (i : Nat) : BufTy := match i / 128 with
  | 0 => hbmTy0_0 i
  | 1 => hbmTy0_1 i
  | _ => ⟨S2x4096x3072, .bf16⟩

abbrev bufTy : (tb : Table) → Fin (tcTables nBuf tb) → BufTy
  | .hbm, ⟨i, _⟩ => hbmTy i
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_v18 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1_0 : Ref sig .tc := ⟨.hbm, 83, rfl⟩
abbrev main_call1_call0_cst_0 : Ref sig .tc := ⟨.hbm, 84, rfl⟩
abbrev main_call1_call0_v13 : Ref sig .tc := ⟨.hbm, 85, rfl⟩
abbrev main_call1_call0_v14 : Ref sig .tc := ⟨.hbm, 86, rfl⟩
abbrev main_call1_call0_cst_1 : Ref sig .tc := ⟨.hbm, 87, rfl⟩
abbrev main_call1_call0_v15 : Ref sig .tc := ⟨.hbm, 88, rfl⟩
abbrev main_call1_call0_v16 : Ref sig .tc := ⟨.hbm, 89, rfl⟩
abbrev main_call1_call0_cst_2 : Ref sig .tc := ⟨.hbm, 90, rfl⟩
abbrev main_call1_call0_v17 : Ref sig .tc := ⟨.hbm, 91, rfl⟩
abbrev main_call1_call0_v18 : Ref sig .tc := ⟨.hbm, 92, rfl⟩
abbrev main_call1_call0_cst_3 : Ref sig .tc := ⟨.hbm, 93, rfl⟩
abbrev main_call1_call0_v19 : Ref sig .tc := ⟨.hbm, 94, rfl⟩
abbrev main_call1_call0_v20 : Ref sig .tc := ⟨.hbm, 95, rfl⟩
abbrev main_call1_call0_v21 : Ref sig .tc := ⟨.hbm, 96, rfl⟩
abbrev main_v19_1 : Ref sig .tc := ⟨.hbm, 97, rfl⟩
abbrev main_call1_call0_cst_4 : Ref sig .tc := ⟨.hbm, 98, rfl⟩
abbrev main_call1_call0_cst_5 : Ref sig .tc := ⟨.hbm, 99, rfl⟩
abbrev main_call1_call0_v23 : Ref sig .tc := ⟨.hbm, 100, rfl⟩
abbrev main_call1_call0_cst_6 : Ref sig .tc := ⟨.hbm, 101, rfl⟩
abbrev main_call1_call0_cst_7 : Ref sig .tc := ⟨.hbm, 102, rfl⟩
abbrev main_call1_call0_v24 : Ref sig .tc := ⟨.hbm, 103, rfl⟩
abbrev main_call1_call0_cst_8 : Ref sig .tc := ⟨.hbm, 104, rfl⟩
abbrev main_call1_call0_v25 : Ref sig .tc := ⟨.hbm, 105, rfl⟩
abbrev main_call1_call0_v26 : Ref sig .tc := ⟨.hbm, 106, rfl⟩
abbrev main_call1_call0_cst_9 : Ref sig .tc := ⟨.hbm, 107, rfl⟩
abbrev main_call1_call0_v27 : Ref sig .tc := ⟨.hbm, 108, rfl⟩
abbrev main_call1_call0_v28 : Ref sig .tc := ⟨.hbm, 109, rfl⟩
abbrev main_call1_call0_v29 : Ref sig .tc := ⟨.hbm, 110, rfl⟩
abbrev main_call1_call0_v30 : Ref sig .tc := ⟨.hbm, 111, rfl⟩
abbrev main_call1_call0_v31 : Ref sig .tc := ⟨.hbm, 112, rfl⟩
abbrev main_call1_call0_cst_10 : Ref sig .tc := ⟨.hbm, 113, rfl⟩
abbrev main_call1_call0_v32 : Ref sig .tc := ⟨.hbm, 114, rfl⟩
abbrev main_v19_2 : Ref sig .tc := ⟨.hbm, 115, rfl⟩
abbrev main_v19_0 : Ref sig .tc := ⟨.hbm, 116, rfl⟩
abbrev main_cst_0 : Ref sig .tc := ⟨.hbm, 117, rfl⟩
abbrev main_call2_v0 : Ref sig .tc := ⟨.hbm, 118, rfl⟩
abbrev main_v20_1 : Ref sig .tc := ⟨.hbm, 119, rfl⟩
abbrev main_call2_v2 : Ref sig .tc := ⟨.hbm, 120, rfl⟩
abbrev main_v20_0 : Ref sig .tc := ⟨.hbm, 121, rfl⟩
abbrev main_call2_cst : Ref sig .tc := ⟨.hbm, 122, rfl⟩
abbrev main_v20_2 : Ref sig .tc := ⟨.hbm, 123, rfl⟩
abbrev main_call3_cst : Ref sig .tc := ⟨.hbm, 124, rfl⟩
abbrev main_call3_v0 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_v24 : Ref sig .tc := ⟨.hbm, 130, rfl⟩
abbrev main_v25 : Ref sig .tc := ⟨.hbm, 131, rfl⟩
abbrev main_cst_2 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_cst_3 : Ref sig .tc := ⟨.hbm, 136, rfl⟩
abbrev main_call4_v0 : Ref sig .tc := ⟨.hbm, 137, rfl⟩
abbrev main_v29_1 : Ref sig .tc := ⟨.hbm, 138, rfl⟩
abbrev main_call4_v2 : Ref sig .tc := ⟨.hbm, 139, rfl⟩
abbrev main_v29_0 : Ref sig .tc := ⟨.hbm, 140, rfl⟩
abbrev main_call4_cst : Ref sig .tc := ⟨.hbm, 141, rfl⟩
abbrev main_v29_2 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call5_cst : Ref sig .tc := ⟨.hbm, 152, rfl⟩
abbrev main_call5_v0 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_cst_4 : Ref sig .tc := ⟨.hbm, 158, rfl⟩
abbrev main_v43 : Ref sig .tc := ⟨.hbm, 159, rfl⟩
abbrev main_call6_cst : Ref sig .tc := ⟨.hbm, 160, rfl⟩
abbrev main_call6_v0 : Ref sig .tc := ⟨.hbm, 161, rfl⟩
abbrev main_v44 : Ref sig .tc := ⟨.hbm, 162, rfl⟩
abbrev main_call7_cst : Ref sig .tc := ⟨.hbm, 163, rfl⟩
abbrev main_call7_v0 : Ref sig .tc := ⟨.hbm, 164, rfl⟩
abbrev main_v45 : Ref sig .tc := ⟨.hbm, 165, rfl⟩
abbrev main_call8_v0 : Ref sig .tc := ⟨.hbm, 166, rfl⟩
abbrev main_call8_v1 : Ref sig .tc := ⟨.hbm, 167, rfl⟩
abbrev main_v46 : Ref sig .tc := ⟨.hbm, 168, rfl⟩
abbrev main_v47 : Ref sig .tc := ⟨.hbm, 169, rfl⟩
abbrev main_call9_v0 : Ref sig .tc := ⟨.hbm, 170, rfl⟩
abbrev main_call9_v1 : Ref sig .tc := ⟨.hbm, 171, rfl⟩
abbrev main_v48 : Ref sig .tc := ⟨.hbm, 172, rfl⟩
abbrev main_v49 : Ref sig .tc := ⟨.hbm, 173, rfl⟩
abbrev main_cst_5 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩

abbrev nD : Nat := 1
abbrev τ : Topo := Topo.v7x

variable {F : FTy → Type} [FloatOps F]
-- ==== AdaKernel.lean ====
abbrev S16x1024 : Shape := ⟨2, ![16, 1024]⟩
abbrev S4x1024x768 : Shape := ⟨3, ![4, 1024, 768]⟩
abbrev S4x16x768 : Shape := ⟨3, ![4, 16, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x16x768, .f32⟩
  | .hbm, ⟨3, _⟩ => ⟨S4x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaReferenceIdeal.lean ====
abbrev S16x1024 : Shape := ⟨2, ![16, 1024]⟩
abbrev S4x1024x768 : Shape := ⟨3, ![4, 1024, 768]⟩
abbrev S4x16x768 : Shape := ⟨3, ![4, 16, 768]⟩
abbrev S_ : Shape := ⟨0, ![]⟩
abbrev S16x4x768 : Shape := ⟨3, ![16, 4, 768]⟩
abbrev S4x768x1024 : Shape := ⟨3, ![4, 768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x16x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x768, .f32⟩
  | .hbm, ⟨13, _⟩ => ⟨S4x16x768, .f32⟩
  | .hbm, ⟨14, _⟩ => ⟨S16x4x768, .f32⟩
  | .hbm, ⟨15, _⟩ => ⟨S4x768x1024, .f32⟩
  | .hbm, ⟨16, _⟩ => ⟨S4x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== NormKernel.lean ====
abbrev S2x4096x1024 : Shape := ⟨3, ![2, 4096, 1024]⟩
abbrev S2x1x1024 : Shape := ⟨3, ![2, 1, 1024]⟩
abbrev S1024 : Shape := ⟨1, ![1024]⟩
abbrev S1024x2816 : Shape := ⟨2, ![1024, 2816]⟩
abbrev S2x4096x2816 : Shape := ⟨3, ![2, 4096, 2816]⟩
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 31
  | .vmem => 29
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x2816, .f32⟩
  | .hbm, ⟨7, _⟩ => ⟨S1024x2816, .f32⟩
  | .hbm, ⟨8, _⟩ => ⟨S2x4096x1024, .f32⟩
  | .hbm, ⟨9, _⟩ => ⟨S2x4096x2816, .bf16⟩
  | .hbm, ⟨10, _⟩ => ⟨S2x4096x2816, .bf16⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x2816, .bf16⟩
  | .hbm, ⟨17, _⟩ => ⟨S2816x1024, .f32⟩
  | .hbm, ⟨18, _⟩ => ⟨S2816x1024, .bf16⟩
  | .hbm, ⟨19, _⟩ => ⟨S8192x2816, .bf16⟩
  | .hbm, ⟨20, _⟩ => ⟨S2816x1024, .f32⟩
  | .hbm, ⟨21, _⟩ => ⟨S2816x1024, .bf16⟩
  | .hbm, ⟨22, _⟩ => ⟨S8192x1024, .f32⟩
  | .hbm, ⟨23, _⟩ => ⟨S1x1024, .f32⟩
  | .hbm, ⟨24, _⟩ => ⟨S8192x1024, .bf16⟩
  | .hbm, ⟨25, _⟩ => ⟨S8192x1024, .f32⟩
  | .hbm, ⟨26, _⟩ => ⟨S2x1x1024, .f32⟩
  | .hbm, ⟨27, _⟩ => ⟨S2x1x1024, .f32⟩
  | .hbm, ⟨28, _⟩ => ⟨S2x1x1024, .f32⟩
  | .hbm, ⟨29, _⟩ => ⟨S8192x1024, .bf16⟩
  | .hbm, ⟨30, _⟩ => ⟨S2x1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S512x1024, .bf16⟩
  | .local _ .vmem, ⟨26, _⟩ => ⟨S512x1024, .bf16⟩
  | .local _ .vmem, ⟨27, _⟩ => ⟨S1x1x1024, .f32⟩
  | .local _ .vmem, ⟨28, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== NormReferenceIdeal.lean ====
abbrev S2x4096x1024 : Shape := ⟨3, ![2, 4096, 1024]⟩
abbrev S2x1x1024 : Shape := ⟨3, ![2, 1, 1024]⟩
abbrev S1024 : Shape := ⟨1, ![1024]⟩
abbrev S1024x2816 : Shape := ⟨2, ![1024, 2816]⟩
abbrev S2x4096x2816 : Shape := ⟨3, ![2, 4096, 2816]⟩
abbrev S_ : Shape := ⟨0, ![]⟩
abbrev S2x4096 : Shape := ⟨2, ![2, 4096]⟩
abbrev S2x4096x1 : Shape := ⟨3, ![2, 4096, 1]⟩
abbrev S2x1024 : Shape := ⟨2, ![2, 1024]⟩
abbrev S8192x1024 : Shape := ⟨2, ![8192, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x2816, .f32⟩
  | .hbm, ⟨7, _⟩ => ⟨S1024x2816, .f32⟩
  | .hbm, ⟨8, _⟩ => ⟨S2x4096x1024, .f32⟩
  | .hbm, ⟨9, _⟩ => ⟨S2x4096x2816, .bf16⟩
  | .hbm, ⟨10, _⟩ => ⟨S2x4096x2816, .bf16⟩
  | .hbm, ⟨11, _⟩ => ⟨S2x4096x2816, .f32⟩
  | .hbm, ⟨12, _⟩ => ⟨S2x4096x2816, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x2816, .f32⟩
  | .hbm, ⟨45, _⟩ => ⟨S2x4096x2816, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x4096x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S2x1024, .f32⟩
  | .hbm, ⟨61, _⟩ => ⟨S2x1x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S_, .f32⟩
  | .hbm, ⟨66, _⟩ => ⟨S2x4096, .f32⟩
  | .hbm, ⟨67, _⟩ => ⟨S2x4096x1, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S_, .f32⟩
  | .hbm, ⟨76, _⟩ => ⟨S2x4096, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S_, .f32⟩
  | .hbm, ⟨87, _⟩ => ⟨S2x1024, .f32⟩
  | .hbm, ⟨88, _⟩ => ⟨S2x1x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== NormBKernel.lean ====
abbrev S2x4096x1024 : Shape := ⟨3, ![2, 4096, 1024]⟩
abbrev S2x1x1024 : Shape := ⟨3, ![2, 1, 1024]⟩
abbrev S1024 : Shape := ⟨1, ![1024]⟩
abbrev S1024x3072 : Shape := ⟨2, ![1024, 3072]⟩
abbrev S3072x1024 : Shape := ⟨2, ![3072, 1024]⟩
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 33
  | .vmem => 32
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x3072, .f32⟩
  | .hbm, ⟨7, _⟩ => ⟨S2x4096x1024, .f32⟩
  | .hbm, ⟨8, _⟩ => ⟨S2x4096x1024, .bf16⟩
  | .hbm, ⟨9, _⟩ => ⟨S2x4096x1024, .bf16⟩
  | .hbm, ⟨10, _⟩ => ⟨S2x4096x1024, .bf16⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S3072x1024, .f32⟩
  | .hbm, ⟨16, _⟩ => ⟨S3072x1024, .bf16⟩
  | .hbm, ⟨17, _⟩ => ⟨S8192x1024, .bf16⟩
  | .hbm, ⟨18, _⟩ => ⟨S1024x1024, .bf16⟩
  | .hbm, ⟨19, _⟩ => ⟨S8192x1024, .bf16⟩
  | .hbm, ⟨20, _⟩ => ⟨S1024x1024, .bf16⟩
  | .hbm, ⟨21, _⟩ => ⟨S8192x1024, .bf16⟩
  | .hbm, ⟨22, _⟩ => ⟨S1024x1024, .bf16⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .bf16⟩
  | .hbm, ⟨27, _⟩ => ⟨S8192x1024, .f32⟩
  | .hbm, ⟨28, _⟩ => ⟨S2x1x1024, .f32⟩
  | .hbm, ⟨29, _⟩ => ⟨S2x1x1024, .f32⟩
  | .hbm, ⟨30, _⟩ => ⟨S2x1x1024, .f32⟩
  | .hbm, ⟨31, _⟩ => ⟨S8192x1024, .bf16⟩
  | .hbm, ⟨32, _⟩ => ⟨S2x1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S512x1024, .f32⟩
  | .local _ .vmem, ⟨21, _⟩ => ⟨S512x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S512x1024, .bf16⟩
  | .local _ .vmem, ⟨29, _⟩ => ⟨S512x1024, .bf16⟩
  | .local _ .vmem, ⟨30, _⟩ => ⟨S1x1x1024, .f32⟩
  | .local _ .vmem, ⟨31, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== NormBReferenceIdeal.lean ====
abbrev S2x4096x1024 : Shape := ⟨3, ![2, 4096, 1024]⟩
abbrev S2x1x1024 : Shape := ⟨3, ![2, 1, 1024]⟩
abbrev S1024 : Shape := ⟨1, ![1024]⟩
abbrev S1024x3072 : Shape := ⟨2, ![1024, 3072]⟩
abbrev S_ : Shape := ⟨0, ![]⟩
abbrev S2x4096 : Shape := ⟨2, ![2, 4096]⟩
abbrev S2x4096x1 : Shape := ⟨3, ![2, 4096, 1]⟩
abbrev S2x4096x3072 : Shape := ⟨3, ![2, 4096, 3072]⟩
abbrev S2x1024 : Shape := ⟨2, ![2, 1024]⟩
abbrev S8192x1024 : Shape := ⟨2, ![8192, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x3072, .f32⟩
  | .hbm, ⟨7, _⟩ => ⟨S2x4096x1024, .f32⟩
  | .hbm, ⟨8, _⟩ => ⟨S2x4096x1024, .bf16⟩
  | .hbm, ⟨9, _⟩ => ⟨S2x4096x1024, .bf16⟩
  | .hbm, ⟨10, _⟩ => ⟨S2x4096x1024, .bf16⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x1x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x3072, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x3072, .f32⟩
  | .hbm, ⟨50, _⟩ => ⟨S2x4096x1024, .f32⟩
  | .hbm, ⟨51, _⟩ => ⟨S_, .f32⟩
  | .hbm, ⟨52, _⟩ => ⟨S2x1024, .f32⟩
  | .hbm, ⟨53, _⟩ => ⟨S2x1x1024, .f32⟩
  | .hbm, ⟨54, _⟩ => ⟨S2x4096x1024, .f32⟩
  | .hbm, ⟨55, _⟩ => ⟨S_, .f32⟩
  | .hbm, ⟨56, _⟩ => ⟨S2x1024, .f32⟩
  | .hbm, ⟨57, _⟩ => ⟨S2x1x1024, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S_, .f32⟩
  | .hbm, ⟨62, _⟩ => ⟨S2x1024, .f32⟩
  | .hbm, ⟨63, _⟩ => ⟨S2x1x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S_, .f32⟩
  | .hbm, ⟨68, _⟩ => ⟨S2x4096, .f32⟩
  | .hbm, ⟨69, _⟩ => ⟨S2x4096x1, .f32⟩
  | .hbm, ⟨70, _⟩ => ⟨S2x4096x1024, .f32⟩
  | .hbm, ⟨71, _⟩ => ⟨S2x4096x1024, .f32⟩
  | .hbm, ⟨72, _⟩ => ⟨S2x4096x1024, .f32⟩
  | .hbm, ⟨73, _⟩ => ⟨S2x4096x1, .f32⟩
  | .hbm, ⟨74, _⟩ => ⟨S_, .f32⟩
  | .hbm, ⟨75, _⟩ => ⟨S2x4096x1, .f32⟩
  | .hbm, ⟨76, _⟩ => ⟨S2x4096x1, .f32⟩
  | .hbm, ⟨77, _⟩ => ⟨S_, .f32⟩
  | .hbm, ⟨78, _⟩ => ⟨S2x4096, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S_, .f32⟩
  | .hbm, ⟨89, _⟩ => ⟨S2x1024, .f32⟩
  | .hbm, ⟨90, _⟩ => ⟨S2x1x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== NormAKernel.lean ====
abbrev S2x4096x1024 : Shape := ⟨3, ![2, 4096, 1024]⟩
abbrev S2x1x1024 : Shape := ⟨3, ![2, 1, 1024]⟩
abbrev S1024 : Shape := ⟨1, ![1024]⟩
abbrev S1024x1280 : Shape := ⟨2, ![1024, 1280]⟩
abbrev S2x4096x1280 : Shape := ⟨3, ![2, 4096, 1280]⟩
abbrev S8192x1024 : Shape := ⟨2, ![8192, 1024]⟩
abbrev S8192x1280 : Shape := ⟨2, ![8192, 1280]⟩
abbrev S1280x1024 : Shape := ⟨2, ![1280, 1024]⟩
abbrev S1x1024 : Shape := ⟨2, ![1, 1024]⟩
abbrev S512x1280 : Shape := ⟨2, ![512, 1280]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 26
  | .vmem => 26
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x1280, .f32⟩
  | .hbm, ⟨7, _⟩ => ⟨S2x4096x1024, .f32⟩
  | .hbm, ⟨8, _⟩ => ⟨S2x4096x1280, .bf16⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S8192x1024, .f32⟩
  | .hbm, ⟨14, _⟩ => ⟨S8192x1280, .bf16⟩
  | .hbm, ⟨15, _⟩ => ⟨S1280x1024, .f32⟩
  | .hbm, ⟨16, _⟩ => ⟨S1280x1024, .bf16⟩
  | .hbm, ⟨17, _⟩ => ⟨S8192x1024, .f32⟩
  | .hbm, ⟨18, _⟩ => ⟨S1x1024, .f32⟩
  | .hbm, ⟨19, _⟩ => ⟨S8192x1024, .bf16⟩
  | .hbm, ⟨20, _⟩ => ⟨S8192x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S8192x1024, .bf16⟩
  | .hbm, ⟨25, _⟩ => ⟨S2x1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1x1024, .f32⟩
  | .local _ .vmem, ⟨25, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== NormAReferenceIdeal.lean ====
abbrev S2x4096x1024 : Shape := ⟨3, ![2, 4096, 1024]⟩
abbrev S2x1x1024 : Shape := ⟨3, ![2, 1, 1024]⟩
abbrev S1024 : Shape := ⟨1, ![1024]⟩
abbrev S1024x1280 : Shape := ⟨2, ![1024, 1280]⟩
abbrev S2x4096x1280 : Shape := ⟨3, ![2, 4096, 1280]⟩
abbrev S_ : Shape := ⟨0, ![]⟩
abbrev S2x4096 : Shape := ⟨2, ![2, 4096]⟩
abbrev S2x4096x1 : Shape := ⟨3, ![2, 4096, 1]⟩
abbrev S2x1024 : Shape := ⟨2, ![2, 1024]⟩
abbrev S8192x1024 : Shape := ⟨2, ![8192, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .bf16⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x1280, .f32⟩
  | .hbm, ⟨7, _⟩ => ⟨S2x4096x1024, .f32⟩
  | .hbm, ⟨8, _⟩ => ⟨S2x4096x1280, .bf16⟩
  | .hbm, ⟨9, _⟩ => ⟨S2x4096x1280, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1280, .f32⟩
  | .hbm, ⟨42, _⟩ => ⟨S2x4096x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S2x4096x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S2x4096, .f32⟩
  | .hbm, ⟨61, _⟩ => ⟨S2x4096x1, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1, .f32⟩
  | .hbm, ⟨66, _⟩ => ⟨S_, .f32⟩
  | .hbm, ⟨67, _⟩ => ⟨S2x4096x1, .f32⟩
  | .hbm, ⟨68, _⟩ => ⟨S2x4096x1, .f32⟩
  | .hbm, ⟨69, _⟩ => ⟨S_, .f32⟩
  | .hbm, ⟨70, _⟩ => ⟨S2x4096, .f32⟩
  | .hbm, ⟨71, _⟩ => ⟨S2x4096x1024, .f32⟩
  | .hbm, ⟨72, _⟩ => ⟨S2x4096x1024, .f32⟩
  | .hbm, ⟨73, _⟩ => ⟨S2x4096x1024, .f32⟩
  | .hbm, ⟨74, _⟩ => ⟨S2x4096x1024, .f32⟩
  | .hbm, ⟨75, _⟩ => ⟨S2x4096x1024, .f32⟩
  | .hbm, ⟨76, _⟩ => ⟨S2x4096x1024, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S_, .f32⟩
  | .hbm, ⟨81, _⟩ => ⟨S2x1024, .f32⟩
  | .hbm, ⟨82, _⟩ => ⟨S2x1x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== NormZKernel.lean ====
abbrev S2x4096x1024 : Shape := ⟨3, ![2, 4096, 1024]⟩
abbrev S1024 : Shape := ⟨1, ![1024]⟩
abbrev S2x1x1024 : Shape := ⟨3, ![2, 1, 1024]⟩
abbrev S1024x1280 : Shape := ⟨2, ![1024, 1280]⟩
abbrev S2x4096x1280 : Shape := ⟨3, ![2, 4096, 1280]⟩
abbrev S8192x1024 : Shape := ⟨2, ![8192, 1024]⟩
abbrev S8192x1280 : Shape := ⟨2, ![8192, 1280]⟩
abbrev S1280x1024 : Shape := ⟨2, ![1280, 1024]⟩
abbrev S1x1024 : Shape := ⟨2, ![1, 1024]⟩
abbrev S512x1280 : Shape := ⟨2, ![512, 1280]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x1280, .f32⟩
  | .hbm, ⟨5, _⟩ => ⟨S2x4096x1024, .f32⟩
  | .hbm, ⟨6, _⟩ => ⟨S2x4096x1280, .bf16⟩
  | .hbm, ⟨7, _⟩ => ⟨S8192x1024, .f32⟩
  | .hbm, ⟨8, _⟩ => ⟨S8192x1280, .bf16⟩
  | .hbm, ⟨9, _⟩ => ⟨S1280x1024, .f32⟩
  | .hbm, ⟨10, _⟩ => ⟨S1280x1024, .bf16⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== NormZReferenceIdeal.lean ====
abbrev S2x4096x1024 : Shape := ⟨3, ![2, 4096, 1024]⟩
abbrev S1024 : Shape := ⟨1, ![1024]⟩
abbrev S2x1x1024 : Shape := ⟨3, ![2, 1, 1024]⟩
abbrev S1024x1280 : Shape := ⟨2, ![1024, 1280]⟩
abbrev S2x4096x1280 : Shape := ⟨3, ![2, 4096, 1280]⟩
abbrev S_ : Shape := ⟨0, ![]⟩
abbrev S2x4096 : Shape := ⟨2, ![2, 4096]⟩
abbrev S2x4096x1 : Shape := ⟨3, ![2, 4096, 1]⟩
abbrev S2x1024 : Shape := ⟨2, ![2, 1024]⟩
abbrev S8192x1024 : Shape := ⟨2, ![8192, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x1280, .f32⟩
  | .hbm, ⟨5, _⟩ => ⟨S2x4096x1024, .f32⟩
  | .hbm, ⟨6, _⟩ => ⟨S2x4096x1280, .bf16⟩
  | .hbm, ⟨7, _⟩ => ⟨S2x1x1024, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1280, .f32⟩
  | .hbm, ⟨35, _⟩ => ⟨S2x4096x1280, .f32⟩
  | .hbm, ⟨36, _⟩ => ⟨S2x4096x1024, .f32⟩
  | .hbm, ⟨37, _⟩ => ⟨S_, .f32⟩
  | .hbm, ⟨38, _⟩ => ⟨S2x1024, .f32⟩
  | .hbm, ⟨39, _⟩ => ⟨S2x1x1024, .f32⟩
  | .hbm, ⟨40, _⟩ => ⟨S2x4096x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S_, .f32⟩
  | .hbm, ⟨54, _⟩ => ⟨S2x4096, .f32⟩
  | .hbm, ⟨55, _⟩ => ⟨S2x4096x1, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S2x4096x1, .f32⟩
  | .hbm, ⟨60, _⟩ => ⟨S_, .f32⟩
  | .hbm, ⟨61, _⟩ => ⟨S2x4096x1, .f32⟩
  | .hbm, ⟨62, _⟩ => ⟨S2x4096x1, .f32⟩
  | .hbm, ⟨63, _⟩ => ⟨S_, .f32⟩
  | .hbm, ⟨64, _⟩ => ⟨S2x4096, .f32⟩
  | .hbm, ⟨65, _⟩ => ⟨S2x4096x1024, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== QkKernel.lean ====
abbrev S2x4096x1280 : Shape := ⟨3, ![2, 4096, 1280]⟩
abbrev S2x4096 : Shape := ⟨2, ![2, 4096]⟩
abbrev S64 : Shape := ⟨1, ![64]⟩
abbrev S8192x1024 : Shape := ⟨2, ![8192, 1024]⟩
abbrev S8192x256 : Shape := ⟨2, ![8192, 256]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1280 : Shape := ⟨2, ![8192, 1280]⟩
abbrev S128x1280 : Shape := ⟨2, ![128, 1280]⟩
abbrev S128x128 : Shape := ⟨2, ![128, 128]⟩
abbrev S128x1024 : Shape := ⟨2, ![128, 1024]⟩
abbrev S128x256 : Shape := ⟨2, ![128, 256]⟩
abbrev S128 : Shape := ⟨1, ![128]⟩

abbrev nBuf : Space → Nat
  | .hbm => 59
  | .vmem => 24
  | .smem => 0
  | _ => 0

abbrev bufTy : (tb : Table) → Fin (tcTables nBuf tb) → BufTy
  | .hbm, ⟨0, _⟩ => ⟨S2x4096x1280, .f32⟩
  | .hbm, ⟨1, _⟩ => ⟨S2x4096, .i32⟩
  | .hbm, ⟨2, _⟩ => ⟨S64, .f32⟩
  | .hbm, ⟨3, _⟩ => ⟨S64, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8192x1, .i32⟩
  | .hbm, ⟨21, _⟩ => ⟨S8192x1, .f32⟩
  | .hbm, ⟨22, _⟩ => ⟨S1x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S_, .f32⟩
  | .hbm, ⟨29, _⟩ => ⟨S8192x48, .f32⟩
  | .hbm, ⟨30, _⟩ => ⟨S_, .f32⟩
  | .hbm, ⟨31, _⟩ => ⟨S8192x48, .f32⟩
  | .hbm, ⟨32, _⟩ => ⟨S_, .f32⟩
  | .hbm, ⟨33, _⟩ => ⟨S8192x8, .f32⟩
  | .hbm, ⟨34, _⟩ => ⟨S8192x64, .f32⟩
  | .hbm, ⟨35, _⟩ => ⟨S1x8192x1x64, .f32⟩
  | .hbm, ⟨36, _⟩ => ⟨S1x8192x2x64, .f32⟩
  | .hbm, ⟨37, _⟩ => ⟨S8192x128, .f32⟩
  | .hbm, ⟨38, _⟩ => ⟨S8192x8, .f32⟩
  | .hbm, ⟨39, _⟩ => ⟨S8192x64, .f32⟩
  | .hbm, ⟨40, _⟩ => ⟨S1x8192x1x64, .f32⟩
  | .hbm, ⟨41, _⟩ => ⟨S1x8192x2x64, .f32⟩
  | .hbm, ⟨42, _⟩ => ⟨S8192x128, .f32⟩
  | .hbm, ⟨43, _⟩ => ⟨S8192x64, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x64, .f32⟩
  | .hbm, ⟨48, _⟩ => ⟨S1x1x1x64, .f32⟩
  | .hbm, ⟨49, _⟩ => ⟨S1x1x2x64, .f32⟩
  | .hbm, ⟨50, _⟩ => ⟨S1x128, .f32⟩
  | .hbm, ⟨51, _⟩ => ⟨S1x64, .f32⟩
  | .hbm, ⟨52, _⟩ => ⟨S1x1x1x64, .f32⟩
  | .hbm, ⟨53, _⟩ => ⟨S1x1x2x64, .f32⟩
  | .hbm, ⟨54, _⟩ => ⟨S1x128, .f32⟩
  | .hbm, ⟨55, _⟩ => ⟨S8192x1280, .f32⟩
  | .hbm, ⟨56, _⟩ => ⟨S8192x1280, .bf16⟩
  | .hbm, ⟨57, _⟩ => ⟨S1x128, .f32⟩
  | .hbm, ⟨58, _⟩ => ⟨S1x128, .f32⟩
  | .local _ .vmem, ⟨0, _⟩ => ⟨S128x1280, .f32⟩
  | .local _ .vmem, ⟨1, _⟩ => ⟨S128x1280, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x1024, .f32⟩
  | .local _ .vmem, ⟨11, _⟩ => ⟨S128x1024, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x1280, .bf16⟩
  | .local _ .vmem, ⟨21, _⟩ => ⟨S128x1280, .bf16⟩
  | .local _ .vmem, ⟨22, _⟩ => ⟨S1x128, .f32⟩
  | .local _ .vmem, ⟨23, _⟩ => ⟨S1x128, .f32⟩
  | _, _ => ⟨S2x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1280 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== QkReferenceIdeal.lean ====
abbrev S2x4096x1280 : Shape := ⟨3, ![2, 4096, 1280]⟩
abbrev S2x4096 : Shape := ⟨2, ![2, 4096]⟩
abbrev S64 : Shape := ⟨1, ![64]⟩
abbrev S8192x1024 : Shape := ⟨2, ![8192, 1024]⟩
abbrev S8192x256 : Shape := ⟨2, ![8192, 256]⟩
abbrev S2x4096x16x64 : Shape := ⟨4, ![2, 4096, 16, 64]⟩
abbrev S2x4096x2x2x64 : Shape := ⟨5, ![2, 4096, 2, 2, 64]⟩
abbrev S_ : Shape := ⟨0, ![]⟩
abbrev S2x4096x2x64 : Shape := ⟨4, ![2, 4096, 2, 64]⟩
abbrev S2x3968x2x64 : Shape := ⟨4, ![2, 3968, 2, 64]⟩
abbrev S2x128x2x64 : Shape := ⟨4, ![2, 128, 2, 64]⟩
abbrev S2x4096x1024 : Shape := ⟨3, ![2, 4096, 1024]⟩
abbrev S2x4096x128 : Shape := ⟨3, ![2, 4096, 128]⟩
abbrev S2x4096x16 : Shape := ⟨3, ![2, 4096, 16]⟩
abbrev S2x4096x16x1 : Shape := ⟨4, ![2, 4096, 16, 1]⟩
abbrev S1x1x1x64 : Shape := ⟨4, ![1, 1, 1, 64]⟩
abbrev S8 : Shape := ⟨1, ![8]⟩
abbrev S2x4096x1x1 : Shape := ⟨4, ![2, 4096, 1, 1]⟩
abbrev S1x1x1x8 : Shape := ⟨4, ![1, 1, 1, 8]⟩
abbrev S2x4096x1x8 : Shape := ⟨4, ![2, 4096, 1, 8]⟩
abbrev S2x4096x16x16 : Shape := ⟨4, ![2, 4096, 16, 16]⟩
abbrev S2x4096x16x8 : Shape := ⟨4, ![2, 4096, 16, 8]⟩
abbrev S2x4096x16x48 : Shape := ⟨4, ![2, 4096, 16, 48]⟩
abbrev S2x4096x2 : Shape := ⟨3, ![2, 4096, 2]⟩
abbrev S2x4096x2x1 : Shape := ⟨4, ![2, 4096, 2, 1]⟩
abbrev S2x4096x2x16 : Shape := ⟨4, ![2, 4096, 2, 16]⟩
abbrev S2x4096x2x8 : Shape := ⟨4, ![2, 4096, 2, 8]⟩
abbrev S2x4096x2x48 : Shape := ⟨4, ![2, 4096, 2, 48]⟩
abbrev S8192x1280 : Shape := ⟨2, ![8192, 1280]⟩
abbrev S128 : Shape := ⟨1, ![128]⟩
abbrev S1x128 : Shape := ⟨2, ![1, 128]⟩

abbrev nBuf : Space → Nat
  | .hbm => 258
  | .vmem => 0
  | .smem => 0
  | _ => 0

abbrev hbmTy0_0 (i : Nat) : BufTy := match i % 128 with
  | 0 => ⟨S2x4096x1280, .f32⟩
  | 1 => ⟨S2x4096, .i32⟩
  | 2 => ⟨S64, .f32⟩
  | 3 => ⟨S64, .f32⟩
  | 4 => ⟨S8192x1024, .f32⟩
  | 5 => ⟨S8192x256, .f32⟩
  | 6 => ⟨S8192x256, .f32⟩
  | 7 => ⟨S8192x256, .f32⟩
  | 8 => ⟨S8192x256, .f32⟩
  | 9 => ⟨S2x4096x16x64, .f32⟩
  | 10 => ⟨S2x4096x2x2x64, .f32⟩
  | 11 => ⟨S_, .f32⟩
  | 12 => ⟨S2x4096x2x64, .f32⟩
  | 13 => ⟨S2x4096x2x2x64, .f32⟩
  | 14 => ⟨S_, .f32⟩
  | 15 => ⟨S2x4096x2x64, .f32⟩
  | 16 => ⟨S2x3968x2x64, .f32⟩
  | 17 => ⟨S_, .f32⟩
  | 18 => ⟨S2x128x2x64, .f32⟩
  | 19 => ⟨S2x4096x2x64, .f32⟩
  | 20 => ⟨S2x4096x2x64, .f32⟩
  | 21 => ⟨S2x4096x2x2x64, .f32⟩
  | 22 => ⟨S_, .f32⟩
  | 23 => ⟨S2x4096x2x64, .f32⟩
  | 24 => ⟨S2x4096x2x2x64, .f32⟩
  | 25 => ⟨S_, .f32⟩
  | 26 => ⟨S2x4096x2x64, .f32⟩
  | 27 => ⟨S2x3968x2x64, .f32⟩
  | 28 => ⟨S_, .f32⟩
  | 29 => ⟨S2x128x2x64, .f32⟩
  | 30 => ⟨S2x4096x2x64, .f32⟩
  | 31 => ⟨S2x4096x2x64, .f32⟩
  | 32 => ⟨S2x4096x1024, .f32⟩
  | 33 => ⟨S2x4096x128, .f32⟩
  | 34 => ⟨S2x4096x128, .f32⟩
  | 35 => ⟨S2x4096x16x64, .f32⟩
  | 36 => ⟨S2x4096x2x64, .f32⟩
  | 37 => ⟨S2x4096x2x64, .f32⟩
  | 38 => ⟨S2x4096x16x64, .f32⟩
  | 39 => ⟨S_, .f32⟩
  | 40 => ⟨S2x4096x16, .f32⟩
  | 41 => ⟨S2x4096x16x1, .f32⟩
  | 42 => ⟨S_, .f32⟩
  | 43 => ⟨S2x4096x16x1, .f32⟩
  | 44 => ⟨S2x4096x16x1, .f32⟩
  | 45 => ⟨S_, .f32⟩
  | 46 => ⟨S2x4096x16x1, .f32⟩
  | 47 => ⟨S2x4096x16x1, .f32⟩
  | 48 => ⟨S2x4096x16x1, .f32⟩
  | 49 => ⟨S2x4096x16x1, .f32⟩
  | 50 => ⟨S_, .f32⟩
  | 51 => ⟨S2x4096x16x1, .f32⟩
  | 52 => ⟨S2x4096x16x1, .f32⟩
  | 53 => ⟨S2x4096x16x64, .f32⟩
  | 54 => ⟨S2x4096x16x64, .f32⟩
  | 55 => ⟨S1x1x1x64, .f32⟩
  | 56 => ⟨S2x4096x16x64, .f32⟩
  | 57 => ⟨S2x4096x16x64, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S2x4096, .f32⟩
  | 70 => ⟨S2x4096x1x1, .f32⟩
  | 71 => ⟨S1x1x1x8, .f32⟩
  | 72 => ⟨S2x4096x1x8, .f32⟩
  | 73 => ⟨S2x4096x1x8, .f32⟩
  | 74 => ⟨S2x4096x1x8, .f32⟩
  | 75 => ⟨S2x4096x1x8, .f32⟩
  | 76 => ⟨S2x4096x1x8, .f32⟩
  | 77 => ⟨S2x4096x16x16, .f32⟩
  | 78 => ⟨S2x4096x16x8, .f32⟩
  | 79 => ⟨S2x4096x16x8, .f32⟩
  | 80 => ⟨S2x4096x16x8, .f32⟩
  | 81 => ⟨S2x4096x16x8, .f32⟩
  | 82 => ⟨S2x4096x16x8, .f32⟩
  | 83 => ⟨S2x4096x16x8, .f32⟩
  | 84 => ⟨S2x4096x16x8, .f32⟩
  | 85 => ⟨S2x4096x16x8, .f32⟩
  | 86 => ⟨S2x4096x16x8, .f32⟩
  | 87 => ⟨S2x4096x16x8, .f32⟩
  | 88 => ⟨S2x4096x16x8, .f32⟩
  | 89 => ⟨S2x4096x16x8, .f32⟩
  | 90 => ⟨S2x4096x16x16, .f32⟩
  | 91 => ⟨S2x4096x16x48, .f32⟩
  | 92 => ⟨S2x4096x16x64, .f32⟩
  | 93 => ⟨S2x4096x2x64, .f32⟩
  | 94 => ⟨S_, .f32⟩
  | 95 => ⟨S2x4096x2, .f32⟩
  | 96 => ⟨S2x4096x2x1, .f32⟩
  | 97 => ⟨S_, .f32⟩
  | 98 => ⟨S2x4096x2x1, .f32⟩
  | 99 => ⟨S2x4096x2x1, .f32⟩
  | 100 => ⟨S_, .f32⟩
  | 101 => ⟨S2x4096x2x1, .f32⟩
  | 102 => ⟨S2x4096x2x1, .f32⟩
  | 103 => ⟨S2x4096x2x1, .f32⟩
  | 104 => ⟨S2x4096x2x1, .f32⟩
  | 105 => ⟨S_, .f32⟩
  | 106 => ⟨S2x4096x2x1, .f32⟩
  | 107 => ⟨S2x4096x2x1, .f32⟩
  | 108 => ⟨S2x4096x2x64, .f32⟩
  | 109 => ⟨S2x4096x2x64, .f32⟩
  | 110 => ⟨S1x1x1x64, .f32⟩
  | 111 => ⟨S2x4096x2x64, .f32⟩
  | 112 => ⟨S2x4096x2x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S2x4096, .f32⟩
  | 125 => ⟨S2x4096x1x1, .f32⟩
  | 126 => ⟨S1x1x1x8, .f32⟩
  | 127 => ⟨S2x4096x1x8, .f32⟩
  | _ => ⟨S2x4096x1280, .f32⟩

abbrev hbmTy0_1 (i : Nat) : BufTy := match i % 128 with
  | 0 => ⟨S2x4096x1x8, .f32⟩
  | 1 => ⟨S2x4096x1x8, .f32⟩
  | 2 => ⟨S2x4096x1x8, .f32⟩
  | 3 => ⟨S2x4096x1x8, .f32⟩
  | 4 => ⟨S2x4096x2x16, .f32⟩
  | 5 => ⟨S2x4096x2x8, .f32⟩
  | 6 => ⟨S2x4096x2x8, .f32⟩
  | 7 => ⟨S2x4096x2x8, .f32⟩
  | 8 => ⟨S2x4096x2x8, .f32⟩
  | 9 => ⟨S2x4096x2x8, .f32⟩
  | 10 => ⟨S2x4096x2x8, .f32⟩
  | 11 => ⟨S2x4096x2x8, .f32⟩
  | 12 => ⟨S2x4096x2x8, .f32⟩
  | 13 => ⟨S2x4096x2x8, .f32⟩
  | 14 => ⟨S2x4096x2x8, .f32⟩
  | 15 => ⟨S2x4096x2x8, .f32⟩
  | 16 => ⟨S2x4096x2x8, .f32⟩
  | 17 => ⟨S2x4096x2x16, .f32⟩
  | 18 => ⟨S2x4096x2x48, .f32⟩
  | 19 => ⟨S2x4096x2x64, .f32⟩
  | 20 => ⟨S2x4096x2x16, .f32⟩
  | 21 => ⟨S2x4096x2x48, .f32⟩
  | 22 => ⟨S_, .f32⟩
  | 23 => ⟨S2x4096x2x64, .f32⟩
  | 24 => ⟨S2x4096x2x8, .f32⟩
  | 25 => ⟨S2x4096x2x8, .f32⟩
  | 26 => ⟨S2x4096x2x8, .f32⟩
  | 27 => ⟨S2x4096x2x8, .f32⟩
  | 28 => ⟨S2x4096x2x8, .f32⟩
  | 29 => ⟨S2x4096x2x8, .f32⟩
  | 30 => ⟨S2x4096x2x8, .f32⟩
  | 31 => ⟨S2x4096x2x8, .f32⟩
  | 32 => ⟨S2x4096x2x8, .f32⟩
  | 33 => ⟨S2x4096x2x8, .f32⟩
  | 34 => ⟨S2x4096x2x8, .f32⟩
  | 35 => ⟨S2x4096x2x8, .f32⟩
  | 36 => ⟨S2x4096x2x8, .f32⟩
  | 37 => ⟨S_, .f32⟩
  | 38 => ⟨S2x4096x2x16, .f32⟩
  | 39 => ⟨S_, .f32⟩
  | 40 => ⟨S2x4096x2x16, .f32⟩
  | 41 => ⟨S2x4096x2x16, .f32⟩
  | 42 => ⟨S_, .f32⟩
  | 43 => ⟨S2x4096x2x64, .f32⟩
  | 44 => ⟨S2x4096x2x64, .f32⟩
  | 45 => ⟨S2x4096x2x64, .f32⟩
  | 46 => ⟨S_, .f32⟩
  | 47 => ⟨S64, .f32⟩
  | 48 => ⟨S1x1x1x64, .f32⟩
  | 49 => ⟨S2x4096x2x64, .f32⟩
  | 50 => ⟨S2x4096x2x64, .f32⟩
  | 51 => ⟨S_, .f32⟩
  | 52 => ⟨S64, .f32⟩
  | 53 => ⟨S2x4096x2x64, .f32⟩
  | 54 => ⟨S_, .f32⟩
  | 55 => ⟨S2x4096x2, .f32⟩
  | 56 => ⟨S2x4096x2x1, .f32⟩
  | 57 => ⟨S2x4096x2x64, .f32⟩
  | 58 => ⟨S2x4096x2x64, .f32⟩
  | 59 => ⟨S2x4096x2x1, .f32⟩
  | 60 => ⟨S_, .f32⟩
  | 61 => ⟨S2x4096x2x1, .f32⟩
  | 62 => ⟨S2x4096x2x1, .f32⟩
  | 63 => ⟨S_, .f32⟩
  | 64 => ⟨S2x4096x2, .f32⟩
  | 65 => ⟨S2x4096x2x64, .f32⟩
  | 66 => ⟨S2x4096x2x64, .f32⟩
  | 67 => ⟨S2x4096x2x64, .f32⟩
  | 68 => ⟨S2x4096x2x64, .f32⟩
  | 69 => ⟨S2x4096x2x64, .f32⟩
  | 70 => ⟨S2x4096x16x16, .f32⟩
  | 71 => ⟨S2x4096x16x48, .f32⟩
  | 72 => ⟨S_, .f32⟩
  | 73 => ⟨S2x4096x16x64, .f32⟩
  | 74 => ⟨S2x4096x16x8, .f32⟩
  | 75 => ⟨S2x4096x16x8, .f32⟩
  | 76 => ⟨S2x4096x16x8, .f32⟩
  | 77 => ⟨S2x4096x16x8, .f32⟩
  | 78 => ⟨S2x4096x16x8, .f32⟩
  | 79 => ⟨S2x4096x16x8, .f32⟩
  | 80 => ⟨S2x4096x16x8, .f32⟩
  | 81 => ⟨S2x4096x16x8, .f32⟩
  | 82 => ⟨S2x4096x16x8, .f32⟩
  | 83 => ⟨S2x4096x16x8, .f32⟩
  | 84 => ⟨S2x4096x16x8, .f32⟩
  | 85 => ⟨S2x4096x16x8, .f32⟩
  | 86 => ⟨S2x4096x16x8, .f32⟩
  | 87 => ⟨S_, .f32⟩
  | 88 => ⟨S2x4096x16x16, .f32⟩
  | 89 => ⟨S_, .f32⟩
  | 90 => ⟨S2x4096x16x16, .f32⟩
  | 91 => ⟨S2x4096x16x16, .f32⟩
  | 92 => ⟨S_, .f32⟩
  | 93 => ⟨S2x4096x16x64, .f32⟩
  | 94 => ⟨S2x4096x16x64, .f32⟩
  | 95 => ⟨S2x4096x16x64, .f32⟩
  | 96 => ⟨S_, .f32⟩
  | 97 => ⟨S64, .f32⟩
  | 98 => ⟨S1x1x1x64, .f32⟩
  | 99 => ⟨S2x4096x16x64, .f32⟩
  | 100 => ⟨S2x4096x16x64, .f32⟩
  | 101 => ⟨S_, .f32⟩
  | 102 => ⟨S64, .f32⟩
  | 103 => ⟨S2x4096x16x64, .f32⟩
  | 104 => ⟨S_, .f32⟩
  | 105 => ⟨S2x4096x16, .f32⟩
  | 106 => ⟨S2x4096x16x1, .f32⟩
  | 107 => ⟨S2x4096x16x64, .f32⟩
  | 108 => ⟨S2x4096x16x64, .f32⟩
  | 109 => ⟨S2x4096x16x1, .f32⟩
  | 110 => ⟨S_, .f32⟩
  | 111 => ⟨S2x4096x16x1, .f32⟩
  | 112 => ⟨S2x4096x16x1, .f32⟩
  | 113 => ⟨S_, .f32⟩
  | 114 => ⟨S2x4096x16, .f32⟩
  | 115 => ⟨S2x4096x16x64, .f32⟩
  | 116 => ⟨S2x4096x16x64, .f32⟩
  | 117 => ⟨S2x4096x16x64, .f32⟩
  | 118 => ⟨S2x4096x16x64, .f32⟩
  | 119 => ⟨S2x4096x16x64, .f32⟩
  | 120 => ⟨S2x4096x128, .f32⟩
  | 121 => ⟨S2x4096x128, .f32⟩
  | 122 => ⟨S2x4096x1024, .f32⟩
  | 123 => ⟨S2x4096x1280, .f32⟩
  | 124 => ⟨S8192x1280, .f32⟩
  | 125 => ⟨S8192x1280, .bf16⟩
  | 126 => ⟨S128, .f32⟩
  | 127 => ⟨S1x128, .f32⟩
  | _ => ⟨S2x4096x1280, .f32⟩

abbrev hbmTy0_2 (i : Nat) : BufTy := match i % 128 with
  | 0 => ⟨S128, .f32⟩
  | 1 => ⟨S1x128, .f32⟩
  | _ => ⟨S2x4096x1280, .f32⟩

abbrev hbmTy (i : Nat) : BufTy := match i / 128 with
  | 0 => hbmTy0_0 i
  | 1 => hbmTy0_1 i
  | 2 => hbmTy0_2 i
  | _ => ⟨S2x4096x1280, .f32⟩

abbrev bufTy : (tb : Table) → Fin (tcTables nBuf tb) → BufTy
  | .hbm, ⟨i, _⟩ => hbmTy i
  | _, _ => ⟨S2x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_19 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_20 : Ref sig .tc := ⟨.hbm, 165, rfl⟩
abbrev main_v135 : Ref sig .tc := ⟨.hbm, 166, rfl⟩
abbrev main_cst_21 : Ref sig .tc := ⟨.hbm, 167, rfl⟩
abbrev main_v136 : Ref sig .tc := ⟨.hbm, 168, rfl⟩
abbrev main_v137 : Ref sig .tc := ⟨.hbm, 169, rfl⟩
abbrev main_cst_22 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_23 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_24 : Ref sig .tc := ⟨.hbm, 179, rfl⟩
abbrev main_v145 : Ref sig .tc := ⟨.hbm, 180, rfl⟩
abbrev main_v146 : Ref sig .tc := ⟨.hbm, 181, rfl⟩
abbrev main_cst_25 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_26 : Ref sig .tc := ⟨.hbm, 188, rfl⟩
abbrev main_v152 : Ref sig .tc := ⟨.hbm, 189, rfl⟩
abbrev main_v153 : Ref sig .tc := ⟨.hbm, 190, rfl⟩
abbrev main_cst_27 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_28 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_29 : Ref sig .tc := ⟨.hbm, 215, rfl⟩
abbrev main_v176 : Ref sig .tc := ⟨.hbm, 216, rfl⟩
abbrev main_cst_30 : Ref sig .tc := ⟨.hbm, 217, rfl⟩
abbrev main_v177 : Ref sig .tc := ⟨.hbm, 218, rfl⟩
abbrev main_v178 : Ref sig .tc := ⟨.hbm, 219, rfl⟩
abbrev main_cst_31 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_cst_32 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_33 : Ref sig .tc := ⟨.hbm, 229, rfl⟩
abbrev main_v186 : Ref sig .tc := ⟨.hbm, 230, rfl⟩
abbrev main_v187 : Ref sig .tc := ⟨.hbm, 231, rfl⟩
abbrev main_cst_34 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_35 : Ref sig .tc := ⟨.hbm, 238, rfl⟩
abbrev main_v193 : Ref sig .tc := ⟨.hbm, 239, rfl⟩
abbrev main_v194 : Ref sig .tc := ⟨.hbm, 240, rfl⟩
abbrev main_cst_36 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩

abbrev nD : Nat := 1
abbrev τ : Topo := Topo.v7x

variable {F : FTy → Type} [FloatOps F]
-- ==== SwaKernel.lean ====
abbrev S2x4096x16x64 : Shape := ⟨4, ![2, 4096, 16, 64]⟩
abbrev S2x4096x2x64 : Shape := ⟨4, ![2, 4096, 2, 64]⟩
abbrev S16 : Shape := ⟨1, ![16]⟩
abbrev S2x4096x1024 : Shape := ⟨3, ![2, 4096, 1024]⟩
abbrev S2x32x128x2x8x64 : Shape := ⟨6, ![2, 32, 128, 2, 8, 64]⟩
abbrev S_ : Shape := ⟨0, ![]⟩
abbrev S2x128x2x64 : Shape := ⟨4, ![2, 128, 2, 64]⟩
abbrev S2x4224x2x64 : Shape := ⟨4, ![2, 4224, 2, 64]⟩
abbrev S2x32x128x2x64 : Shape := ⟨5, ![2, 32, 128, 2, 64]⟩
abbrev S2x32x256x2x64 : Shape := ⟨5, ![2, 32, 256, 2, 64]⟩
abbrev S2x32x2x256x128x8 : Shape := ⟨6, ![2, 32, 2, 256, 128, 8]⟩
abbrev S2x32x2x8x128x256 : Shape := ⟨6, ![2, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x8x1x1 : Shape := ⟨6, ![1, 1, 2, 8, 1, 1]⟩
abbrev S2x32x2x8x128x1 : Shape := ⟨6, ![2, 32, 2, 8, 128, 1]⟩
abbrev S2x32x2x8x128x257 : Shape := ⟨6, ![2, 32, 2, 8, 128, 257]⟩
abbrev S2x32x2x8x128 : Shape := ⟨5, ![2, 32, 2, 8, 128]⟩
abbrev S2x32x16x128 : Shape := ⟨4, ![2, 32, 16, 128]⟩
abbrev S2x32x128x16 : Shape := ⟨4, ![2, 32, 128, 16]⟩
abbrev S8192x16 : Shape := ⟨2, ![8192, 16]⟩
abbrev S8192x16x64 : Shape := ⟨3, ![8192, 16, 64]⟩
abbrev S8192x1024 : Shape := ⟨2, ![8192, 1024]⟩
abbrev S8x2 : Shape := ⟨2, ![8, 2]⟩
abbrev S8x2x64 : Shape := ⟨3, ![8, 2, 64]⟩
abbrev S8x128 : Shape := ⟨2, ![8, 128]⟩
abbrev S8x1x128 : Shape := ⟨3, ![8, 1, 128]⟩
abbrev S2x4096x2x128 : Shape := ⟨4, ![2, 4096, 2, 128]⟩
abbrev S8192x256 : Shape := ⟨2, ![8192, 256]⟩
abbrev S128x512 : Shape := ⟨2, ![128, 512]⟩
abbrev S128x128 : Shape := ⟨2, ![128, 128]⟩
abbrev S4x1x128 : Shape := ⟨3, ![4, 1, 128]⟩
abbrev S256x256 : Shape := ⟨2, ![256, 256]⟩
abbrev S256x128 : Shape := ⟨2, ![256, 128]⟩
abbrev S1x1x128 : Shape := ⟨3, ![1, 1, 128]⟩
abbrev S1x128 : Shape := ⟨2, ![1, 128]⟩
abbrev S1x1 : Shape := ⟨2, ![1, 1]⟩
abbrev S256x1 : Shape := ⟨2, ![256, 1]⟩
abbrev S1 : Shape := ⟨1, ![1]⟩
abbrev S2x4096x256 : Shape := ⟨3, ![2, 4096, 256]⟩
abbrev S2x3968x256 : Shape := ⟨3, ![2, 3968, 256]⟩
abbrev S2x128x256 : Shape := ⟨3, ![2, 128, 256]⟩
abbrev S2x4096x2x2x64 : Shape := ⟨5, ![2, 4096, 2, 2, 64]⟩
abbrev S2x4096x2x1x64 : Shape := ⟨5, ![2, 4096, 2, 1, 64]⟩

abbrev nBuf : Space → Nat
  | .hbm => 125
  | .vmem => 28
  | .smem => 0
  | _ => 0

abbrev bufTy : (tb : Table) → Fin (tcTables nBuf tb) → BufTy
  | .hbm, ⟨0, _⟩ => ⟨S2x4096x16x64, .bf16⟩
  | .hbm, ⟨1, _⟩ => ⟨S2x4096x2x64, .bf16⟩
  | .hbm, ⟨2, _⟩ => ⟨S2x4096x2x64, .bf16⟩
  | .hbm, ⟨3, _⟩ => ⟨S16, .f32⟩
  | .hbm, ⟨4, _⟩ => ⟨S2x4096x1024, .bf16⟩
  | .hbm, ⟨5, _⟩ => ⟨S2x4096x16x64, .f32⟩
  | .hbm, ⟨6, _⟩ => ⟨S2x4096x2x64, .f32⟩
  | .hbm, ⟨7, _⟩ => ⟨S2x32x128x2x8x64, .f32⟩
  | .hbm, ⟨8, _⟩ => ⟨S_, .f32⟩
  | .hbm, ⟨9, _⟩ => ⟨S2x128x2x64, .f32⟩
  | .hbm, ⟨10, _⟩ => ⟨S2x4224x2x64, .f32⟩
  | .hbm, ⟨11, _⟩ => ⟨S2x4096x2x64, .f32⟩
  | .hbm, ⟨12, _⟩ => ⟨S2x32x128x2x64, .f32⟩
  | .hbm, ⟨13, _⟩ => ⟨S2x4096x2x64, .f32⟩
  | .hbm, ⟨14, _⟩ => ⟨S2x32x128x2x64, .f32⟩
  | .hbm, ⟨15, _⟩ => ⟨S2x32x256x2x64, .f32⟩
  | .hbm, ⟨16, _⟩ => ⟨S2x32x2x256x128x8, .f32⟩
  | .hbm, ⟨17, _⟩ => ⟨S2x32x2x8x128x256, .f32⟩
  | .hbm, ⟨18, _⟩ => ⟨S_, .f32⟩
  | .hbm, ⟨19, _⟩ => ⟨S2x32x2x8x128x256, .f32⟩
  | .hbm, ⟨20, _⟩ => ⟨S2x32x2x8x128x256, .f32⟩
  | .hbm, ⟨21, _⟩ => ⟨S128, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S256, .i32⟩
  | .hbm, ⟨47, _⟩ => ⟨S1x1x256, .i32⟩
  | .hbm, ⟨48, _⟩ => ⟨S32x1x256, .i32⟩
  | .hbm, ⟨49, _⟩ => ⟨S32x1x256, .i32⟩
  | .hbm, ⟨50, _⟩ => ⟨S32x1x256, .i32⟩
  | .hbm, ⟨51, _⟩ => ⟨S_, .i32⟩
  | .hbm, ⟨52, _⟩ => ⟨S32x1x256, .i32⟩
  | .hbm, ⟨53, _⟩ => ⟨S32x1x256, .i1⟩
  | .hbm, ⟨54, _⟩ => ⟨S1x128x256, .i1⟩
  | .hbm, ⟨55, _⟩ => ⟨S32x128x256, .i1⟩
  | .hbm, ⟨56, _⟩ => ⟨S32x128x256, .i1⟩
  | .hbm, ⟨57, _⟩ => ⟨S32x128x256, .i1⟩
  | .hbm, ⟨58, _⟩ => ⟨S1x32x1x1x128x256, .i1⟩
  | .hbm, ⟨59, _⟩ => ⟨S_, .f32⟩
  | .hbm, ⟨60, _⟩ => ⟨S_, .f32⟩
  | .hbm, ⟨61, _⟩ => ⟨S2x32x2x8x128x256, .i1⟩
  | .hbm, ⟨62, _⟩ => ⟨S2x32x2x8x128x256, .f32⟩
  | .hbm, ⟨63, _⟩ => ⟨S2x32x2x8x128x256, .f32⟩
  | .hbm, ⟨64, _⟩ => ⟨S1x1x2x8x1x1, .f32⟩
  | .hbm, ⟨65, _⟩ => ⟨S2x32x2x8x128x1, .f32⟩
  | .hbm, ⟨66, _⟩ => ⟨S2x32x2x8x128x257, .f32⟩
  | .hbm, ⟨67, _⟩ => ⟨S_, .f32⟩
  | .hbm, ⟨68, _⟩ => ⟨S2x32x2x8x128, .f32⟩
  | .hbm, ⟨69, _⟩ => ⟨S2x32x2x8x128x1, .f32⟩
  | .hbm, ⟨70, _⟩ => ⟨S2x32x2x8x128x257, .f32⟩
  | .hbm, ⟨71, _⟩ => ⟨S2x32x2x8x128x257, .f32⟩
  | .hbm, ⟨72, _⟩ => ⟨S2x32x2x8x128x257, .f32⟩
  | .hbm, ⟨73, _⟩ => ⟨S_, .f32⟩
  | .hbm, ⟨74, _⟩ => ⟨S2x32x2x8x128, .f32⟩
  | .hbm, ⟨75, _⟩ => ⟨S2x32x2x8x128x1, .f32⟩
  | .hbm, ⟨76, _⟩ => ⟨S2x32x2x8x128x1, .f32⟩
  | .hbm, ⟨77, _⟩ => ⟨S2x32x2x8x128x1, .f32⟩
  | .hbm, ⟨78, _⟩ => ⟨S2x32x16x128, .f32⟩
  | .hbm, ⟨79, _⟩ => ⟨S2x32x128x16, .f32⟩
  | .hbm, ⟨80, _⟩ => ⟨S8192x16, .f32⟩
  | .hbm, ⟨81, _⟩ => ⟨S8192x16x64, .f32⟩
  | .hbm, ⟨82, _⟩ => ⟨S8192x1024, .f32⟩
  | .hbm, ⟨83, _⟩ => ⟨S8x2, .f32⟩
  | .hbm, ⟨84, _⟩ => ⟨S8x2x64, .f32⟩
  | .hbm, ⟨85, _⟩ => ⟨S8x128, .f32⟩
  | .hbm, ⟨86, _⟩ => ⟨S8x1x128, .f32⟩
  | .hbm, ⟨87, _⟩ => ⟨S8192x1024, .bf16⟩
  | .hbm, ⟨88, _⟩ => ⟨S2x4096x2x128, .bf16⟩
  | .hbm, ⟨89, _⟩ => ⟨S8192x256, .bf16⟩
  | .hbm, ⟨90, _⟩ => ⟨S2x4096x2x128, .bf16⟩
  | .hbm, ⟨91, _⟩ => ⟨S8192x256, .bf16⟩
  | .hbm, ⟨92, _⟩ => ⟨S8192x1024, .bf16⟩
  | .hbm, ⟨93, _⟩ => ⟨S8192x1024, .f32⟩
  | .hbm, ⟨94, _⟩ => ⟨S8192x256, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S8x1x128, .f32⟩
  | .hbm, ⟨99, _⟩ => ⟨S2x4096x256, .f32⟩
  | .hbm, ⟨100, _⟩ => ⟨S2x3968x256, .f32⟩
  | .hbm, ⟨101, _⟩ => ⟨S_, .f32⟩
  | .hbm, ⟨102, _⟩ => ⟨S2x128x256, .f32⟩
  | .hbm, ⟨103, _⟩ => ⟨S2x4096x256, .f32⟩
  | .hbm, ⟨104, _⟩ => ⟨S2x4096x2x2x64, .f32⟩
  | .hbm, ⟨105, _⟩ => ⟨S2x4096x2x2x64, .f32⟩
  | .hbm, ⟨106, _⟩ => ⟨S2x4096x2x2x64, .f32⟩
  | .hbm, ⟨107, _⟩ => ⟨S2x4096x2x1x64, .f32⟩
  | .hbm, ⟨108, _⟩ => ⟨S2x4096x2x64, .f32⟩
  | .hbm, ⟨109, _⟩ => ⟨S2x4096x2x1x64, .f32⟩
  | .hbm, ⟨110, _⟩ => ⟨S2x4096x2x64, .f32⟩
  | .hbm, ⟨111, _⟩ => ⟨S2x4096x2x64, .f32⟩
  | .hbm, ⟨112, _⟩ => ⟨S2x4096x256, .f32⟩
  | .hbm, ⟨113, _⟩ => ⟨S2x3968x256, .f32⟩
  | .hbm, ⟨114, _⟩ => ⟨S_, .f32⟩
  | .hbm, ⟨115, _⟩ => ⟨S2x128x256, .f32⟩
  | .hbm, ⟨116, _⟩ => ⟨S2x4096x256, .f32⟩
  | .hbm, ⟨117, _⟩ => ⟨S2x4096x2x2x64, .f32⟩
  | .hbm, ⟨118, _⟩ => ⟨S2x4096x2x2x64, .f32⟩
  | .hbm, ⟨119, _⟩ => ⟨S2x4096x2x2x64, .f32⟩
  | .hbm, ⟨120, _⟩ => ⟨S2x4096x2x1x64, .f32⟩
  | .hbm, ⟨121, _⟩ => ⟨S2x4096x2x64, .f32⟩
  | .hbm, ⟨122, _⟩ => ⟨S2x4096x2x1x64, .f32⟩
  | .hbm, ⟨123, _⟩ => ⟨S2x4096x2x64, .f32⟩
  | .hbm, ⟨124, _⟩ => ⟨S2x4096x2x64, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S4x1x128, .f32⟩
  | .local _ .vmem, ⟨11, _⟩ => ⟨S4x1x128, .f32⟩
  | .local _ .vmem, ⟨12, _⟩ => ⟨S128x512, .bf16⟩
  | .local _ .vmem, ⟨13, _⟩ => ⟨S128x512, .bf16⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S4x1x128, .f32⟩
  | .local _ .vmem, ⟨27, _⟩ => ⟨S4x1x128, .f32⟩
  | _, _ => ⟨S2x4096x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74_0 : Ref sig .tc := ⟨.hbm, 93, rfl⟩
abbrev main_v74_1 : Ref sig .tc := ⟨.hbm, 94, rfl⟩
abbrev main_v74_2 : Ref sig .tc := ⟨.hbm, 95, rfl⟩
abbrev main_v74_3 : Ref sig .tc := ⟨.hbm, 96, rfl⟩
abbrev main_v74_4 : Ref sig .tc := ⟨.hbm, 97, rfl⟩
abbrev main_v74_5 : Ref sig .tc := ⟨.hbm, 98, rfl⟩
abbrev main_v75 : Ref sig .tc := ⟨.hbm, 99, rfl⟩
abbrev main_v76 : Ref sig .tc := ⟨.hbm, 100, rfl⟩
abbrev main_cst_9 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_10 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== UnitKernel.lean ====
abbrev S2x4096x1024 : Shape := ⟨3, ![2, 4096, 1024]⟩
abbrev S1024x2816 : Shape := ⟨2, ![1024, 2816]⟩
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x1024, .bf16⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UnitReferenceIdeal.lean ====
abbrev S2x4096x1024 : Shape := ⟨3, ![2, 4096, 1024]⟩
abbrev S1024x2816 : Shape := ⟨2, ![1024, 2816]⟩
abbrev S2x4096x2816 : Shape := ⟨3, ![2, 4096, 2816]⟩
abbrev S_ : Shape := ⟨0, ![]⟩
abbrev S8192x2816 : Shape := ⟨2, ![8192, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x2816, .f32⟩
  | .hbm, ⟨2, _⟩ => ⟨S1024x2816, .f32⟩
  | .hbm, ⟨3, _⟩ => ⟨S2x4096x1024, .f32⟩
  | .hbm, ⟨4, _⟩ => ⟨S2x4096x2816, .f32⟩
  | .hbm, ⟨5, _⟩ => ⟨S2x4096x2816, .f32⟩
  | .hbm, ⟨6, _⟩ => ⟨S2x4096x2816, .f32⟩
  | .hbm, ⟨7, _⟩ => ⟨S2x4096x2816, .f32⟩
  | .hbm, ⟨8, _⟩ => ⟨S_, .f32⟩
  | .hbm, ⟨9, _⟩ => ⟨S2x4096x2816, .f32⟩
  | .hbm, ⟨10, _⟩ => ⟨S2x4096x2816, .f32⟩
  | .hbm, ⟨11, _⟩ => ⟨S_, .f32⟩
  | .hbm, ⟨12, _⟩ => ⟨S2x4096x2816, .f32⟩
  | .hbm, ⟨13, _⟩ => ⟨S2x4096x2816, .f32⟩
  | .hbm, ⟨14, _⟩ => ⟨S2x4096x2816, .f32⟩
  | .hbm, ⟨15, _⟩ => ⟨S2x4096x2816, .f32⟩
  | .hbm, ⟨16, _⟩ => ⟨S8192x2816, .f32⟩
  | .hbm, ⟨17, _⟩ => ⟨S8192x2816, .bf16⟩
  | .hbm, ⟨18, _⟩ => ⟨S8192x2816, .f32⟩
  | .hbm, ⟨19, _⟩ => ⟨S8192x2816, .bf16⟩
  | .hbm, ⟨20, _⟩ => ⟨S8192x2816, .f32⟩
  | .hbm, ⟨21, _⟩ => ⟨S8192x2816, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== OutKernel.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S1024 : Shape := ⟨1, ![1024]⟩
abbrev S8192x2816 : Shape := ⟨2, ![8192, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S8192x2816, .bf16⟩
  | .hbm, ⟨8, _⟩ => ⟨S2816x1024, .bf16⟩
  | .hbm, ⟨9, _⟩ => ⟨S8192x1024, .f32⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutKernelIdeal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S1024 : Shape := ⟨1, ![1024]⟩
abbrev S8192x2816 : Shape := ⟨2, ![8192, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S8192x2816, .bf16⟩
  | .hbm, ⟨8, _⟩ => ⟨S2816x1024, .bf16⟩
  | .hbm, ⟨9, _⟩ => ⟨S8192x1024, .f32⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutReferenceIdeal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S1024 : Shape := ⟨1, ![1024]⟩
abbrev S8192x1024 : Shape := ⟨2, ![8192, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S2x4096x2816, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x1024, .f32⟩
  | .hbm, ⟨27, _⟩ => ⟨S2x4096x1024, .f32⟩
  | .hbm, ⟨28, _⟩ => ⟨S1x1x1024, .f32⟩
  | .hbm, ⟨29, _⟩ => ⟨S2x4096x1024, .f32⟩
  | .hbm, ⟨30, _⟩ => ⟨S2x4096x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S8192x1024, .f32⟩
  | .hbm, ⟨39, _⟩ => ⟨S8192x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== OutAKernel.lean ====
abbrev S2x4096x1024 : Shape := ⟨3, ![2, 4096, 1024]⟩
abbrev S1024x1024 : Shape := ⟨2, ![1024, 1024]⟩
abbrev S2x1x1024 : Shape := ⟨3, ![2, 1, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S8192x1024, .bf16⟩
  | .hbm, ⟨8, _⟩ => ⟨S1024x1024, .bf16⟩
  | .hbm, ⟨9, _⟩ => ⟨S8192x1024, .f32⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutAReferenceIdeal.lean ====
abbrev S2x4096x1024 : Shape := ⟨3, ![2, 4096, 1024]⟩
abbrev S1024x1024 : Shape := ⟨2, ![1024, 1024]⟩
abbrev S2x1x1024 : Shape := ⟨3, ![2, 1, 1024]⟩
abbrev S1024 : Shape := ⟨1, ![1024]⟩
abbrev S8192x1024 : Shape := ⟨2, ![8192, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x1024, .f32⟩
  | .hbm, ⟨27, _⟩ => ⟨S2x4096x1024, .f32⟩
  | .hbm, ⟨28, _⟩ => ⟨S1x1x1024, .f32⟩
  | .hbm, ⟨29, _⟩ => ⟨S2x4096x1024, .f32⟩
  | .hbm, ⟨30, _⟩ => ⟨S2x4096x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S8192x1024, .f32⟩
  | .hbm, ⟨39, _⟩ => ⟨S8192x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== TopKernel.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S8192x2816 : Shape := ⟨2, ![8192, 2816]⟩
abbrev S8192x1024 : Shape := ⟨2, ![8192, 1024]⟩
abbrev S512x2816 : Shape := ⟨2, ![512, 2816]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TopReferenceIdeal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S2x4096x2816, .f32⟩
  | .hbm, ⟨5, _⟩ => ⟨S2x4096x1024, .f32⟩
  | .hbm, ⟨6, _⟩ => ⟨S8192x1024, .f32⟩
  | .hbm, ⟨7, _⟩ => ⟨S8192x1024, .bf16⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S8192x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ModKernel.lean ====
abbrev S2x4096x1024 : Shape := ⟨3, ![2, 4096, 1024]⟩
abbrev S1024 : Shape := ⟨1, ![1024]⟩
abbrev S2x1x1024 : Shape := ⟨3, ![2, 1, 1024]⟩
abbrev S8192x1024 : Shape := ⟨2, ![8192, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModReferenceIdeal.lean ====
abbrev S2x4096x1024 : Shape := ⟨3, ![2, 4096, 1024]⟩
abbrev S1024 : Shape := ⟨1, ![1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S8192x1024, .f32⟩
  | .hbm, ⟨28, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== AdaFwdKernel.lean ====
abbrev S16x1024 : Shape := ⟨2, ![16, 1024]⟩
abbrev S4x1024x768 : Shape := ⟨3, ![4, 1024, 768]⟩
abbrev S4x768 : Shape := ⟨2, ![4, 768]⟩
abbrev S4x1x768 : Shape := ⟨3, ![4, 1, 768]⟩
abbrev S4x16x768 : Shape := ⟨3, ![4, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdReferenceIdeal.lean ====
abbrev S16x1024 : Shape := ⟨2, ![16, 1024]⟩
abbrev S4x1024x768 : Shape := ⟨3, ![4, 1024, 768]⟩
abbrev S4x768 : Shape := ⟨2, ![4, 768]⟩
abbrev S_ : Shape := ⟨0, ![]⟩
abbrev S16x4x768 : Shape := ⟨3, ![16, 4, 768]⟩
abbrev S4x1x768 : Shape := ⟨3, ![4, 1, 768]⟩
abbrev S4x16x768 : Shape := ⟨3, ![4, 16, 768]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x768, .f32⟩
  | .hbm, ⟨13, _⟩ => ⟨S4x1x768, .f32⟩
  | .hbm, ⟨14, _⟩ => ⟨S4x16x768, .f32⟩
  | .hbm, ⟨15, _⟩ => ⟨S4x16x768, .f32⟩
  | .hbm, ⟨16, _⟩ => ⟨S4x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdamKernel.lean ====
abbrev S4x128x2816 : Shape := ⟨3, ![4, 128, 2816]⟩
abbrev S512x2816 : Shape := ⟨2, ![512, 2816]⟩
abbrev S128x2816 : Shape := ⟨2, ![128, 2816]⟩

abbrev nBuf : Space → Nat
  | .hbm => 11
  | .vmem => 14
  | .smem => 0
  | _ => 0

abbrev bufTy : (tb : Table) → Fin (tcTables nBuf tb) → BufTy
  | .hbm, ⟨0, _⟩ => ⟨S4x128x2816, .f32⟩
  | .hbm, ⟨1, _⟩ => ⟨S4x128x2816, .f32⟩
  | .hbm, ⟨2, _⟩ => ⟨S4x128x2816, .f32⟩
  | .hbm, ⟨3, _⟩ => ⟨S4x128x2816, .f32⟩
  | .hbm, ⟨4, _⟩ => ⟨S512x2816, .f32⟩
  | .hbm, ⟨5, _⟩ => ⟨S512x2816, .f32⟩
  | .hbm, ⟨6, _⟩ => ⟨S512x2816, .f32⟩
  | .hbm, ⟨7, _⟩ => ⟨S512x2816, .f32⟩
  | .hbm, ⟨8, _⟩ => ⟨S512x2816, .f32⟩
  | .hbm, ⟨9, _⟩ => ⟨S512x2816, .f32⟩
  | .hbm, ⟨10, _⟩ => ⟨S512x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S4x128x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S4x128x2816 : Shape := ⟨3, ![4, 128, 2816]⟩
abbrev S_ : Shape := ⟨0, ![]⟩
abbrev S512x2816 : Shape := ⟨2, ![512, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4x128x2816, .f32⟩
  | .hbm, ⟨1, _⟩ => ⟨S4x128x2816, .f32⟩
  | .hbm, ⟨2, _⟩ => ⟨S4x128x2816, .f32⟩
  | .hbm, ⟨3, _⟩ => ⟨S4x128x2816, .f32⟩
  | .hbm, ⟨4, _⟩ => ⟨S_, .f32⟩
  | .hbm, ⟨5, _⟩ => ⟨S4x128x2816, .f32⟩
  | .hbm, ⟨6, _⟩ => ⟨S4x128x2816, .f32⟩
  | .hbm, ⟨7, _⟩ => ⟨S_, .f32⟩
  | .hbm, ⟨8, _⟩ => ⟨S4x128x2816, .f32⟩
  | .hbm, ⟨9, _⟩ => ⟨S4x128x2816, .f32⟩
  | .hbm, ⟨10, _⟩ => ⟨S4x128x2816, .f32⟩
  | .hbm, ⟨11, _⟩ => ⟨S_, .f32⟩
  | .hbm, ⟨12, _⟩ => ⟨S4x128x2816, .f32⟩
  | .hbm, ⟨13, _⟩ => ⟨S4x128x2816, .f32⟩
  | .hbm, ⟨14, _⟩ => ⟨S4x128x2816, .f32⟩
  | .hbm, ⟨15, _⟩ => ⟨S_, .f32⟩
  | .hbm, ⟨16, _⟩ => ⟨S4x128x2816, .f32⟩
  | .hbm, ⟨17, _⟩ => ⟨S4x128x2816, .f32⟩
  | .hbm, ⟨18, _⟩ => ⟨S4x128x2816, .f32⟩
  | .hbm, ⟨19, _⟩ => ⟨S_, .f32⟩
  | .hbm, ⟨20, _⟩ => ⟨S4x128x2816, .f32⟩
  | .hbm, ⟨21, _⟩ => ⟨S4x128x2816, .f32⟩
  | .hbm, ⟨22, _⟩ => ⟨S_, .f32⟩
  | .hbm, ⟨23, _⟩ => ⟨S4x128x2816, .f32⟩
  | .hbm, ⟨24, _⟩ => ⟨S4x128x2816, .f32⟩
  | .hbm, ⟨25, _⟩ => ⟨S4x128x2816, .f32⟩
  | .hbm, ⟨26, _⟩ => ⟨S_, .f32⟩
  | .hbm, ⟨27, _⟩ => ⟨S4x128x2816, .f32⟩
  | .hbm, ⟨28, _⟩ => ⟨S4x128x2816, .f32⟩
  | .hbm, ⟨29, _⟩ => ⟨S4x128x2816, .f32⟩
  | .hbm, ⟨30, _⟩ => ⟨S_, .f32⟩
  | .hbm, ⟨31, _⟩ => ⟨S4x128x2816, .f32⟩
  | .hbm, ⟨32, _⟩ => ⟨S4x128x2816, .f32⟩
  | .hbm, ⟨33, _⟩ => ⟨S4x128x2816, .f32⟩
  | .hbm, ⟨34, _⟩ => ⟨S_, .f32⟩
  | .hbm, ⟨35, _⟩ => ⟨S4x128x2816, .f32⟩
  | .hbm, ⟨36, _⟩ => ⟨S4x128x2816, .f32⟩
  | .hbm, ⟨37, _⟩ => ⟨S512x2816, .f32⟩
  | .hbm, ⟨38, _⟩ => ⟨S512x2816, .f32⟩
  | .hbm, ⟨39, _⟩ => ⟨S512x2816, .f32⟩
  | _, _ => ⟨S4x128x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumKernel.lean ====
abbrev S16x24x1024 : Shape := ⟨3, ![16, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x24x1024, .f32⟩
  | .hbm, ⟨1, _⟩ => ⟨S24x1024, .f32⟩
  | .local _ .vmem, ⟨0, _⟩ => ⟨S16x24x1024, .f32⟩
  | .local _ .vmem, ⟨1, _⟩ => ⟨S24x1024, .f32⟩
  | _, _ => ⟨S16x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumKernelIdeal.lean ====
abbrev S16x24x1024 : Shape := ⟨3, ![16, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x24x1024, .f32⟩
  | .hbm, ⟨1, _⟩ => ⟨S24x1024, .f32⟩
  | .local _ .vmem, ⟨0, _⟩ => ⟨S16x24x1024, .f32⟩
  | .local _ .vmem, ⟨1, _⟩ => ⟨S24x1024, .f32⟩
  | _, _ => ⟨S16x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S16x24x1024 : Shape := ⟨3, ![16, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16x24x1024, .f32⟩
  | .hbm, ⟨1, _⟩ => ⟨S_, .f32⟩
  | .hbm, ⟨2, _⟩ => ⟨S24x1024, .f32⟩
  | _, _ => ⟨S16x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumMKernel.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMReferenceIdeal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumNKernel.lean ====
abbrev S4x2x1024 : Shape := ⟨3, ![4, 2, 1024]⟩
abbrev S2x4x1024 : Shape := ⟨3, ![2, 4, 1024]⟩
abbrev S4x1024 : Shape := ⟨2, ![4, 1024]⟩
abbrev S1x4x1024 : Shape := ⟨3, ![1, 4, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x2x1024, .f32⟩
  | .hbm, ⟨1, _⟩ => ⟨S2x4x1024, .f32⟩
  | .hbm, ⟨2, _⟩ => ⟨S4x1024, .f32⟩
  | .local _ .vmem, ⟨0, _⟩ => ⟨S2x4x1024, .f32⟩
  | .local _ .vmem, ⟨1, _⟩ => ⟨S4x1024, .f32⟩
  | _, _ => ⟨S4x2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumNReferenceIdeal.lean ====
abbrev S4x2x1024 : Shape := ⟨3, ![4, 2, 1024]⟩
abbrev S_ : Shape := ⟨0, ![]⟩
abbrev S4x1024 : Shape := ⟨2, ![4, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2x1024, .f32⟩
  | .hbm, ⟨1, _⟩ => ⟨S_, .f32⟩
  | .hbm, ⟨2, _⟩ => ⟨S4x1024, .f32⟩
  | _, _ => ⟨S4x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NtKernel.lean ====
abbrev S2x4096x1024 : Shape := ⟨3, ![2, 4096, 1024]⟩
abbrev S1024x3072 : Shape := ⟨2, ![1024, 3072]⟩
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S1024x3072, .f32⟩
  | .hbm, ⟨2, _⟩ => ⟨S8192x1024, .bf16⟩
  | .hbm, ⟨3, _⟩ => ⟨S3072x1024, .f32⟩
  | .hbm, ⟨4, _⟩ => ⟨S3072x1024, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtReferenceIdeal.lean ====
abbrev S2x4096x1024 : Shape := ⟨3, ![2, 4096, 1024]⟩
abbrev S1024x3072 : Shape := ⟨2, ![1024, 3072]⟩
abbrev S2x4096x3072 : Shape := ⟨3, ![2, 4096, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x3072, .f32⟩
  | .hbm, ⟨2, _⟩ => ⟨S2x4096x1024, .f32⟩
  | .hbm, ⟨3, _⟩ => ⟨S2x4096x3072, .f32⟩
  | .hbm, ⟨4, _⟩ => ⟨S8192x3072, .f32⟩
  | .hbm, ⟨5, _⟩ => ⟨S8192x3072, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== TnKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.GateRef.lean ====
/- The reference results of `Cert.GateReferenceIdeal` as named functions of its arguments. -/
module

public import proofs.«01_k».proof.Proof.Gen.GateReferenceIdeal.Run
public import Idealize.ShloMosaic.Lib.Pipeline.ValueKit

@[expose] public section

set_option maxRecDepth 16384

noncomputable section

namespace Cert.GateReferenceIdeal.Value

open Cert.GateReferenceIdeal Cert.GateReferenceIdeal.Gen Idealize.ShloMosaic Idealize.ShloMosaic.TcCoe Idealize.SL.Sem Idealize.ShloMosaic.StableHlo

/-- What the reference leaves in `main_v9`. -/
abbrev REF_v9 (a0 : FVec Ideal S2x4096x1024 .f32) (a2 : FVec Ideal S2x1x1024 .f32) : FVec Ideal S8192x1024 .bf16 :=
  truncf .bf16 (shapeCast _ (mulf (broadcastInDim S2x4096x1024 ![0, 1, 2] bcast_S2x1x1024_S2x4096x1024_0_1_2 a2) a0) shapeCasts_S2x4096x1024_S8192x1024) bitsLt_bf16_f32

/-- What the reference leaves in `main_v7`. -/
abbrev REF_v7 (a0 : FVec Ideal S2x4096x1024 .f32) (a1 : FVec Ideal S2x4096x1024 .bf16) : FVec Ideal S2x1x1024 .f32 :=
  shapeCast _ (Host.reduceAdd (mulf a0 (extf .f32 a1 bitsLt_bf16_f32)) (constant S_ .f32 0x00000000#32) reducesTo_S2x4096x1024_S2x1024_d1 h_S_) shapeCasts_S2x1024_S2x1x1024

end Cert.GateReferenceIdeal.Value

end
-- ==== Proof.GateValue.lean ====
/- What `GateKernelIdeal` leaves in its results, against the reference's terms. -/
module

public import proofs.«01_k».proof.Proof.Gen.GateKernelIdeal.Value
public import proofs.«01_k».proof.Proof.GateRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.GateKernelIdeal.Value

open Cert.GateKernelIdeal Cert.GateKernelIdeal.Gen Cert.GateReferenceIdeal.Value

variable (m : (ℓ : Loc nD τ sig) → Buf (Elt Ideal) ℓ)

/-- every window's block index at every grid point, in closed form (decided). Use: `obtain ⟨e0, e1, e2, e3, e4⟩ := idx t`, then
    `blk_simp [e0, …]` / `blk_ext [e0, …]` put block embeddings at coordinates (value_ideal.md §3). -/
theorem idx : ∀ t : Fin cfg0.N, win0_0.index t = ![(grid0.coords t 0).val * 8 + (grid0.coords t 1).val, 0]
    ∧ win0_1.index t = ![(grid0.coords t 0).val * 8 + (grid0.coords t 1).val, 0]
    ∧ win0_2.index t = ![(grid0.coords t 0).val, 0, 0]
    ∧ win0_3.index t = ![(grid0.coords t 0).val * 8 + (grid0.coords t 1).val, 0]
    ∧ win0_4.index t = ![(grid0.coords t 0).val, 0, 0] :=
  (by decide +kernel : ∀ t : Fin grid0.N, _)

/-- the same in `t.val` (for `omega` beside a schedule fact `t.val % J = r`). -/
theorem idx_val : ∀ t : Fin cfg0.N, win0_0.index t = ![(t.val / 8) * 8 + (t.val % 8), 0]
    ∧ win0_1.index t = ![(t.val / 8) * 8 + (t.val % 8), 0]
    ∧ win0_2.index t = ![t.val / 8, 0, 0]
    ∧ win0_3.index t = ![(t.val / 8) * 8 + (t.val % 8), 0]
    ∧ win0_4.index t = ![t.val / 8, 0, 0] :=
  (by decide +kernel : ∀ t : Fin grid0.N, _)

-- window 0's array `main_v0` is made by @main's host operations before the region (= shapeCast _ main_arg0 shapeCasts_S2x4096x1024_S8192x1024): read `V m c main_v0` with `entry_read`, never by a rewriting lemma

-- window 1's array `main_v1` is made by @main's host operations before the region (= shapeCast _ main_arg1 shapeCasts_S2x4096x1024_S8192x1024): read `V m c main_v1` with `entry_read`, never by a rewriting lemma

theorem lt_N (t : Fin cfg0.N) : t.val < 16 := t.isLt

/-- the cotangent block, at coordinates. -/
theorem blk_0 (c : Dev nD) (t : Fin cfg0.N) (a : Fin 512) (b : Fin 1024) :
    iblk m c 0 t (ix2 a b) = m ((c : Thread nD τ).loc main_arg0) (ix3 (⟨t.val / 8, by have := lt_N t; omega⟩ : Fin 2) (⟨t.val % 8 * 512 + a.val, by omega⟩ : Fin 4096) b) := by
  blk_simp [iblk, idx_val t]; entry_read; pointwise; blk_ext [idx_val t]

/-- the gate block, at coordinates. -/
theorem blk_2 (c : Dev nD) (t : Fin cfg0.N) (b : Fin 1024) :
    iblk m c 2 t (ix3 0 0 b) = m ((c : Thread nD τ).loc main_arg2) (ix3 (⟨t.val / 8, by have := lt_N t; omega⟩ : Fin 2) 0 b) := by
  blk_simp [iblk, V, idx_val t]; blk_ext [idx_val t]

/-- where the block of window 3 sits. -/
theorem emb_3 (t : Fin cfg0.N) (a : Fin 512) (b : Fin 1024) :
    ((cfg0.win 3).blk t).view.emb (ix2 a b) = (ix2 (⟨t.val * 512 + a.val, by have := lt_N t; omega⟩ : Fin 8192) b : S8192x1024.Idx) := by
  blk_ext [idx_val t]

/-- the reference at coordinates. -/
theorem ref_9 (x : FVec Ideal S2x4096x1024 .f32) (g : FVec Ideal S2x1x1024 .f32) (r : Fin 8192) (b : Fin 1024) :
    REF_v9 x g (ix2 r b) = g (ix3 (⟨r.val / 4096, by omega⟩ : Fin 2) 0 b) * x (ix3 (⟨r.val / 4096, by omega⟩ : Fin 2) (⟨r.val % 4096, by omega⟩ : Fin 4096) b) := by
  pointwise [REF_v9]

/-- what the body stores at a point, against the reference there. -/
theorem pay_3 (c : Dev nD) (t : Fin cfg0.N) (y : S512x1024.Idx) :
    k0_pay3 (F := Ideal) (iblk m c 0 t) (iblk m c 2 t) y
      = REF_v9 (m ((c : Thread nD τ).loc main_arg0)) (m ((c : Thread nD τ).loc main_arg2)) (((cfg0.win 3).blk
        t).view.emb y) := by
  idx_vars y
  rw [emb_3, ref_9]
  pointwise [k0_pay3, k0_pay2]
  have := lt_N t
  refine (mul_comm _ _).trans (Ideal.mul_congr ((blk_2 m c t _).trans (congrArg _ ?_)) ((blk_0 m c t _ _).trans (congrArg _ ?_)))
  · exact (ix3_inj ..).2 ⟨Fin.ext (by dsimp only; omega), rfl, rfl⟩
  · exact (ix3_inj ..).2 ⟨Fin.ext (by dsimp only; omega), Fin.ext (by dsimp only; omega), rfl⟩

/-- POINT of window 3 at a point of kit case A (`frame_out` opens the kit word). -/
theorem point_3_A (c : Dev nD) (t : Fin cfg0.N) (h0 : t.val % 8 = 0) (y) :
    (out0_A_3 c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t)) y
      = REF_v9 (m ((c : Thread nD τ).loc main_arg0)) (m ((c : Thread nD τ).loc main_arg2)) (((cfg0.win 3).blk
        t).view.emb y) := by
  frame_out
  exact pay_3 m c t y

/-- POINT of window 3 at a point of kit case B (`frame_out` opens the kit word). -/
theorem point_3_B (c : Dev nD) (t : Fin cfg0.N) (h0 : ¬t.val % 8 = 0) (y) :
    (out0_B_3 c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t) (iblk m c 2 t) (outsAt0 m c
      (t.val - 1) (Nat.lt_of_le_of_lt (Nat.sub_le _ _) t.isLt)).2) y
      = REF_v9 (m ((c : Thread nD τ).loc main_arg0)) (m ((c : Thread nD τ).loc main_arg2)) (((cfg0.win 3).blk
        t).view.emb y) := by
  frame_out
  exact pay_3 m c t y

/-- the array of window 3 after the run. -/
theorem final_3 (c : Dev nD) : (dats m 0 c).arrAt 3 (cfgs 0).N = REF_v9 (m ((c : Thread nD τ).loc main_arg0)) (m ((c : Thread nD τ).loc main_arg2)) := by
  refine (dats m 0 c).arrAt_eq_of_covers 3 _ (by decide +kernel) fun t hf y => ?_
  blk_simp; rw [after0_3]
  by_cases h : t.val % 8 = 0
  · rw [outsAt0_A m c t h]; dsimp only; exact point_3_A m c t h y
  · rw [outsAt0_B m c t h]; dsimp only; exact point_3_B m c t h y

/-- the zero fill. -/
theorem hzero_4 (j : S1x1x1024.Idx) : k0_pay1 (F := Ideal) j = 0 := by
  pointwise! [k0_pay1]

/-- the accumulating payload = what the buffer held + its part (the payload at a ZERO accumulator; restate the part as its
    explicit sum `∑ k : Fin n, x (ixR … k) * y (ixR … k)` when you need it: probe `… = v11 j + 0`, `pointwise [k0_pay4]; trace_state`). -/
theorem hpay_4 (v3 : Vec Ideal S512x1024 .f32) (v11 : Vec Ideal S1x1x1024 .f32) (v13 : Vec Ideal S512x1024 .bf16) (j : S1x1x1024.Idx) :
    k0_pay4 v3 v11 v13 j = v11 j + k0_pay4 v3 (fun _ => 0) v13 j := by
  pointwise [k0_pay4]

/-- BRIDGE + the accumulation as ONE `Fin`-indexed sum (no induction, no `term`, no `outs_eq`). -/
theorem final_4 (c : Dev nD) : (dats m 0 c).arrAt 4 (cfgs 0).N = REF_v7 (m ((c : Thread nD τ).loc main_arg0)) (m ((c : Thread nD τ).loc main_arg1)) := by
  refine (dats m 0 c).arrAt_eq_of_covers 4 _ (by decide +kernel) fun t hf y => ?_
  blk_simp
  rw [after0_4, Pipeline.eq_sum_fin_of_reset_step_apply_of_flush (fun n h => (outsAt0 m c n h).2) 8 (fun _ => 0) _
    (fun t h j => by rw [outsAt0_A m c t h]; frame_out; rw [hpay_4, hzero_4])
    (fun t h j => by rw [outsAt0_B m c t h]; frame_out; rw [hpay_4])
    t ((flush0_4 t).mp hf) _, zero_add]
  -- ⊢ ∑ s : Fin 8, <part over iblk m c · ⟨8 * (↑t / 8) + ↑s, _⟩> y = REF_v7 (emb y); no `href` needed: `pointwise [<payload>, REF_v7]` opens both sides at once; re-indexing: Fin.sum_mul_add_congr (the reference contracts one axis: the run × the lanes of a point)
  pointwise [k0_pay4, k0_pay2, k0_pay3, REF_v7]; refine Fin.sum_mul_add_congr fun s k hl => ?_; blk_point [iblk, V, idx_val t, idx_val ⟨_, Pipeline.run_point_lt_of_flush t ((flush0_4 t).mp hf) s⟩]
  -- a factor read through a window over a HOST-MADE operand: `blk_simp [iblk, idx_val t]; entry_read; pointwise; blk_ext [idx_val t]`

end Cert.GateKernelIdeal.Value

end
-- ==== Proof.GateClaim.lean ====
/- The claims about `GateKernel`, its idealization and its reference. -/
module

public import proofs.«01_k».proof.Defs
public import proofs.«01_k».proof.Proof.Gen.GateKernel.Frame
public import proofs.«01_k».proof.Proof.Gen.GateKernelIdeal.Frame
public import proofs.«01_k».proof.Proof.Gen.GateReferenceIdeal.Run
public import proofs.«01_k».proof.Proof.GateValue
public import Idealize.ShloMosaic.Lib.Claim

@[expose] public section

set_option maxRecDepth 16384

noncomputable section

namespace Cert.Proof.Gate

open Idealize.ShloMosaic Idealize.ShloMosaic.TcCoe Idealize.SL.Sem

instance : Cert.GateKernel.Facts := Cert.GateKernel.Gen.facts
instance : Cert.GateKernelIdeal.Facts := Cert.GateKernelIdeal.Gen.facts
instance : Cert.GateReferenceIdeal.Facts := Cert.GateReferenceIdeal.Gen.facts

/-- the kernel's thread on a device. -/
abbrev tK (c : Dev Cert.GateKernelIdeal.nD) : Thread Cert.GateKernelIdeal.nD Cert.GateKernelIdeal.τ := c.tc

/-- the reference's thread on a device. -/
abbrev tR (c : Dev Cert.GateReferenceIdeal.nD) : Thread Cert.GateReferenceIdeal.nD Cert.GateReferenceIdeal.τ := c.tc

/-- a memory of the kernel's program. -/
abbrev MemK := (ℓ : Loc Cert.GateKernelIdeal.nD Cert.GateKernelIdeal.τ Cert.GateKernelIdeal.sig) → Buf (Elt Ideal) ℓ

/-- a memory of the reference's program. -/
abbrev MemR := (ℓ : Loc Cert.GateReferenceIdeal.nD Cert.GateReferenceIdeal.τ Cert.GateReferenceIdeal.sig) → Buf (Elt Ideal) ℓ

/-- the printed kernel's frame. -/
theorem frame_p : Cert.quiescent_GateKernel := fun m ρ _ => Cert.GateKernel.Gen.frame m ρ

/-- the idealized kernel's frame. -/
theorem frame_pi : Cert.quiescent_GateKernelIdeal := fun m ρ _ => Cert.GateKernelIdeal.Gen.frame m ρ

/-- the reference's frame: it declares no semaphore. -/
theorem frame_ri : Cert.quiescent_GateReferenceIdeal := fun m g _ =>
  (θ_run Cert.GateReferenceIdeal.defs _ _).mono
    (fun r h => ⟨fun c => ⟨(h c).2.2.1, (h c).2.2.2.1, (h c).2.2.2.2⟩, sem_eq_zero_of_no_sems (by decide) r.2⟩)
    (Cert.GateReferenceIdeal.Value.run m g)

/-- the reference's term for window 3's array, at the kernel's arguments. -/
theorem out_3 (m : MemK)
    (m' : MemR) (c : Dev Cert.GateKernelIdeal.nD)
    (a0 : m' ((tR c).loc Cert.GateReferenceIdeal.main_arg0) = m ((tK c).loc Cert.GateKernelIdeal.main_arg0))
    (a2 : m' ((tR c).loc Cert.GateReferenceIdeal.main_arg2) = m ((tK c).loc Cert.GateKernelIdeal.main_arg2)) :
    Cert.GateReferenceIdeal.Value.REF_v9 (m' ((tR c).loc Cert.GateReferenceIdeal.main_arg0)) (m' ((tR c).loc Cert.GateReferenceIdeal.main_arg2))
      = (Cert.GateKernelIdeal.Gen.dats m 0 c).arrAt 3 (Cert.GateKernelIdeal.cfgs 0).N := by
  rw [a0, a2]
  exact (Cert.GateKernelIdeal.Value.final_3 m c).symm

/-- the reference's term for window 4's array, at the kernel's arguments. -/
theorem out_4 (m : MemK)
    (m' : MemR) (c : Dev Cert.GateKernelIdeal.nD)
    (a0 : m' ((tR c).loc Cert.GateReferenceIdeal.main_arg0) = m ((tK c).loc Cert.GateKernelIdeal.main_arg0))
    (a1 : m' ((tR c).loc Cert.GateReferenceIdeal.main_arg1) = m ((tK c).loc Cert.GateKernelIdeal.main_arg1)) :
    Cert.GateReferenceIdeal.Value.REF_v7 (m' ((tR c).loc Cert.GateReferenceIdeal.main_arg0)) (m' ((tR c).loc Cert.GateReferenceIdeal.main_arg1))
      = (Cert.GateKernelIdeal.Gen.dats m 0 c).arrAt 4 (Cert.GateKernelIdeal.cfgs 0).N := by
  rw [a0, a1]
  exact (Cert.GateKernelIdeal.Value.final_4 m c).symm

/-- the idealized kernel computes the derivative of the forward lines. -/
theorem algebraic : Cert.algebraic_GateKernelIdeal_GateReferenceIdeal := by
  pair_intro
  · run_from Cert.GateKernelIdeal.Gen.run_main m g
  · exact (θ_run Cert.GateReferenceIdeal.defs _ _).mono
      (fun r h c => ⟨(h c).1.trans (out_3 m m' c (hagree c).1 (hagree c).2.2), (h c).2.1.trans (out_4 m m' c (hagree c).1 (hagree c).2.1),
        (h c).2.2.1, (h c).2.2.2.1, (h c).2.2.2.2⟩)
      (Cert.GateReferenceIdeal.Value.run m' g')

end Cert.Proof.Gate

end
-- ==== Proof.LossRef.lean ====
/- The reference results of `Cert.LossReferenceIdeal` as named functions of its arguments. -/
module

public import proofs.«01_k».proof.Proof.Gen.LossReferenceIdeal.Run
public import Idealize.ShloMosaic.Lib.Pipeline.ValueKit

@[expose] public section

set_option maxRecDepth 16384

noncomputable section

namespace Cert.LossReferenceIdeal.Value

open Cert.LossReferenceIdeal Cert.LossReferenceIdeal.Gen Idealize.ShloMosaic Idealize.ShloMosaic.TcCoe Idealize.SL.Sem Idealize.ShloMosaic.StableHlo

/-- What the reference leaves in `main_v15`. -/
abbrev REF_v15 (a0 : FVec Ideal S2x4096x1024 .f32) (a1 : FVec Ideal S2x4096x1024 .f32) : FVec Ideal S8192x1024 .f32 :=
  shapeCast _ (mulf (broadcastInDim S2x4096x1024 ![0, 1] bcast_S2x4096_S2x4096x1024_0_1 (Host.divf (broadcastInDim S2x4096 ![] bcast_S_S2x4096 (mulf (constant S_ .f32 0x3F000000#32) (constant S_ .f32 0x3F800000#32))) (broadcastInDim S2x4096 ![] bcast_S_S2x4096 (constant S_ .f32 0x44800000#32)))) (mulf (broadcastInDim S2x4096x1024 ![] bcast_S_S2x4096x1024 (constant S_ .f32 0x40000000#32)) (subf a0 a1))) shapeCasts_S2x4096x1024_S8192x1024

/-- What the reference leaves in `main_v16`. -/
abbrev REF_v16 (a0 : FVec Ideal S2x4096x1024 .f32) (a1 : FVec Ideal S2x4096x1024 .f32) : FVec Ideal S8x128 .f32 :=
  broadcastInDim S8x128 ![] bcast_S_S8x128 (mulf (constant S_ .f32 0x3F000000#32) (Host.reduceAdd (Host.divf (Host.reduceAdd (mulf (subf a0 a1) (subf a0 a1)) (constant S_ .f32 0x00000000#32) reducesTo_S2x4096x1024_S2x4096_d2 h_S_) (broadcastInDim S2x4096 ![] bcast_S_S2x4096 (constant S_ .f32 0x44800000#32))) (constant S_ .f32 0x00000000#32) reducesTo_S2x4096_S_d0_1 h_S_))

end Cert.LossReferenceIdeal.Value

end
-- ==== Proof.RealKit.lean ====
/- Arithmetic of the extended reals that the value proofs share: constants, finite sums, and finite entries. -/
module

public import Idealize.ShloMosaic.Lib.Pipeline.ValueKit
public import Idealize.ShloMosaic.Lib.ReduceAll
public import Idealize.ShloMosaic.Lib.IdealHost

@[expose] public section

set_option maxRecDepth 16384

noncomputable section

open Idealize.ShloMosaic
open scoped BigOperators

namespace RealKit

/-- The f32 pattern of one half. -/
theorem half_f32 : Ideal.ofBits .f32 0x3F000000#32 = (((1 : ℝ) / 2 : ℝ) : EReal) := by
  simp [Ideal.ofBits, Ideal.ieee, -EReal.coe_mul]; norm_num

/-- The f32 pattern of two. -/
theorem two_f32 : Ideal.ofBits .f32 0x40000000#32 = ((2 : ℝ) : EReal) := by
  simp [Ideal.ofBits, Ideal.ieee, -EReal.coe_mul]; norm_num

/-- The f32 pattern of 1024. -/
theorem k_f32 : Ideal.ofBits .f32 0x44800000#32 = ((1024 : ℝ) : EReal) := by
  simp [Ideal.ofBits, Ideal.ieee, -EReal.coe_mul]; norm_num

/-- The f32 pattern of one part in 1024. -/
theorem inv_k_f32 : Ideal.ofBits .f32 0x3A800000#32 = (((1 : ℝ) / 1024 : ℝ) : EReal) := by
  simp [Ideal.ofBits, Ideal.ieee, -EReal.coe_mul]; norm_num

/-- The f32 pattern of minus one half. -/
theorem neg_half_f32 : Ideal.ofBits .f32 0xBF000000#32 = ((-(1 / 2) : ℝ) : EReal) := by
  simp [Ideal.ofBits, Ideal.ieee, -EReal.coe_mul]; norm_num

/-- The f32 pattern of the small addend under the root. -/
theorem eps_f32 : Ideal.ofBits .f32 0x358637BD#32 = (((8796093 : ℝ) / 8796093022208 : ℝ) : EReal) := by
  simp [Ideal.ofBits, Ideal.ieee, -EReal.coe_mul]; norm_num

/-- The f32 pattern of one part in 64. -/
theorem inv64_f32 : Ideal.ofBits .f32 0x3C800000#32 = (((1 : ℝ) / 64 : ℝ) : EReal) := by
  simp [Ideal.ofBits, Ideal.ieee, -EReal.coe_mul]; norm_num

/-- The f32 pattern of 64. -/
theorem k64_f32 : Ideal.ofBits .f32 0x42800000#32 = ((64 : ℝ) : EReal) := by
  simp [Ideal.ofBits, Ideal.ieee, -EReal.coe_mul]; norm_num

/-- The f32 pattern of one. -/
theorem one_f32 : Ideal.ofBits .f32 0x3F800000#32 = ((1 : ℝ) : EReal) := by
  simp [Ideal.ofBits, Ideal.ieee, -EReal.coe_mul]; norm_num

/-- The patterns of one eighth. -/
theorem eighth_f32 : Ideal.ofBits .f32 0x3E000000#32 = (((1 : ℝ) / 8 : ℝ) : EReal) := by
  simp [Ideal.ofBits, Ideal.ieee, -EReal.coe_mul]; norm_num

theorem eighth_bf16 : Ideal.ofBits .bf16 0x3E00#16 = (((1 : ℝ) / 8 : ℝ) : EReal) := by
  simp [Ideal.ofBits, Ideal.ieee, -EReal.coe_mul]; norm_num

/-- The reals' maxima and minima, kept. -/
theorem coe_max' (x y : ℝ) : ((max x y : ℝ) : EReal) = max (x : EReal) (y : EReal) := EReal.coe_strictMono.monotone.map_max

theorem coe_min' (x y : ℝ) : ((min x y : ℝ) : EReal) = min (x : EReal) (y : EReal) := EReal.coe_strictMono.monotone.map_min

/-- The f32 pattern of plus infinity. -/
theorem inf_f32 : Ideal.ofBits .f32 0x7F800000#32 = ⊤ := by
  simp [Ideal.ofBits, Ideal.ieee]

/-- The bf16 pattern of plus infinity. -/
theorem inf_bf16 : Ideal.ofBits .bf16 0x7F80#16 = ⊤ := by
  simp [Ideal.ofBits, Ideal.ieee]

/-- An extended real that is a real number. -/
def Fin' (x : EReal) : Prop := ∃ r : ℝ, x = (r : EReal)

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor that is not negative goes under a sum of any extended reals. -/
theorem mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h, ← ih,
      EReal.left_distrib_of_nonneg_of_ne_top (EReal.coe_nonneg.2 hc) (EReal.coe_ne_top c)]

/-- What a magnitude below infinity says. -/
theorem fin_of_abs_lt {x : EReal} (h : max x (-x) < ⊤) : Fin' x := by
  induction x using EReal.rec with
  | bot => simp at h
  | top => simp at h
  | coe r => exact ⟨r, rfl⟩

end RealKit

end
-- ==== Proof.LossValue.lean ====
/- What `LossKernelIdeal` leaves in its results, against the reference's terms. -/
module

public import proofs.«01_k».proof.Proof.Gen.LossKernelIdeal.Value
public import proofs.«01_k».proof.Proof.LossRef
public import proofs.«01_k».proof.Proof.RealKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.Value

open Cert.LossKernelIdeal Cert.LossKernelIdeal.Gen Cert.LossReferenceIdeal.Value

variable (m : (ℓ : Loc nD τ sig) → Buf (Elt Ideal) ℓ)

/-- every window's block index at every grid point, in closed form (decided). Use: `obtain ⟨e0, e1, e2, e3⟩ := idx t`, then
    `blk_simp [e0, …]` / `blk_ext [e0, …]` put block embeddings at coordinates (value_ideal.md §3). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![0, 0] :=
  (by decide +kernel : ∀ t : Fin grid0.N, _)

-- window 0's array `main_v0` is made by @main's host operations before the region (= shapeCast _ main_arg0 shapeCasts_S2x4096x1024_S8192x1024): read `V m c main_v0` with `entry_read`, never by a rewriting lemma

-- window 1's array `main_v1` is made by @main's host operations before the region (= shapeCast _ main_arg1 shapeCasts_S2x4096x1024_S8192x1024): read `V m c main_v1` with `entry_read`, never by a rewriting lemma

theorem lt_N (t : Fin cfg0.N) : t.val < 16 := t.isLt

/-- the prediction's block, at coordinates. -/
theorem blk_0 (c : Dev nD) (t : Fin cfg0.N) (a : Fin 512) (b : Fin 1024) :
    iblk m c 0 t (ix2 a b) = m ((c : Thread nD τ).loc main_arg0) (ix3 (⟨t.val / 8, by have := lt_N t; omega⟩ : Fin 2) (⟨t.val % 8 * 512 + a.val, by omega⟩ : Fin 4096) b) := by
  blk_simp [iblk, idx_val t]; entry_read; pointwise; blk_ext [idx_val t]

/-- the target's block, at coordinates. -/
theorem blk_1 (c : Dev nD) (t : Fin cfg0.N) (a : Fin 512) (b : Fin 1024) :
    iblk m c 1 t (ix2 a b) = m ((c : Thread nD τ).loc main_arg1) (ix3 (⟨t.val / 8, by have := lt_N t; omega⟩ : Fin 2) (⟨t.val % 8 * 512 + a.val, by omega⟩ : Fin 4096) b) := by
  blk_simp [iblk, idx_val t]; entry_read; pointwise; blk_ext [idx_val t]

/-- where the block of window 2 sits. -/
theorem emb_2 (t : Fin cfg0.N) (a : Fin 512) (b : Fin 1024) :
    ((cfg0.win 2).blk t).view.emb (ix2 a b) = (ix2 (⟨t.val * 512 + a.val, by have := lt_N t; omega⟩ : Fin 8192) b : S8192x1024.Idx) := by
  blk_ext [idx_val t]

/-- the derivative of the loss at coordinates. -/
theorem ref_15 (x y : FVec Ideal S2x4096x1024 .f32) (r : Fin 8192) (b : Fin 1024) :
    REF_v15 x y (ix2 r b) = (x (ix3 (⟨r.val / 4096, by omega⟩ : Fin 2) (⟨r.val % 4096, by omega⟩ : Fin 4096) b) - y (ix3 (⟨r.val / 4096, by omega⟩ : Fin 2) (⟨r.val % 4096, by omega⟩ : Fin 4096) b)) * (((1 : ℝ) / 1024 : ℝ) : EReal) := by
  pointwise [REF_v15]
  rw [RealKit.half_f32, RealKit.k_f32, RealKit.two_f32, Ideal.div_coe (by norm_num), ← mul_assoc, mul_comm, ← EReal.coe_mul, ← EReal.coe_mul]
  norm_num

/-- what the body stores at a point, against the reference there. -/
theorem pay_2 (c : Dev nD) (t : Fin cfg0.N) (y : S512x1024.Idx) :
    k0_pay3 (F := Ideal) (iblk m c 0 t) (iblk m c 1 t) y
      = REF_v15 (m ((c : Thread nD τ).loc main_arg0)) (m ((c : Thread nD τ).loc main_arg1)) (((cfg0.win 2).blk
        t).view.emb y) := by
  idx_vars y
  rw [emb_2, ref_15]
  pointwise [k0_pay3, k0_pay2]
  have := lt_N t
  refine Ideal.mul_congr (congrArg₂ (fun a b : EReal => a - b) ((blk_0 m c t _ _).trans (congrArg _ ?_)) ((blk_1 m c t _ _).trans (congrArg _ ?_))) RealKit.inv_k_f32
  all_goals exact (ix3_inj ..).2 ⟨Fin.ext (by dsimp only; omega), Fin.ext (by dsimp only; omega), rfl⟩

/-- POINT of window 2 at a point of kit case A (`frame_out` opens the kit word). -/
theorem point_2_A (c : Dev nD) (t : Fin cfg0.N) (h0 : t.val % 16 = 0) (y) :
    (out0_A_2 c (grid0.coords t) (ms0_0 t) (hs0_0 t) (ms0_1 t) (hs0_1 t) (ms0_2 t) (hs0_2 t) (ms0_3 t) (hs0_3 t)
      ((hcond0_0 t).mpr h0) (iblk m c 0 t) (iblk m c 1 t)) y
      = REF_v15 (m ((c : Thread nD τ).loc main_arg0)) (m ((c : Thread nD τ).loc main_arg1)) (((cfg0.win 2).blk
        t).view.emb y) := by
  frame_out
  exact pay_2 m c t y

/-- POINT of window 2 at a point of kit case B (`frame_out` opens the kit word). -/
theorem point_2_B (c : Dev nD) (t : Fin cfg0.N) (h0 : ¬t.val % 16 = 0) (y) :
    (out0_B_2 c (grid0.coords t) (ms0_0 t) (hs0_0 t) (ms0_1 t) (hs0_1 t) (ms0_2 t) (hs0_2 t) (ms0_3 t) (hs0_3 t) (fun
      h => h0 ((hcond0_0 t).mp h)) (iblk m c 0 t) (iblk m c 1 t) (outsAt0 m c (t.val - 1) (Nat.lt_of_le_of_lt
      (Nat.sub_le _ _) t.isLt)).2) y
      = REF_v15 (m ((c : Thread nD τ).loc main_arg0)) (m ((c : Thread nD τ).loc main_arg1)) (((cfg0.win 2).blk
        t).view.emb y) := by
  frame_out
  exact pay_2 m c t y

theorem final_2 (c : Dev nD) : (dats m 0 c).arrAt 2 (cfgs 0).N = REF_v15 (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 16 = 0
  · rw [outsAt0_A m c t h]; dsimp only; exact point_2_A m c t h y
  · rw [outsAt0_B m c t h]; dsimp only; exact point_2_B m c t h y

/-- the zero fill. -/
theorem hzero_3 (j : S8x128.Idx) : k0_pay1 (F := Ideal) j = 0 := by
  pointwise! [k0_pay1]

/-- the accumulating payload = what the buffer held + its part (the payload at a ZERO accumulator; restate the part as its
    explicit sum `∑ k : Fin n, x (ixR … k) * y (ixR … k)` when you need it: probe `… = v11 j + 0`, `pointwise [k0_pay4]; trace_state`). -/
theorem hpay_3 (v3 : Vec Ideal S512x1024 .f32) (v5 : Vec Ideal S512x1024 .f32) (v11 : Vec Ideal S8x128 .f32) (j : S8x128.Idx) :
    k0_pay4 v3 v5 v11 j = v11 j + k0_pay4 v3 v5 (fun _ => 0) j := by
  pointwise [k0_pay4]

/-- BRIDGE + the accumulation as ONE `Fin`-indexed sum (no induction, no `term`, no `outs_eq`). -/
theorem final_3 (c : Dev nD) : (dats m 0 c).arrAt 3 (cfgs 0).N = REF_v16 (m ((c : Thread nD τ).loc main_arg0)) (m ((c : Thread nD τ).loc main_arg1)) := by
  refine (dats m 0 c).arrAt_eq_of_after_last 3 t0_15 (by decide +kernel) _ fun j => ?_
  blk_simp
  rw [after0_3, Pipeline.eq_sum_fin_of_reset_step_apply_last (fun n h => (outsAt0 m c n h).2) 16 (fun _ => 0) _
    (fun t h j => by rw [outsAt0_A m c t h]; frame_out; rw [hpay_3, hzero_3])
    (fun t h j => by rw [outsAt0_B m c t h]; frame_out; rw [hpay_3])
    (le_of_eq N_0) t0_15 rfl j, zero_add]
  -- ⊢ ∑ p : Fin cfg0.N, <part over iblk m c · p> j = REF_v16 j; no `href` needed: `pointwise [<payload>, REF_v16]` opens both sides at once; re-indexing: Fin.sum_points_lanes_congr 16 (the reference contracts two axes: points × lanes)
  pointwise [k0_pay4, k0_pay2, k0_pay3, REF_v16]
  rw [RealKit.half_f32]
  refine (RealKit.mul_sum _ (by norm_num) _).symm.trans (congrArg _ ?_)
  refine Fin.sum_points_lanes_congr 8 fun t k ha hl => ?_
  refine congrArg₂ Ideal.div (Finset.sum_congr rfl fun b _ => ?_) rfl
  exact Ideal.mul_congr (congrArg₂ (fun a b : EReal => a - b) (blk_0 m c t _ _) (blk_1 m c t _ _)) (congrArg₂ (fun a b : EReal => a - b) (blk_0 m c t _ _) (blk_1 m c t _ _))

end Cert.LossKernelIdeal.Value

end
-- ==== Proof.LossClaim.lean ====
/- The claims about `LossKernel`, its idealization and its reference. -/
module

public import proofs.«01_k».proof.Defs
public import proofs.«01_k».proof.Proof.Gen.LossKernel.Frame
public import proofs.«01_k».proof.Proof.Gen.LossKernelIdeal.Frame
public import proofs.«01_k».proof.Proof.Gen.LossReferenceIdeal.Run
public import proofs.«01_k».proof.Proof.LossValue
public import Idealize.ShloMosaic.Lib.Claim

@[expose] public section

set_option maxRecDepth 16384

noncomputable section

namespace Cert.Proof.Loss

open Idealize.ShloMosaic Idealize.ShloMosaic.TcCoe Idealize.SL.Sem

instance : Cert.LossKernel.Facts := Cert.LossKernel.Gen.facts
instance : Cert.LossKernelIdeal.Facts := Cert.LossKernelIdeal.Gen.facts
instance : Cert.LossReferenceIdeal.Facts := Cert.LossReferenceIdeal.Gen.facts

/-- the kernel's thread on a device. -/
abbrev tK (c : Dev Cert.LossKernelIdeal.nD) : Thread Cert.LossKernelIdeal.nD Cert.LossKernelIdeal.τ := c.tc

/-- the reference's thread on a device. -/
abbrev tR (c : Dev Cert.LossReferenceIdeal.nD) : Thread Cert.LossReferenceIdeal.nD Cert.LossReferenceIdeal.τ := c.tc

/-- a memory of the kernel's program. -/
abbrev MemK := (ℓ : Loc Cert.LossKernelIdeal.nD Cert.LossKernelIdeal.τ Cert.LossKernelIdeal.sig) → Buf (Elt Ideal) ℓ

/-- a memory of the reference's program. -/
abbrev MemR := (ℓ : Loc Cert.LossReferenceIdeal.nD Cert.LossReferenceIdeal.τ Cert.LossReferenceIdeal.sig) → Buf (Elt Ideal) ℓ

/-- the printed kernel's frame. -/
theorem frame_p : Cert.quiescent_LossKernel := fun m ρ _ => Cert.LossKernel.Gen.frame m ρ

/-- the idealized kernel's frame. -/
theorem frame_pi : Cert.quiescent_LossKernelIdeal := fun m ρ _ => Cert.LossKernelIdeal.Gen.frame m ρ

/-- the reference's frame: it declares no semaphore. -/
theorem frame_ri : Cert.quiescent_LossReferenceIdeal := fun m g _ =>
  (θ_run Cert.LossReferenceIdeal.defs _ _).mono
    (fun r h => ⟨fun c => ⟨(h c).2.2.1, (h c).2.2.2⟩, sem_eq_zero_of_no_sems (by decide) r.2⟩)
    (Cert.LossReferenceIdeal.Value.run m g)

/-- the reference's term for window 2's array, at the kernel's arguments. -/
theorem out_2 (m : MemK)
    (m' : MemR) (c : Dev Cert.LossKernelIdeal.nD)
    (a0 : m' ((tR c).loc Cert.LossReferenceIdeal.main_arg0) = m ((tK c).loc Cert.LossKernelIdeal.main_arg0))
    (a1 : m' ((tR c).loc Cert.LossReferenceIdeal.main_arg1) = m ((tK c).loc Cert.LossKernelIdeal.main_arg1)) :
    Cert.LossReferenceIdeal.Value.REF_v15 (m' ((tR c).loc Cert.LossReferenceIdeal.main_arg0)) (m' ((tR c).loc Cert.LossReferenceIdeal.main_arg1))
      = (Cert.LossKernelIdeal.Gen.dats m 0 c).arrAt 2 (Cert.LossKernelIdeal.cfgs 0).N := by
  rw [a0, a1]
  exact (Cert.LossKernelIdeal.Value.final_2 m c).symm

/-- the reference's term for window 3's array, at the kernel's arguments. -/
theorem out_3 (m : MemK)
    (m' : MemR) (c : Dev Cert.LossKernelIdeal.nD)
    (a0 : m' ((tR c).loc Cert.LossReferenceIdeal.main_arg0) = m ((tK c).loc Cert.LossKernelIdeal.main_arg0))
    (a1 : m' ((tR c).loc Cert.LossReferenceIdeal.main_arg1) = m ((tK c).loc Cert.LossKernelIdeal.main_arg1)) :
    Cert.LossReferenceIdeal.Value.REF_v16 (m' ((tR c).loc Cert.LossReferenceIdeal.main_arg0)) (m' ((tR c).loc Cert.LossReferenceIdeal.main_arg1))
      = (Cert.LossKernelIdeal.Gen.dats m 0 c).arrAt 3 (Cert.LossKernelIdeal.cfgs 0).N := by
  rw [a0, a1]
  exact (Cert.LossKernelIdeal.Value.final_3 m c).symm

/-- the idealized kernel computes the derivative of the forward lines. -/
theorem algebraic : Cert.algebraic_LossKernelIdeal_LossReferenceIdeal := by
  pair_intro
  · run_from Cert.LossKernelIdeal.Gen.run_main m g
  · exact (θ_run Cert.LossReferenceIdeal.defs _ _).mono
      (fun r h c => ⟨(h c).1.trans (out_2 m m' c (hagree c).1 (hagree c).2), (h c).2.1.trans (out_3 m m' c (hagree c).1 (hagree c).2),
        (h c).2.2.1, (h c).2.2.2⟩)
      (Cert.LossReferenceIdeal.Value.run m' g')

end Cert.Proof.Loss

end
-- ==== Proof.SwigluRef.lean ====
/- The reference results of `Cert.SwigluReferenceIdeal` as named functions of its arguments. -/
module

public import proofs.«01_k».proof.Proof.Gen.SwigluReferenceIdeal.Run
public import Idealize.ShloMosaic.Lib.Pipeline.ValueKit

@[expose] public section

set_option maxRecDepth 16384

noncomputable section

namespace Cert.SwigluReferenceIdeal.Value

open Cert.SwigluReferenceIdeal Cert.SwigluReferenceIdeal.Gen Idealize.ShloMosaic Idealize.ShloMosaic.TcCoe Idealize.SL.Sem Idealize.ShloMosaic.StableHlo

/-- What the reference leaves in `main_v11`. -/
abbrev REF_v11 (a0 : FVec Ideal S2x4096x1024 .bf16) (a1 : FVec Ideal S2816x1024 .f32) (a2 : FVec Ideal S2x4096x2816 .bf16) (a3 : FVec Ideal S2x4096x2816 .bf16) : FVec Ideal S8192x2816 .bf16 :=
  truncf .bf16 (shapeCast _ (addf (mulf (mulf (Host.dotGeneral dot_S2x4096x1024_S2816x1024_S2x4096x2816_2_1_01_0_n_n none (extf .f32 a0 bitsLt_bf16_f32) a1) (extf .f32 a3 bitsLt_bf16_f32)) (Host.divf (broadcastInDim S2x4096x2816 ![] bcast_S_S2x4096x2816 (constant S_ .f32 0x3F800000#32)) (addf (broadcastInDim S2x4096x2816 ![] bcast_S_S2x4096x2816 (constant S_ .f32 0x3F800000#32)) (Host.exp (Host.negf (extf .f32 a2 bitsLt_bf16_f32)))))) (mulf (mulf (extf .f32 a2 bitsLt_bf16_f32) (mulf (Host.dotGeneral dot_S2x4096x1024_S2816x1024_S2x4096x2816_2_1_01_0_n_n none (extf .f32 a0 bitsLt_bf16_f32) a1) (extf .f32 a3 bitsLt_bf16_f32))) (mulf (Host.divf (broadcastInDim S2x4096x2816 ![] bcast_S_S2x4096x2816 (constant S_ .f32 0x3F800000#32)) (addf (broadcastInDim S2x4096x2816 ![] bcast_S_S2x4096x2816 (constant S_ .f32 0x3F800000#32)) (Host.exp (Host.negf (extf .f32 a2 bitsLt_bf16_f32))))) (subf (broadcastInDim S2x4096x2816 ![] bcast_S_S2x4096x2816 (constant S_ .f32 0x3F800000#32)) (Host.divf (broadcastInDim S2x4096x2816 ![] bcast_S_S2x4096x2816 (constant S_ .f32 0x3F800000#32)) (addf (broadcastInDim S2x4096x2816 ![] bcast_S_S2x4096x2816 (constant S_ .f32 0x3F800000#32)) (Host.exp (Host.negf (extf .f32 a2 bitsLt_bf16_f32))))))))) shapeCasts_S2x4096x2816_S8192x2816) bitsLt_bf16_f32

/-- What the reference leaves in `main_v13`. -/
abbrev REF_v13 (a0 : FVec Ideal S2x4096x1024 .bf16) (a1 : FVec Ideal S2816x1024 .f32) (a2 : FVec Ideal S2x4096x2816 .bf16) : FVec Ideal S8192x2816 .bf16 :=
  truncf .bf16 (shapeCast _ (mulf (mulf (extf .f32 a2 bitsLt_bf16_f32) (Host.divf (broadcastInDim S2x4096x2816 ![] bcast_S_S2x4096x2816 (constant S_ .f32 0x3F800000#32)) (addf (broadcastInDim S2x4096x2816 ![] bcast_S_S2x4096x2816 (constant S_ .f32 0x3F800000#32)) (Host.exp (Host.negf (extf .f32 a2 bitsLt_bf16_f32)))))) (Host.dotGeneral dot_S2x4096x1024_S2816x1024_S2x4096x2816_2_1_01_0_n_n none (extf .f32 a0 bitsLt_bf16_f32) a1)) shapeCasts_S2x4096x2816_S8192x2816) bitsLt_bf16_f32

end Cert.SwigluReferenceIdeal.Value

end
-- ==== Proof.SwigluValue.lean ====
/- What `SwigluKernelIdeal` leaves in its results, against the reference's terms. -/
module

public import proofs.«01_k».proof.Proof.Gen.SwigluKernelIdeal.Value
public import proofs.«01_k».proof.Proof.SwigluRef
public import proofs.«01_k».proof.Proof.RealKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SwigluKernelIdeal.Value

open Cert.SwigluKernelIdeal Cert.SwigluKernelIdeal.Gen Cert.SwigluReferenceIdeal.Value

variable (m : (ℓ : Loc nD τ sig) → Buf (Elt Ideal) ℓ)

/-- every window's block index at every grid point, in closed form (decided). Use: `obtain ⟨e0, e1, e2, e3, e4, e5⟩ := idx t`, then
    `blk_simp [e0, …]` / `blk_ext [e0, …]` put block embeddings at coordinates (value_ideal.md §3). -/
theorem idx : ∀ t : Fin cfg0.N, win0_0.index t = ![(grid0.coords t 1).val, 0]
    ∧ win0_1.index t = ![(grid0.coords t 0).val, 0]
    ∧ win0_2.index t = ![(grid0.coords t 1).val, (grid0.coords t 0).val]
    ∧ win0_3.index t = ![(grid0.coords t 1).val, (grid0.coords t 0).val]
    ∧ win0_4.index t = ![(grid0.coords t 1).val, (grid0.coords t 0).val]
    ∧ win0_5.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![t.val % 8, 0]
    ∧ win0_1.index t = ![t.val / 8, 0]
    ∧ win0_2.index t = ![t.val % 8, t.val / 8]
    ∧ win0_3.index t = ![t.val % 8, t.val / 8]
    ∧ win0_4.index t = ![t.val % 8, t.val / 8]
    ∧ win0_5.index t = ![t.val % 8, t.val / 8] :=
  (by decide +kernel : ∀ t : Fin grid0.N, _)

theorem lt_N (t : Fin cfg0.N) : t.val < 16 := t.isLt

/-- the cotangent's block, at coordinates. -/
theorem blk_0 (c : Dev nD) (t : Fin cfg0.N) (a : Fin 1024) (b : Fin 1024) :
    iblk m c 0 t (ix2 a b) = m ((c : Thread nD τ).loc main_arg0) (ix3 (⟨(t.val % 8 * 1024 + a.val) / 4096, by omega⟩ : Fin 2) (⟨(t.val % 8 * 1024 + a.val) % 4096, by omega⟩ : Fin 4096) b) := by
  blk_simp [iblk, idx_val t]; entry_read; pointwise; blk_ext [idx_val t]

/-- the block of the projection down, at coordinates. -/
theorem blk_1 (c : Dev nD) (t : Fin cfg0.N) (a : Fin 1408) (b : Fin 1024) :
    iblk m c 1 t (ix2 a b) = m ((c : Thread nD τ).loc main_arg1) (ix2 (⟨t.val / 8 * 1408 + a.val, by have := lt_N t; omega⟩ : Fin 2816) b) := by
  blk_simp [iblk, idx_val t]; entry_read; pointwise; blk_ext [idx_val t]

/-- the block of the gate, at coordinates. -/
theorem blk_2 (c : Dev nD) (t : Fin cfg0.N) (a : Fin 1024) (b : Fin 1408) :
    iblk m c 2 t (ix2 a b) = m ((c : Thread nD τ).loc main_arg2) (ix3 (⟨(t.val % 8 * 1024 + a.val) / 4096, by omega⟩ : Fin 2) (⟨(t.val % 8 * 1024 + a.val) % 4096, by omega⟩ : Fin 4096) (⟨t.val / 8 * 1408 + b.val, by have := lt_N t; omega⟩ : Fin 2816)) := by
  blk_simp [iblk, idx_val t]; entry_read; pointwise; blk_ext [idx_val t]

/-- the block of the factor, at coordinates. -/
theorem blk_3 (c : Dev nD) (t : Fin cfg0.N) (a : Fin 1024) (b : Fin 1408) :
    iblk m c 3 t (ix2 a b) = m ((c : Thread nD τ).loc main_arg3) (ix3 (⟨(t.val % 8 * 1024 + a.val) / 4096, by omega⟩ : Fin 2) (⟨(t.val % 8 * 1024 + a.val) % 4096, by omega⟩ : Fin 4096) (⟨t.val / 8 * 1408 + b.val, by have := lt_N t; omega⟩ : Fin 2816)) := by
  blk_simp [iblk, idx_val t]; entry_read; pointwise; blk_ext [idx_val t]

/-- where the block of window 4 sits. -/
theorem emb_4 (t : Fin cfg0.N) (a : Fin 1024) (b : Fin 1408) :
    ((cfg0.win 4).blk t).view.emb (ix2 a b) = (ix2 (⟨t.val % 8 * 1024 + a.val, by omega⟩ : Fin 8192) (⟨t.val / 8 * 1408 + b.val, by have := lt_N t; omega⟩ : Fin 2816) : S8192x2816.Idx) := by
  blk_ext [idx_val t]

/-- where the block of window 5 sits. -/
theorem emb_5 (t : Fin cfg0.N) (a : Fin 1024) (b : Fin 1408) :
    ((cfg0.win 5).blk t).view.emb (ix2 a b) = (ix2 (⟨t.val % 8 * 1024 + a.val, by omega⟩ : Fin 8192) (⟨t.val / 8 * 1408 + b.val, by have := lt_N t; omega⟩ : Fin 2816) : S8192x2816.Idx) := by
  blk_ext [idx_val t]

/-- the cotangent of the product `silu(gate) · up`, at coordinates. -/
def cot (d : FVec Ideal S2x4096x1024 .bf16) (w : FVec Ideal S2816x1024 .f32) (p : Fin 2) (q : Fin 4096) (b : Fin 2816) : EReal :=
  ∑ k : Fin 1024, d (ix3 p q k) * w (ix2 b k)

/-- the gradient of the gate as the reference writes it, of scalars. -/
def gateGrad (d g u : EReal) : EReal :=
  (d * u) * Ideal.logistic g + (g * (d * u)) * (Ideal.logistic g * (1 - Ideal.logistic g))

/-- the reference's gradient of the gate, at coordinates. -/
theorem ref_11 (d : FVec Ideal S2x4096x1024 .bf16) (w : FVec Ideal S2816x1024 .f32) (g u : FVec Ideal S2x4096x2816 .bf16) (r : Fin 8192) (b : Fin 2816) :
    REF_v11 d w g u (ix2 r b) = gateGrad (cot d w (⟨r.val / 4096, by omega⟩ : Fin 2) (⟨r.val % 4096, by omega⟩ : Fin 4096) b)
      (g (ix3 (⟨r.val / 4096, by omega⟩ : Fin 2) (⟨r.val % 4096, by omega⟩ : Fin 4096) b))
      (u (ix3 (⟨r.val / 4096, by omega⟩ : Fin 2) (⟨r.val % 4096, by omega⟩ : Fin 4096) b)) := by
  unfold gateGrad cot Ideal.logistic
  pointwise [REF_v11]

/-- the reference's gradient of the factor, at coordinates. -/
theorem ref_13 (d : FVec Ideal S2x4096x1024 .bf16) (w : FVec Ideal S2816x1024 .f32) (g : FVec Ideal S2x4096x2816 .bf16) (r : Fin 8192) (b : Fin 2816) :
    REF_v13 d w g (ix2 r b) =
      (g (ix3 (⟨r.val / 4096, by omega⟩ : Fin 2) (⟨r.val % 4096, by omega⟩ : Fin 4096) b) * Ideal.logistic (g (ix3 (⟨r.val / 4096, by omega⟩ : Fin 2) (⟨r.val % 4096, by omega⟩ : Fin 4096) b)))
      * cot d w (⟨r.val / 4096, by omega⟩ : Fin 2) (⟨r.val % 4096, by omega⟩ : Fin 4096) b := by
  unfold cot Ideal.logistic
  pointwise [REF_v13]

/-- the two ways to write the gradient of the gate agree where the cotangent and the factor are reals;
    the gate may be infinite. -/
theorem gateGrad_eq {d u : EReal} (g : EReal) (hd : RealKit.Fin' d) (hu : RealKit.Fin' u) :
    ((d * Ideal.logistic g) * u) * (1 + g * (1 - Ideal.logistic g)) = gateGrad d g u := by
  obtain ⟨d, rfl⟩ := hd
  obtain ⟨u, rfl⟩ := hu
  unfold gateGrad
  induction g using EReal.rec with
  | bot =>
    rw [Ideal.logistic_bot]; simp
  | top =>
    have h1 : (1 : EReal) - 1 = 0 := by
      rw [← EReal.coe_one, ← EReal.coe_sub, sub_self, EReal.coe_zero]
    rw [Ideal.logistic_top, h1]; simp
  | coe g =>
    rw [Ideal.logistic_coe]
    norm_cast
    generalize (1 + Real.exp (-g))⁻¹ = s
    ring

/-- a product of finite rows is finite. -/
theorem cot_fin {d : FVec Ideal S2x4096x1024 .bf16} {w : FVec Ideal S2816x1024 .f32} (hd : ∀ i, RealKit.Fin' (d i)) (hw : ∀ i, RealKit.Fin' (w i))
    (p : Fin 2) (q : Fin 4096) (b : Fin 2816) : RealKit.Fin' (cot d w p q b) := by
  choose d' hd' using hd
  choose w' hw' using hw
  refine ⟨∑ k : Fin 1024, d' (ix3 p q k) * w' (ix2 b k), ?_⟩
  rw [RealKit.coe_sum]
  exact Finset.sum_congr rfl fun k _ => by rw [hd', hw', EReal.coe_mul]

/-- what the body stores in window 4 at a point, against the reference there. -/
theorem point_4 (c : Dev nD) (t : Fin cfg0.N) (hd : ∀ i, RealKit.Fin' ((m ((c : Thread nD τ).loc main_arg0)) i)) (hw : ∀ i, RealKit.Fin' ((m ((c : Thread nD τ).loc main_arg1)) i)) (hu : ∀ i, RealKit.Fin' ((m ((c : Thread nD τ).loc main_arg3)) i)) (y : S1024x1408.Idx) :
    k0_pay5 (F := Ideal) (iblk m c 0 t) (iblk m c 1 t) (iblk m c 2 t) (iblk m c 3 t) y
      = REF_v11 (m ((c : Thread nD τ).loc main_arg0)) (m ((c : Thread nD τ).loc main_arg1)) (m ((c : Thread nD τ).loc main_arg2)) (m ((c : Thread nD τ).loc main_arg3)) (((cfg0.win 4).blk t).view.emb y) := by
  idx_vars y
  rw [emb_4, ref_11, ← gateGrad_eq _ (cot_fin hd hw _ _ _) (hu _)]
  unfold cot
  pointwise [k0_pay5, k0_pay3, k0_pay2, k0_pay1]
  have e2 := blk_2 m c t y0 y1
  have e3 := blk_3 m c t y0 y1
  refine Ideal.mul_congr (Ideal.mul_congr (Ideal.mul_congr (Finset.sum_congr rfl fun k _ => Ideal.mul_congr (blk_0 m c t _ _) (blk_1 m c t _ _)) ?_) e3) (Ideal.add_congr rfl (Ideal.mul_congr e2 (congrArg (fun a : EReal => 1 - a) ?_)))
  all_goals exact congrArg Ideal.logistic e2

/-- the array of window 4 after the run. -/
theorem final_4 (c : Dev nD) (hd : ∀ i, RealKit.Fin' ((m ((c : Thread nD τ).loc main_arg0)) i)) (hw : ∀ i, RealKit.Fin' ((m ((c : Thread nD τ).loc main_arg1)) i)) (hu : ∀ i, RealKit.Fin' ((m ((c : Thread nD τ).loc main_arg3)) i)) :
    (dats m 0 c).arrAt 4 (cfgs 0).N = REF_v11 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t hd hw hu y

/-- what the body stores in window 5 at a point, against the reference there. -/
theorem point_5 (c : Dev nD) (t : Fin cfg0.N) (y : S1024x1408.Idx) :
    k0_pay4 (F := Ideal) (iblk m c 0 t) (iblk m c 1 t) (iblk m c 2 t) y
      = REF_v13 (m ((c : Thread nD τ).loc main_arg0)) (m ((c : Thread nD τ).loc main_arg1)) (m ((c : Thread nD τ).loc main_arg2)) (((cfg0.win 5).blk t).view.emb y) := by
  idx_vars y
  rw [emb_5, ref_13]
  unfold cot
  pointwise [k0_pay4, k0_pay3, k0_pay2, k0_pay1]
  have e2 := blk_2 m c t y0 y1
  refine (Ideal.mul_congr (Ideal.mul_congr (Finset.sum_congr rfl fun k _ => Ideal.mul_congr (blk_0 m c t _ _) (blk_1 m c t _ _)) (congrArg Ideal.logistic e2)) e2).trans ?_
  rw [mul_assoc, mul_comm]
  exact congrArg (fun a : EReal => a * _) (mul_comm _ _)

/-- the array of window 5 after the run. -/
theorem final_5 (c : Dev nD) : (dats m 0 c).arrAt 5 (cfgs 0).N = REF_v13 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

end Cert.SwigluKernelIdeal.Value

end
-- ==== Proof.FinitePre.lean ====
/- What the preconditions of finite entries say of the arrays. -/
module

public import proofs.«01_k».proof.Defs
public import proofs.«01_k».proof.Proof.RealKit

@[expose] public section

set_option maxRecDepth 16384

noncomputable section

open Idealize.ShloMosaic Idealize.ShloMosaic.TcCoe

namespace FinitePre

instance : Subsingleton (Shape.Idx ⟨0, ![]⟩) := ⟨fun a b => funext fun k => k.elim0⟩

/-- an entry whose magnitude compares below infinity is a real. -/
theorem fin_of_cmp {x : EReal} (h : Ideal.cmp .olt (max x (-x)) ⊤ = 1#1) : RealKit.Fin' x := by
  refine RealKit.fin_of_abs_lt ?_
  by_contra hn
  simp [Ideal.cmp, hn] at h

/-- `jnp.all (jnp.abs x < jnp.inf)`: every entry of `x` is a real. -/
theorem all_fin {s t u : Shape} {φ : FTy} {axes : List (Fin s.rank)} [Subsingleton t.Idx] (x : FVec Ideal s φ) (w : BitVec φ.bits)
    (hw : Ideal.ofBits φ w = ⊤) (dims : Fin 0 → Fin s.rank) (hb : (⟨0, ![]⟩ : Shape).BroadcastsInDim s dims) (init : IVec u 1)
    (h : s.ReducesTo axes t) (hu : 0 < u.numel) (j : t.Idx)
    (e : Host.reduce IntOp.andi (cmpf (F := Ideal) .olt (Host.absf x) (broadcastInDim s dims hb (constant ⟨0, ![]⟩ φ w))) init h hu j = 1#1)
    (i : s.Idx) : RealKit.Fin' (x i) := by
  have e1 := Host.reduce_andi_all _ init h hu j e i
  refine fin_of_cmp ?_
  rw [← hw]
  exact e1

/-- both conjuncts of a printed `and`. -/
theorem and_split {t : Shape} (x y : IVec t 1) (j : t.Idx) (h : andi x y j = 1#1) : x j = 1#1 ∧ y j = 1#1 :=
  IntOp.andi_eq_one.1 h

/-- the side conditions of the gated unit's precondition. -/
theorem finite_swiglu_facts : Cert.Pre_finite_swiglu.Facts where
  bcast_S_S2x4096x1024 := by decide
  reducesTo_S2x4096x1024_S_d0_1_2 := by decide
  h_S_ := by decide
  bcast_S_S2816x1024 := by decide
  reducesTo_S2816x1024_S_d0_1 := by decide
  bcast_S_S2x4096x2816 := by decide
  reducesTo_S2x4096x2816_S_d0_1_2 := by decide

section
variable {hf : Cert.Pre_finite_swiglu.Facts} (d : FVec Ideal Cert.Pre_finite_swiglu.S2x4096x1024 .bf16) (w : FVec Ideal Cert.Pre_finite_swiglu.S2816x1024 .f32)
    (g u : FVec Ideal Cert.Pre_finite_swiglu.S2x4096x2816 .bf16) (h : Cert.Pre_finite_swiglu.fn (F := Ideal) d w g u = fun _ => 1#1)
include h

/-- the cotangent is finite. -/
theorem finite_swiglu_d (i) : RealKit.Fin' (d i) :=
  all_fin d _ RealKit.inf_bf16 _ _ _ _ _ _ (and_split _ _ _ (and_split _ _ _ (congrFun h fun k => k.elim0)).1).1 i

/-- the projection is finite. -/
theorem finite_swiglu_w (i) : RealKit.Fin' (w i) :=
  all_fin w _ RealKit.inf_f32 _ _ _ _ _ _ (and_split _ _ _ (and_split _ _ _ (congrFun h fun k => k.elim0)).1).2 i

/-- the factor is finite. -/
theorem finite_swiglu_u (i) : RealKit.Fin' (u i) :=
  all_fin u _ RealKit.inf_bf16 _ _ _ _ _ _ (and_split _ _ _ (congrFun h fun k => k.elim0)).2 i

end

theorem finite_sb_facts : Cert.Pre_finite_sb.Facts where
  bcast_S_S2x4096x3072 := by decide
  reducesTo_S2x4096x3072_S_d0_1_2 := by decide
  h_S_ := by decide
  bcast_S_S2x4096x1024 := by decide
  reducesTo_S2x4096x1024_S_d0_1_2 := by decide

section
variable {hf : Cert.Pre_finite_sb.Facts} (x : FVec Ideal Cert.Pre_finite_sb.S2x4096x3072 .bf16) (o : FVec Ideal Cert.Pre_finite_sb.S2x4096x1024 .bf16)
    (h : Cert.Pre_finite_sb.fn (F := Ideal) x o = fun _ => 1#1)
include h

/-- the queries, keys and values are finite. -/
theorem finite_sb_x (i) : RealKit.Fin' (x i) :=
  all_fin x _ RealKit.inf_bf16 _ _ _ _ _ _ (and_split _ _ _ (congrFun h fun k => k.elim0)).1 i

/-- the cotangent is finite. -/
theorem finite_sb_o (i) : RealKit.Fin' (o i) :=
  all_fin o _ RealKit.inf_bf16 _ _ _ _ _ _ (and_split _ _ _ (congrFun h fun k => k.elim0)).2 i

end

end FinitePre

end
-- ==== Proof.SwigluClaim.lean ====
/- The claims about `SwigluKernel`, its idealization and its reference. -/
module

public import proofs.«01_k».proof.Defs
public import proofs.«01_k».proof.Proof.Gen.SwigluKernel.Frame
public import proofs.«01_k».proof.Proof.Gen.SwigluKernelIdeal.Frame
public import proofs.«01_k».proof.Proof.Gen.SwigluReferenceIdeal.Run
public import proofs.«01_k».proof.Proof.SwigluValue
public import proofs.«01_k».proof.Proof.FinitePre
public import Idealize.ShloMosaic.Lib.Claim

@[expose] public section

set_option maxRecDepth 16384

noncomputable section

namespace Cert.Proof.Swiglu

open Idealize.ShloMosaic Idealize.ShloMosaic.TcCoe Idealize.SL.Sem

instance : Cert.SwigluKernel.Facts := Cert.SwigluKernel.Gen.facts
instance : Cert.SwigluKernelIdeal.Facts := Cert.SwigluKernelIdeal.Gen.facts
instance : Cert.SwigluReferenceIdeal.Facts := Cert.SwigluReferenceIdeal.Gen.facts
instance : Cert.Pre_finite_swiglu.Facts := FinitePre.finite_swiglu_facts

/-- the kernel's thread on a device. -/
abbrev tK (c : Dev Cert.SwigluKernelIdeal.nD) : Thread Cert.SwigluKernelIdeal.nD Cert.SwigluKernelIdeal.τ := c.tc

/-- the reference's thread on a device. -/
abbrev tR (c : Dev Cert.SwigluReferenceIdeal.nD) : Thread Cert.SwigluReferenceIdeal.nD Cert.SwigluReferenceIdeal.τ := c.tc

/-- a memory of the kernel's program. -/
abbrev MemK := (ℓ : Loc Cert.SwigluKernelIdeal.nD Cert.SwigluKernelIdeal.τ Cert.SwigluKernelIdeal.sig) → Buf (Elt Ideal) ℓ

/-- a memory of the reference's program. -/
abbrev MemR := (ℓ : Loc Cert.SwigluReferenceIdeal.nD Cert.SwigluReferenceIdeal.τ Cert.SwigluReferenceIdeal.sig) → Buf (Elt Ideal) ℓ

/-- the printed kernel's frame. -/
theorem frame_p : Cert.quiescent_SwigluKernel := fun m ρ _ => Cert.SwigluKernel.Gen.frame m ρ

/-- the idealized kernel's frame. -/
theorem frame_pi : Cert.quiescent_SwigluKernelIdeal := fun m ρ _ => Cert.SwigluKernelIdeal.Gen.frame m ρ

/-- the reference's frame: it declares no semaphore. -/
theorem frame_ri : Cert.quiescent_SwigluReferenceIdeal := fun m g _ =>
  (θ_run Cert.SwigluReferenceIdeal.defs _ _).mono
    (fun r h => ⟨fun c => ⟨(h c).2.2.1, (h c).2.2.2.1, (h c).2.2.2.2.1, (h c).2.2.2.2.2⟩, sem_eq_zero_of_no_sems (by decide) r.2⟩)
    (Cert.SwigluReferenceIdeal.Value.run m g)

/-- the idealized kernel's frame under the precondition. -/
theorem frame_pi_pre : Cert.quiescent_SwigluKernelIdeal_pre_finite_swiglu := fun m ρ _ => Cert.SwigluKernelIdeal.Gen.frame m ρ

/-- the reference's frame under the precondition. -/
theorem frame_ri_pre : Cert.quiescent_SwigluReferenceIdeal_pre_finite_swiglu := fun m g _ => frame_ri m g trivial

/-- the reference's term for window 4's array, at the kernel's arguments. -/
theorem out_4 (m : MemK)
    (m' : MemR) (c : Dev Cert.SwigluKernelIdeal.nD)
    (hpre : Cert.Pre_SwigluKernelIdeal_finite_swiglu m)
    (a0 : m' ((tR c).loc Cert.SwigluReferenceIdeal.main_arg0) = m ((tK c).loc Cert.SwigluKernelIdeal.main_arg0))
    (a1 : m' ((tR c).loc Cert.SwigluReferenceIdeal.main_arg1) = m ((tK c).loc Cert.SwigluKernelIdeal.main_arg1))
    (a2 : m' ((tR c).loc Cert.SwigluReferenceIdeal.main_arg2) = m ((tK c).loc Cert.SwigluKernelIdeal.main_arg2))
    (a3 : m' ((tR c).loc Cert.SwigluReferenceIdeal.main_arg3) = m ((tK c).loc Cert.SwigluKernelIdeal.main_arg3)) :
    Cert.SwigluReferenceIdeal.Value.REF_v11 (m' ((tR c).loc Cert.SwigluReferenceIdeal.main_arg0)) (m' ((tR c).loc Cert.SwigluReferenceIdeal.main_arg1)) (m' ((tR c).loc Cert.SwigluReferenceIdeal.main_arg2)) (m' ((tR c).loc Cert.SwigluReferenceIdeal.main_arg3))
      = (Cert.SwigluKernelIdeal.Gen.dats m 0 c).arrAt 4 (Cert.SwigluKernelIdeal.cfgs 0).N := by
  rw [a0, a1, a2, a3]
  exact (Cert.SwigluKernelIdeal.Value.final_4 m c (FinitePre.finite_swiglu_d _ _ _ _ (hpre c)) (FinitePre.finite_swiglu_w _ _ _ _ (hpre c)) (FinitePre.finite_swiglu_u _ _ _ _ (hpre c))).symm

/-- the reference's term for window 5's array, at the kernel's arguments. -/
theorem out_5 (m : MemK)
    (m' : MemR) (c : Dev Cert.SwigluKernelIdeal.nD)
    (a0 : m' ((tR c).loc Cert.SwigluReferenceIdeal.main_arg0) = m ((tK c).loc Cert.SwigluKernelIdeal.main_arg0))
    (a1 : m' ((tR c).loc Cert.SwigluReferenceIdeal.main_arg1) = m ((tK c).loc Cert.SwigluKernelIdeal.main_arg1))
    (a2 : m' ((tR c).loc Cert.SwigluReferenceIdeal.main_arg2) = m ((tK c).loc Cert.SwigluKernelIdeal.main_arg2)) :
    Cert.SwigluReferenceIdeal.Value.REF_v13 (m' ((tR c).loc Cert.SwigluReferenceIdeal.main_arg0)) (m' ((tR c).loc Cert.SwigluReferenceIdeal.main_arg1)) (m' ((tR c).loc Cert.SwigluReferenceIdeal.main_arg2))
      = (Cert.SwigluKernelIdeal.Gen.dats m 0 c).arrAt 5 (Cert.SwigluKernelIdeal.cfgs 0).N := by
  rw [a0, a1, a2]
  exact (Cert.SwigluKernelIdeal.Value.final_5 m c).symm

/-- the idealized kernel computes the derivative of the forward lines. -/
theorem algebraic : Cert.algebraic_SwigluKernelIdeal_SwigluReferenceIdeal_pre_finite_swiglu := by
  pair_intro
  · run_from Cert.SwigluKernelIdeal.Gen.run_main m g
  · exact (θ_run Cert.SwigluReferenceIdeal.defs _ _).mono
      (fun r h c => ⟨(h c).1.trans (out_4 m m' c hpre (hagree c).1 (hagree c).2.1 (hagree c).2.2.1 (hagree c).2.2.2), (h c).2.1.trans (out_5 m m' c (hagree c).1 (hagree c).2.1 (hagree c).2.2.1),
        (h c).2.2.1, (h c).2.2.2.1, (h c).2.2.2.2.1, (h c).2.2.2.2.2⟩)
      (Cert.SwigluReferenceIdeal.Value.run m' g')

end Cert.Proof.Swiglu

end
-- ==== Proof.SbOff.lean ====
/- Closed forms of the words the stick-breaking kernel computes from the grid: the trips of its loops, the branches it takes
   and the offsets of its loads and stores. -/
module

public import proofs.«01_k».proof.Proof.Gen.SbKernelIdeal.Loops
public import Idealize.ShloMosaic.Lib.Exec

@[expose] public section

set_option maxRecDepth 16384

noncomputable section

open Idealize.ShloMosaic Idealize.ShloMosaic.TcCoe Idealize.ShloMosaic.Tactic

namespace Cert.SbKernelIdeal.Off

open Cert.SbKernelIdeal Cert.SbKernelIdeal.Gen

/-- Query block `i` sweeps the key blocks before it two at a time. -/
theorem trips1 : ∀ i : grid0.Coords, (k0_t1_loop i).trips = (i 2).val / 2 := by
  intro i
  have h : ∀ n : Fin 16, ∀ j : grid0.Coords, j 2 = n → (k0_t1_loop j).trips = n.val / 2 := by
    intro n j hj
    unfold k0_t1_loop
    rw [hj]
    clear hj j
    revert n
    decide +kernel
  exact h (i 2) i rfl

theorem trip_lt (i : grid0.Coords) (t : Fin (k0_t1_loop i).trips) : t.val < 8 := by
  have h := t.isLt.trans_eq (trips1 i)
  have : (i 2).val < 16 := (i 2).isLt
  omega

/-- The row a trip's first or second key block begins at. -/
theorem word : ∀ t : Fin 8, (Scalar.indexCast (Scalar.muli (Scalar.addi (Scalar.muli 2#32 (Scf.iv 0#32 1#32 t.val)) 0#32) 256#32)).toNat = 512 * t.val
    ∧ (Scalar.indexCast (Scalar.muli (Scalar.addi (Scalar.muli 2#32 (Scf.iv 0#32 1#32 t.val)) 1#32) 256#32)).toNat = 512 * t.val + 256 := by
  decide +kernel

theorem off1_0 (i : grid0.Coords) (t : Fin (k0_t1_loop i).trips) : k0_off1 i t 0#32 = ![512 * t.val, 0] :=
  congrArg (fun n => ![n, 0]) (word ⟨t.val, trip_lt i t⟩).1
theorem off1_1 (i : grid0.Coords) (t : Fin (k0_t1_loop i).trips) : k0_off1 i t 1#32 = ![512 * t.val + 256, 0] :=
  congrArg (fun n => ![n, 0]) (word ⟨t.val, trip_lt i t⟩).2
theorem off2_0 (i : grid0.Coords) (t : Fin (k0_t1_loop i).trips) : k0_off2 i t 0#32 = ![0, 512 * t.val] :=
  congrArg (fun n => ![0, n]) (word ⟨t.val, trip_lt i t⟩).1
theorem off2_1 (i : grid0.Coords) (t : Fin (k0_t1_loop i).trips) : k0_off2 i t 1#32 = ![0, 512 * t.val + 256] :=
  congrArg (fun n => ![0, n]) (word ⟨t.val, trip_lt i t⟩).2

instance (i : grid0.Coords) (t : Fin (k0_t1_loop i).trips) : ClosedOff (k0_off1 i t 0#32) := ⟨_, off1_0 i t⟩
instance (i : grid0.Coords) (t : Fin (k0_t1_loop i).trips) : ClosedOff (k0_off1 i t 1#32) := ⟨_, off1_1 i t⟩
instance (i : grid0.Coords) (t : Fin (k0_t1_loop i).trips) : ClosedOff (k0_off2 i t 0#32) := ⟨_, off2_0 i t⟩
instance (i : grid0.Coords) (t : Fin (k0_t1_loop i).trips) : ClosedOff (k0_off2 i t 1#32) := ⟨_, off2_1 i t⟩

/-- The row the diagonal key block begins at. -/
theorem word5 : ∀ n : Fin 16, (Scalar.indexCast (Scalar.muli (BitVec.ofNat 32 n.val) 256#32)).toNat = 256 * n.val := by decide +kernel

/-- The row of the block before the diagonal: counted with wrap-around at block 0, where it is not used. -/
theorem word7 : ∀ n : Fin 16, 0 < n.val →
    (Scalar.indexCast (Scalar.muli (Scalar.addi (Scalar.subi (BitVec.ofNat 32 n.val) 1#32) 0#32) 256#32)).toNat = 256 * (n.val - 1) := by decide +kernel

theorem off5 (i : grid0.Coords) : k0_off5 i = ![256 * (i 2).val, 0] := congrArg (fun n => ![n, 0]) (word5 (i 2))
theorem off6 (i : grid0.Coords) : k0_off6 i = ![0, 256 * (i 2).val] := congrArg (fun n => ![0, n]) (word5 (i 2))
theorem off8 (i : grid0.Coords) : k0_off8 i = ![256 * (i 2).val, 0] := congrArg (fun n => ![n, 0]) (word5 (i 2))
theorem off10 (i : grid0.Coords) : k0_off10 i = ![0, 256 * (i 2).val] := congrArg (fun n => ![0, n]) (word5 (i 2))
theorem off7 (i : grid0.Coords) [hF : Fact (0 < (i 2).val)] : k0_off7 i = ![256 * ((i 2).val - 1), 0] := congrArg (fun n => ![n, 0]) (word7 (i 2) hF.out)
theorem off9 (i : grid0.Coords) [hF : Fact (0 < (i 2).val)] : k0_off9 i = ![0, 256 * ((i 2).val - 1)] := congrArg (fun n => ![0, n]) (word7 (i 2) hF.out)

instance (i : grid0.Coords) [Fact (0 < (i 2).val)] : ClosedOff (k0_off7 i) := ⟨_, off7 i⟩
instance (i : grid0.Coords) [Fact (0 < (i 2).val)] : ClosedOff (k0_off9 i) := ⟨_, off9 i⟩
instance (i : grid0.Coords) : ClosedOff (k0_off5 i) := ⟨_, off5 i⟩
instance (i : grid0.Coords) : ClosedOff (k0_off6 i) := ⟨_, off6 i⟩
instance (i : grid0.Coords) : ClosedOff (k0_off8 i) := ⟨_, off8 i⟩
instance (i : grid0.Coords) : ClosedOff (k0_off10 i) := ⟨_, off10 i⟩

/-- The tail takes one block where the query block's number is even, two where it is odd. -/
theorem cond2 (i : grid0.Coords) : k0_cond2 i = 1#1 ↔ (i 2).val % 2 = 0 := by
  have h : ∀ n : Fin 16, ∀ j : grid0.Coords, j 2 = n → (k0_cond2 j = 1#1 ↔ n.val % 2 = 0) := by
    intro n j hj
    unfold k0_cond2
    rw [hj]
    clear hj j
    revert n
    decide +kernel
  exact h (i 2) i rfl

/-- The last query block copies the keys' and values' gradients out. -/
theorem cond3 (i : grid0.Coords) : k0_cond3 i = 1#1 ↔ (i 2).val = 15 := by
  have h : ∀ n : Fin 16, ∀ j : grid0.Coords, j 2 = n → (k0_cond3 j = 1#1 ↔ n.val = 15) := by
    intro n j hj
    unfold k0_cond3
    rw [hj]
    clear hj j
    revert n
    decide +kernel
  exact h (i 2) i rfl

/-- The first query block starts the two accumulators. -/
theorem cond1 (i : grid0.Coords) : Scalar.cmpi .ne (Scalar.extui (Scalar.cmpi .eq (BitVec.ofNat 32 (i 2).val) 0#32) : BitVec 32) 0#32 = 1#1 ↔ (i 2).val = 0 := by
  have h : ∀ n : Fin 16, Scalar.cmpi .ne (Scalar.extui (Scalar.cmpi .eq (BitVec.ofNat 32 n.val) 0#32) : BitVec 32) 0#32 = 1#1 ↔ n.val = 0 := by decide +kernel
  exact h (i 2)

end Cert.SbKernelIdeal.Off

end
-- ==== Proof.SbTile.lean ====
/- One key block of the stick-breaking backward sweep, as vectors: what it adds to a query block's running sums and to the
   keys' and values' gradients; and the sweep of a query block, as the key blocks before it and then its own. -/
module

public import proofs.«01_k».proof.Proof.Gen.SbKernelIdeal.Skeleton
public import Idealize.ShloMosaic.Lib.VecWindow
public import Idealize.ShloMosaic.Lib.Pipeline.ValueKit

@[expose] public section

set_option maxRecDepth 16384

noncomputable section

open Idealize.ShloMosaic Idealize.ShloMosaic.TcCoe

namespace Cert.SbKernelIdeal.Tile

open Cert.SbKernelIdeal Cert.SbKernelIdeal.Gen

variable {F : FTy → Type} [FloatOps F] [Named F]

/-- What a query block brings to its sweep: per head the queries (scaled) and the cotangent, both also key-side (transposed),
    and the row's whole sum of log-complements. -/
structure Heads (F : FTy → Type) where
  q0 : FVec F S256x128 .bf16
  q1 : FVec F S256x128 .bf16
  d0 : FVec F S256x128 .bf16
  d1 : FVec F S256x128 .bf16
  qt0 : FVec F S128x256 .bf16
  qt1 : FVec F S128x256 .bf16
  dt0 : FVec F S128x256 .bf16
  dt1 : FVec F S128x256 .bf16
  t0 : FVec F S256x1 .f32
  t1 : FVec F S256x1 .f32

/-- What the sweep carries for one head: the sum of log-complements so far, the sum of `g` so far, the queries' gradient. -/
structure Car (F : FTy → Type) where
  cc : FVec F S256x1 .f32
  cg : FVec F S256x1 .f32
  dq : FVec F S256x128 .f32

/-- The sweep's state: both heads' carries and the keys' and values' gradients. -/
structure St (F : FTy → Type) where
  h0 : Car F
  h1 : Car F
  dk : FVec F S128x4096 .f32
  dv : FVec F S128x4096 .f32

/-- The keys after the row's, in a tile. -/
def Urev : FVec F S256x256 .bf16 :=
  truncf .bf16 (sitofp .f32 (extui 32 (cmpi .sgt (iota .tc S256x256 32 [0] iota_S256x256_d0_w32) (iota .tc S256x256 32 [1] iota_S256x256_d1_w32)) natLt_1_32)) bitsLt_bf16_f32
/-- The keys before the column's, in a tile. -/
def Uexc : FVec F S256x256 .bf16 :=
  truncf .bf16 (sitofp .f32 (extui 32 (cmpi .slt (iota .tc S256x256 32 [0] iota_S256x256_d0_w32) (iota .tc S256x256 32 [1] iota_S256x256_d1_w32)) natLt_1_32)) bitsLt_bf16_f32
/-- The strictly earlier keys of the diagonal tile. -/
def strict : IVec S256x256 1 := cmpi .slt (iota .tc S256x256 32 [1] iota_S256x256_d1_w32) (iota .tc S256x256 32 [0] iota_S256x256_d0_w32)

/-- A tile cut to the strictly earlier keys where it is the diagonal one. -/
def gate (d : Bool) (x : FVec F S256x256 .f32) : FVec F S256x256 .f32 :=
  match d with
  | true => select strict x (broadcast S256x256 (Scalar.ofBits .f32 0x00000000#32))
  | false => x

/-- The logits of a tile. -/
def zOf (q k : FVec F S256x128 .bf16) : FVec F S256x256 .f32 :=
  matmul dot_S256x128_S256x128_S256x256_1_1_0_0_n_n none q k (constant S256x256 .f32 0x00000000#32)
/-- The log of the sigmoid of the logits. -/
def lbOf (z : FVec F S256x256 .f32) : FVec F S256x256 .f32 :=
  subf (minimumf z (broadcast S256x256 (Scalar.ofBits .f32 0x00000000#32)))
    (log (addf (broadcast S256x256 (Scalar.ofBits .f32 0x3F800000#32)) (exp2 (mulf (absf z) (broadcast S256x256 (Named.named κ "l2e" 0xBFB8AA3B#32))))))
/-- The log of its complement, cut on the diagonal tile. -/
def lOf (d : Bool) (z : FVec F S256x256 .f32) : FVec F S256x256 .f32 := gate d (subf (lbOf z) z)
/-- A tile's row sums. -/
def rowSum (x : FVec F S256x256 .f32) : FVec F S256x1 .f32 :=
  shapeCast S256x1 (multiReduction .add [1] S256 x 0x00000000#32 reduces_S256x256_S256 (.inl rfl) rfl) shapeCasts_S256_S256x1
/-- The sum of log-complements, this tile's added. -/
def ccOf (d : Bool) (cc : FVec F S256x1 .f32) (z : FVec F S256x256 .f32) : FVec F S256x1 .f32 := addf cc (rowSum (lOf d z))
/-- The attention weights of a tile, given the row's whole sum and the sum through this tile. -/
def aOf (d : Bool) (tot cc' : FVec F S256x1 .f32) (z : FVec F S256x256 .f32) : FVec F S256x256 .f32 :=
  gate d (exp (addf (lbOf z) (addf
    (matmul dot_S256x256_S256x256_S256x256_1_0_0_1_n_n none (truncf .bf16 (lOf d z) bitsLt_bf16_f32) Urev (constant S256x256 .f32 0x00000000#32))
    (broadcastTo S256x256 (subf tot cc') broadcasts_S256x1_S256x256))))
/-- Weights times their cotangent. -/
def gOf (a : FVec F S256x256 .f32) (doh v : FVec F S256x128 .bf16) : FVec F S256x256 .f32 :=
  mulf a (matmul dot_S256x128_S256x128_S256x256_1_1_0_0_n_n none doh v (constant S256x256 .f32 0x00000000#32))
/-- The logits' cotangent. -/
def dzOf (d : Bool) (cg : FVec F S256x1 .f32) (z g : FVec F S256x256 .f32) : FVec F S256x256 .bf16 :=
  truncf .bf16 (gate d (subf g (mulf (exp (lbOf z)) (addf g (addf
    (matmul dot_S256x256_S256x256_S256x256_1_0_0_1_n_n none (truncf .bf16 g bitsLt_bf16_f32) Uexc (constant S256x256 .f32 0x00000000#32))
    (broadcastTo S256x256 cg broadcasts_S256x1_S256x256)))))) bitsLt_bf16_f32

/-- Rows `256·j …` of the keys or values. -/
def rows (x : FVec F S4096x128 .bf16) (j : ℕ) : FVec F S256x128 .bf16 :=
  fun y => x (ix2 ⟨(256 * j + (y 0).val) % 4096, Nat.mod_lt _ (by norm_num)⟩ ⟨(y 1).val, (y 1).isLt⟩)
/-- Columns `256·j …` of a key-side gradient. -/
def cols (x : FVec F S128x4096 .f32) (j : ℕ) : FVec F S128x256 .f32 :=
  fun y => x (ix2 ⟨(y 0).val, (y 0).isLt⟩ ⟨(256 * j + (y 1).val) % 4096, Nat.mod_lt _ (by norm_num)⟩)
/-- The same columns overwritten. -/
def setCols (x : FVec F S128x4096 .f32) (j : ℕ) (w : FVec F S128x256 .f32) : FVec F S128x4096 .f32 :=
  VecWindow.put x ![0, 256 * j] ![128, 256] w

/-- A key-side gradient's block with both heads' products added. -/
def accOf (old : FVec F S128x256 .f32) (l0 l1 : FVec F S128x256 .bf16) (r0 r1 : FVec F S256x256 .bf16) : FVec F S128x256 .f32 :=
  addf (shapeCast S128x256 old shapeCasts_S128x256_S128x256)
    (addf (matmul dot_S128x256_S256x256_S128x256_1_0_0_1_n_n none l0 r0 (constant S128x256 .f32 0x00000000#32))
      (matmul dot_S128x256_S256x256_S128x256_1_0_0_1_n_n none l1 r1 (constant S128x256 .f32 0x00000000#32)))

/-- A key or value block as the sweep uses it. -/
def blk (x : FVec F S4096x128 .bf16) (j : ℕ) : FVec F S256x128 .bf16 := shapeCast S256x128 (rows x j) shapeCasts_S256x128_S256x128

/-- One head's weights on a tile. -/
def aH (d : Bool) (q : FVec F S256x128 .bf16) (tot : FVec F S256x1 .f32) (k : FVec F S256x128 .bf16) (c : Car F) : FVec F S256x256 .f32 :=
  aOf d tot (ccOf d c.cc (zOf q k)) (zOf q k)
/-- One head's logit cotangent on a tile. -/
def dzH (d : Bool) (q doh : FVec F S256x128 .bf16) (tot : FVec F S256x1 .f32) (k v : FVec F S256x128 .bf16) (c : Car F) : FVec F S256x256 .bf16 :=
  dzOf d c.cg (zOf q k) (gOf (aH d q tot k c) doh v)
/-- One head's carry after a tile. -/
def carH (d : Bool) (q doh : FVec F S256x128 .bf16) (tot : FVec F S256x1 .f32) (k v : FVec F S256x128 .bf16) (c : Car F) : Car F where
  cc := ccOf d c.cc (zOf q k)
  cg := addf c.cg (rowSum (gOf (aH d q tot k c) doh v))
  dq := addf c.dq (matmul dot_S256x256_S256x128_S256x128_1_0_0_1_n_n none (dzH d q doh tot k v c) k (constant S256x128 .f32 0x00000000#32))

/-- One key block of the sweep. -/
def tile (d : Bool) (X : Heads F) (K V : FVec F S4096x128 .bf16) (j : ℕ) (s : St F) : St F where
  h0 := carH d X.q0 X.d0 X.t0 (blk K j) (blk V j) s.h0
  h1 := carH d X.q1 X.d1 X.t1 (blk K j) (blk V j) s.h1
  dk := setCols s.dk j (accOf (cols s.dk j) X.qt0 X.qt1
    (dzH d X.q0 X.d0 X.t0 (blk K j) (blk V j) s.h0) (dzH d X.q1 X.d1 X.t1 (blk K j) (blk V j) s.h1))
  dv := setCols s.dv j (accOf (cols s.dv j) X.dt0 X.dt1
    (truncf .bf16 (aH d X.q0 X.t0 (blk K j) s.h0) bitsLt_bf16_f32) (truncf .bf16 (aH d X.q1 X.t1 (blk K j) s.h1) bitsLt_bf16_f32))

/-- The key blocks before `n`, in order. -/
def tiles (X : Heads F) (K V : FVec F S4096x128 .bf16) (s : St F) : ℕ → St F
  | 0 => s
  | n + 1 => tile false X K V n (tiles X K V s n)

/-- A query block's whole sweep: the key blocks before it, then its own. -/
def sweep (X : Heads F) (K V : FVec F S4096x128 .bf16) (i : ℕ) (s : St F) : St F := tile true X K V i (tiles X K V s i)

/-- The carry a sweep begins with. -/
def car0 : Car F where
  cc := broadcast S256x1 (Scalar.ofBits .f32 0x00000000#32)
  cg := broadcast S256x1 (Scalar.ofBits .f32 0x00000000#32)
  dq := broadcast S256x128 (Scalar.ofBits .f32 0x00000000#32)

/-- A key-side gradient before the first query block. -/
def zero4096 : FVec F S128x4096 .f32 := broadcast S128x4096 (Scalar.ofBits .f32 0x00000000#32)

/-- What a query block brings to its sweep, out of its blocks of the operands. -/
def heads (q dO : FVec F S256x128 .bf16) (tot : FVec F S256x128 .f32) : Heads F where
  q0 := k0_pay206 q
  q1 := k0_pay207 q
  d0 := k0_pay211 dO
  d1 := k0_pay212 dO
  qt0 := k0_pay217 q
  qt1 := k0_pay218 k0_pay213 (k0_pay214 (F := F)) (k0_pay215 q)
  dt0 := k0_pay219 k0_pay213 (k0_pay214 (F := F)) (k0_pay216 dO)
  dt1 := k0_pay220 k0_pay213 (k0_pay214 (F := F)) (k0_pay216 dO)
  t0 := k0_pay222 tot
  t1 := k0_pay223 tot

/-- A query block's point: the sweep over what the point before left of the key-side gradients. -/
def point (q dO : FVec F S256x128 .bf16) (tot : FVec F S256x128 .f32) (K V : FVec F S4096x128 .bf16) (i : ℕ) (dk dv : FVec F S128x4096 .f32) : St F :=
  sweep (heads q dO tot) K V i ⟨car0, car0, dk, dv⟩

/-- The queries' gradient a point writes back. -/
def dqOut (s : St F) : FVec F S256x128 .bf16 := k0_pay8 s.h0.dq s.h1.dq

/-- A key-side gradient turned token-major, block of rows by block of rows. -/
def tokenMajor (x : FVec F S128x4096 .f32) : FVec F S4096x128 .bf16 :=
  fun y => k0_pay9 (cols x ((y 0).val / 256)) (ix2 ⟨(y 0).val % 256, Nat.mod_lt _ (by norm_num)⟩ ⟨(y 1).val, (y 1).isLt⟩)

/-! ### Windows of the key-side gradients -/

theorem rows_window (x : FVec F S4096x128 .bf16) (j : ℕ) (hj : j < 16) {off : Fin 2 → ℕ} (e : off = ![256 * j, 0])
    (inb : ∀ a, off a + S256x128.size a ≤ S4096x128.size a) : VecWindow.window x off S256x128.size inb = rows x j := by
  subst e
  funext y
  have h0 : (y 0).val < 256 := (y 0).isLt
  refine congrArg x (funext fun a => ?_)
  fin_cases a
  · exact Fin.ext (by show 256 * j + 1 * (y 0).val = (256 * j + (y 0).val) % 4096; omega)
  · exact Fin.ext (by show 0 + 1 * (y 1).val = (y 1).val; omega)

theorem cols_window (x : FVec F S128x4096 .f32) (j : ℕ) (hj : j < 16) {off : Fin 2 → ℕ} (e : off = ![0, 256 * j])
    (inb : ∀ a, off a + S128x256.size a ≤ S128x4096.size a) : VecWindow.window x off S128x256.size inb = cols x j := by
  subst e
  funext y
  have h0 : (y 1).val < 256 := (y 1).isLt
  refine congrArg x (funext fun a => ?_)
  fin_cases a
  · exact Fin.ext (by show 0 + 1 * (y 0).val = (y 0).val; omega)
  · exact Fin.ext (by show 256 * j + 1 * (y 1).val = (256 * j + (y 1).val) % 4096; omega)

/-- A block of columns does not see another block overwritten. -/
theorem cols_setCols_ne (x : FVec F S128x4096 .f32) (j j' : ℕ) (hj : j < 16) (hj' : j' < 16) (h : j ≠ j') (w : FVec F S128x256 .f32) :
    cols (setCols x j w) j' = cols x j' := by
  have inb : ∀ a : Fin 2, (![0, 256 * j'] : Fin 2 → ℕ) a + S128x256.size a ≤ S128x4096.size a := by
    intro a; fin_cases a
    · show 0 + 128 ≤ 128; omega
    · show 256 * j' + 256 ≤ 4096; omega
  rw [← cols_window _ j' hj' rfl inb, ← cols_window _ j' hj' rfl inb]
  refine VecWindow.window_put_of_disjoint x ![0, 256 * j] ![128, 256] ![0, 256 * j'] S128x256.size inb w 1 ?_
  show 256 * j' + 256 ≤ 256 * j ∨ 256 * j + 256 ≤ 256 * j'
  omega

end Cert.SbKernelIdeal.Tile

end
-- ==== Proof.SbLoop.lean ====
/- One trip of the sweep's loop is two key blocks, and the loop is all the pairs before the query block. -/
module

public import proofs.«01_k».proof.Proof.SbOff
public import proofs.«01_k».proof.Proof.SbTile
public import Idealize.ShloMosaic.Lib.LoopRemainder
public import Idealize.ShloMosaic.Lib.Tactic
public import Idealize.ShloMosaic.Lib.Pipeline.Kit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.SbKernelIdeal.Tile

open Cert.SbKernelIdeal Cert.SbKernelIdeal.Gen

variable {F : FTy → Type} [FloatOps F] [Named F]

local notation "𝕄" => MT nD τ sig Unit (Elt F) ℕ (UR sig nD τ) ℕ

/-- A carry as the loop passes it. -/
def Car.tup (a b : Car F) : FVec F S256x1 .f32 × FVec F S256x1 .f32 × FVec F S256x128 .f32 × FVec F S256x1 .f32 × FVec F S256x1 .f32 × FVec F S256x128 .f32 :=
  (a.cc, a.cg, a.dq, b.cc, b.cg, b.dq)

/-- What a trip touches: the keys and values as they are, the two key-side gradients and the carries at the sweep's state. -/
def inv (c : Dev nD) (arg4 : Memref sig .tc .vmem S4096x128 .bf16) (arg5 : Memref sig .tc .vmem S4096x128 .bf16)
    (arg9 : Memref sig .tc .vmem S128x4096 .f32) (arg10 : Memref sig .tc .vmem S128x4096 .f32)
    (X : Heads F) (f4 : arg4.view.ty.Contents (Elt F)) (f5 : arg5.view.ty.Contents (Elt F)) (s : St F) (k : ℕ)
    (acc : FVec F S256x1 .f32 × FVec F S256x1 .f32 × FVec F S256x128 .f32 × FVec F S256x1 .f32 × FVec F S256x1 .f32 × FVec F S256x128 .f32) : sProp 𝕄 :=
  iprop((arg4.view.loc (c : Thread nD τ) ↦[arg4.view.set]{fullShare} f4) ∗ (arg5.view.loc (c : Thread nD τ) ↦[arg5.view.set]{fullShare} f5)
    ∗ (∃ f9, (arg9.view.loc (c : Thread nD τ) ↦[arg9.view.set]{fullShare} f9)
        ∗ ⌜arg9.view.read (Elt F) f9 = (tiles X (arg4.view.read (Elt F) f4) (arg5.view.read (Elt F) f5) s (2 * k)).dk⌝)
    ∗ (∃ f10, (arg10.view.loc (c : Thread nD τ) ↦[arg10.view.set]{fullShare} f10)
        ∗ ⌜arg10.view.read (Elt F) f10 = (tiles X (arg4.view.read (Elt F) f4) (arg5.view.read (Elt F) f5) s (2 * k)).dv⌝)
    ∗ ⌜acc = Car.tup (tiles X (arg4.view.read (Elt F) f4) (arg5.view.read (Elt F) f5) s (2 * k)).h0
        (tiles X (arg4.view.read (Elt F) f4) (arg5.view.read (Elt F) f5) s (2 * k)).h1⌝)

/-- The sweep's heads out of the words the body has computed before its loop. -/
def headsOf (v11 v12 v19 v20 : FVec F S256x128 .bf16) (v23 : IVec S128x256 1) (v24 v31 v36 v37 : FVec F S128x256 .bf16) (v41 : Vec F S256x128 .f32) : Heads F :=
  ⟨v11, v12, v19, v20, v37, k0_pay218 v23 v24 v31, k0_pay219 v23 v24 v36, k0_pay220 v23 v24 v36, k0_pay222 v41, k0_pay223 v41⟩

omit [Named F] in
theorem acc_congr {o o' : FVec F S128x256 .f32} {x : FVec F S128x256 .bf16} {y : FVec F S128x256 .bf16}
    {a a' b b' : FVec F S256x256 .bf16} (ho : o = o') (ha : a = a') (hb : b = b') :
    accOf o x y a b = accOf o' x y a' b' := by rw [ho, ha, hb]

set_option maxHeartbeats 1000000 in
/-- One trip. -/
theorem trip_step (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S128x4096 .f32) (harg9 : arg9.IsWhole) (arg10 : Memref sig .tc .vmem S128x4096 .f32) (harg10 : arg10.IsWhole) (arg11 : Memref sig .tc .vmem S4096x128 .bf16) (harg11 : arg11.IsWhole) (arg12 : Memref sig .tc .vmem S4096x128 .bf16) (harg12 : arg12.IsWhole)
    (arg2 : BitVec 32) (v11 v12 v19 v20 : FVec F S256x128 .bf16) (v23 : IVec S128x256 1) (v24 v31 v36 v37 : FVec F S128x256 .bf16) (v41 : Vec F S256x128 .f32)
    (f4 : arg4.view.ty.Contents (Elt F)) (f5 : arg5.view.ty.Contents (Elt F)) (s : St F) (k : Fin (k0_t1_loop i).trips)
    (acc : FVec F S256x1 .f32 × FVec F S256x1 .f32 × FVec F S256x128 .f32 × FVec F S256x1 .f32 × FVec F S256x1 .f32 × FVec F S256x128 .f32) :
    inv c arg4 arg5 arg9 arg10 (headsOf v11 v12 v19 v20 v23 v24 v31 v36 v37 v41) f4 f5 s k.val acc
      ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg2 v11 v12 v19 v20 v23 v24 v31 v36 v37 v41 k acc)
        (inv c arg4 arg5 arg9 arg10 (headsOf v11 v12 v19 v20 v23 v24 v31 v36 v37 v41) f4 f5 s (k.val + 1)) := by
  unfold inv k0_t1_body
  rw [show 2 * (k.val + 1) = 2 * k.val + 1 + 1 from by omega]
  simp only [tiles]
  generalize tiles (headsOf v11 v12 v19 v20 v23 v24 v31 v36 v37 v41) (arg4.view.read (Elt F) f4) (arg5.view.read (Elt F) f5) s (2 * k.val) = u
  simp only [k0_part1_eq_skeleton, k0_part2_eq_skeleton, k0_part3_eq_skeleton, k0_part4_eq_skeleton]
  unfold k0_part1_skel k0_part2_skel k0_part3_skel k0_part4_skel
  iintro ⟨H4, H5, ⟨%f9, H9, %h9⟩, ⟨%f10, H10, %h10⟩, %hacc⟩
  subst hacc
  sl_exec
  sl_step
  have hk : k.val < 8 := Off.trip_lt i k
  have e0 : 512 * k.val = 256 * (2 * k.val) := by omega
  have e1 : 512 * k.val + 256 = 256 * (2 * k.val + 1) := by omega
  have rk0 : View.readAt (Elt F) arg4.view (Rect.unit (s := S4096x128) (k0_off1 i k 0#32) S256x128.size (k0_off1_inb i k 0)).toLoadRect f4 = rows (arg4.view.read (Elt F) f4) (2 * k.val) :=
    (View.readAt_unit arg4.view f4 (k0_off1_inb i k 0) rfl _).trans (rows_window (arg4.view.read (Elt F) f4) (2 * k.val) (by omega) ((Off.off1_0 i k).trans (by rw [e0])) (k0_off1_inb i k 0))
  have rk1 : View.readAt (Elt F) arg4.view (Rect.unit (s := S4096x128) (k0_off1 i k 1#32) S256x128.size (k0_off1_inb i k 1)).toLoadRect f4 = rows (arg4.view.read (Elt F) f4) (2 * k.val + 1) :=
    (View.readAt_unit arg4.view f4 (k0_off1_inb i k 1) rfl _).trans (rows_window (arg4.view.read (Elt F) f4) (2 * k.val + 1) (by omega) ((Off.off1_1 i k).trans (by rw [e1])) (k0_off1_inb i k 1))
  have rv0 : View.readAt (Elt F) arg5.view (Rect.unit (s := S4096x128) (k0_off1 i k 0#32) S256x128.size (k0_off1_inb i k 0)).toLoadRect f5 = rows (arg5.view.read (Elt F) f5) (2 * k.val) :=
    (View.readAt_unit arg5.view f5 (k0_off1_inb i k 0) rfl _).trans (rows_window (arg5.view.read (Elt F) f5) (2 * k.val) (by omega) ((Off.off1_0 i k).trans (by rw [e0])) (k0_off1_inb i k 0))
  have rv1 : View.readAt (Elt F) arg5.view (Rect.unit (s := S4096x128) (k0_off1 i k 1#32) S256x128.size (k0_off1_inb i k 1)).toLoadRect f5 = rows (arg5.view.read (Elt F) f5) (2 * k.val + 1) :=
    (View.readAt_unit arg5.view f5 (k0_off1_inb i k 1) rfl _).trans (rows_window (arg5.view.read (Elt F) f5) (2 * k.val + 1) (by omega) ((Off.off1_1 i k).trans (by rw [e1])) (k0_off1_inb i k 1))
  have r90 : View.readAt (Elt F) arg9.view (Rect.unit (s := S128x4096) (k0_off2 i k 0#32) S128x256.size (k0_off2_inb i k 0)).toLoadRect f9 = cols (arg9.view.read (Elt F) f9) (2 * k.val) :=
    (View.readAt_unit arg9.view f9 (k0_off2_inb i k 0) rfl _).trans (cols_window (arg9.view.read (Elt F) f9) (2 * k.val) (by omega) ((Off.off2_0 i k).trans (by rw [e0])) (k0_off2_inb i k 0))
  have r91 : View.readAt (Elt F) arg9.view (Rect.unit (s := S128x4096) (k0_off2 i k 1#32) S128x256.size (k0_off2_inb i k 1)).toLoadRect f9 = cols (arg9.view.read (Elt F) f9) (2 * k.val + 1) :=
    (View.readAt_unit arg9.view f9 (k0_off2_inb i k 1) rfl _).trans (cols_window (arg9.view.read (Elt F) f9) (2 * k.val + 1) (by omega) ((Off.off2_1 i k).trans (by rw [e1])) (k0_off2_inb i k 1))
  have r100 : View.readAt (Elt F) arg10.view (Rect.unit (s := S128x4096) (k0_off2 i k 0#32) S128x256.size (k0_off2_inb i k 0)).toLoadRect f10 = cols (arg10.view.read (Elt F) f10) (2 * k.val) :=
    (View.readAt_unit arg10.view f10 (k0_off2_inb i k 0) rfl _).trans (cols_window (arg10.view.read (Elt F) f10) (2 * k.val) (by omega) ((Off.off2_0 i k).trans (by rw [e0])) (k0_off2_inb i k 0))
  have r101 : View.readAt (Elt F) arg10.view (Rect.unit (s := S128x4096) (k0_off2 i k 1#32) S128x256.size (k0_off2_inb i k 1)).toLoadRect f10 = cols (arg10.view.read (Elt F) f10) (2 * k.val + 1) :=
    (View.readAt_unit arg10.view f10 (k0_off2_inb i k 1) rfl _).trans (cols_window (arg10.view.read (Elt F) f10) (2 * k.val + 1) (by omega) ((Off.off2_1 i k).trans (by rw [e1])) (k0_off2_inb i k 1))
  rw [h9] at r90 r91
  rw [h10] at r100 r101
  dsimp only at rk0 rk1 rv0 rv1 r90 r91 r100 r101 ⊢
  isplitl [H4]; · iexact H4
  isplitl [H5]; · iexact H5
  isplitl [H9]
  · iexists _; isplitl [H9]; · iexact H9
    ipureintro
    rw [View.read_writes_cons_put _ _ _ _ _ ((Off.off2_1 i k).trans (by rw [e1])), View.read_writes_cons_put _ _ _ _ _ ((Off.off2_0 i k).trans (by rw [e0])), View.writes_nil, h9]
    simp only [rk0, rk1, rv0, rv1, r90, r91]
    show setCols (setCols _ (2 * k.val) _) (2 * k.val + 1) _ = setCols (setCols _ (2 * k.val) _) (2 * k.val + 1) _
    refine congrArg₂ (fun a b => setCols a (2 * k.val + 1) b) (congrArg (setCols _ (2 * k.val)) ?_) ?_
    · sl_kernel_rfl
    rw [show ∀ (a b : FVec F S256x256 .bf16) (o : FVec F S128x256 .f32), k0_pay229 v23 v24 v31 v37 a b o = accOf o v37 (k0_pay218 v23 v24 v31) a b from fun _ _ _ => rfl]
    show accOf _ _ _ _ _ = accOf (cols (setCols _ (2 * k.val) _) (2 * k.val + 1)) _ _ _ _
    refine acc_congr (Eq.trans r91 (cols_setCols_ne _ (2 * k.val) (2 * k.val + 1) (by omega) (by omega) (by omega) _).symm) ?_ ?_
    · show _ = dzH false v11 v19 (k0_pay222 v41) (blk _ (2 * k.val + 1)) (blk _ (2 * k.val + 1)) (carH false _ _ _ (blk _ (2 * k.val)) (blk _ (2 * k.val)) u.h0)
      sl_kernel_rfl
    · show _ = dzH false v12 v20 (k0_pay223 v41) (blk _ (2 * k.val + 1)) (blk _ (2 * k.val + 1)) (carH false _ _ _ (blk _ (2 * k.val)) (blk _ (2 * k.val)) u.h1)
      sl_kernel_rfl
  isplitl [H10]
  · iexists _; isplitl [H10]; · iexact H10
    ipureintro
    rw [View.read_writes_cons_put _ _ _ _ _ ((Off.off2_1 i k).trans (by rw [e1])), View.read_writes_cons_put _ _ _ _ _ ((Off.off2_0 i k).trans (by rw [e0])), View.writes_nil, h10]
    simp only [rk0, rk1, rv0, rv1, r100, r101]
    show setCols (setCols _ (2 * k.val) _) (2 * k.val + 1) _ = setCols (setCols _ (2 * k.val) _) (2 * k.val + 1) _
    refine congrArg₂ (fun a b => setCols a (2 * k.val + 1) b) (congrArg (setCols _ (2 * k.val)) ?_) ?_
    · sl_kernel_rfl
    refine Eq.trans (b := accOf (cols (setCols u.dv (2 * k.val) _) (2 * k.val + 1)) (k0_pay219 v23 v24 v36) (k0_pay220 v23 v24 v36) _ _) ?_ rfl
    show accOf _ _ _ _ _ = accOf (cols (setCols _ (2 * k.val) _) (2 * k.val + 1)) _ _ _ _
    refine acc_congr (Eq.trans r101 (cols_setCols_ne _ (2 * k.val) (2 * k.val + 1) (by omega) (by omega) (by omega) _).symm) ?_ ?_
    · sl_kernel_rfl
    · sl_kernel_rfl
  ipureintro
  simp only [rk0, rk1, rv0, rv1]
  sl_kernel_rfl

end Cert.SbKernelIdeal.Tile

end
-- ==== Proof.SbCopy.lean ====
/- The last point's copy of the key-side gradients, turned token-major. -/
module

public import proofs.«01_k».proof.Proof.SbLoop

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.SbKernelIdeal.Tile

open Cert.SbKernelIdeal Cert.SbKernelIdeal.Gen

variable {F : FTy → Type} [FloatOps F] [Named F]

local notation "𝕄" => MT nD τ sig Unit (Elt F) ℕ (UR sig nD τ) ℕ

omit [Named F] in
/-- A key-side gradient's block stored token-major: the rows so far agree with the whole. -/
theorem tokens_step (x : FVec F S128x4096 .f32) (g : FVec F S4096x128 .bf16) (b : ℕ) (hb : b < 16) {off : Fin 2 → ℕ} (e : off = ![256 * b, 0])
    (w : FVec F S256x128 .bf16) (hw : w = k0_pay9 (cols x b)) (hg : ∀ y : S4096x128.Idx, (y 0).val < 256 * b → g y = tokenMajor x y)
    (y : S4096x128.Idx) (hy : (y 0).val < 256 * (b + 1)) : VecWindow.put g off S256x128.size w y = tokenMajor x y := by
  subst e hw
  by_cases h : (y 0).val < 256 * b
  · refine Eq.trans (dif_neg fun hall => ?_) (hg y h)
    have : 256 * b ≤ (y 0).val := (hall 0).1
    omega
  · have h1 : (y 1).val < 128 := (y 1).isLt
    have hm : ∀ a, (![256 * b, 0] : Fin 2 → ℕ) a ≤ (y a).val ∧ (y a).val < (![256 * b, 0] : Fin 2 → ℕ) a + S256x128.size a := by
      intro a
      fin_cases a
      · exact ⟨Nat.le_of_not_lt h, by show (y 0).val < 256 * b + 256; omega⟩
      · exact ⟨Nat.zero_le _, by show (y 1).val < 0 + 128; omega⟩
    refine Eq.trans (dif_pos hm) ?_
    have eb : (y 0).val / 256 = b := by omega
    unfold tokenMajor
    rw [eb]
    refine congrArg (k0_pay9 (cols x b)) (funext fun a => ?_)
    fin_cases a
    · exact Fin.ext (by show (y 0).val - 256 * b = (y 0).val % 256; omega)
    · exact Fin.ext (by show (y 1).val - 0 = (y 1).val; omega)

/-- A sum's columns as the copy loads them. -/
theorem load_cols (v : Memref sig .tc .vmem S128x4096 .f32) (q : v.view.ty.Contents (Elt F)) (b : ℕ) (hb : b < 16) {off : Fin 2 → ℕ} (e : off = ![0, 256 * b])
    (inb : ∀ a, off a + S128x256.size a ≤ S128x4096.size a) :
    View.readAt (Elt F) v.view (Rect.unit (s := S128x4096) off S128x256.size inb).toLoadRect q = cols (v.view.read (Elt F) q) b :=
  (View.readAt_unit v.view q inb rfl _).trans (cols_window (v.view.read (Elt F) q) b hb e inb)

/-- A block of columns loaded, turned and stored. -/
theorem tokens_load (v : Memref sig .tc .vmem S128x4096 .f32) (q : v.view.ty.Contents (Elt F)) (g : FVec F S4096x128 .bf16) (b : ℕ) (hb : b < 16)
    {off off' : Fin 2 → ℕ} (e : off = ![256 * b, 0]) (e' : off' = ![0, 256 * b]) (inb : ∀ a, off' a + S128x256.size a ≤ S128x4096.size a)
    (hg : ∀ y : S4096x128.Idx, (y 0).val < 256 * b → g y = tokenMajor (v.view.read (Elt F) q) y) (y : S4096x128.Idx) (hy : (y 0).val < 256 * (b + 1)) :
    VecWindow.put g off S256x128.size (k0_pay9 (View.readAt (Elt F) v.view (Rect.unit (s := S128x4096) off' S128x256.size inb).toLoadRect q)) y
      = tokenMajor (v.view.read (Elt F) q) y :=
  tokens_step _ g b hb e _ (congrArg k0_pay9 (load_cols v q b hb e' inb)) hg y hy

/-- What the last point does after its sweep. -/
def copyOut (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S128x4096 .f32) (harg9 : arg9.IsWhole) (arg10 : Memref sig .tc .vmem S128x4096 .f32) (harg10 : arg10.IsWhole) (arg11 : Memref sig .tc .vmem S4096x128 .bf16) (harg11 : arg11.IsWhole) (arg12 : Memref sig .tc .vmem S4096x128 .bf16) (harg12 : arg12.IsWhole) :
    Prog (TpuEff nD τ sig (Elt F) Λ₀ .tc) PUnit := do
  k0_part15 i arg3 harg3 arg4 harg4 arg5 harg5 arg6 harg6 arg7 harg7 arg8 harg8 arg9 harg9 arg10 harg10 arg11 harg11 arg12 harg12
  k0_part16 i arg3 harg3 arg4 harg4 arg5 harg5 arg6 harg6 arg7 harg7 arg8 harg8 arg9 harg9 arg10 harg10 arg11 harg11 arg12 harg12
  k0_part17 i arg3 harg3 arg4 harg4 arg5 harg5 arg6 harg6 arg7 harg7 arg8 harg8 arg9 harg9 arg10 harg10 arg11 harg11 arg12 harg12
  k0_part18 i arg3 harg3 arg4 harg4 arg5 harg5 arg6 harg6 arg7 harg7 arg8 harg8 arg9 harg9 arg10 harg10 arg11 harg11 arg12 harg12
  k0_part19 i arg3 harg3 arg4 harg4 arg5 harg5 arg6 harg6 arg7 harg7 arg8 harg8 arg9 harg9 arg10 harg10 arg11 harg11 arg12 harg12
  let v258 : Vec F S128x256 .f32 ← Prog.lift (.load arg9 (Rect.unit (s := S128x4096) ![0, 3840] S128x256.size inb_S128x4096_S128x256_0_3840).toLoadRect (View.loadsAt_vmem h_S128x256))
  let v262 : Vec F S256x128 .bf16 ← Prog.lift (.load arg11 (Rect.unit (s := S4096x128) ![3840, 0] S256x128.size inb_S4096x128_S256x128_3840_0).toLoadRect (View.loadsAt_vmem h_S256x128))
  Prog.lift (.store arg11 (Rect.unit (s := S4096x128) ![3840, 0] S256x128.size inb_S4096x128_S256x128_3840_0) (k0_pay9 v258) Finset.univ (View.stores_vmem h_S256x128 (harg11.storeExact_slice rfl _ packedbf16_S4096x128_S256x128_3840_0) (fun _ => rfl)) (.inl rfl))
  let v263 : Vec F S128x256 .f32 ← Prog.lift (.load arg10 (Rect.unit (s := S128x4096) ![0, 3840] S128x256.size inb_S128x4096_S128x256_0_3840).toLoadRect (View.loadsAt_vmem h_S128x256))
  let v267 : Vec F S256x128 .bf16 ← Prog.lift (.load arg12 (Rect.unit (s := S4096x128) ![3840, 0] S256x128.size inb_S4096x128_S256x128_3840_0).toLoadRect (View.loadsAt_vmem h_S256x128))
  Prog.lift (.store arg12 (Rect.unit (s := S4096x128) ![3840, 0] S256x128.size inb_S4096x128_S256x128_3840_0) (k0_pay10 v263) Finset.univ (View.stores_vmem h_S256x128 (harg12.storeExact_slice rfl _ packedbf16_S4096x128_S256x128_3840_0) (fun _ => rfl)) (.inl rfl))
  pure ⟨⟩

set_option maxHeartbeats 4000000 in
/-- The copy leaves both sums as they are and the outputs at them, token-major. -/
theorem run_copy (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S128x4096 .f32) (harg9 : arg9.IsWhole) (arg10 : Memref sig .tc .vmem S128x4096 .f32) (harg10 : arg10.IsWhole) (arg11 : Memref sig .tc .vmem S4096x128 .bf16) (harg11 : arg11.IsWhole) (arg12 : Memref sig .tc .vmem S4096x128 .bf16) (harg12 : arg12.IsWhole) (f9 : arg9.view.ty.Contents (Elt F)) (f10 : arg10.view.ty.Contents (Elt F)) (f11 : arg11.view.ty.Contents (Elt F)) (f12 : arg12.view.ty.Contents (Elt F))
    (K : PUnit → sProp 𝕄) :
    iprop((arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ (iprop((arg9.view.loc (c : Thread nD τ) ↦[arg9.view.set]{fullShare} f9) ∗ (arg10.view.loc (c : Thread nD τ) ↦[arg10.view.set]{fullShare} f10)
          ∗ owns (c : Thread nD τ) arg11 fullShare (tokenMajor (arg9.view.read (Elt F) f9)) ∗ owns (c : Thread nD τ) arg12 fullShare (tokenMajor (arg10.view.read (Elt F) f10))) -∗ K ⟨⟩))
      ⊢ wp frame (wpE (defs₀ (F := F)) Variants.none (c : Thread nD τ) none) Set.univ (copyOut i arg3 harg3 arg4 harg4 arg5 harg5 arg6 harg6 arg7 harg7 arg8 harg8 arg9 harg9 arg10 harg10 arg11 harg11 arg12 harg12) K := by
  unfold copyOut
  simp only [k0_part15_eq_skeleton, k0_part16_eq_skeleton, k0_part17_eq_skeleton, k0_part18_eq_skeleton, k0_part19_eq_skeleton]
  unfold k0_part15_skel k0_part16_skel k0_part17_skel k0_part18_skel k0_part19_skel
  iintro ⟨H9, H10, H11, H12, Hk⟩
  sl_exec
  sl_step
  iapply Hk
  isplitl [H9]; · iexact H9
  isplitl [H10]; · iexact H10
  unfold owns
  isplitl [H11]
  · iexists _; isplitr; swap; · iexact H11
    ipureintro
    sl_unfold_run_names
    repeat rw [View.read_writes_cons_put _ _ _ _ _ rfl]
    funext y
    have hy : (y 0).val < 256 * (15 + 1) := (y 0).isLt
    revert y
    refine tokens_load arg9 f9 _ 15 (by norm_num) rfl rfl _ ?_
    refine tokens_load arg9 f9 _ 14 (by norm_num) rfl rfl _ ?_
    refine tokens_load arg9 f9 _ 13 (by norm_num) rfl rfl _ ?_
    refine tokens_load arg9 f9 _ 12 (by norm_num) rfl rfl _ ?_
    refine tokens_load arg9 f9 _ 11 (by norm_num) rfl rfl _ ?_
    refine tokens_load arg9 f9 _ 10 (by norm_num) rfl rfl _ ?_
    refine tokens_load arg9 f9 _ 9 (by norm_num) rfl rfl _ ?_
    refine tokens_load arg9 f9 _ 8 (by norm_num) rfl rfl _ ?_
    refine tokens_load arg9 f9 _ 7 (by norm_num) rfl rfl _ ?_
    refine tokens_load arg9 f9 _ 6 (by norm_num) rfl rfl _ ?_
    refine tokens_load arg9 f9 _ 5 (by norm_num) rfl rfl _ ?_
    refine tokens_load arg9 f9 _ 4 (by norm_num) rfl rfl _ ?_
    refine tokens_load arg9 f9 _ 3 (by norm_num) rfl rfl _ ?_
    refine tokens_load arg9 f9 _ 2 (by norm_num) rfl rfl _ ?_
    refine tokens_load arg9 f9 _ 1 (by norm_num) rfl rfl _ ?_
    refine tokens_load arg9 f9 _ 0 (by norm_num) rfl rfl _ ?_
    exact fun y hy => absurd hy (Nat.not_lt_zero _)
  · iexists _; isplitr; swap; · iexact H12
    ipureintro
    sl_unfold_run_names
    repeat rw [View.read_writes_cons_put _ _ _ _ _ rfl]
    funext y
    have hy : (y 0).val < 256 * (15 + 1) := (y 0).isLt
    revert y
    refine tokens_load arg10 f10 _ 15 (by norm_num) rfl rfl _ ?_
    refine tokens_load arg10 f10 _ 14 (by norm_num) rfl rfl _ ?_
    refine tokens_load arg10 f10 _ 13 (by norm_num) rfl rfl _ ?_
    refine tokens_load arg10 f10 _ 12 (by norm_num) rfl rfl _ ?_
    refine tokens_load arg10 f10 _ 11 (by norm_num) rfl rfl _ ?_
    refine tokens_load arg10 f10 _ 10 (by norm_num) rfl rfl _ ?_
    refine tokens_load arg10 f10 _ 9 (by norm_num) rfl rfl _ ?_
    refine tokens_load arg10 f10 _ 8 (by norm_num) rfl rfl _ ?_
    refine tokens_load arg10 f10 _ 7 (by norm_num) rfl rfl _ ?_
    refine tokens_load arg10 f10 _ 6 (by norm_num) rfl rfl _ ?_
    refine tokens_load arg10 f10 _ 5 (by norm_num) rfl rfl _ ?_
    refine tokens_load arg10 f10 _ 4 (by norm_num) rfl rfl _ ?_
    refine tokens_load arg10 f10 _ 3 (by norm_num) rfl rfl _ ?_
    refine tokens_load arg10 f10 _ 2 (by norm_num) rfl rfl _ ?_
    refine tokens_load arg10 f10 _ 1 (by norm_num) rfl rfl _ ?_
    refine tokens_load arg10 f10 _ 0 (by norm_num) rfl rfl _ ?_
    exact fun y hy => absurd hy (Nat.not_lt_zero _)

end Cert.SbKernelIdeal.Tile

end
-- ==== Proof.SbBody.lean ====
/- The body of the stick-breaking backward kernel at a point: the sweep of a query block. -/
module

public import proofs.«01_k».proof.Proof.SbCopy

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.SbKernelIdeal.Tile

open Cert.SbKernelIdeal Cert.SbKernelIdeal.Gen

variable {F : FTy → Type} [FloatOps F] [Named F]

local notation "𝕄" => MT nD τ sig Unit (Elt F) ℕ (UR sig nD τ) ℕ

/-- A block of columns loaded after another block was stored. -/
theorem load_past (v : Memref sig .tc .vmem S128x4096 .f32) (g : v.view.ty.Contents (Elt F)) (w : FVec F S128x256 .f32) (j i : ℕ) (hj : j < 16) (hi : i < 16) (h : j ≠ i)
    {off off' : Fin 2 → ℕ} (e : off = ![0, 256 * j]) (e' : off' = ![0, 256 * i])
    (inb : ∀ a, off a + S128x256.size a ≤ S128x4096.size a) (inb' : ∀ a, off' a + S128x256.size a ≤ S128x4096.size a) :
    View.readAt (Elt F) v.view (Rect.unit (s := S128x4096) off' S128x256.size inb').toLoadRect (v.view.writes (Elt F) g [⟨Rect.unit (s := S128x4096) off S128x256.size inb, w⟩])
      = cols (v.view.read (Elt F) g) i := by
  refine (load_cols v _ i hi e' inb').trans ?_
  rw [View.read_writes_cons_put _ _ _ _ _ e, View.writes_nil]
  exact cols_setCols_ne _ j i hj hi h w

set_option maxHeartbeats 4000000 in
/-- The body at a point. -/
theorem run_body (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .f32) (harg7 : arg7.IsWhole) (arg8 : Memref sig .tc .vmem S256x128 .bf16) (harg8 : arg8.IsWhole) (arg9 : Memref sig .tc .vmem S128x4096 .f32) (harg9 : arg9.IsWhole) (arg10 : Memref sig .tc .vmem S128x4096 .f32) (harg10 : arg10.IsWhole) (arg11 : Memref sig .tc .vmem S4096x128 .bf16) (harg11 : arg11.IsWhole) (arg12 : Memref sig .tc .vmem S4096x128 .bf16) (harg12 : arg12.IsWhole)
    (x3 : FVec F S256x128 .bf16) (x4 x5 : FVec F S4096x128 .bf16) (x6 : FVec F S256x128 .bf16) (x7 : FVec F S256x128 .f32) (x9 x10 : FVec F S128x4096 .f32) (x11 x12 : FVec F S4096x128 .bf16)
    (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ owns (c : Thread nD τ) arg9 fullShare x9 ∗ owns (c : Thread nD τ) arg10 fullShare x10
        ∗ owns (c : Thread nD τ) arg11 fullShare x11 ∗ owns (c : Thread nD τ) arg12 fullShare x12
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (dqOut (point x3 x6 x7 x4 x5 (i 2).val (if (i 2).val = 0 then zero4096 else x9) (if (i 2).val = 0 then zero4096 else x10)))
            ∗ owns (c : Thread nD τ) arg9 fullShare (point x3 x6 x7 x4 x5 (i 2).val (if (i 2).val = 0 then zero4096 else x9) (if (i 2).val = 0 then zero4096 else x10)).dk
            ∗ owns (c : Thread nD τ) arg10 fullShare (point x3 x6 x7 x4 x5 (i 2).val (if (i 2).val = 0 then zero4096 else x9) (if (i 2).val = 0 then zero4096 else x10)).dv
            ∗ owns (c : Thread nD τ) arg11 fullShare (if (i 2).val = 15 then tokenMajor (point x3 x6 x7 x4 x5 (i 2).val (if (i 2).val = 0 then zero4096 else x9) (if (i 2).val = 0 then zero4096 else x10)).dk else x11)
            ∗ owns (c : Thread nD τ) arg12 fullShare (if (i 2).val = 15 then tokenMajor (point x3 x6 x7 x4 x5 (i 2).val (if (i 2).val = 0 then zero4096 else x9) (if (i 2).val = 0 then zero4096 else x10)).dv else x12)) -∗ K ⟨⟩))
      ⊢ wp frame (wpE (defs₀ (F := F)) Variants.none (c : Thread nD τ) none) Set.univ (cc0_sb_bwd_3 i arg3 harg3 arg4 harg4 arg5 harg5 arg6 harg6 arg7 harg7 arg8 harg8 arg9 harg9 arg10 harg10 arg11 harg11 arg12 harg12) K := by
  have hi : (i 2).val < 16 := (i 2).isLt
  have hc1 := Off.cond1 i
  have hc2 := Off.cond2 i
  have hc3 := Off.cond3 i
  simp only [cc0_sb_bwd_3_eq_skeleton]
  unfold cc0_sb_bwd_3_skel
  generalize hT : k0_part15 (F := F) i arg3 harg3 arg4 harg4 arg5 harg5 arg6 harg6 arg7 harg7 arg8 harg8 arg9 harg9 arg10 harg10 arg11 harg11 arg12 harg12 = T
  simp only [k0_part20_eq_skeleton, k0_part21_eq_skeleton, k0_part9_eq_skeleton, k0_part10_eq_skeleton, k0_part11_eq_skeleton, k0_part12_eq_skeleton, k0_part13_eq_skeleton, k0_part14_eq_skeleton]
  unfold k0_part20_skel k0_part21_skel k0_part9_skel k0_part10_skel k0_part11_skel k0_part12_skel k0_part13_skel k0_part14_skel owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
  subst hf3 hf4 hf5 hf6 hf7 hf9 hf10 hf11 hf12
  have r3 : View.readAt (Elt F) arg3.view (Rect.unit (s := S256x128) ![0, 0] S256x128.size inb_S256x128_S256x128_0_0).toLoadRect f3 = arg3.view.read (Elt F) f3 := View.readAt_full _ _ _
  have r6 : View.readAt (Elt F) arg6.view (Rect.unit (s := S256x128) ![0, 0] S256x128.size inb_S256x128_S256x128_0_0).toLoadRect f6 = arg6.view.read (Elt F) f6 := View.readAt_full _ _ _
  have r7 : View.readAt (Elt F) arg7.view (Rect.unit (s := S256x128) ![0, 0] S256x128.size inb_S256x128_S256x128_0_0).toLoadRect f7 = arg7.view.read (Elt F) f7 := View.readAt_full _ _ _
  unfold point sweep
  generalize hD9 : (if (i 2).val = 0 then zero4096 else arg9.view.read (Elt F) f9) = D9
  generalize hD10 : (if (i 2).val = 0 then zero4096 else arg10.view.read (Elt F) f10) = D10
  by_cases h0 : (i 2).val = 0
  all_goals
    first
      | have hc1 := hc1.mpr h0
      | have hc1 := fun h => h0 (hc1.mp h)
    sl_exec (disch := sl_exact hc1)
    simp only [bind_assoc, pure_bind, r3, r6, r7]
    sl_for (inv c arg4 arg5 arg9 arg10 (heads (arg3.view.read (Elt F) f3) (arg6.view.read (Elt F) f6) (arg7.view.read (Elt F) f7)) f4 f5 ⟨car0, car0, D9, D10⟩) $$ [H4 H5 H9 H10]
    case region =>
      intro k a
      exact trip_step c i arg3 harg3 arg4 harg4 arg5 harg5 arg6 harg6 arg7 harg7 arg8 harg8 arg9 harg9 arg10 harg10 arg11 harg11 arg12 harg12 _ _ _ _ _ _ _ _ _ _ _ f4 f5 _ k a
    · unfold inv
      isplitl [H4]; · iexact H4
      isplitl [H5]; · iexact H5
      isplitl [H9]
      · iexists _; isplitl [H9]; · iexact H9
        ipureintro
        first
          | exact (if_neg h0).symm.trans hD9
          | exact (View.read_writes_full _ _ _ _ _).trans ((if_pos h0).symm.trans hD9)
      isplitl [H10]
      · iexists _; isplitl [H10]; · iexact H10
        ipureintro
        first
          | exact (if_neg h0).symm.trans hD10
          | exact (View.read_writes_full _ _ _ _ _).trans ((if_pos h0).symm.trans hD10)
      ipureintro; sl_kernel_rfl
    iintro %a HI
    unfold inv
    icases HI with ⟨H4, H5, ⟨%g9, H9, %hg9⟩, ⟨%g10, H10, %hg10⟩, %ha⟩
    rw [show Scf.trips (k0_t1_loop i).lb (k0_t1_loop i).ub (k0_t1_loop i).st = (i 2).val / 2 from Off.trips1 i] at hg9 hg10 ha
    by_cases he : (i 2).val % 2 = 0
    · have hc2 := hc2.mpr he
      have hl : ¬ (i 2).val = 15 := by omega
      have hc3 : ¬ k0_cond3 i = 1#1 := fun h => hl (hc3.mp h)
      rw [show 2 * ((i 2).val / 2) = (i 2).val from by omega] at hg9 hg10 ha
      simp only [if_neg hl]
      generalize tiles (heads (arg3.view.read (Elt F) f3) (arg6.view.read (Elt F) f6) (arg7.view.read (Elt F) f7)) (arg4.view.read (Elt F) f4) (arg5.view.read (Elt F) f5) ⟨car0, car0, D9, D10⟩ (i 2).val = u at hg9 hg10 ha ⊢
      subst ha
      sl_exec (disch := first | sl_exact hc2 | sl_exact hc3)
      sl_step
      have rk : View.readAt (Elt F) arg4.view (Rect.unit (s := S4096x128) (k0_off5 i) S256x128.size (k0_off5_inb i hc2)).toLoadRect f4 = rows (arg4.view.read (Elt F) f4) (i 2).val :=
        (View.readAt_unit arg4.view f4 (k0_off5_inb i hc2) rfl _).trans (rows_window (arg4.view.read (Elt F) f4) _ hi (Off.off5 i) (k0_off5_inb i hc2))
      have rv : View.readAt (Elt F) arg5.view (Rect.unit (s := S4096x128) (k0_off5 i) S256x128.size (k0_off5_inb i hc2)).toLoadRect f5 = rows (arg5.view.read (Elt F) f5) (i 2).val :=
        (View.readAt_unit arg5.view f5 (k0_off5_inb i hc2) rfl _).trans (rows_window (arg5.view.read (Elt F) f5) _ hi (Off.off5 i) (k0_off5_inb i hc2))
      have r9 : View.readAt (Elt F) arg9.view (Rect.unit (s := S128x4096) (k0_off6 i) S128x256.size (k0_off6_inb i hc2)).toLoadRect g9 = cols (arg9.view.read (Elt F) g9) (i 2).val :=
        (View.readAt_unit arg9.view g9 (k0_off6_inb i hc2) rfl _).trans (cols_window (arg9.view.read (Elt F) g9) _ hi (Off.off6 i) (k0_off6_inb i hc2))
      have r10 : View.readAt (Elt F) arg10.view (Rect.unit (s := S128x4096) (k0_off6 i) S128x256.size (k0_off6_inb i hc2)).toLoadRect g10 = cols (arg10.view.read (Elt F) g10) (i 2).val :=
        (View.readAt_unit arg10.view g10 (k0_off6_inb i hc2) rfl _).trans (cols_window (arg10.view.read (Elt F) g10) _ hi (Off.off6 i) (k0_off6_inb i hc2))
      rw [hg9] at r9
      rw [hg10] at r10
      dsimp only at rk rv r9 r10 ⊢
      iapply Hk
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro
        rw [View.read_writes_full]
        sl_unfold_run_names
        simp only [rk, rv]
        sl_kernel_rfl
      isplitl [H9]
      · iexists _; isplitr; swap; · iexact H9
        ipureintro
        rw [View.read_writes_cons_put _ _ _ _ _ (Off.off6 i), View.writes_nil, hg9]
        sl_unfold_run_names
        dsimp only
        simp only [rk, rv, r9]
        sl_kernel_rfl
      isplitl [H10]
      · iexists _; isplitr; swap; · iexact H10
        ipureintro
        rw [View.read_writes_cons_put _ _ _ _ _ (Off.off6 i), View.writes_nil, hg10]
        sl_unfold_run_names
        dsimp only
        simp only [rk, rv, r10]
        sl_kernel_rfl
      isplitl [H11]
      · iexists _; isplitr; swap; · iexact H11
        ipureintro; rfl
      iexists _; isplitr; swap; · iexact H12
      ipureintro; rfl
    · first
      | exact absurd (by rw [h0]) he
      |
        have hc2 : ¬ k0_cond2 i = 1#1 := fun h => he (hc2.mp h)
        haveI hpos : Fact (0 < (i 2).val) := ⟨by omega⟩
        obtain ⟨j, hj⟩ : ∃ j, (i 2).val = j + 1 := ⟨(i 2).val - 1, by omega⟩
        have hj16 : j < 16 := by omega
        have o7 : k0_off7 i = ![256 * j, 0] := (Off.off7 i).trans (by rw [hj]; rfl)
        have o9 : k0_off9 i = ![0, 256 * j] := (Off.off9 i).trans (by rw [hj]; rfl)
        rw [show 2 * ((i 2).val / 2) = j from by omega] at hg9 hg10 ha
        rw [show tiles (heads (arg3.view.read (Elt F) f3) (arg6.view.read (Elt F) f6) (arg7.view.read (Elt F) f7)) (arg4.view.read (Elt F) f4) (arg5.view.read (Elt F) f5) ⟨car0, car0, D9, D10⟩ (i 2).val
          = tile false (heads (arg3.view.read (Elt F) f3) (arg6.view.read (Elt F) f6) (arg7.view.read (Elt F) f7)) (arg4.view.read (Elt F) f4) (arg5.view.read (Elt F) f5) j
            (tiles (heads (arg3.view.read (Elt F) f3) (arg6.view.read (Elt F) f6) (arg7.view.read (Elt F) f7)) (arg4.view.read (Elt F) f4) (arg5.view.read (Elt F) f5) ⟨car0, car0, D9, D10⟩ j) from by rw [hj]; rfl]
        generalize tiles (heads (arg3.view.read (Elt F) f3) (arg6.view.read (Elt F) f6) (arg7.view.read (Elt F) f7)) (arg4.view.read (Elt F) f4) (arg5.view.read (Elt F) f5) ⟨car0, car0, D9, D10⟩ j = u at hg9 hg10 ha ⊢
        subst ha
        by_cases hl : (i 2).val = 15
        all_goals
          first
            | have hc3 := hc3.mpr hl
            | have hc3 := fun h => hl (hc3.mp h)
          sl_exec (disch := first | sl_exact hc2 | sl_exact hc3)
          generalize hP : tile true (heads (arg3.view.read (Elt F) f3) (arg6.view.read (Elt F) f6) (arg7.view.read (Elt F) f7)) (arg4.view.read (Elt F) f4) (arg5.view.read (Elt F) f5) (i 2).val _ = PT
          have rk0 : View.readAt (Elt F) arg4.view (Rect.unit (s := S4096x128) (k0_off7 i) S256x128.size (k0_off7_inb i hc2)).toLoadRect f4 = rows (arg4.view.read (Elt F) f4) j :=
            (View.readAt_unit arg4.view f4 (k0_off7_inb i hc2) rfl _).trans (rows_window (arg4.view.read (Elt F) f4) _ hj16 o7 (k0_off7_inb i hc2))
          have rv0 : View.readAt (Elt F) arg5.view (Rect.unit (s := S4096x128) (k0_off7 i) S256x128.size (k0_off7_inb i hc2)).toLoadRect f5 = rows (arg5.view.read (Elt F) f5) j :=
            (View.readAt_unit arg5.view f5 (k0_off7_inb i hc2) rfl _).trans (rows_window (arg5.view.read (Elt F) f5) _ hj16 o7 (k0_off7_inb i hc2))
          have rk1 : View.readAt (Elt F) arg4.view (Rect.unit (s := S4096x128) (k0_off8 i) S256x128.size (k0_off8_inb i hc2)).toLoadRect f4 = rows (arg4.view.read (Elt F) f4) (i 2).val :=
            (View.readAt_unit arg4.view f4 (k0_off8_inb i hc2) rfl _).trans (rows_window (arg4.view.read (Elt F) f4) _ hi (Off.off8 i) (k0_off8_inb i hc2))
          have rv1 : View.readAt (Elt F) arg5.view (Rect.unit (s := S4096x128) (k0_off8 i) S256x128.size (k0_off8_inb i hc2)).toLoadRect f5 = rows (arg5.view.read (Elt F) f5) (i 2).val :=
            (View.readAt_unit arg5.view f5 (k0_off8_inb i hc2) rfl _).trans (rows_window (arg5.view.read (Elt F) f5) _ hi (Off.off8 i) (k0_off8_inb i hc2))
          have r90 : View.readAt (Elt F) arg9.view (Rect.unit (s := S128x4096) (k0_off9 i) S128x256.size (k0_off9_inb i hc2)).toLoadRect g9 = cols (arg9.view.read (Elt F) g9) j :=
            (View.readAt_unit arg9.view g9 (k0_off9_inb i hc2) rfl _).trans (cols_window (arg9.view.read (Elt F) g9) _ hj16 o9 (k0_off9_inb i hc2))
          have r91 : View.readAt (Elt F) arg9.view (Rect.unit (s := S128x4096) (k0_off10 i) S128x256.size (k0_off10_inb i hc2)).toLoadRect g9 = cols (arg9.view.read (Elt F) g9) (i 2).val :=
            (View.readAt_unit arg9.view g9 (k0_off10_inb i hc2) rfl _).trans (cols_window (arg9.view.read (Elt F) g9) _ hi (Off.off10 i) (k0_off10_inb i hc2))
          have r100 : View.readAt (Elt F) arg10.view (Rect.unit (s := S128x4096) (k0_off9 i) S128x256.size (k0_off9_inb i hc2)).toLoadRect g10 = cols (arg10.view.read (Elt F) g10) j :=
            (View.readAt_unit arg10.view g10 (k0_off9_inb i hc2) rfl _).trans (cols_window (arg10.view.read (Elt F) g10) _ hj16 o9 (k0_off9_inb i hc2))
          have r101 : View.readAt (Elt F) arg10.view (Rect.unit (s := S128x4096) (k0_off10 i) S128x256.size (k0_off10_inb i hc2)).toLoadRect g10 = cols (arg10.view.read (Elt F) g10) (i 2).val :=
            (View.readAt_unit arg10.view g10 (k0_off10_inb i hc2) rfl _).trans (cols_window (arg10.view.read (Elt F) g10) _ hi (Off.off10 i) (k0_off10_inb i hc2))
          rw [hg9] at r90 r91
          rw [hg10] at r100 r101
          ihave H9 : iprop(∃ q9, (arg9.view.loc (c : Thread nD τ) ↦[arg9.view.set]{fullShare} q9) ∗ ⌜arg9.view.read (Elt F) q9 = PT.dk⌝) $$ [H9]
          · iexists _; isplitl [H9]; · iexact H9
            ipureintro
            subst hP
            sl_unfold_run_names
            rw [View.read_writes_cons_put _ _ _ _ _ (Off.off10 i), View.read_writes_cons_put _ _ _ _ _ o9, View.writes_nil, hg9]
            dsimp only
            simp only [rk0, rk1, rv0, rv1, r90, r91]
            show setCols (setCols _ j _) (i 2).val _ = setCols (setCols _ j _) (i 2).val _
            refine congrArg₂ (fun a b => setCols a (i 2).val b) (congrArg (setCols _ j) ?_) ?_
            · sl_kernel_rfl
            rw [show ∀ (x y : FVec F S128x256 .bf16) (a b : FVec F S256x256 .bf16) (o : FVec F S128x256 .f32), k0_pay6 x y a b o = accOf o x y a b from fun _ _ _ _ _ => rfl]
            show accOf _ _ _ _ _ = accOf (cols (setCols _ j _) (i 2).val) _ _ _ _
            refine acc_congr (((load_past arg9 g9 _ j (i 2).val hj16 hi (by omega) o9 (Off.off10 i) _ _).trans (congrArg (fun x => cols x (i 2).val) hg9)).trans (cols_setCols_ne _ j (i 2).val hj16 hi (by omega) _).symm) ?_ ?_
            · sl_kernel_rfl
            · sl_kernel_rfl
          ihave H10 : iprop(∃ q10, (arg10.view.loc (c : Thread nD τ) ↦[arg10.view.set]{fullShare} q10) ∗ ⌜arg10.view.read (Elt F) q10 = PT.dv⌝) $$ [H10]
          · iexists _; isplitl [H10]; · iexact H10
            ipureintro
            subst hP
            sl_unfold_run_names
            rw [View.read_writes_cons_put _ _ _ _ _ (Off.off10 i), View.read_writes_cons_put _ _ _ _ _ o9, View.writes_nil, hg10]
            dsimp only
            simp only [rk0, rk1, rv0, rv1, r100, r101]
            show setCols (setCols _ j _) (i 2).val _ = setCols (setCols _ j _) (i 2).val _
            refine congrArg₂ (fun a b => setCols a (i 2).val b) (congrArg (setCols _ j) ?_) ?_
            · sl_kernel_rfl
            rw [show ∀ (x y : FVec F S128x256 .bf16) (a b : FVec F S256x256 .f32) (o : FVec F S128x256 .f32), k0_pay7 x y a b o = accOf o x y (truncf .bf16 a bitsLt_bf16_f32) (truncf .bf16 b bitsLt_bf16_f32) from fun _ _ _ _ _ => rfl]
            show accOf _ _ _ _ _ = accOf (cols (setCols _ j _) (i 2).val) _ _ _ _
            refine acc_congr (((load_past arg10 g10 _ j (i 2).val hj16 hi (by omega) o9 (Off.off10 i) _ _).trans (congrArg (fun x => cols x (i 2).val) hg10)).trans (cols_setCols_ne _ j (i 2).val hj16 hi (by omega) _).symm) ?_ ?_
            · sl_kernel_rfl
            · sl_kernel_rfl
          ihave H8 : iprop(∃ q8, (arg8.view.loc (c : Thread nD τ) ↦[arg8.view.set]{fullShare} q8) ∗ ⌜arg8.view.read (Elt F) q8 = dqOut PT⌝) $$ [H8]
          · iexists _; isplitl [H8]; · iexact H8
            ipureintro
            subst hP
            rw [View.read_writes_full]
            sl_unfold_run_names
            simp only [rk0, rk1, rv0, rv1]
            sl_kernel_rfl
          clear hP
          icases H8 with ⟨%q8, H8, %hq8⟩
          icases H9 with ⟨%q9, H9, %hq9⟩
          icases H10 with ⟨%q10, H10, %hq10⟩
        · subst hT
          simp only [if_pos hl]
          iapply (run_copy c i arg3 harg3 arg4 harg4 arg5 harg5 arg6 harg6 arg7 harg7 arg8 harg8 arg9 harg9 arg10 harg10 arg11 harg11 arg12 harg12 q9 q10 f11 f12)
          isplitl [H9]; · iexact H9
          isplitl [H10]; · iexact H10
          isplitl [H11]; · iexact H11
          isplitl [H12]; · iexact H12
          iintro ⟨H9, H10, H11, H12⟩
          rw [hq9, hq10]
          iapply Hk
          isplitl [H3]
          · iexists _; isplitr; swap; · iexact H3
            ipureintro; rfl
          isplitl [H4]
          · iexists _; isplitr; swap; · iexact H4
            ipureintro; rfl
          isplitl [H5]
          · iexists _; isplitr; swap; · iexact H5
            ipureintro; rfl
          isplitl [H6]
          · iexists _; isplitr; swap; · iexact H6
            ipureintro; rfl
          isplitl [H7]
          · iexists _; isplitr; swap; · iexact H7
            ipureintro; rfl
          isplitl [H8]
          · iexists _; isplitr; swap; · iexact H8
            ipureintro; exact hq8
          isplitl [H9]
          · iexists _; isplitr; swap; · iexact H9
            ipureintro; exact hq9
          isplitl [H10]
          · iexists _; isplitr; swap; · iexact H10
            ipureintro; exact hq10
          unfold owns
          isplitl [H11]; · iexact H11
          iexact H12
        · sl_step
          simp only [if_neg hl]
          iapply Hk
          isplitl [H3]
          · iexists _; isplitr; swap; · iexact H3
            ipureintro; rfl
          isplitl [H4]
          · iexists _; isplitr; swap; · iexact H4
            ipureintro; rfl
          isplitl [H5]
          · iexists _; isplitr; swap; · iexact H5
            ipureintro; rfl
          isplitl [H6]
          · iexists _; isplitr; swap; · iexact H6
            ipureintro; rfl
          isplitl [H7]
          · iexists _; isplitr; swap; · iexact H7
            ipureintro; rfl
          isplitl [H8]
          · iexists _; isplitr; swap; · iexact H8
            ipureintro; exact hq8
          isplitl [H9]
          · iexists _; isplitr; swap; · iexact H9
            ipureintro; exact hq9
          isplitl [H10]
          · iexists _; isplitr; swap; · iexact H10
            ipureintro; exact hq10
          isplitl [H11]
          · iexists _; isplitr; swap; · iexact H11
            ipureintro; rfl
          iexists _; isplitr; swap; · iexact H12
          ipureintro; rfl

end Cert.SbKernelIdeal.Tile

end
-- ==== Proof.SbFrame.lean ====
/- The stick-breaking backward kernel's run: what its buffers hold point by point, and the frame. -/
module

public import proofs.«01_k».proof.Proof.SbBody
public import proofs.«01_k».proof.Proof.Gen.SbKernelIdeal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

namespace Cert.SbKernelIdeal.Tile

open Cert.SbKernelIdeal Cert.SbKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point's sweep over what stands in the key-side gradients' buffers. -/
def stAt (c : Dev nD) (t : Fin cfg0.N) (dk dv : FVec F S128x4096 .f32) : St F :=
  point (iblk m c 0 t) (iblk m c 3 t) (iblk m c 4 t) (iblk m c 1 t) (iblk m c 2 t) (t.val % 16) (if t.val % 16 = 0 then zero4096 else dk) (if t.val % 16 = 0 then zero4096 else dv)

/-- The sweep's state after point `n`. -/
def accAt (c : Dev nD) : (n : ℕ) → n < cfg0.N → St F
  | 0, h => stAt m c ⟨0, h⟩ zero4096 zero4096
  | n + 1, h => stAt m c ⟨n + 1, h⟩ (accAt c n (Nat.lt_of_succ_lt h)).dk (accAt c n (Nat.lt_of_succ_lt h)).dv

theorem accAt_first (c : Dev nD) (t : Fin cfg0.N) (h : t.val % 16 = 0) :
    accAt m c t.val t.isLt = point (iblk m c 0 t) (iblk m c 3 t) (iblk m c 4 t) (iblk m c 1 t) (iblk m c 2 t) (t.val % 16) zero4096 zero4096 := by
  obtain ⟨n, hn⟩ := t
  cases n with
  | zero => unfold accAt stAt; rfl
  | succ n => unfold accAt stAt; rw [if_pos h, if_pos h]

theorem accAt_next (c : Dev nD) (t : Fin cfg0.N) (h : ¬ t.val % 16 = 0) :
    accAt m c t.val t.isLt = point (iblk m c 0 t) (iblk m c 3 t) (iblk m c 4 t) (iblk m c 1 t) (iblk m c 2 t) (t.val % 16) (accAt m c (t.val - 1) (Nat.lt_of_le_of_lt (Nat.sub_le _ _) t.isLt)).dk (accAt m c (t.val - 1) (Nat.lt_of_le_of_lt (Nat.sub_le _ _) t.isLt)).dv := by
  obtain ⟨n, hn⟩ := t
  cases n with
  | zero => exact absurd (Nat.zero_mod _) h
  | succ n => rw [accAt]; unfold stAt; rw [if_neg h, if_neg h]; rfl

/-- The proof data: inputs at their blocks, outputs at the sweep's state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut (accAt m c t.val t.isLt)
    | ⟨6, _⟩ => (accAt m c t.val t.isLt).dk
    | ⟨7, _⟩ => (accAt m c t.val t.isLt).dv
    | ⟨8, _⟩ => tokenMajor (accAt m c t.val t.isLt).dk
    | ⟨9, _⟩ => tokenMajor (accAt m c t.val t.isLt).dv
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqOut (accAt m c t.val t.isLt) := by dsimp only [dats]
theorem after_6 (c : Dev nD) (t : Fin cfg0.N) : (dats m 0 c).after 6 t = (accAt m c t.val t.isLt).dk := by dsimp only [dats]
theorem after_7 (c : Dev nD) (t : Fin cfg0.N) : (dats m 0 c).after 7 t = (accAt m c t.val t.isLt).dv := by dsimp only [dats]
theorem after_8 (c : Dev nD) (t : Fin cfg0.N) : (dats m 0 c).after 8 t = tokenMajor (accAt m c t.val t.isLt).dk := by dsimp only [dats]
theorem after_9 (c : Dev nD) (t : Fin cfg0.N) : (dats m 0 c).after 9 t = tokenMajor (accAt m c t.val t.isLt).dv := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- Past a row of points' first, the buffer holds what the point before left. -/
theorem before_6 (c : Dev nD) (t : Fin cfg0.N) (h : ¬ t.val % 16 = 0) (d) :
    (dats m 0 c).before 6 t d = (accAt m c (t.val - 1) (Nat.lt_of_le_of_lt (Nat.sub_le _ _) t.isLt)).dk := by
  have hN : t.val < 256 := lt_of_lt_of_eq t.isLt (show cfg0.N = 256 from N_0)
  rw [Dat.before_out_kept _ 6 rfl t (by omega) (Bool.eq_false_iff.mpr fun hf => by have := (flush0_6 _).mp hf; dsimp only at this; omega)
    (fun _ => rfl) (fun _ _ => rfl)]
  dsimp only [dats]

/-- Past a row of points' first, the buffer holds what the point before left. -/
theorem before_7 (c : Dev nD) (t : Fin cfg0.N) (h : ¬ t.val % 16 = 0) (d) :
    (dats m 0 c).before 7 t d = (accAt m c (t.val - 1) (Nat.lt_of_le_of_lt (Nat.sub_le _ _) t.isLt)).dv := by
  have hN : t.val < 256 := lt_of_lt_of_eq t.isLt (show cfg0.N = 256 from N_0)
  rw [Dat.before_out_kept _ 7 rfl t (by omega) (Bool.eq_false_iff.mpr fun hf => by have := (flush0_7 _).mp hf; dsimp only at this; omega)
    (fun _ => rfl) (fun _ _ => rfl)]
  dsimp only [dats]

/-- A point's place in its row. -/
theorem coord_2 : ∀ t : Fin cfg0.N, (grid0.coords t 2).val = t.val % 16 :=
  (by decide +kernel : ∀ t : Fin grid0.N, (grid0.coords t 2).val = t.val % 16)

theorem idle_8 (t : Fin cfg0.N) (h : ¬ t.val % 16 = 15) : cfg0.idle 8 (cfg0.grid.coords t) = true := by
  have hc : ¬ k0_cond3 (grid0.coords t) = 1#1 := fun hh => h (((coord_2 t).symm.trans ((Off.cond3 _).mp hh)))
  show (!(k0_cond3 (grid0.coords t) == 1#1)) = true
  rw [Bool.not_eq_true', beq_eq_false_iff_ne]; exact hc
theorem live_8 (t : Fin cfg0.N) (h : t.val % 16 = 15) : cfg0.idle 8 (cfg0.grid.coords t) = false := by
  have hc : k0_cond3 (grid0.coords t) = 1#1 := (Off.cond3 _).mpr ((coord_2 t).trans h)
  show (!(k0_cond3 (grid0.coords t) == 1#1)) = false
  rw [hc]; rfl
/-- What the body must leave in output 8's buffer: the sums token-major at a row's last point, before that what it found. -/
theorem leaves_8_idle (c : Dev nD) (t : Fin cfg0.N) (h : ¬ t.val % 16 = 15) :
    (dats m 0 c).leavesExact 8 t = iprop(∃ d, owns (c : Thread nD τ) (st0_8 t) fullShare ((dats m 0 c).before 8 t d)) :=
  Dat.leavesExact_idle _ 8 t (idle_8 t h) (Bool.eq_false_iff.mpr fun hf => h ((flush0_8 t).mp hf))
theorem leaves_8_live (c : Dev nD) (t : Fin cfg0.N) (h : t.val % 16 = 15) :
    (dats m 0 c).leavesExact 8 t = owns (c : Thread nD τ) (st0_8 t) fullShare ((dats m 0 c).after 8 t) := by
  unfold Dat.leavesExact; rw [live_8 t h]

theorem idle_9 (t : Fin cfg0.N) (h : ¬ t.val % 16 = 15) : cfg0.idle 9 (cfg0.grid.coords t) = true := by
  have hc : ¬ k0_cond3 (grid0.coords t) = 1#1 := fun hh => h (((coord_2 t).symm.trans ((Off.cond3 _).mp hh)))
  show (!(k0_cond3 (grid0.coords t) == 1#1)) = true
  rw [Bool.not_eq_true', beq_eq_false_iff_ne]; exact hc
theorem live_9 (t : Fin cfg0.N) (h : t.val % 16 = 15) : cfg0.idle 9 (cfg0.grid.coords t) = false := by
  have hc : k0_cond3 (grid0.coords t) = 1#1 := (Off.cond3 _).mpr ((coord_2 t).trans h)
  show (!(k0_cond3 (grid0.coords t) == 1#1)) = false
  rw [hc]; rfl
/-- What the body must leave in output 9's buffer: the sums token-major at a row's last point, before that what it found. -/
theorem leaves_9_idle (c : Dev nD) (t : Fin cfg0.N) (h : ¬ t.val % 16 = 15) :
    (dats m 0 c).leavesExact 9 t = iprop(∃ d, owns (c : Thread nD τ) (st0_9 t) fullShare ((dats m 0 c).before 9 t d)) :=
  Dat.leavesExact_idle _ 9 t (idle_9 t h) (Bool.eq_false_iff.mpr fun hf => h ((flush0_9 t).mp hf))
theorem leaves_9_live (c : Dev nD) (t : Fin cfg0.N) (h : t.val % 16 = 15) :
    (dats m 0 c).leavesExact 9 t = owns (c : Thread nD τ) (st0_9 t) fullShare ((dats m 0 c).after 9 t) := by
  unfold Dat.leavesExact; rw [live_9 t h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t ∗ (dats m 0 c).leavesExact 9 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  have ec := coord_2 t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hP : point (iblk m c 0 t) (iblk m c 3 t) (iblk m c 4 t) (iblk m c 1 t) (iblk m c 2 t) (t.val % 16) (if t.val % 16 = 0 then zero4096 else (dats m 0 c).before 6 t d6) (if t.val % 16 = 0 then zero4096 else (dats m 0 c).before 7 t d7)
      = accAt m c t.val t.isLt := by
    by_cases h0 : t.val % 16 = 0
    · rw [accAt_first m c t h0, if_pos h0, if_pos h0]
    · rw [accAt_next m c t h0, if_neg h0, if_neg h0, before_6 m c t h0, before_7 m c t h0]
  iapply (run_body c (grid0.coords t) (st0_0 t) _ (st0_1 t) _ (st0_2 t) _ (st0_3 t) _ (st0_4 t) _ (st0_5 t) _ (st0_6 t) _ (st0_7 t) _ (st0_8 t) _ (st0_9 t) _ (iblk m c 0 t) (iblk m c 1 t) (iblk m c 2 t) (iblk m c 3 t) (iblk m c 4 t)
    ((dats m 0 c).before 6 t d6) ((dats m 0 c).before 7 t d7) ((dats m 0 c).before 8 t d8) ((dats m 0 c).before 9 t d9) _)
  rw [ec, hP]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases hl : t.val % 16 = 15
  · rw [leaves_8_live m c t hl, leaves_9_live m c t hl, if_pos hl, if_pos hl, after_8, after_9]
    isplitl [H8]; · iexact H8
    iexact H9
  · rw [leaves_8_idle m c t hl, leaves_9_idle m c t hl, if_neg hl, if_neg hl]
    isplitl [H8]
    · iexists _; iexact H8
    iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.SbKernelIdeal.Tile

end
-- ==== Proof.SbEntry.lean ====
/- What the stick-breaking backward kernel's region finds in the arrays its host lines prepare. -/
module

public import proofs.«01_k».proof.Proof.SbFrame
public import Idealize.ShloMosaic.Lib.Pipeline.ValueKit

@[expose] public section

set_option maxRecDepth 16384

noncomputable section

open Idealize.ShloMosaic Idealize.ShloMosaic.TcCoe Idealize.SL.Sem

namespace Cert.SbKernelIdeal.Tile

open Cert.SbKernelIdeal Cert.SbKernelIdeal.Gen

variable (m : (ℓ : Loc nD τ sig) → Buf (Elt Ideal) ℓ)

theorem V_v0 (c : Dev nD) : V m c main_v0 = shapeCast S8192x3072 (m ((c : Thread nD τ).loc main_arg0)) shapeCasts_S2x4096x3072_S8192x3072 := by
  simp only [V, hostOps0, hostOps0_1, hostOps0_2, hostOps0_3, hostOps0_4, List.flatten_cons, List.flatten_nil, List.append_nil, List.cons_append, List.nil_append]
  after_results_simp
  try rfl

theorem V_v26 (c : Dev nD) : V m c main_v26 = shapeCast S8192x1024 (m ((c : Thread nD τ).loc main_arg1)) shapeCasts_S2x4096x1024_S8192x1024 := by
  simp only [V, hostOps0, hostOps0_1, hostOps0_2, hostOps0_3, hostOps0_4, List.flatten_cons, List.flatten_nil, List.append_nil, List.cons_append, List.nil_append]
  after_results_simp
  try rfl

/-- The heads' queries and keys, as the host lines cut them from the rows. -/
def hostQ (x : FVec Ideal S2x4096x3072 .bf16) : FVec Ideal S2x4096x16x64 .f32 :=
  shapeCast S2x4096x16x64 (extractStridedSlice S2x4096x1024 ![0, 0, 0] (extf .f32 x bitsLt_bf16_f32) slices_S2x4096x3072_S2x4096x1024_0_0_0) shapeCasts_S2x4096x1024_S2x4096x16x64

def hostK (x : FVec Ideal S2x4096x3072 .bf16) : FVec Ideal S2x4096x16x64 .f32 :=
  shapeCast S2x4096x16x64 (extractStridedSlice S2x4096x1024 ![0, 0, 1024] (extf .f32 x bitsLt_bf16_f32) slices_S2x4096x3072_S2x4096x1024_0_0_1024) shapeCasts_S2x4096x1024_S2x4096x16x64

/-- The scores. -/
def hostZ (x : FVec Ideal S2x4096x3072 .bf16) : FVec Ideal S2x16x4096x4096 .f32 :=
  mulf (Host.dotGeneral (F := Ideal) dot_S2x4096x16x64_S2x4096x16x64_S2x16x4096x4096_3_3_1_1_02_02 none (hostQ x) (hostK x)) (broadcastInDim S2x16x4096x4096 ![] bcast_S_S2x16x4096x4096 (constant S_ .f32 0x3E000000#32))

/-- The soft plus, as JAX writes it. -/
def hostSp (y : FVec Ideal S2x16x4096x4096 .f32) : FVec Ideal S2x16x4096x4096 .f32 :=
  select (cmpf .une (subf y (broadcastInDim S2x16x4096x4096 ![] bcast_S_S2x16x4096x4096 (constant (F := Ideal) S_ .f32 0x00000000#32))) (subf y (broadcastInDim S2x16x4096x4096 ![] bcast_S_S2x16x4096x4096 (constant S_ .f32 0x00000000#32))))
    (addf y (broadcastInDim S2x16x4096x4096 ![] bcast_S_S2x16x4096x4096 (constant S_ .f32 0x00000000#32)))
    (addf (maximumf y (broadcastInDim S2x16x4096x4096 ![] bcast_S_S2x16x4096x4096 (constant S_ .f32 0x00000000#32)))
      (Host.log1p (Host.exp (Host.negf (Host.absf (subf y (broadcastInDim S2x16x4096x4096 ![] bcast_S_S2x16x4096x4096 (constant S_ .f32 0x00000000#32))))))))

/-- The logarithms of the gates kept, zero on the keys a query does not see. -/
def hostL (x : FVec Ideal S2x4096x3072 .bf16) : FVec Ideal S2x16x4096x4096 .f32 :=
  select (broadcastInDim S2x16x4096x4096 ![2, 3] bcast_S4096x4096_S2x16x4096x4096_2_3
      (cmpi .slt (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (Host.negf (hostSp (Host.negf (Host.negf (hostZ x)))))
    (broadcastInDim S2x16x4096x4096 ![] bcast_S_S2x16x4096x4096 (constant S_ .f32 0x00000000#32))

/-- Their row sums, per head. -/
def hostTot (x : FVec Ideal S2x4096x3072 .bf16) : FVec Ideal S2x16x4096 .f32 :=
  Host.reduceAdd (F := Ideal) (hostL x) (constant S_ .f32 0x00000000#32) reducesTo_S2x16x4096x4096_S2x16x4096_d3 h_S_

set_option maxHeartbeats 1000000 in
theorem V_v25 (c : Dev nD) : V m c main_v25 = shapeCast S8192x1024 (broadcastInDim S8192x16x64 ![0, 1] bcast_S8192x16_S8192x16x64_0_1
    (shapeCast S8192x16 (transpose S2x4096x16 [0, 2, 1] (hostTot (m ((c : Thread nD τ).loc main_arg0))) transposes_S2x16x4096_S2x4096x16_0_2_1) shapeCasts_S2x4096x16_S8192x16)) shapeCasts_S8192x16x64_S8192x1024 := by
  simp only [V, hostOps0, hostOps0_1, hostOps0_2, hostOps0_3, hostOps0_4, List.flatten_cons, List.flatten_nil, List.append_nil, List.cons_append, List.nil_append]
  after_results_simp
  unfold hostTot hostL hostSp hostZ hostQ hostK
  rfl

end Cert.SbKernelIdeal.Tile

end
-- ==== Proof.SbBlocks.lean ====
/- The stick-breaking backward kernel's blocks, at coordinates. -/
module

public import proofs.«01_k».proof.Proof.SbEntry
public import proofs.«01_k».proof.Proof.RealKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SbKernelIdeal.Tile

open Cert.SbKernelIdeal Cert.SbKernelIdeal.Gen

variable (m : (ℓ : Loc nD τ sig) → Buf (Elt Ideal) ℓ)

/-- Every window's block index, in the point's number. -/
theorem idx_val : ∀ t : Fin cfg0.N, win0_0.index t = ![t.val / 128 * 16 + t.val % 16, t.val / 16 % 8]
    ∧ win0_1.index t = ![t.val / 128, 8 + t.val / 16 % 8]
    ∧ win0_2.index t = ![t.val / 128, 16 + t.val / 16 % 8]
    ∧ win0_3.index t = ![t.val / 128 * 16 + t.val % 16, t.val / 16 % 8]
    ∧ win0_4.index t = ![t.val / 128 * 16 + t.val % 16, t.val / 16 % 8]
    ∧ win0_5.index t = ![t.val / 128 * 16 + t.val % 16, t.val / 16 % 8]
    ∧ win0_6.index t = ![t.val / 16, 0]
    ∧ win0_7.index t = ![t.val / 16, 0]
    ∧ win0_8.index t = ![t.val / 128, t.val / 16 % 8]
    ∧ win0_9.index t = ![t.val / 128, t.val / 16 % 8] :=
  (by decide +kernel : ∀ t : Fin grid0.N, _)

theorem lt_N (t : Fin cfg0.N) : t.val < 256 := t.isLt

/-- A row of the flat array, by sample and position. -/
theorem flat_q (x : FVec Ideal S2x4096x3072 .bf16) (r : Fin 8192) (j : Fin 3072) :
    shapeCast S8192x3072 x shapeCasts_S2x4096x3072_S8192x3072 (ix2 r j) = x (ix3 (⟨r.val / 4096, by omega⟩ : Fin 2) (⟨r.val % 4096, by omega⟩ : Fin 4096) j) := by
  pointwise

theorem flat_o (x : FVec Ideal S2x4096x1024 .bf16) (r : Fin 8192) (j : Fin 1024) :
    shapeCast S8192x1024 x shapeCasts_S2x4096x1024_S8192x1024 (ix2 r j) = x (ix3 (⟨r.val / 4096, by omega⟩ : Fin 2) (⟨r.val % 4096, by omega⟩ : Fin 4096) j) := by
  pointwise

/-- A head's number among rows by heads, spread over its lanes. -/
theorem flat_t (x : FVec Ideal S2x16x4096 .f32) (r : Fin 8192) (j : Fin 1024) :
    shapeCast S8192x1024 (broadcastInDim S8192x16x64 ![0, 1] bcast_S8192x16_S8192x16x64_0_1
      (shapeCast S8192x16 (transpose S2x4096x16 [0, 2, 1] x transposes_S2x16x4096_S2x4096x16_0_2_1) shapeCasts_S2x4096x16_S8192x16)) shapeCasts_S8192x16x64_S8192x1024 (ix2 r j)
      = x (ix3 (⟨r.val / 4096, by omega⟩ : Fin 2) (⟨j.val / 64, by omega⟩ : Fin 16) (⟨r.val % 4096, by omega⟩ : Fin 4096)) := by
  pointwise

/-- Where the queries' block sits. -/
theorem emb_0 (t : Fin cfg0.N) (a : Fin 256) (b : Fin 128) :
    ((cfg0.win 0).blk t).view.emb (ix2 a b) = (ix2 (⟨4096 * (t.val / 128) + 256 * (t.val % 16) + a.val, by have := lt_N t; omega⟩ : Fin 8192) (⟨128 * (t.val / 16 % 8) + b.val, by omega⟩ : Fin 3072) : S8192x3072.Idx) := by
  blk_ext [idx_val t]

/-- Where the keys' block sits. -/
theorem emb_1 (t : Fin cfg0.N) (a : Fin 4096) (b : Fin 128) :
    ((cfg0.win 1).blk t).view.emb (ix2 a b) = (ix2 (⟨4096 * (t.val / 128) + a.val, by have := lt_N t; omega⟩ : Fin 8192) (⟨1024 + 128 * (t.val / 16 % 8) + b.val, by omega⟩ : Fin 3072) : S8192x3072.Idx) := by
  blk_ext [idx_val t]

/-- Where the values' block sits. -/
theorem emb_2 (t : Fin cfg0.N) (a : Fin 4096) (b : Fin 128) :
    ((cfg0.win 2).blk t).view.emb (ix2 a b) = (ix2 (⟨4096 * (t.val / 128) + a.val, by have := lt_N t; omega⟩ : Fin 8192) (⟨2048 + 128 * (t.val / 16 % 8) + b.val, by omega⟩ : Fin 3072) : S8192x3072.Idx) := by
  blk_ext [idx_val t]

/-- Where the cotangent' block sits. -/
theorem emb_3 (t : Fin cfg0.N) (a : Fin 256) (b : Fin 128) :
    ((cfg0.win 3).blk t).view.emb (ix2 a b) = (ix2 (⟨4096 * (t.val / 128) + 256 * (t.val % 16) + a.val, by have := lt_N t; omega⟩ : Fin 8192) (⟨128 * (t.val / 16 % 8) + b.val, by omega⟩ : Fin 1024) : S8192x1024.Idx) := by
  blk_ext [idx_val t]

/-- Where the row sums' block sits. -/
theorem emb_4 (t : Fin cfg0.N) (a : Fin 256) (b : Fin 128) :
    ((cfg0.win 4).blk t).view.emb (ix2 a b) = (ix2 (⟨4096 * (t.val / 128) + 256 * (t.val % 16) + a.val, by have := lt_N t; omega⟩ : Fin 8192) (⟨128 * (t.val / 16 % 8) + b.val, by omega⟩ : Fin 1024) : S8192x1024.Idx) := by
  blk_ext [idx_val t]

/-- The queries' block. -/
theorem blk_0 (c : Dev nD) (t : Fin cfg0.N) (a : Fin 256) (b : Fin 128) :
    iblk m c 0 t (ix2 a b) = m ((c : Thread nD τ).loc main_arg0) (ix3 (⟨t.val / 128, by have := lt_N t; omega⟩ : Fin 2) (⟨256 * (t.val % 16) + a.val, by omega⟩ : Fin 4096) (⟨128 * (t.val / 16 % 8) + b.val, by omega⟩ : Fin 3072)) := by
  have hN := lt_N t
  show V m c main_v0 (((cfg0.win 0).blk t).view.emb (ix2 a b)) = _
  rw [V_v0, emb_0, flat_q]
  congr 1; congr 1 <;> (apply Fin.ext; dsimp only; omega)

/-- The keys' block. -/
theorem blk_1 (c : Dev nD) (t : Fin cfg0.N) (a : Fin 4096) (b : Fin 128) :
    iblk m c 1 t (ix2 a b) = m ((c : Thread nD τ).loc main_arg0) (ix3 (⟨t.val / 128, by have := lt_N t; omega⟩ : Fin 2) a (⟨1024 + 128 * (t.val / 16 % 8) + b.val, by omega⟩ : Fin 3072)) := by
  have hN := lt_N t
  show V m c main_v0 (((cfg0.win 1).blk t).view.emb (ix2 a b)) = _
  rw [V_v0, emb_1, flat_q]
  congr 1; congr 1 <;> (apply Fin.ext; dsimp only; omega)

/-- The values' block. -/
theorem blk_2 (c : Dev nD) (t : Fin cfg0.N) (a : Fin 4096) (b : Fin 128) :
    iblk m c 2 t (ix2 a b) = m ((c : Thread nD τ).loc main_arg0) (ix3 (⟨t.val / 128, by have := lt_N t; omega⟩ : Fin 2) a (⟨2048 + 128 * (t.val / 16 % 8) + b.val, by omega⟩ : Fin 3072)) := by
  have hN := lt_N t
  show V m c main_v0 (((cfg0.win 2).blk t).view.emb (ix2 a b)) = _
  rw [V_v0, emb_2, flat_q]
  congr 1; congr 1 <;> (apply Fin.ext; dsimp only; omega)

/-- The cotangent' block. -/
theorem blk_3 (c : Dev nD) (t : Fin cfg0.N) (a : Fin 256) (b : Fin 128) :
    iblk m c 3 t (ix2 a b) = m ((c : Thread nD τ).loc main_arg1) (ix3 (⟨t.val / 128, by have := lt_N t; omega⟩ : Fin 2) (⟨256 * (t.val % 16) + a.val, by omega⟩ : Fin 4096) (⟨128 * (t.val / 16 % 8) + b.val, by omega⟩ : Fin 1024)) := by
  have hN := lt_N t
  show V m c main_v26 (((cfg0.win 3).blk t).view.emb (ix2 a b)) = _
  rw [V_v26, emb_3, flat_o]
  congr 1; congr 1 <;> (apply Fin.ext; dsimp only; omega)

/-- The row sums' block. -/
theorem blk_4 (c : Dev nD) (t : Fin cfg0.N) (a : Fin 256) (b : Fin 128) :
    iblk m c 4 t (ix2 a b) = hostTot (m ((c : Thread nD τ).loc main_arg0)) (ix3 (⟨t.val / 128, by have := lt_N t; omega⟩ : Fin 2) (⟨2 * (t.val / 16 % 8) + b.val / 64, by omega⟩ : Fin 16) (⟨256 * (t.val % 16) + a.val, by omega⟩ : Fin 4096)) := by
  have hN := lt_N t
  show V m c main_v25 (((cfg0.win 4).blk t).view.emb (ix2 a b)) = _
  rw [V_v25, emb_4, flat_t]
  congr 1; congr 1 <;> (apply Fin.ext; dsimp only; omega)

/-- Where the queries' gradient's block sits. -/
theorem emb_5 (t : Fin cfg0.N) (a : Fin 256) (b : Fin 128) :
    ((cfg0.win 5).blk t).view.emb (ix2 a b) = (ix2 (⟨4096 * (t.val / 128) + 256 * (t.val % 16) + a.val, by have := lt_N t; omega⟩ : Fin 8192) (⟨128 * (t.val / 16 % 8) + b.val, by omega⟩ : Fin 1024) : S8192x1024.Idx) := by
  blk_ext [idx_val t]

theorem emb_6 (t : Fin cfg0.N) (a : Fin 128) (b : Fin 4096) :
    ((cfg0.win 6).blk t).view.emb (ix2 a b) = (ix2 (⟨128 * (t.val / 16) + a.val, by have := lt_N t; omega⟩ : Fin 2048) b : S2048x4096.Idx) := by
  blk_ext [idx_val t]

theorem emb_7 (t : Fin cfg0.N) (a : Fin 128) (b : Fin 4096) :
    ((cfg0.win 7).blk t).view.emb (ix2 a b) = (ix2 (⟨128 * (t.val / 16) + a.val, by have := lt_N t; omega⟩ : Fin 2048) b : S2048x4096.Idx) := by
  blk_ext [idx_val t]

theorem emb_8 (t : Fin cfg0.N) (a : Fin 4096) (b : Fin 128) :
    ((cfg0.win 8).blk t).view.emb (ix2 a b) = (ix2 (⟨4096 * (t.val / 128) + a.val, by have := lt_N t; omega⟩ : Fin 8192) (⟨128 * (t.val / 16 % 8) + b.val, by omega⟩ : Fin 1024) : S8192x1024.Idx) := by
  blk_ext [idx_val t]

theorem emb_9 (t : Fin cfg0.N) (a : Fin 4096) (b : Fin 128) :
    ((cfg0.win 9).blk t).view.emb (ix2 a b) = (ix2 (⟨4096 * (t.val / 128) + a.val, by have := lt_N t; omega⟩ : Fin 8192) (⟨128 * (t.val / 16 % 8) + b.val, by omega⟩ : Fin 1024) : S8192x1024.Idx) := by
  blk_ext [idx_val t]

end Cert.SbKernelIdeal.Tile

end
-- ==== Proof.SbReal.lean ====
/- The stick-breaking attention's gradient over the reals, one head at a time: what both programs compute, as plain sums. -/
module

public import proofs.«01_k».proof.Proof.RealKit

@[expose] public section

noncomputable section

open scoped BigOperators

namespace SbReal

/-- The log of the sigmoid. -/
def ls (x : ℝ) : ℝ := min x 0 - Real.log (1 + Real.exp (-|x|))

theorem ls_neg (x : ℝ) : ls (-x) = ls x - x := by
  have h : min (-x) 0 = min x 0 - x := by
    rcases le_total x 0 with h | h
    · rw [min_eq_left h, min_eq_right (by linarith)]; ring
    · rw [min_eq_right h, min_eq_left (by linarith)]; ring
  unfold ls
  rw [h, abs_neg]; ring

theorem exp_ls (x : ℝ) : Real.exp (ls x) = Real.exp (min x 0) / (1 + Real.exp (-|x|)) := by
  have h : (0 : ℝ) < 1 + Real.exp (-|x|) := by positivity
  unfold ls
  rw [Real.exp_sub, Real.exp_log h]

/-- The sigmoid and its complement. -/
theorem exp_ls_neg (x : ℝ) : Real.exp (ls (-x)) = 1 - Real.exp (ls x) := by
  have h : (0 : ℝ) < 1 + Real.exp (-|x|) := by positivity
  rw [exp_ls, exp_ls, abs_neg, eq_sub_iff_add_eq, ← add_div, div_eq_one_iff_eq h.ne']
  rcases le_total x 0 with hx | hx
  · rw [min_eq_left hx, min_eq_right (by linarith), Real.exp_zero, abs_of_nonpos hx, neg_neg]
  · rw [min_eq_right hx, min_eq_left (by linarith), Real.exp_zero, abs_of_nonneg hx]; ring

/-- A head's operands by row and lane: queries, keys, values and the output's cotangent. -/
structure Ops where
  q : ℕ → ℕ → ℝ
  k : ℕ → ℕ → ℝ
  v : ℕ → ℕ → ℝ
  o : ℕ → ℕ → ℝ

variable (X : Ops)

/-- The logit of row `r` and key `s`. -/
def z (r s : ℕ) : ℝ := (∑ d ∈ Finset.range 64, X.q r d * X.k s d) / 8
/-- The log of the complement of the sigmoid, of the earlier keys. -/
def L (r s : ℕ) : ℝ := if s < r then ls (-z X r s) else 0
/-- The weight. -/
def a (r s : ℕ) : ℝ := if s < r then Real.exp (ls (z X r s) + ∑ u ∈ Finset.range 4096, if s < u then L X r u else 0) else 0
/-- The weight's cotangent. -/
def da (r s : ℕ) : ℝ := ∑ d ∈ Finset.range 64, X.o r d * X.v s d
/-- The weight times its cotangent. -/
def g (r s : ℕ) : ℝ := a X r s * da X r s
/-- The logit's cotangent. -/
def dz (r s : ℕ) : ℝ := if s < r then g X r s - Real.exp (ls (z X r s)) * (g X r s + ∑ u ∈ Finset.range s, g X r u) else 0
/-- The queries' gradient. -/
def dq (r d : ℕ) : ℝ := (∑ s ∈ Finset.range 4096, dz X r s * X.k s d) / 8
/-- The keys' gradient. -/
def dk (s d : ℕ) : ℝ := (∑ r ∈ Finset.range 4096, dz X r s * X.q r d) / 8
/-- The values' gradient. -/
def dv (s d : ℕ) : ℝ := ∑ r ∈ Finset.range 4096, a X r s * X.o r d
/-- A row's whole sum of log-complements. -/
def tot (r : ℕ) : ℝ := ∑ u ∈ Finset.range 4096, L X r u

/-- The logit's cotangent by the chain rule: through the weight's own sigmoid, and through the later complements'. -/
theorem dz_chain (r s : ℕ) (h : s < r) :
    dz X r s = g X r s * Real.exp (ls (-z X r s)) - Real.exp (ls (z X r s)) * ∑ u ∈ Finset.range s, g X r u := by
  rw [dz, if_pos h, exp_ls_neg]; ring

theorem g_late (r s : ℕ) (h : ¬ s < r) : g X r s = 0 := by rw [g, a, if_neg h, zero_mul]
theorem dz_late (r s : ℕ) (h : ¬ s < r) : dz X r s = 0 := by rw [dz, if_neg h]
theorem a_late (r s : ℕ) (h : ¬ s < r) : a X r s = 0 := by rw [a, if_neg h]

/-- The later keys' log-complements: within the key's tile, and from the whole sum less what lies through the tile. -/
theorem later (r j s : ℕ) (hj : j < 16) (hs : s < 256) :
    (∑ u ∈ Finset.range 4096, if 256 * j + s < u then L X r u else 0)
      = (∑ u ∈ Finset.range 256, if s < u then L X r (256 * j + u) else 0) + (tot X r - ∑ u ∈ Finset.range (256 * (j + 1)), L X r u) := by
  have e : ∀ f : ℕ → ℝ, ∑ u ∈ Finset.range 4096, f u = (∑ u ∈ Finset.range (256 * j), f u) + (∑ u ∈ Finset.range 256, f (256 * j + u))
      + ∑ u ∈ Finset.range (4096 - 256 * (j + 1)), f (256 * (j + 1) + u) := fun f => by
    rw [show 256 * (j + 1) = 256 * j + 256 from by ring, ← Finset.sum_range_add, ← Finset.sum_range_add]
    congr 2; omega
  have e' : ∑ u ∈ Finset.range (256 * (j + 1)), L X r u = (∑ u ∈ Finset.range (256 * j), L X r u) + ∑ u ∈ Finset.range 256, L X r (256 * j + u) := by
    rw [show 256 * (j + 1) = 256 * j + 256 from by ring, ← Finset.sum_range_add]
  rw [tot, e, e (fun u => L X r u), e']
  have h1 : (∑ u ∈ Finset.range (256 * j), if 256 * j + s < u then L X r u else 0) = 0 :=
    Finset.sum_eq_zero fun u hu => if_neg (by have := Finset.mem_range.1 hu; omega)
  have h2 : (∑ u ∈ Finset.range 256, if 256 * j + s < 256 * j + u then L X r (256 * j + u) else 0) = ∑ u ∈ Finset.range 256, if s < u then L X r (256 * j + u) else 0 :=
    Finset.sum_congr rfl fun u _ => if_congr (by omega) rfl rfl
  have h3 : (∑ u ∈ Finset.range (4096 - 256 * (j + 1)), if 256 * j + s < 256 * (j + 1) + u then L X r (256 * (j + 1) + u) else 0)
      = ∑ u ∈ Finset.range (4096 - 256 * (j + 1)), L X r (256 * (j + 1) + u) :=
    Finset.sum_congr rfl fun u _ => if_pos (by omega)
  rw [h1, h2, h3]; ring

/-- The earlier keys of a tile, as a cut of the tile's keys. -/
theorem cut_lt (f : ℕ → ℝ) (n s : ℕ) (hs : s < n) : (∑ u ∈ Finset.range n, if u < s then f u else 0) = ∑ u ∈ Finset.range s, f u := by
  rw [← Finset.sum_filter]
  refine Finset.sum_congr (Finset.ext fun u => ?_) fun _ _ => rfl
  simp only [Finset.mem_filter, Finset.mem_range]; omega

/-- The earlier keys: those before the tile and those of the tile. -/
theorem earlier (r j s : ℕ) (hs : s < 256) :
    ∑ u ∈ Finset.range (256 * j + s), g X r u = (∑ u ∈ Finset.range 256, if u < s then g X r (256 * j + u) else 0) + ∑ u ∈ Finset.range (256 * j), g X r u := by
  rw [Finset.sum_range_add, cut_lt (fun u => g X r (256 * j + u)) 256 s hs, add_comm]

end SbReal

end
-- ==== Proof.SbScalar.lean ====
/- The stick-breaking attention's operands out of arrays of finite numbers, and the scalar steps both programs share. -/
module

public import proofs.«01_k».proof.Proof.SbReal
public import Idealize.ShloMosaic.Lib.Pipeline.ValueKit

@[expose] public section

noncomputable section

open Idealize.ShloMosaic
open scoped BigOperators

namespace SbReal

/-- A choice by a comparison's word. -/
theorem choose_at (p : Prop) [Decidable p] (x y : EReal) : Scalar.select (BitVec.ofBool (decide p)) x y = if p then x else y := by
  by_cases h : p
  · rw [if_pos h, decide_eq_true h]; rfl
  · rw [if_neg h, decide_eq_false h]; rfl

/-- The log of one plus a real exponential. -/
theorem log_one_add (x : ℝ) : Ideal.log (1 + ((Real.exp x : ℝ) : EReal)) = ((Real.log (1 + Real.exp x) : ℝ) : EReal) := by
  have h : (0 : ℝ) < 1 + Real.exp x := by positivity
  rw [← EReal.coe_one, ← EReal.coe_add, Ideal.log_coe, if_neg (not_le.2 h)]

/-- The soft plus, as JAX writes it, of a real. -/
theorem soft_plus (x : ℝ) : max (x : EReal) 0 + Ideal.log1p (Ideal.exp (-(max (x : EReal) (-(x : EReal))))) = ((-ls (-x) : ℝ) : EReal) := by
  have e : max x 0 + Real.log (1 + Real.exp (-|x|)) = -ls (-x) := by
    rw [ls, abs_neg]
    rcases le_total x 0 with h | h
    · rw [max_eq_right h, min_eq_right (by linarith)]; ring
    · rw [max_eq_left h, min_eq_left (by linarith)]; ring
  rw [← EReal.coe_neg, ← RealKit.coe_max', ← EReal.coe_neg, Ideal.exp_coe, ← abs_eq_max_neg]
  show max (x : EReal) 0 + Ideal.log (1 + _) = _
  rw [log_one_add, ← EReal.coe_zero, ← RealKit.coe_max', ← EReal.coe_add, e]

/-- A sum of products of reals. -/
theorem coe_dot (n : ℕ) (f g : ℕ → ℝ) : (∑ k : Fin n, ((f k.val : ℝ) : EReal) * ((g k.val : ℝ) : EReal)) = ((∑ k ∈ Finset.range n, f k * g k : ℝ) : EReal) := by
  rw [Finset.sum_range, RealKit.coe_sum]
  exact Finset.sum_congr rfl fun k _ => (EReal.coe_mul _ _).symm

/-- A sum of reals. -/
theorem coe_row (n : ℕ) (f : ℕ → ℝ) : (∑ k : Fin n, ((f k.val : ℝ) : EReal)) = ((∑ k ∈ Finset.range n, f k : ℝ) : EReal) := by
  rw [Finset.sum_range, RealKit.coe_sum]

/-- Head `h` of heads laid side by side, 64 lanes each. -/
def head (P : Ops) (h : ℕ) : Ops where
  q r d := P.q r (64 * h + d)
  k r d := P.k r (64 * h + d)
  v r d := P.v r (64 * h + d)
  o r d := P.o r (64 * h + d)

/-- A sample's 1024 lanes of heads: queries, keys and values side by side in `x`, the cotangent in `o`. -/
def ops (x : (⟨3, ![2, 4096, 3072]⟩ : Shape).Idx → EReal) (o : (⟨3, ![2, 4096, 1024]⟩ : Shape).Idx → EReal) (b : Fin 2) : Ops where
  q r d := (x (ix3 b (⟨r % 4096, Nat.mod_lt _ (by norm_num)⟩ : Fin 4096) (⟨d % 3072, Nat.mod_lt _ (by norm_num)⟩ : Fin 3072))).toReal
  k r d := (x (ix3 b (⟨r % 4096, Nat.mod_lt _ (by norm_num)⟩ : Fin 4096) (⟨(1024 + d) % 3072, Nat.mod_lt _ (by norm_num)⟩ : Fin 3072))).toReal
  v r d := (x (ix3 b (⟨r % 4096, Nat.mod_lt _ (by norm_num)⟩ : Fin 4096) (⟨(2048 + d) % 3072, Nat.mod_lt _ (by norm_num)⟩ : Fin 3072))).toReal
  o r d := (o (ix3 b (⟨r % 4096, Nat.mod_lt _ (by norm_num)⟩ : Fin 4096) (⟨d % 1024, Nat.mod_lt _ (by norm_num)⟩ : Fin 1024))).toReal

/-- The lanes from the `n`-th on. -/
def from_ (X : Ops) (n : ℕ) : Ops where
  q r d := X.q r (n + d)
  k r d := X.k r (n + d)
  v r d := X.v r (n + d)
  o r d := X.o r (n + d)

/-- A head of a pair of heads is a head of the whole. -/
theorem head_pair (X : Ops) (p h : ℕ) : head (from_ X (128 * p)) h = head X (2 * p + h) := by
  have e : ∀ d, 128 * p + (64 * h + d) = 64 * (2 * p + h) + d := fun d => by ring
  unfold head from_
  simp only [e]

section finite

variable (x : (⟨3, ![2, 4096, 3072]⟩ : Shape).Idx → EReal) (o : (⟨3, ![2, 4096, 1024]⟩ : Shape).Idx → EReal) (b : Fin 2)
  (hx : ∀ i, RealKit.Fin' (x i)) (ho : ∀ i, RealKit.Fin' (o i))
theorem coe_at {s : Shape} {y : s.Idx → EReal} (hy : ∀ i, RealKit.Fin' (y i)) {i j : s.Idx} (e : j = i) : y i = (((y j).toReal : ℝ) : EReal) := by
  subst e
  obtain ⟨r, hr⟩ := hy j
  rw [hr, EReal.toReal_coe]

include hx in
theorem q_coe (r : Fin 4096) (d : ℕ) (hd : d < 1024) : x (ix3 b r (⟨d, by omega⟩ : Fin 3072)) = (((ops x o b).q r.val d : ℝ) : EReal) :=
  coe_at hx (congrArg₂ (fun r d => ix3 b r d) (Fin.ext (Nat.mod_eq_of_lt r.isLt)) (Fin.ext (Nat.mod_eq_of_lt (by omega))))

include hx in
theorem k_coe (r : Fin 4096) (d : ℕ) (hd : d < 1024) : x (ix3 b r (⟨1024 + d, by omega⟩ : Fin 3072)) = (((ops x o b).k r.val d : ℝ) : EReal) :=
  coe_at hx (congrArg₂ (fun r d => ix3 b r d) (Fin.ext (Nat.mod_eq_of_lt r.isLt)) (Fin.ext (Nat.mod_eq_of_lt (by omega))))

include hx in
theorem v_coe (r : Fin 4096) (d : ℕ) (hd : d < 1024) : x (ix3 b r (⟨2048 + d, by omega⟩ : Fin 3072)) = (((ops x o b).v r.val d : ℝ) : EReal) :=
  coe_at hx (congrArg₂ (fun r d => ix3 b r d) (Fin.ext (Nat.mod_eq_of_lt r.isLt)) (Fin.ext (Nat.mod_eq_of_lt (by omega))))

include ho in
theorem o_coe (r : Fin 4096) (d : ℕ) (hd : d < 1024) : o (ix3 b r (⟨d, hd⟩ : Fin 1024)) = (((ops x o b).o r.val d : ℝ) : EReal) :=
  coe_at ho (congrArg₂ (fun r d => ix3 b r d) (Fin.ext (Nat.mod_eq_of_lt r.isLt)) (Fin.ext (Nat.mod_eq_of_lt hd)))

end finite

/-! ### The gradients as arrays: the queries' by token, the keys' and values' by head and lane, and by token -/

section arrays

variable (x : (⟨3, ![2, 4096, 3072]⟩ : Shape).Idx → EReal) (o : (⟨3, ![2, 4096, 1024]⟩ : Shape).Idx → EReal)

/-- A head's gradient `f` at a token and a lane of the whole. -/
def byToken (f : Ops → ℕ → ℕ → ℝ) (r : Fin 8192) (j : Fin 1024) : EReal :=
  ((f (head (ops x o (⟨r.val / 4096, by omega⟩ : Fin 2)) (j.val / 64)) (r.val % 4096) (j.val % 64) : ℝ) : EReal)

/-- A head's gradient `f` at a sample's lane and a position. -/
def byLane (f : Ops → ℕ → ℕ → ℝ) (n : Fin 2048) (s : Fin 4096) : EReal :=
  ((f (head (ops x o (⟨n.val / 1024, by omega⟩ : Fin 2)) (n.val % 1024 / 64)) s.val (n.val % 64) : ℝ) : EReal)

def tokenArray (f : Ops → ℕ → ℕ → ℝ) : (⟨2, ![8192, 1024]⟩ : Shape).Idx → EReal := fun i => byToken x o f (i 0) (i 1)

def laneArray (f : Ops → ℕ → ℕ → ℝ) : (⟨2, ![2048, 4096]⟩ : Shape).Idx → EReal := fun i => byLane x o f (i 0) (i 1)

theorem byToken_eq (f : Ops → ℕ → ℕ → ℝ) (r : Fin 8192) (j : Fin 1024) (b : Fin 2) (h r' d : ℕ) (hr : r.val = 4096 * b.val + r') (hr' : r' < 4096) (hj : j.val = 64 * h + d) (hd : d < 64) :
    ((f (head (ops x o b) h) r' d : ℝ) : EReal) = tokenArray x o f (ix2 r j) := by
  show _ = byToken x o f r j
  have e0 : (⟨r.val / 4096, by omega⟩ : Fin 2) = b := Fin.ext (by dsimp only; omega)
  rw [byToken, e0, show j.val / 64 = h from by omega, show r.val % 4096 = r' from by omega, show j.val % 64 = d from by omega]

theorem byLane_eq (f : Ops → ℕ → ℕ → ℝ) (n : Fin 2048) (s : Fin 4096) (b : Fin 2) (h d : ℕ) (hn : n.val = 1024 * b.val + (64 * h + d)) (hh : h < 16) (hd : d < 64) :
    ((f (head (ops x o b) h) s.val d : ℝ) : EReal) = laneArray x o f (ix2 n s) := by
  show _ = byLane x o f n s
  have e0 : (⟨n.val / 1024, by omega⟩ : Fin 2) = b := Fin.ext (by dsimp only; omega)
  rw [byLane, e0, show n.val % 1024 / 64 = h from by omega, show n.val % 64 = d from by omega]

end arrays

end SbReal

end
-- ==== Proof.SbOps.lean ====
/- The sweep's operations at an entry, over the extended reals. -/
module

public import proofs.«01_k».proof.Proof.SbTile
public import proofs.«01_k».proof.Proof.SbScalar
public import Idealize.ShloMosaic.Lib.WordCmp

@[expose] public section

set_option maxRecDepth 16384

noncomputable section

open Idealize.ShloMosaic Idealize.ShloMosaic.TcCoe
open Idealize.ShloMosaic.WordCmp
open scoped BigOperators

namespace Cert.SbKernelIdeal.Tile

open Cert.SbKernelIdeal Cert.SbKernelIdeal.Gen
open SbReal (choose_at log_one_add coe_dot coe_row)

theorem zOf_at (q k : FVec Ideal S256x128 .bf16) (r s : Fin 256) : zOf q k (ix2 r s) = ∑ d : Fin 128, q (ix2 r d) * k (ix2 s d) := by
  unfold zOf; pointwise

theorem rowSum_at (x : FVec Ideal S256x256 .f32) (r : Fin 256) : rowSum x (ix2 r (0 : Fin 1)) = ∑ s : Fin 256, x (ix2 r s) := by
  unfold rowSum; pointwise

/-- A comparison's word, widened and read as a number. -/
theorem word_at (p : Prop) [Decidable p] : FloatOps.sitofp (F := Ideal) FTy.f32 (BitVec.setWidth 32 (BitVec.ofBool (decide p))) = ((if p then 1 else 0 : ℝ) : EReal) := by
  by_cases h : p
  · rw [if_pos h, decide_eq_true h]
    show (((BitVec.setWidth 32 (BitVec.ofBool true)).toInt : ℝ) : EReal) = _
    rw [show (BitVec.setWidth 32 (BitVec.ofBool true)).toInt = 1 from by decide]; norm_num
  · rw [if_neg h, decide_eq_false h]
    show (((BitVec.setWidth 32 (BitVec.ofBool false)).toInt : ℝ) : EReal) = _
    rw [show (BitVec.setWidth 32 (BitVec.ofBool false)).toInt = 0 from by decide]; norm_num

theorem Urev_at (k s : Fin 256) : (Urev : FVec Ideal S256x256 .bf16) (ix2 k s) = ((if s.val < k.val then 1 else 0 : ℝ) : EReal) := by
  unfold Urev; pointwise
  rw [cmpi_sgt_ofNat (by omega) (by omega), word_at]

theorem Uexc_at (k s : Fin 256) : (Uexc : FVec Ideal S256x256 .bf16) (ix2 k s) = ((if k.val < s.val then 1 else 0 : ℝ) : EReal) := by
  unfold Uexc; pointwise
  rw [cmpi_slt_ofNat (by omega) (by omega), word_at]

theorem gate_at (x : FVec Ideal S256x256 .f32) (r s : Fin 256) : gate true x (ix2 r s) = if s.val < r.val then x (ix2 r s) else 0 := by
  unfold gate strict; pointwise
  rw [cmpi_slt_ofNat (by omega) (by omega), choose_at]

theorem l2e : Named.named (F := Ideal) κ "l2e" (φ := .f32) 0xBFB8AA3B#32 = ((-((Real.log 2)⁻¹) : ℝ) : EReal) := rfl

/-- `2` to the magnitude times `-1 / log 2`. -/
theorem exp2_abs (x : ℝ) : Ideal.exp2 (max (x : EReal) (-(x : EReal)) * ((-((Real.log 2)⁻¹) : ℝ) : EReal)) = ((Real.exp (-|x|) : ℝ) : EReal) := by
  rw [← EReal.coe_neg, ← RealKit.coe_max', ← EReal.coe_mul, Ideal.exp2_coe]
  congr 1
  show (2 : ℝ) ^ (max x (-x) * -(Real.log 2)⁻¹) = _
  have h : Real.log 2 ≠ 0 := (Real.log_pos (by norm_num)).ne'
  rw [Real.rpow_def_of_pos (by norm_num), ← abs_eq_max_neg]
  congr 1; field_simp

theorem lbOf_at (z : FVec Ideal S256x256 .f32) (r s : Fin 256) (x : ℝ) (h : z (ix2 r s) = (x : EReal)) : lbOf z (ix2 r s) = (SbReal.ls x : EReal) := by
  unfold lbOf; pointwise
  rw [h, l2e]
  show min (x : EReal) 0 - Ideal.log (1 + Ideal.exp2 (max (x : EReal) (-(x : EReal)) * _)) = _
  rw [exp2_abs, log_one_add, ← EReal.coe_zero, ← RealKit.coe_min', ← EReal.coe_sub]; rfl

/-- The tile's products, at an entry. -/
theorem cum_at (x : FVec Ideal S256x256 .bf16) (U : FVec Ideal S256x256 .bf16) (r s : Fin 256) :
    matmul dot_S256x256_S256x256_S256x256_1_0_0_1_n_n none x U (constant S256x256 .f32 0x00000000#32) (ix2 r s) = ∑ k : Fin 256, x (ix2 r k) * U (ix2 k s) := by
  pointwise

theorem dq_at (x : FVec Ideal S256x256 .bf16) (k : FVec Ideal S256x128 .bf16) (r : Fin 256) (d : Fin 128) :
    matmul dot_S256x256_S256x128_S256x128_1_0_0_1_n_n none x k (constant S256x128 .f32 0x00000000#32) (ix2 r d) = ∑ s : Fin 256, x (ix2 r s) * k (ix2 s d) := by
  pointwise

theorem acc_at (old : FVec Ideal S128x256 .f32) (l0 l1 : FVec Ideal S128x256 .bf16) (r0 r1 : FVec Ideal S256x256 .bf16) (d : Fin 128) (s : Fin 256) :
    accOf old l0 l1 r0 r1 (ix2 d s) = old (ix2 d s) + ((∑ r : Fin 256, l0 (ix2 d r) * r0 (ix2 r s)) + ∑ r : Fin 256, l1 (ix2 d r) * r1 (ix2 r s)) := by
  unfold accOf; pointwise

theorem blk_at (x : FVec Ideal S4096x128 .bf16) (j : ℕ) (hj : j < 16) (s : Fin 256) (d : Fin 128) :
    blk x j (ix2 s d) = x (ix2 (⟨256 * j + s.val, by omega⟩ : Fin 4096) d) := by
  have h : blk x j (ix2 s d) = rows x j (ix2 s d) := by unfold blk; pointwise
  rw [h]
  refine congrArg x (funext fun a => ?_)
  fin_cases a
  · exact Fin.ext (by show (256 * j + s.val) % 4096 = 256 * j + s.val; omega)
  · rfl

/-! ### What a query block brings, at an entry -/

section heads
variable (q dO : FVec Ideal S256x128 .bf16) (tot : FVec Ideal S256x128 .f32) (r : Fin 256) (d : Fin 128)

theorem lo_at (x y : EReal) : Scalar.select (IntOp.cmpi CmpIPredicate.slt (BitVec.ofNat 32 d.val) 64#32) x y = if d.val < 64 then x else y := by
  rw [show (64#32 : BitVec 32) = BitVec.ofNat 32 64 from rfl, cmpi_slt_ofNat (by omega) (by omega), choose_at]

theorem q0_at : (heads q dO tot).q0 (ix2 r d) = if d.val < 64 then q (ix2 r d) * ((1 / 8 : ℝ) : EReal) else 0 := by
  unfold heads; pointwise [k0_pay206, k0_pay203, k0_pay204, k0_pay205]
  rw [lo_at, RealKit.eighth_bf16]

theorem q1_at : (heads q dO tot).q1 (ix2 r d) = if d.val < 64 then 0 else q (ix2 r d) * ((1 / 8 : ℝ) : EReal) := by
  unfold heads; pointwise [k0_pay207, k0_pay203, k0_pay204, k0_pay205]
  rw [lo_at, RealKit.eighth_bf16]

theorem d0_at : (heads q dO tot).d0 (ix2 r d) = if d.val < 64 then dO (ix2 r d) else 0 := by
  unfold heads; pointwise [k0_pay211, k0_pay208, k0_pay209, k0_pay210]
  rw [lo_at]

theorem d1_at : (heads q dO tot).d1 (ix2 r d) = if d.val < 64 then 0 else dO (ix2 r d) := by
  unfold heads; pointwise [k0_pay212, k0_pay208, k0_pay209, k0_pay210]
  rw [lo_at]

theorem qt0_at : (heads q dO tot).qt0 (ix2 d r) = if d.val < 64 then q (ix2 r d) * ((1 / 8 : ℝ) : EReal) else 0 := by
  unfold heads; pointwise [k0_pay217, k0_pay215, k0_pay213, k0_pay214]
  rw [lo_at, RealKit.eighth_f32]

theorem qt1_at : (heads q dO tot).qt1 (ix2 d r) = if d.val < 64 then 0 else q (ix2 r d) * ((1 / 8 : ℝ) : EReal) := by
  unfold heads; pointwise [k0_pay218, k0_pay215, k0_pay213, k0_pay214]
  rw [lo_at, RealKit.eighth_f32]

theorem dt0_at : (heads q dO tot).dt0 (ix2 d r) = if d.val < 64 then dO (ix2 r d) else 0 := by
  unfold heads; pointwise [k0_pay219, k0_pay216, k0_pay213, k0_pay214]
  rw [lo_at]

theorem dt1_at : (heads q dO tot).dt1 (ix2 d r) = if d.val < 64 then 0 else dO (ix2 r d) := by
  unfold heads; pointwise [k0_pay220, k0_pay216, k0_pay213, k0_pay214]
  rw [lo_at]

theorem t0_at : (heads q dO tot).t0 (ix2 r (0 : Fin 1)) = tot (ix2 r (0 : Fin 128)) := by
  unfold heads; pointwise [k0_pay222, k0_pay221]

theorem t1_at : (heads q dO tot).t1 (ix2 r (0 : Fin 1)) = tot (ix2 r (64 : Fin 128)) := by
  unfold heads; pointwise [k0_pay223, k0_pay221]

end heads

/-- The queries' gradient a point writes, at an entry. -/
theorem dqOut_at (s : St Ideal) (r : Fin 256) (d : Fin 128) :
    dqOut s (ix2 r d) = (if d.val < 64 then s.h0.dq (ix2 r d) else s.h1.dq (ix2 r d)) * ((1 / 8 : ℝ) : EReal) := by
  unfold dqOut; pointwise [k0_pay8]
  rw [lo_at, RealKit.eighth_f32]

/-- The token-major key side, at an entry. -/
theorem tokenMajor_at (x : FVec Ideal S128x4096 .f32) (s : Fin 4096) (d : Fin 128) : tokenMajor x (ix2 s d) = x (ix2 d s) := by
  have h : tokenMajor x (ix2 s d) = cols x (s.val / 256) (ix2 d (⟨s.val % 256, Nat.mod_lt _ (by norm_num)⟩ : Fin 256)) := by
    unfold tokenMajor; pointwise [k0_pay9]
  rw [h]
  refine congrArg x (funext fun a => ?_)
  fin_cases a
  · rfl
  · exact Fin.ext (by show (256 * (s.val / 256) + s.val % 256) % 4096 = s.val; omega)

/-- A tile's columns overwritten, at an entry. -/
theorem setCols_at (x : FVec Ideal S128x4096 .f32) (j : ℕ) (hj : j < 16) (w : FVec Ideal S128x256 .f32) (d : Fin 128) (s : Fin 4096) :
    setCols x j w (ix2 d s) = if s.val / 256 = j then w (ix2 d (⟨s.val % 256, Nat.mod_lt _ (by norm_num)⟩ : Fin 256)) else x (ix2 d s) := by
  have hc : (∀ a : Fin 2, (![0, 256 * j] : Fin 2 → ℕ) a ≤ ((ix2 d s : S128x4096.Idx) a).val ∧ ((ix2 d s : S128x4096.Idx) a).val < (![0, 256 * j] : Fin 2 → ℕ) a + (![128, 256] : Fin 2 → ℕ) a) ↔ s.val / 256 = j := by
    constructor
    · intro h
      have h1 : 256 * j ≤ s.val ∧ s.val < 256 * j + 256 := h 1
      omega
    · intro h a
      fin_cases a
      · show 0 ≤ d.val ∧ d.val < 0 + 128; omega
      · show 256 * j ≤ s.val ∧ s.val < 256 * j + 256; omega
  by_cases h : s.val / 256 = j
  · rw [if_pos h]
    refine (dif_pos (hc.2 h)).trans (congrArg w (funext fun a => ?_))
    fin_cases a
    · exact Fin.ext (by show d.val - 0 = d.val; omega)
    · exact Fin.ext (by show s.val - 256 * j = s.val % 256; omega)
  · rw [if_neg h]
    exact dif_neg fun h' => h (hc.1 h')

theorem cols_at (x : FVec Ideal S128x4096 .f32) (j : ℕ) (hj : j < 16) (d : Fin 128) (s : Fin 256) :
    cols x j (ix2 d s) = x (ix2 d (⟨256 * j + s.val, by omega⟩ : Fin 4096)) := by
  refine congrArg x (funext fun a => ?_)
  fin_cases a
  · rfl
  · exact Fin.ext (by show (256 * j + s.val) % 4096 = 256 * j + s.val; omega)

end Cert.SbKernelIdeal.Tile

end
-- ==== Proof.SbHost.lean ====
/- The row sums that the host lines of the stick-breaking backward kernel prepare, over the reals. -/
module

public import proofs.«01_k».proof.Proof.SbEntry
public import proofs.«01_k».proof.Proof.SbOps
public import proofs.«01_k».proof.Proof.SbReal
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.WordCmp
open scoped BigOperators

namespace Cert.SbKernelIdeal.Tile

open Cert.SbKernelIdeal Cert.SbKernelIdeal.Gen

theorem hostQ_at (x : FVec Ideal S2x4096x3072 .bf16) (b : Fin 2) (r : Fin 4096) (h : Fin 16) (d : Fin 64) :
    hostQ x (ix4 b r h d) = x (ix3 b r (⟨h.val * 64 + d.val, by omega⟩ : Fin 3072)) := by
  pointwise [hostQ]

theorem hostK_at (x : FVec Ideal S2x4096x3072 .bf16) (b : Fin 2) (r : Fin 4096) (h : Fin 16) (d : Fin 64) :
    hostK x (ix4 b r h d) = x (ix3 b r (⟨1024 + (h.val * 64 + d.val), by omega⟩ : Fin 3072)) := by
  pointwise [hostK]

theorem hostZ_at (x : FVec Ideal S2x4096x3072 .bf16) (b : Fin 2) (h : Fin 16) (r s : Fin 4096) :
    hostZ x (ix4 b h r s) = (∑ d : Fin 64, hostQ x (ix4 b r h d) * hostK x (ix4 b s h d)) * Ideal.ofBits .f32 0x3E000000#32 := by
  pointwise [hostZ]

theorem hostSp_at (y : FVec Ideal S2x16x4096x4096 .f32) (b : Fin 2) (h : Fin 16) (r s : Fin 4096) (w : ℝ) (hw : y (ix4 b h r s) = (w : EReal)) :
    hostSp y (ix4 b h r s) = ((-SbReal.ls (-w) : ℝ) : EReal) := by
  pointwise [hostSp]
  rw [if_neg (fun e => e rfl), hw]
  exact SbReal.soft_plus w

theorem hostL_at (x : FVec Ideal S2x4096x3072 .bf16) (b : Fin 2) (h : Fin 16) (r s : Fin 4096) :
    hostL x (ix4 b h r s) = if s.val < r.val then -hostSp (Host.negf (Host.negf (hostZ x))) (ix4 b h r s) else 0 := by
  pointwise [hostL]
  rw [cmpi_slt_ofNat (by omega) (by omega), SbReal.choose_at]

theorem hostTot_at (x : FVec Ideal S2x4096x3072 .bf16) (b : Fin 2) (h : Fin 16) (r : Fin 4096) :
    hostTot x (ix3 b h r) = ∑ s : Fin 4096, hostL x (ix4 b h r s) := by
  pointwise [hostTot]

section real

variable (x : FVec Ideal S2x4096x3072 .bf16) (o : FVec Ideal S2x4096x1024 .bf16) (hx : ∀ i, RealKit.Fin' (x i)) (b : Fin 2) (h : Fin 16)
include hx

theorem hostZ_real (r s : Fin 4096) : hostZ x (ix4 b h r s) = ((SbReal.z (SbReal.head (SbReal.ops x o b) h.val) r.val s.val : ℝ) : EReal) := by
  rw [hostZ_at, Finset.sum_congr rfl fun d _ => congrArg₂ (· * ·)
    ((hostQ_at x b r h d).trans (SbReal.q_coe x o b hx r (h.val * 64 + d.val) (by omega)))
    ((hostK_at x b s h d).trans (SbReal.k_coe x o b hx s (h.val * 64 + d.val) (by omega))),
    SbReal.coe_dot 64 (fun d => (SbReal.ops x o b).q r.val (h.val * 64 + d)) (fun d => (SbReal.ops x o b).k s.val (h.val * 64 + d)),
    RealKit.eighth_f32, ← EReal.coe_mul]
  unfold SbReal.z SbReal.head
  dsimp only
  rw [mul_comm h.val 64, mul_one_div]

theorem hostL_real (r s : Fin 4096) : hostL x (ix4 b h r s) = ((SbReal.L (SbReal.head (SbReal.ops x o b) h.val) r.val s.val : ℝ) : EReal) := by
  rw [hostL_at, SbReal.L]
  by_cases hs : s.val < r.val
  · rw [if_pos hs, if_pos hs, hostSp_at _ b h r s _ (show Host.negf (Host.negf (hostZ x)) (ix4 b h r s) = _ from by
      show -(-(hostZ x (ix4 b h r s))) = _
      rw [neg_neg, hostZ_real x o hx b h r s]), ← EReal.coe_neg, neg_neg]
  · rw [if_neg hs, if_neg hs, EReal.coe_zero]

/-- The row sums are the reals'. -/
theorem hostTot_real (r : Fin 4096) : hostTot x (ix3 b h r) = ((SbReal.tot (SbReal.head (SbReal.ops x o b) h.val) r.val : ℝ) : EReal) := by
  rw [hostTot_at, Finset.sum_congr rfl fun s _ => hostL_real x o hx b h r s, SbReal.coe_row 4096 (fun s => SbReal.L _ r.val s)]; rfl

end real

end Cert.SbKernelIdeal.Tile

end
-- ==== Proof.SbSweep.lean ====
/- The sweep over reals: with its operands real numbers, a tile adds to the carries and to the key-side gradients exactly
   that tile's terms of the sums. -/
module

public import proofs.«01_k».proof.Proof.SbOps

@[expose] public section

set_option maxRecDepth 16384

noncomputable section

open Idealize.ShloMosaic Idealize.ShloMosaic.TcCoe
open scoped BigOperators

namespace Cert.SbKernelIdeal.Tile

open Cert.SbKernelIdeal Cert.SbKernelIdeal.Gen SbReal

/-- A product over 128 lanes with one factor cut to a head is a product over the head's lanes. -/
theorem cut_head (f g : ℕ → ℝ) (h : ℕ) (hh : h < 2) :
    ∑ d ∈ Finset.range 128, (if d / 64 = h then f d else 0) * g d = ∑ d ∈ Finset.range 64, f (64 * h + d) * g (64 * h + d) := by
  rw [show (128 : ℕ) = 64 + 64 from rfl, Finset.sum_range_add]
  interval_cases h
  · rw [Finset.sum_eq_zero (s := Finset.range 64) (f := fun d => (if (64 + d) / 64 = 0 then f (64 + d) else 0) * g (64 + d)), add_zero]
    · refine Finset.sum_congr rfl fun d hd => ?_
      have := Finset.mem_range.1 hd
      rw [if_pos (by omega), Nat.mul_zero, Nat.zero_add]
    · intro d hd
      rw [if_neg (by omega), zero_mul]
  · rw [Finset.sum_eq_zero (s := Finset.range 64) (f := fun d => (if d / 64 = 1 then f d else 0) * g d), zero_add]
    · refine Finset.sum_congr rfl fun d hd => ?_
      have := Finset.mem_range.1 hd
      rw [if_pos (by omega), Nat.mul_one]
    · intro d hd
      have := Finset.mem_range.1 hd
      rw [if_neg (by omega), zero_mul]

/-- What a query block brings, as reals, for head `h` of query block `i`. -/
structure HeadAt (P : Ops) (h i : ℕ) (q doh : FVec Ideal S256x128 .bf16) (tt : FVec Ideal S256x1 .f32) : Prop where
  q_at : ∀ (r : Fin 256) (d : Fin 128), q (ix2 r d) = ((if d.val / 64 = h then P.q (256 * i + r.val) d.val / 8 else 0 : ℝ) : EReal)
  o_at : ∀ (r : Fin 256) (d : Fin 128), doh (ix2 r d) = ((if d.val / 64 = h then P.o (256 * i + r.val) d.val else 0 : ℝ) : EReal)
  t_at : ∀ r : Fin 256, tt (ix2 r (0 : Fin 1)) = ((tot (head P h) (256 * i + r.val) : ℝ) : EReal)

/-- The keys and values, as reals. -/
structure KeysAt (P : Ops) (K V : FVec Ideal S4096x128 .bf16) : Prop where
  k_at : ∀ (s : Fin 4096) (d : Fin 128), K (ix2 s d) = ((P.k s.val d.val : ℝ) : EReal)
  v_at : ∀ (s : Fin 4096) (d : Fin 128), V (ix2 s d) = ((P.v s.val d.val : ℝ) : EReal)

/-- A head's carry before key block `j`. -/
structure CarAt (P : Ops) (h i j : ℕ) (c : Car Ideal) : Prop where
  cc_at : ∀ r : Fin 256, c.cc (ix2 r (0 : Fin 1)) = ((∑ u ∈ Finset.range (256 * j), L (head P h) (256 * i + r.val) u : ℝ) : EReal)
  cg_at : ∀ r : Fin 256, c.cg (ix2 r (0 : Fin 1)) = ((∑ u ∈ Finset.range (256 * j), g (head P h) (256 * i + r.val) u : ℝ) : EReal)
  dq_at : ∀ (r : Fin 256) (d : Fin 128), c.dq (ix2 r d) = ((∑ u ∈ Finset.range (256 * j), dz (head P h) (256 * i + r.val) u * P.k u d.val : ℝ) : EReal)

section tile
variable {P : Ops} {h i j : ℕ} (hh : h < 2) (hi : i < 16) (hji : j ≤ i) {dg : Bool} (hd : dg = true ↔ j = i)
  {q doh : FVec Ideal S256x128 .bf16} {tt : FVec Ideal S256x1 .f32} {K V : FVec Ideal S4096x128 .bf16}
  (HX : HeadAt P h i q doh tt) (HK : KeysAt P K V) {c : Car Ideal} (HC : CarAt P h i j c)

/-- A tile's cut, by the rows' and keys' places in the whole. -/
theorem gate_place (hji : j ≤ i) (hd : dg = true ↔ j = i) (x : FVec Ideal S256x256 .f32) (r s : Fin 256) :
    gate dg x (ix2 r s) = if 256 * j + s.val < 256 * i + r.val then x (ix2 r s) else 0 := by
  cases dg with
  | true =>
    have := hd.1 rfl
    rw [gate_at]; exact if_congr (by omega) rfl rfl
  | false =>
    have : j ≠ i := fun e => Bool.false_ne_true (hd.2 e)
    exact (if_pos (by omega)).symm

include hh hi hji HX HK in
theorem z_tile (r s : Fin 256) : zOf q (blk K j) (ix2 r s) = ((z (head P h) (256 * i + r.val) (256 * j + s.val) : ℝ) : EReal) := by
  rw [zOf_at, z, show (∑ d ∈ Finset.range 64, (head P h).q (256 * i + r.val) d * (head P h).k (256 * j + s.val) d) / 8
      = ∑ d ∈ Finset.range 64, (P.q (256 * i + r.val) (64 * h + d) / 8) * P.k (256 * j + s.val) (64 * h + d) from by
        rw [Finset.sum_div]; exact Finset.sum_congr rfl fun d _ => by unfold head; dsimp only; ring,
    ← cut_head (fun d => P.q (256 * i + r.val) d / 8) (fun d => P.k (256 * j + s.val) d) h hh, ← coe_dot]
  refine Finset.sum_congr rfl fun d _ => ?_
  rw [HX.q_at, blk_at K j (by omega), HK.k_at]

include hh hi hji HX HK in
theorem da_tile (r s : Fin 256) : matmul dot_S256x128_S256x128_S256x256_1_1_0_0_n_n none doh (blk V j) (constant S256x256 .f32 0x00000000#32) (ix2 r s)
    = ((da (head P h) (256 * i + r.val) (256 * j + s.val) : ℝ) : EReal) := by
  refine (zOf_at doh (blk V j) r s).trans ?_
  rw [da, show (∑ d ∈ Finset.range 64, (head P h).o (256 * i + r.val) d * (head P h).v (256 * j + s.val) d)
      = ∑ d ∈ Finset.range 64, P.o (256 * i + r.val) (64 * h + d) * P.v (256 * j + s.val) (64 * h + d) from rfl,
    ← cut_head (fun d => P.o (256 * i + r.val) d) (fun d => P.v (256 * j + s.val) d) h hh, ← coe_dot]
  refine Finset.sum_congr rfl fun d _ => ?_
  rw [HX.o_at, blk_at V j (by omega), HK.v_at]

include hh hi hji HX HK hd in
theorem l_tile (r s : Fin 256) : lOf dg (zOf q (blk K j)) (ix2 r s) = ((L (head P h) (256 * i + r.val) (256 * j + s.val) : ℝ) : EReal) := by
  have hz := z_tile hh hi hji HX HK r s
  rw [lOf, gate_place hji hd, L, ls_neg]
  have e : subf (lbOf (zOf q (blk K j))) (zOf q (blk K j)) (ix2 r s) = lbOf (zOf q (blk K j)) (ix2 r s) - zOf q (blk K j) (ix2 r s) := rfl
  rw [e, lbOf_at _ r s _ hz, hz]
  split
  · rw [EReal.coe_sub]
  · exact EReal.coe_zero.symm

include hh hi hji HX HK hd HC in
theorem cc_tile (r : Fin 256) : ccOf dg c.cc (zOf q (blk K j)) (ix2 r (0 : Fin 1))
    = ((∑ u ∈ Finset.range (256 * (j + 1)), L (head P h) (256 * i + r.val) u : ℝ) : EReal) := by
  have e : ccOf dg c.cc (zOf q (blk K j)) (ix2 r (0 : Fin 1)) = c.cc (ix2 r (0 : Fin 1)) + rowSum (lOf dg (zOf q (blk K j))) (ix2 r (0 : Fin 1)) := rfl
  rw [e, HC.cc_at, rowSum_at, Finset.sum_congr rfl fun s _ => l_tile hh hi hji hd HX HK r s,
    coe_row 256 fun u => L (head P h) (256 * i + r.val) (256 * j + u), ← EReal.coe_add, ← Finset.sum_range_add]
  rfl

include hh hi hji HX HK hd HC in
theorem a_tile (r s : Fin 256) : aH dg q tt (blk K j) c (ix2 r s) = ((a (head P h) (256 * i + r.val) (256 * j + s.val) : ℝ) : EReal) := by
  rw [aH, aOf, gate_place hji hd, a]
  have hz := z_tile hh hi hji HX HK r s
  split
  · have e : ∀ (x : FVec Ideal S256x256 .f32) (w : FVec Ideal S256x256 .f32) (y : FVec Ideal S256x1 .f32) (y' : FVec Ideal S256x1 .f32),
        exp (addf x (addf w (broadcastTo S256x256 (subf y y') broadcasts_S256x1_S256x256))) (ix2 r s)
          = Ideal.exp (x (ix2 r s) + (w (ix2 r s) + (y (ix2 r (0 : Fin 1)) - y' (ix2 r (0 : Fin 1))))) := fun x w y y' => by pointwise
    rw [e, lbOf_at _ r s _ hz, cum_at, cc_tile hh hi hji hd HX HK HC r, HX.t_at]
    have e2 : (∑ k : Fin 256, truncf .bf16 (lOf dg (zOf q (blk K j))) bitsLt_bf16_f32 (ix2 r k) * (Urev : FVec Ideal S256x256 .bf16) (ix2 k s))
        = ((∑ u ∈ Finset.range 256, if s.val < u then L (head P h) (256 * i + r.val) (256 * j + u) else 0 : ℝ) : EReal) := by
      rw [show (∑ u ∈ Finset.range 256, if s.val < u then L (head P h) (256 * i + r.val) (256 * j + u) else 0)
          = ∑ u ∈ Finset.range 256, L (head P h) (256 * i + r.val) (256 * j + u) * (if s.val < u then 1 else 0) from
            Finset.sum_congr rfl fun u _ => by split <;> ring, ← coe_dot 256 (fun u => L (head P h) (256 * i + r.val) (256 * j + u)) fun u => if s.val < u then 1 else 0]
      refine Finset.sum_congr rfl fun k _ => ?_
      rw [Urev_at, ← l_tile hh hi hji hd HX HK r k]; rfl
    rw [e2, later _ _ j s.val (by omega) s.isLt, ← EReal.coe_sub, ← EReal.coe_add, ← EReal.coe_add, Ideal.exp_coe]
  · exact EReal.coe_zero.symm

include hh hi hji HX HK hd HC in
theorem g_tile (r s : Fin 256) : gOf (aH dg q tt (blk K j) c) doh (blk V j) (ix2 r s) = ((g (head P h) (256 * i + r.val) (256 * j + s.val) : ℝ) : EReal) := by
  have e : gOf (aH dg q tt (blk K j) c) doh (blk V j) (ix2 r s) = aH dg q tt (blk K j) c (ix2 r s)
      * matmul dot_S256x128_S256x128_S256x256_1_1_0_0_n_n none doh (blk V j) (constant S256x256 .f32 0x00000000#32) (ix2 r s) := rfl
  rw [e, a_tile hh hi hji hd HX HK HC r s, da_tile hh hi hji HX HK r s, ← EReal.coe_mul]; rfl

include hh hi hji HX HK hd HC in
theorem dz_tile (r s : Fin 256) : dzH dg q doh tt (blk K j) (blk V j) c (ix2 r s) = ((dz (head P h) (256 * i + r.val) (256 * j + s.val) : ℝ) : EReal) := by
  have e0 : dzH dg q doh tt (blk K j) (blk V j) c (ix2 r s) = gate dg (subf (gOf (aH dg q tt (blk K j) c) doh (blk V j)) (mulf (exp (lbOf (zOf q (blk K j)))) (addf (gOf (aH dg q tt (blk K j) c) doh (blk V j)) (addf
    (matmul dot_S256x256_S256x256_S256x256_1_0_0_1_n_n none (truncf .bf16 (gOf (aH dg q tt (blk K j) c) doh (blk V j)) bitsLt_bf16_f32) Uexc (constant S256x256 .f32 0x00000000#32))
    (broadcastTo S256x256 c.cg broadcasts_S256x1_S256x256))))) (ix2 r s) := rfl
  rw [e0, gate_place hji hd, dz]
  have hz := z_tile hh hi hji HX HK r s
  split
  · have e : ∀ (x y w : FVec Ideal S256x256 .f32) (y' : FVec Ideal S256x1 .f32),
        subf x (mulf (exp y) (addf x (addf w (broadcastTo S256x256 y' broadcasts_S256x1_S256x256)))) (ix2 r s)
          = x (ix2 r s) - Ideal.exp (y (ix2 r s)) * (x (ix2 r s) + (w (ix2 r s) + y' (ix2 r (0 : Fin 1)))) := fun x y w y' => by pointwise
    rw [e, lbOf_at _ r s _ hz, cum_at, HC.cg_at, g_tile hh hi hji hd HX HK HC r s]
    have e2 : (∑ k : Fin 256, truncf .bf16 (gOf (aH dg q tt (blk K j) c) doh (blk V j)) bitsLt_bf16_f32 (ix2 r k) * (Uexc : FVec Ideal S256x256 .bf16) (ix2 k s))
        = ((∑ u ∈ Finset.range 256, if u < s.val then g (head P h) (256 * i + r.val) (256 * j + u) else 0 : ℝ) : EReal) := by
      rw [show (∑ u ∈ Finset.range 256, if u < s.val then g (head P h) (256 * i + r.val) (256 * j + u) else 0)
          = ∑ u ∈ Finset.range 256, g (head P h) (256 * i + r.val) (256 * j + u) * (if u < s.val then 1 else 0) from
            Finset.sum_congr rfl fun u _ => by split <;> ring, ← coe_dot 256 (fun u => g (head P h) (256 * i + r.val) (256 * j + u)) fun u => if u < s.val then 1 else 0]
      refine Finset.sum_congr rfl fun k _ => ?_
      rw [Uexc_at, ← g_tile hh hi hji hd HX HK HC r k]; rfl
    rw [e2, earlier _ _ j s.val s.isLt, Ideal.exp_coe, ← EReal.coe_add, ← EReal.coe_add, ← EReal.coe_mul, ← EReal.coe_sub]
  · exact EReal.coe_zero.symm

include hh hi hji HX HK hd HC in
theorem carH_at : CarAt P h i (j + 1) (carH dg q doh tt (blk K j) (blk V j) c) where
  cc_at r := cc_tile hh hi hji hd HX HK HC r
  cg_at r := by
    have e : (carH dg q doh tt (blk K j) (blk V j) c).cg (ix2 r (0 : Fin 1)) = c.cg (ix2 r (0 : Fin 1)) + rowSum (gOf (aH dg q tt (blk K j) c) doh (blk V j)) (ix2 r (0 : Fin 1)) := rfl
    rw [e, HC.cg_at, rowSum_at, Finset.sum_congr rfl fun s _ => g_tile hh hi hji hd HX HK HC r s,
      coe_row 256 fun u => g (head P h) (256 * i + r.val) (256 * j + u), ← EReal.coe_add, ← Finset.sum_range_add]
    rfl
  dq_at r d := by
    have e : (carH dg q doh tt (blk K j) (blk V j) c).dq (ix2 r d) = c.dq (ix2 r d) + matmul dot_S256x256_S256x128_S256x128_1_0_0_1_n_n none (dzH dg q doh tt (blk K j) (blk V j) c) (blk K j) (constant S256x128 .f32 0x00000000#32) (ix2 r d) := rfl
    rw [e, HC.dq_at, dq_at, show 256 * (j + 1) = 256 * j + 256 from by ring, Finset.sum_range_add, EReal.coe_add,
      ← coe_dot 256 (fun u => dz (head P h) (256 * i + r.val) (256 * j + u)) fun u => P.k (256 * j + u) d.val]
    refine congrArg _ (Finset.sum_congr rfl fun s _ => ?_)
    rw [dz_tile hh hi hji hd HX HK HC r s, blk_at K j (by omega), HK.k_at]

end tile

end Cert.SbKernelIdeal.Tile

end
-- ==== Proof.SbKeys.lean ====
/- The sweep's state over reals: the key-side gradients collect, key block by key block, the terms of a query block's rows. -/
module

public import proofs.«01_k».proof.Proof.SbSweep

@[expose] public section

set_option maxRecDepth 16384

noncomputable section

open Idealize.ShloMosaic Idealize.ShloMosaic.TcCoe
open scoped BigOperators

namespace Cert.SbKernelIdeal.Tile

open Cert.SbKernelIdeal Cert.SbKernelIdeal.Gen SbReal

/-- A query block's operands, as reals, both heads and both sides. -/
structure BlockAt (P : Ops) (i : ℕ) (X : Heads Ideal) : Prop where
  h0 : HeadAt P 0 i X.q0 X.d0 X.t0
  h1 : HeadAt P 1 i X.q1 X.d1 X.t1
  qt0 : ∀ (d : Fin 128) (r : Fin 256), X.qt0 (ix2 d r) = ((if d.val / 64 = 0 then P.q (256 * i + r.val) d.val / 8 else 0 : ℝ) : EReal)
  qt1 : ∀ (d : Fin 128) (r : Fin 256), X.qt1 (ix2 d r) = ((if d.val / 64 = 1 then P.q (256 * i + r.val) d.val / 8 else 0 : ℝ) : EReal)
  dt0 : ∀ (d : Fin 128) (r : Fin 256), X.dt0 (ix2 d r) = ((if d.val / 64 = 0 then P.o (256 * i + r.val) d.val else 0 : ℝ) : EReal)
  dt1 : ∀ (d : Fin 128) (r : Fin 256), X.dt1 (ix2 d r) = ((if d.val / 64 = 1 then P.o (256 * i + r.val) d.val else 0 : ℝ) : EReal)

/-- A row's term of the keys' gradient. -/
def dkTerm (P : Ops) (d s r : ℕ) : ℝ := P.q r d / 8 * dz (head P (d / 64)) r s
/-- A row's term of the values' gradient. -/
def dvTerm (P : Ops) (d s r : ℕ) : ℝ := P.o r d * a (head P (d / 64)) r s

/-- The state before key block `n` of query block `i`: rows before the block are in everywhere, the block's rows where the sweep has passed. -/
structure StAt (P : Ops) (i n : ℕ) (s : St Ideal) : Prop where
  h0 : CarAt P 0 i n s.h0
  h1 : CarAt P 1 i n s.h1
  dk_at : ∀ (d : Fin 128) (u : Fin 4096), s.dk (ix2 d u) = (((∑ r ∈ Finset.range (256 * i), dkTerm P d.val u.val r)
    + if u.val / 256 < n then ∑ r ∈ Finset.range 256, dkTerm P d.val u.val (256 * i + r) else 0 : ℝ) : EReal)
  dv_at : ∀ (d : Fin 128) (u : Fin 4096), s.dv (ix2 d u) = (((∑ r ∈ Finset.range (256 * i), dvTerm P d.val u.val r)
    + if u.val / 256 < n then ∑ r ∈ Finset.range 256, dvTerm P d.val u.val (256 * i + r) else 0 : ℝ) : EReal)

/-- Two heads' products, each with its factor cut to its own lanes, are the lane's own head's product. -/
theorem two_heads (d : Fin 128) (f : ℕ → ℝ) (w : ℕ → ℕ → ℝ) :
    (∑ r ∈ Finset.range 256, (if d.val / 64 = 0 then f r else 0) * w 0 r) + ∑ r ∈ Finset.range 256, (if d.val / 64 = 1 then f r else 0) * w 1 r
      = ∑ r ∈ Finset.range 256, f r * w (d.val / 64) r := by
  have h : d.val / 64 = 0 ∨ d.val / 64 = 1 := by omega
  rcases h with h | h <;> simp [h]

theorem acc_real (old : FVec Ideal S128x256 .f32) (l0 l1 : FVec Ideal S128x256 .bf16) (r0 r1 : FVec Ideal S256x256 .bf16) (d : Fin 128) (s : Fin 256) (x : ℝ)
    (f : ℕ → ℝ) (w : ℕ → ℕ → ℝ) (ho : old (ix2 d s) = (x : EReal))
    (h0 : ∀ r : Fin 256, l0 (ix2 d r) = ((if d.val / 64 = 0 then f r.val else 0 : ℝ) : EReal)) (h1 : ∀ r : Fin 256, l1 (ix2 d r) = ((if d.val / 64 = 1 then f r.val else 0 : ℝ) : EReal))
    (w0 : ∀ r : Fin 256, r0 (ix2 r s) = ((w 0 r.val : ℝ) : EReal)) (w1 : ∀ r : Fin 256, r1 (ix2 r s) = ((w 1 r.val : ℝ) : EReal)) :
    accOf old l0 l1 r0 r1 (ix2 d s) = ((x + ∑ r ∈ Finset.range 256, f r * w (d.val / 64) r : ℝ) : EReal) := by
  rw [acc_at, ho, ← two_heads, EReal.coe_add, EReal.coe_add, ← coe_dot 256 (fun r => if d.val / 64 = 0 then f r else 0) (w 0),
    ← coe_dot 256 (fun r => if d.val / 64 = 1 then f r else 0) (w 1)]
  refine congrArg _ (congrArg₂ _ (Finset.sum_congr rfl fun r _ => ?_) (Finset.sum_congr rfl fun r _ => ?_))
  · rw [h0, w0]
  · rw [h1, w1]

section
variable {P : Ops} {i j : ℕ} (hi : i < 16) (hji : j ≤ i) {dg : Bool} (hd : dg = true ↔ j = i) {X : Heads Ideal} {K V : FVec Ideal S4096x128 .bf16}
  (HX : BlockAt P i X) (HK : KeysAt P K V) {s : St Ideal} (HS : StAt P i j s)

/-- Where a tile writes its columns. -/
theorem col_at (hj : j < 16) (u : Fin 4096) (x : ℝ) (f : ℕ → ℝ) (old w : EReal) (ho : old = ((x + if u.val / 256 < j then ∑ r ∈ Finset.range 256, f r else 0 : ℝ) : EReal))
    (hw : u.val / 256 = j → w = ((x + ∑ r ∈ Finset.range 256, f r : ℝ) : EReal)) :
    (if u.val / 256 = j then w else old) = ((x + if u.val / 256 < j + 1 then ∑ r ∈ Finset.range 256, f r else 0 : ℝ) : EReal) := by
  by_cases h : u.val / 256 = j
  · rw [if_pos h, if_pos (by omega), hw h]
  · rw [if_neg h, ho]
    congr 2
    exact if_congr (by omega) rfl rfl

include hi hji hd HX HK HS in
theorem tile_at : StAt P i (j + 1) (tile dg X K V j s) where
  h0 := carH_at (by omega) hi hji hd HX.h0 HK HS.h0
  h1 := carH_at (by omega) hi hji hd HX.h1 HK HS.h1
  dk_at d u := by
    refine (setCols_at s.dk j (by omega) _ d u).trans (col_at (by omega) u _ _ _ _ (HS.dk_at d u) fun h => ?_)
    have eu : 256 * j + u.val % 256 = u.val := by omega
    refine acc_real _ _ _ _ _ d _ _ (fun r => P.q (256 * i + r) d.val / 8) (fun h r => dz (head P h) (256 * i + r) u.val) ?_ (HX.qt0 d) (HX.qt1 d) (fun r => ?_) (fun r => ?_)
    · rw [cols_at _ j (by omega)]
      refine (HS.dk_at d _).trans ?_
      rw [if_neg (by show ¬ (256 * j + u.val % 256) / 256 < j; omega), add_zero]
      show ((∑ r ∈ Finset.range (256 * i), dkTerm P d.val (256 * j + u.val % 256) r : ℝ) : EReal) = _
      rw [eu]
    · rw [dz_tile (by omega) hi hji hd HX.h0 HK HS.h0]
      show ((dz (head P 0) (256 * i + r.val) (256 * j + u.val % 256) : ℝ) : EReal) = _
      rw [eu]
    · rw [dz_tile (by omega) hi hji hd HX.h1 HK HS.h1]
      show ((dz (head P 1) (256 * i + r.val) (256 * j + u.val % 256) : ℝ) : EReal) = _
      rw [eu]
  dv_at d u := by
    refine (setCols_at s.dv j (by omega) _ d u).trans (col_at (by omega) u _ _ _ _ (HS.dv_at d u) fun h => ?_)
    have eu : 256 * j + u.val % 256 = u.val := by omega
    refine acc_real _ _ _ _ _ d _ _ (fun r => P.o (256 * i + r) d.val) (fun h r => a (head P h) (256 * i + r) u.val) ?_ (HX.dt0 d) (HX.dt1 d) (fun r => ?_) (fun r => ?_)
    · rw [cols_at _ j (by omega)]
      refine (HS.dv_at d _).trans ?_
      rw [if_neg (by show ¬ (256 * j + u.val % 256) / 256 < j; omega), add_zero]
      show ((∑ r ∈ Finset.range (256 * i), dvTerm P d.val (256 * j + u.val % 256) r : ℝ) : EReal) = _
      rw [eu]
    · refine (a_tile (by omega) hi hji hd HX.h0 HK HS.h0 r _).trans ?_
      show ((a (head P 0) (256 * i + r.val) (256 * j + u.val % 256) : ℝ) : EReal) = _
      rw [eu]
    · refine (a_tile (by omega) hi hji hd HX.h1 HK HS.h1 r _).trans ?_
      show ((a (head P 1) (256 * i + r.val) (256 * j + u.val % 256) : ℝ) : EReal) = _
      rw [eu]
end

variable {P : Ops} {i : ℕ} (hi : i < 16) {X : Heads Ideal} {K V : FVec Ideal S4096x128 .bf16} (HX : BlockAt P i X) (HK : KeysAt P K V)

include hi HX HK in
theorem tiles_at {s : St Ideal} (HS : StAt P i 0 s) : ∀ n, n ≤ i → StAt P i n (tiles X K V s n)
  | 0, _ => HS
  | n + 1, h => tile_at hi (by omega) ⟨fun e => absurd e Bool.false_ne_true, fun e => absurd e (by omega)⟩ HX HK (tiles_at HS n (by omega))

include hi HX HK in
theorem sweep_at {s : St Ideal} (HS : StAt P i 0 s) : StAt P i (i + 1) (sweep X K V i s) :=
  tile_at hi le_rfl (by simp) HX HK (tiles_at hi HX HK HS i le_rfl)

theorem car0_at (P : Ops) (h i : ℕ) : CarAt P h i 0 car0 where
  cc_at r := by simp only [Nat.mul_zero, Finset.range_zero, Finset.sum_empty, EReal.coe_zero]; unfold car0; pointwise
  cg_at r := by simp only [Nat.mul_zero, Finset.range_zero, Finset.sum_empty, EReal.coe_zero]; unfold car0; pointwise
  dq_at r d := by simp only [Nat.mul_zero, Finset.range_zero, Finset.sum_empty, EReal.coe_zero]; unfold car0; pointwise

/-- The key-side gradients once query blocks before `i` are in. -/
structure AccAt (P : Ops) (i : ℕ) (dk dv : FVec Ideal S128x4096 .f32) : Prop where
  dk_at : ∀ (d : Fin 128) (u : Fin 4096), dk (ix2 d u) = ((∑ r ∈ Finset.range (256 * i), dkTerm P d.val u.val r : ℝ) : EReal)
  dv_at : ∀ (d : Fin 128) (u : Fin 4096), dv (ix2 d u) = ((∑ r ∈ Finset.range (256 * i), dvTerm P d.val u.val r : ℝ) : EReal)

theorem zero_acc (P : Ops) : AccAt P 0 zero4096 zero4096 where
  dk_at d u := by simp only [Nat.mul_zero, Finset.range_zero, Finset.sum_empty, EReal.coe_zero]; unfold zero4096; pointwise
  dv_at d u := by simp only [Nat.mul_zero, Finset.range_zero, Finset.sum_empty, EReal.coe_zero]; unfold zero4096; pointwise

/-- Keys past the query block get nothing of its rows. -/
theorem past (i u : ℕ) (h : ¬ u / 256 < i + 1) (f : ℕ → ℝ) (hf : ∀ r, ¬ u < r → f r = 0) :
    (∑ r ∈ Finset.range (256 * i), f r) + (if u / 256 < i + 1 then ∑ r ∈ Finset.range 256, f (256 * i + r) else 0) = ∑ r ∈ Finset.range (256 * (i + 1)), f r := by
  rw [if_neg h, add_zero, show 256 * (i + 1) = 256 * i + 256 from by ring, Finset.sum_range_add,
    Finset.sum_eq_zero (s := Finset.range 256) fun r hr => hf _ (by have := Finset.mem_range.1 hr; omega), add_zero]

theorem block_sum (i u : ℕ) (f : ℕ → ℝ) (hf : ∀ r, ¬ u < r → f r = 0) :
    (∑ r ∈ Finset.range (256 * i), f r) + (if u / 256 < i + 1 then ∑ r ∈ Finset.range 256, f (256 * i + r) else 0) = ∑ r ∈ Finset.range (256 * (i + 1)), f r := by
  by_cases h : u / 256 < i + 1
  · rw [if_pos h, show 256 * (i + 1) = 256 * i + 256 from by ring, Finset.sum_range_add]
  · exact past i u h f hf

/-- A query block's point. -/
theorem point_at {q dO : FVec Ideal S256x128 .bf16} {tt : FVec Ideal S256x128 .f32} {dk dv : FVec Ideal S128x4096 .f32}
    (hi : i < 16) (HX : BlockAt P i (heads q dO tt)) (HK : KeysAt P K V) (HA : AccAt P i dk dv) :
    CarAt P 0 i (i + 1) (point q dO tt K V i dk dv).h0 ∧ CarAt P 1 i (i + 1) (point q dO tt K V i dk dv).h1
      ∧ AccAt P (i + 1) (point q dO tt K V i dk dv).dk (point q dO tt K V i dk dv).dv := by
  have H : StAt P i (i + 1) (point q dO tt K V i dk dv) := sweep_at hi HX HK
    { h0 := car0_at P 0 i
      h1 := car0_at P 1 i
      dk_at := fun d u => by rw [if_neg (Nat.not_lt_zero _), add_zero]; exact HA.dk_at d u
      dv_at := fun d u => by rw [if_neg (Nat.not_lt_zero _), add_zero]; exact HA.dv_at d u }
  refine ⟨H.h0, H.h1, ⟨fun d u => ?_, fun d u => ?_⟩⟩
  · rw [H.dk_at, block_sum i u.val (dkTerm P d.val u.val) fun r hr => by rw [dkTerm, dz_late _ _ _ hr, mul_zero]]
  · rw [H.dv_at, block_sum i u.val (dvTerm P d.val u.val) fun r hr => by rw [dvTerm, a_late _ _ _ hr, mul_zero]]

/-- What a query block brings, out of its blocks of the operands. -/
theorem heads_real {q dO : FVec Ideal S256x128 .bf16} {tt : FVec Ideal S256x128 .f32}
    (hq : ∀ (r : Fin 256) (d : Fin 128), q (ix2 r d) = ((P.q (256 * i + r.val) d.val : ℝ) : EReal))
    (ho : ∀ (r : Fin 256) (d : Fin 128), dO (ix2 r d) = ((P.o (256 * i + r.val) d.val : ℝ) : EReal))
    (ht : ∀ (r : Fin 256) (d : Fin 128), tt (ix2 r d) = ((tot (head P (d.val / 64)) (256 * i + r.val) : ℝ) : EReal)) :
    BlockAt P i (heads q dO tt) := by
  have lo : ∀ (d : Fin 128) (x : EReal) (y : ℝ), x = (y : EReal) → (if d.val < 64 then x else 0) = ((if d.val / 64 = 0 then y else 0 : ℝ) : EReal) := fun d x y e => by
    by_cases h : d.val < 64
    · rw [if_pos h, if_pos (by omega), e]
    · rw [if_neg h, if_neg (by omega), EReal.coe_zero]
  have up : ∀ (d : Fin 128) (x : EReal) (y : ℝ), x = (y : EReal) → (if d.val < 64 then 0 else x) = ((if d.val / 64 = 1 then y else 0 : ℝ) : EReal) := fun d x y e => by
    by_cases h : d.val < 64
    · rw [if_pos h, if_neg (by omega), EReal.coe_zero]
    · rw [if_neg h, if_pos (by omega), e]
  have eq : ∀ (r : Fin 256) (d : Fin 128), q (ix2 r d) * ((1 / 8 : ℝ) : EReal) = ((P.q (256 * i + r.val) d.val / 8 : ℝ) : EReal) := fun r d => by
    rw [hq, ← EReal.coe_mul]; congr 1; ring
  exact
    { h0 := ⟨fun r d => (q0_at q dO tt r d).trans (lo d _ _ (eq r d)), fun r d => (d0_at q dO tt r d).trans (lo d _ _ (ho r d)), fun r => (t0_at q dO tt r).trans (ht r 0)⟩
      h1 := ⟨fun r d => (q1_at q dO tt r d).trans (up d _ _ (eq r d)), fun r d => (d1_at q dO tt r d).trans (up d _ _ (ho r d)), fun r => (t1_at q dO tt r).trans (ht r 64)⟩
      qt0 := fun d r => (qt0_at q dO tt r d).trans (lo d _ _ (eq r d))
      qt1 := fun d r => (qt1_at q dO tt r d).trans (up d _ _ (eq r d))
      dt0 := fun d r => (dt0_at q dO tt r d).trans (lo d _ _ (ho r d))
      dt1 := fun d r => (dt1_at q dO tt r d).trans (up d _ _ (ho r d)) }

/-- The queries' gradient a point writes. -/
theorem dq_real (s : St Ideal) (h0 : CarAt P 0 i (i + 1) s.h0) (h1 : CarAt P 1 i (i + 1) s.h1) (hi : i < 16) (r : Fin 256) (d : Fin 128) :
    dqOut s (ix2 r d) = (((∑ u ∈ Finset.range 4096, dz (head P (d.val / 64)) (256 * i + r.val) u * P.k u d.val) / 8 : ℝ) : EReal) := by
  have e : ∀ h, ∑ u ∈ Finset.range 4096, dz (head P h) (256 * i + r.val) u * P.k u d.val = ∑ u ∈ Finset.range (256 * (i + 1)), dz (head P h) (256 * i + r.val) u * P.k u d.val := fun h => by
    rw [show 4096 = 256 * (i + 1) + (4096 - 256 * (i + 1)) from by omega, Finset.sum_range_add,
      Finset.sum_eq_zero (s := Finset.range (4096 - 256 * (i + 1))) fun u _ => by rw [dz_late _ _ _ (by omega), zero_mul], add_zero]
  rw [dqOut_at]
  by_cases h : d.val < 64
  · rw [if_pos h, h0.dq_at, show d.val / 64 = 0 from by omega, e, ← EReal.coe_mul]; congr 1; ring
  · rw [if_neg h, h1.dq_at, show d.val / 64 = 1 from by omega, e, ← EReal.coe_mul]; congr 1; ring

end Cert.SbKernelIdeal.Tile

end
-- ==== Proof.SbAcc.lean ====
/- The stick-breaking backward kernel's sweep state at every point, and its blocks of the results, over the reals. -/
module

public import proofs.«01_k».proof.Proof.SbBlocks
public import proofs.«01_k».proof.Proof.SbHost
public import proofs.«01_k».proof.Proof.SbKeys

@[expose] public section

set_option maxRecDepth 16384

noncomputable section

open Idealize.ShloMosaic Idealize.ShloMosaic.TcCoe Idealize.SL.Sem
open scoped BigOperators

namespace Cert.SbKernelIdeal.Tile

open Cert.SbKernelIdeal Cert.SbKernelIdeal.Gen SbReal

variable (m : (ℓ : Loc nD τ sig) → Buf (Elt Ideal) ℓ) (c : Dev nD)

/-- A sample's operands. -/
def sample (b : Fin 2) : Ops := ops (m ((c : Thread nD τ).loc main_arg0)) (m ((c : Thread nD τ).loc main_arg1)) b

/-- The pair of heads of point `n`. -/
def pairAt (n : ℕ) (h : n < 256) : Ops := from_ (sample m c (⟨n / 128, by omega⟩ : Fin 2)) (128 * (n / 16 % 8))

theorem pairAt_prev (n : ℕ) (h : n < 256) (h' : n - 1 < 256) (hn : ¬ n % 16 = 0) : pairAt m c (n - 1) h' = pairAt m c n h := by
  unfold pairAt
  congr 2
  · exact Fin.ext (by dsimp only; omega)
  · omega

variable (hx : ∀ i, RealKit.Fin' (m ((c : Thread nD τ).loc main_arg0) i)) (ho : ∀ i, RealKit.Fin' (m ((c : Thread nD τ).loc main_arg1) i))
include hx

theorem keysAt (t : Fin cfg0.N) : KeysAt (pairAt m c t.val (lt_N t)) (iblk m c 1 t) (iblk m c 2 t) where
  k_at s d := by
    rw [blk_1]
    have e : 1024 + 128 * (t.val / 16 % 8) + d.val = 1024 + (128 * (t.val / 16 % 8) + d.val) := by omega
    simp only [e]
    exact k_coe _ (m ((c : Thread nD τ).loc main_arg1)) _ hx s _ (by omega)
  v_at s d := by
    rw [blk_2]
    have e : 2048 + 128 * (t.val / 16 % 8) + d.val = 2048 + (128 * (t.val / 16 % 8) + d.val) := by omega
    simp only [e]
    exact v_coe _ (m ((c : Thread nD τ).loc main_arg1)) _ hx s _ (by omega)

include ho

theorem blockAt (t : Fin cfg0.N) : BlockAt (pairAt m c t.val (lt_N t)) (t.val % 16) (heads (iblk m c 0 t) (iblk m c 3 t) (iblk m c 4 t)) :=
  heads_real
    (fun r d => by
      rw [blk_0]
      exact q_coe _ (m ((c : Thread nD τ).loc main_arg1)) _ hx (⟨256 * (t.val % 16) + r.val, by omega⟩ : Fin 4096) _ (by omega))
    (fun r d => by
      rw [blk_3]
      exact o_coe (m ((c : Thread nD τ).loc main_arg0)) _ _ ho (⟨256 * (t.val % 16) + r.val, by omega⟩ : Fin 4096) _ (by omega))
    (fun r d => by
      rw [blk_4, hostTot_real _ (m ((c : Thread nD τ).loc main_arg1)) hx, pairAt, head_pair]; rfl)

/-- The state at a point, given the accumulators it starts from. -/
theorem acc_step (t : Fin cfg0.N) {dk dv : FVec Ideal S128x4096 .f32} (HA : AccAt (pairAt m c t.val (lt_N t)) (t.val % 16) dk dv) :
    CarAt (pairAt m c t.val (lt_N t)) 0 (t.val % 16) (t.val % 16 + 1) (point (iblk m c 0 t) (iblk m c 3 t) (iblk m c 4 t) (iblk m c 1 t) (iblk m c 2 t) (t.val % 16) dk dv).h0
    ∧ CarAt (pairAt m c t.val (lt_N t)) 1 (t.val % 16) (t.val % 16 + 1) (point (iblk m c 0 t) (iblk m c 3 t) (iblk m c 4 t) (iblk m c 1 t) (iblk m c 2 t) (t.val % 16) dk dv).h1
    ∧ AccAt (pairAt m c t.val (lt_N t)) (t.val % 16 + 1) (point (iblk m c 0 t) (iblk m c 3 t) (iblk m c 4 t) (iblk m c 1 t) (iblk m c 2 t) (t.val % 16) dk dv).dk
        (point (iblk m c 0 t) (iblk m c 3 t) (iblk m c 4 t) (iblk m c 1 t) (iblk m c 2 t) (t.val % 16) dk dv).dv :=
  point_at (Nat.mod_lt _ (by norm_num)) (blockAt m c hx ho t) (keysAt m c hx t) HA

/-- The state a point leaves. -/
theorem swept (n : ℕ) : ∀ t : Fin cfg0.N, t.val = n →
    CarAt (pairAt m c t.val (lt_N t)) 0 (t.val % 16) (t.val % 16 + 1) (accAt m c t.val t.isLt).h0
    ∧ CarAt (pairAt m c t.val (lt_N t)) 1 (t.val % 16) (t.val % 16 + 1) (accAt m c t.val t.isLt).h1
    ∧ AccAt (pairAt m c t.val (lt_N t)) (t.val % 16 + 1) (accAt m c t.val t.isLt).dk (accAt m c t.val t.isLt).dv := by
  induction n with
  | zero =>
    intro t ht
    have h0 : t.val % 16 = 0 := by omega
    rw [accAt_first m c t h0]
    refine acc_step m c hx ho t ?_
    rw [h0]; exact zero_acc _
  | succ n ih =>
    intro t ht
    by_cases h0 : t.val % 16 = 0
    · rw [accAt_first m c t h0]
      refine acc_step m c hx ho t ?_
      rw [h0]; exact zero_acc _
    · rw [accAt_next m c t h0]
      refine acc_step m c hx ho t ?_
      have H := (ih ⟨t.val - 1, Nat.lt_of_le_of_lt (Nat.sub_le _ _) t.isLt⟩ (by dsimp only; omega)).2.2
      dsimp only at H
      rw [pairAt_prev m c t.val (lt_N t) _ h0, show (t.val - 1) % 16 + 1 = t.val % 16 from by omega] at H
      exact H

/-- The queries' gradient a point writes. -/
theorem dq_block (t : Fin cfg0.N) (r : Fin 256) (d : Fin 128) : dqOut (accAt m c t.val t.isLt) (ix2 r d)
    = ((dq (head (sample m c (⟨t.val / 128, by have := lt_N t; omega⟩ : Fin 2)) (2 * (t.val / 16 % 8) + d.val / 64)) (256 * (t.val % 16) + r.val) (d.val % 64) : ℝ) : EReal) := by
  obtain ⟨h0, h1, -⟩ := swept m c hx ho t.val t rfl
  rw [dq_real _ h0 h1 (Nat.mod_lt _ (by norm_num)), pairAt, head_pair, dq]
  have e : ∀ u, (head (sample m c (⟨t.val / 128, by have := lt_N t; omega⟩ : Fin 2)) (2 * (t.val / 16 % 8) + d.val / 64)).k u (d.val % 64)
      = (from_ (sample m c (⟨t.val / 128, by have := lt_N t; omega⟩ : Fin 2)) (128 * (t.val / 16 % 8))).k u d.val := fun u => by
    show (sample m c _).k u _ = (sample m c _).k u _
    congr 1; omega
  simp only [e]

/-- The keys' gradient after a row of points. -/
theorem dk_block (t : Fin cfg0.N) (ht : t.val % 16 = 15) (d : Fin 128) (s : Fin 4096) : (accAt m c t.val t.isLt).dk (ix2 d s)
    = ((dk (head (sample m c (⟨t.val / 128, by have := lt_N t; omega⟩ : Fin 2)) (2 * (t.val / 16 % 8) + d.val / 64)) s.val (d.val % 64) : ℝ) : EReal) := by
  obtain ⟨-, -, H⟩ := swept m c hx ho t.val t rfl
  rw [H.dk_at, ht, dk, Finset.sum_div]
  congr 1
  refine Finset.sum_congr (by norm_num) fun r _ => ?_
  rw [dkTerm, pairAt, head_pair, div_mul_eq_mul_div, mul_comm]
  congr 2
  show (sample m c _).q r _ = (sample m c _).q r _
  congr 1; omega

/-- The values' gradient after a row of points. -/
theorem dv_block (t : Fin cfg0.N) (ht : t.val % 16 = 15) (d : Fin 128) (s : Fin 4096) : (accAt m c t.val t.isLt).dv (ix2 d s)
    = ((dv (head (sample m c (⟨t.val / 128, by have := lt_N t; omega⟩ : Fin 2)) (2 * (t.val / 16 % 8) + d.val / 64)) s.val (d.val % 64) : ℝ) : EReal) := by
  obtain ⟨-, -, H⟩ := swept m c hx ho t.val t rfl
  rw [H.dv_at, ht, dv]
  congr 1
  refine Finset.sum_congr (by norm_num) fun r _ => ?_
  rw [dvTerm, pairAt, head_pair, mul_comm]
  congr 1
  show (sample m c _).o r _ = (sample m c _).o r _
  congr 1; omega

end Cert.SbKernelIdeal.Tile

end
-- ==== Proof.SbValue.lean ====
/- The stick-breaking backward kernel's results after the run, over the reals. -/
module

public import proofs.«01_k».proof.Proof.SbAcc

@[expose] public section

set_option maxRecDepth 16384

noncomputable section

open Idealize.ShloMosaic Idealize.ShloMosaic.TcCoe Idealize.SL.Sem
open scoped BigOperators

namespace Cert.SbKernelIdeal.Tile

open Cert.SbKernelIdeal Cert.SbKernelIdeal.Gen SbReal

variable (m : (ℓ : Loc nD τ sig) → Buf (Elt Ideal) ℓ) (c : Dev nD)

variable (hx : ∀ i, RealKit.Fin' (m ((c : Thread nD τ).loc main_arg0) i)) (ho : ∀ i, RealKit.Fin' (m ((c : Thread nD τ).loc main_arg1) i))
include hx ho

/-- The queries' gradient. -/
theorem final_5 : (dats m 0 c).arrAt 5 (cfgs 0).N = tokenArray (m ((c : Thread nD τ).loc main_arg0)) (m ((c : Thread nD τ).loc main_arg1)) dq := by
  refine (dats m 0 c).arrAt_eq_of_covers 5 _ (by decide +kernel) fun t hf y => ?_
  have hN := lt_N t
  blk_simp; rw [after_5]
  idx_vars y
  rw [emb_5]
  refine (dq_block m c hx ho t y0 y1).trans ?_
  exact byToken_eq _ _ _ _ _ _ _ _ _ (by dsimp only; omega) (by omega) (by dsimp only; omega) (by omega)

/-- The keys' gradient, by lane. -/
theorem final_6 : (dats m 0 c).arrAt 6 (cfgs 0).N = laneArray (m ((c : Thread nD τ).loc main_arg0)) (m ((c : Thread nD τ).loc main_arg1)) dk := by
  refine (dats m 0 c).arrAt_eq_of_covers 6 _ (by decide +kernel) fun t hf y => ?_
  have hN := lt_N t
  have hl : t.val % 16 = 15 := (flush0_6 t).mp hf
  blk_simp; rw [after_6]
  idx_vars y
  rw [emb_6]
  refine (dk_block m c hx ho t hl y0 y1).trans ?_
  exact byLane_eq _ _ _ _ _ _ _ _ (by dsimp only; omega) (by omega) (by omega)

/-- The values' gradient, by lane. -/
theorem final_7 : (dats m 0 c).arrAt 7 (cfgs 0).N = laneArray (m ((c : Thread nD τ).loc main_arg0)) (m ((c : Thread nD τ).loc main_arg1)) dv := by
  refine (dats m 0 c).arrAt_eq_of_covers 7 _ (by decide +kernel) fun t hf y => ?_
  have hN := lt_N t
  have hl : t.val % 16 = 15 := (flush0_7 t).mp hf
  blk_simp; rw [after_7]
  idx_vars y
  rw [emb_7]
  refine (dv_block m c hx ho t hl y0 y1).trans ?_
  exact byLane_eq _ _ _ _ _ _ _ _ (by dsimp only; omega) (by omega) (by omega)

/-- The keys' gradient, by token. -/
theorem final_8 : (dats m 0 c).arrAt 8 (cfgs 0).N = tokenArray (m ((c : Thread nD τ).loc main_arg0)) (m ((c : Thread nD τ).loc main_arg1)) dk := by
  refine (dats m 0 c).arrAt_eq_of_covers 8 _ (by decide +kernel) fun t hf y => ?_
  have hN := lt_N t
  have hl : t.val % 16 = 15 := (flush0_8 t).mp hf
  blk_simp; rw [after_8]
  idx_vars y
  rw [emb_8]
  refine ((tokenMajor_at _ y0 y1).trans (dk_block m c hx ho t hl y1 y0)).trans ?_
  exact byToken_eq _ _ _ _ _ _ _ _ _ rfl (by omega) (by dsimp only; omega) (by omega)

/-- The values' gradient, by token. -/
theorem final_9 : (dats m 0 c).arrAt 9 (cfgs 0).N = tokenArray (m ((c : Thread nD τ).loc main_arg0)) (m ((c : Thread nD τ).loc main_arg1)) dv := by
  refine (dats m 0 c).arrAt_eq_of_covers 9 _ (by decide +kernel) fun t hf y => ?_
  have hN := lt_N t
  have hl : t.val % 16 = 15 := (flush0_9 t).mp hf
  blk_simp; rw [after_9]
  idx_vars y
  rw [emb_9]
  refine ((tokenMajor_at _ y0 y1).trans (dv_block m c hx ho t hl y1 y0)).trans ?_
  exact byToken_eq _ _ _ _ _ _ _ _ _ rfl (by omega) (by dsimp only; omega) (by omega)

end Cert.SbKernelIdeal.Tile

end
-- ==== Proof.SbWindow.lean ====
/- Running sums along the last axis: what the host's window sums read at an entry, over the reals. -/
module

public import proofs.«01_k».proof.Proof.RealKit
public import Idealize.ShloMosaic.Lib.Pipeline.ValueKit

@[expose] public section

set_option maxRecDepth 16384

noncomputable section

open Idealize.ShloMosaic
open scoped BigOperators

namespace WindowSum

/-- A fold of additions is a sum. -/
theorem fold_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The position of a window's entry in the padded operand. -/
def place {s t : Shape} {window strides lo hi : Fin s.rank → ℕ} (h : s.ReduceWindows window strides lo hi t) (j : t.Idx) (w : (⟨s.rank, window⟩ : Shape).Idx) : Fin s.rank → ℕ :=
  fun a => (j (a.cast h.1.symm)).val * strides a + (w a).val

/-- The operand there, zero in the padding. -/
def entry {s : Shape} (lo : Fin s.rank → ℕ) (x : s.Idx → EReal) (p : Fin s.rank → ℕ) : EReal :=
  if hin : ∀ a, lo a ≤ p a ∧ p a - lo a < s.size a then x (fun a => ⟨p a - lo a, (hin a).2⟩) else 0

/-- A window's sum from zero is the sum over its entries. -/
theorem sum_eq {s t : Shape} {window strides lo hi : Fin s.rank → ℕ} (h : s.ReduceWindows window strides lo hi t) (x : s.Idx → EReal) (j : t.Idx) :
    Ideal.hostReduceWindowAdd window strides lo hi h x 0 j = ∑ w : (⟨s.rank, window⟩ : Shape).Idx, entry lo x (place h j w) := by
  have e : Ideal.hostReduceWindowAdd window strides lo hi h x 0 j
      = (List.finRange (⟨s.rank, window⟩ : Shape).numel).foldl (fun r n => r + entry lo x (place h j ((⟨s.rank, window⟩ : Shape).rowMajor.symm n))) 0 := by
    unfold Ideal.hostReduceWindowAdd Host.reduceWindow entry place
    dsimp only
    refine congrArg (fun g => List.foldl g 0 _) (funext fun r => funext fun n => congrArg (r + ·) ?_)
    split_ifs <;> rfl
  rw [e, fold_sum, zero_add, ← Fin.sum_univ_def]
  exact Equiv.sum_comp (⟨s.rank, window⟩ : Shape).rowMajor.symm fun w => entry lo x (place h j w)

/-- The arrays' shape. -/
abbrev Rows : Shape := ⟨4, ![2, 16, 4096, 4096]⟩

/-- A window of a whole row, at an entry. -/
theorem row_sum {lo hi : Fin 4 → ℕ} (h : Rows.ReduceWindows ![1, 1, 1, 4096] ![1, 1, 1, 1] lo hi Rows) (l : ℕ) (hl : lo = ![0, 0, 0, l]) (x : Rows.Idx → EReal)
    (b : Fin 2) (n : Fin 16) (r s : Fin 4096) (f : ℕ → ℝ) (hf : ∀ u : Fin 4096, x (ix4 b n r u) = ((f u.val : ℝ) : EReal)) :
    Ideal.hostReduceWindowAdd ![1, 1, 1, 4096] ![1, 1, 1, 1] lo hi h x 0 (ix4 b n r s)
      = ((∑ u ∈ Finset.range 4096, if l ≤ s.val + u ∧ s.val + u - l < 4096 then f (s.val + u - l) else 0 : ℝ) : EReal) := by
  subst hl
  have e : ∀ u : Fin 4096, entry ![0, 0, 0, l] x (place h (ix4 b n r s) (ix4 (n0 := 1) (n1 := 1) (n2 := 1) 0 0 0 u))
      = ((if l ≤ s.val + u.val ∧ s.val + u.val - l < 4096 then f (s.val + u.val - l) else 0 : ℝ) : EReal) := fun u => by
    have p0 : place h (ix4 b n r s) (ix4 (n0 := 1) (n1 := 1) (n2 := 1) 0 0 0 u) 0 = b.val := by
      show b.val * 1 + 0 = b.val; omega
    have p1 : place h (ix4 b n r s) (ix4 (n0 := 1) (n1 := 1) (n2 := 1) 0 0 0 u) 1 = n.val := by
      show n.val * 1 + 0 = n.val; omega
    have p2 : place h (ix4 b n r s) (ix4 (n0 := 1) (n1 := 1) (n2 := 1) 0 0 0 u) 2 = r.val := by
      show r.val * 1 + 0 = r.val; omega
    have p3 : place h (ix4 b n r s) (ix4 (n0 := 1) (n1 := 1) (n2 := 1) 0 0 0 u) 3 = s.val + u.val := by
      show s.val * 1 + u.val = _; omega
    generalize place h (ix4 b n r s) (ix4 (n0 := 1) (n1 := 1) (n2 := 1) 0 0 0 u) = p at p0 p1 p2 p3
    by_cases hc : l ≤ s.val + u.val ∧ s.val + u.val - l < 4096
    · have hin : ∀ a, (![0, 0, 0, l] : Fin 4 → ℕ) a ≤ p a ∧ p a - (![0, 0, 0, l] : Fin 4 → ℕ) a < Rows.size a := fun a => by
        fin_cases a
        · exact ⟨Nat.zero_le _, lt_of_eq_of_lt (Nat.sub_zero _) (lt_of_eq_of_lt p0 b.isLt)⟩
        · exact ⟨Nat.zero_le _, lt_of_eq_of_lt (Nat.sub_zero _) (lt_of_eq_of_lt p1 n.isLt)⟩
        · exact ⟨Nat.zero_le _, lt_of_eq_of_lt (Nat.sub_zero _) (lt_of_eq_of_lt p2 r.isLt)⟩
        · exact ⟨le_of_le_of_eq hc.1 p3.symm, lt_of_eq_of_lt (congrArg (· - l) p3) hc.2⟩
      rw [if_pos hc, entry, dif_pos hin, ← hf ⟨s.val + u.val - l, hc.2⟩]
      congr 1
      funext a
      fin_cases a
      · exact Fin.ext ((Nat.sub_zero _).trans p0)
      · exact Fin.ext ((Nat.sub_zero _).trans p1)
      · exact Fin.ext ((Nat.sub_zero _).trans p2)
      · exact Fin.ext (congrArg (· - l) p3)
    · rw [if_neg hc, entry, dif_neg (fun hin => hc (by have := hin 3; rw [p3] at this; exact this)), EReal.coe_zero]
  rw [sum_eq, sum_idx4]
  simp only [Fin.sum_univ_one, Fin.isValue]
  rw [Finset.sum_congr rfl fun u _ => e u, Finset.sum_range, RealKit.coe_sum]

/-- The running sum from an entry to the row's end. -/
theorem suffix (s : ℕ) (hs : s < 4096) (f : ℕ → ℝ) :
    (∑ u ∈ Finset.range 4096, if 0 ≤ s + u ∧ s + u - 0 < 4096 then f (s + u - 0) else 0) = ∑ u ∈ Finset.range 4096, if s ≤ u then f u else 0 := by
  rw [← Finset.sum_filter, ← Finset.sum_filter]
  refine Finset.sum_bij (fun u _ => s + u) (fun u hu => ?_) (fun u _ v _ h => by omega) (fun v hv => ?_) (fun u _ => rfl)
  · simp only [Finset.mem_filter, Finset.mem_range] at hu ⊢; omega
  · simp only [Finset.mem_filter, Finset.mem_range] at hv ⊢
    exact ⟨v - s, by omega, by omega⟩

/-- The running sum from the row's start through an entry. -/
theorem prefix_ (s : ℕ) (hs : s < 4096) (f : ℕ → ℝ) :
    (∑ u ∈ Finset.range 4096, if 4095 ≤ s + u ∧ s + u - 4095 < 4096 then f (s + u - 4095) else 0) = ∑ u ∈ Finset.range (s + 1), f u := by
  rw [← Finset.sum_filter]
  refine Finset.sum_bij (fun u _ => s + u - 4095) (fun u hu => ?_) (fun u hu v hv h => ?_) (fun v hv => ?_) (fun u _ => rfl)
  · simp only [Finset.mem_filter, Finset.mem_range] at hu ⊢; omega
  · simp only [Finset.mem_filter, Finset.mem_range] at hu hv; omega
  · simp only [Finset.mem_filter, Finset.mem_range] at hv ⊢
    exact ⟨v + 4095 - s, by omega, by omega⟩

end WindowSum

end
-- ==== Proof.SbRef.lean ====
/- The stick-breaking reference's arrays at an entry, over the reals. -/
module

public import proofs.«01_k».proof.Proof.SbScalar
public import proofs.«01_k».proof.Proof.SbWindow
public import proofs.«01_k».proof.Proof.Gen.SbReferenceIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.StableHlo Idealize.ShloMosaic.WordCmp
open scoped BigOperators

namespace Cert.SbReferenceIdeal.Value

open Cert.SbReferenceIdeal Cert.SbReferenceIdeal.Gen SbReal

theorem sum_coe {f g : Fin 4096 → EReal} (x y : ℕ → ℝ) (hf : ∀ u : Fin 4096, f u = ((x u.val : ℝ) : EReal)) (hg : ∀ u : Fin 4096, g u = ((y u.val : ℝ) : EReal)) :
    (∑ u, f u * g u) = ((∑ u ∈ Finset.range 4096, x u * y u : ℝ) : EReal) :=
  (Finset.sum_congr rfl fun u _ => congrArg₂ (fun x y : EReal => x * y) (hf u) (hg u)).trans (coe_dot 4096 x y)

/-- The logit's cotangent as the reference's arithmetic leaves it. -/
theorem dz_word (X : Ops) (r s : ℕ) :
    (-(-((-(if s < r then ((∑ u ∈ Finset.range s, g X r u : ℝ) : EReal) else 0)) * Ideal.exp (((z X r s : ℝ) : EReal) - ((-ls (-z X r s) : ℝ) : EReal))))
      + -(-((g X r s : ℝ) : EReal) * Ideal.exp (((-z X r s : ℝ) : EReal) - ((-ls (z X r s) : ℝ) : EReal)))) * ((1 / 8 : ℝ) : EReal) = ((dz X r s / 8 : ℝ) : EReal) := by
  have e0 : z X r s - -ls (-z X r s) = ls (z X r s) := by rw [ls_neg]; ring
  have e1 : -z X r s - -ls (z X r s) = ls (-z X r s) := by rw [ls_neg]; ring
  rw [← EReal.coe_sub, ← EReal.coe_sub, e0, e1, Ideal.exp_coe, Ideal.exp_coe]
  by_cases h : s < r
  · rw [if_pos h, dz_chain X r s h]
    simp only [← EReal.coe_neg, ← EReal.coe_mul, ← EReal.coe_add]
    congr 1; ring
  · rw [if_neg h, dz_late X r s h, g_late X r s h, ← EReal.coe_zero]
    simp only [← EReal.coe_neg, ← EReal.coe_mul, ← EReal.coe_add]
    congr 1; ring

variable (V0 : Valuation τ sig (Elt Ideal))

/-- The two arguments. -/
abbrev rows : FVec Ideal S2x4096x3072 .bf16 := V0 (Proc.devRef .tc main_arg0)
abbrev cot : FVec Ideal S2x4096x1024 .bf16 := V0 (Proc.devRef .tc main_arg1)

theorem v4_at (b : Fin 2) (r : Fin 4096) (h : Fin 16) (d : Fin 64) : res_main_v4 V0 (ix4 b r h d) = rows V0 (ix3 b r (⟨h.val * 64 + d.val, by omega⟩ : Fin 3072)) := by
  pointwise [res_main_v4, res_main_v0]

theorem v5_at (b : Fin 2) (r : Fin 4096) (h : Fin 16) (d : Fin 64) : res_main_v5 V0 (ix4 b r h d) = rows V0 (ix3 b r (⟨1024 + (h.val * 64 + d.val), by omega⟩ : Fin 3072)) := by
  pointwise [res_main_v5, res_main_v0]

theorem v6_at (b : Fin 2) (r : Fin 4096) (h : Fin 16) (d : Fin 64) : res_main_v6 V0 (ix4 b r h d) = rows V0 (ix3 b r (⟨2048 + (h.val * 64 + d.val), by omega⟩ : Fin 3072)) := by
  pointwise [res_main_v6, res_main_v0]

theorem v35_at (b : Fin 2) (h : Fin 16) (d : Fin 64) (r : Fin 4096) : res_main_v35 V0 (ix4 b h d r) = cot V0 (ix3 b r (⟨h.val * 64 + d.val, by omega⟩ : Fin 1024)) := by
  pointwise [res_main_v35]

theorem v16_at (r s : Fin 4096) : res_main_v16 V0 (ix2 r s) = BitVec.ofBool (decide (s.val < r.val)) := by
  pointwise [res_main_v16]
  rw [cmpi_slt_ofNat (by omega) (by omega)]

/-- A zero broadcast through an identity, as the choice's other branch. -/
theorem id_zero : (id (constant (F := Ideal) S_ .f32 0x00000000#32) : FVec Ideal S_ .f32) ix0 = (0 : EReal) := by
  show (constant (F := Ideal) S_ .f32 0x00000000#32 : FVec Ideal S_ .f32) ix0 = (0 : EReal)
  pointwise

theorem sp0_at (b : Fin 2) (h : Fin 16) (r s : Fin 4096) (w : ℝ) (hw : res_main_v9 V0 (ix4 b h r s) = (w : EReal)) : res_main_call0_v1_0 V0 (ix4 b h r s) = ((-ls w : ℝ) : EReal) := by
  pointwise [res_main_call0_v1_0, res_main_call0_call0_v3, res_main_call0_call0_cst, res_main_call0_v0]
  rw [if_neg (fun e => e rfl), hw, ← EReal.coe_neg]
  rw [show -ls w = -ls (-(-w)) by rw [neg_neg]]
  exact soft_plus (-w)

theorem sp1_at (b : Fin 2) (h : Fin 16) (r s : Fin 4096) (w : ℝ) (hw : res_main_v9 V0 (ix4 b h r s) = (w : EReal)) : res_main_call1_v1_0 V0 (ix4 b h r s) = ((-ls (-w) : ℝ) : EReal) := by
  pointwise [res_main_call1_v1_0, res_main_call1_call0_v3, res_main_call1_call0_cst, res_main_call1_v0]
  rw [if_neg (fun e => e rfl), hw]
  try rw [neg_neg]
  exact soft_plus w

/-- The head's operands. -/
abbrev hd (b : Fin 2) (h : Fin 16) : Ops := head (SbReal.ops (rows V0) (cot V0) b) h.val

variable (hx : ∀ i, RealKit.Fin' (rows V0 i)) (ho : ∀ i, RealKit.Fin' (cot V0 i)) (b : Fin 2) (h : Fin 16)

section
include hx

theorem v4_real (r : Fin 4096) (d : Fin 64) : res_main_v4 V0 (ix4 b r h d) = (((hd V0 b h).q r.val d.val : ℝ) : EReal) := by
  rw [v4_at]
  refine (q_coe _ (cot V0) b hx r _ (by omega)).trans ?_
  rw [mul_comm]; rfl

theorem v5_real (r : Fin 4096) (d : Fin 64) : res_main_v5 V0 (ix4 b r h d) = (((hd V0 b h).k r.val d.val : ℝ) : EReal) := by
  rw [v5_at]
  refine (k_coe _ (cot V0) b hx r _ (by omega)).trans ?_
  rw [mul_comm]; rfl

theorem v6_real (r : Fin 4096) (d : Fin 64) : res_main_v6 V0 (ix4 b r h d) = (((hd V0 b h).v r.val d.val : ℝ) : EReal) := by
  rw [v6_at]
  refine (v_coe _ (cot V0) b hx r _ (by omega)).trans ?_
  rw [mul_comm]; rfl

theorem v9_real (r s : Fin 4096) : res_main_v9 V0 (ix4 b h r s) = ((z (hd V0 b h) r.val s.val : ℝ) : EReal) := by
  pointwise [res_main_v9]
  rw [Finset.sum_congr rfl fun d _ => congrArg₂ (fun x y : EReal => x * y) (v4_real V0 hx b h r d) (v5_real V0 hx b h s d)]
  refine (congrArg₂ (fun x y : EReal => x * y) (coe_dot 64 (fun d => (hd V0 b h).q r.val d) (fun d => (hd V0 b h).k s.val d)) RealKit.eighth_f32).trans ?_
  rw [← EReal.coe_mul, mul_one_div]; rfl

/-- The kept gates' running sum's operand. -/
def gates : FVec Ideal S2x16x4096x4096 .f32 := select (res_main_v20_1 V0) (Host.negf (res_main_call1_v1_0 V0)) (broadcastInDim S2x16x4096x4096 ![] bcast_S_S2x16x4096x4096 (id (constant S_ .f32 0x00000000#32)))

theorem gates_real (r s : Fin 4096) : gates V0 (ix4 b h r s) = ((L (hd V0 b h) r.val s.val : ℝ) : EReal) := by
  pointwise [gates, res_main_v20_1]
  rw [v16_at, choose_at, id_zero, sp1_at V0 b h r s _ (v9_real V0 hx b h r s), ← EReal.coe_neg, neg_neg, L]
  split_ifs
  · rfl
  · rfl

theorem v21_real (r s : Fin 4096) : res_main_v21 V0 (ix4 b h r s) = ((∑ u ∈ Finset.range 4096, if s.val ≤ u then L (hd V0 b h) r.val u else 0 : ℝ) : EReal) := by
  have e : res_main_v21 V0 (ix4 b h r s) = Ideal.hostReduceWindowAdd ![1, 1, 1, 4096] ![1, 1, 1, 1] ![0, 0, 0, 0] ![0, 0, 0, 4095]
      reduceWindows_S2x16x4096x4096_S2x16x4096x4096_w1s1p0_0_w1s1p0_0_w1s1p0_0_w4096s1p0_4095 (gates V0) 0 (ix4 b h r s) := by
    have z0 : broadcastInDim S_ ![] bcast_S_S_ (constant (F := Ideal) S_ .f32 0x00000000#32) (Shape.Idx.first h_S_) = (0 : EReal) := by pointwise
    rw [res_main_v21]
    unfold Host.reduceWindowAdd
    rw [Ideal.hostReduceWindowAdd_def, z0]
    rfl
  rw [e, WindowSum.row_sum _ 0 rfl (gates V0) b h r s _ (gates_real V0 hx b h r), WindowSum.suffix s.val s.isLt]

theorem v28_real (r s : Fin 4096) : res_main_v28 V0 (ix4 b h r s)
    = ((Real.exp (ls (z (hd V0 b h) r.val s.val) + ∑ u ∈ Finset.range 4096, if s.val < u then L (hd V0 b h) r.val u else 0) : ℝ) : EReal) := by
  pointwise [res_main_v28]
  rw [sp0_at V0 b h r s _ (v9_real V0 hx b h r s), ← EReal.coe_neg, neg_neg]
  have e : (if h_1 : s.val < 4095 then res_main_v21 V0 (ix4 b h r ⟨1 + s.val, by omega⟩) else (0 : EReal))
      = ((∑ u ∈ Finset.range 4096, if s.val < u then L (hd V0 b h) r.val u else 0 : ℝ) : EReal) := by
    split_ifs with hs
    · rw [v21_real V0 hx b h r]
      congr 1
      exact Finset.sum_congr rfl fun u _ => if_congr (by dsimp only; omega) rfl rfl
    · rw [Finset.sum_eq_zero fun u hu => if_neg (by have := Finset.mem_range.1 hu; omega), EReal.coe_zero]
  refine (congrArg (fun y : EReal => Ideal.exp (_ + y)) e).trans ?_
  rw [← EReal.coe_add, Ideal.exp_coe]

theorem v29_real (r s : Fin 4096) : res_main_v29_0 V0 (ix4 b h r s) = ((a (hd V0 b h) r.val s.val : ℝ) : EReal) := by
  pointwise [res_main_v29_0, res_main_v29_1]
  rw [v16_at, choose_at, id_zero, v28_real V0 hx b h r s, a]
  split_ifs
  · rfl
  · rfl

end

section
include ho

theorem v35_real (r : Fin 4096) (d : Fin 64) : res_main_v35 V0 (ix4 b h d r) = (((hd V0 b h).o r.val d.val : ℝ) : EReal) := by
  rw [v35_at]
  refine (o_coe (rows V0) _ b ho r _ (by omega)).trans ?_
  rw [mul_comm]; rfl

include hx

theorem v40_real (r s : Fin 4096) : res_main_v40 V0 (ix4 b h r s) = ((g (hd V0 b h) r.val s.val : ℝ) : EReal) := by
  pointwise [res_main_v40, res_main_v29_1]
  rw [v16_at, choose_at, v28_real V0 hx b h r s, Finset.sum_congr rfl fun d _ => congrArg₂ (fun x y : EReal => x * y) (v35_real V0 ho b h r d) (v6_real V0 hx b h s d)]
  refine (congrArg (fun y : EReal => if s.val < r.val then y * _ else (0 : EReal)) (coe_dot 64 (fun d => (hd V0 b h).o r.val d) (fun d => (hd V0 b h).v s.val d))).trans ?_
  rw [g, a, da]
  split_ifs
  · rw [← EReal.coe_mul, mul_comm]
  · rw [zero_mul]; rfl

/-- The gradient's running sum's operand. -/
def shifted : FVec Ideal S2x16x4096x4096 .f32 := pad S2x16x4096x4096 ![0, 0, 0, 1] ![0, 0, 0, 0] ![0, 0, 0, 0] (extractStridedSlice S2x16x4096x4095 ![0, 0, 0, 0] (res_main_v40 V0) slices_S2x16x4096x4096_S2x16x4096x4095_0_0_0_0) (constant (F := Ideal) S_ .f32 0x00000000#32) pads_S2x16x4096x4095_S2x16x4096x4096_000_000_000_100 h_S_

theorem shifted_real (r s : Fin 4096) : shifted V0 (ix4 b h r s) = ((if 1 ≤ s.val then g (hd V0 b h) r.val (s.val - 1) else 0 : ℝ) : EReal) := by
  pointwise [shifted]
  by_cases hs : 1 ≤ s.val
  · rw [dif_pos ⟨hs, by omega⟩, if_pos hs, v40_real V0 hx ho b h]
  · rw [dif_neg (fun e => hs e.1), if_neg hs, EReal.coe_zero]

/-- The sums of the gradient over the earlier keys. -/
def earlierSums : FVec Ideal S2x16x4096x4096 .f32 := Host.reduceWindowAdd ![1, 1, 1, 4096] ![1, 1, 1, 1] ![0, 0, 0, 4095] ![0, 0, 0, 0] (shifted V0) (broadcastInDim S_ ![] bcast_S_S_ (constant S_ .f32 0x00000000#32)) reduceWindows_S2x16x4096x4096_S2x16x4096x4096_w1s1p0_0_w1s1p0_0_w1s1p0_0_w4096s1p4095_0 h_S_

theorem earlierSums_real (r s : Fin 4096) : earlierSums V0 (ix4 b h r s) = ((∑ u ∈ Finset.range s.val, g (hd V0 b h) r.val u : ℝ) : EReal) := by
  have e : earlierSums V0 (ix4 b h r s) = Ideal.hostReduceWindowAdd ![1, 1, 1, 4096] ![1, 1, 1, 1] ![0, 0, 0, 4095] ![0, 0, 0, 0]
      reduceWindows_S2x16x4096x4096_S2x16x4096x4096_w1s1p0_0_w1s1p0_0_w1s1p0_0_w4096s1p4095_0 (shifted V0) 0 (ix4 b h r s) := by
    have z0 : broadcastInDim S_ ![] bcast_S_S_ (constant (F := Ideal) S_ .f32 0x00000000#32) (Shape.Idx.first h_S_) = (0 : EReal) := by pointwise
    rw [earlierSums]
    unfold Host.reduceWindowAdd
    rw [Ideal.hostReduceWindowAdd_def, z0]
  rw [e, WindowSum.row_sum _ 4095 rfl (shifted V0) b h r s (fun u => if 1 ≤ u then g (hd V0 b h) r.val (u - 1) else 0) (shifted_real V0 hx ho b h r)]
  refine (congrArg (fun y : ℝ => (y : EReal)) (WindowSum.prefix_ s.val s.isLt (fun u => if 1 ≤ u then g (hd V0 b h) r.val (u - 1) else 0))).trans ?_
  rw [Finset.sum_range_succ', if_neg (by omega), add_zero]
  congr 1

theorem v51_real (r s : Fin 4096) : res_main_v51 V0 (ix4 b h r s) = ((dz (hd V0 b h) r.val s.val / 8 : ℝ) : EReal) := by
  pointwise [res_main_v51, res_main_v20_1, res_main_call0_v0, res_main_call1_v0]
  have hI : ∀ w : ℝ, ¬ ((w : EReal) = ⊤) := fun w => EReal.coe_ne_top w
  rw [v16_at, choose_at, sp0_at V0 b h r s _ (v9_real V0 hx b h r s), sp1_at V0 b h r s _ (v9_real V0 hx b h r s), v9_real V0 hx b h r s, v40_real V0 hx ho b h r s,
    RealKit.inf_f32, RealKit.eighth_f32]
  rw [show Host.reduceWindowAdd ![1, 1, 1, 4096] ![1, 1, 1, 1] ![0, 0, 0, 4095] ![0, 0, 0, 0] (pad S2x16x4096x4096 ![0, 0, 0, 1] ![0, 0, 0, 0] ![0, 0, 0, 0] (extractStridedSlice S2x16x4096x4095 ![0, 0, 0, 0] (res_main_v40 V0) slices_S2x16x4096x4096_S2x16x4096x4095_0_0_0_0) (constant (F := Ideal) S_ .f32 0x00000000#32) pads_S2x16x4096x4095_S2x16x4096x4096_000_000_000_100 h_S_) (broadcastInDim S_ ![] bcast_S_S_ (constant S_ .f32 0x00000000#32)) reduceWindows_S2x16x4096x4096_S2x16x4096x4096_w1s1p0_0_w1s1p0_0_w1s1p0_0_w4096s1p4095_0 h_S_ (ix4 b h r s) = ((∑ u ∈ Finset.range s.val, g (hd V0 b h) r.val u : ℝ) : EReal) from earlierSums_real V0 hx ho b h r s]
  rw [← EReal.coe_neg (z (hd V0 b h) r.val s.val), ← EReal.coe_neg (-z (hd V0 b h) r.val s.val), neg_neg (z (hd V0 b h) r.val s.val), if_neg (hI _), if_neg (hI _), if_neg (hI _), if_neg (hI _)]
  exact dz_word (hd V0 b h) r.val s.val

theorem v59_q (r : Fin 4096) (d : Fin 64) : res_main_v59 V0 (ix3 b r (⟨64 * h.val + d.val, by omega⟩ : Fin 3072)) = ((dq (hd V0 b h) r.val d.val : ℝ) : EReal) := by
  pointwise [res_main_v59]
  rw [dif_pos (by omega)]
  refine (sum_coe (fun u => dz (hd V0 b h) r.val u / 8) (fun u => (hd V0 b h).k u d.val) (fun u => v51_real V0 hx ho b h r u) (fun u => v5_real V0 hx b h u d)).trans ?_
  rw [dq, Finset.sum_div]
  congr 1
  exact Finset.sum_congr rfl fun u _ => by ring

theorem v59_k (s : Fin 4096) (d : Fin 64) : res_main_v59 V0 (ix3 b s (⟨1024 + (64 * h.val + d.val), by omega⟩ : Fin 3072)) = ((dk (hd V0 b h) s.val d.val : ℝ) : EReal) := by
  pointwise [res_main_v59]
  rw [dif_pos (by omega)]
  refine (sum_coe (fun u => dz (hd V0 b h) u s.val / 8) (fun u => (hd V0 b h).q u d.val) (fun u => v51_real V0 hx ho b h u s) (fun u => v4_real V0 hx b h u d)).trans ?_
  rw [dk, Finset.sum_div]
  congr 1
  exact Finset.sum_congr rfl fun u _ => by ring

theorem v59_v (s : Fin 4096) (d : Fin 64) : res_main_v59 V0 (ix3 b s (⟨2048 + (64 * h.val + d.val), by omega⟩ : Fin 3072)) = ((dv (hd V0 b h) s.val d.val : ℝ) : EReal) := by
  pointwise [res_main_v59]
  rw [dif_neg (by omega), dif_neg (by omega)]
  refine (sum_coe (fun u => (hd V0 b h).o u d.val) (fun u => a (hd V0 b h) u s.val)
    (fun u => (congrArg (res_main_v35 V0) (by rw [ix4_inj]; exact ⟨rfl, Fin.ext (by dsimp only; omega), Fin.ext (by dsimp only; omega), rfl⟩)).trans (v35_real V0 ho b h u d))
    (fun u => (congrArg (res_main_v29_0 V0) (by rw [ix4_inj]; exact ⟨rfl, Fin.ext (by dsimp only; omega), rfl, rfl⟩)).trans (v29_real V0 hx b h u s))).trans ?_
  rw [dv]
  congr 1
  exact Finset.sum_congr rfl fun u _ => by ring

end

/-- The reference's result `main_v64`. -/
abbrev term_64 : FVec Ideal S8192x1024 .bf16 := truncf .bf16 (shapeCast _ (extractStridedSlice S2x4096x1024 ![0, 0, 0] (res_main_v59 V0) slices_S2x4096x3072_S2x4096x1024_0_0_0) shapeCasts_S2x4096x1024_S8192x1024) bitsLt_bf16_f32

/-- The reference's result `main_v66`. -/
abbrev term_66 : FVec Ideal S2048x4096 .f32 := shapeCast _ (transpose S2x1024x4096 [0, 2, 1] (res_main_v61 V0) transposes_S2x4096x1024_S2x1024x4096_0_2_1) shapeCasts_S2x1024x4096_S2048x4096

/-- The reference's result `main_v68`. -/
abbrev term_68 : FVec Ideal S2048x4096 .f32 := shapeCast _ (transpose S2x1024x4096 [0, 2, 1] (res_main_v62 V0) transposes_S2x4096x1024_S2x1024x4096_0_2_1) shapeCasts_S2x1024x4096_S2048x4096

/-- The reference's result `main_v70`. -/
abbrev term_70 : FVec Ideal S8192x1024 .bf16 := truncf .bf16 (shapeCast _ (res_main_v61 V0) shapeCasts_S2x4096x1024_S8192x1024) bitsLt_bf16_f32

/-- The reference's result `main_v72`. -/
abbrev term_72 : FVec Ideal S8192x1024 .bf16 := truncf .bf16 (shapeCast _ (res_main_v62 V0) shapeCasts_S2x4096x1024_S8192x1024) bitsLt_bf16_f32

section outputs
include hx ho

theorem out_64 : term_64 V0
    = tokenArray (rows V0) (cot V0) dq := by
  funext i
  obtain ⟨r, j, rfl⟩ : ∃ (r : Fin 8192) (j : Fin 1024), i = ix2 r j := ⟨i 0, i 1, eq_ix2 i⟩
  pointwise
  refine (congrArg (res_main_v59 V0) ?_).trans ((v59_q V0 hx ho (⟨r.val / 4096, by omega⟩ : Fin 2) (⟨j.val / 64, by omega⟩ : Fin 16) (⟨r.val % 4096, by omega⟩ : Fin 4096) (⟨j.val % 64, by omega⟩ : Fin 64)))
  rw [ix3_inj]
  exact ⟨rfl, rfl, Fin.ext (by dsimp only; omega)⟩

theorem out_70 : term_70 V0
    = tokenArray (rows V0) (cot V0) dk := by
  funext i
  obtain ⟨r, j, rfl⟩ : ∃ (r : Fin 8192) (j : Fin 1024), i = ix2 r j := ⟨i 0, i 1, eq_ix2 i⟩
  pointwise [res_main_v61]
  refine (congrArg (res_main_v59 V0) ?_).trans ((v59_k V0 hx ho (⟨r.val / 4096, by omega⟩ : Fin 2) (⟨j.val / 64, by omega⟩ : Fin 16) (⟨r.val % 4096, by omega⟩ : Fin 4096) (⟨j.val % 64, by omega⟩ : Fin 64)))
  rw [ix3_inj]
  exact ⟨rfl, rfl, Fin.ext (by dsimp only; omega)⟩

theorem out_72 : term_72 V0
    = tokenArray (rows V0) (cot V0) dv := by
  funext i
  obtain ⟨r, j, rfl⟩ : ∃ (r : Fin 8192) (j : Fin 1024), i = ix2 r j := ⟨i 0, i 1, eq_ix2 i⟩
  pointwise [res_main_v62]
  refine (congrArg (res_main_v59 V0) ?_).trans ((v59_v V0 hx ho (⟨r.val / 4096, by omega⟩ : Fin 2) (⟨j.val / 64, by omega⟩ : Fin 16) (⟨r.val % 4096, by omega⟩ : Fin 4096) (⟨j.val % 64, by omega⟩ : Fin 64)))
  rw [ix3_inj]
  exact ⟨rfl, rfl, Fin.ext (by dsimp only; omega)⟩

theorem out_66 : term_66 V0
    = laneArray (rows V0) (cot V0) dk := by
  funext i
  obtain ⟨n, s, rfl⟩ : ∃ (n : Fin 2048) (s : Fin 4096), i = ix2 n s := ⟨i 0, i 1, eq_ix2 i⟩
  pointwise [res_main_v61]
  refine ((congrArg (res_main_v59 V0) ?_).trans ((v59_k V0 hx ho (⟨n.val / 1024, by omega⟩ : Fin 2) (⟨n.val % 1024 / 64, by omega⟩ : Fin 16) s (⟨n.val % 64, by omega⟩ : Fin 64)))).trans ?_
  · rw [ix3_inj]
    exact ⟨rfl, rfl, Fin.ext (by dsimp only; omega)⟩
  · rfl

theorem out_68 : term_68 V0
    = laneArray (rows V0) (cot V0) dv := by
  funext i
  obtain ⟨n, s, rfl⟩ : ∃ (n : Fin 2048) (s : Fin 4096), i = ix2 n s := ⟨i 0, i 1, eq_ix2 i⟩
  pointwise [res_main_v62]
  refine ((congrArg (res_main_v59 V0) ?_).trans ((v59_v V0 hx ho (⟨n.val / 1024, by omega⟩ : Fin 2) (⟨n.val % 1024 / 64, by omega⟩ : Fin 16) s (⟨n.val % 64, by omega⟩ : Fin 64)))).trans ?_
  · rw [ix3_inj]
    exact ⟨rfl, rfl, Fin.ext (by dsimp only; omega)⟩
  · rfl

end outputs

end Cert.SbReferenceIdeal.Value

end
-- ==== Proof.SbClaim.lean ====
/- The stick-breaking backward kernel's claims. -/
module

public import proofs.«01_k».proof.Defs
public import proofs.«01_k».proof.Proof.SbFrame
public import proofs.«01_k».proof.Proof.SbValue
public import proofs.«01_k».proof.Proof.SbRef
public import proofs.«01_k».proof.Proof.FinitePre
public import proofs.«01_k».proof.Proof.Gen.SbKernel
public import proofs.«01_k».proof.Proof.Gen.SbReferenceIdeal.Run

@[expose] public section

set_option maxRecDepth 16384

noncomputable section

namespace Cert.Proof.Sb

open Idealize.ShloMosaic Idealize.ShloMosaic.StableHlo Idealize.ShloMosaic.TcCoe Idealize.ShloMosaic.Tactic Idealize.SL.Sem

instance : Cert.SbKernel.Facts := Cert.SbKernel.Gen.facts
instance : Cert.SbKernelIdeal.Facts := Cert.SbKernelIdeal.Gen.facts
instance : Cert.SbReferenceIdeal.Facts := Cert.SbReferenceIdeal.Gen.facts
instance : Cert.Pre_finite_sb.Facts := FinitePre.finite_sb_facts

/-- The named constant as printed: its bits. -/
abbrev asPrinted : Named Bits where
  named _ _ _ bits := FloatOps.ofBits _ bits

set_option backward.isDefEq.respectTransparency.types false in
/-- the kernel's thread on a device. -/
abbrev tK (c : Dev Cert.SbKernelIdeal.nD) : Thread Cert.SbKernelIdeal.nD Cert.SbKernelIdeal.τ := c.tc

/-- the reference's thread on a device. -/
abbrev tR (c : Dev Cert.SbReferenceIdeal.nD) : Thread Cert.SbReferenceIdeal.nD Cert.SbReferenceIdeal.τ := c.tc

/-- a memory of the kernel's program. -/
abbrev MemK := (ℓ : Loc Cert.SbKernelIdeal.nD Cert.SbKernelIdeal.τ Cert.SbKernelIdeal.sig) → Buf (Elt Ideal) ℓ

/-- a memory of the reference's program. -/
abbrev MemR := (ℓ : Loc Cert.SbReferenceIdeal.nD Cert.SbReferenceIdeal.τ Cert.SbReferenceIdeal.sig) → Buf (Elt Ideal) ℓ

/-- the printed kernel's frame: its text is the idealized one's with the constant at its bits. -/
theorem frame_p : Cert.quiescent_SbKernel := fun m ρ _ =>
  Eq.mp (by sl_kernel_rfl) (@Cert.SbKernelIdeal.Tile.frame Bits _ asPrinted m ρ)

/-- the idealized kernel's frame. -/
theorem frame_pi : Cert.quiescent_SbKernelIdeal := fun m ρ _ => Cert.SbKernelIdeal.Tile.frame m ρ

/-- the reference's frame: it declares no semaphore. -/
theorem frame_ri : Cert.quiescent_SbReferenceIdeal := fun m g _ =>
  (θ_run Cert.SbReferenceIdeal.defs _ _).mono
    (fun r h => ⟨fun c => ⟨(h c).2.2.2.2.2.1, (h c).2.2.2.2.2.2⟩, sem_eq_zero_of_no_sems (by decide) r.2⟩)
    (Cert.SbReferenceIdeal.Value.run m g)

/-- the named constant is the one the printed bits stand for. -/
theorem preserves : Cert.preserves_SbKernel_SbKernelIdeal := by
  exact IdealRules.named_const.statement _ _ .f32 _ _ rfl

/-- the idealized kernel's frame under the precondition. -/
theorem frame_pi_pre : Cert.quiescent_SbKernelIdeal_pre_finite_sb := fun m ρ _ => Cert.SbKernelIdeal.Tile.frame m ρ

/-- the reference's frame under the precondition. -/
theorem frame_ri_pre : Cert.quiescent_SbReferenceIdeal_pre_finite_sb := fun m g _ => frame_ri m g trivial

section outputs

variable (m : MemK) (m' : MemR) (c : Dev Cert.SbKernelIdeal.nD)
  (hpre : Cert.Pre_SbKernelIdeal_finite_sb m) (a0 : (m' ((tR c).loc Cert.SbReferenceIdeal.main_arg0)) = (m ((tK c).loc Cert.SbKernelIdeal.main_arg0))) (a1 : (m' ((tR c).loc Cert.SbReferenceIdeal.main_arg1)) = (m ((tK c).loc Cert.SbKernelIdeal.main_arg1)))
include hpre a0 a1

/-- the reference's term for window 5's array. -/
theorem out_5 : Cert.SbReferenceIdeal.Value.term_64 (launchContents m' c)
      = (Cert.SbKernelIdeal.Tile.dats m 0 c).arrAt 5 (Cert.SbKernelIdeal.cfgs 0).N := by
  have hx := FinitePre.finite_sb_x _ _ (hpre c)
  have ho := FinitePre.finite_sb_o _ _ (hpre c)
  refine Eq.trans ?_ (Cert.SbKernelIdeal.Tile.final_5 m c hx ho).symm
  rw [← a0] at hx ⊢
  rw [← a1] at ho ⊢
  exact Cert.SbReferenceIdeal.Value.out_64 (launchContents m' c) hx ho

/-- the reference's term for window 6's array. -/
theorem out_6 : Cert.SbReferenceIdeal.Value.term_66 (launchContents m' c)
      = (Cert.SbKernelIdeal.Tile.dats m 0 c).arrAt 6 (Cert.SbKernelIdeal.cfgs 0).N := by
  have hx := FinitePre.finite_sb_x _ _ (hpre c)
  have ho := FinitePre.finite_sb_o _ _ (hpre c)
  refine Eq.trans ?_ (Cert.SbKernelIdeal.Tile.final_6 m c hx ho).symm
  rw [← a0] at hx ⊢
  rw [← a1] at ho ⊢
  exact Cert.SbReferenceIdeal.Value.out_66 (launchContents m' c) hx ho

/-- the reference's term for window 7's array. -/
theorem out_7 : Cert.SbReferenceIdeal.Value.term_68 (launchContents m' c)
      = (Cert.SbKernelIdeal.Tile.dats m 0 c).arrAt 7 (Cert.SbKernelIdeal.cfgs 0).N := by
  have hx := FinitePre.finite_sb_x _ _ (hpre c)
  have ho := FinitePre.finite_sb_o _ _ (hpre c)
  refine Eq.trans ?_ (Cert.SbKernelIdeal.Tile.final_7 m c hx ho).symm
  rw [← a0] at hx ⊢
  rw [← a1] at ho ⊢
  exact Cert.SbReferenceIdeal.Value.out_68 (launchContents m' c) hx ho

/-- the reference's term for window 8's array. -/
theorem out_8 : Cert.SbReferenceIdeal.Value.term_70 (launchContents m' c)
      = (Cert.SbKernelIdeal.Tile.dats m 0 c).arrAt 8 (Cert.SbKernelIdeal.cfgs 0).N := by
  have hx := FinitePre.finite_sb_x _ _ (hpre c)
  have ho := FinitePre.finite_sb_o _ _ (hpre c)
  refine Eq.trans ?_ (Cert.SbKernelIdeal.Tile.final_8 m c hx ho).symm
  rw [← a0] at hx ⊢
  rw [← a1] at ho ⊢
  exact Cert.SbReferenceIdeal.Value.out_70 (launchContents m' c) hx ho

/-- the reference's term for window 9's array. -/
theorem out_9 : Cert.SbReferenceIdeal.Value.term_72 (launchContents m' c)
      = (Cert.SbKernelIdeal.Tile.dats m 0 c).arrAt 9 (Cert.SbKernelIdeal.cfgs 0).N := by
  have hx := FinitePre.finite_sb_x _ _ (hpre c)
  have ho := FinitePre.finite_sb_o _ _ (hpre c)
  refine Eq.trans ?_ (Cert.SbKernelIdeal.Tile.final_9 m c hx ho).symm
  rw [← a0] at hx ⊢
  rw [← a1] at ho ⊢
  exact Cert.SbReferenceIdeal.Value.out_72 (launchContents m' c) hx ho

end outputs

/-- the idealized kernel computes the derivative of the forward lines. -/
theorem algebraic : Cert.algebraic_SbKernelIdeal_SbReferenceIdeal_pre_finite_sb := by
  intro m g m' g' hpre hagree
  refine ⟨fun c => (Cert.SbKernelIdeal.Tile.dats m 0 c).arrAt 5 (Cert.SbKernelIdeal.cfgs 0).N, fun c => (Cert.SbKernelIdeal.Tile.dats m 0 c).arrAt 6 (Cert.SbKernelIdeal.cfgs 0).N, fun c => (Cert.SbKernelIdeal.Tile.dats m 0 c).arrAt 7 (Cert.SbKernelIdeal.cfgs 0).N, fun c => (Cert.SbKernelIdeal.Tile.dats m 0 c).arrAt 8 (Cert.SbKernelIdeal.cfgs 0).N, fun c => (Cert.SbKernelIdeal.Tile.dats m 0 c).arrAt 9 (Cert.SbKernelIdeal.cfgs 0).N, ?_, ?_⟩
  · exact (θ_run Cert.SbKernelIdeal.defs _ _).mono
      (fun r h c => ⟨(h.1 c).1 5, (h.1 c).1 6, (h.1 c).1 7, (h.1 c).1 8, (h.1 c).1 9, (h.2.1 c).1, (h.2.1 c).2⟩)
      (θ_run_and (Cert.SbKernelIdeal.Tile.run_main m g) (Cert.SbKernelIdeal.Tile.frame m g))
  · exact (θ_run Cert.SbReferenceIdeal.defs _ _).mono
      (fun r h c => ⟨(h c).1.trans (out_5 m m' c hpre (hagree c).1 (hagree c).2), (h c).2.1.trans (out_6 m m' c hpre (hagree c).1 (hagree c).2),
        (h c).2.2.1.trans (out_7 m m' c hpre (hagree c).1 (hagree c).2), (h c).2.2.2.1.trans (out_8 m m' c hpre (hagree c).1 (hagree c).2),
        (h c).2.2.2.2.1.trans (out_9 m m' c hpre (hagree c).1 (hagree c).2), (h c).2.2.2.2.2.1, (h c).2.2.2.2.2.2⟩)
      (Cert.SbReferenceIdeal.Value.run m' g')

end Cert.Proof.Sb

end
-- ==== Proof.AdaRef.lean ====
/- The reference results of `Cert.AdaReferenceIdeal` as named functions of its arguments. -/
module

public import proofs.«01_k».proof.Proof.Gen.AdaReferenceIdeal.Run
public import Idealize.ShloMosaic.Lib.Pipeline.ValueKit

@[expose] public section

set_option maxRecDepth 16384

noncomputable section

namespace Cert.AdaReferenceIdeal.Value

open Cert.AdaReferenceIdeal Cert.AdaReferenceIdeal.Gen Idealize.ShloMosaic Idealize.ShloMosaic.TcCoe Idealize.SL.Sem Idealize.ShloMosaic.StableHlo

/-- What the reference leaves in `main_v5`. -/
abbrev REF_v5 (a0 : FVec Ideal S16x1024 .f32) (a2 : FVec Ideal S4x16x768 .f32) : FVec Ideal S4x1024x768 .f32 :=
  transpose S4x1024x768 [0, 2, 1] (Host.dotGeneral dot_S16x4x768_S16x1024_S4x768x1024_0_0_12_1_n_n none (transpose S16x4x768 [1, 0, 2] a2 transposes_S4x16x768_S16x4x768_1_0_2) (mulf a0 (Host.divf (broadcastInDim S16x1024 ![] bcast_S_S16x1024 (constant S_ .f32 0x3F800000#32)) (addf (broadcastInDim S16x1024 ![] bcast_S_S16x1024 (constant S_ .f32 0x3F800000#32)) (Host.exp (Host.negf a0)))))) transposes_S4x768x1024_S4x1024x768_0_2_1

end Cert.AdaReferenceIdeal.Value

end
-- ==== Proof.AdaValue.lean ====
/- What `AdaKernelIdeal` leaves in its results, against the reference's terms. -/
module

public import proofs.«01_k».proof.Proof.Gen.AdaKernelIdeal.Value
public import proofs.«01_k».proof.Proof.AdaRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdaKernelIdeal.Value

open Cert.AdaKernelIdeal Cert.AdaKernelIdeal.Gen Cert.AdaReferenceIdeal.Value

variable (m : (ℓ : Loc nD τ sig) → Buf (Elt Ideal) ℓ)

/-- every window's block index at every grid point (decided). -/
theorem idx_val : ∀ t : Fin cfg0.N, win0_0.index t = ![0, 0]
    ∧ win0_1.index t = ![t.val, 0, 0]
    ∧ win0_2.index t = ![t.val, 0, 0] :=
  (by decide +kernel : ∀ t : Fin grid0.N, _)

theorem lt_N (t : Fin cfg0.N) : t.val < 4 := t.isLt

/-- the conditioning block, at coordinates. -/
theorem blk_0 (c : Dev nD) (t : Fin cfg0.N) (a : Fin 16) (b : Fin 1024) :
    iblk m c 0 t (ix2 a b) = m ((c : Thread nD τ).loc main_arg0) (ix2 a b) := by
  blk_simp [iblk, V, idx_val t]; blk_ext [idx_val t]

/-- a layer's cotangent block, at coordinates. -/
theorem blk_1 (c : Dev nD) (t : Fin cfg0.N) (a : Fin 16) (b : Fin 768) :
    iblk m c 1 t (ix3 0 a b) = m ((c : Thread nD τ).loc main_arg2) (ix3 (⟨t.val, lt_N t⟩ : Fin 4) a b) := by
  blk_simp [iblk, V, idx_val t]; blk_ext [idx_val t]

/-- where a layer's result block sits. -/
theorem emb_2 (t : Fin cfg0.N) (a : Fin 1024) (b : Fin 768) :
    ((cfg0.win 2).blk t).view.emb (ix3 0 a b) = (ix3 (⟨t.val, lt_N t⟩ : Fin 4) a b : S4x1024x768.Idx) := by
  blk_ext [idx_val t]

/-- the reference at coordinates. -/
theorem ref_5 (x : FVec Ideal S16x1024 .f32) (g : FVec Ideal S4x16x768 .f32) (l : Fin 4) (a : Fin 1024) (b : Fin 768) :
    REF_v5 x g (ix3 l a b)
      = ∑ k : Fin 16, g (ix3 l k b) * (x (ix2 k a) * Ideal.div 1 (1 + Ideal.exp (-x (ix2 k a)))) := by
  pointwise [REF_v5]

/-- the body at coordinates. -/
theorem pay_1 (x : Vec Ideal S16x1024 .f32) (g : Vec Ideal S1x16x768 .f32) (a : Fin 1024) (b : Fin 768) :
    k0_pay1 (F := Ideal) x g (ix3 0 a b)
      = ∑ k : Fin 16, x (ix2 k a) * Ideal.logistic (x (ix2 k a)) * g (ix3 0 k b) := by
  pointwise [k0_pay1]

/-- what the body stores at a point, against the reference there. -/
theorem point (c : Dev nD) (t : Fin cfg0.N) (y : S1x1024x768.Idx) :
    k0_pay1 (F := Ideal) (iblk m c 0 t) (iblk m c 1 t) y
      = REF_v5 (m ((c : Thread nD τ).loc main_arg0)) (m ((c : Thread nD τ).loc main_arg2))
          (((cfg0.win 2).blk t).view.emb y) := by
  obtain ⟨a, b, rfl⟩ : ∃ (a : Fin 1024) (b : Fin 768), y = ix3 0 a b :=
    ⟨y 1, y 2, (eq_ix3 y).trans ((ix3_inj ..).2 ⟨Subsingleton.elim _ _, rfl, rfl⟩)⟩
  rw [emb_2, ref_5, pay_1]
  refine Finset.sum_congr rfl fun k _ => (mul_comm _ _).trans ?_
  exact Ideal.mul_congr (blk_1 m c t k _)
    (Ideal.mul_congr (blk_0 m c t k _) (congrArg Ideal.logistic (blk_0 m c t k _)))

/-- the array of window 2 after the run. -/
theorem final_2 (c : Dev nD) : (dats m 0 c).arrAt 2 (cfgs 0).N
    = REF_v5 (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.AdaKernelIdeal.Value

end
-- ==== Proof.AdaClaim.lean ====
/- The claims about `AdaKernel`, its idealization and its reference. -/
module

public import proofs.«01_k».proof.Defs
public import proofs.«01_k».proof.Proof.Gen.AdaKernel.Frame
public import proofs.«01_k».proof.Proof.Gen.AdaKernelIdeal.Frame
public import proofs.«01_k».proof.Proof.Gen.AdaReferenceIdeal.Run
public import proofs.«01_k».proof.Proof.AdaValue
public import Idealize.ShloMosaic.Lib.Claim

@[expose] public section

set_option maxRecDepth 16384

noncomputable section

namespace Cert.Proof.Ada

open Idealize.ShloMosaic Idealize.ShloMosaic.TcCoe Idealize.SL.Sem

instance : Cert.AdaKernel.Facts := Cert.AdaKernel.Gen.facts
instance : Cert.AdaKernelIdeal.Facts := Cert.AdaKernelIdeal.Gen.facts
instance : Cert.AdaReferenceIdeal.Facts := Cert.AdaReferenceIdeal.Gen.facts

/-- the kernel's thread on a device. -/
abbrev tK (c : Dev Cert.AdaKernelIdeal.nD) : Thread Cert.AdaKernelIdeal.nD Cert.AdaKernelIdeal.τ := c.tc

/-- the reference's thread on a device. -/
abbrev tR (c : Dev Cert.AdaReferenceIdeal.nD) : Thread Cert.AdaReferenceIdeal.nD Cert.AdaReferenceIdeal.τ := c.tc

/-- a memory of the kernel's program. -/
abbrev MemK := (ℓ : Loc Cert.AdaKernelIdeal.nD Cert.AdaKernelIdeal.τ Cert.AdaKernelIdeal.sig) → Buf (Elt Ideal) ℓ

/-- a memory of the reference's program. -/
abbrev MemR := (ℓ : Loc Cert.AdaReferenceIdeal.nD Cert.AdaReferenceIdeal.τ Cert.AdaReferenceIdeal.sig) → Buf (Elt Ideal) ℓ

/-- the printed kernel's frame. -/
theorem frame_p : Cert.quiescent_AdaKernel := fun m ρ _ => Cert.AdaKernel.Gen.frame m ρ

/-- the idealized kernel's frame. -/
theorem frame_pi : Cert.quiescent_AdaKernelIdeal := fun m ρ _ => Cert.AdaKernelIdeal.Gen.frame m ρ

/-- the reference's frame: it declares no semaphore. -/
theorem frame_ri : Cert.quiescent_AdaReferenceIdeal := fun m g _ =>
  (θ_run Cert.AdaReferenceIdeal.defs _ _).mono
    (fun r h => ⟨fun c => ⟨(h c).2.1, (h c).2.2.1, (h c).2.2.2⟩, sem_eq_zero_of_no_sems (by decide) r.2⟩)
    (Cert.AdaReferenceIdeal.Value.run m g)

/-- the reference's term for window 2's array, at the kernel's arguments. -/
theorem out_2 (m : MemK)
    (m' : MemR) (c : Dev Cert.AdaKernelIdeal.nD)
    (a0 : m' ((tR c).loc Cert.AdaReferenceIdeal.main_arg0) = m ((tK c).loc Cert.AdaKernelIdeal.main_arg0))
    (a2 : m' ((tR c).loc Cert.AdaReferenceIdeal.main_arg2) = m ((tK c).loc Cert.AdaKernelIdeal.main_arg2)) :
    Cert.AdaReferenceIdeal.Value.REF_v5 (m' ((tR c).loc Cert.AdaReferenceIdeal.main_arg0)) (m' ((tR c).loc Cert.AdaReferenceIdeal.main_arg2))
      = (Cert.AdaKernelIdeal.Gen.dats m 0 c).arrAt 2 (Cert.AdaKernelIdeal.cfgs 0).N := by
  rw [a0, a2]
  exact (Cert.AdaKernelIdeal.Value.final_2 m c).symm

/-- the idealized kernel computes the derivative of the forward lines. -/
theorem algebraic : Cert.algebraic_AdaKernelIdeal_AdaReferenceIdeal := by
  pair_intro
  · run_from Cert.AdaKernelIdeal.Gen.run_main m g
  · exact (θ_run Cert.AdaReferenceIdeal.defs _ _).mono
      (fun r h c => ⟨(h c).1.trans (out_2 m m' c (hagree c).1 (hagree c).2.2),
        (h c).2.1, (h c).2.2.1, (h c).2.2.2⟩)
      (Cert.AdaReferenceIdeal.Value.run m' g')

end Cert.Proof.Ada

end
-- ==== Proof.NormKit.lean ====
/- The gradient of a gain times a root-mean-square norm with a modulation, row by row, in two arrangements. -/
module

public import proofs.«01_k».proof.Proof.Gen.NormReferenceIdeal.Run
public import proofs.«01_k».proof.Proof.RealKit

@[expose] public section

set_option maxRecDepth 16384

noncomputable section

namespace NormKit

open Cert.NormReferenceIdeal Cert.NormReferenceIdeal.Gen Idealize.ShloMosaic Idealize.ShloMosaic.TcCoe Idealize.SL.Sem Idealize.ShloMosaic.StableHlo
open scoped BigOperators

/-- the mean square of the rows of an array, with the small addend. -/
abbrev meanSq (x : FVec Ideal S2x4096x1024 .f32) : FVec Ideal S2x4096x1 .f32 :=
  addf (Host.divf (broadcastInDim S2x4096x1 ![0, 1] bcast_S2x4096_S2x4096x1_0_1 (Host.reduceAdd (mulf x x) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32))

/-- the cotangent of the normed array. -/
abbrev normCt (dh : FVec Ideal S2x4096x1024 .f32) (gain : FVec Ideal S1024 .f32) (sc : FVec Ideal S2x1x1024 .f32) : FVec Ideal S2x4096x1024 .f32 :=
  mulf (mulf dh (broadcastInDim S2x4096x1024 ![0, 1, 2] bcast_S2x1x1024_S2x4096x1024_0_1_2 (addf (broadcastInDim S2x1x1024 ![] bcast_S_S2x1x1024 (constant S_ .f32 0x3F800000#32)) sc))) (broadcastInDim S2x4096x1024 ![0, 1, 2] bcast_S2x1x1024_S2x4096x1024_0_1_2 (broadcastInDim S2x1x1024 ![2] bcast_S1024_S2x1x1024_2 gain))

/-- the part of the derivative that passes through the mean square. -/
abbrev meanCt (x t : FVec Ideal S2x4096x1024 .f32) : FVec Ideal S2x4096 .f32 :=
  Host.reduceAdd (Host.divf (mulf (shapeCast _ (Host.reduceAdd (mulf x t) (constant S_ .f32 0x00000000#32) reducesTo_S2x4096x1024_S2x4096_d2 h_S_) shapeCasts_S2x4096_S2x4096x1) (mulf (broadcastInDim S2x4096x1 ![] bcast_S_S2x4096x1 (constant S_ .f32 0xBF000000#32)) (Host.divf (Host.rsqrt (meanSq x)) (meanSq x)))) (broadcastInDim S2x4096x1 ![] bcast_S_S2x4096x1 (constant S_ .f32 0x44800000#32))) (constant S_ .f32 0x00000000#32) reducesTo_S2x4096x1_S2x4096_d2 h_S_

/-- the derivative with respect to the normed array's input. -/
abbrev inputCt (x dh : FVec Ideal S2x4096x1024 .f32) (gain : FVec Ideal S1024 .f32) (sc : FVec Ideal S2x1x1024 .f32) (dx : FVec Ideal S2x4096x1024 .f32) : FVec Ideal S2x4096x1024 .f32 :=
  addf (addf (addf dx (mulf (normCt dh gain sc) (broadcastInDim S2x4096x1024 ![0, 1, 2] bcast_S2x4096x1_S2x4096x1024_0_1_2 (Host.rsqrt (meanSq x))))) (mulf x (broadcastInDim S2x4096x1024 ![0, 1] bcast_S2x4096_S2x4096x1024_0_1 (meanCt x (normCt dh gain sc))))) (mulf (broadcastInDim S2x4096x1024 ![0, 1] bcast_S2x4096_S2x4096x1024_0_1 (meanCt x (normCt dh gain sc))) x)

/-- the derivative, rows of a flat array. -/
abbrev rowsCt (x dh : FVec Ideal S2x4096x1024 .f32) (gain : FVec Ideal S1024 .f32) (sc : FVec Ideal S2x1x1024 .f32) (dx : FVec Ideal S2x4096x1024 .f32) : FVec Ideal S8192x1024 .f32 :=
  shapeCast _ (inputCt x dh gain sc dx) shapeCasts_S2x4096x1024_S8192x1024

/-- the derivative with respect to the shift. -/
abbrev shiftCt (dh : FVec Ideal S2x4096x1024 .f32) : FVec Ideal S2x1x1024 .f32 :=
  shapeCast _ (Host.reduceAdd dh (constant S_ .f32 0x00000000#32) reducesTo_S2x4096x1024_S2x1024_d1 h_S_) shapeCasts_S2x1024_S2x1x1024

/-- the derivative with respect to the scale. -/
abbrev scaleCt (x dh : FVec Ideal S2x4096x1024 .f32) (gain : FVec Ideal S1024 .f32) : FVec Ideal S2x1x1024 .f32 :=
  shiftCt (mulf (mulf (mulf x (broadcastInDim S2x4096x1024 ![0, 1, 2] bcast_S2x4096x1_S2x4096x1024_0_1_2 (Host.rsqrt (meanSq x)))) (broadcastInDim S2x4096x1024 ![0, 1, 2] bcast_S2x1x1024_S2x4096x1024_0_1_2 (broadcastInDim S2x1x1024 ![2] bcast_S1024_S2x1x1024_2 gain))) dh)

/-- the derivative with respect to the gain, each sample's part. -/
abbrev gainCt (x dh : FVec Ideal S2x4096x1024 .f32) (sc : FVec Ideal S2x1x1024 .f32) : FVec Ideal S2x1x1024 .f32 :=
  shiftCt (mulf (mulf x (broadcastInDim S2x4096x1024 ![0, 1, 2] bcast_S2x4096x1_S2x4096x1024_0_1_2 (Host.rsqrt (meanSq x)))) (mulf dh (broadcastInDim S2x4096x1024 ![0, 1, 2] bcast_S2x1x1024_S2x4096x1024_0_1_2 (addf (broadcastInDim S2x1x1024 ![] bcast_S_S2x1x1024 (constant S_ .f32 0x3F800000#32)) sc))))

/-- the derivative with respect to the array behind a gate. -/
abbrev gatedCt (x dh : FVec Ideal S2x4096x1024 .f32) (gain : FVec Ideal S1024 .f32) (sc : FVec Ideal S2x1x1024 .f32) (dx : FVec Ideal S2x4096x1024 .f32) (g : FVec Ideal S2x1x1024 .f32) : FVec Ideal S8192x1024 .bf16 :=
  truncf .bf16 (shapeCast _ (mulf (broadcastInDim S2x4096x1024 ![0, 1, 2] bcast_S2x1x1024_S2x4096x1024_0_1_2 g) (shapeCast S2x4096x1024 (inputCt x dh gain sc dx) shapeCasts_S2x4096x1024_S2x4096x1024)) shapeCasts_S2x4096x1024_S8192x1024) bitsLt_bf16_f32

/-- the derivative with respect to a gate. -/
abbrev gateCt (x dh : FVec Ideal S2x4096x1024 .f32) (gain : FVec Ideal S1024 .f32) (sc : FVec Ideal S2x1x1024 .f32) (dx : FVec Ideal S2x4096x1024 .f32) (y : FVec Ideal S2x4096x1024 .bf16) : FVec Ideal S2x1x1024 .f32 :=
  shiftCt (mulf (shapeCast S2x4096x1024 (inputCt x dh gain sc dx) shapeCasts_S2x4096x1024_S2x4096x1024) (extf .f32 y bitsLt_bf16_f32))

/-- a row's mean square, with the small addend. -/
def meanRow (x : Fin 1024 → EReal) : EReal :=
  Ideal.div (∑ k, x k * x k) (Ideal.ofBits .f32 0x44800000#32) + Ideal.ofBits .f32 0x358637BD#32

/-- one over a row's norm. -/
def normRow (x : Fin 1024 → EReal) : EReal := Ideal.rsqrt (meanRow x)

/-- an entry of the normed row, with its gain, scale and shift. -/
def modRow (x : Fin 1024 → EReal) (j : Fin 1024) (g sc sh : EReal) : EReal :=
  x j * normRow x * g * (1 + sc) + sh

/-- an entry of the derivative, as a difference from its projection. -/
def rowFused (d : EReal) (x t : Fin 1024 → EReal) (j : Fin 1024) : EReal :=
  d + normRow x * (t j - x j * normRow x * Ideal.div (∑ k, t k * (x k * normRow x)) (Ideal.ofBits .f32 0x44800000#32))

/-- the derivative of a row's mean square, times the cotangent of the row's norm. -/
def meanRowCt (x t : Fin 1024 → EReal) : EReal :=
  Ideal.div ((∑ k, x k * t k) * (Ideal.ofBits .f32 0xBF000000#32 * Ideal.div (normRow x) (meanRow x))) (Ideal.ofBits .f32 0x44800000#32)

/-- an entry of the derivative, by the product and chain rules. -/
def rowChain (d : EReal) (x t : Fin 1024 → EReal) (j : Fin 1024) : EReal :=
  d + t j * normRow x + x j * meanRowCt x t + meanRowCt x t * x j

/-- The two arrangements agree on rows of reals, whatever is added to them. -/
theorem rowFused_eq (d : EReal) (x t : Fin 1024 → EReal) (hx : ∀ k, RealKit.Fin' (x k)) (ht : ∀ k, RealKit.Fin' (t k)) (j : Fin 1024) :
    rowFused d x t j = rowChain d x t j := by
  choose X hX using hx
  choose T hT using ht
  obtain rfl : x = fun k => (X k : EReal) := funext hX
  obtain rfl : t = fun k => (T k : EReal) := funext hT
  have hS : 0 ≤ ∑ k, X k * X k := Finset.sum_nonneg fun k _ => mul_self_nonneg _
  have hv : 0 < (∑ k, X k * X k) * (1 / 1024) + 8796093 / 8796093022208 := by positivity
  have hm : meanRow (fun k => (X k : EReal)) = (((∑ k, X k * X k) * (1 / 1024) + 8796093 / 8796093022208 : ℝ) : EReal) := by
    simp only [meanRow, ← EReal.coe_mul, ← RealKit.coe_sum]
    rw [RealKit.k_f32, RealKit.eps_f32, Ideal.div_coe (by norm_num), ← EReal.coe_mul, ← EReal.coe_add]
  generalize hV : (∑ k, X k * X k) * (1 / 1024) + 8796093 / 8796093022208 = v at hv hm
  have hn : normRow (fun k => (X k : EReal)) = (((Real.sqrt v)⁻¹ : ℝ) : EReal) := by
    rw [normRow, hm, Ideal.rsqrt_coe, if_neg hv.le.not_gt, if_neg hv.ne']
  generalize hR : (Real.sqrt v)⁻¹ = R at hn
  have hRv : R / v = R * R * R := by
    have h1 : R * R = v⁻¹ := by rw [← hR, ← mul_inv, Real.mul_self_sqrt hv.le]
    rw [div_eq_mul_inv, mul_assoc, h1]
  have hd : meanRowCt (fun k => (X k : EReal)) (fun k => (T k : EReal))
      = (((∑ k, X k * T k) * (-(1 / 2) * (R * R * R)) * (1 / 1024) : ℝ) : EReal) := by
    simp only [meanRowCt, ← EReal.coe_mul, ← RealKit.coe_sum]
    rw [hn, hm, RealKit.k_f32, RealKit.neg_half_f32, Ideal.div_coe hv.ne', ← EReal.coe_mul, ← EReal.coe_mul, ← EReal.coe_mul,
      Ideal.div_coe (by norm_num), ← EReal.coe_mul, ← hRv]
    exact congrArg _ (by ring)
  have hs : ∑ k, T k * (X k * R) = (∑ k, X k * T k) * R := by
    rw [Finset.sum_mul]; exact Finset.sum_congr rfl fun k _ => by ring
  simp only [rowFused, rowChain]
  rw [hd, hn]
  simp only [← EReal.coe_mul, ← RealKit.coe_sum]
  rw [RealKit.k_f32, Ideal.div_coe (by norm_num), ← EReal.coe_mul, ← EReal.coe_mul, ← EReal.coe_sub, ← EReal.coe_mul,
    add_assoc, add_assoc, ← EReal.coe_add, ← EReal.coe_add, hs]
  congr 2
  ring

theorem meanSq_at (x : FVec Ideal S2x4096x1024 .f32) (b : Fin 2) (s : Fin 4096) :
    meanSq x (ix3 b s 0) = meanRow fun k => x (ix3 b s k) := by
  pointwise [meanSq]; rfl

theorem normCt_at (dh : FVec Ideal S2x4096x1024 .f32) (gain : FVec Ideal S1024 .f32) (sc : FVec Ideal S2x1x1024 .f32) (b : Fin 2) (s : Fin 4096) (j : Fin 1024) :
    normCt dh gain sc (ix3 b s j) = dh (ix3 b s j) * (1 + sc (ix3 b 0 j)) * gain (ix1 j) := by
  pointwise [normCt]

theorem meanCt_at (x t : FVec Ideal S2x4096x1024 .f32) (b : Fin 2) (s : Fin 4096) :
    meanCt x t (ix2 b s) = meanRowCt (fun k => x (ix3 b s k)) fun k => t (ix3 b s k) := by
  pointwise [meanCt, meanSq]
  rw [Fin.sum_univ_one]; rfl

theorem inputCt_at (x dh dx : FVec Ideal S2x4096x1024 .f32) (gain : FVec Ideal S1024 .f32) (sc : FVec Ideal S2x1x1024 .f32) (b : Fin 2) (s : Fin 4096) (j : Fin 1024) :
    inputCt x dh gain sc dx (ix3 b s j)
      = rowChain (dx (ix3 b s j)) (fun k => x (ix3 b s k)) (fun k => dh (ix3 b s k) * (1 + sc (ix3 b 0 k)) * gain (ix1 k)) j := by
  have h1 := meanSq_at x b s
  have h2 := normCt_at dh gain sc b s
  have h3 := meanCt_at x (normCt dh gain sc) b s
  simp only [h2] at h3
  dsimp only [inputCt]
  generalize hv : meanSq x = v at h1
  generalize hv : normCt dh gain sc = t at h2 h3
  generalize hv : meanCt x t = u at h3
  pointwise
  rw [h1, h2, h3]; rfl

theorem rowsCt_at (x dh dx : FVec Ideal S2x4096x1024 .f32) (gain : FVec Ideal S1024 .f32) (sc : FVec Ideal S2x1x1024 .f32) (r : Fin 8192) (j : Fin 1024) :
    rowsCt x dh gain sc dx (ix2 r j)
      = inputCt x dh gain sc dx (ix3 (⟨r.val / 4096, by omega⟩ : Fin 2) (⟨r.val % 4096, by omega⟩ : Fin 4096) j) := by
  dsimp only [rowsCt]
  generalize inputCt x dh gain sc dx = u
  pointwise

theorem gatedCt_at (x dh dx : FVec Ideal S2x4096x1024 .f32) (gain : FVec Ideal S1024 .f32) (sc g : FVec Ideal S2x1x1024 .f32) (r : Fin 8192) (j : Fin 1024) :
    gatedCt x dh gain sc dx g (ix2 r j)
      = g (ix3 (⟨r.val / 4096, by omega⟩ : Fin 2) 0 j)
        * inputCt x dh gain sc dx (ix3 (⟨r.val / 4096, by omega⟩ : Fin 2) (⟨r.val % 4096, by omega⟩ : Fin 4096) j) := by
  dsimp only [gatedCt]
  generalize inputCt x dh gain sc dx = u
  pointwise

theorem shiftCt_at (dh : FVec Ideal S2x4096x1024 .f32) (b : Fin 2) (j : Fin 1024) :
    shiftCt dh (ix3 b 0 j) = ∑ s : Fin 4096, dh (ix3 b s j) := by
  pointwise [shiftCt]

theorem scaleCt_at (x dh : FVec Ideal S2x4096x1024 .f32) (gain : FVec Ideal S1024 .f32) (b : Fin 2) (j : Fin 1024) :
    scaleCt x dh gain (ix3 b 0 j)
      = ∑ s : Fin 4096, x (ix3 b s j) * normRow (fun k => x (ix3 b s k)) * gain (ix1 j) * dh (ix3 b s j) := by
  refine (shiftCt_at _ b j).trans (Finset.sum_congr rfl fun s _ => ?_)
  have h1 := meanSq_at x b s
  generalize meanSq x = v at h1
  pointwise
  rw [h1]; rfl

theorem gainCt_at (x dh : FVec Ideal S2x4096x1024 .f32) (sc : FVec Ideal S2x1x1024 .f32) (b : Fin 2) (j : Fin 1024) :
    gainCt x dh sc (ix3 b 0 j)
      = ∑ s : Fin 4096, x (ix3 b s j) * normRow (fun k => x (ix3 b s k)) * (dh (ix3 b s j) * (1 + sc (ix3 b 0 j))) := by
  refine (shiftCt_at _ b j).trans (Finset.sum_congr rfl fun s _ => ?_)
  have h1 := meanSq_at x b s
  generalize meanSq x = v at h1
  pointwise
  rw [h1]; rfl

theorem gateCt_at (x dh dx : FVec Ideal S2x4096x1024 .f32) (gain : FVec Ideal S1024 .f32) (sc : FVec Ideal S2x1x1024 .f32) (y : FVec Ideal S2x4096x1024 .bf16) (b : Fin 2) (j : Fin 1024) :
    gateCt x dh gain sc dx y (ix3 b 0 j) = ∑ s : Fin 4096, inputCt x dh gain sc dx (ix3 b s j) * y (ix3 b s j) := by
  refine (shiftCt_at _ b j).trans (Finset.sum_congr rfl fun s _ => ?_)
  generalize inputCt x dh gain sc dx = u
  pointwise

end NormKit

end
-- ==== Proof.NormRef.lean ====
/- The reference results of `Cert.NormReferenceIdeal` as named functions of its arguments. -/
module

public import proofs.«01_k».proof.Proof.Gen.NormReferenceIdeal.Run
public import proofs.«01_k».proof.Proof.NormKit

@[expose] public section

set_option maxRecDepth 16384

noncomputable section

namespace Cert.NormReferenceIdeal.Value

open Cert.NormReferenceIdeal Cert.NormReferenceIdeal.Gen Idealize.ShloMosaic Idealize.ShloMosaic.TcCoe Idealize.SL.Sem Idealize.ShloMosaic.StableHlo

/-- the array that is normed. -/
def inp (a0 : FVec Ideal S2x4096x1024 .f32) (a1 : FVec Ideal S2x4096x1024 .bf16) (a2 : FVec Ideal S2x1x1024 .f32) : FVec Ideal S2x4096x1024 .f32 :=
  addf a0 (mulf (broadcastInDim S2x4096x1024 ![0, 1, 2] bcast_S2x1x1024_S2x4096x1024_0_1_2 a2) (extf .f32 a1 bitsLt_bf16_f32))

/-- the cotangent of the modulated array. -/
def modCt (a6 : FVec Ideal S1024x2816 .f32) (a7 : FVec Ideal S1024x2816 .f32) (a9 : FVec Ideal S2x4096x2816 .bf16) (a10 : FVec Ideal S2x4096x2816 .bf16) : FVec Ideal S2x4096x1024 .f32 :=
  addf (Host.dotGeneral dot_S2x4096x2816_S1024x2816_S2x4096x1024_2_1_01_0_n_n none (extf .f32 a10 bitsLt_bf16_f32) a7) (Host.dotGeneral dot_S2x4096x2816_S1024x2816_S2x4096x1024_2_1_01_0_n_n none (extf .f32 a9 bitsLt_bf16_f32) a6)

/-- What the reference leaves in `main_v66`. -/
def REF_v66 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x2816 .f32) (a7 : FVec Ideal S1024x2816 .f32) (a8 : FVec Ideal S2x4096x1024 .f32) (a9 : FVec Ideal S2x4096x2816 .bf16) (a10 : FVec Ideal S2x4096x2816 .bf16) : FVec Ideal S8192x1024 .f32 :=
  NormKit.rowsCt (inp a0 a1 a2) (modCt a6 a7 a9 a10) a3 a4 a8

theorem res_v66 (m : (ℓ : Loc nD τ sig) → Buf (Elt Ideal) ℓ) (c : Dev nD) :
    res_main_v66 m c = REF_v66 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v66; rfl

/-- What the reference leaves in `main_v34`. -/
def REF_v34 (a6 : FVec Ideal S1024x2816 .f32) (a7 : FVec Ideal S1024x2816 .f32) (a9 : FVec Ideal S2x4096x2816 .bf16) (a10 : FVec Ideal S2x4096x2816 .bf16) : FVec Ideal S2x1x1024 .f32 :=
  NormKit.shiftCt (modCt a6 a7 a9 a10)

/-- What the reference leaves in `main_v37`. -/
def REF_v37 (a0 : FVec Ideal S2x4096x1024 .f32) (a1 : FVec Ideal S2x4096x1024 .bf16) (a2 : FVec Ideal S2x1x1024 .f32) (a3 : FVec Ideal S1024 .f32) (a6 : FVec Ideal S1024x2816 .f32) (a7 : FVec Ideal S1024x2816 .f32) (a9 : FVec Ideal S2x4096x2816 .bf16) (a10 : FVec Ideal S2x4096x2816 .bf16) : FVec Ideal S2x1x1024 .f32 :=
  NormKit.scaleCt (inp a0 a1 a2) (modCt a6 a7 a9 a10) a3

/-- What the reference leaves in `main_v42`. -/
def REF_v42 (a0 : FVec Ideal S2x4096x1024 .f32) (a1 : FVec Ideal S2x4096x1024 .bf16) (a2 : FVec Ideal S2x1x1024 .f32) (a4 : FVec Ideal S2x1x1024 .f32) (a6 : FVec Ideal S1024x2816 .f32) (a7 : FVec Ideal S1024x2816 .f32) (a9 : FVec Ideal S2x4096x2816 .bf16) (a10 : FVec Ideal S2x4096x2816 .bf16) : FVec Ideal S2x1x1024 .f32 :=
  NormKit.gainCt (inp a0 a1 a2) (modCt a6 a7 a9 a10) a4

/-- What the reference leaves in `main_v68`. -/
def REF_v68 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x2816 .f32) (a7 : FVec Ideal S1024x2816 .f32) (a8 : FVec Ideal S2x4096x1024 .f32) (a9 : FVec Ideal S2x4096x2816 .bf16) (a10 : FVec Ideal S2x4096x2816 .bf16) : FVec Ideal S8192x1024 .bf16 :=
  NormKit.gatedCt (inp a0 a1 a2) (modCt a6 a7 a9 a10) a3 a4 a8 a2

theorem res_v68 (m : (ℓ : Loc nD τ sig) → Buf (Elt Ideal) ℓ) (c : Dev nD) :
    res_main_v68 m c = REF_v68 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v68; rfl

/-- What the reference leaves in `main_v65`. -/
def REF_v65 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x2816 .f32) (a7 : FVec Ideal S1024x2816 .f32) (a8 : FVec Ideal S2x4096x1024 .f32) (a9 : FVec Ideal S2x4096x2816 .bf16) (a10 : FVec Ideal S2x4096x2816 .bf16) : FVec Ideal S2x1x1024 .f32 :=
  NormKit.gateCt (inp a0 a1 a2) (modCt a6 a7 a9 a10) a3 a4 a8 a1

theorem res_v65 (m : (ℓ : Loc nD τ sig) → Buf (Elt Ideal) ℓ) (c : Dev nD) :
    res_main_v65 m c = REF_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v65; rfl

end Cert.NormReferenceIdeal.Value

end
-- ==== Proof.NormValue.lean ====
/- What `NormKernelIdeal` leaves in its results, against the reference's terms. -/
module

public import proofs.«01_k».proof.Proof.Gen.NormKernelIdeal.Value
public import proofs.«01_k».proof.Proof.NormRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.NormKernelIdeal.Value

open Cert.NormKernelIdeal Cert.NormKernelIdeal.Gen Cert.NormReferenceIdeal.Value

variable (m : (ℓ : Loc nD τ sig) → Buf (Elt Ideal) ℓ)

/-- every window's block index at every grid point (decided). -/
theorem idx_val : ∀ t : Fin cfg0.N, win0_0.index t = ![(t.val / 8) * 8 + (t.val % 8), 0]
    ∧ win0_1.index t = ![0, 0]
    ∧ win0_2.index t = ![(t.val / 8) * 8 + (t.val % 8), 0]
    ∧ win0_3.index t = ![0, 0]
    ∧ win0_4.index t = ![(t.val / 8) * 8 + (t.val % 8), 0]
    ∧ win0_5.index t = ![(t.val / 8) * 8 + (t.val % 8), 0]
    ∧ win0_6.index t = ![0, 0]
    ∧ win0_7.index t = ![t.val / 8, 0, 0]
    ∧ win0_8.index t = ![(t.val / 8) * 8 + (t.val % 8), 0]
    ∧ win0_9.index t = ![t.val / 8, 0, 0]
    ∧ win0_10.index t = ![(t.val / 8) * 8 + (t.val % 8), 0]
    ∧ win0_11.index t = ![t.val / 8, 0, 0]
    ∧ win0_12.index t = ![t.val / 8, 0, 0]
    ∧ win0_13.index t = ![t.val / 8, 0, 0]
    ∧ win0_14.index t = ![(t.val / 8) * 8 + (t.val % 8), 0]
    ∧ win0_15.index t = ![t.val / 8, 0, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

theorem blk_0 (c : Dev nD) (t : Fin cfg0.N) (a : Fin 512) (k : Fin 2816) :
    iblk m c 0 t (ix2 a k) = m ((c : Thread nD τ).loc main_arg9) (ix3 (smp t) (tok t a) k) := by
  blk_simp [iblk, idx_val t]; entry_read; pointwise; blk_ext [idx_val t]

theorem blk_1 (c : Dev nD) (t : Fin cfg0.N) (k : Fin 2816) (b : Fin 1024) :
    iblk m c 1 t (ix2 k b) = m ((c : Thread nD τ).loc main_arg6) (ix2 b k) := by
  blk_simp [iblk, idx_val t]; entry_read; pointwise; blk_ext [idx_val t]

theorem blk_2 (c : Dev nD) (t : Fin cfg0.N) (a : Fin 512) (k : Fin 2816) :
    iblk m c 2 t (ix2 a k) = m ((c : Thread nD τ).loc main_arg10) (ix3 (smp t) (tok t a) k) := by
  blk_simp [iblk, idx_val t]; entry_read; pointwise; blk_ext [idx_val t]

theorem blk_3 (c : Dev nD) (t : Fin cfg0.N) (k : Fin 2816) (b : Fin 1024) :
    iblk m c 3 t (ix2 k b) = m ((c : Thread nD τ).loc main_arg7) (ix2 b k) := by
  blk_simp [iblk, idx_val t]; entry_read; pointwise; blk_ext [idx_val t]

theorem blk_5 (c : Dev nD) (t : Fin cfg0.N) (a : Fin 512) (k : Fin 1024) :
    iblk m c 5 t (ix2 a k) = m ((c : Thread nD τ).loc main_arg8) (ix3 (smp t) (tok t a) k) := by
  blk_simp [iblk, idx_val t]; entry_read; pointwise; blk_ext [idx_val t]

theorem blk_6 (c : Dev nD) (t : Fin cfg0.N) (b : Fin 1024) :
    iblk m c 6 t (ix2 0 b) = m ((c : Thread nD τ).loc main_arg3) (ix1 b) := by
  blk_simp [iblk, idx_val t]; entry_read; pointwise; blk_ext [idx_val t]

theorem blk_7 (c : Dev nD) (t : Fin cfg0.N) (b : Fin 1024) :
    iblk m c 7 t (ix3 0 0 b) = m ((c : Thread nD τ).loc main_arg4) (ix3 (smp t) 0 b) := by
  blk_simp [iblk, V, idx_val t]; blk_ext [idx_val t]

theorem blk_8 (c : Dev nD) (t : Fin cfg0.N) (a : Fin 512) (k : Fin 1024) :
    iblk m c 8 t (ix2 a k) = m ((c : Thread nD τ).loc main_arg1) (ix3 (smp t) (tok t a) k) := by
  blk_simp [iblk, idx_val t]; entry_read; pointwise; blk_ext [idx_val t]

theorem blk_9 (c : Dev nD) (t : Fin cfg0.N) (b : Fin 1024) :
    iblk m c 9 t (ix3 0 0 b) = m ((c : Thread nD τ).loc main_arg2) (ix3 (smp t) 0 b) := by
  blk_simp [iblk, V, idx_val t]; blk_ext [idx_val t]

/-- the host's rows, read through window 4. -/
theorem blk_4_row (c : Dev nD) (t : Fin cfg0.N) (a : Fin 512) (b : Fin 1024) :
    iblk m c 4 t (ix2 a b) = V m c main_v4 (ix2 (⟨t.val * 512 + a.val, by have := lt_N t; omega⟩ : Fin 8192) b) := by
  blk_simp [iblk, idx_val t]; blk_ext [idx_val t]

theorem blk_4 (c : Dev nD) (t : Fin cfg0.N) (a : Fin 512) (b : Fin 1024) :
    iblk m c 4 t (ix2 a b) = inp (m ((c : Thread nD τ).loc main_arg0)) (m ((c : Thread nD τ).loc main_arg1)) (m ((c : Thread nD τ).loc main_arg2)) (ix3 (smp t) (tok t a) b) := by
  have h1 : (⟨(t.val * 512 + a.val) / 4096, by have := lt_N t; omega⟩ : Fin 2) = smp t := Fin.ext (by dsimp only; omega)
  have h2 : (⟨(t.val * 512 + a.val) % 4096, by omega⟩ : Fin 4096) = tok t a := Fin.ext (by dsimp only; omega)
  rw [blk_4_row, ← h1, ← h2]
  entry_read; pointwise [inp]

theorem emb_10 (t : Fin cfg0.N) (a : Fin 512) (b : Fin 1024) :
    ((cfg0.win 10).blk t).view.emb (ix2 a b) = (ix2 (⟨t.val * 512 + a.val, by have := lt_N t; omega⟩ : Fin 8192) b : S8192x1024.Idx) := by
  blk_ext [idx_val t]

theorem emb_14 (t : Fin cfg0.N) (a : Fin 512) (b : Fin 1024) :
    ((cfg0.win 14).blk t).view.emb (ix2 a b) = (ix2 (⟨t.val * 512 + a.val, by have := lt_N t; omega⟩ : Fin 8192) b : S8192x1024.Idx) := by
  blk_ext [idx_val t]

theorem emb_11 (t : Fin cfg0.N) (b : Fin 1024) :
    ((cfg0.win 11).blk t).view.emb (ix3 0 0 b) = (ix3 (smp t) 0 b : S2x1x1024.Idx) := by
  blk_ext [idx_val t]

theorem emb_12 (t : Fin cfg0.N) (b : Fin 1024) :
    ((cfg0.win 12).blk t).view.emb (ix3 0 0 b) = (ix3 (smp t) 0 b : S2x1x1024.Idx) := by
  blk_ext [idx_val t]

theorem emb_13 (t : Fin cfg0.N) (b : Fin 1024) :
    ((cfg0.win 13).blk t).view.emb (ix3 0 0 b) = (ix3 (smp t) 0 b : S2x1x1024.Idx) := by
  blk_ext [idx_val t]

theorem emb_15 (t : Fin cfg0.N) (b : Fin 1024) :
    ((cfg0.win 15).blk t).view.emb (ix3 0 0 b) = (ix3 (smp t) 0 b : S2x1x1024.Idx) := by
  blk_ext [idx_val t]

theorem row_smp (t : Fin cfg0.N) (a : Fin 512) (h : (t.val * 512 + a.val) / 4096 < 2) : (⟨(t.val * 512 + a.val) / 4096, h⟩ : Fin 2) = smp t :=
  Fin.ext (by dsimp only; omega)

theorem row_tok (t : Fin cfg0.N) (a : Fin 512) (h : (t.val * 512 + a.val) % 4096 < 4096) : (⟨(t.val * 512 + a.val) % 4096, h⟩ : Fin 4096) = tok t a :=
  Fin.ext (by dsimp only; omega)

/-- a sample's eight grid points, a sum over a block's rows at each, are one sum over its tokens. -/
theorem sum_run (t : Fin cfg0.N) (ht : t.val % 8 = 7) (h : ∀ s : Fin 8, 8 * (t.val / 8) + s.val < cfg0.N) (f : Fin 2 → Fin 4096 → EReal) :
    ∑ s : Fin 8, ∑ a : Fin 512, f (smp ⟨8 * (t.val / 8) + s.val, h s⟩) (tok ⟨8 * (t.val / 8) + s.val, h s⟩ a) = ∑ r, f (smp t) r := by
  refine Fin.sum_mul_add_congr fun s k hl => ?_
  have h1 : smp ⟨8 * (t.val / 8) + s.val, h s⟩ = smp t := Fin.ext (by dsimp only; omega)
  have h2 : tok ⟨8 * (t.val / 8) + s.val, h s⟩ k = ⟨s.val * 512 + k.val, hl⟩ := Fin.ext (by dsimp only; omega)
  rw [h1, h2]

/-- the modulated block's cotangent at a grid point. -/
def dh (c : Dev nD) (t : Fin cfg0.N) : FVec Ideal S512x1024 .f32 :=
  k0_pay8 (iblk m c 0 t) (iblk m c 1 t) (iblk m c 2 t) (iblk m c 3 t)

theorem modCt_at (a6 a7 : FVec Ideal S1024x2816 .f32) (a9 a10 : FVec Ideal S2x4096x2816 .bf16) (s : Fin 2) (r : Fin 4096) (b : Fin 1024) :
    modCt a6 a7 a9 a10 (ix3 s r b) = ∑ k, a10 (ix3 s r k) * a7 (ix2 b k) + ∑ k, a9 (ix3 s r k) * a6 (ix2 b k) := by
  pointwise [modCt]

theorem pay_dh (u : Vec Ideal S512x2816 .bf16) (v : Vec Ideal S2816x1024 .bf16) (w : Vec Ideal S512x2816 .bf16) (z : Vec Ideal S2816x1024 .bf16) (r : Fin 512) (b : Fin 1024) :
    k0_pay8 (F := Ideal) u v w z (ix2 r b) = ∑ k, u (ix2 r k) * v (ix2 k b) + ∑ k, w (ix2 r k) * z (ix2 k b) := by
  pointwise [k0_pay8]

theorem dh_at (c : Dev nD) (t : Fin cfg0.N) (a : Fin 512) (b : Fin 1024) :
    dh m c t (ix2 a b) = modCt (m ((c : Thread nD τ).loc main_arg6)) (m ((c : Thread nD τ).loc main_arg7)) (m ((c : Thread nD τ).loc main_arg9)) (m ((c : Thread nD τ).loc main_arg10)) (ix3 (smp t) (tok t a) b) := by
  refine (pay_dh _ _ _ _ a b).trans ((add_comm _ _).trans ?_)
  rw [modCt_at]
  simp only [blk_0 m c t, blk_1 m c t, blk_2 m c t, blk_3 m c t]

/-- the normed row, at coordinates. -/
theorem pay_hat (x : FVec Ideal S512x1024 .f32) (a : Fin 512) (j : Fin 1024) :
    k0_pay12 x (ix2 a j) = x (ix2 a j) * NormKit.normRow fun k => x (ix2 a k) := by
  pointwise [k0_pay12, k0_pay11, k0_pay9]; rfl

/-- the row derivative, at coordinates. -/
theorem pay_rows (D : FVec Ideal S512x1024 .f32) (x dr : FVec Ideal S512x1024 .f32) (g : FVec Ideal S1x1024 .f32) (sc : FVec Ideal S1x1x1024 .f32) (a : Fin 512) (b : Fin 1024) :
    k0_pay1 (k0_pay11 x) (k0_pay12 x) (k0_pay18 D (k0_pay10 g) sc) (k0_pay19 dr) (k0_pay20 D (k0_pay10 g) (k0_pay12 x) sc) (ix2 a b)
      = NormKit.rowFused (dr (ix2 a b)) (fun k => x (ix2 a k)) (fun k => D (ix2 a k) * (1 + sc (ix3 0 0 k)) * g (ix2 0 k)) b := by
  pointwise [k0_pay1, k0_pay10, k0_pay11, k0_pay12, k0_pay18, k0_pay19, k0_pay20, k0_pay16, k0_pay9]; rfl

theorem zero_shift (y : S1x1x1024.Idx) : k0_pay4 (F := Ideal) y = 0 := by
  pointwise! [k0_pay4]

theorem pay_shift (u : Vec Ideal S512x2816 .bf16) (v : Vec Ideal S2816x1024 .bf16) (w : Vec Ideal S512x2816 .bf16) (z : Vec Ideal S2816x1024 .bf16) (acc : FVec Ideal S1x1x1024 .f32) (y : S1x1x1024.Idx) :
    k0_pay14 (k0_pay13 u v w z acc) y = acc y + ∑ a : Fin 512, k0_pay8 u v w z (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  pointwise [k0_pay14, k0_pay13, k0_pay8]

theorem zero_scale (y : S1x1x1024.Idx) : k0_pay5 (F := Ideal) y = 0 := by
  pointwise! [k0_pay5]

theorem pay_scale (D : FVec Ideal S512x1024 .f32) (x : FVec Ideal S512x1024 .f32) (g : FVec Ideal S1x1024 .f32) (acc : FVec Ideal S1x1x1024 .f32) (y : S1x1x1024.Idx) :
    k0_pay15 D (k0_pay10 g) (k0_pay12 x) acc y = acc y + ∑ a : Fin 512, D (ix2 a (y 2)) * (k0_pay12 x (ix2 a (y 2)) * g (ix2 0 (y 2))) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  generalize k0_pay12 (F := Ideal) x = h
  pointwise [k0_pay15, k0_pay10]

theorem zero_gain (y : S1x1x1024.Idx) : k0_pay6 (F := Ideal) y = 0 := by
  pointwise! [k0_pay6]

theorem pay_gain (D : FVec Ideal S512x1024 .f32) (x : FVec Ideal S512x1024 .f32) (sc : FVec Ideal S1x1x1024 .f32) (acc : FVec Ideal S1x1x1024 .f32) (y : S1x1x1024.Idx) :
    k0_pay17 D (k0_pay12 x) sc acc y = acc y + ∑ a : Fin 512, D (ix2 a (y 2)) * (1 + sc (ix3 0 0 (y 2))) * k0_pay12 x (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  generalize k0_pay12 (F := Ideal) x = h
  pointwise [k0_pay17, k0_pay16]

theorem zero_gate (y : S1x1x1024.Idx) : k0_pay7 (F := Ideal) y = 0 := by
  pointwise! [k0_pay7]

theorem pay_gate (D : FVec Ideal S512x1024 .f32) (x dr : FVec Ideal S512x1024 .f32) (g : FVec Ideal S1x1024 .f32) (sc : FVec Ideal S1x1x1024 .f32) (yy : FVec Ideal S512x1024 .bf16) (acc : FVec Ideal S1x1x1024 .f32) (y : S1x1x1024.Idx) :
    k0_pay3 (k0_pay11 x) (k0_pay12 x) (k0_pay18 D (k0_pay10 g) sc) (k0_pay19 dr) (k0_pay20 D (k0_pay10 g) (k0_pay12 x) sc) acc yy y = acc y + ∑ a : Fin 512, k0_pay1 (k0_pay11 x) (k0_pay12 x) (k0_pay18 D (k0_pay10 g) sc) (k0_pay19 dr) (k0_pay20 D (k0_pay10 g) (k0_pay12 x) sc) (ix2 a (y 2)) * yy (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  simp only [k0_pay3]
  generalize k0_pay1 (k0_pay11 x) (k0_pay12 x) (k0_pay18 D (k0_pay10 g) sc) (k0_pay19 dr) (k0_pay20 D (k0_pay10 g) (k0_pay12 x) sc) = o
  pointwise

/-- a point's normed rows. -/
theorem hat_at (c : Dev nD) (t : Fin cfg0.N) (a : Fin 512) (j : Fin 1024) :
    k0_pay12 (iblk m c 4 t) (ix2 a j)
      = inp (m ((c : Thread nD τ).loc main_arg0)) (m ((c : Thread nD τ).loc main_arg1)) (m ((c : Thread nD τ).loc main_arg2)) (ix3 (smp t) (tok t a) j) * NormKit.normRow fun k => inp (m ((c : Thread nD τ).loc main_arg0)) (m ((c : Thread nD τ).loc main_arg1)) (m ((c : Thread nD τ).loc main_arg2)) (ix3 (smp t) (tok t a) k) := by
  rw [pay_hat]
  simp only [blk_4 m c t]

/-- the gated rows, at coordinates. -/
theorem pay_gated (D : FVec Ideal S512x1024 .f32) (x dr : FVec Ideal S512x1024 .f32) (g : FVec Ideal S1x1024 .f32) (sc w : FVec Ideal S1x1x1024 .f32) (a : Fin 512) (b : Fin 1024) :
    k0_pay2 (k0_pay11 x) (k0_pay12 x) (k0_pay18 D (k0_pay10 g) sc) (k0_pay19 dr) (k0_pay20 D (k0_pay10 g) (k0_pay12 x) sc) w (ix2 a b) = k0_pay1 (k0_pay11 x) (k0_pay12 x) (k0_pay18 D (k0_pay10 g) sc) (k0_pay19 dr) (k0_pay20 D (k0_pay10 g) (k0_pay12 x) sc) (ix2 a b) * w (ix3 0 0 b) := by
  simp only [k0_pay2]
  generalize k0_pay1 (k0_pay11 x) (k0_pay12 x) (k0_pay18 D (k0_pay10 g) sc) (k0_pay19 dr) (k0_pay20 D (k0_pay10 g) (k0_pay12 x) sc) = o
  pointwise

/-- a point's rows, against the reference there. -/
theorem rows_at (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg7)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) (t : Fin cfg0.N) (a : Fin 512) (b : Fin 1024) :
    k0_pay1 (k0_pay11 (iblk m c 4 t)) (k0_pay12 (iblk m c 4 t)) (k0_pay18 (dh m c t) (k0_pay10 (iblk m c 6 t)) (iblk m c 7 t)) (k0_pay19 (iblk m c 5 t)) (k0_pay20 (dh m c t) (k0_pay10 (iblk m c 6 t)) (k0_pay12 (iblk m c 4 t)) (iblk m c 7 t)) (ix2 a b)
      = NormKit.inputCt (inp (m ((c : Thread nD τ).loc main_arg0)) (m ((c : Thread nD τ).loc main_arg1)) (m ((c : Thread nD τ).loc main_arg2))) (modCt (m ((c : Thread nD τ).loc main_arg6)) (m ((c : Thread nD τ).loc main_arg7)) (m ((c : Thread nD τ).loc main_arg9)) (m ((c : Thread nD τ).loc main_arg10))) (m ((c : Thread nD τ).loc main_arg3)) (m ((c : Thread nD τ).loc main_arg4)) (m ((c : Thread nD τ).loc main_arg8)) (ix3 (smp t) (tok t a) b) := by
  refine (pay_rows (dh m c t) (iblk m c 4 t) (iblk m c 5 t) (iblk m c 6 t) (iblk m c 7 t) a b).trans ?_
  rw [NormKit.inputCt_at, ← NormKit.rowFused_eq _ _ _ (fun k => hx _) (fun k => ht _ _ _)]
  simp only [blk_4 m c t, blk_5 m c t, blk_6 m c t, blk_7 m c t, dh_at m c t]

/-- the array of window 10 after the run. -/
theorem final_10 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg7)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) :
    (dats m 0 c).arrAt 10 (cfgs 0).N
    = REF_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 10 _ (by decide +kernel) fun t hf y => ?_
  obtain ⟨a, b, rfl⟩ : ∃ (a : Fin 512) (b : Fin 1024), y = ix2 a b := ⟨y 0, y 1, eq_ix2 y⟩
  have key : k0_pay1 (k0_pay11 (iblk m c 4 t)) (k0_pay12 (iblk m c 4 t)) (k0_pay18 (dh m c t) (k0_pay10 (iblk m c 6 t)) (iblk m c 7 t)) (k0_pay19 (iblk m c 5 t)) (k0_pay20 (dh m c t) (k0_pay10 (iblk m c 6 t)) (k0_pay12 (iblk m c 4 t)) (iblk m c 7 t)) (ix2 a b)
      = REF_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨t.val * 512 + a.val, by have := lt_N t; omega⟩ : Fin 8192) b) := by
    refine (rows_at m c hx ht t a b).trans (Eq.trans ?_ (NormKit.rowsCt_at _ _ _ _ _ _ _).symm)
    dsimp only
    rw [row_smp, row_tok]
  blk_simp; rw [after0_10, emb_10]
  by_cases h : t.val % 8 = 0
  · rw [outsAt0_A m c t h]; dsimp only; frame_out; exact key
  · rw [outsAt0_B m c t h]; dsimp only; frame_out; exact key

/-- the array of window 14 after the run. -/
theorem final_14 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg7)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) :
    (dats m 0 c).arrAt 14 (cfgs 0).N
    = REF_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  obtain ⟨a, b, rfl⟩ : ∃ (a : Fin 512) (b : Fin 1024), y = ix2 a b := ⟨y 0, y 1, eq_ix2 y⟩
  have key : k0_pay2 (k0_pay11 (iblk m c 4 t)) (k0_pay12 (iblk m c 4 t)) (k0_pay18 (dh m c t) (k0_pay10 (iblk m c 6 t)) (iblk m c 7 t)) (k0_pay19 (iblk m c 5 t)) (k0_pay20 (dh m c t) (k0_pay10 (iblk m c 6 t)) (k0_pay12 (iblk m c 4 t)) (iblk m c 7 t)) (iblk m c 9 t) (ix2 a b)
      = REF_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨t.val * 512 + a.val, by have := lt_N t; omega⟩ : Fin 8192) b) := by
    refine (pay_gated (dh m c t) (iblk m c 4 t) (iblk m c 5 t) (iblk m c 6 t) (iblk m c 7 t) _ a b).trans (Eq.trans ?_ (NormKit.gatedCt_at _ _ _ _ _ _ _ _).symm)
    dsimp only
    rw [row_smp, row_tok]
    exact (Ideal.mul_congr (rows_at m c hx ht t a b) (blk_9 m c t b)).trans (mul_comm _ _)
  blk_simp; rw [after0_14, emb_14]
  by_cases h : t.val % 8 = 0
  · rw [outsAt0_A m c t h]; dsimp only; frame_out; exact key
  · rw [outsAt0_B m c t h]; dsimp only; frame_out; exact key

/-- what a point adds to window 11. -/
def part_11 (c : Dev nD) (t : Fin cfg0.N) (y : S1x1x1024.Idx) : EReal :=
  ∑ a : Fin 512, dh m c t (ix2 a (y 2))

/-- the array of window 11 after the run. -/
theorem final_11 (c : Dev nD)  :
    (dats m 0 c).arrAt 11 (cfgs 0).N
    = REF_v34 (m ((c : Thread nD τ).loc main_arg6)) (m ((c : Thread nD τ).loc main_arg7)) (m ((c : Thread nD τ).loc main_arg9)) (m ((c : Thread nD τ).loc main_arg10)) := by
  refine (dats m 0 c).arrAt_eq_of_covers 11 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_11 t).mp hf
  have key : ∑ s : Fin 8, part_11 m c ⟨8 * (t.val / 8) + s.val, Pipeline.run_point_lt_of_flush t hr s⟩ (ix3 0 0 j)
      = REF_v34 (m ((c : Thread nD τ).loc main_arg6)) (m ((c : Thread nD τ).loc main_arg7)) (m ((c : Thread nD τ).loc main_arg9)) (m ((c : Thread nD τ).loc main_arg10)) (ix3 (smp t) 0 j) := by
    refine Eq.trans ?_ ((sum_run t hr (fun s => Pipeline.run_point_lt_of_flush t hr s)
      fun b r => modCt (m ((c : Thread nD τ).loc main_arg6)) (m ((c : Thread nD τ).loc main_arg7)) (m ((c : Thread nD τ).loc main_arg9)) (m ((c : Thread nD τ).loc main_arg10)) (ix3 b r j)).trans (NormKit.shiftCt_at (modCt (m ((c : Thread nD τ).loc main_arg6)) (m ((c : Thread nD τ).loc main_arg7)) (m ((c : Thread nD τ).loc main_arg9)) (m ((c : Thread nD τ).loc main_arg10))) (smp t) j).symm)
    refine Finset.sum_congr rfl fun s _ => Finset.sum_congr rfl fun a _ => ?_
    exact dh_at m c _ a j
  blk_simp
  rw [after0_11, emb_11, Pipeline.eq_sum_fin_of_reset_step_apply_of_flush (fun n h => (outsAt0 m c n h).2.1) 8 (fun _ => 0) (part_11 m c)
    (fun t h j => by rw [outsAt0_A m c t h]; dsimp only; frame_out; exact (pay_shift _ _ _ _ _ j).trans (congrArg (· + _) (zero_shift j)))
    (fun t h j => by rw [outsAt0_B m c t h]; dsimp only; frame_out; exact pay_shift _ _ _ _ _ j)
    t hr _, zero_add]
  exact key

/-- what a point adds to window 12. -/
def part_12 (c : Dev nD) (t : Fin cfg0.N) (y : S1x1x1024.Idx) : EReal :=
  ∑ a : Fin 512, dh m c t (ix2 a (y 2)) * (k0_pay12 (iblk m c 4 t) (ix2 a (y 2)) * (iblk m c 6 t) (ix2 0 (y 2)))

/-- the array of window 12 after the run. -/
theorem final_12 (c : Dev nD)  :
    (dats m 0 c).arrAt 12 (cfgs 0).N
    = REF_v37 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg9)) (m ((c : Thread nD τ).loc main_arg10)) := by
  refine (dats m 0 c).arrAt_eq_of_covers 12 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_12 t).mp hf
  have key : ∑ s : Fin 8, part_12 m c ⟨8 * (t.val / 8) + s.val, Pipeline.run_point_lt_of_flush t hr s⟩ (ix3 0 0 j)
      = REF_v37 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg9)) (m ((c : Thread nD τ).loc main_arg10)) (ix3 (smp t) 0 j) := by
    refine Eq.trans ?_ ((sum_run t hr (fun s => Pipeline.run_point_lt_of_flush t hr s)
      fun b r => inp (m ((c : Thread nD τ).loc main_arg0)) (m ((c : Thread nD τ).loc main_arg1)) (m ((c : Thread nD τ).loc main_arg2)) (ix3 b r j) * NormKit.normRow (fun k => inp (m ((c : Thread nD τ).loc main_arg0)) (m ((c : Thread nD τ).loc main_arg1)) (m ((c : Thread nD τ).loc main_arg2)) (ix3 b r k)) * (m ((c : Thread nD τ).loc main_arg3)) (ix1 j) * modCt (m ((c : Thread nD τ).loc main_arg6)) (m ((c : Thread nD τ).loc main_arg7)) (m ((c : Thread nD τ).loc main_arg9)) (m ((c : Thread nD τ).loc main_arg10)) (ix3 b r j)).trans (NormKit.scaleCt_at (inp (m ((c : Thread nD τ).loc main_arg0)) (m ((c : Thread nD τ).loc main_arg1)) (m ((c : Thread nD τ).loc main_arg2))) (modCt (m ((c : Thread nD τ).loc main_arg6)) (m ((c : Thread nD τ).loc main_arg7)) (m ((c : Thread nD τ).loc main_arg9)) (m ((c : Thread nD τ).loc main_arg10))) (m ((c : Thread nD τ).loc main_arg3)) (smp t) j).symm)
    refine Finset.sum_congr rfl fun s _ => Finset.sum_congr rfl fun a _ => ?_
    exact (mul_comm _ _).trans (Ideal.mul_congr (Ideal.mul_congr (hat_at m c _ a j) (blk_6 m c _ j)) (dh_at m c _ a j))
  blk_simp
  rw [after0_12, emb_12, Pipeline.eq_sum_fin_of_reset_step_apply_of_flush (fun n h => (outsAt0 m c n h).2.2.1) 8 (fun _ => 0) (part_12 m c)
    (fun t h j => by rw [outsAt0_A m c t h]; dsimp only; frame_out; exact (pay_scale (dh m c t) (iblk m c 4 t) (iblk m c 6 t) _ j).trans (congrArg (· + _) (zero_scale j)))
    (fun t h j => by rw [outsAt0_B m c t h]; dsimp only; frame_out; exact pay_scale (dh m c t) (iblk m c 4 t) (iblk m c 6 t) _ j)
    t hr _, zero_add]
  exact key

/-- what a point adds to window 13. -/
def part_13 (c : Dev nD) (t : Fin cfg0.N) (y : S1x1x1024.Idx) : EReal :=
  ∑ a : Fin 512, dh m c t (ix2 a (y 2)) * (1 + (iblk m c 7 t) (ix3 0 0 (y 2))) * k0_pay12 (iblk m c 4 t) (ix2 a (y 2))

/-- the array of window 13 after the run. -/
theorem final_13 (c : Dev nD)  :
    (dats m 0 c).arrAt 13 (cfgs 0).N
    = REF_v42 (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg9)) (m ((c : Thread nD τ).loc main_arg10)) := by
  refine (dats m 0 c).arrAt_eq_of_covers 13 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_13 t).mp hf
  have key : ∑ s : Fin 8, part_13 m c ⟨8 * (t.val / 8) + s.val, Pipeline.run_point_lt_of_flush t hr s⟩ (ix3 0 0 j)
      = REF_v42 (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg9)) (m ((c : Thread nD τ).loc main_arg10)) (ix3 (smp t) 0 j) := by
    refine Eq.trans ?_ ((sum_run t hr (fun s => Pipeline.run_point_lt_of_flush t hr s)
      fun b r => inp (m ((c : Thread nD τ).loc main_arg0)) (m ((c : Thread nD τ).loc main_arg1)) (m ((c : Thread nD τ).loc main_arg2)) (ix3 b r j) * NormKit.normRow (fun k => inp (m ((c : Thread nD τ).loc main_arg0)) (m ((c : Thread nD τ).loc main_arg1)) (m ((c : Thread nD τ).loc main_arg2)) (ix3 b r k)) * (modCt (m ((c : Thread nD τ).loc main_arg6)) (m ((c : Thread nD τ).loc main_arg7)) (m ((c : Thread nD τ).loc main_arg9)) (m ((c : Thread nD τ).loc main_arg10)) (ix3 b r j) * (1 + (m ((c : Thread nD τ).loc main_arg4)) (ix3 b 0 j)))).trans (NormKit.gainCt_at (inp (m ((c : Thread nD τ).loc main_arg0)) (m ((c : Thread nD τ).loc main_arg1)) (m ((c : Thread nD τ).loc main_arg2))) (modCt (m ((c : Thread nD τ).loc main_arg6)) (m ((c : Thread nD τ).loc main_arg7)) (m ((c : Thread nD τ).loc main_arg9)) (m ((c : Thread nD τ).loc main_arg10))) (m ((c : Thread nD τ).loc main_arg4)) (smp t) j).symm)
    refine Finset.sum_congr rfl fun s _ => Finset.sum_congr rfl fun a _ => ?_
    exact (mul_comm _ _).trans (Ideal.mul_congr (hat_at m c _ a j) (Ideal.mul_congr (dh_at m c _ a j) (congrArg (1 + ·) (blk_7 m c _ j))))
  blk_simp
  rw [after0_13, emb_13, Pipeline.eq_sum_fin_of_reset_step_apply_of_flush (fun n h => (outsAt0 m c n h).2.2.2.1) 8 (fun _ => 0) (part_13 m c)
    (fun t h j => by rw [outsAt0_A m c t h]; dsimp only; frame_out; exact (pay_gain (dh m c t) (iblk m c 4 t) (iblk m c 7 t) _ j).trans (congrArg (· + _) (zero_gain j)))
    (fun t h j => by rw [outsAt0_B m c t h]; dsimp only; frame_out; exact pay_gain (dh m c t) (iblk m c 4 t) (iblk m c 7 t) _ j)
    t hr _, zero_add]
  exact key

/-- what a point adds to window 15. -/
def part_15 (c : Dev nD) (t : Fin cfg0.N) (y : S1x1x1024.Idx) : EReal :=
  ∑ a : Fin 512, k0_pay1 (k0_pay11 (iblk m c 4 t)) (k0_pay12 (iblk m c 4 t)) (k0_pay18 (dh m c t) (k0_pay10 (iblk m c 6 t)) (iblk m c 7 t)) (k0_pay19 (iblk m c 5 t)) (k0_pay20 (dh m c t) (k0_pay10 (iblk m c 6 t)) (k0_pay12 (iblk m c 4 t)) (iblk m c 7 t)) (ix2 a (y 2)) * (iblk m c 8 t) (ix2 a (y 2))

/-- the array of window 15 after the run. -/
theorem final_15 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg7)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) :
    (dats m 0 c).arrAt 15 (cfgs 0).N
    = REF_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 15 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_15 t).mp hf
  have key : ∑ s : Fin 8, part_15 m c ⟨8 * (t.val / 8) + s.val, Pipeline.run_point_lt_of_flush t hr s⟩ (ix3 0 0 j)
      = REF_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (ix3 (smp t) 0 j) := by
    refine Eq.trans ?_ ((sum_run t hr (fun s => Pipeline.run_point_lt_of_flush t hr s)
      fun b r => NormKit.inputCt (inp (m ((c : Thread nD τ).loc main_arg0)) (m ((c : Thread nD τ).loc main_arg1)) (m ((c : Thread nD τ).loc main_arg2))) (modCt (m ((c : Thread nD τ).loc main_arg6)) (m ((c : Thread nD τ).loc main_arg7)) (m ((c : Thread nD τ).loc main_arg9)) (m ((c : Thread nD τ).loc main_arg10))) (m ((c : Thread nD τ).loc main_arg3)) (m ((c : Thread nD τ).loc main_arg4)) (m ((c : Thread nD τ).loc main_arg8)) (ix3 b r j) * (m ((c : Thread nD τ).loc main_arg1)) (ix3 b r j)).trans (NormKit.gateCt_at (inp (m ((c : Thread nD τ).loc main_arg0)) (m ((c : Thread nD τ).loc main_arg1)) (m ((c : Thread nD τ).loc main_arg2))) (modCt (m ((c : Thread nD τ).loc main_arg6)) (m ((c : Thread nD τ).loc main_arg7)) (m ((c : Thread nD τ).loc main_arg9)) (m ((c : Thread nD τ).loc main_arg10))) (m ((c : Thread nD τ).loc main_arg8)) (m ((c : Thread nD τ).loc main_arg3)) (m ((c : Thread nD τ).loc main_arg4)) (m ((c : Thread nD τ).loc main_arg1)) (smp t) j).symm)
    refine Finset.sum_congr rfl fun s _ => Finset.sum_congr rfl fun a _ => ?_
    exact Ideal.mul_congr (rows_at m c hx ht _ a j) (blk_8 m c _ a j)
  blk_simp
  rw [after0_15, emb_15, Pipeline.eq_sum_fin_of_reset_step_apply_of_flush (fun n h => (outsAt0 m c n h).2.2.2.2.2) 8 (fun _ => 0) (part_15 m c)
    (fun t h j => by rw [outsAt0_A m c t h]; dsimp only; frame_out; exact (pay_gate (dh m c t) (iblk m c 4 t) (iblk m c 5 t) (iblk m c 6 t) (iblk m c 7 t) (iblk m c 8 t) _ j).trans (congrArg (· + _) (zero_gate j)))
    (fun t h j => by rw [outsAt0_B m c t h]; dsimp only; frame_out; exact pay_gate (dh m c t) (iblk m c 4 t) (iblk m c 5 t) (iblk m c 6 t) (iblk m c 7 t) (iblk m c 8 t) _ j)
    t hr _, zero_add]
  exact key

end Cert.NormKernelIdeal.Value

end
-- ==== Proof.NormPre.lean ====
/- What the preconditions of the norm gradients say of the arrays, and how finiteness passes through sums and products. -/
module

public import proofs.«01_k».proof.Proof.FinitePre

@[expose] public section

set_option maxRecDepth 16384

noncomputable section

open Idealize.ShloMosaic Idealize.ShloMosaic.TcCoe

namespace FinitePre

open scoped BigOperators

/-- a product of reals is a real. -/
theorem fin_mul {x y : EReal} (hx : RealKit.Fin' x) (hy : RealKit.Fin' y) : RealKit.Fin' (x * y) := by
  obtain ⟨a, rfl⟩ := hx; obtain ⟨b, rfl⟩ := hy; exact ⟨a * b, (EReal.coe_mul _ _).symm⟩

/-- a sum of two reals is a real. -/
theorem fin_add {x y : EReal} (hx : RealKit.Fin' x) (hy : RealKit.Fin' y) : RealKit.Fin' (x + y) := by
  obtain ⟨a, rfl⟩ := hx; obtain ⟨b, rfl⟩ := hy; exact ⟨a + b, (EReal.coe_add _ _).symm⟩

/-- one is a real. -/
theorem fin_one : RealKit.Fin' (1 : EReal) := ⟨1, EReal.coe_one.symm⟩

/-- a finite sum of reals is a real. -/
theorem fin_sum {n : ℕ} {f : Fin n → EReal} (h : ∀ k, RealKit.Fin' (f k)) : RealKit.Fin' (∑ k, f k) := by
  choose F hF using h
  exact ⟨∑ k, F k, by rw [RealKit.coe_sum]; exact Finset.sum_congr rfl fun k _ => hF k⟩

/-- the side conditions of the precondition of the second norm. -/
theorem finite_norm2_facts : Cert.Pre_finite_norm2.Facts where
  bcast_S_S2x4096x1024 := by decide
  reducesTo_S2x4096x1024_S_d0_1_2 := by decide
  h_S_ := by decide
  bcast_S_S2x1x1024 := by decide
  reducesTo_S2x1x1024_S_d0_1_2 := by decide
  bcast_S_S1024 := by decide
  reducesTo_S1024_S_d0 := by decide
  bcast_S_S1024x2816 := by decide
  reducesTo_S1024x2816_S_d0_1 := by decide
  bcast_S_S2x4096x2816 := by decide
  reducesTo_S2x4096x2816_S_d0_1_2 := by decide

section
variable {hf : Cert.Pre_finite_norm2.Facts} (x : FVec Ideal Cert.Pre_finite_norm2.S2x4096x1024 .f32) (y : FVec Ideal Cert.Pre_finite_norm2.S2x4096x1024 .bf16) (g : FVec Ideal Cert.Pre_finite_norm2.S2x1x1024 .f32) (gain : FVec Ideal Cert.Pre_finite_norm2.S1024 .f32) (sc : FVec Ideal Cert.Pre_finite_norm2.S2x1x1024 .f32) (sh : FVec Ideal Cert.Pre_finite_norm2.S2x1x1024 .f32) (w : FVec Ideal Cert.Pre_finite_norm2.S1024x2816 .f32) (v : FVec Ideal Cert.Pre_finite_norm2.S1024x2816 .f32) (dx : FVec Ideal Cert.Pre_finite_norm2.S2x4096x1024 .f32) (p : FVec Ideal Cert.Pre_finite_norm2.S2x4096x2816 .bf16) (q : FVec Ideal Cert.Pre_finite_norm2.S2x4096x2816 .bf16)
    (h : Cert.Pre_finite_norm2.fn (F := Ideal) x y g gain sc sh w v dx p q = fun _ => 1#1)
include h

theorem finite_norm2_x (i) : RealKit.Fin' (x i) :=
  all_fin x _ RealKit.inf_f32 _ _ _ _ _ _ (and_split _ _ _ (and_split _ _ _ (and_split _ _ _ (and_split _ _ _ (and_split _ _ _ (and_split _ _ _ (and_split _ _ _ (and_split _ _ _ (congrFun h fun k => k.elim0)).1).1).1).1).1).1).1).1 i

theorem finite_norm2_y (i) : RealKit.Fin' (y i) :=
  all_fin y _ RealKit.inf_bf16 _ _ _ _ _ _ (and_split _ _ _ (and_split _ _ _ (and_split _ _ _ (and_split _ _ _ (and_split _ _ _ (and_split _ _ _ (and_split _ _ _ (and_split _ _ _ (congrFun h fun k => k.elim0)).1).1).1).1).1).1).1).2 i

theorem finite_norm2_g (i) : RealKit.Fin' (g i) :=
  all_fin g _ RealKit.inf_f32 _ _ _ _ _ _ (and_split _ _ _ (and_split _ _ _ (and_split _ _ _ (and_split _ _ _ (and_split _ _ _ (and_split _ _ _ (and_split _ _ _ (congrFun h fun k => k.elim0)).1).1).1).1).1).1).2 i

theorem finite_norm2_gain (i) : RealKit.Fin' (gain i) :=
  all_fin gain _ RealKit.inf_f32 _ _ _ _ _ _ (and_split _ _ _ (and_split _ _ _ (and_split _ _ _ (and_split _ _ _ (and_split _ _ _ (and_split _ _ _ (congrFun h fun k => k.elim0)).1).1).1).1).1).2 i

theorem finite_norm2_sc (i) : RealKit.Fin' (sc i) :=
  all_fin sc _ RealKit.inf_f32 _ _ _ _ _ _ (and_split _ _ _ (and_split _ _ _ (and_split _ _ _ (and_split _ _ _ (and_split _ _ _ (congrFun h fun k => k.elim0)).1).1).1).1).2 i

theorem finite_norm2_w (i) : RealKit.Fin' (w i) :=
  all_fin w _ RealKit.inf_f32 _ _ _ _ _ _ (and_split _ _ _ (and_split _ _ _ (and_split _ _ _ (and_split _ _ _ (congrFun h fun k => k.elim0)).1).1).1).2 i

theorem finite_norm2_v (i) : RealKit.Fin' (v i) :=
  all_fin v _ RealKit.inf_f32 _ _ _ _ _ _ (and_split _ _ _ (and_split _ _ _ (and_split _ _ _ (congrFun h fun k => k.elim0)).1).1).2 i

theorem finite_norm2_p (i) : RealKit.Fin' (p i) :=
  all_fin p _ RealKit.inf_bf16 _ _ _ _ _ _ (and_split _ _ _ (and_split _ _ _ (congrFun h fun k => k.elim0)).1).2 i

theorem finite_norm2_q (i) : RealKit.Fin' (q i) :=
  all_fin q _ RealKit.inf_bf16 _ _ _ _ _ _ (and_split _ _ _ (congrFun h fun k => k.elim0)).2 i

end

/-- the side conditions of the precondition of the first norm in an SB block. -/
theorem finite_norm1b_facts : Cert.Pre_finite_norm1b.Facts where
  bcast_S_S2x4096x1024 := by decide
  reducesTo_S2x4096x1024_S_d0_1_2 := by decide
  h_S_ := by decide
  bcast_S_S2x1x1024 := by decide
  reducesTo_S2x1x1024_S_d0_1_2 := by decide
  bcast_S_S1024 := by decide
  reducesTo_S1024_S_d0 := by decide
  bcast_S_S1024x3072 := by decide
  reducesTo_S1024x3072_S_d0_1 := by decide

section
variable {hf : Cert.Pre_finite_norm1b.Facts} (x : FVec Ideal Cert.Pre_finite_norm1b.S2x4096x1024 .f32) (y : FVec Ideal Cert.Pre_finite_norm1b.S2x4096x1024 .bf16) (g : FVec Ideal Cert.Pre_finite_norm1b.S2x1x1024 .f32) (gain : FVec Ideal Cert.Pre_finite_norm1b.S1024 .f32) (sc : FVec Ideal Cert.Pre_finite_norm1b.S2x1x1024 .f32) (sh : FVec Ideal Cert.Pre_finite_norm1b.S2x1x1024 .f32) (w : FVec Ideal Cert.Pre_finite_norm1b.S1024x3072 .f32) (dx : FVec Ideal Cert.Pre_finite_norm1b.S2x4096x1024 .f32) (p : FVec Ideal Cert.Pre_finite_norm1b.S2x4096x1024 .bf16) (q : FVec Ideal Cert.Pre_finite_norm1b.S2x4096x1024 .bf16) (r : FVec Ideal Cert.Pre_finite_norm1b.S2x4096x1024 .bf16)
    (h : Cert.Pre_finite_norm1b.fn (F := Ideal) x y g gain sc sh w dx p q r = fun _ => 1#1)
include h

theorem finite_norm1b_x (i) : RealKit.Fin' (x i) :=
  all_fin x _ RealKit.inf_f32 _ _ _ _ _ _ (and_split _ _ _ (and_split _ _ _ (and_split _ _ _ (and_split _ _ _ (and_split _ _ _ (and_split _ _ _ (and_split _ _ _ (and_split _ _ _ (congrFun h fun k => k.elim0)).1).1).1).1).1).1).1).1 i

theorem finite_norm1b_y (i) : RealKit.Fin' (y i) :=
  all_fin y _ RealKit.inf_bf16 _ _ _ _ _ _ (and_split _ _ _ (and_split _ _ _ (and_split _ _ _ (and_split _ _ _ (and_split _ _ _ (and_split _ _ _ (and_split _ _ _ (and_split _ _ _ (congrFun h fun k => k.elim0)).1).1).1).1).1).1).1).2 i

theorem finite_norm1b_g (i) : RealKit.Fin' (g i) :=
  all_fin g _ RealKit.inf_f32 _ _ _ _ _ _ (and_split _ _ _ (and_split _ _ _ (and_split _ _ _ (and_split _ _ _ (and_split _ _ _ (and_split _ _ _ (and_split _ _ _ (congrFun h fun k => k.elim0)).1).1).1).1).1).1).2 i

theorem finite_norm1b_gain (i) : RealKit.Fin' (gain i) :=
  all_fin gain _ RealKit.inf_f32 _ _ _ _ _ _ (and_split _ _ _ (and_split _ _ _ (and_split _ _ _ (and_split _ _ _ (and_split _ _ _ (and_split _ _ _ (congrFun h fun k => k.elim0)).1).1).1).1).1).2 i

theorem finite_norm1b_sc (i) : RealKit.Fin' (sc i) :=
  all_fin sc _ RealKit.inf_f32 _ _ _ _ _ _ (and_split _ _ _ (and_split _ _ _ (and_split _ _ _ (and_split _ _ _ (and_split _ _ _ (congrFun h fun k => k.elim0)).1).1).1).1).2 i

theorem finite_norm1b_w (i) : RealKit.Fin' (w i) :=
  all_fin w _ RealKit.inf_f32 _ _ _ _ _ _ (and_split _ _ _ (and_split _ _ _ (and_split _ _ _ (and_split _ _ _ (congrFun h fun k => k.elim0)).1).1).1).2 i

theorem finite_norm1b_p (i) : RealKit.Fin' (p i) :=
  all_fin p _ RealKit.inf_bf16 _ _ _ _ _ _ (and_split _ _ _ (and_split _ _ _ (and_split _ _ _ (congrFun h fun k => k.elim0)).1).1).2 i

theorem finite_norm1b_q (i) : RealKit.Fin' (q i) :=
  all_fin q _ RealKit.inf_bf16 _ _ _ _ _ _ (and_split _ _ _ (and_split _ _ _ (congrFun h fun k => k.elim0)).1).2 i

theorem finite_norm1b_r (i) : RealKit.Fin' (r i) :=
  all_fin r _ RealKit.inf_bf16 _ _ _ _ _ _ (and_split _ _ _ (congrFun h fun k => k.elim0)).2 i

end

/-- the side conditions of the precondition of the first norm above an SWA block. -/
theorem finite_norm1a_facts : Cert.Pre_finite_norm1a.Facts where
  bcast_S_S2x4096x1024 := by decide
  reducesTo_S2x4096x1024_S_d0_1_2 := by decide
  h_S_ := by decide
  bcast_S_S2x1x1024 := by decide
  reducesTo_S2x1x1024_S_d0_1_2 := by decide
  bcast_S_S1024 := by decide
  reducesTo_S1024_S_d0 := by decide
  bcast_S_S1024x1280 := by decide
  reducesTo_S1024x1280_S_d0_1 := by decide
  bcast_S_S2x4096x1280 := by decide
  reducesTo_S2x4096x1280_S_d0_1_2 := by decide

section
variable {hf : Cert.Pre_finite_norm1a.Facts} (x : FVec Ideal Cert.Pre_finite_norm1a.S2x4096x1024 .f32) (y : FVec Ideal Cert.Pre_finite_norm1a.S2x4096x1024 .bf16) (g : FVec Ideal Cert.Pre_finite_norm1a.S2x1x1024 .f32) (gain : FVec Ideal Cert.Pre_finite_norm1a.S1024 .f32) (sc : FVec Ideal Cert.Pre_finite_norm1a.S2x1x1024 .f32) (sh : FVec Ideal Cert.Pre_finite_norm1a.S2x1x1024 .f32) (w : FVec Ideal Cert.Pre_finite_norm1a.S1024x1280 .f32) (dx : FVec Ideal Cert.Pre_finite_norm1a.S2x4096x1024 .f32) (p : FVec Ideal Cert.Pre_finite_norm1a.S2x4096x1280 .bf16)
    (h : Cert.Pre_finite_norm1a.fn (F := Ideal) x y g gain sc sh w dx p = fun _ => 1#1)
include h

theorem finite_norm1a_x (i) : RealKit.Fin' (x i) :=
  all_fin x _ RealKit.inf_f32 _ _ _ _ _ _ (and_split _ _ _ (and_split _ _ _ (and_split _ _ _ (and_split _ _ _ (and_split _ _ _ (and_split _ _ _ (congrFun h fun k => k.elim0)).1).1).1).1).1).1 i

theorem finite_norm1a_y (i) : RealKit.Fin' (y i) :=
  all_fin y _ RealKit.inf_bf16 _ _ _ _ _ _ (and_split _ _ _ (and_split _ _ _ (and_split _ _ _ (and_split _ _ _ (and_split _ _ _ (and_split _ _ _ (congrFun h fun k => k.elim0)).1).1).1).1).1).2 i

theorem finite_norm1a_g (i) : RealKit.Fin' (g i) :=
  all_fin g _ RealKit.inf_f32 _ _ _ _ _ _ (and_split _ _ _ (and_split _ _ _ (and_split _ _ _ (and_split _ _ _ (and_split _ _ _ (congrFun h fun k => k.elim0)).1).1).1).1).2 i

theorem finite_norm1a_gain (i) : RealKit.Fin' (gain i) :=
  all_fin gain _ RealKit.inf_f32 _ _ _ _ _ _ (and_split _ _ _ (and_split _ _ _ (and_split _ _ _ (and_split _ _ _ (congrFun h fun k => k.elim0)).1).1).1).2 i

theorem finite_norm1a_sc (i) : RealKit.Fin' (sc i) :=
  all_fin sc _ RealKit.inf_f32 _ _ _ _ _ _ (and_split _ _ _ (and_split _ _ _ (and_split _ _ _ (congrFun h fun k => k.elim0)).1).1).2 i

theorem finite_norm1a_w (i) : RealKit.Fin' (w i) :=
  all_fin w _ RealKit.inf_f32 _ _ _ _ _ _ (and_split _ _ _ (and_split _ _ _ (congrFun h fun k => k.elim0)).1).2 i

theorem finite_norm1a_p (i) : RealKit.Fin' (p i) :=
  all_fin p _ RealKit.inf_bf16 _ _ _ _ _ _ (and_split _ _ _ (congrFun h fun k => k.elim0)).2 i

end

/-- the side conditions of the precondition of the first norm of all. -/
theorem finite_norm0_facts : Cert.Pre_finite_norm0.Facts where
  bcast_S_S2x4096x1024 := by decide
  reducesTo_S2x4096x1024_S_d0_1_2 := by decide
  h_S_ := by decide
  bcast_S_S1024 := by decide
  reducesTo_S1024_S_d0 := by decide
  bcast_S_S2x1x1024 := by decide
  reducesTo_S2x1x1024_S_d0_1_2 := by decide
  bcast_S_S1024x1280 := by decide
  reducesTo_S1024x1280_S_d0_1 := by decide
  bcast_S_S2x4096x1280 := by decide
  reducesTo_S2x4096x1280_S_d0_1_2 := by decide

section
variable {hf : Cert.Pre_finite_norm0.Facts} (x : FVec Ideal Cert.Pre_finite_norm0.S2x4096x1024 .f32) (gain : FVec Ideal Cert.Pre_finite_norm0.S1024 .f32) (sc : FVec Ideal Cert.Pre_finite_norm0.S2x1x1024 .f32) (sh : FVec Ideal Cert.Pre_finite_norm0.S2x1x1024 .f32) (w : FVec Ideal Cert.Pre_finite_norm0.S1024x1280 .f32) (dx : FVec Ideal Cert.Pre_finite_norm0.S2x4096x1024 .f32) (p : FVec Ideal Cert.Pre_finite_norm0.S2x4096x1280 .bf16)
    (h : Cert.Pre_finite_norm0.fn (F := Ideal) x gain sc sh w dx p = fun _ => 1#1)
include h

theorem finite_norm0_x (i) : RealKit.Fin' (x i) :=
  all_fin x _ RealKit.inf_f32 _ _ _ _ _ _ (and_split _ _ _ (and_split _ _ _ (and_split _ _ _ (and_split _ _ _ (congrFun h fun k => k.elim0)).1).1).1).1 i

theorem finite_norm0_gain (i) : RealKit.Fin' (gain i) :=
  all_fin gain _ RealKit.inf_f32 _ _ _ _ _ _ (and_split _ _ _ (and_split _ _ _ (and_split _ _ _ (and_split _ _ _ (congrFun h fun k => k.elim0)).1).1).1).2 i

theorem finite_norm0_sc (i) : RealKit.Fin' (sc i) :=
  all_fin sc _ RealKit.inf_f32 _ _ _ _ _ _ (and_split _ _ _ (and_split _ _ _ (and_split _ _ _ (congrFun h fun k => k.elim0)).1).1).2 i

theorem finite_norm0_w (i) : RealKit.Fin' (w i) :=
  all_fin w _ RealKit.inf_f32 _ _ _ _ _ _ (and_split _ _ _ (and_split _ _ _ (congrFun h fun k => k.elim0)).1).2 i

theorem finite_norm0_p (i) : RealKit.Fin' (p i) :=
  all_fin p _ RealKit.inf_bf16 _ _ _ _ _ _ (and_split _ _ _ (congrFun h fun k => k.elim0)).2 i

end

end FinitePre

end
-- ==== Proof.NormClaim.lean ====
/- The claims about `NormKernel`, its idealization and its reference. -/
module

public import proofs.«01_k».proof.Defs
public import proofs.«01_k».proof.Proof.Gen.NormKernel.Frame
public import proofs.«01_k».proof.Proof.Gen.NormKernelIdeal.Frame
public import proofs.«01_k».proof.Proof.Gen.NormReferenceIdeal.Run
public import proofs.«01_k».proof.Proof.NormValue
public import proofs.«01_k».proof.Proof.NormPre
public import Idealize.ShloMosaic.Lib.Claim

@[expose] public section

set_option maxRecDepth 16384

noncomputable section

namespace Cert.Proof.Norm

open Idealize.ShloMosaic Idealize.ShloMosaic.TcCoe Idealize.SL.Sem

instance : Cert.NormKernel.Facts := Cert.NormKernel.Gen.facts
instance : Cert.NormKernelIdeal.Facts := Cert.NormKernelIdeal.Gen.facts
instance : Cert.NormReferenceIdeal.Facts := Cert.NormReferenceIdeal.Gen.facts
instance : Cert.Pre_finite_norm2.Facts := FinitePre.finite_norm2_facts

/-- the kernel's thread on a device. -/
abbrev tK (c : Dev Cert.NormKernelIdeal.nD) : Thread Cert.NormKernelIdeal.nD Cert.NormKernelIdeal.τ := c.tc

/-- the reference's thread on a device. -/
abbrev tR (c : Dev Cert.NormReferenceIdeal.nD) : Thread Cert.NormReferenceIdeal.nD Cert.NormReferenceIdeal.τ := c.tc

/-- a memory of the kernel's program. -/
abbrev MemK := (ℓ : Loc Cert.NormKernelIdeal.nD Cert.NormKernelIdeal.τ Cert.NormKernelIdeal.sig) → Buf (Elt Ideal) ℓ

/-- a memory of the reference's program. -/
abbrev MemR := (ℓ : Loc Cert.NormReferenceIdeal.nD Cert.NormReferenceIdeal.τ Cert.NormReferenceIdeal.sig) → Buf (Elt Ideal) ℓ

/-- the printed kernel's frame. -/
theorem frame_p : Cert.quiescent_NormKernel := fun m ρ _ => Cert.NormKernel.Gen.frame m ρ

/-- the idealized kernel's frame. -/
theorem frame_pi : Cert.quiescent_NormKernelIdeal := fun m ρ _ => Cert.NormKernelIdeal.Gen.frame m ρ

/-- the reference's frame: it declares no semaphore. -/
theorem frame_ri : Cert.quiescent_NormReferenceIdeal := fun m g _ =>
  (θ_run Cert.NormReferenceIdeal.defs _ _).mono
    (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩, sem_eq_zero_of_no_sems (by decide) r.2⟩)
    (Cert.NormReferenceIdeal.Value.run m g)

/-- the idealized kernel's frame under the precondition. -/
theorem frame_pi_pre : Cert.quiescent_NormKernelIdeal_pre_finite_norm2 := fun m ρ _ => Cert.NormKernelIdeal.Gen.frame m ρ

/-- the reference's frame under the precondition. -/
theorem frame_ri_pre : Cert.quiescent_NormReferenceIdeal_pre_finite_norm2 := fun m g _ => frame_ri m g trivial

theorem inp_at (a0 : FVec Ideal Cert.NormReferenceIdeal.S2x4096x1024 .f32) (a1 : FVec Ideal Cert.NormReferenceIdeal.S2x4096x1024 .bf16) (a2 : FVec Ideal Cert.NormReferenceIdeal.S2x1x1024 .f32) (s : Fin 2) (r : Fin 4096) (k : Fin 1024) :
    Cert.NormReferenceIdeal.Value.inp a0 a1 a2 (ix3 s r k) = a0 (ix3 s r k) + a2 (ix3 s 0 k) * a1 (ix3 s r k) := by
  pointwise [Cert.NormReferenceIdeal.Value.inp]

/-- the array that is normed is finite. -/
theorem fin_inp (m : MemK) (c : Dev Cert.NormKernelIdeal.nD) (hpre : Cert.Pre_NormKernelIdeal_finite_norm2 m) (i) :
    RealKit.Fin' (Cert.NormReferenceIdeal.Value.inp (m ((tK c).loc Cert.NormKernelIdeal.main_arg0)) (m ((tK c).loc Cert.NormKernelIdeal.main_arg1)) (m ((tK c).loc Cert.NormKernelIdeal.main_arg2)) i) := by
  rw [eq_ix3 i]
  exact (inp_at ..).symm ▸ FinitePre.fin_add (FinitePre.finite_norm2_x _ _ _ _ _ _ _ _ _ _ _ (hpre c) _)
    (FinitePre.fin_mul (FinitePre.finite_norm2_g _ _ _ _ _ _ _ _ _ _ _ (hpre c) _) (FinitePre.finite_norm2_y _ _ _ _ _ _ _ _ _ _ _ (hpre c) _))

/-- the cotangent of the normed array is finite. -/
theorem fin_ct (m : MemK) (c : Dev Cert.NormKernelIdeal.nD) (hpre : Cert.Pre_NormKernelIdeal_finite_norm2 m) (b : Fin 2) (s : Fin 4096) (k : Fin 1024) :
    RealKit.Fin' (Cert.NormReferenceIdeal.Value.modCt (m ((tK c).loc Cert.NormKernelIdeal.main_arg6)) (m ((tK c).loc Cert.NormKernelIdeal.main_arg7)) (m ((tK c).loc Cert.NormKernelIdeal.main_arg9)) (m ((tK c).loc Cert.NormKernelIdeal.main_arg10)) (ix3 b s k) * (1 + (m ((tK c).loc Cert.NormKernelIdeal.main_arg4)) (ix3 b 0 k)) * (m ((tK c).loc Cert.NormKernelIdeal.main_arg3)) (ix1 k)) := by
  rw [Cert.NormKernelIdeal.Value.modCt_at]
  exact FinitePre.fin_mul (FinitePre.fin_mul (FinitePre.fin_add (FinitePre.fin_sum fun k => FinitePre.fin_mul (FinitePre.finite_norm2_q _ _ _ _ _ _ _ _ _ _ _ (hpre c) _) (FinitePre.finite_norm2_v _ _ _ _ _ _ _ _ _ _ _ (hpre c) _)) (FinitePre.fin_sum fun k => FinitePre.fin_mul (FinitePre.finite_norm2_p _ _ _ _ _ _ _ _ _ _ _ (hpre c) _) (FinitePre.finite_norm2_w _ _ _ _ _ _ _ _ _ _ _ (hpre c) _)))
    (FinitePre.fin_add FinitePre.fin_one (FinitePre.finite_norm2_sc _ _ _ _ _ _ _ _ _ _ _ (hpre c) _))) (FinitePre.finite_norm2_gain _ _ _ _ _ _ _ _ _ _ _ (hpre c) _)

/-- the reference's term for window 10's array, at the kernel's arguments. -/
theorem out_10 (m : MemK)
    (m' : MemR) (c : Dev Cert.NormKernelIdeal.nD)
    (hpre : Cert.Pre_NormKernelIdeal_finite_norm2 m)
    (a0 : m' ((tR c).loc Cert.NormReferenceIdeal.main_arg0) = m ((tK c).loc Cert.NormKernelIdeal.main_arg0))
    (a1 : m' ((tR c).loc Cert.NormReferenceIdeal.main_arg1) = m ((tK c).loc Cert.NormKernelIdeal.main_arg1))
    (a2 : m' ((tR c).loc Cert.NormReferenceIdeal.main_arg2) = m ((tK c).loc Cert.NormKernelIdeal.main_arg2))
    (a3 : m' ((tR c).loc Cert.NormReferenceIdeal.main_arg3) = m ((tK c).loc Cert.NormKernelIdeal.main_arg3))
    (a4 : m' ((tR c).loc Cert.NormReferenceIdeal.main_arg4) = m ((tK c).loc Cert.NormKernelIdeal.main_arg4))
    (a6 : m' ((tR c).loc Cert.NormReferenceIdeal.main_arg6) = m ((tK c).loc Cert.NormKernelIdeal.main_arg6))
    (a7 : m' ((tR c).loc Cert.NormReferenceIdeal.main_arg7) = m ((tK c).loc Cert.NormKernelIdeal.main_arg7))
    (a8 : m' ((tR c).loc Cert.NormReferenceIdeal.main_arg8) = m ((tK c).loc Cert.NormKernelIdeal.main_arg8))
    (a9 : m' ((tR c).loc Cert.NormReferenceIdeal.main_arg9) = m ((tK c).loc Cert.NormKernelIdeal.main_arg9))
    (a10 : m' ((tR c).loc Cert.NormReferenceIdeal.main_arg10) = m ((tK c).loc Cert.NormKernelIdeal.main_arg10)) :
    Cert.NormReferenceIdeal.Value.REF_v66 (m' ((tR c).loc Cert.NormReferenceIdeal.main_arg0)) (m' ((tR c).loc Cert.NormReferenceIdeal.main_arg1)) (m' ((tR c).loc Cert.NormReferenceIdeal.main_arg2)) (m' ((tR c).loc Cert.NormReferenceIdeal.main_arg3)) (m' ((tR c).loc Cert.NormReferenceIdeal.main_arg4)) (m' ((tR c).loc Cert.NormReferenceIdeal.main_arg6)) (m' ((tR c).loc Cert.NormReferenceIdeal.main_arg7)) (m' ((tR c).loc Cert.NormReferenceIdeal.main_arg8)) (m' ((tR c).loc Cert.NormReferenceIdeal.main_arg9)) (m' ((tR c).loc Cert.NormReferenceIdeal.main_arg10))
      = (Cert.NormKernelIdeal.Gen.dats m 0 c).arrAt 10 (Cert.NormKernelIdeal.cfgs 0).N := by
  rw [a0, a1, a2, a3, a4, a6, a7, a8, a9, a10]
  exact (Cert.NormKernelIdeal.Value.final_10 m c (fin_inp m c hpre) (fin_ct m c hpre)).symm

/-- the reference's term for window 11's array, at the kernel's arguments. -/
theorem out_11 (m : MemK)
    (m' : MemR) (c : Dev Cert.NormKernelIdeal.nD)
    (a6 : m' ((tR c).loc Cert.NormReferenceIdeal.main_arg6) = m ((tK c).loc Cert.NormKernelIdeal.main_arg6))
    (a7 : m' ((tR c).loc Cert.NormReferenceIdeal.main_arg7) = m ((tK c).loc Cert.NormKernelIdeal.main_arg7))
    (a9 : m' ((tR c).loc Cert.NormReferenceIdeal.main_arg9) = m ((tK c).loc Cert.NormKernelIdeal.main_arg9))
    (a10 : m' ((tR c).loc Cert.NormReferenceIdeal.main_arg10) = m ((tK c).loc Cert.NormKernelIdeal.main_arg10)) :
    Cert.NormReferenceIdeal.Value.REF_v34 (m' ((tR c).loc Cert.NormReferenceIdeal.main_arg6)) (m' ((tR c).loc Cert.NormReferenceIdeal.main_arg7)) (m' ((tR c).loc Cert.NormReferenceIdeal.main_arg9)) (m' ((tR c).loc Cert.NormReferenceIdeal.main_arg10))
      = (Cert.NormKernelIdeal.Gen.dats m 0 c).arrAt 11 (Cert.NormKernelIdeal.cfgs 0).N := by
  rw [a6, a7, a9, a10]
  exact (Cert.NormKernelIdeal.Value.final_11 m c).symm

/-- the reference's term for window 12's array, at the kernel's arguments. -/
theorem out_12 (m : MemK)
    (m' : MemR) (c : Dev Cert.NormKernelIdeal.nD)
    (a0 : m' ((tR c).loc Cert.NormReferenceIdeal.main_arg0) = m ((tK c).loc Cert.NormKernelIdeal.main_arg0))
    (a1 : m' ((tR c).loc Cert.NormReferenceIdeal.main_arg1) = m ((tK c).loc Cert.NormKernelIdeal.main_arg1))
    (a2 : m' ((tR c).loc Cert.NormReferenceIdeal.main_arg2) = m ((tK c).loc Cert.NormKernelIdeal.main_arg2))
    (a3 : m' ((tR c).loc Cert.NormReferenceIdeal.main_arg3) = m ((tK c).loc Cert.NormKernelIdeal.main_arg3))
    (a6 : m' ((tR c).loc Cert.NormReferenceIdeal.main_arg6) = m ((tK c).loc Cert.NormKernelIdeal.main_arg6))
    (a7 : m' ((tR c).loc Cert.NormReferenceIdeal.main_arg7) = m ((tK c).loc Cert.NormKernelIdeal.main_arg7))
    (a9 : m' ((tR c).loc Cert.NormReferenceIdeal.main_arg9) = m ((tK c).loc Cert.NormKernelIdeal.main_arg9))
    (a10 : m' ((tR c).loc Cert.NormReferenceIdeal.main_arg10) = m ((tK c).loc Cert.NormKernelIdeal.main_arg10)) :
    Cert.NormReferenceIdeal.Value.REF_v37 (m' ((tR c).loc Cert.NormReferenceIdeal.main_arg0)) (m' ((tR c).loc Cert.NormReferenceIdeal.main_arg1)) (m' ((tR c).loc Cert.NormReferenceIdeal.main_arg2)) (m' ((tR c).loc Cert.NormReferenceIdeal.main_arg3)) (m' ((tR c).loc Cert.NormReferenceIdeal.main_arg6)) (m' ((tR c).loc Cert.NormReferenceIdeal.main_arg7)) (m' ((tR c).loc Cert.NormReferenceIdeal.main_arg9)) (m' ((tR c).loc Cert.NormReferenceIdeal.main_arg10))
      = (Cert.NormKernelIdeal.Gen.dats m 0 c).arrAt 12 (Cert.NormKernelIdeal.cfgs 0).N := by
  rw [a0, a1, a2, a3, a6, a7, a9, a10]
  exact (Cert.NormKernelIdeal.Value.final_12 m c).symm

/-- the reference's term for window 13's array, at the kernel's arguments. -/
theorem out_13 (m : MemK)
    (m' : MemR) (c : Dev Cert.NormKernelIdeal.nD)
    (a0 : m' ((tR c).loc Cert.NormReferenceIdeal.main_arg0) = m ((tK c).loc Cert.NormKernelIdeal.main_arg0))
    (a1 : m' ((tR c).loc Cert.NormReferenceIdeal.main_arg1) = m ((tK c).loc Cert.NormKernelIdeal.main_arg1))
    (a2 : m' ((tR c).loc Cert.NormReferenceIdeal.main_arg2) = m ((tK c).loc Cert.NormKernelIdeal.main_arg2))
    (a4 : m' ((tR c).loc Cert.NormReferenceIdeal.main_arg4) = m ((tK c).loc Cert.NormKernelIdeal.main_arg4))
    (a6 : m' ((tR c).loc Cert.NormReferenceIdeal.main_arg6) = m ((tK c).loc Cert.NormKernelIdeal.main_arg6))
    (a7 : m' ((tR c).loc Cert.NormReferenceIdeal.main_arg7) = m ((tK c).loc Cert.NormKernelIdeal.main_arg7))
    (a9 : m' ((tR c).loc Cert.NormReferenceIdeal.main_arg9) = m ((tK c).loc Cert.NormKernelIdeal.main_arg9))
    (a10 : m' ((tR c).loc Cert.NormReferenceIdeal.main_arg10) = m ((tK c).loc Cert.NormKernelIdeal.main_arg10)) :
    Cert.NormReferenceIdeal.Value.REF_v42 (m' ((tR c).loc Cert.NormReferenceIdeal.main_arg0)) (m' ((tR c).loc Cert.NormReferenceIdeal.main_arg1)) (m' ((tR c).loc Cert.NormReferenceIdeal.main_arg2)) (m' ((tR c).loc Cert.NormReferenceIdeal.main_arg4)) (m' ((tR c).loc Cert.NormReferenceIdeal.main_arg6)) (m' ((tR c).loc Cert.NormReferenceIdeal.main_arg7)) (m' ((tR c).loc Cert.NormReferenceIdeal.main_arg9)) (m' ((tR c).loc Cert.NormReferenceIdeal.main_arg10))
      = (Cert.NormKernelIdeal.Gen.dats m 0 c).arrAt 13 (Cert.NormKernelIdeal.cfgs 0).N := by
  rw [a0, a1, a2, a4, a6, a7, a9, a10]
  exact (Cert.NormKernelIdeal.Value.final_13 m c).symm

/-- the reference's term for window 14's array, at the kernel's arguments. -/
theorem out_14 (m : MemK)
    (m' : MemR) (c : Dev Cert.NormKernelIdeal.nD)
    (hpre : Cert.Pre_NormKernelIdeal_finite_norm2 m)
    (a0 : m' ((tR c).loc Cert.NormReferenceIdeal.main_arg0) = m ((tK c).loc Cert.NormKernelIdeal.main_arg0))
    (a1 : m' ((tR c).loc Cert.NormReferenceIdeal.main_arg1) = m ((tK c).loc Cert.NormKernelIdeal.main_arg1))
    (a2 : m' ((tR c).loc Cert.NormReferenceIdeal.main_arg2) = m ((tK c).loc Cert.NormKernelIdeal.main_arg2))
    (a3 : m' ((tR c).loc Cert.NormReferenceIdeal.main_arg3) = m ((tK c).loc Cert.NormKernelIdeal.main_arg3))
    (a4 : m' ((tR c).loc Cert.NormReferenceIdeal.main_arg4) = m ((tK c).loc Cert.NormKernelIdeal.main_arg4))
    (a6 : m' ((tR c).loc Cert.NormReferenceIdeal.main_arg6) = m ((tK c).loc Cert.NormKernelIdeal.main_arg6))
    (a7 : m' ((tR c).loc Cert.NormReferenceIdeal.main_arg7) = m ((tK c).loc Cert.NormKernelIdeal.main_arg7))
    (a8 : m' ((tR c).loc Cert.NormReferenceIdeal.main_arg8) = m ((tK c).loc Cert.NormKernelIdeal.main_arg8))
    (a9 : m' ((tR c).loc Cert.NormReferenceIdeal.main_arg9) = m ((tK c).loc Cert.NormKernelIdeal.main_arg9))
    (a10 : m' ((tR c).loc Cert.NormReferenceIdeal.main_arg10) = m ((tK c).loc Cert.NormKernelIdeal.main_arg10)) :
    Cert.NormReferenceIdeal.Value.REF_v68 (m' ((tR c).loc Cert.NormReferenceIdeal.main_arg0)) (m' ((tR c).loc Cert.NormReferenceIdeal.main_arg1)) (m' ((tR c).loc Cert.NormReferenceIdeal.main_arg2)) (m' ((tR c).loc Cert.NormReferenceIdeal.main_arg3)) (m' ((tR c).loc Cert.NormReferenceIdeal.main_arg4)) (m' ((tR c).loc Cert.NormReferenceIdeal.main_arg6)) (m' ((tR c).loc Cert.NormReferenceIdeal.main_arg7)) (m' ((tR c).loc Cert.NormReferenceIdeal.main_arg8)) (m' ((tR c).loc Cert.NormReferenceIdeal.main_arg9)) (m' ((tR c).loc Cert.NormReferenceIdeal.main_arg10))
      = (Cert.NormKernelIdeal.Gen.dats m 0 c).arrAt 14 (Cert.NormKernelIdeal.cfgs 0).N := by
  rw [a0, a1, a2, a3, a4, a6, a7, a8, a9, a10]
  exact (Cert.NormKernelIdeal.Value.final_14 m c (fin_inp m c hpre) (fin_ct m c hpre)).symm

/-- the reference's term for window 15's array, at the kernel's arguments. -/
theorem out_15 (m : MemK)
    (m' : MemR) (c : Dev Cert.NormKernelIdeal.nD)
    (hpre : Cert.Pre_NormKernelIdeal_finite_norm2 m)
    (a0 : m' ((tR c).loc Cert.NormReferenceIdeal.main_arg0) = m ((tK c).loc Cert.NormKernelIdeal.main_arg0))
    (a1 : m' ((tR c).loc Cert.NormReferenceIdeal.main_arg1) = m ((tK c).loc Cert.NormKernelIdeal.main_arg1))
    (a2 : m' ((tR c).loc Cert.NormReferenceIdeal.main_arg2) = m ((tK c).loc Cert.NormKernelIdeal.main_arg2))
    (a3 : m' ((tR c).loc Cert.NormReferenceIdeal.main_arg3) = m ((tK c).loc Cert.NormKernelIdeal.main_arg3))
    (a4 : m' ((tR c).loc Cert.NormReferenceIdeal.main_arg4) = m ((tK c).loc Cert.NormKernelIdeal.main_arg4))
    (a6 : m' ((tR c).loc Cert.NormReferenceIdeal.main_arg6) = m ((tK c).loc Cert.NormKernelIdeal.main_arg6))
    (a7 : m' ((tR c).loc Cert.NormReferenceIdeal.main_arg7) = m ((tK c).loc Cert.NormKernelIdeal.main_arg7))
    (a8 : m' ((tR c).loc Cert.NormReferenceIdeal.main_arg8) = m ((tK c).loc Cert.NormKernelIdeal.main_arg8))
    (a9 : m' ((tR c).loc Cert.NormReferenceIdeal.main_arg9) = m ((tK c).loc Cert.NormKernelIdeal.main_arg9))
    (a10 : m' ((tR c).loc Cert.NormReferenceIdeal.main_arg10) = m ((tK c).loc Cert.NormKernelIdeal.main_arg10)) :
    Cert.NormReferenceIdeal.Value.REF_v65 (m' ((tR c).loc Cert.NormReferenceIdeal.main_arg0)) (m' ((tR c).loc Cert.NormReferenceIdeal.main_arg1)) (m' ((tR c).loc Cert.NormReferenceIdeal.main_arg2)) (m' ((tR c).loc Cert.NormReferenceIdeal.main_arg3)) (m' ((tR c).loc Cert.NormReferenceIdeal.main_arg4)) (m' ((tR c).loc Cert.NormReferenceIdeal.main_arg6)) (m' ((tR c).loc Cert.NormReferenceIdeal.main_arg7)) (m' ((tR c).loc Cert.NormReferenceIdeal.main_arg8)) (m' ((tR c).loc Cert.NormReferenceIdeal.main_arg9)) (m' ((tR c).loc Cert.NormReferenceIdeal.main_arg10))
      = (Cert.NormKernelIdeal.Gen.dats m 0 c).arrAt 15 (Cert.NormKernelIdeal.cfgs 0).N := by
  rw [a0, a1, a2, a3, a4, a6, a7, a8, a9, a10]
  exact (Cert.NormKernelIdeal.Value.final_15 m c (fin_inp m c hpre) (fin_ct m c hpre)).symm

/-- the idealized kernel computes the derivative of the forward lines. -/
theorem algebraic : Cert.algebraic_NormKernelIdeal_NormReferenceIdeal_pre_finite_norm2 := by
  intro m g m' g' hpre hagree
  refine ⟨fun c => (Cert.NormKernelIdeal.Gen.dats m 0 c).arrAt 10 (Cert.NormKernelIdeal.cfgs 0).N, fun c => (Cert.NormKernelIdeal.Gen.dats m 0 c).arrAt 11 (Cert.NormKernelIdeal.cfgs 0).N, fun c => (Cert.NormKernelIdeal.Gen.dats m 0 c).arrAt 12 (Cert.NormKernelIdeal.cfgs 0).N, fun c => (Cert.NormKernelIdeal.Gen.dats m 0 c).arrAt 13 (Cert.NormKernelIdeal.cfgs 0).N, fun c => (Cert.NormKernelIdeal.Gen.dats m 0 c).arrAt 14 (Cert.NormKernelIdeal.cfgs 0).N, fun c => (Cert.NormKernelIdeal.Gen.dats m 0 c).arrAt 15 (Cert.NormKernelIdeal.cfgs 0).N, ?_, ?_⟩
  · exact (θ_run Cert.NormKernelIdeal.defs _ _).mono
      (fun r h c => ⟨(h.1 c).1 10, (h.1 c).1 11, (h.1 c).1 12, (h.1 c).1 13, (h.1 c).1 14, (h.1 c).1 15, (h.2.1 c).1, (h.2.1 c).2.1, (h.2.1 c).2.2.1, (h.2.1 c).2.2.2.1, (h.2.1 c).2.2.2.2.1, (h.2.1 c).2.2.2.2.2.1, (h.2.1 c).2.2.2.2.2.2.1, (h.2.1 c).2.2.2.2.2.2.2.1, (h.2.1 c).2.2.2.2.2.2.2.2.1, (h.2.1 c).2.2.2.2.2.2.2.2.2.1, (h.2.1 c).2.2.2.2.2.2.2.2.2.2⟩)
      (θ_run_and (Cert.NormKernelIdeal.Gen.run_main m g) (Cert.NormKernelIdeal.Gen.frame m g))
  · exact (θ_run Cert.NormReferenceIdeal.defs _ _).mono
      (fun r h c => ⟨(h c).1.trans ((Cert.NormReferenceIdeal.Value.res_v66 m' c).trans (out_10 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)), (h c).2.1.trans (out_11 m m' c (hagree c).2.2.2.2.2.2.1 (hagree c).2.2.2.2.2.2.2.1 (hagree c).2.2.2.2.2.2.2.2.2.1 (hagree c).2.2.2.2.2.2.2.2.2.2), (h c).2.2.1.trans (out_12 m m' c (hagree c).1 (hagree c).2.1 (hagree c).2.2.1 (hagree c).2.2.2.1 (hagree c).2.2.2.2.2.2.1 (hagree c).2.2.2.2.2.2.2.1 (hagree c).2.2.2.2.2.2.2.2.2.1 (hagree c).2.2.2.2.2.2.2.2.2.2), (h c).2.2.2.1.trans (out_13 m m' c (hagree c).1 (hagree c).2.1 (hagree c).2.2.1 (hagree c).2.2.2.2.1 (hagree c).2.2.2.2.2.2.1 (hagree c).2.2.2.2.2.2.2.1 (hagree c).2.2.2.2.2.2.2.2.2.1 (hagree c).2.2.2.2.2.2.2.2.2.2), (h c).2.2.2.2.1.trans ((Cert.NormReferenceIdeal.Value.res_v68 m' c).trans (out_14 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)), (h c).2.2.2.2.2.1.trans ((Cert.NormReferenceIdeal.Value.res_v65 m' c).trans (out_15 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)),
        (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩)
      (Cert.NormReferenceIdeal.Value.run m' g')

end Cert.Proof.Norm

end
-- ==== Proof.NormBRef.lean ====
/- The reference results of `Cert.NormBReferenceIdeal` as named functions of its arguments. -/
module

public import proofs.«01_k».proof.Proof.Gen.NormBReferenceIdeal.Run
public import proofs.«01_k».proof.Proof.NormKit

@[expose] public section

set_option maxRecDepth 16384

noncomputable section

namespace Cert.NormBReferenceIdeal.Value

open Cert.NormBReferenceIdeal Cert.NormBReferenceIdeal.Gen Idealize.ShloMosaic Idealize.ShloMosaic.TcCoe Idealize.SL.Sem Idealize.ShloMosaic.StableHlo

/-- the array that is normed. -/
def inp (a0 : FVec Ideal S2x4096x1024 .f32) (a1 : FVec Ideal S2x4096x1024 .bf16) (a2 : FVec Ideal S2x1x1024 .f32) : FVec Ideal S2x4096x1024 .f32 :=
  addf a0 (mulf (broadcastInDim S2x4096x1024 ![0, 1, 2] bcast_S2x1x1024_S2x4096x1024_0_1_2 a2) (extf .f32 a1 bitsLt_bf16_f32))

/-- the cotangent of the modulated array. -/
def modCt (a6 : FVec Ideal S1024x3072 .f32) (a8 : FVec Ideal S2x4096x1024 .bf16) (a9 : FVec Ideal S2x4096x1024 .bf16) (a10 : FVec Ideal S2x4096x1024 .bf16) : FVec Ideal S2x4096x1024 .f32 :=
  Host.dotGeneral (φ₁ := .f32) dot_S2x4096x3072_S1024x3072_S2x4096x1024_2_1_01_0_n_n none (concatenate S2x4096x3072 2 [⟨S2x4096x1024, ((extf .f32 a8 bitsLt_bf16_f32) : (⟨S2x4096x1024, .f32⟩ : BufTy).Contents (Elt Ideal))⟩, ⟨S2x4096x1024, ((extf .f32 a9 bitsLt_bf16_f32) : (⟨S2x4096x1024, .f32⟩ : BufTy).Contents (Elt Ideal))⟩, ⟨S2x4096x1024, ((extf .f32 a10 bitsLt_bf16_f32) : (⟨S2x4096x1024, .f32⟩ : BufTy).Contents (Elt Ideal))⟩] concatenates_S2x4096x1024_S2x4096x1024_S2x4096x1024_S2x4096x3072_d2 : (⟨S2x4096x3072, .f32⟩ : BufTy).Contents (Elt Ideal)) a6

/-- What the reference leaves in `main_v68`. -/
def REF_v68 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x3072 .f32) (a7 : FVec Ideal S2x4096x1024 .f32) (a8 : FVec Ideal S2x4096x1024 .bf16) (a9 : FVec Ideal S2x4096x1024 .bf16) (a10 : FVec Ideal S2x4096x1024 .bf16) : FVec Ideal S8192x1024 .f32 :=
  NormKit.rowsCt (inp a0 a1 a2) (modCt a6 a8 a9 a10) a3 a4 a7

theorem res_v68 (m : (ℓ : Loc nD τ sig) → Buf (Elt Ideal) ℓ) (c : Dev nD) :
    res_main_v68 m c = REF_v68 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v68; rfl

/-- What the reference leaves in `main_v36`. -/
def REF_v36 (a6 : FVec Ideal S1024x3072 .f32) (a8 : FVec Ideal S2x4096x1024 .bf16) (a9 : FVec Ideal S2x4096x1024 .bf16) (a10 : FVec Ideal S2x4096x1024 .bf16) : FVec Ideal S2x1x1024 .f32 :=
  NormKit.shiftCt (modCt a6 a8 a9 a10)

/-- What the reference leaves in `main_v39`. -/
def REF_v39 (a0 : FVec Ideal S2x4096x1024 .f32) (a1 : FVec Ideal S2x4096x1024 .bf16) (a2 : FVec Ideal S2x1x1024 .f32) (a3 : FVec Ideal S1024 .f32) (a6 : FVec Ideal S1024x3072 .f32) (a8 : FVec Ideal S2x4096x1024 .bf16) (a9 : FVec Ideal S2x4096x1024 .bf16) (a10 : FVec Ideal S2x4096x1024 .bf16) : FVec Ideal S2x1x1024 .f32 :=
  NormKit.scaleCt (inp a0 a1 a2) (modCt a6 a8 a9 a10) a3

/-- What the reference leaves in `main_v44`. -/
def REF_v44 (a0 : FVec Ideal S2x4096x1024 .f32) (a1 : FVec Ideal S2x4096x1024 .bf16) (a2 : FVec Ideal S2x1x1024 .f32) (a4 : FVec Ideal S2x1x1024 .f32) (a6 : FVec Ideal S1024x3072 .f32) (a8 : FVec Ideal S2x4096x1024 .bf16) (a9 : FVec Ideal S2x4096x1024 .bf16) (a10 : FVec Ideal S2x4096x1024 .bf16) : FVec Ideal S2x1x1024 .f32 :=
  NormKit.gainCt (inp a0 a1 a2) (modCt a6 a8 a9 a10) a4

/-- What the reference leaves in `main_v70`. -/
def REF_v70 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x3072 .f32) (a7 : FVec Ideal S2x4096x1024 .f32) (a8 : FVec Ideal S2x4096x1024 .bf16) (a9 : FVec Ideal S2x4096x1024 .bf16) (a10 : FVec Ideal S2x4096x1024 .bf16) : FVec Ideal S8192x1024 .bf16 :=
  NormKit.gatedCt (inp a0 a1 a2) (modCt a6 a8 a9 a10) a3 a4 a7 a2

theorem res_v70 (m : (ℓ : Loc nD τ sig) → Buf (Elt Ideal) ℓ) (c : Dev nD) :
    res_main_v70 m c = REF_v70 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v70; rfl

/-- What the reference leaves in `main_v67`. -/
def REF_v67 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x3072 .f32) (a7 : FVec Ideal S2x4096x1024 .f32) (a8 : FVec Ideal S2x4096x1024 .bf16) (a9 : FVec Ideal S2x4096x1024 .bf16) (a10 : FVec Ideal S2x4096x1024 .bf16) : FVec Ideal S2x1x1024 .f32 :=
  NormKit.gateCt (inp a0 a1 a2) (modCt a6 a8 a9 a10) a3 a4 a7 a1

theorem res_v67 (m : (ℓ : Loc nD τ sig) → Buf (Elt Ideal) ℓ) (c : Dev nD) :
    res_main_v67 m c = REF_v67 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v67; rfl

end Cert.NormBReferenceIdeal.Value

end
-- ==== Proof.NormBValue.lean ====
/- What `NormBKernelIdeal` leaves in its results, against the reference's terms. -/
module

public import proofs.«01_k».proof.Proof.Gen.NormBKernelIdeal.Value
public import proofs.«01_k».proof.Proof.NormBRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.NormBKernelIdeal.Value

open Cert.NormBKernelIdeal Cert.NormBKernelIdeal.Gen Cert.NormBReferenceIdeal.Value

variable (m : (ℓ : Loc nD τ sig) → Buf (Elt Ideal) ℓ)

/-- every window's block index at every grid point (decided). -/
theorem idx_val : ∀ t : Fin cfg0.N, win0_0.index t = ![(t.val / 8) * 8 + (t.val % 8), 0]
    ∧ win0_1.index t = ![0, 0]
    ∧ win0_2.index t = ![(t.val / 8) * 8 + (t.val % 8), 0]
    ∧ win0_3.index t = ![0, 0]
    ∧ win0_4.index t = ![(t.val / 8) * 8 + (t.val % 8), 0]
    ∧ win0_5.index t = ![0, 0]
    ∧ win0_6.index t = ![(t.val / 8) * 8 + (t.val % 8), 0]
    ∧ win0_7.index t = ![(t.val / 8) * 8 + (t.val % 8), 0]
    ∧ win0_8.index t = ![0, 0]
    ∧ win0_9.index t = ![t.val / 8, 0, 0]
    ∧ win0_10.index t = ![(t.val / 8) * 8 + (t.val % 8), 0]
    ∧ win0_11.index t = ![t.val / 8, 0, 0]
    ∧ win0_12.index t = ![(t.val / 8) * 8 + (t.val % 8), 0]
    ∧ win0_13.index t = ![t.val / 8, 0, 0]
    ∧ win0_14.index t = ![t.val / 8, 0, 0]
    ∧ win0_15.index t = ![t.val / 8, 0, 0]
    ∧ win0_16.index t = ![(t.val / 8) * 8 + (t.val % 8), 0]
    ∧ win0_17.index t = ![t.val / 8, 0, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

theorem blk_0 (c : Dev nD) (t : Fin cfg0.N) (a : Fin 512) (k : Fin 1024) :
    iblk m c 0 t (ix2 a k) = m ((c : Thread nD τ).loc main_arg8) (ix3 (smp t) (tok t a) k) := by
  blk_simp [iblk, idx_val t]; entry_read; pointwise; blk_ext [idx_val t]

theorem blk_1 (c : Dev nD) (t : Fin cfg0.N) (k : Fin 1024) (b : Fin 1024) :
    iblk m c 1 t (ix2 k b) = m ((c : Thread nD τ).loc main_arg6) (ix2 b (⟨0 + k.val, by omega⟩ : Fin 3072)) := by
  blk_simp [iblk, idx_val t]; entry_read; pointwise; blk_ext [idx_val t]

theorem blk_2 (c : Dev nD) (t : Fin cfg0.N) (a : Fin 512) (k : Fin 1024) :
    iblk m c 2 t (ix2 a k) = m ((c : Thread nD τ).loc main_arg9) (ix3 (smp t) (tok t a) k) := by
  blk_simp [iblk, idx_val t]; entry_read; pointwise; blk_ext [idx_val t]

theorem blk_3 (c : Dev nD) (t : Fin cfg0.N) (k : Fin 1024) (b : Fin 1024) :
    iblk m c 3 t (ix2 k b) = m ((c : Thread nD τ).loc main_arg6) (ix2 b (⟨1024 + k.val, by omega⟩ : Fin 3072)) := by
  blk_simp [iblk, idx_val t]; entry_read; pointwise; blk_ext [idx_val t]

theorem blk_4 (c : Dev nD) (t : Fin cfg0.N) (a : Fin 512) (k : Fin 1024) :
    iblk m c 4 t (ix2 a k) = m ((c : Thread nD τ).loc main_arg10) (ix3 (smp t) (tok t a) k) := by
  blk_simp [iblk, idx_val t]; entry_read; pointwise; blk_ext [idx_val t]

theorem blk_5 (c : Dev nD) (t : Fin cfg0.N) (k : Fin 1024) (b : Fin 1024) :
    iblk m c 5 t (ix2 k b) = m ((c : Thread nD τ).loc main_arg6) (ix2 b (⟨2048 + k.val, by omega⟩ : Fin 3072)) := by
  blk_simp [iblk, idx_val t]; entry_read; pointwise; blk_ext [idx_val t]

theorem blk_7 (c : Dev nD) (t : Fin cfg0.N) (a : Fin 512) (k : Fin 1024) :
    iblk m c 7 t (ix2 a k) = m ((c : Thread nD τ).loc main_arg7) (ix3 (smp t) (tok t a) k) := by
  blk_simp [iblk, idx_val t]; entry_read; pointwise; blk_ext [idx_val t]

theorem blk_8 (c : Dev nD) (t : Fin cfg0.N) (b : Fin 1024) :
    iblk m c 8 t (ix2 0 b) = m ((c : Thread nD τ).loc main_arg3) (ix1 b) := by
  blk_simp [iblk, idx_val t]; entry_read; pointwise; blk_ext [idx_val t]

theorem blk_9 (c : Dev nD) (t : Fin cfg0.N) (b : Fin 1024) :
    iblk m c 9 t (ix3 0 0 b) = m ((c : Thread nD τ).loc main_arg4) (ix3 (smp t) 0 b) := by
  blk_simp [iblk, V, idx_val t]; blk_ext [idx_val t]

theorem blk_10 (c : Dev nD) (t : Fin cfg0.N) (a : Fin 512) (k : Fin 1024) :
    iblk m c 10 t (ix2 a k) = m ((c : Thread nD τ).loc main_arg1) (ix3 (smp t) (tok t a) k) := by
  blk_simp [iblk, idx_val t]; entry_read; pointwise; blk_ext [idx_val t]

theorem blk_11 (c : Dev nD) (t : Fin cfg0.N) (b : Fin 1024) :
    iblk m c 11 t (ix3 0 0 b) = m ((c : Thread nD τ).loc main_arg2) (ix3 (smp t) 0 b) := by
  blk_simp [iblk, V, idx_val t]; blk_ext [idx_val t]

/-- the host's rows, read through window 6. -/
theorem blk_6_row (c : Dev nD) (t : Fin cfg0.N) (a : Fin 512) (b : Fin 1024) :
    iblk m c 6 t (ix2 a b) = V m c main_v12 (ix2 (⟨t.val * 512 + a.val, by have := lt_N t; omega⟩ : Fin 8192) b) := by
  blk_simp [iblk, idx_val t]; blk_ext [idx_val t]

theorem blk_6 (c : Dev nD) (t : Fin cfg0.N) (a : Fin 512) (b : Fin 1024) :
    iblk m c 6 t (ix2 a b) = inp (m ((c : Thread nD τ).loc main_arg0)) (m ((c : Thread nD τ).loc main_arg1)) (m ((c : Thread nD τ).loc main_arg2)) (ix3 (smp t) (tok t a) b) := by
  have h1 : (⟨(t.val * 512 + a.val) / 4096, by have := lt_N t; omega⟩ : Fin 2) = smp t := Fin.ext (by dsimp only; omega)
  have h2 : (⟨(t.val * 512 + a.val) % 4096, by omega⟩ : Fin 4096) = tok t a := Fin.ext (by dsimp only; omega)
  rw [blk_6_row, ← h1, ← h2]
  entry_read; pointwise [inp]

theorem emb_12 (t : Fin cfg0.N) (a : Fin 512) (b : Fin 1024) :
    ((cfg0.win 12).blk t).view.emb (ix2 a b) = (ix2 (⟨t.val * 512 + a.val, by have := lt_N t; omega⟩ : Fin 8192) b : S8192x1024.Idx) := by
  blk_ext [idx_val t]

theorem emb_16 (t : Fin cfg0.N) (a : Fin 512) (b : Fin 1024) :
    ((cfg0.win 16).blk t).view.emb (ix2 a b) = (ix2 (⟨t.val * 512 + a.val, by have := lt_N t; omega⟩ : Fin 8192) b : S8192x1024.Idx) := by
  blk_ext [idx_val t]

theorem emb_13 (t : Fin cfg0.N) (b : Fin 1024) :
    ((cfg0.win 13).blk t).view.emb (ix3 0 0 b) = (ix3 (smp t) 0 b : S2x1x1024.Idx) := by
  blk_ext [idx_val t]

theorem emb_14 (t : Fin cfg0.N) (b : Fin 1024) :
    ((cfg0.win 14).blk t).view.emb (ix3 0 0 b) = (ix3 (smp t) 0 b : S2x1x1024.Idx) := by
  blk_ext [idx_val t]

theorem emb_15 (t : Fin cfg0.N) (b : Fin 1024) :
    ((cfg0.win 15).blk t).view.emb (ix3 0 0 b) = (ix3 (smp t) 0 b : S2x1x1024.Idx) := by
  blk_ext [idx_val t]

theorem emb_17 (t : Fin cfg0.N) (b : Fin 1024) :
    ((cfg0.win 17).blk t).view.emb (ix3 0 0 b) = (ix3 (smp t) 0 b : S2x1x1024.Idx) := by
  blk_ext [idx_val t]

theorem row_smp (t : Fin cfg0.N) (a : Fin 512) (h : (t.val * 512 + a.val) / 4096 < 2) : (⟨(t.val * 512 + a.val) / 4096, h⟩ : Fin 2) = smp t :=
  Fin.ext (by dsimp only; omega)

theorem row_tok (t : Fin cfg0.N) (a : Fin 512) (h : (t.val * 512 + a.val) % 4096 < 4096) : (⟨(t.val * 512 + a.val) % 4096, h⟩ : Fin 4096) = tok t a :=
  Fin.ext (by dsimp only; omega)

/-- a sample's eight grid points, a sum over a block's rows at each, are one sum over its tokens. -/
theorem sum_run (t : Fin cfg0.N) (ht : t.val % 8 = 7) (h : ∀ s : Fin 8, 8 * (t.val / 8) + s.val < cfg0.N) (f : Fin 2 → Fin 4096 → EReal) :
    ∑ s : Fin 8, ∑ a : Fin 512, f (smp ⟨8 * (t.val / 8) + s.val, h s⟩) (tok ⟨8 * (t.val / 8) + s.val, h s⟩ a) = ∑ r, f (smp t) r := by
  refine Fin.sum_mul_add_congr fun s k hl => ?_
  have h1 : smp ⟨8 * (t.val / 8) + s.val, h s⟩ = smp t := Fin.ext (by dsimp only; omega)
  have h2 : tok ⟨8 * (t.val / 8) + s.val, h s⟩ k = ⟨s.val * 512 + k.val, hl⟩ := Fin.ext (by dsimp only; omega)
  rw [h1, h2]

/-- the modulated block's cotangent at a grid point. -/
def dh (c : Dev nD) (t : Fin cfg0.N) : FVec Ideal S512x1024 .f32 :=
  k0_pay5 (iblk m c 0 t) (iblk m c 1 t) (iblk m c 2 t) (iblk m c 3 t) (iblk m c 4 t) (iblk m c 5 t)

/-- a sum over three joined parts, part by part. -/
theorem sum_parts (f g h : Fin 1024 → EReal) (w : Fin 3072 → EReal) :
    ∑ x : Fin 3072, (if h1 : x.val < 1024 then f ⟨x.val, h1⟩ else if h2 : x.val - 1024 < 1024 then g ⟨x.val - 1024, h2⟩
        else h ⟨x.val - 1024 - 1024, by omega⟩) * w x
      = ∑ k : Fin 1024, f k * w ⟨0 + k.val, by omega⟩ + ∑ k : Fin 1024, g k * w ⟨1024 + k.val, by omega⟩
        + ∑ k : Fin 1024, h k * w ⟨2048 + k.val, by omega⟩ := by
  refine (Fin.sum_univ_add (a := 2048) (b := 1024) _).trans (congrArg₂ (· + ·)
    ((Fin.sum_univ_add (a := 1024) (b := 1024) _).trans (congrArg₂ (· + ·) ?_ ?_)) ?_) <;>
    refine Finset.sum_congr rfl fun k _ => congrArg₂ (· * ·) ?_ (congrArg w (Fin.ext (by simp <;> omega)))
  · rw [dif_pos (show (Fin.castAdd 1024 (Fin.castAdd 1024 k)).val < 1024 from k.isLt)]; rfl
  · rw [dif_neg (by simp), dif_pos (by simp)]
    exact congrArg g (Fin.ext (by simp))
  · have e : (Fin.natAdd 2048 k).val = 2048 + k.val := rfl
    rw [dif_neg (by rw [e]; omega), dif_neg (by rw [e]; omega)]
    exact congrArg h (Fin.ext (by dsimp only; rw [e]; omega))

theorem modCt_at (w : FVec Ideal S1024x3072 .f32) (p q r : FVec Ideal S2x4096x1024 .bf16) (s : Fin 2) (t : Fin 4096) (b : Fin 1024) :
    modCt w p q r (ix3 s t b) = ∑ k : Fin 1024, p (ix3 s t k) * w (ix2 b (⟨0 + k.val, by omega⟩ : Fin 3072))
      + ∑ k : Fin 1024, q (ix3 s t k) * w (ix2 b (⟨1024 + k.val, by omega⟩ : Fin 3072))
      + ∑ k : Fin 1024, r (ix3 s t k) * w (ix2 b (⟨2048 + k.val, by omega⟩ : Fin 3072)) := by
  pointwise [modCt]
  exact sum_parts (fun k => p (ix3 s t k)) (fun k => q (ix3 s t k)) (fun k => r (ix3 s t k)) fun x => w (ix2 b x)

theorem pay_dh (u : Vec Ideal S512x1024 .bf16) (v : Vec Ideal S1024x1024 .bf16) (u' : Vec Ideal S512x1024 .bf16) (v' : Vec Ideal S1024x1024 .bf16)
    (u'' : Vec Ideal S512x1024 .bf16) (v'' : Vec Ideal S1024x1024 .bf16) (r : Fin 512) (b : Fin 1024) :
    k0_pay5 (F := Ideal) u v u' v' u'' v'' (ix2 r b)
      = ∑ k, u (ix2 r k) * v (ix2 k b) + ∑ k, u' (ix2 r k) * v' (ix2 k b) + ∑ k, u'' (ix2 r k) * v'' (ix2 k b) := by
  pointwise [k0_pay5]

theorem dh_at (c : Dev nD) (t : Fin cfg0.N) (a : Fin 512) (b : Fin 1024) :
    dh m c t (ix2 a b) = modCt (m ((c : Thread nD τ).loc main_arg6)) (m ((c : Thread nD τ).loc main_arg8)) (m ((c : Thread nD τ).loc main_arg9)) (m ((c : Thread nD τ).loc main_arg10)) (ix3 (smp t) (tok t a) b) := by
  refine (pay_dh _ _ _ _ _ _ a b).trans ?_
  rw [modCt_at]
  simp only [blk_0 m c t, blk_1 m c t, blk_2 m c t, blk_3 m c t, blk_4 m c t, blk_5 m c t]

/-- the normed row, at coordinates. -/
theorem pay_hat (x : FVec Ideal S512x1024 .f32) (a : Fin 512) (j : Fin 1024) :
    k0_pay10 (k0_pay6 x) (k0_pay9 x) (ix2 a j) = x (ix2 a j) * NormKit.normRow fun k => x (ix2 a k) := by
  pointwise [k0_pay10, k0_pay6, k0_pay9, k0_pay8]; rfl

/-- the row derivative, at coordinates. -/
theorem pay_rows (D : FVec Ideal S512x1024 .f32) (x dr : FVec Ideal S512x1024 .f32) (g : FVec Ideal S1x1024 .f32) (sc : FVec Ideal S1x1x1024 .f32) (a : Fin 512) (b : Fin 1024) :
    k0_pay16 (k0_pay7 g) (k0_pay8 x) (k0_pay10 (k0_pay6 x) (k0_pay9 x)) (k0_pay13 D sc) dr (ix2 a b)
      = NormKit.rowFused (dr (ix2 a b)) (fun k => x (ix2 a k)) (fun k => D (ix2 a k) * (1 + sc (ix3 0 0 k)) * g (ix2 0 k)) b := by
  pointwise [k0_pay16, k0_pay13, k0_pay10, k0_pay9, k0_pay8, k0_pay7, k0_pay6]; rfl

theorem zero_shift (y : S1x1x1024.Idx) : k0_pay1 (F := Ideal) y = 0 := by
  pointwise! [k0_pay1]

theorem pay_shift (D : FVec Ideal S512x1024 .f32)  (acc : FVec Ideal S1x1x1024 .f32) (y : S1x1x1024.Idx) :
    k0_pay11 D acc y = acc y + ∑ a : Fin 512, D (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  pointwise [k0_pay11]

theorem zero_scale (y : S1x1x1024.Idx) : k0_pay2 (F := Ideal) y = 0 := by
  pointwise! [k0_pay2]

theorem pay_scale (D : FVec Ideal S512x1024 .f32) (x : FVec Ideal S512x1024 .f32) (g : FVec Ideal S1x1024 .f32) (acc : FVec Ideal S1x1x1024 .f32) (y : S1x1x1024.Idx) :
    k0_pay12 D (k0_pay6 x) (k0_pay7 g) (k0_pay9 x) acc y = acc y + ∑ a : Fin 512, D (ix2 a (y 2)) * (k0_pay10 (k0_pay6 x) (k0_pay9 x) (ix2 a (y 2)) * g (ix2 0 (y 2))) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  simp only [k0_pay12]
  generalize k0_pay10 (F := Ideal) (k0_pay6 x) (k0_pay9 x) = h
  pointwise [k0_pay7]

theorem zero_gain (y : S1x1x1024.Idx) : k0_pay3 (F := Ideal) y = 0 := by
  pointwise! [k0_pay3]

theorem pay_gain (D : FVec Ideal S512x1024 .f32) (x : FVec Ideal S512x1024 .f32) (sc : FVec Ideal S1x1x1024 .f32) (acc : FVec Ideal S1x1x1024 .f32) (y : S1x1x1024.Idx) :
    k0_pay15 (k0_pay14 D (k0_pay6 x) (k0_pay9 x) sc acc) y = acc y + ∑ a : Fin 512, D (ix2 a (y 2)) * (1 + sc (ix3 0 0 (y 2))) * k0_pay10 (k0_pay6 x) (k0_pay9 x) (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  simp only [k0_pay14]
  generalize k0_pay10 (F := Ideal) (k0_pay6 x) (k0_pay9 x) = h
  pointwise [k0_pay15, k0_pay13]

theorem zero_gate (y : S1x1x1024.Idx) : k0_pay4 (F := Ideal) y = 0 := by
  pointwise! [k0_pay4]

theorem pay_gate (D : FVec Ideal S512x1024 .f32) (x dr : FVec Ideal S512x1024 .f32) (g : FVec Ideal S1x1024 .f32) (sc : FVec Ideal S1x1x1024 .f32) (yy : FVec Ideal S512x1024 .bf16) (acc : FVec Ideal S1x1x1024 .f32) (y : S1x1x1024.Idx) :
    k0_pay18 (k0_pay7 g) (k0_pay8 x) (k0_pay10 (k0_pay6 x) (k0_pay9 x)) (k0_pay13 D sc) dr acc yy y = acc y + ∑ a : Fin 512, k0_pay16 (k0_pay7 g) (k0_pay8 x) (k0_pay10 (k0_pay6 x) (k0_pay9 x)) (k0_pay13 D sc) dr (ix2 a (y 2)) * yy (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  simp only [k0_pay18]
  generalize k0_pay16 (F := Ideal) (k0_pay7 g) (k0_pay8 x) (k0_pay10 (k0_pay6 x) (k0_pay9 x)) (k0_pay13 D sc) dr = o
  pointwise

/-- the gated rows, at coordinates. -/
theorem pay_gated (D : FVec Ideal S512x1024 .f32) (x dr : FVec Ideal S512x1024 .f32) (g : FVec Ideal S1x1024 .f32) (sc w : FVec Ideal S1x1x1024 .f32) (a : Fin 512) (b : Fin 1024) :
    k0_pay17 (k0_pay7 g) (k0_pay8 x) (k0_pay10 (k0_pay6 x) (k0_pay9 x)) (k0_pay13 D sc) dr w (ix2 a b) = k0_pay16 (k0_pay7 g) (k0_pay8 x) (k0_pay10 (k0_pay6 x) (k0_pay9 x)) (k0_pay13 D sc) dr (ix2 a b) * w (ix3 0 0 b) := by
  simp only [k0_pay17]
  generalize k0_pay16 (F := Ideal) (k0_pay7 g) (k0_pay8 x) (k0_pay10 (k0_pay6 x) (k0_pay9 x)) (k0_pay13 D sc) dr = o
  pointwise

/-- a point's normed rows. -/
theorem hat_at (c : Dev nD) (t : Fin cfg0.N) (a : Fin 512) (j : Fin 1024) :
    k0_pay10 (k0_pay6 (iblk m c 6 t)) (k0_pay9 (iblk m c 6 t)) (ix2 a j)
      = inp (m ((c : Thread nD τ).loc main_arg0)) (m ((c : Thread nD τ).loc main_arg1)) (m ((c : Thread nD τ).loc main_arg2)) (ix3 (smp t) (tok t a) j) * NormKit.normRow fun k => inp (m ((c : Thread nD τ).loc main_arg0)) (m ((c : Thread nD τ).loc main_arg1)) (m ((c : Thread nD τ).loc main_arg2)) (ix3 (smp t) (tok t a) k) := by
  rw [pay_hat]
  simp only [blk_6 m c t]

/-- a point's rows, against the reference there. -/
theorem rows_at (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) (t : Fin cfg0.N) (a : Fin 512) (b : Fin 1024) :
    k0_pay16 (k0_pay7 (iblk m c 8 t)) (k0_pay8 (iblk m c 6 t)) (k0_pay10 (k0_pay6 (iblk m c 6 t)) (k0_pay9 (iblk m c 6 t))) (k0_pay13 (dh m c t) (iblk m c 9 t)) (iblk m c 7 t) (ix2 a b)
      = NormKit.inputCt (inp (m ((c : Thread nD τ).loc main_arg0)) (m ((c : Thread nD τ).loc main_arg1)) (m ((c : Thread nD τ).loc main_arg2))) (modCt (m ((c : Thread nD τ).loc main_arg6)) (m ((c : Thread nD τ).loc main_arg8)) (m ((c : Thread nD τ).loc main_arg9)) (m ((c : Thread nD τ).loc main_arg10))) (m ((c : Thread nD τ).loc main_arg3)) (m ((c : Thread nD τ).loc main_arg4)) (m ((c : Thread nD τ).loc main_arg7)) (ix3 (smp t) (tok t a) b) := by
  refine (pay_rows (dh m c t) (iblk m c 6 t) (iblk m c 7 t) (iblk m c 8 t) (iblk m c 9 t) a b).trans ?_
  rw [NormKit.inputCt_at, ← NormKit.rowFused_eq _ _ _ (fun k => hx _) (fun k => ht _ _ _)]
  simp only [blk_6 m c t, blk_7 m c t, blk_8 m c t, blk_9 m c t, dh_at m c t]

/-- the array of window 12 after the run. -/
theorem final_12 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) :
    (dats m 0 c).arrAt 12 (cfgs 0).N
    = REF_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  obtain ⟨a, b, rfl⟩ : ∃ (a : Fin 512) (b : Fin 1024), y = ix2 a b := ⟨y 0, y 1, eq_ix2 y⟩
  have key : k0_pay16 (k0_pay7 (iblk m c 8 t)) (k0_pay8 (iblk m c 6 t)) (k0_pay10 (k0_pay6 (iblk m c 6 t)) (k0_pay9 (iblk m c 6 t))) (k0_pay13 (dh m c t) (iblk m c 9 t)) (iblk m c 7 t) (ix2 a b)
      = REF_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨t.val * 512 + a.val, by have := lt_N t; omega⟩ : Fin 8192) b) := by
    refine (rows_at m c hx ht t a b).trans (Eq.trans ?_ (NormKit.rowsCt_at _ _ _ _ _ _ _).symm)
    dsimp only
    rw [row_smp, row_tok]
  blk_simp; rw [after0_12, emb_12]
  by_cases h : t.val % 8 = 0
  · rw [outsAt0_A m c t h]; dsimp only; frame_out; exact key
  · rw [outsAt0_B m c t h]; dsimp only; frame_out; exact key

/-- the array of window 16 after the run. -/
theorem final_16 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) :
    (dats m 0 c).arrAt 16 (cfgs 0).N
    = REF_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 16 _ (by decide +kernel) fun t hf y => ?_
  obtain ⟨a, b, rfl⟩ : ∃ (a : Fin 512) (b : Fin 1024), y = ix2 a b := ⟨y 0, y 1, eq_ix2 y⟩
  have key : k0_pay17 (k0_pay7 (iblk m c 8 t)) (k0_pay8 (iblk m c 6 t)) (k0_pay10 (k0_pay6 (iblk m c 6 t)) (k0_pay9 (iblk m c 6 t))) (k0_pay13 (dh m c t) (iblk m c 9 t)) (iblk m c 7 t) (iblk m c 11 t) (ix2 a b)
      = REF_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨t.val * 512 + a.val, by have := lt_N t; omega⟩ : Fin 8192) b) := by
    refine (pay_gated (dh m c t) (iblk m c 6 t) (iblk m c 7 t) (iblk m c 8 t) (iblk m c 9 t) _ a b).trans (Eq.trans ?_ (NormKit.gatedCt_at _ _ _ _ _ _ _ _).symm)
    dsimp only
    rw [row_smp, row_tok]
    exact (Ideal.mul_congr (rows_at m c hx ht t a b) (blk_11 m c t b)).trans (mul_comm _ _)
  blk_simp; rw [after0_16, emb_16]
  by_cases h : t.val % 8 = 0
  · rw [outsAt0_A m c t h]; dsimp only; frame_out; exact key
  · rw [outsAt0_B m c t h]; dsimp only; frame_out; exact key

/-- what a point adds to window 13. -/
def part_13 (c : Dev nD) (t : Fin cfg0.N) (y : S1x1x1024.Idx) : EReal :=
  ∑ a : Fin 512, dh m c t (ix2 a (y 2))

/-- the array of window 13 after the run. -/
theorem final_13 (c : Dev nD)  :
    (dats m 0 c).arrAt 13 (cfgs 0).N
    = REF_v36 (m ((c : Thread nD τ).loc main_arg6)) (m ((c : Thread nD τ).loc main_arg8)) (m ((c : Thread nD τ).loc main_arg9)) (m ((c : Thread nD τ).loc main_arg10)) := by
  refine (dats m 0 c).arrAt_eq_of_covers 13 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_13 t).mp hf
  have key : ∑ s : Fin 8, part_13 m c ⟨8 * (t.val / 8) + s.val, Pipeline.run_point_lt_of_flush t hr s⟩ (ix3 0 0 j)
      = REF_v36 (m ((c : Thread nD τ).loc main_arg6)) (m ((c : Thread nD τ).loc main_arg8)) (m ((c : Thread nD τ).loc main_arg9)) (m ((c : Thread nD τ).loc main_arg10)) (ix3 (smp t) 0 j) := by
    refine Eq.trans ?_ ((sum_run t hr (fun s => Pipeline.run_point_lt_of_flush t hr s)
      fun b r => modCt (m ((c : Thread nD τ).loc main_arg6)) (m ((c : Thread nD τ).loc main_arg8)) (m ((c : Thread nD τ).loc main_arg9)) (m ((c : Thread nD τ).loc main_arg10)) (ix3 b r j)).trans (NormKit.shiftCt_at (modCt (m ((c : Thread nD τ).loc main_arg6)) (m ((c : Thread nD τ).loc main_arg8)) (m ((c : Thread nD τ).loc main_arg9)) (m ((c : Thread nD τ).loc main_arg10))) (smp t) j).symm)
    refine Finset.sum_congr rfl fun s _ => Finset.sum_congr rfl fun a _ => ?_
    exact dh_at m c _ a j
  blk_simp
  rw [after0_13, emb_13, Pipeline.eq_sum_fin_of_reset_step_apply_of_flush (fun n h => (outsAt0 m c n h).2.1) 8 (fun _ => 0) (part_13 m c)
    (fun t h j => by rw [outsAt0_A m c t h]; dsimp only; frame_out; exact (pay_shift (dh m c t) _ j).trans (congrArg (· + _) (zero_shift j)))
    (fun t h j => by rw [outsAt0_B m c t h]; dsimp only; frame_out; exact pay_shift (dh m c t) _ j)
    t hr _, zero_add]
  exact key

/-- what a point adds to window 14. -/
def part_14 (c : Dev nD) (t : Fin cfg0.N) (y : S1x1x1024.Idx) : EReal :=
  ∑ a : Fin 512, dh m c t (ix2 a (y 2)) * (k0_pay10 (k0_pay6 (iblk m c 6 t)) (k0_pay9 (iblk m c 6 t)) (ix2 a (y 2)) * (iblk m c 8 t) (ix2 0 (y 2)))

/-- the array of window 14 after the run. -/
theorem final_14 (c : Dev nD)  :
    (dats m 0 c).arrAt 14 (cfgs 0).N
    = REF_v39 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) (m ((c : Thread nD τ).loc main_arg9)) (m ((c : Thread nD τ).loc main_arg10)) := by
  refine (dats m 0 c).arrAt_eq_of_covers 14 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_14 t).mp hf
  have key : ∑ s : Fin 8, part_14 m c ⟨8 * (t.val / 8) + s.val, Pipeline.run_point_lt_of_flush t hr s⟩ (ix3 0 0 j)
      = REF_v39 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) (m ((c : Thread nD τ).loc main_arg9)) (m ((c : Thread nD τ).loc main_arg10)) (ix3 (smp t) 0 j) := by
    refine Eq.trans ?_ ((sum_run t hr (fun s => Pipeline.run_point_lt_of_flush t hr s)
      fun b r => inp (m ((c : Thread nD τ).loc main_arg0)) (m ((c : Thread nD τ).loc main_arg1)) (m ((c : Thread nD τ).loc main_arg2)) (ix3 b r j) * NormKit.normRow (fun k => inp (m ((c : Thread nD τ).loc main_arg0)) (m ((c : Thread nD τ).loc main_arg1)) (m ((c : Thread nD τ).loc main_arg2)) (ix3 b r k)) * (m ((c : Thread nD τ).loc main_arg3)) (ix1 j) * modCt (m ((c : Thread nD τ).loc main_arg6)) (m ((c : Thread nD τ).loc main_arg8)) (m ((c : Thread nD τ).loc main_arg9)) (m ((c : Thread nD τ).loc main_arg10)) (ix3 b r j)).trans (NormKit.scaleCt_at (inp (m ((c : Thread nD τ).loc main_arg0)) (m ((c : Thread nD τ).loc main_arg1)) (m ((c : Thread nD τ).loc main_arg2))) (modCt (m ((c : Thread nD τ).loc main_arg6)) (m ((c : Thread nD τ).loc main_arg8)) (m ((c : Thread nD τ).loc main_arg9)) (m ((c : Thread nD τ).loc main_arg10))) (m ((c : Thread nD τ).loc main_arg3)) (smp t) j).symm)
    refine Finset.sum_congr rfl fun s _ => Finset.sum_congr rfl fun a _ => ?_
    exact (mul_comm _ _).trans (Ideal.mul_congr (Ideal.mul_congr (hat_at m c _ a j) (blk_8 m c _ j)) (dh_at m c _ a j))
  blk_simp
  rw [after0_14, emb_14, Pipeline.eq_sum_fin_of_reset_step_apply_of_flush (fun n h => (outsAt0 m c n h).2.2.1) 8 (fun _ => 0) (part_14 m c)
    (fun t h j => by rw [outsAt0_A m c t h]; dsimp only; frame_out; exact (pay_scale (dh m c t) (iblk m c 6 t) (iblk m c 8 t) _ j).trans (congrArg (· + _) (zero_scale j)))
    (fun t h j => by rw [outsAt0_B m c t h]; dsimp only; frame_out; exact pay_scale (dh m c t) (iblk m c 6 t) (iblk m c 8 t) _ j)
    t hr _, zero_add]
  exact key

/-- what a point adds to window 15. -/
def part_15 (c : Dev nD) (t : Fin cfg0.N) (y : S1x1x1024.Idx) : EReal :=
  ∑ a : Fin 512, dh m c t (ix2 a (y 2)) * (1 + (iblk m c 9 t) (ix3 0 0 (y 2))) * k0_pay10 (k0_pay6 (iblk m c 6 t)) (k0_pay9 (iblk m c 6 t)) (ix2 a (y 2))

/-- the array of window 15 after the run. -/
theorem final_15 (c : Dev nD)  :
    (dats m 0 c).arrAt 15 (cfgs 0).N
    = REF_v44 (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg9)) (m ((c : Thread nD τ).loc main_arg10)) := by
  refine (dats m 0 c).arrAt_eq_of_covers 15 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_15 t).mp hf
  have key : ∑ s : Fin 8, part_15 m c ⟨8 * (t.val / 8) + s.val, Pipeline.run_point_lt_of_flush t hr s⟩ (ix3 0 0 j)
      = REF_v44 (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg9)) (m ((c : Thread nD τ).loc main_arg10)) (ix3 (smp t) 0 j) := by
    refine Eq.trans ?_ ((sum_run t hr (fun s => Pipeline.run_point_lt_of_flush t hr s)
      fun b r => inp (m ((c : Thread nD τ).loc main_arg0)) (m ((c : Thread nD τ).loc main_arg1)) (m ((c : Thread nD τ).loc main_arg2)) (ix3 b r j) * NormKit.normRow (fun k => inp (m ((c : Thread nD τ).loc main_arg0)) (m ((c : Thread nD τ).loc main_arg1)) (m ((c : Thread nD τ).loc main_arg2)) (ix3 b r k)) * (modCt (m ((c : Thread nD τ).loc main_arg6)) (m ((c : Thread nD τ).loc main_arg8)) (m ((c : Thread nD τ).loc main_arg9)) (m ((c : Thread nD τ).loc main_arg10)) (ix3 b r j) * (1 + (m ((c : Thread nD τ).loc main_arg4)) (ix3 b 0 j)))).trans (NormKit.gainCt_at (inp (m ((c : Thread nD τ).loc main_arg0)) (m ((c : Thread nD τ).loc main_arg1)) (m ((c : Thread nD τ).loc main_arg2))) (modCt (m ((c : Thread nD τ).loc main_arg6)) (m ((c : Thread nD τ).loc main_arg8)) (m ((c : Thread nD τ).loc main_arg9)) (m ((c : Thread nD τ).loc main_arg10))) (m ((c : Thread nD τ).loc main_arg4)) (smp t) j).symm)
    refine Finset.sum_congr rfl fun s _ => Finset.sum_congr rfl fun a _ => ?_
    exact (mul_comm _ _).trans (Ideal.mul_congr (hat_at m c _ a j) (Ideal.mul_congr (dh_at m c _ a j) (congrArg (1 + ·) (blk_9 m c _ j))))
  blk_simp
  rw [after0_15, emb_15, Pipeline.eq_sum_fin_of_reset_step_apply_of_flush (fun n h => (outsAt0 m c n h).2.2.2.1) 8 (fun _ => 0) (part_15 m c)
    (fun t h j => by rw [outsAt0_A m c t h]; dsimp only; frame_out; exact (pay_gain (dh m c t) (iblk m c 6 t) (iblk m c 9 t) _ j).trans (congrArg (· + _) (zero_gain j)))
    (fun t h j => by rw [outsAt0_B m c t h]; dsimp only; frame_out; exact pay_gain (dh m c t) (iblk m c 6 t) (iblk m c 9 t) _ j)
    t hr _, zero_add]
  exact key

/-- what a point adds to window 17. -/
def part_17 (c : Dev nD) (t : Fin cfg0.N) (y : S1x1x1024.Idx) : EReal :=
  ∑ a : Fin 512, k0_pay16 (k0_pay7 (iblk m c 8 t)) (k0_pay8 (iblk m c 6 t)) (k0_pay10 (k0_pay6 (iblk m c 6 t)) (k0_pay9 (iblk m c 6 t))) (k0_pay13 (dh m c t) (iblk m c 9 t)) (iblk m c 7 t) (ix2 a (y 2)) * (iblk m c 10 t) (ix2 a (y 2))

/-- the array of window 17 after the run. -/
theorem final_17 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (m ((c : Thread nD τ).loc main_arg9)) (m ((c : Thread nD τ).loc main_arg10)) (ix3 b s k) * (1 + m ((c : Thread nD τ).loc main_arg4) (ix3 b 0 k)) * m ((c : Thread nD τ).loc main_arg3) (ix1 k))) :
    (dats m 0 c).arrAt 17 (cfgs 0).N
    = REF_v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 17 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_17 t).mp hf
  have key : ∑ s : Fin 8, part_17 m c ⟨8 * (t.val / 8) + s.val, Pipeline.run_point_lt_of_flush t hr s⟩ (ix3 0 0 j)
      = REF_v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (ix3 (smp t) 0 j) := by
    refine Eq.trans ?_ ((sum_run t hr (fun s => Pipeline.run_point_lt_of_flush t hr s)
      fun b r => NormKit.inputCt (inp (m ((c : Thread nD τ).loc main_arg0)) (m ((c : Thread nD τ).loc main_arg1)) (m ((c : Thread nD τ).loc main_arg2))) (modCt (m ((c : Thread nD τ).loc main_arg6)) (m ((c : Thread nD τ).loc main_arg8)) (m ((c : Thread nD τ).loc main_arg9)) (m ((c : Thread nD τ).loc main_arg10))) (m ((c : Thread nD τ).loc main_arg3)) (m ((c : Thread nD τ).loc main_arg4)) (m ((c : Thread nD τ).loc main_arg7)) (ix3 b r j) * (m ((c : Thread nD τ).loc main_arg1)) (ix3 b r j)).trans (NormKit.gateCt_at (inp (m ((c : Thread nD τ).loc main_arg0)) (m ((c : Thread nD τ).loc main_arg1)) (m ((c : Thread nD τ).loc main_arg2))) (modCt (m ((c : Thread nD τ).loc main_arg6)) (m ((c : Thread nD τ).loc main_arg8)) (m ((c : Thread nD τ).loc main_arg9)) (m ((c : Thread nD τ).loc main_arg10))) (m ((c : Thread nD τ).loc main_arg7)) (m ((c : Thread nD τ).loc main_arg3)) (m ((c : Thread nD τ).loc main_arg4)) (m ((c : Thread nD τ).loc main_arg1)) (smp t) j).symm)
    refine Finset.sum_congr rfl fun s _ => Finset.sum_congr rfl fun a _ => ?_
    exact Ideal.mul_congr (rows_at m c hx ht _ a j) (blk_10 m c _ a j)
  blk_simp
  rw [after0_17, emb_17, Pipeline.eq_sum_fin_of_reset_step_apply_of_flush (fun n h => (outsAt0 m c n h).2.2.2.2.2) 8 (fun _ => 0) (part_17 m c)
    (fun t h j => by rw [outsAt0_A m c t h]; dsimp only; frame_out; exact (pay_gate (dh m c t) (iblk m c 6 t) (iblk m c 7 t) (iblk m c 8 t) (iblk m c 9 t) (iblk m c 10 t) _ j).trans (congrArg (· + _) (zero_gate j)))
    (fun t h j => by rw [outsAt0_B m c t h]; dsimp only; frame_out; exact pay_gate (dh m c t) (iblk m c 6 t) (iblk m c 7 t) (iblk m c 8 t) (iblk m c 9 t) (iblk m c 10 t) _ j)
    t hr _, zero_add]
  exact key

end Cert.NormBKernelIdeal.Value

end
-- ==== Proof.NormBClaim.lean ====
/- The claims about `NormBKernel`, its idealization and its reference. -/
module

public import proofs.«01_k».proof.Defs
public import proofs.«01_k».proof.Proof.Gen.NormBKernel.Frame
public import proofs.«01_k».proof.Proof.Gen.NormBKernelIdeal.Frame
public import proofs.«01_k».proof.Proof.Gen.NormBReferenceIdeal.Run
public import proofs.«01_k».proof.Proof.NormBValue
public import proofs.«01_k».proof.Proof.NormPre
public import Idealize.ShloMosaic.Lib.Claim

@[expose] public section

set_option maxRecDepth 16384

noncomputable section

namespace Cert.Proof.NormB

open Idealize.ShloMosaic Idealize.ShloMosaic.TcCoe Idealize.SL.Sem

instance : Cert.NormBKernel.Facts := Cert.NormBKernel.Gen.facts
instance : Cert.NormBKernelIdeal.Facts := Cert.NormBKernelIdeal.Gen.facts
instance : Cert.NormBReferenceIdeal.Facts := Cert.NormBReferenceIdeal.Gen.facts
instance : Cert.Pre_finite_norm1b.Facts := FinitePre.finite_norm1b_facts

/-- the kernel's thread on a device. -/
abbrev tK (c : Dev Cert.NormBKernelIdeal.nD) : Thread Cert.NormBKernelIdeal.nD Cert.NormBKernelIdeal.τ := c.tc

/-- the reference's thread on a device. -/
abbrev tR (c : Dev Cert.NormBReferenceIdeal.nD) : Thread Cert.NormBReferenceIdeal.nD Cert.NormBReferenceIdeal.τ := c.tc

/-- a memory of the kernel's program. -/
abbrev MemK := (ℓ : Loc Cert.NormBKernelIdeal.nD Cert.NormBKernelIdeal.τ Cert.NormBKernelIdeal.sig) → Buf (Elt Ideal) ℓ

/-- a memory of the reference's program. -/
abbrev MemR := (ℓ : Loc Cert.NormBReferenceIdeal.nD Cert.NormBReferenceIdeal.τ Cert.NormBReferenceIdeal.sig) → Buf (Elt Ideal) ℓ

/-- the printed kernel's frame. -/
theorem frame_p : Cert.quiescent_NormBKernel := fun m ρ _ => Cert.NormBKernel.Gen.frame m ρ

/-- the idealized kernel's frame. -/
theorem frame_pi : Cert.quiescent_NormBKernelIdeal := fun m ρ _ => Cert.NormBKernelIdeal.Gen.frame m ρ

/-- the reference's frame: it declares no semaphore. -/
theorem frame_ri : Cert.quiescent_NormBReferenceIdeal := fun m g _ =>
  (θ_run Cert.NormBReferenceIdeal.defs _ _).mono
    (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩, sem_eq_zero_of_no_sems (by decide) r.2⟩)
    (Cert.NormBReferenceIdeal.Value.run m g)

/-- the idealized kernel's frame under the precondition. -/
theorem frame_pi_pre : Cert.quiescent_NormBKernelIdeal_pre_finite_norm1b := fun m ρ _ => Cert.NormBKernelIdeal.Gen.frame m ρ

/-- the reference's frame under the precondition. -/
theorem frame_ri_pre : Cert.quiescent_NormBReferenceIdeal_pre_finite_norm1b := fun m g _ => frame_ri m g trivial

theorem inp_at (a0 : FVec Ideal Cert.NormBReferenceIdeal.S2x4096x1024 .f32) (a1 : FVec Ideal Cert.NormBReferenceIdeal.S2x4096x1024 .bf16) (a2 : FVec Ideal Cert.NormBReferenceIdeal.S2x1x1024 .f32) (s : Fin 2) (r : Fin 4096) (k : Fin 1024) :
    Cert.NormBReferenceIdeal.Value.inp a0 a1 a2 (ix3 s r k) = a0 (ix3 s r k) + a2 (ix3 s 0 k) * a1 (ix3 s r k) := by
  pointwise [Cert.NormBReferenceIdeal.Value.inp]

/-- the array that is normed is finite. -/
theorem fin_inp (m : MemK) (c : Dev Cert.NormBKernelIdeal.nD) (hpre : Cert.Pre_NormBKernelIdeal_finite_norm1b m) (i) :
    RealKit.Fin' (Cert.NormBReferenceIdeal.Value.inp (m ((tK c).loc Cert.NormBKernelIdeal.main_arg0)) (m ((tK c).loc Cert.NormBKernelIdeal.main_arg1)) (m ((tK c).loc Cert.NormBKernelIdeal.main_arg2)) i) := by
  rw [eq_ix3 i]
  exact (inp_at ..).symm ▸ FinitePre.fin_add (FinitePre.finite_norm1b_x _ _ _ _ _ _ _ _ _ _ _ (hpre c) _)
    (FinitePre.fin_mul (FinitePre.finite_norm1b_g _ _ _ _ _ _ _ _ _ _ _ (hpre c) _) (FinitePre.finite_norm1b_y _ _ _ _ _ _ _ _ _ _ _ (hpre c) _))

/-- the cotangent of the normed array is finite. -/
theorem fin_ct (m : MemK) (c : Dev Cert.NormBKernelIdeal.nD) (hpre : Cert.Pre_NormBKernelIdeal_finite_norm1b m) (b : Fin 2) (s : Fin 4096) (k : Fin 1024) :
    RealKit.Fin' (Cert.NormBReferenceIdeal.Value.modCt (m ((tK c).loc Cert.NormBKernelIdeal.main_arg6)) (m ((tK c).loc Cert.NormBKernelIdeal.main_arg8)) (m ((tK c).loc Cert.NormBKernelIdeal.main_arg9)) (m ((tK c).loc Cert.NormBKernelIdeal.main_arg10)) (ix3 b s k) * (1 + (m ((tK c).loc Cert.NormBKernelIdeal.main_arg4)) (ix3 b 0 k)) * (m ((tK c).loc Cert.NormBKernelIdeal.main_arg3)) (ix1 k)) := by
  rw [Cert.NormBKernelIdeal.Value.modCt_at]
  exact FinitePre.fin_mul (FinitePre.fin_mul (FinitePre.fin_add (FinitePre.fin_add (FinitePre.fin_sum fun k => FinitePre.fin_mul (FinitePre.finite_norm1b_p _ _ _ _ _ _ _ _ _ _ _ (hpre c) _) (FinitePre.finite_norm1b_w _ _ _ _ _ _ _ _ _ _ _ (hpre c) _)) (FinitePre.fin_sum fun k => FinitePre.fin_mul (FinitePre.finite_norm1b_q _ _ _ _ _ _ _ _ _ _ _ (hpre c) _) (FinitePre.finite_norm1b_w _ _ _ _ _ _ _ _ _ _ _ (hpre c) _))) (FinitePre.fin_sum fun k => FinitePre.fin_mul (FinitePre.finite_norm1b_r _ _ _ _ _ _ _ _ _ _ _ (hpre c) _) (FinitePre.finite_norm1b_w _ _ _ _ _ _ _ _ _ _ _ (hpre c) _)))
    (FinitePre.fin_add FinitePre.fin_one (FinitePre.finite_norm1b_sc _ _ _ _ _ _ _ _ _ _ _ (hpre c) _))) (FinitePre.finite_norm1b_gain _ _ _ _ _ _ _ _ _ _ _ (hpre c) _)

/-- the reference's term for window 12's array, at the kernel's arguments. -/
theorem out_12 (m : MemK)
    (m' : MemR) (c : Dev Cert.NormBKernelIdeal.nD)
    (hpre : Cert.Pre_NormBKernelIdeal_finite_norm1b m)
    (a0 : m' ((tR c).loc Cert.NormBReferenceIdeal.main_arg0) = m ((tK c).loc Cert.NormBKernelIdeal.main_arg0))
    (a1 : m' ((tR c).loc Cert.NormBReferenceIdeal.main_arg1) = m ((tK c).loc Cert.NormBKernelIdeal.main_arg1))
    (a2 : m' ((tR c).loc Cert.NormBReferenceIdeal.main_arg2) = m ((tK c).loc Cert.NormBKernelIdeal.main_arg2))
    (a3 : m' ((tR c).loc Cert.NormBReferenceIdeal.main_arg3) = m ((tK c).loc Cert.NormBKernelIdeal.main_arg3))
    (a4 : m' ((tR c).loc Cert.NormBReferenceIdeal.main_arg4) = m ((tK c).loc Cert.NormBKernelIdeal.main_arg4))
    (a6 : m' ((tR c).loc Cert.NormBReferenceIdeal.main_arg6) = m ((tK c).loc Cert.NormBKernelIdeal.main_arg6))
    (a7 : m' ((tR c).loc Cert.NormBReferenceIdeal.main_arg7) = m ((tK c).loc Cert.NormBKernelIdeal.main_arg7))
    (a8 : m' ((tR c).loc Cert.NormBReferenceIdeal.main_arg8) = m ((tK c).loc Cert.NormBKernelIdeal.main_arg8))
    (a9 : m' ((tR c).loc Cert.NormBReferenceIdeal.main_arg9) = m ((tK c).loc Cert.NormBKernelIdeal.main_arg9))
    (a10 : m' ((tR c).loc Cert.NormBReferenceIdeal.main_arg10) = m ((tK c).loc Cert.NormBKernelIdeal.main_arg10)) :
    Cert.NormBReferenceIdeal.Value.REF_v68 (m' ((tR c).loc Cert.NormBReferenceIdeal.main_arg0)) (m' ((tR c).loc Cert.NormBReferenceIdeal.main_arg1)) (m' ((tR c).loc Cert.NormBReferenceIdeal.main_arg2)) (m' ((tR c).loc Cert.NormBReferenceIdeal.main_arg3)) (m' ((tR c).loc Cert.NormBReferenceIdeal.main_arg4)) (m' ((tR c).loc Cert.NormBReferenceIdeal.main_arg6)) (m' ((tR c).loc Cert.NormBReferenceIdeal.main_arg7)) (m' ((tR c).loc Cert.NormBReferenceIdeal.main_arg8)) (m' ((tR c).loc Cert.NormBReferenceIdeal.main_arg9)) (m' ((tR c).loc Cert.NormBReferenceIdeal.main_arg10))
      = (Cert.NormBKernelIdeal.Gen.dats m 0 c).arrAt 12 (Cert.NormBKernelIdeal.cfgs 0).N := by
  rw [a0, a1, a2, a3, a4, a6, a7, a8, a9, a10]
  exact (Cert.NormBKernelIdeal.Value.final_12 m c (fin_inp m c hpre) (fin_ct m c hpre)).symm

/-- the reference's term for window 13's array, at the kernel's arguments. -/
theorem out_13 (m : MemK)
    (m' : MemR) (c : Dev Cert.NormBKernelIdeal.nD)
    (a6 : m' ((tR c).loc Cert.NormBReferenceIdeal.main_arg6) = m ((tK c).loc Cert.NormBKernelIdeal.main_arg6))
    (a8 : m' ((tR c).loc Cert.NormBReferenceIdeal.main_arg8) = m ((tK c).loc Cert.NormBKernelIdeal.main_arg8))
    (a9 : m' ((tR c).loc Cert.NormBReferenceIdeal.main_arg9) = m ((tK c).loc Cert.NormBKernelIdeal.main_arg9))
    (a10 : m' ((tR c).loc Cert.NormBReferenceIdeal.main_arg10) = m ((tK c).loc Cert.NormBKernelIdeal.main_arg10)) :
    Cert.NormBReferenceIdeal.Value.REF_v36 (m' ((tR c).loc Cert.NormBReferenceIdeal.main_arg6)) (m' ((tR c).loc Cert.NormBReferenceIdeal.main_arg8)) (m' ((tR c).loc Cert.NormBReferenceIdeal.main_arg9)) (m' ((tR c).loc Cert.NormBReferenceIdeal.main_arg10))
      = (Cert.NormBKernelIdeal.Gen.dats m 0 c).arrAt 13 (Cert.NormBKernelIdeal.cfgs 0).N := by
  rw [a6, a8, a9, a10]
  exact (Cert.NormBKernelIdeal.Value.final_13 m c).symm

/-- the reference's term for window 14's array, at the kernel's arguments. -/
theorem out_14 (m : MemK)
    (m' : MemR) (c : Dev Cert.NormBKernelIdeal.nD)
    (a0 : m' ((tR c).loc Cert.NormBReferenceIdeal.main_arg0) = m ((tK c).loc Cert.NormBKernelIdeal.main_arg0))
    (a1 : m' ((tR c).loc Cert.NormBReferenceIdeal.main_arg1) = m ((tK c).loc Cert.NormBKernelIdeal.main_arg1))
    (a2 : m' ((tR c).loc Cert.NormBReferenceIdeal.main_arg2) = m ((tK c).loc Cert.NormBKernelIdeal.main_arg2))
    (a3 : m' ((tR c).loc Cert.NormBReferenceIdeal.main_arg3) = m ((tK c).loc Cert.NormBKernelIdeal.main_arg3))
    (a6 : m' ((tR c).loc Cert.NormBReferenceIdeal.main_arg6) = m ((tK c).loc Cert.NormBKernelIdeal.main_arg6))
    (a8 : m' ((tR c).loc Cert.NormBReferenceIdeal.main_arg8) = m ((tK c).loc Cert.NormBKernelIdeal.main_arg8))
    (a9 : m' ((tR c).loc Cert.NormBReferenceIdeal.main_arg9) = m ((tK c).loc Cert.NormBKernelIdeal.main_arg9))
    (a10 : m' ((tR c).loc Cert.NormBReferenceIdeal.main_arg10) = m ((tK c).loc Cert.NormBKernelIdeal.main_arg10)) :
    Cert.NormBReferenceIdeal.Value.REF_v39 (m' ((tR c).loc Cert.NormBReferenceIdeal.main_arg0)) (m' ((tR c).loc Cert.NormBReferenceIdeal.main_arg1)) (m' ((tR c).loc Cert.NormBReferenceIdeal.main_arg2)) (m' ((tR c).loc Cert.NormBReferenceIdeal.main_arg3)) (m' ((tR c).loc Cert.NormBReferenceIdeal.main_arg6)) (m' ((tR c).loc Cert.NormBReferenceIdeal.main_arg8)) (m' ((tR c).loc Cert.NormBReferenceIdeal.main_arg9)) (m' ((tR c).loc Cert.NormBReferenceIdeal.main_arg10))
      = (Cert.NormBKernelIdeal.Gen.dats m 0 c).arrAt 14 (Cert.NormBKernelIdeal.cfgs 0).N := by
  rw [a0, a1, a2, a3, a6, a8, a9, a10]
  exact (Cert.NormBKernelIdeal.Value.final_14 m c).symm

/-- the reference's term for window 15's array, at the kernel's arguments. -/
theorem out_15 (m : MemK)
    (m' : MemR) (c : Dev Cert.NormBKernelIdeal.nD)
    (a0 : m' ((tR c).loc Cert.NormBReferenceIdeal.main_arg0) = m ((tK c).loc Cert.NormBKernelIdeal.main_arg0))
    (a1 : m' ((tR c).loc Cert.NormBReferenceIdeal.main_arg1) = m ((tK c).loc Cert.NormBKernelIdeal.main_arg1))
    (a2 : m' ((tR c).loc Cert.NormBReferenceIdeal.main_arg2) = m ((tK c).loc Cert.NormBKernelIdeal.main_arg2))
    (a4 : m' ((tR c).loc Cert.NormBReferenceIdeal.main_arg4) = m ((tK c).loc Cert.NormBKernelIdeal.main_arg4))
    (a6 : m' ((tR c).loc Cert.NormBReferenceIdeal.main_arg6) = m ((tK c).loc Cert.NormBKernelIdeal.main_arg6))
    (a8 : m' ((tR c).loc Cert.NormBReferenceIdeal.main_arg8) = m ((tK c).loc Cert.NormBKernelIdeal.main_arg8))
    (a9 : m' ((tR c).loc Cert.NormBReferenceIdeal.main_arg9) = m ((tK c).loc Cert.NormBKernelIdeal.main_arg9))
    (a10 : m' ((tR c).loc Cert.NormBReferenceIdeal.main_arg10) = m ((tK c).loc Cert.NormBKernelIdeal.main_arg10)) :
    Cert.NormBReferenceIdeal.Value.REF_v44 (m' ((tR c).loc Cert.NormBReferenceIdeal.main_arg0)) (m' ((tR c).loc Cert.NormBReferenceIdeal.main_arg1)) (m' ((tR c).loc Cert.NormBReferenceIdeal.main_arg2)) (m' ((tR c).loc Cert.NormBReferenceIdeal.main_arg4)) (m' ((tR c).loc Cert.NormBReferenceIdeal.main_arg6)) (m' ((tR c).loc Cert.NormBReferenceIdeal.main_arg8)) (m' ((tR c).loc Cert.NormBReferenceIdeal.main_arg9)) (m' ((tR c).loc Cert.NormBReferenceIdeal.main_arg10))
      = (Cert.NormBKernelIdeal.Gen.dats m 0 c).arrAt 15 (Cert.NormBKernelIdeal.cfgs 0).N := by
  rw [a0, a1, a2, a4, a6, a8, a9, a10]
  exact (Cert.NormBKernelIdeal.Value.final_15 m c).symm

/-- the reference's term for window 16's array, at the kernel's arguments. -/
theorem out_16 (m : MemK)
    (m' : MemR) (c : Dev Cert.NormBKernelIdeal.nD)
    (hpre : Cert.Pre_NormBKernelIdeal_finite_norm1b m)
    (a0 : m' ((tR c).loc Cert.NormBReferenceIdeal.main_arg0) = m ((tK c).loc Cert.NormBKernelIdeal.main_arg0))
    (a1 : m' ((tR c).loc Cert.NormBReferenceIdeal.main_arg1) = m ((tK c).loc Cert.NormBKernelIdeal.main_arg1))
    (a2 : m' ((tR c).loc Cert.NormBReferenceIdeal.main_arg2) = m ((tK c).loc Cert.NormBKernelIdeal.main_arg2))
    (a3 : m' ((tR c).loc Cert.NormBReferenceIdeal.main_arg3) = m ((tK c).loc Cert.NormBKernelIdeal.main_arg3))
    (a4 : m' ((tR c).loc Cert.NormBReferenceIdeal.main_arg4) = m ((tK c).loc Cert.NormBKernelIdeal.main_arg4))
    (a6 : m' ((tR c).loc Cert.NormBReferenceIdeal.main_arg6) = m ((tK c).loc Cert.NormBKernelIdeal.main_arg6))
    (a7 : m' ((tR c).loc Cert.NormBReferenceIdeal.main_arg7) = m ((tK c).loc Cert.NormBKernelIdeal.main_arg7))
    (a8 : m' ((tR c).loc Cert.NormBReferenceIdeal.main_arg8) = m ((tK c).loc Cert.NormBKernelIdeal.main_arg8))
    (a9 : m' ((tR c).loc Cert.NormBReferenceIdeal.main_arg9) = m ((tK c).loc Cert.NormBKernelIdeal.main_arg9))
    (a10 : m' ((tR c).loc Cert.NormBReferenceIdeal.main_arg10) = m ((tK c).loc Cert.NormBKernelIdeal.main_arg10)) :
    Cert.NormBReferenceIdeal.Value.REF_v70 (m' ((tR c).loc Cert.NormBReferenceIdeal.main_arg0)) (m' ((tR c).loc Cert.NormBReferenceIdeal.main_arg1)) (m' ((tR c).loc Cert.NormBReferenceIdeal.main_arg2)) (m' ((tR c).loc Cert.NormBReferenceIdeal.main_arg3)) (m' ((tR c).loc Cert.NormBReferenceIdeal.main_arg4)) (m' ((tR c).loc Cert.NormBReferenceIdeal.main_arg6)) (m' ((tR c).loc Cert.NormBReferenceIdeal.main_arg7)) (m' ((tR c).loc Cert.NormBReferenceIdeal.main_arg8)) (m' ((tR c).loc Cert.NormBReferenceIdeal.main_arg9)) (m' ((tR c).loc Cert.NormBReferenceIdeal.main_arg10))
      = (Cert.NormBKernelIdeal.Gen.dats m 0 c).arrAt 16 (Cert.NormBKernelIdeal.cfgs 0).N := by
  rw [a0, a1, a2, a3, a4, a6, a7, a8, a9, a10]
  exact (Cert.NormBKernelIdeal.Value.final_16 m c (fin_inp m c hpre) (fin_ct m c hpre)).symm

/-- the reference's term for window 17's array, at the kernel's arguments. -/
theorem out_17 (m : MemK)
    (m' : MemR) (c : Dev Cert.NormBKernelIdeal.nD)
    (hpre : Cert.Pre_NormBKernelIdeal_finite_norm1b m)
    (a0 : m' ((tR c).loc Cert.NormBReferenceIdeal.main_arg0) = m ((tK c).loc Cert.NormBKernelIdeal.main_arg0))
    (a1 : m' ((tR c).loc Cert.NormBReferenceIdeal.main_arg1) = m ((tK c).loc Cert.NormBKernelIdeal.main_arg1))
    (a2 : m' ((tR c).loc Cert.NormBReferenceIdeal.main_arg2) = m ((tK c).loc Cert.NormBKernelIdeal.main_arg2))
    (a3 : m' ((tR c).loc Cert.NormBReferenceIdeal.main_arg3) = m ((tK c).loc Cert.NormBKernelIdeal.main_arg3))
    (a4 : m' ((tR c).loc Cert.NormBReferenceIdeal.main_arg4) = m ((tK c).loc Cert.NormBKernelIdeal.main_arg4))
    (a6 : m' ((tR c).loc Cert.NormBReferenceIdeal.main_arg6) = m ((tK c).loc Cert.NormBKernelIdeal.main_arg6))
    (a7 : m' ((tR c).loc Cert.NormBReferenceIdeal.main_arg7) = m ((tK c).loc Cert.NormBKernelIdeal.main_arg7))
    (a8 : m' ((tR c).loc Cert.NormBReferenceIdeal.main_arg8) = m ((tK c).loc Cert.NormBKernelIdeal.main_arg8))
    (a9 : m' ((tR c).loc Cert.NormBReferenceIdeal.main_arg9) = m ((tK c).loc Cert.NormBKernelIdeal.main_arg9))
    (a10 : m' ((tR c).loc Cert.NormBReferenceIdeal.main_arg10) = m ((tK c).loc Cert.NormBKernelIdeal.main_arg10)) :
    Cert.NormBReferenceIdeal.Value.REF_v67 (m' ((tR c).loc Cert.NormBReferenceIdeal.main_arg0)) (m' ((tR c).loc Cert.NormBReferenceIdeal.main_arg1)) (m' ((tR c).loc Cert.NormBReferenceIdeal.main_arg2)) (m' ((tR c).loc Cert.NormBReferenceIdeal.main_arg3)) (m' ((tR c).loc Cert.NormBReferenceIdeal.main_arg4)) (m' ((tR c).loc Cert.NormBReferenceIdeal.main_arg6)) (m' ((tR c).loc Cert.NormBReferenceIdeal.main_arg7)) (m' ((tR c).loc Cert.NormBReferenceIdeal.main_arg8)) (m' ((tR c).loc Cert.NormBReferenceIdeal.main_arg9)) (m' ((tR c).loc Cert.NormBReferenceIdeal.main_arg10))
      = (Cert.NormBKernelIdeal.Gen.dats m 0 c).arrAt 17 (Cert.NormBKernelIdeal.cfgs 0).N := by
  rw [a0, a1, a2, a3, a4, a6, a7, a8, a9, a10]
  exact (Cert.NormBKernelIdeal.Value.final_17 m c (fin_inp m c hpre) (fin_ct m c hpre)).symm

/-- the idealized kernel computes the derivative of the forward lines. -/
theorem algebraic : Cert.algebraic_NormBKernelIdeal_NormBReferenceIdeal_pre_finite_norm1b := by
  intro m g m' g' hpre hagree
  refine ⟨fun c => (Cert.NormBKernelIdeal.Gen.dats m 0 c).arrAt 12 (Cert.NormBKernelIdeal.cfgs 0).N, fun c => (Cert.NormBKernelIdeal.Gen.dats m 0 c).arrAt 13 (Cert.NormBKernelIdeal.cfgs 0).N, fun c => (Cert.NormBKernelIdeal.Gen.dats m 0 c).arrAt 14 (Cert.NormBKernelIdeal.cfgs 0).N, fun c => (Cert.NormBKernelIdeal.Gen.dats m 0 c).arrAt 15 (Cert.NormBKernelIdeal.cfgs 0).N, fun c => (Cert.NormBKernelIdeal.Gen.dats m 0 c).arrAt 16 (Cert.NormBKernelIdeal.cfgs 0).N, fun c => (Cert.NormBKernelIdeal.Gen.dats m 0 c).arrAt 17 (Cert.NormBKernelIdeal.cfgs 0).N, ?_, ?_⟩
  · exact (θ_run Cert.NormBKernelIdeal.defs _ _).mono
      (fun r h c => ⟨(h.1 c).1 12, (h.1 c).1 13, (h.1 c).1 14, (h.1 c).1 15, (h.1 c).1 16, (h.1 c).1 17, (h.2.1 c).1, (h.2.1 c).2.1, (h.2.1 c).2.2.1, (h.2.1 c).2.2.2.1, (h.2.1 c).2.2.2.2.1, (h.2.1 c).2.2.2.2.2.1, (h.2.1 c).2.2.2.2.2.2.1, (h.2.1 c).2.2.2.2.2.2.2.1, (h.2.1 c).2.2.2.2.2.2.2.2.1, (h.2.1 c).2.2.2.2.2.2.2.2.2.1, (h.2.1 c).2.2.2.2.2.2.2.2.2.2⟩)
      (θ_run_and (Cert.NormBKernelIdeal.Gen.run_main m g) (Cert.NormBKernelIdeal.Gen.frame m g))
  · exact (θ_run Cert.NormBReferenceIdeal.defs _ _).mono
      (fun r h c => ⟨(h c).1.trans ((Cert.NormBReferenceIdeal.Value.res_v68 m' c).trans (out_12 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)), (h c).2.1.trans (out_13 m m' c (hagree c).2.2.2.2.2.2.1 (hagree c).2.2.2.2.2.2.2.2.1 (hagree c).2.2.2.2.2.2.2.2.2.1 (hagree c).2.2.2.2.2.2.2.2.2.2), (h c).2.2.1.trans (out_14 m m' c (hagree c).1 (hagree c).2.1 (hagree c).2.2.1 (hagree c).2.2.2.1 (hagree c).2.2.2.2.2.2.1 (hagree c).2.2.2.2.2.2.2.2.1 (hagree c).2.2.2.2.2.2.2.2.2.1 (hagree c).2.2.2.2.2.2.2.2.2.2), (h c).2.2.2.1.trans (out_15 m m' c (hagree c).1 (hagree c).2.1 (hagree c).2.2.1 (hagree c).2.2.2.2.1 (hagree c).2.2.2.2.2.2.1 (hagree c).2.2.2.2.2.2.2.2.1 (hagree c).2.2.2.2.2.2.2.2.2.1 (hagree c).2.2.2.2.2.2.2.2.2.2), (h c).2.2.2.2.1.trans ((Cert.NormBReferenceIdeal.Value.res_v70 m' c).trans (out_16 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)), (h c).2.2.2.2.2.1.trans ((Cert.NormBReferenceIdeal.Value.res_v67 m' c).trans (out_17 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2)),
        (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩)
      (Cert.NormBReferenceIdeal.Value.run m' g')

end Cert.Proof.NormB

end
-- ==== Proof.NormARef.lean ====
/- The reference results of `Cert.NormAReferenceIdeal` as named functions of its arguments. -/
module

public import proofs.«01_k».proof.Proof.Gen.NormAReferenceIdeal.Run
public import proofs.«01_k».proof.Proof.NormKit

@[expose] public section

set_option maxRecDepth 16384

noncomputable section

namespace Cert.NormAReferenceIdeal.Value

open Cert.NormAReferenceIdeal Cert.NormAReferenceIdeal.Gen Idealize.ShloMosaic Idealize.ShloMosaic.TcCoe Idealize.SL.Sem Idealize.ShloMosaic.StableHlo

/-- the array that is normed. -/
def inp (a0 : FVec Ideal S2x4096x1024 .f32) (a1 : FVec Ideal S2x4096x1024 .bf16) (a2 : FVec Ideal S2x1x1024 .f32) : FVec Ideal S2x4096x1024 .f32 :=
  addf a0 (mulf (broadcastInDim S2x4096x1024 ![0, 1, 2] bcast_S2x1x1024_S2x4096x1024_0_1_2 a2) (extf .f32 a1 bitsLt_bf16_f32))

/-- the cotangent of the modulated array. -/
def modCt (a6 : FVec Ideal S1024x1280 .f32) (a8 : FVec Ideal S2x4096x1280 .bf16) : FVec Ideal S2x4096x1024 .f32 :=
  Host.dotGeneral dot_S2x4096x1280_S1024x1280_S2x4096x1024_2_1_01_0_n_n none (extf .f32 a8 bitsLt_bf16_f32) a6

/-- What the reference leaves in `main_v62`. -/
def REF_v62 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x1280 .f32) (a7 : FVec Ideal S2x4096x1024 .f32) (a8 : FVec Ideal S2x4096x1280 .bf16) : FVec Ideal S8192x1024 .f32 :=
  NormKit.rowsCt (inp a0 a1 a2) (modCt a6 a8) a3 a4 a7

theorem res_v62 (m : (ℓ : Loc nD τ sig) → Buf (Elt Ideal) ℓ) (c : Dev nD) :
    res_main_v62 m c = REF_v62 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  unfold res_main_v62; rfl

/-- What the reference leaves in `main_v30`. -/
def REF_v30 (a6 : FVec Ideal S1024x1280 .f32) (a8 : FVec Ideal S2x4096x1280 .bf16) : FVec Ideal S2x1x1024 .f32 :=
  NormKit.shiftCt (modCt a6 a8)

/-- What the reference leaves in `main_v33`. -/
def REF_v33 (a0 : FVec Ideal S2x4096x1024 .f32) (a1 : FVec Ideal S2x4096x1024 .bf16) (a2 : FVec Ideal S2x1x1024 .f32) (a3 : FVec Ideal S1024 .f32) (a6 : FVec Ideal S1024x1280 .f32) (a8 : FVec Ideal S2x4096x1280 .bf16) : FVec Ideal S2x1x1024 .f32 :=
  NormKit.scaleCt (inp a0 a1 a2) (modCt a6 a8) a3

/-- What the reference leaves in `main_v38`. -/
def REF_v38 (a0 : FVec Ideal S2x4096x1024 .f32) (a1 : FVec Ideal S2x4096x1024 .bf16) (a2 : FVec Ideal S2x1x1024 .f32) (a4 : FVec Ideal S2x1x1024 .f32) (a6 : FVec Ideal S1024x1280 .f32) (a8 : FVec Ideal S2x4096x1280 .bf16) : FVec Ideal S2x1x1024 .f32 :=
  NormKit.gainCt (inp a0 a1 a2) (modCt a6 a8) a4

/-- What the reference leaves in `main_v64`. -/
def REF_v64 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x1280 .f32) (a7 : FVec Ideal S2x4096x1024 .f32) (a8 : FVec Ideal S2x4096x1280 .bf16) : FVec Ideal S8192x1024 .bf16 :=
  NormKit.gatedCt (inp a0 a1 a2) (modCt a6 a8) a3 a4 a7 a2

theorem res_v64 (m : (ℓ : Loc nD τ sig) → Buf (Elt Ideal) ℓ) (c : Dev nD) :
    res_main_v64 m c = REF_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  unfold res_main_v64; rfl

/-- What the reference leaves in `main_v61`. -/
def REF_v61 (a0 : FVec Ideal S2x4096x1024 .f32) (a1 : FVec Ideal S2x4096x1024 .bf16) (a2 : FVec Ideal S2x1x1024 .f32) (a3 : FVec Ideal S1024 .f32) (a4 : FVec Ideal S2x1x1024 .f32) (a6 : FVec Ideal S1024x1280 .f32) (a7 : FVec Ideal S2x4096x1024 .f32) (a8 : FVec Ideal S2x4096x1280 .bf16) : FVec Ideal S2x1x1024 .f32 :=
  NormKit.gateCt (inp a0 a1 a2) (modCt a6 a8) a3 a4 a7 a1

theorem res_v61 (m : (ℓ : Loc nD τ sig) → Buf (Elt Ideal) ℓ) (c : Dev nD) :
    res_main_v61 m c = REF_v61 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  unfold res_main_v61; rfl

end Cert.NormAReferenceIdeal.Value

end
-- ==== Proof.NormAValue.lean ====
/- What `NormAKernelIdeal` leaves in its results, against the reference's terms. -/
module

public import proofs.«01_k».proof.Proof.Gen.NormAKernelIdeal.Value
public import proofs.«01_k».proof.Proof.NormARef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.NormAKernelIdeal.Value

open Cert.NormAKernelIdeal Cert.NormAKernelIdeal.Gen Cert.NormAReferenceIdeal.Value

variable (m : (ℓ : Loc nD τ sig) → Buf (Elt Ideal) ℓ)

/-- every window's block index at every grid point (decided). -/
theorem idx_val : ∀ t : Fin cfg0.N, win0_0.index t = ![(t.val / 8) * 8 + (t.val % 8), 0]
    ∧ win0_1.index t = ![0, 0]
    ∧ win0_2.index t = ![(t.val / 8) * 8 + (t.val % 8), 0]
    ∧ win0_3.index t = ![(t.val / 8) * 8 + (t.val % 8), 0]
    ∧ win0_4.index t = ![0, 0]
    ∧ win0_5.index t = ![t.val / 8, 0, 0]
    ∧ win0_6.index t = ![(t.val / 8) * 8 + (t.val % 8), 0]
    ∧ win0_7.index t = ![t.val / 8, 0, 0]
    ∧ win0_8.index t = ![(t.val / 8) * 8 + (t.val % 8), 0]
    ∧ win0_9.index t = ![t.val / 8, 0, 0]
    ∧ win0_10.index t = ![t.val / 8, 0, 0]
    ∧ win0_11.index t = ![t.val / 8, 0, 0]
    ∧ win0_12.index t = ![(t.val / 8) * 8 + (t.val % 8), 0]
    ∧ win0_13.index t = ![t.val / 8, 0, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

theorem blk_0 (c : Dev nD) (t : Fin cfg0.N) (a : Fin 512) (k : Fin 1280) :
    iblk m c 0 t (ix2 a k) = m ((c : Thread nD τ).loc main_arg8) (ix3 (smp t) (tok t a) k) := by
  blk_simp [iblk, idx_val t]; entry_read; pointwise; blk_ext [idx_val t]

theorem blk_1 (c : Dev nD) (t : Fin cfg0.N) (k : Fin 1280) (b : Fin 1024) :
    iblk m c 1 t (ix2 k b) = m ((c : Thread nD τ).loc main_arg6) (ix2 b k) := by
  blk_simp [iblk, idx_val t]; entry_read; pointwise; blk_ext [idx_val t]

theorem blk_3 (c : Dev nD) (t : Fin cfg0.N) (a : Fin 512) (k : Fin 1024) :
    iblk m c 3 t (ix2 a k) = m ((c : Thread nD τ).loc main_arg7) (ix3 (smp t) (tok t a) k) := by
  blk_simp [iblk, idx_val t]; entry_read; pointwise; blk_ext [idx_val t]

theorem blk_4 (c : Dev nD) (t : Fin cfg0.N) (b : Fin 1024) :
    iblk m c 4 t (ix2 0 b) = m ((c : Thread nD τ).loc main_arg3) (ix1 b) := by
  blk_simp [iblk, idx_val t]; entry_read; pointwise; blk_ext [idx_val t]

theorem blk_5 (c : Dev nD) (t : Fin cfg0.N) (b : Fin 1024) :
    iblk m c 5 t (ix3 0 0 b) = m ((c : Thread nD τ).loc main_arg4) (ix3 (smp t) 0 b) := by
  blk_simp [iblk, V, idx_val t]; blk_ext [idx_val t]

theorem blk_6 (c : Dev nD) (t : Fin cfg0.N) (a : Fin 512) (k : Fin 1024) :
    iblk m c 6 t (ix2 a k) = m ((c : Thread nD τ).loc main_arg1) (ix3 (smp t) (tok t a) k) := by
  blk_simp [iblk, idx_val t]; entry_read; pointwise; blk_ext [idx_val t]

theorem blk_7 (c : Dev nD) (t : Fin cfg0.N) (b : Fin 1024) :
    iblk m c 7 t (ix3 0 0 b) = m ((c : Thread nD τ).loc main_arg2) (ix3 (smp t) 0 b) := by
  blk_simp [iblk, V, idx_val t]; blk_ext [idx_val t]

/-- the host's rows, read through window 2. -/
theorem blk_2_row (c : Dev nD) (t : Fin cfg0.N) (a : Fin 512) (b : Fin 1024) :
    iblk m c 2 t (ix2 a b) = V m c main_v4 (ix2 (⟨t.val * 512 + a.val, by have := lt_N t; omega⟩ : Fin 8192) b) := by
  blk_simp [iblk, idx_val t]; blk_ext [idx_val t]

theorem blk_2 (c : Dev nD) (t : Fin cfg0.N) (a : Fin 512) (b : Fin 1024) :
    iblk m c 2 t (ix2 a b) = inp (m ((c : Thread nD τ).loc main_arg0)) (m ((c : Thread nD τ).loc main_arg1)) (m ((c : Thread nD τ).loc main_arg2)) (ix3 (smp t) (tok t a) b) := by
  have h1 : (⟨(t.val * 512 + a.val) / 4096, by have := lt_N t; omega⟩ : Fin 2) = smp t := Fin.ext (by dsimp only; omega)
  have h2 : (⟨(t.val * 512 + a.val) % 4096, by omega⟩ : Fin 4096) = tok t a := Fin.ext (by dsimp only; omega)
  rw [blk_2_row, ← h1, ← h2]
  entry_read; pointwise [inp]

theorem emb_8 (t : Fin cfg0.N) (a : Fin 512) (b : Fin 1024) :
    ((cfg0.win 8).blk t).view.emb (ix2 a b) = (ix2 (⟨t.val * 512 + a.val, by have := lt_N t; omega⟩ : Fin 8192) b : S8192x1024.Idx) := by
  blk_ext [idx_val t]

theorem emb_12 (t : Fin cfg0.N) (a : Fin 512) (b : Fin 1024) :
    ((cfg0.win 12).blk t).view.emb (ix2 a b) = (ix2 (⟨t.val * 512 + a.val, by have := lt_N t; omega⟩ : Fin 8192) b : S8192x1024.Idx) := by
  blk_ext [idx_val t]

theorem emb_9 (t : Fin cfg0.N) (b : Fin 1024) :
    ((cfg0.win 9).blk t).view.emb (ix3 0 0 b) = (ix3 (smp t) 0 b : S2x1x1024.Idx) := by
  blk_ext [idx_val t]

theorem emb_10 (t : Fin cfg0.N) (b : Fin 1024) :
    ((cfg0.win 10).blk t).view.emb (ix3 0 0 b) = (ix3 (smp t) 0 b : S2x1x1024.Idx) := by
  blk_ext [idx_val t]

theorem emb_11 (t : Fin cfg0.N) (b : Fin 1024) :
    ((cfg0.win 11).blk t).view.emb (ix3 0 0 b) = (ix3 (smp t) 0 b : S2x1x1024.Idx) := by
  blk_ext [idx_val t]

theorem emb_13 (t : Fin cfg0.N) (b : Fin 1024) :
    ((cfg0.win 13).blk t).view.emb (ix3 0 0 b) = (ix3 (smp t) 0 b : S2x1x1024.Idx) := by
  blk_ext [idx_val t]

theorem row_smp (t : Fin cfg0.N) (a : Fin 512) (h : (t.val * 512 + a.val) / 4096 < 2) : (⟨(t.val * 512 + a.val) / 4096, h⟩ : Fin 2) = smp t :=
  Fin.ext (by dsimp only; omega)

theorem row_tok (t : Fin cfg0.N) (a : Fin 512) (h : (t.val * 512 + a.val) % 4096 < 4096) : (⟨(t.val * 512 + a.val) % 4096, h⟩ : Fin 4096) = tok t a :=
  Fin.ext (by dsimp only; omega)

/-- a sample's eight grid points, a sum over a block's rows at each, are one sum over its tokens. -/
theorem sum_run (t : Fin cfg0.N) (ht : t.val % 8 = 7) (h : ∀ s : Fin 8, 8 * (t.val / 8) + s.val < cfg0.N) (f : Fin 2 → Fin 4096 → EReal) :
    ∑ s : Fin 8, ∑ a : Fin 512, f (smp ⟨8 * (t.val / 8) + s.val, h s⟩) (tok ⟨8 * (t.val / 8) + s.val, h s⟩ a) = ∑ r, f (smp t) r := by
  refine Fin.sum_mul_add_congr fun s k hl => ?_
  have h1 : smp ⟨8 * (t.val / 8) + s.val, h s⟩ = smp t := Fin.ext (by dsimp only; omega)
  have h2 : tok ⟨8 * (t.val / 8) + s.val, h s⟩ k = ⟨s.val * 512 + k.val, hl⟩ := Fin.ext (by dsimp only; omega)
  rw [h1, h2]

/-- the modulated block's cotangent at a grid point. -/
def dh (c : Dev nD) (t : Fin cfg0.N) : FVec Ideal S512x1024 .f32 :=
  k0_pay7 (iblk m c 0 t) (iblk m c 1 t)

theorem modCt_at (w : FVec Ideal S1024x1280 .f32) (d : FVec Ideal S2x4096x1280 .bf16) (s : Fin 2) (r : Fin 4096) (b : Fin 1024) :
    modCt w d (ix3 s r b) = ∑ k, d (ix3 s r k) * w (ix2 b k) := by
  pointwise [modCt]

theorem pay_dh (u : Vec Ideal S512x1280 .bf16) (v : Vec Ideal S1280x1024 .bf16) (r : Fin 512) (b : Fin 1024) :
    k0_pay7 (F := Ideal) u v (ix2 r b) = ∑ k, u (ix2 r k) * v (ix2 k b) := by
  pointwise [k0_pay7]

theorem dh_at (c : Dev nD) (t : Fin cfg0.N) (a : Fin 512) (b : Fin 1024) :
    dh m c t (ix2 a b) = modCt (m ((c : Thread nD τ).loc main_arg6)) (m ((c : Thread nD τ).loc main_arg8)) (ix3 (smp t) (tok t a) b) := by
  refine (pay_dh _ _ a b).trans ?_
  rw [modCt_at]
  simp only [blk_0 m c t, blk_1 m c t]

/-- the normed row, at coordinates. -/
theorem pay_hat (x : FVec Ideal S512x1024 .f32) (a : Fin 512) (j : Fin 1024) :
    k0_pay11 x (ix2 a j) = x (ix2 a j) * NormKit.normRow fun k => x (ix2 a k) := by
  pointwise [k0_pay11, k0_pay10, k0_pay8]; rfl

/-- the row derivative, at coordinates. -/
theorem pay_rows (D : FVec Ideal S512x1024 .f32) (x dr : FVec Ideal S512x1024 .f32) (g : FVec Ideal S1x1024 .f32) (sc : FVec Ideal S1x1x1024 .f32) (a : Fin 512) (b : Fin 1024) :
    k0_pay17 D (k0_pay9 g) (k0_pay10 x) (k0_pay11 x) sc dr (ix2 a b)
      = NormKit.rowFused (dr (ix2 a b)) (fun k => x (ix2 a k)) (fun k => D (ix2 a k) * (1 + sc (ix3 0 0 k)) * g (ix2 0 k)) b := by
  pointwise [k0_pay17, k0_pay15, k0_pay11, k0_pay10, k0_pay9, k0_pay8]; rfl

theorem zero_shift (y : S1x1x1024.Idx) : k0_pay3 (F := Ideal) y = 0 := by
  pointwise! [k0_pay3]

theorem pay_shift (u : Vec Ideal S512x1280 .bf16) (v : Vec Ideal S1280x1024 .bf16)  (acc : FVec Ideal S1x1x1024 .f32) (y : S1x1x1024.Idx) :
    k0_pay12 u v acc y = acc y + ∑ a : Fin 512, k0_pay7 u v (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  pointwise [k0_pay12, k0_pay7]

theorem zero_scale (y : S1x1x1024.Idx) : k0_pay4 (F := Ideal) y = 0 := by
  pointwise! [k0_pay4]

theorem pay_scale (D : FVec Ideal S512x1024 .f32) (x : FVec Ideal S512x1024 .f32) (g : FVec Ideal S1x1024 .f32) (acc : FVec Ideal S1x1x1024 .f32) (y : S1x1x1024.Idx) :
    k0_pay14 D (k0_pay9 g) (k0_pay11 x) (k0_pay13 acc) y = acc y + ∑ a : Fin 512, D (ix2 a (y 2)) * (k0_pay11 x (ix2 a (y 2)) * g (ix2 0 (y 2))) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  generalize k0_pay11 (F := Ideal) x = h
  pointwise [k0_pay14, k0_pay13, k0_pay9]

theorem zero_gain (y : S1x1x1024.Idx) : k0_pay5 (F := Ideal) y = 0 := by
  pointwise! [k0_pay5]

theorem pay_gain (D : FVec Ideal S512x1024 .f32) (x : FVec Ideal S512x1024 .f32) (sc : FVec Ideal S1x1x1024 .f32) (acc : FVec Ideal S1x1x1024 .f32) (y : S1x1x1024.Idx) :
    k0_pay16 D (k0_pay11 x) sc acc y = acc y + ∑ a : Fin 512, D (ix2 a (y 2)) * (1 + sc (ix3 0 0 (y 2))) * k0_pay11 x (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  generalize k0_pay11 (F := Ideal) x = h
  pointwise [k0_pay16, k0_pay15]

theorem zero_gate (y : S1x1x1024.Idx) : k0_pay6 (F := Ideal) y = 0 := by
  pointwise! [k0_pay6]

theorem pay_gate (D : FVec Ideal S512x1024 .f32) (x dr : FVec Ideal S512x1024 .f32) (g : FVec Ideal S1x1024 .f32) (sc : FVec Ideal S1x1x1024 .f32) (yy : FVec Ideal S512x1024 .bf16) (acc : FVec Ideal S1x1x1024 .f32) (y : S1x1x1024.Idx) :
    k0_pay2 (k0_pay17 D (k0_pay9 g) (k0_pay10 x) (k0_pay11 x) sc dr) acc yy y = acc y + ∑ a : Fin 512, k0_pay17 D (k0_pay9 g) (k0_pay10 x) (k0_pay11 x) sc dr (ix2 a (y 2)) * yy (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  simp only [k0_pay2]
  generalize k0_pay17 (F := Ideal) D (k0_pay9 g) (k0_pay10 x) (k0_pay11 x) sc dr = o
  pointwise

/-- the gated rows, at coordinates. -/
theorem pay_gated (D : FVec Ideal S512x1024 .f32) (x dr : FVec Ideal S512x1024 .f32) (g : FVec Ideal S1x1024 .f32) (sc w : FVec Ideal S1x1x1024 .f32) (a : Fin 512) (b : Fin 1024) :
    k0_pay1 (k0_pay17 D (k0_pay9 g) (k0_pay10 x) (k0_pay11 x) sc dr) w (ix2 a b) = k0_pay17 D (k0_pay9 g) (k0_pay10 x) (k0_pay11 x) sc dr (ix2 a b) * w (ix3 0 0 b) := by
  simp only [k0_pay1]
  generalize k0_pay17 (F := Ideal) D (k0_pay9 g) (k0_pay10 x) (k0_pay11 x) sc dr = o
  pointwise

/-- a point's normed rows. -/
theorem hat_at (c : Dev nD) (t : Fin cfg0.N) (a : Fin 512) (j : Fin 1024) :
    k0_pay11 (iblk m c 2 t) (ix2 a j)
      = inp (m ((c : Thread nD τ).loc main_arg0)) (m ((c : Thread nD τ).loc main_arg1)) (m ((c : Thread nD τ).loc main_arg2)) (ix3 (smp t) (tok t a) j) * NormKit.normRow fun k => inp (m ((c : Thread nD τ).loc main_arg0)) (m ((c : Thread nD τ).loc main_arg1)) (m ((c : Thread nD τ).loc main_arg2)) (ix3 (smp t) (tok t a) k) := by
  rw [pay_hat]
  simp only [blk_2 m c t]

/-- a point's rows, against the reference there. -/
theorem rows_at (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (ix3 b s k) * (1 + m ((c : Thread nD τ).loc main_arg4) (ix3 b 0 k)) * m ((c : Thread nD τ).loc main_arg3) (ix1 k))) (t : Fin cfg0.N) (a : Fin 512) (b : Fin 1024) :
    k0_pay17 (dh m c t) (k0_pay9 (iblk m c 4 t)) (k0_pay10 (iblk m c 2 t)) (k0_pay11 (iblk m c 2 t)) (iblk m c 5 t) (iblk m c 3 t) (ix2 a b)
      = NormKit.inputCt (inp (m ((c : Thread nD τ).loc main_arg0)) (m ((c : Thread nD τ).loc main_arg1)) (m ((c : Thread nD τ).loc main_arg2))) (modCt (m ((c : Thread nD τ).loc main_arg6)) (m ((c : Thread nD τ).loc main_arg8))) (m ((c : Thread nD τ).loc main_arg3)) (m ((c : Thread nD τ).loc main_arg4)) (m ((c : Thread nD τ).loc main_arg7)) (ix3 (smp t) (tok t a) b) := by
  refine (pay_rows (dh m c t) (iblk m c 2 t) (iblk m c 3 t) (iblk m c 4 t) (iblk m c 5 t) a b).trans ?_
  rw [NormKit.inputCt_at, ← NormKit.rowFused_eq _ _ _ (fun k => hx _) (fun k => ht _ _ _)]
  simp only [blk_2 m c t, blk_3 m c t, blk_4 m c t, blk_5 m c t, dh_at m c t]

/-- the array of window 8 after the run. -/
theorem final_8 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (ix3 b s k) * (1 + m ((c : Thread nD τ).loc main_arg4) (ix3 b 0 k)) * m ((c : Thread nD τ).loc main_arg3) (ix1 k))) :
    (dats m 0 c).arrAt 8 (cfgs 0).N
    = REF_v62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 8 _ (by decide +kernel) fun t hf y => ?_
  obtain ⟨a, b, rfl⟩ : ∃ (a : Fin 512) (b : Fin 1024), y = ix2 a b := ⟨y 0, y 1, eq_ix2 y⟩
  have key : k0_pay17 (dh m c t) (k0_pay9 (iblk m c 4 t)) (k0_pay10 (iblk m c 2 t)) (k0_pay11 (iblk m c 2 t)) (iblk m c 5 t) (iblk m c 3 t) (ix2 a b)
      = REF_v62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (ix2 (⟨t.val * 512 + a.val, by have := lt_N t; omega⟩ : Fin 8192) b) := by
    refine (rows_at m c hx ht t a b).trans (Eq.trans ?_ (NormKit.rowsCt_at _ _ _ _ _ _ _).symm)
    dsimp only
    rw [row_smp, row_tok]
  blk_simp; rw [after0_8, emb_8]
  by_cases h : t.val % 8 = 0
  · rw [outsAt0_A m c t h]; dsimp only; frame_out; exact key
  · rw [outsAt0_B m c t h]; dsimp only; frame_out; exact key

/-- the array of window 12 after the run. -/
theorem final_12 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (ix3 b s k) * (1 + m ((c : Thread nD τ).loc main_arg4) (ix3 b 0 k)) * m ((c : Thread nD τ).loc main_arg3) (ix1 k))) :
    (dats m 0 c).arrAt 12 (cfgs 0).N
    = REF_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 12 _ (by decide +kernel) fun t hf y => ?_
  obtain ⟨a, b, rfl⟩ : ∃ (a : Fin 512) (b : Fin 1024), y = ix2 a b := ⟨y 0, y 1, eq_ix2 y⟩
  have key : k0_pay1 (k0_pay17 (dh m c t) (k0_pay9 (iblk m c 4 t)) (k0_pay10 (iblk m c 2 t)) (k0_pay11 (iblk m c 2 t)) (iblk m c 5 t) (iblk m c 3 t)) (iblk m c 7 t) (ix2 a b)
      = REF_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (ix2 (⟨t.val * 512 + a.val, by have := lt_N t; omega⟩ : Fin 8192) b) := by
    refine (pay_gated (dh m c t) (iblk m c 2 t) (iblk m c 3 t) (iblk m c 4 t) (iblk m c 5 t) _ a b).trans (Eq.trans ?_ (NormKit.gatedCt_at _ _ _ _ _ _ _ _).symm)
    dsimp only
    rw [row_smp, row_tok]
    exact (Ideal.mul_congr (rows_at m c hx ht t a b) (blk_7 m c t b)).trans (mul_comm _ _)
  blk_simp; rw [after0_12, emb_12]
  by_cases h : t.val % 8 = 0
  · rw [outsAt0_A m c t h]; dsimp only; frame_out; exact key
  · rw [outsAt0_B m c t h]; dsimp only; frame_out; exact key

/-- what a point adds to window 9. -/
def part_9 (c : Dev nD) (t : Fin cfg0.N) (y : S1x1x1024.Idx) : EReal :=
  ∑ a : Fin 512, dh m c t (ix2 a (y 2))

/-- the array of window 9 after the run. -/
theorem final_9 (c : Dev nD)  :
    (dats m 0 c).arrAt 9 (cfgs 0).N
    = REF_v30 (m ((c : Thread nD τ).loc main_arg6)) (m ((c : Thread nD τ).loc main_arg8)) := by
  refine (dats m 0 c).arrAt_eq_of_covers 9 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_9 t).mp hf
  have key : ∑ s : Fin 8, part_9 m c ⟨8 * (t.val / 8) + s.val, Pipeline.run_point_lt_of_flush t hr s⟩ (ix3 0 0 j)
      = REF_v30 (m ((c : Thread nD τ).loc main_arg6)) (m ((c : Thread nD τ).loc main_arg8)) (ix3 (smp t) 0 j) := by
    refine Eq.trans ?_ ((sum_run t hr (fun s => Pipeline.run_point_lt_of_flush t hr s)
      fun b r => modCt (m ((c : Thread nD τ).loc main_arg6)) (m ((c : Thread nD τ).loc main_arg8)) (ix3 b r j)).trans (NormKit.shiftCt_at (modCt (m ((c : Thread nD τ).loc main_arg6)) (m ((c : Thread nD τ).loc main_arg8))) (smp t) j).symm)
    refine Finset.sum_congr rfl fun s _ => Finset.sum_congr rfl fun a _ => ?_
    exact dh_at m c _ a j
  blk_simp
  rw [after0_9, emb_9, Pipeline.eq_sum_fin_of_reset_step_apply_of_flush (fun n h => (outsAt0 m c n h).2.1) 8 (fun _ => 0) (part_9 m c)
    (fun t h j => by rw [outsAt0_A m c t h]; dsimp only; frame_out; exact (pay_shift _ _ _ j).trans (congrArg (· + _) (zero_shift j)))
    (fun t h j => by rw [outsAt0_B m c t h]; dsimp only; frame_out; exact pay_shift _ _ _ j)
    t hr _, zero_add]
  exact key

/-- what a point adds to window 10. -/
def part_10 (c : Dev nD) (t : Fin cfg0.N) (y : S1x1x1024.Idx) : EReal :=
  ∑ a : Fin 512, dh m c t (ix2 a (y 2)) * (k0_pay11 (iblk m c 2 t) (ix2 a (y 2)) * (iblk m c 4 t) (ix2 0 (y 2)))

/-- the array of window 10 after the run. -/
theorem final_10 (c : Dev nD)  :
    (dats m 0 c).arrAt 10 (cfgs 0).N
    = REF_v33 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) := by
  refine (dats m 0 c).arrAt_eq_of_covers 10 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_10 t).mp hf
  have key : ∑ s : Fin 8, part_10 m c ⟨8 * (t.val / 8) + s.val, Pipeline.run_point_lt_of_flush t hr s⟩ (ix3 0 0 j)
      = REF_v33 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) (ix3 (smp t) 0 j) := by
    refine Eq.trans ?_ ((sum_run t hr (fun s => Pipeline.run_point_lt_of_flush t hr s)
      fun b r => inp (m ((c : Thread nD τ).loc main_arg0)) (m ((c : Thread nD τ).loc main_arg1)) (m ((c : Thread nD τ).loc main_arg2)) (ix3 b r j) * NormKit.normRow (fun k => inp (m ((c : Thread nD τ).loc main_arg0)) (m ((c : Thread nD τ).loc main_arg1)) (m ((c : Thread nD τ).loc main_arg2)) (ix3 b r k)) * (m ((c : Thread nD τ).loc main_arg3)) (ix1 j) * modCt (m ((c : Thread nD τ).loc main_arg6)) (m ((c : Thread nD τ).loc main_arg8)) (ix3 b r j)).trans (NormKit.scaleCt_at (inp (m ((c : Thread nD τ).loc main_arg0)) (m ((c : Thread nD τ).loc main_arg1)) (m ((c : Thread nD τ).loc main_arg2))) (modCt (m ((c : Thread nD τ).loc main_arg6)) (m ((c : Thread nD τ).loc main_arg8))) (m ((c : Thread nD τ).loc main_arg3)) (smp t) j).symm)
    refine Finset.sum_congr rfl fun s _ => Finset.sum_congr rfl fun a _ => ?_
    exact (mul_comm _ _).trans (Ideal.mul_congr (Ideal.mul_congr (hat_at m c _ a j) (blk_4 m c _ j)) (dh_at m c _ a j))
  blk_simp
  rw [after0_10, emb_10, Pipeline.eq_sum_fin_of_reset_step_apply_of_flush (fun n h => (outsAt0 m c n h).2.2.1) 8 (fun _ => 0) (part_10 m c)
    (fun t h j => by rw [outsAt0_A m c t h]; dsimp only; frame_out; exact (pay_scale (dh m c t) (iblk m c 2 t) (iblk m c 4 t) _ j).trans (congrArg (· + _) (zero_scale j)))
    (fun t h j => by rw [outsAt0_B m c t h]; dsimp only; frame_out; exact pay_scale (dh m c t) (iblk m c 2 t) (iblk m c 4 t) _ j)
    t hr _, zero_add]
  exact key

/-- what a point adds to window 11. -/
def part_11 (c : Dev nD) (t : Fin cfg0.N) (y : S1x1x1024.Idx) : EReal :=
  ∑ a : Fin 512, dh m c t (ix2 a (y 2)) * (1 + (iblk m c 5 t) (ix3 0 0 (y 2))) * k0_pay11 (iblk m c 2 t) (ix2 a (y 2))

/-- the array of window 11 after the run. -/
theorem final_11 (c : Dev nD)  :
    (dats m 0 c).arrAt 11 (cfgs 0).N
    = REF_v38 (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) := by
  refine (dats m 0 c).arrAt_eq_of_covers 11 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_11 t).mp hf
  have key : ∑ s : Fin 8, part_11 m c ⟨8 * (t.val / 8) + s.val, Pipeline.run_point_lt_of_flush t hr s⟩ (ix3 0 0 j)
      = REF_v38 (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (ix3 (smp t) 0 j) := by
    refine Eq.trans ?_ ((sum_run t hr (fun s => Pipeline.run_point_lt_of_flush t hr s)
      fun b r => inp (m ((c : Thread nD τ).loc main_arg0)) (m ((c : Thread nD τ).loc main_arg1)) (m ((c : Thread nD τ).loc main_arg2)) (ix3 b r j) * NormKit.normRow (fun k => inp (m ((c : Thread nD τ).loc main_arg0)) (m ((c : Thread nD τ).loc main_arg1)) (m ((c : Thread nD τ).loc main_arg2)) (ix3 b r k)) * (modCt (m ((c : Thread nD τ).loc main_arg6)) (m ((c : Thread nD τ).loc main_arg8)) (ix3 b r j) * (1 + (m ((c : Thread nD τ).loc main_arg4)) (ix3 b 0 j)))).trans (NormKit.gainCt_at (inp (m ((c : Thread nD τ).loc main_arg0)) (m ((c : Thread nD τ).loc main_arg1)) (m ((c : Thread nD τ).loc main_arg2))) (modCt (m ((c : Thread nD τ).loc main_arg6)) (m ((c : Thread nD τ).loc main_arg8))) (m ((c : Thread nD τ).loc main_arg4)) (smp t) j).symm)
    refine Finset.sum_congr rfl fun s _ => Finset.sum_congr rfl fun a _ => ?_
    exact (mul_comm _ _).trans (Ideal.mul_congr (hat_at m c _ a j) (Ideal.mul_congr (dh_at m c _ a j) (congrArg (1 + ·) (blk_5 m c _ j))))
  blk_simp
  rw [after0_11, emb_11, Pipeline.eq_sum_fin_of_reset_step_apply_of_flush (fun n h => (outsAt0 m c n h).2.2.2.1) 8 (fun _ => 0) (part_11 m c)
    (fun t h j => by rw [outsAt0_A m c t h]; dsimp only; frame_out; exact (pay_gain (dh m c t) (iblk m c 2 t) (iblk m c 5 t) _ j).trans (congrArg (· + _) (zero_gain j)))
    (fun t h j => by rw [outsAt0_B m c t h]; dsimp only; frame_out; exact pay_gain (dh m c t) (iblk m c 2 t) (iblk m c 5 t) _ j)
    t hr _, zero_add]
  exact key

/-- what a point adds to window 13. -/
def part_13 (c : Dev nD) (t : Fin cfg0.N) (y : S1x1x1024.Idx) : EReal :=
  ∑ a : Fin 512, k0_pay17 (dh m c t) (k0_pay9 (iblk m c 4 t)) (k0_pay10 (iblk m c 2 t)) (k0_pay11 (iblk m c 2 t)) (iblk m c 5 t) (iblk m c 3 t) (ix2 a (y 2)) * (iblk m c 6 t) (ix2 a (y 2))

/-- the array of window 13 after the run. -/
theorem final_13 (c : Dev nD) (hx : ∀ i, RealKit.Fin' (inp (m ((c : Thread nD τ).loc main_arg0)) (m ((c : Thread nD τ).loc main_arg1)) (m ((c : Thread nD τ).loc main_arg2)) i))
    (ht : ∀ b s k, RealKit.Fin' (modCt (m ((c : Thread nD τ).loc main_arg6)) (m ((c : Thread nD τ).loc main_arg8)) (ix3 b s k) * (1 + m ((c : Thread nD τ).loc main_arg4) (ix3 b 0 k)) * m ((c : Thread nD τ).loc main_arg3) (ix1 k))) :
    (dats m 0 c).arrAt 13 (cfgs 0).N
    = REF_v61 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 13 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_13 t).mp hf
  have key : ∑ s : Fin 8, part_13 m c ⟨8 * (t.val / 8) + s.val, Pipeline.run_point_lt_of_flush t hr s⟩ (ix3 0 0 j)
      = REF_v61 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (ix3 (smp t) 0 j) := by
    refine Eq.trans ?_ ((sum_run t hr (fun s => Pipeline.run_point_lt_of_flush t hr s)
      fun b r => NormKit.inputCt (inp (m ((c : Thread nD τ).loc main_arg0)) (m ((c : Thread nD τ).loc main_arg1)) (m ((c : Thread nD τ).loc main_arg2))) (modCt (m ((c : Thread nD τ).loc main_arg6)) (m ((c : Thread nD τ).loc main_arg8))) (m ((c : Thread nD τ).loc main_arg3)) (m ((c : Thread nD τ).loc main_arg4)) (m ((c : Thread nD τ).loc main_arg7)) (ix3 b r j) * (m ((c : Thread nD τ).loc main_arg1)) (ix3 b r j)).trans (NormKit.gateCt_at (inp (m ((c : Thread nD τ).loc main_arg0)) (m ((c : Thread nD τ).loc main_arg1)) (m ((c : Thread nD τ).loc main_arg2))) (modCt (m ((c : Thread nD τ).loc main_arg6)) (m ((c : Thread nD τ).loc main_arg8))) (m ((c : Thread nD τ).loc main_arg7)) (m ((c : Thread nD τ).loc main_arg3)) (m ((c : Thread nD τ).loc main_arg4)) (m ((c : Thread nD τ).loc main_arg1)) (smp t) j).symm)
    refine Finset.sum_congr rfl fun s _ => Finset.sum_congr rfl fun a _ => ?_
    exact Ideal.mul_congr (rows_at m c hx ht _ a j) (blk_6 m c _ a j)
  blk_simp
  rw [after0_13, emb_13, Pipeline.eq_sum_fin_of_reset_step_apply_of_flush (fun n h => (outsAt0 m c n h).2.2.2.2.2) 8 (fun _ => 0) (part_13 m c)
    (fun t h j => by rw [outsAt0_A m c t h]; dsimp only; frame_out; exact (pay_gate (dh m c t) (iblk m c 2 t) (iblk m c 3 t) (iblk m c 4 t) (iblk m c 5 t) (iblk m c 6 t) _ j).trans (congrArg (· + _) (zero_gate j)))
    (fun t h j => by rw [outsAt0_B m c t h]; dsimp only; frame_out; exact pay_gate (dh m c t) (iblk m c 2 t) (iblk m c 3 t) (iblk m c 4 t) (iblk m c 5 t) (iblk m c 6 t) _ j)
    t hr _, zero_add]
  exact key

end Cert.NormAKernelIdeal.Value

end
-- ==== Proof.NormAClaim.lean ====
/- The claims about `NormAKernel`, its idealization and its reference. -/
module

public import proofs.«01_k».proof.Defs
public import proofs.«01_k».proof.Proof.Gen.NormAKernel.Frame
public import proofs.«01_k».proof.Proof.Gen.NormAKernelIdeal.Frame
public import proofs.«01_k».proof.Proof.Gen.NormAReferenceIdeal.Run
public import proofs.«01_k».proof.Proof.NormAValue
public import proofs.«01_k».proof.Proof.NormPre
public import Idealize.ShloMosaic.Lib.Claim

@[expose] public section

set_option maxRecDepth 16384

noncomputable section

namespace Cert.Proof.NormA

open Idealize.ShloMosaic Idealize.ShloMosaic.TcCoe Idealize.SL.Sem

instance : Cert.NormAKernel.Facts := Cert.NormAKernel.Gen.facts
instance : Cert.NormAKernelIdeal.Facts := Cert.NormAKernelIdeal.Gen.facts
instance : Cert.NormAReferenceIdeal.Facts := Cert.NormAReferenceIdeal.Gen.facts
instance : Cert.Pre_finite_norm1a.Facts := FinitePre.finite_norm1a_facts

/-- the kernel's thread on a device. -/
abbrev tK (c : Dev Cert.NormAKernelIdeal.nD) : Thread Cert.NormAKernelIdeal.nD Cert.NormAKernelIdeal.τ := c.tc

/-- the reference's thread on a device. -/
abbrev tR (c : Dev Cert.NormAReferenceIdeal.nD) : Thread Cert.NormAReferenceIdeal.nD Cert.NormAReferenceIdeal.τ := c.tc

/-- a memory of the kernel's program. -/
abbrev MemK := (ℓ : Loc Cert.NormAKernelIdeal.nD Cert.NormAKernelIdeal.τ Cert.NormAKernelIdeal.sig) → Buf (Elt Ideal) ℓ

/-- a memory of the reference's program. -/
abbrev MemR := (ℓ : Loc Cert.NormAReferenceIdeal.nD Cert.NormAReferenceIdeal.τ Cert.NormAReferenceIdeal.sig) → Buf (Elt Ideal) ℓ

/-- the printed kernel's frame. -/
theorem frame_p : Cert.quiescent_NormAKernel := fun m ρ _ => Cert.NormAKernel.Gen.frame m ρ

/-- the idealized kernel's frame. -/
theorem frame_pi : Cert.quiescent_NormAKernelIdeal := fun m ρ _ => Cert.NormAKernelIdeal.Gen.frame m ρ

/-- the reference's frame: it declares no semaphore. -/
theorem frame_ri : Cert.quiescent_NormAReferenceIdeal := fun m g _ =>
  (θ_run Cert.NormAReferenceIdeal.defs _ _).mono
    (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩, sem_eq_zero_of_no_sems (by decide) r.2⟩)
    (Cert.NormAReferenceIdeal.Value.run m g)

/-- the idealized kernel's frame under the precondition. -/
theorem frame_pi_pre : Cert.quiescent_NormAKernelIdeal_pre_finite_norm1a := fun m ρ _ => Cert.NormAKernelIdeal.Gen.frame m ρ

/-- the reference's frame under the precondition. -/
theorem frame_ri_pre : Cert.quiescent_NormAReferenceIdeal_pre_finite_norm1a := fun m g _ => frame_ri m g trivial

theorem inp_at (a0 : FVec Ideal Cert.NormAReferenceIdeal.S2x4096x1024 .f32) (a1 : FVec Ideal Cert.NormAReferenceIdeal.S2x4096x1024 .bf16) (a2 : FVec Ideal Cert.NormAReferenceIdeal.S2x1x1024 .f32) (s : Fin 2) (r : Fin 4096) (k : Fin 1024) :
    Cert.NormAReferenceIdeal.Value.inp a0 a1 a2 (ix3 s r k) = a0 (ix3 s r k) + a2 (ix3 s 0 k) * a1 (ix3 s r k) := by
  pointwise [Cert.NormAReferenceIdeal.Value.inp]

/-- the array that is normed is finite. -/
theorem fin_inp (m : MemK) (c : Dev Cert.NormAKernelIdeal.nD) (hpre : Cert.Pre_NormAKernelIdeal_finite_norm1a m) (i) :
    RealKit.Fin' (Cert.NormAReferenceIdeal.Value.inp (m ((tK c).loc Cert.NormAKernelIdeal.main_arg0)) (m ((tK c).loc Cert.NormAKernelIdeal.main_arg1)) (m ((tK c).loc Cert.NormAKernelIdeal.main_arg2)) i) := by
  rw [eq_ix3 i]
  exact (inp_at ..).symm ▸ FinitePre.fin_add (FinitePre.finite_norm1a_x _ _ _ _ _ _ _ _ _ (hpre c) _)
    (FinitePre.fin_mul (FinitePre.finite_norm1a_g _ _ _ _ _ _ _ _ _ (hpre c) _) (FinitePre.finite_norm1a_y _ _ _ _ _ _ _ _ _ (hpre c) _))

/-- the cotangent of the normed array is finite. -/
theorem fin_ct (m : MemK) (c : Dev Cert.NormAKernelIdeal.nD) (hpre : Cert.Pre_NormAKernelIdeal_finite_norm1a m) (b : Fin 2) (s : Fin 4096) (k : Fin 1024) :
    RealKit.Fin' (Cert.NormAReferenceIdeal.Value.modCt (m ((tK c).loc Cert.NormAKernelIdeal.main_arg6)) (m ((tK c).loc Cert.NormAKernelIdeal.main_arg8)) (ix3 b s k) * (1 + (m ((tK c).loc Cert.NormAKernelIdeal.main_arg4)) (ix3 b 0 k)) * (m ((tK c).loc Cert.NormAKernelIdeal.main_arg3)) (ix1 k)) := by
  rw [Cert.NormAKernelIdeal.Value.modCt_at]
  exact FinitePre.fin_mul (FinitePre.fin_mul ((FinitePre.fin_sum fun k => FinitePre.fin_mul (FinitePre.finite_norm1a_p _ _ _ _ _ _ _ _ _ (hpre c) _) (FinitePre.finite_norm1a_w _ _ _ _ _ _ _ _ _ (hpre c) _)))
    (FinitePre.fin_add FinitePre.fin_one (FinitePre.finite_norm1a_sc _ _ _ _ _ _ _ _ _ (hpre c) _))) (FinitePre.finite_norm1a_gain _ _ _ _ _ _ _ _ _ (hpre c) _)

/-- the reference's term for window 8's array, at the kernel's arguments. -/
theorem out_8 (m : MemK)
    (m' : MemR) (c : Dev Cert.NormAKernelIdeal.nD)
    (hpre : Cert.Pre_NormAKernelIdeal_finite_norm1a m)
    (a0 : m' ((tR c).loc Cert.NormAReferenceIdeal.main_arg0) = m ((tK c).loc Cert.NormAKernelIdeal.main_arg0))
    (a1 : m' ((tR c).loc Cert.NormAReferenceIdeal.main_arg1) = m ((tK c).loc Cert.NormAKernelIdeal.main_arg1))
    (a2 : m' ((tR c).loc Cert.NormAReferenceIdeal.main_arg2) = m ((tK c).loc Cert.NormAKernelIdeal.main_arg2))
    (a3 : m' ((tR c).loc Cert.NormAReferenceIdeal.main_arg3) = m ((tK c).loc Cert.NormAKernelIdeal.main_arg3))
    (a4 : m' ((tR c).loc Cert.NormAReferenceIdeal.main_arg4) = m ((tK c).loc Cert.NormAKernelIdeal.main_arg4))
    (a6 : m' ((tR c).loc Cert.NormAReferenceIdeal.main_arg6) = m ((tK c).loc Cert.NormAKernelIdeal.main_arg6))
    (a7 : m' ((tR c).loc Cert.NormAReferenceIdeal.main_arg7) = m ((tK c).loc Cert.NormAKernelIdeal.main_arg7))
    (a8 : m' ((tR c).loc Cert.NormAReferenceIdeal.main_arg8) = m ((tK c).loc Cert.NormAKernelIdeal.main_arg8)) :
    Cert.NormAReferenceIdeal.Value.REF_v62 (m' ((tR c).loc Cert.NormAReferenceIdeal.main_arg0)) (m' ((tR c).loc Cert.NormAReferenceIdeal.main_arg1)) (m' ((tR c).loc Cert.NormAReferenceIdeal.main_arg2)) (m' ((tR c).loc Cert.NormAReferenceIdeal.main_arg3)) (m' ((tR c).loc Cert.NormAReferenceIdeal.main_arg4)) (m' ((tR c).loc Cert.NormAReferenceIdeal.main_arg6)) (m' ((tR c).loc Cert.NormAReferenceIdeal.main_arg7)) (m' ((tR c).loc Cert.NormAReferenceIdeal.main_arg8))
      = (Cert.NormAKernelIdeal.Gen.dats m 0 c).arrAt 8 (Cert.NormAKernelIdeal.cfgs 0).N := by
  rw [a0, a1, a2, a3, a4, a6, a7, a8]
  exact (Cert.NormAKernelIdeal.Value.final_8 m c (fin_inp m c hpre) (fin_ct m c hpre)).symm

/-- the reference's term for window 9's array, at the kernel's arguments. -/
theorem out_9 (m : MemK)
    (m' : MemR) (c : Dev Cert.NormAKernelIdeal.nD)
    (a6 : m' ((tR c).loc Cert.NormAReferenceIdeal.main_arg6) = m ((tK c).loc Cert.NormAKernelIdeal.main_arg6))
    (a8 : m' ((tR c).loc Cert.NormAReferenceIdeal.main_arg8) = m ((tK c).loc Cert.NormAKernelIdeal.main_arg8)) :
    Cert.NormAReferenceIdeal.Value.REF_v30 (m' ((tR c).loc Cert.NormAReferenceIdeal.main_arg6)) (m' ((tR c).loc Cert.NormAReferenceIdeal.main_arg8))
      = (Cert.NormAKernelIdeal.Gen.dats m 0 c).arrAt 9 (Cert.NormAKernelIdeal.cfgs 0).N := by
  rw [a6, a8]
  exact (Cert.NormAKernelIdeal.Value.final_9 m c).symm

/-- the reference's term for window 10's array, at the kernel's arguments. -/
theorem out_10 (m : MemK)
    (m' : MemR) (c : Dev Cert.NormAKernelIdeal.nD)
    (a0 : m' ((tR c).loc Cert.NormAReferenceIdeal.main_arg0) = m ((tK c).loc Cert.NormAKernelIdeal.main_arg0))
    (a1 : m' ((tR c).loc Cert.NormAReferenceIdeal.main_arg1) = m ((tK c).loc Cert.NormAKernelIdeal.main_arg1))
    (a2 : m' ((tR c).loc Cert.NormAReferenceIdeal.main_arg2) = m ((tK c).loc Cert.NormAKernelIdeal.main_arg2))
    (a3 : m' ((tR c).loc Cert.NormAReferenceIdeal.main_arg3) = m ((tK c).loc Cert.NormAKernelIdeal.main_arg3))
    (a6 : m' ((tR c).loc Cert.NormAReferenceIdeal.main_arg6) = m ((tK c).loc Cert.NormAKernelIdeal.main_arg6))
    (a8 : m' ((tR c).loc Cert.NormAReferenceIdeal.main_arg8) = m ((tK c).loc Cert.NormAKernelIdeal.main_arg8)) :
    Cert.NormAReferenceIdeal.Value.REF_v33 (m' ((tR c).loc Cert.NormAReferenceIdeal.main_arg0)) (m' ((tR c).loc Cert.NormAReferenceIdeal.main_arg1)) (m' ((tR c).loc Cert.NormAReferenceIdeal.main_arg2)) (m' ((tR c).loc Cert.NormAReferenceIdeal.main_arg3)) (m' ((tR c).loc Cert.NormAReferenceIdeal.main_arg6)) (m' ((tR c).loc Cert.NormAReferenceIdeal.main_arg8))
      = (Cert.NormAKernelIdeal.Gen.dats m 0 c).arrAt 10 (Cert.NormAKernelIdeal.cfgs 0).N := by
  rw [a0, a1, a2, a3, a6, a8]
  exact (Cert.NormAKernelIdeal.Value.final_10 m c).symm

/-- the reference's term for window 11's array, at the kernel's arguments. -/
theorem out_11 (m : MemK)
    (m' : MemR) (c : Dev Cert.NormAKernelIdeal.nD)
    (a0 : m' ((tR c).loc Cert.NormAReferenceIdeal.main_arg0) = m ((tK c).loc Cert.NormAKernelIdeal.main_arg0))
    (a1 : m' ((tR c).loc Cert.NormAReferenceIdeal.main_arg1) = m ((tK c).loc Cert.NormAKernelIdeal.main_arg1))
    (a2 : m' ((tR c).loc Cert.NormAReferenceIdeal.main_arg2) = m ((tK c).loc Cert.NormAKernelIdeal.main_arg2))
    (a4 : m' ((tR c).loc Cert.NormAReferenceIdeal.main_arg4) = m ((tK c).loc Cert.NormAKernelIdeal.main_arg4))
    (a6 : m' ((tR c).loc Cert.NormAReferenceIdeal.main_arg6) = m ((tK c).loc Cert.NormAKernelIdeal.main_arg6))
    (a8 : m' ((tR c).loc Cert.NormAReferenceIdeal.main_arg8) = m ((tK c).loc Cert.NormAKernelIdeal.main_arg8)) :
    Cert.NormAReferenceIdeal.Value.REF_v38 (m' ((tR c).loc Cert.NormAReferenceIdeal.main_arg0)) (m' ((tR c).loc Cert.NormAReferenceIdeal.main_arg1)) (m' ((tR c).loc Cert.NormAReferenceIdeal.main_arg2)) (m' ((tR c).loc Cert.NormAReferenceIdeal.main_arg4)) (m' ((tR c).loc Cert.NormAReferenceIdeal.main_arg6)) (m' ((tR c).loc Cert.NormAReferenceIdeal.main_arg8))
      = (Cert.NormAKernelIdeal.Gen.dats m 0 c).arrAt 11 (Cert.NormAKernelIdeal.cfgs 0).N := by
  rw [a0, a1, a2, a4, a6, a8]
  exact (Cert.NormAKernelIdeal.Value.final_11 m c).symm

/-- the reference's term for window 12's array, at the kernel's arguments. -/
theorem out_12 (m : MemK)
    (m' : MemR) (c : Dev Cert.NormAKernelIdeal.nD)
    (hpre : Cert.Pre_NormAKernelIdeal_finite_norm1a m)
    (a0 : m' ((tR c).loc Cert.NormAReferenceIdeal.main_arg0) = m ((tK c).loc Cert.NormAKernelIdeal.main_arg0))
    (a1 : m' ((tR c).loc Cert.NormAReferenceIdeal.main_arg1) = m ((tK c).loc Cert.NormAKernelIdeal.main_arg1))
    (a2 : m' ((tR c).loc Cert.NormAReferenceIdeal.main_arg2) = m ((tK c).loc Cert.NormAKernelIdeal.main_arg2))
    (a3 : m' ((tR c).loc Cert.NormAReferenceIdeal.main_arg3) = m ((tK c).loc Cert.NormAKernelIdeal.main_arg3))
    (a4 : m' ((tR c).loc Cert.NormAReferenceIdeal.main_arg4) = m ((tK c).loc Cert.NormAKernelIdeal.main_arg4))
    (a6 : m' ((tR c).loc Cert.NormAReferenceIdeal.main_arg6) = m ((tK c).loc Cert.NormAKernelIdeal.main_arg6))
    (a7 : m' ((tR c).loc Cert.NormAReferenceIdeal.main_arg7) = m ((tK c).loc Cert.NormAKernelIdeal.main_arg7))
    (a8 : m' ((tR c).loc Cert.NormAReferenceIdeal.main_arg8) = m ((tK c).loc Cert.NormAKernelIdeal.main_arg8)) :
    Cert.NormAReferenceIdeal.Value.REF_v64 (m' ((tR c).loc Cert.NormAReferenceIdeal.main_arg0)) (m' ((tR c).loc Cert.NormAReferenceIdeal.main_arg1)) (m' ((tR c).loc Cert.NormAReferenceIdeal.main_arg2)) (m' ((tR c).loc Cert.NormAReferenceIdeal.main_arg3)) (m' ((tR c).loc Cert.NormAReferenceIdeal.main_arg4)) (m' ((tR c).loc Cert.NormAReferenceIdeal.main_arg6)) (m' ((tR c).loc Cert.NormAReferenceIdeal.main_arg7)) (m' ((tR c).loc Cert.NormAReferenceIdeal.main_arg8))
      = (Cert.NormAKernelIdeal.Gen.dats m 0 c).arrAt 12 (Cert.NormAKernelIdeal.cfgs 0).N := by
  rw [a0, a1, a2, a3, a4, a6, a7, a8]
  exact (Cert.NormAKernelIdeal.Value.final_12 m c (fin_inp m c hpre) (fin_ct m c hpre)).symm

/-- the reference's term for window 13's array, at the kernel's arguments. -/
theorem out_13 (m : MemK)
    (m' : MemR) (c : Dev Cert.NormAKernelIdeal.nD)
    (hpre : Cert.Pre_NormAKernelIdeal_finite_norm1a m)
    (a0 : m' ((tR c).loc Cert.NormAReferenceIdeal.main_arg0) = m ((tK c).loc Cert.NormAKernelIdeal.main_arg0))
    (a1 : m' ((tR c).loc Cert.NormAReferenceIdeal.main_arg1) = m ((tK c).loc Cert.NormAKernelIdeal.main_arg1))
    (a2 : m' ((tR c).loc Cert.NormAReferenceIdeal.main_arg2) = m ((tK c).loc Cert.NormAKernelIdeal.main_arg2))
    (a3 : m' ((tR c).loc Cert.NormAReferenceIdeal.main_arg3) = m ((tK c).loc Cert.NormAKernelIdeal.main_arg3))
    (a4 : m' ((tR c).loc Cert.NormAReferenceIdeal.main_arg4) = m ((tK c).loc Cert.NormAKernelIdeal.main_arg4))
    (a6 : m' ((tR c).loc Cert.NormAReferenceIdeal.main_arg6) = m ((tK c).loc Cert.NormAKernelIdeal.main_arg6))
    (a7 : m' ((tR c).loc Cert.NormAReferenceIdeal.main_arg7) = m ((tK c).loc Cert.NormAKernelIdeal.main_arg7))
    (a8 : m' ((tR c).loc Cert.NormAReferenceIdeal.main_arg8) = m ((tK c).loc Cert.NormAKernelIdeal.main_arg8)) :
    Cert.NormAReferenceIdeal.Value.REF_v61 (m' ((tR c).loc Cert.NormAReferenceIdeal.main_arg0)) (m' ((tR c).loc Cert.NormAReferenceIdeal.main_arg1)) (m' ((tR c).loc Cert.NormAReferenceIdeal.main_arg2)) (m' ((tR c).loc Cert.NormAReferenceIdeal.main_arg3)) (m' ((tR c).loc Cert.NormAReferenceIdeal.main_arg4)) (m' ((tR c).loc Cert.NormAReferenceIdeal.main_arg6)) (m' ((tR c).loc Cert.NormAReferenceIdeal.main_arg7)) (m' ((tR c).loc Cert.NormAReferenceIdeal.main_arg8))
      = (Cert.NormAKernelIdeal.Gen.dats m 0 c).arrAt 13 (Cert.NormAKernelIdeal.cfgs 0).N := by
  rw [a0, a1, a2, a3, a4, a6, a7, a8]
  exact (Cert.NormAKernelIdeal.Value.final_13 m c (fin_inp m c hpre) (fin_ct m c hpre)).symm

/-- the idealized kernel computes the derivative of the forward lines. -/
theorem algebraic : Cert.algebraic_NormAKernelIdeal_NormAReferenceIdeal_pre_finite_norm1a := by
  intro m g m' g' hpre hagree
  refine ⟨fun c => (Cert.NormAKernelIdeal.Gen.dats m 0 c).arrAt 8 (Cert.NormAKernelIdeal.cfgs 0).N, fun c => (Cert.NormAKernelIdeal.Gen.dats m 0 c).arrAt 9 (Cert.NormAKernelIdeal.cfgs 0).N, fun c => (Cert.NormAKernelIdeal.Gen.dats m 0 c).arrAt 10 (Cert.NormAKernelIdeal.cfgs 0).N, fun c => (Cert.NormAKernelIdeal.Gen.dats m 0 c).arrAt 11 (Cert.NormAKernelIdeal.cfgs 0).N, fun c => (Cert.NormAKernelIdeal.Gen.dats m 0 c).arrAt 12 (Cert.NormAKernelIdeal.cfgs 0).N, fun c => (Cert.NormAKernelIdeal.Gen.dats m 0 c).arrAt 13 (Cert.NormAKernelIdeal.cfgs 0).N, ?_, ?_⟩
  · exact (θ_run Cert.NormAKernelIdeal.defs _ _).mono
      (fun r h c => ⟨(h.1 c).1 8, (h.1 c).1 9, (h.1 c).1 10, (h.1 c).1 11, (h.1 c).1 12, (h.1 c).1 13, (h.2.1 c).1, (h.2.1 c).2.1, (h.2.1 c).2.2.1, (h.2.1 c).2.2.2.1, (h.2.1 c).2.2.2.2.1, (h.2.1 c).2.2.2.2.2.1, (h.2.1 c).2.2.2.2.2.2.1, (h.2.1 c).2.2.2.2.2.2.2.1, (h.2.1 c).2.2.2.2.2.2.2.2⟩)
      (θ_run_and (Cert.NormAKernelIdeal.Gen.run_main m g) (Cert.NormAKernelIdeal.Gen.frame m g))
  · exact (θ_run Cert.NormAReferenceIdeal.defs _ _).mono
      (fun r h c => ⟨(h c).1.trans ((Cert.NormAReferenceIdeal.Value.res_v62 m' c).trans (out_8 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2)), (h c).2.1.trans (out_9 m m' c (hagree c).2.2.2.2.2.2.1 (hagree c).2.2.2.2.2.2.2.2), (h c).2.2.1.trans (out_10 m m' c (hagree c).1 (hagree c).2.1 (hagree c).2.2.1 (hagree c).2.2.2.1 (hagree c).2.2.2.2.2.2.1 (hagree c).2.2.2.2.2.2.2.2), (h c).2.2.2.1.trans (out_11 m m' c (hagree c).1 (hagree c).2.1 (hagree c).2.2.1 (hagree c).2.2.2.2.1 (hagree c).2.2.2.2.2.2.1 (hagree c).2.2.2.2.2.2.2.2), (h c).2.2.2.2.1.trans ((Cert.NormAReferenceIdeal.Value.res_v64 m' c).trans (out_12 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2)), (h c).2.2.2.2.2.1.trans ((Cert.NormAReferenceIdeal.Value.res_v61 m' c).trans (out_13 m m' c hpre (hagree c).1 (hagree c).2.1 (hagree c).2.2.1 (hagree c).2.2.2.1 (hagree c).2.2.2.2.1 (hagree c).2.2.2.2.2.2.1 (hagree c).2.2.2.2.2.2.2.1 (hagree c).2.2.2.2.2.2.2.2)),
        (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩)
      (Cert.NormAReferenceIdeal.Value.run m' g')

end Cert.Proof.NormA

end
-- ==== Proof.NormZRef.lean ====
/- The reference results of `Cert.NormZReferenceIdeal` as named functions of its arguments. -/
module

public import proofs.«01_k».proof.Proof.Gen.NormZReferenceIdeal.Run
public import proofs.«01_k».proof.Proof.NormKit

@[expose] public section

set_option maxRecDepth 16384

noncomputable section

namespace Cert.NormZReferenceIdeal.Value

open Cert.NormZReferenceIdeal Cert.NormZReferenceIdeal.Gen Idealize.ShloMosaic Idealize.ShloMosaic.TcCoe Idealize.SL.Sem Idealize.ShloMosaic.StableHlo

/-- the array that is normed. -/
def inp (a0 : FVec Ideal S2x4096x1024 .f32) : FVec Ideal S2x4096x1024 .f32 :=
  a0

/-- the cotangent of the modulated array. -/
def modCt (a4 : FVec Ideal S1024x1280 .f32) (a6 : FVec Ideal S2x4096x1280 .bf16) : FVec Ideal S2x4096x1024 .f32 :=
  Host.dotGeneral dot_S2x4096x1280_S1024x1280_S2x4096x1024_2_1_01_0_n_n none (extf .f32 a6 bitsLt_bf16_f32) a4

/-- What the reference leaves in `main_v52`. -/
def REF_v52 (a0 : FVec Ideal S2x4096x1024 .f32) (a1 : FVec Ideal S1024 .f32) (a2 : FVec Ideal S2x1x1024 .f32) (a4 : FVec Ideal S1024x1280 .f32) (a5 : FVec Ideal S2x4096x1024 .f32) (a6 : FVec Ideal S2x4096x1280 .bf16) : FVec Ideal S8192x1024 .f32 :=
  NormKit.rowsCt (inp a0) (modCt a4 a6) a1 a2 a5

/-- What the reference leaves in `main_v26`. -/
def REF_v26 (a4 : FVec Ideal S1024x1280 .f32) (a6 : FVec Ideal S2x4096x1280 .bf16) : FVec Ideal S2x1x1024 .f32 :=
  NormKit.shiftCt (modCt a4 a6)

/-- What the reference leaves in `main_v29`. -/
def REF_v29 (a0 : FVec Ideal S2x4096x1024 .f32) (a1 : FVec Ideal S1024 .f32) (a4 : FVec Ideal S1024x1280 .f32) (a6 : FVec Ideal S2x4096x1280 .bf16) : FVec Ideal S2x1x1024 .f32 :=
  NormKit.scaleCt (inp a0) (modCt a4 a6) a1

/-- What the reference leaves in `main_v34`. -/
def REF_v34 (a0 : FVec Ideal S2x4096x1024 .f32) (a2 : FVec Ideal S2x1x1024 .f32) (a4 : FVec Ideal S1024x1280 .f32) (a6 : FVec Ideal S2x4096x1280 .bf16) : FVec Ideal S2x1x1024 .f32 :=
  NormKit.gainCt (inp a0) (modCt a4 a6) a2

end Cert.NormZReferenceIdeal.Value

end
-- ==== Proof.NormZValue.lean ====
/- What `NormZKernelIdeal` leaves in its results, against the reference's terms. -/
module

public import proofs.«01_k».proof.Proof.Gen.NormZKernelIdeal.Value
public import proofs.«01_k».proof.Proof.NormZRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.NormZKernelIdeal.Value

open Cert.NormZKernelIdeal Cert.NormZKernelIdeal.Gen Cert.NormZReferenceIdeal.Value

variable (m : (ℓ : Loc nD τ sig) → Buf (Elt Ideal) ℓ)

/-- every window's block index at every grid point (decided). -/
theorem idx_val : ∀ t : Fin cfg0.N, win0_0.index t = ![(t.val / 8) * 8 + (t.val % 8), 0]
    ∧ win0_1.index t = ![0, 0]
    ∧ win0_2.index t = ![(t.val / 8) * 8 + (t.val % 8), 0]
    ∧ win0_3.index t = ![(t.val / 8) * 8 + (t.val % 8), 0]
    ∧ win0_4.index t = ![0, 0]
    ∧ win0_5.index t = ![t.val / 8, 0, 0]
    ∧ win0_6.index t = ![(t.val / 8) * 8 + (t.val % 8), 0]
    ∧ win0_7.index t = ![t.val / 8, 0, 0]
    ∧ win0_8.index t = ![t.val / 8, 0, 0]
    ∧ win0_9.index t = ![t.val / 8, 0, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

theorem blk_0 (c : Dev nD) (t : Fin cfg0.N) (a : Fin 512) (k : Fin 1280) :
    iblk m c 0 t (ix2 a k) = m ((c : Thread nD τ).loc main_arg6) (ix3 (smp t) (tok t a) k) := by
  blk_simp [iblk, idx_val t]; entry_read; pointwise; blk_ext [idx_val t]

theorem blk_1 (c : Dev nD) (t : Fin cfg0.N) (k : Fin 1280) (b : Fin 1024) :
    iblk m c 1 t (ix2 k b) = m ((c : Thread nD τ).loc main_arg4) (ix2 b k) := by
  blk_simp [iblk, idx_val t]; entry_read; pointwise; blk_ext [idx_val t]

theorem blk_3 (c : Dev nD) (t : Fin cfg0.N) (a : Fin 512) (k : Fin 1024) :
    iblk m c 3 t (ix2 a k) = m ((c : Thread nD τ).loc main_arg5) (ix3 (smp t) (tok t a) k) := by
  blk_simp [iblk, idx_val t]; entry_read; pointwise; blk_ext [idx_val t]

theorem blk_4 (c : Dev nD) (t : Fin cfg0.N) (b : Fin 1024) :
    iblk m c 4 t (ix2 0 b) = m ((c : Thread nD τ).loc main_arg1) (ix1 b) := by
  blk_simp [iblk, idx_val t]; entry_read; pointwise; blk_ext [idx_val t]

theorem blk_5 (c : Dev nD) (t : Fin cfg0.N) (b : Fin 1024) :
    iblk m c 5 t (ix3 0 0 b) = m ((c : Thread nD τ).loc main_arg2) (ix3 (smp t) 0 b) := by
  blk_simp [iblk, V, idx_val t]; blk_ext [idx_val t]

theorem blk_2 (c : Dev nD) (t : Fin cfg0.N) (a : Fin 512) (b : Fin 1024) :
    iblk m c 2 t (ix2 a b) = inp (m ((c : Thread nD τ).loc main_arg0)) (ix3 (smp t) (tok t a) b) := by
  blk_simp [iblk, idx_val t]; entry_read; pointwise [inp]; blk_ext [idx_val t]

theorem emb_6 (t : Fin cfg0.N) (a : Fin 512) (b : Fin 1024) :
    ((cfg0.win 6).blk t).view.emb (ix2 a b) = (ix2 (⟨t.val * 512 + a.val, by have := lt_N t; omega⟩ : Fin 8192) b : S8192x1024.Idx) := by
  blk_ext [idx_val t]

theorem emb_7 (t : Fin cfg0.N) (b : Fin 1024) :
    ((cfg0.win 7).blk t).view.emb (ix3 0 0 b) = (ix3 (smp t) 0 b : S2x1x1024.Idx) := by
  blk_ext [idx_val t]

theorem emb_8 (t : Fin cfg0.N) (b : Fin 1024) :
    ((cfg0.win 8).blk t).view.emb (ix3 0 0 b) = (ix3 (smp t) 0 b : S2x1x1024.Idx) := by
  blk_ext [idx_val t]

theorem emb_9 (t : Fin cfg0.N) (b : Fin 1024) :
    ((cfg0.win 9).blk t).view.emb (ix3 0 0 b) = (ix3 (smp t) 0 b : S2x1x1024.Idx) := by
  blk_ext [idx_val t]

theorem row_smp (t : Fin cfg0.N) (a : Fin 512) (h : (t.val * 512 + a.val) / 4096 < 2) : (⟨(t.val * 512 + a.val) / 4096, h⟩ : Fin 2) = smp t :=
  Fin.ext (by dsimp only; omega)

theorem row_tok (t : Fin cfg0.N) (a : Fin 512) (h : (t.val * 512 + a.val) % 4096 < 4096) : (⟨(t.val * 512 + a.val) % 4096, h⟩ : Fin 4096) = tok t a :=
  Fin.ext (by dsimp only; omega)

/-- a sample's eight grid points, a sum over a block's rows at each, are one sum over its tokens. -/
theorem sum_run (t : Fin cfg0.N) (ht : t.val % 8 = 7) (h : ∀ s : Fin 8, 8 * (t.val / 8) + s.val < cfg0.N) (f : Fin 2 → Fin 4096 → EReal) :
    ∑ s : Fin 8, ∑ a : Fin 512, f (smp ⟨8 * (t.val / 8) + s.val, h s⟩) (tok ⟨8 * (t.val / 8) + s.val, h s⟩ a) = ∑ r, f (smp t) r := by
  refine Fin.sum_mul_add_congr fun s k hl => ?_
  have h1 : smp ⟨8 * (t.val / 8) + s.val, h s⟩ = smp t := Fin.ext (by dsimp only; omega)
  have h2 : tok ⟨8 * (t.val / 8) + s.val, h s⟩ k = ⟨s.val * 512 + k.val, hl⟩ := Fin.ext (by dsimp only; omega)
  rw [h1, h2]

/-- the modulated block's cotangent at a grid point. -/
def dh (c : Dev nD) (t : Fin cfg0.N) : FVec Ideal S512x1024 .f32 :=
  k0_pay4 (iblk m c 0 t) (iblk m c 1 t)

theorem modCt_at (w : FVec Ideal S1024x1280 .f32) (d : FVec Ideal S2x4096x1280 .bf16) (s : Fin 2) (r : Fin 4096) (b : Fin 1024) :
    modCt w d (ix3 s r b) = ∑ k, d (ix3 s r k) * w (ix2 b k) := by
  pointwise [modCt]

theorem pay_dh (u : Vec Ideal S512x1280 .bf16) (v : Vec Ideal S1280x1024 .bf16) (r : Fin 512) (b : Fin 1024) :
    k0_pay4 (F := Ideal) u v (ix2 r b) = ∑ k, u (ix2 r k) * v (ix2 k b) := by
  pointwise [k0_pay4]

theorem dh_at (c : Dev nD) (t : Fin cfg0.N) (a : Fin 512) (b : Fin 1024) :
    dh m c t (ix2 a b) = modCt (m ((c : Thread nD τ).loc main_arg4)) (m ((c : Thread nD τ).loc main_arg6)) (ix3 (smp t) (tok t a) b) := by
  refine (pay_dh _ _ a b).trans ?_
  rw [modCt_at]
  simp only [blk_0 m c t, blk_1 m c t]

/-- the normed row, at coordinates. -/
theorem pay_hat (x : FVec Ideal S512x1024 .f32) (a : Fin 512) (j : Fin 1024) :
    k0_pay8 x (ix2 a j) = x (ix2 a j) * NormKit.normRow fun k => x (ix2 a k) := by
  pointwise [k0_pay8, k0_pay7, k0_pay5]; rfl

/-- the row derivative, at coordinates. -/
theorem pay_rows (D : FVec Ideal S512x1024 .f32) (x dr : FVec Ideal S512x1024 .f32) (g : FVec Ideal S1x1024 .f32) (sc : FVec Ideal S1x1x1024 .f32) (a : Fin 512) (b : Fin 1024) :
    k0_pay14 D (k0_pay6 g) (k0_pay7 x) (k0_pay8 x) sc dr (ix2 a b)
      = NormKit.rowFused (dr (ix2 a b)) (fun k => x (ix2 a k)) (fun k => D (ix2 a k) * (1 + sc (ix3 0 0 k)) * g (ix2 0 k)) b := by
  pointwise [k0_pay14, k0_pay12, k0_pay8, k0_pay7, k0_pay6, k0_pay5]; rfl

theorem zero_shift (y : S1x1x1024.Idx) : k0_pay1 (F := Ideal) y = 0 := by
  pointwise! [k0_pay1]

theorem pay_shift (u : Vec Ideal S512x1280 .bf16) (v : Vec Ideal S1280x1024 .bf16)  (acc : FVec Ideal S1x1x1024 .f32) (y : S1x1x1024.Idx) :
    k0_pay9 u v acc y = acc y + ∑ a : Fin 512, k0_pay4 u v (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  pointwise [k0_pay9, k0_pay4]

theorem zero_scale (y : S1x1x1024.Idx) : k0_pay2 (F := Ideal) y = 0 := by
  pointwise! [k0_pay2]

theorem pay_scale (D : FVec Ideal S512x1024 .f32) (x : FVec Ideal S512x1024 .f32) (g : FVec Ideal S1x1024 .f32) (acc : FVec Ideal S1x1x1024 .f32) (y : S1x1x1024.Idx) :
    k0_pay11 D (k0_pay6 g) (k0_pay8 x) (k0_pay10 acc) y = acc y + ∑ a : Fin 512, D (ix2 a (y 2)) * (k0_pay8 x (ix2 a (y 2)) * g (ix2 0 (y 2))) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  generalize k0_pay8 (F := Ideal) x = h
  pointwise [k0_pay11, k0_pay10, k0_pay6]

theorem zero_gain (y : S1x1x1024.Idx) : k0_pay3 (F := Ideal) y = 0 := by
  pointwise! [k0_pay3]

theorem pay_gain (D : FVec Ideal S512x1024 .f32) (x : FVec Ideal S512x1024 .f32) (sc : FVec Ideal S1x1x1024 .f32) (acc : FVec Ideal S1x1x1024 .f32) (y : S1x1x1024.Idx) :
    k0_pay13 D (k0_pay8 x) sc acc y = acc y + ∑ a : Fin 512, D (ix2 a (y 2)) * (1 + sc (ix3 0 0 (y 2))) * k0_pay8 x (ix2 a (y 2)) := by
  obtain ⟨j, rfl⟩ : ∃ j : Fin 1024, y = ix3 0 0 j :=
    ⟨y 2, (eq_ix3 y).trans ((ix3_inj ..).2 ⟨Subsingleton.elim _ _, Subsingleton.elim _ _, rfl⟩)⟩
  generalize k0_pay8 (F := Ideal) x = h
  pointwise [k0_pay13, k0_pay12]

/-- a point's normed rows. -/
theorem hat_at (c : Dev nD) (t : Fin cfg0.N) (a : Fin 512) (j : Fin 1024) :
    k0_pay8 (iblk m c 2 t) (ix2 a j)
      = inp (m ((c : Thread nD τ).loc main_arg0)) (ix3 (smp t) (tok t a) j) * NormKit.normRow fun k => inp (m ((c : Thread nD τ).loc main_arg0)) (ix3 (smp t) (tok t a) k) := by
  rw [pay_hat]
  simp only [blk_2 m c t]

/-- a point's rows, against the reference there. -/
theorem rows_at (c : Dev nD) (hx : ∀ i, RealKit.Fin' (inp (m ((c : Thread nD τ).loc main_arg0)) i))
    (ht : ∀ b s k, RealKit.Fin' (modCt (m ((c : Thread nD τ).loc main_arg4)) (m ((c : Thread nD τ).loc main_arg6)) (ix3 b s k) * (1 + m ((c : Thread nD τ).loc main_arg2) (ix3 b 0 k)) * m ((c : Thread nD τ).loc main_arg1) (ix1 k))) (t : Fin cfg0.N) (a : Fin 512) (b : Fin 1024) :
    k0_pay14 (dh m c t) (k0_pay6 (iblk m c 4 t)) (k0_pay7 (iblk m c 2 t)) (k0_pay8 (iblk m c 2 t)) (iblk m c 5 t) (iblk m c 3 t) (ix2 a b)
      = NormKit.inputCt (inp (m ((c : Thread nD τ).loc main_arg0))) (modCt (m ((c : Thread nD τ).loc main_arg4)) (m ((c : Thread nD τ).loc main_arg6))) (m ((c : Thread nD τ).loc main_arg1)) (m ((c : Thread nD τ).loc main_arg2)) (m ((c : Thread nD τ).loc main_arg5)) (ix3 (smp t) (tok t a) b) := by
  refine (pay_rows (dh m c t) (iblk m c 2 t) (iblk m c 3 t) (iblk m c 4 t) (iblk m c 5 t) a b).trans ?_
  rw [NormKit.inputCt_at, ← NormKit.rowFused_eq _ _ _ (fun k => hx _) (fun k => ht _ _ _)]
  simp only [blk_2 m c t, blk_3 m c t, blk_4 m c t, blk_5 m c t, dh_at m c t]

/-- the array of window 6 after the run. -/
theorem final_6 (c : Dev nD) (hx : ∀ i, RealKit.Fin' (inp (m ((c : Thread nD τ).loc main_arg0)) i))
    (ht : ∀ b s k, RealKit.Fin' (modCt (m ((c : Thread nD τ).loc main_arg4)) (m ((c : Thread nD τ).loc main_arg6)) (ix3 b s k) * (1 + m ((c : Thread nD τ).loc main_arg2) (ix3 b 0 k)) * m ((c : Thread nD τ).loc main_arg1) (ix1 k))) :
    (dats m 0 c).arrAt 6 (cfgs 0).N
    = REF_v52 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 6 _ (by decide +kernel) fun t hf y => ?_
  obtain ⟨a, b, rfl⟩ : ∃ (a : Fin 512) (b : Fin 1024), y = ix2 a b := ⟨y 0, y 1, eq_ix2 y⟩
  have key : k0_pay14 (dh m c t) (k0_pay6 (iblk m c 4 t)) (k0_pay7 (iblk m c 2 t)) (k0_pay8 (iblk m c 2 t)) (iblk m c 5 t) (iblk m c 3 t) (ix2 a b)
      = REF_v52 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix2 (⟨t.val * 512 + a.val, by have := lt_N t; omega⟩ : Fin 8192) b) := by
    refine (rows_at m c hx ht t a b).trans (Eq.trans ?_ (NormKit.rowsCt_at _ _ _ _ _ _ _).symm)
    dsimp only
    rw [row_smp, row_tok]
  blk_simp; rw [after0_6, emb_6]
  by_cases h : t.val % 8 = 0
  · rw [outsAt0_A m c t h]; dsimp only; frame_out; exact key
  · rw [outsAt0_B m c t h]; dsimp only; frame_out; exact key

/-- what a point adds to window 7. -/
def part_7 (c : Dev nD) (t : Fin cfg0.N) (y : S1x1x1024.Idx) : EReal :=
  ∑ a : Fin 512, dh m c t (ix2 a (y 2))

/-- the array of window 7 after the run. -/
theorem final_7 (c : Dev nD)  :
    (dats m 0 c).arrAt 7 (cfgs 0).N
    = REF_v26 (m ((c : Thread nD τ).loc main_arg4)) (m ((c : Thread nD τ).loc main_arg6)) := by
  refine (dats m 0 c).arrAt_eq_of_covers 7 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_7 t).mp hf
  have key : ∑ s : Fin 8, part_7 m c ⟨8 * (t.val / 8) + s.val, Pipeline.run_point_lt_of_flush t hr s⟩ (ix3 0 0 j)
      = REF_v26 (m ((c : Thread nD τ).loc main_arg4)) (m ((c : Thread nD τ).loc main_arg6)) (ix3 (smp t) 0 j) := by
    refine Eq.trans ?_ ((sum_run t hr (fun s => Pipeline.run_point_lt_of_flush t hr s)
      fun b r => modCt (m ((c : Thread nD τ).loc main_arg4)) (m ((c : Thread nD τ).loc main_arg6)) (ix3 b r j)).trans (NormKit.shiftCt_at (modCt (m ((c : Thread nD τ).loc main_arg4)) (m ((c : Thread nD τ).loc main_arg6))) (smp t) j).symm)
    refine Finset.sum_congr rfl fun s _ => Finset.sum_congr rfl fun a _ => ?_
    exact dh_at m c _ a j
  blk_simp
  rw [after0_7, emb_7, Pipeline.eq_sum_fin_of_reset_step_apply_of_flush (fun n h => (outsAt0 m c n h).2.1) 8 (fun _ => 0) (part_7 m c)
    (fun t h j => by rw [outsAt0_A m c t h]; dsimp only; frame_out; exact (pay_shift _ _ _ j).trans (congrArg (· + _) (zero_shift j)))
    (fun t h j => by rw [outsAt0_B m c t h]; dsimp only; frame_out; exact pay_shift _ _ _ j)
    t hr _, zero_add]
  exact key

/-- what a point adds to window 8. -/
def part_8 (c : Dev nD) (t : Fin cfg0.N) (y : S1x1x1024.Idx) : EReal :=
  ∑ a : Fin 512, dh m c t (ix2 a (y 2)) * (k0_pay8 (iblk m c 2 t) (ix2 a (y 2)) * (iblk m c 4 t) (ix2 0 (y 2)))

/-- the array of window 8 after the run. -/
theorem final_8 (c : Dev nD)  :
    (dats m 0 c).arrAt 8 (cfgs 0).N
    = REF_v29 (m ((c : Thread nD τ).loc main_arg0)) (m ((c : Thread nD τ).loc main_arg1)) (m ((c : Thread nD τ).loc main_arg4)) (m ((c : Thread nD τ).loc main_arg6)) := by
  refine (dats m 0 c).arrAt_eq_of_covers 8 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_8 t).mp hf
  have key : ∑ s : Fin 8, part_8 m c ⟨8 * (t.val / 8) + s.val, Pipeline.run_point_lt_of_flush t hr s⟩ (ix3 0 0 j)
      = REF_v29 (m ((c : Thread nD τ).loc main_arg0)) (m ((c : Thread nD τ).loc main_arg1)) (m ((c : Thread nD τ).loc main_arg4)) (m ((c : Thread nD τ).loc main_arg6)) (ix3 (smp t) 0 j) := by
    refine Eq.trans ?_ ((sum_run t hr (fun s => Pipeline.run_point_lt_of_flush t hr s)
      fun b r => inp (m ((c : Thread nD τ).loc main_arg0)) (ix3 b r j) * NormKit.normRow (fun k => inp (m ((c : Thread nD τ).loc main_arg0)) (ix3 b r k)) * (m ((c : Thread nD τ).loc main_arg1)) (ix1 j) * modCt (m ((c : Thread nD τ).loc main_arg4)) (m ((c : Thread nD τ).loc main_arg6)) (ix3 b r j)).trans (NormKit.scaleCt_at (inp (m ((c : Thread nD τ).loc main_arg0))) (modCt (m ((c : Thread nD τ).loc main_arg4)) (m ((c : Thread nD τ).loc main_arg6))) (m ((c : Thread nD τ).loc main_arg1)) (smp t) j).symm)
    refine Finset.sum_congr rfl fun s _ => Finset.sum_congr rfl fun a _ => ?_
    exact (mul_comm _ _).trans (Ideal.mul_congr (Ideal.mul_congr (hat_at m c _ a j) (blk_4 m c _ j)) (dh_at m c _ a j))
  blk_simp
  rw [after0_8, emb_8, Pipeline.eq_sum_fin_of_reset_step_apply_of_flush (fun n h => (outsAt0 m c n h).2.2.1) 8 (fun _ => 0) (part_8 m c)
    (fun t h j => by rw [outsAt0_A m c t h]; dsimp only; frame_out; exact (pay_scale (dh m c t) (iblk m c 2 t) (iblk m c 4 t) _ j).trans (congrArg (· + _) (zero_scale j)))
    (fun t h j => by rw [outsAt0_B m c t h]; dsimp only; frame_out; exact pay_scale (dh m c t) (iblk m c 2 t) (iblk m c 4 t) _ j)
    t hr _, zero_add]
  exact key

/-- what a point adds to window 9. -/
def part_9 (c : Dev nD) (t : Fin cfg0.N) (y : S1x1x1024.Idx) : EReal :=
  ∑ a : Fin 512, dh m c t (ix2 a (y 2)) * (1 + (iblk m c 5 t) (ix3 0 0 (y 2))) * k0_pay8 (iblk m c 2 t) (ix2 a (y 2))

/-- the array of window 9 after the run. -/
theorem final_9 (c : Dev nD)  :
    (dats m 0 c).arrAt 9 (cfgs 0).N
    = REF_v34 (m ((c : Thread nD τ).loc main_arg0)) (m ((c : Thread nD τ).loc main_arg2)) (m ((c : Thread nD τ).loc main_arg4)) (m ((c : Thread nD τ).loc main_arg6)) := by
  refine (dats m 0 c).arrAt_eq_of_covers 9 _ (by decide +kernel) fun t hf y => ?_
  obtain ⟨j, rfl⟩ : ∃ j : Fin 1024, y = ix3 0 0 j :=
    ⟨y 2, (eq_ix3 y).trans ((ix3_inj ..).2 ⟨Subsingleton.elim _ _, Subsingleton.elim _ _, rfl⟩)⟩
  have hr := (flush0_9 t).mp hf
  have key : ∑ s : Fin 8, part_9 m c ⟨8 * (t.val / 8) + s.val, Pipeline.run_point_lt_of_flush t hr s⟩ (ix3 0 0 j)
      = REF_v34 (m ((c : Thread nD τ).loc main_arg0)) (m ((c : Thread nD τ).loc main_arg2)) (m ((c : Thread nD τ).loc main_arg4)) (m ((c : Thread nD τ).loc main_arg6)) (ix3 (smp t) 0 j) := by
    refine Eq.trans ?_ ((sum_run t hr (fun s => Pipeline.run_point_lt_of_flush t hr s)
      fun b r => inp (m ((c : Thread nD τ).loc main_arg0)) (ix3 b r j) * NormKit.normRow (fun k => inp (m ((c : Thread nD τ).loc main_arg0)) (ix3 b r k)) * (modCt (m ((c : Thread nD τ).loc main_arg4)) (m ((c : Thread nD τ).loc main_arg6)) (ix3 b r j) * (1 + (m ((c : Thread nD τ).loc main_arg2)) (ix3 b 0 j)))).trans (NormKit.gainCt_at (inp (m ((c : Thread nD τ).loc main_arg0))) (modCt (m ((c : Thread nD τ).loc main_arg4)) (m ((c : Thread nD τ).loc main_arg6))) (m ((c : Thread nD τ).loc main_arg2)) (smp t) j).symm)
    refine Finset.sum_congr rfl fun s _ => Finset.sum_congr rfl fun a _ => ?_
    exact (mul_comm _ _).trans (Ideal.mul_congr (hat_at m c _ a j) (Ideal.mul_congr (dh_at m c _ a j) (congrArg (1 + ·) (blk_5 m c _ j))))
  blk_simp
  rw [after0_9, emb_9, Pipeline.eq_sum_fin_of_reset_step_apply_of_flush (fun n h => (outsAt0 m c n h).2.2.2) 8 (fun _ => 0) (part_9 m c)
    (fun t h j => by rw [outsAt0_A m c t h]; dsimp only; frame_out; exact (pay_gain (dh m c t) (iblk m c 2 t) (iblk m c 5 t) _ j).trans (congrArg (· + _) (zero_gain j)))
    (fun t h j => by rw [outsAt0_B m c t h]; dsimp only; frame_out; exact pay_gain (dh m c t) (iblk m c 2 t) (iblk m c 5 t) _ j)
    t hr _, zero_add]
  exact key

end Cert.NormZKernelIdeal.Value

end
-- ==== Proof.NormZClaim.lean ====
/- The claims about `NormZKernel`, its idealization and its reference. -/
module

public import proofs.«01_k».proof.Defs
public import proofs.«01_k».proof.Proof.Gen.NormZKernel.Frame
public import proofs.«01_k».proof.Proof.Gen.NormZKernelIdeal.Frame
public import proofs.«01_k».proof.Proof.Gen.NormZReferenceIdeal.Run
public import proofs.«01_k».proof.Proof.NormZValue
public import proofs.«01_k».proof.Proof.NormPre
public import Idealize.ShloMosaic.Lib.Claim

@[expose] public section

set_option maxRecDepth 16384

noncomputable section

namespace Cert.Proof.NormZ

open Idealize.ShloMosaic Idealize.ShloMosaic.TcCoe Idealize.SL.Sem

instance : Cert.NormZKernel.Facts := Cert.NormZKernel.Gen.facts
instance : Cert.NormZKernelIdeal.Facts := Cert.NormZKernelIdeal.Gen.facts
instance : Cert.NormZReferenceIdeal.Facts := Cert.NormZReferenceIdeal.Gen.facts
instance : Cert.Pre_finite_norm0.Facts := FinitePre.finite_norm0_facts

/-- the kernel's thread on a device. -/
abbrev tK (c : Dev Cert.NormZKernelIdeal.nD) : Thread Cert.NormZKernelIdeal.nD Cert.NormZKernelIdeal.τ := c.tc

/-- the reference's thread on a device. -/
abbrev tR (c : Dev Cert.NormZReferenceIdeal.nD) : Thread Cert.NormZReferenceIdeal.nD Cert.NormZReferenceIdeal.τ := c.tc

/-- a memory of the kernel's program. -/
abbrev MemK := (ℓ : Loc Cert.NormZKernelIdeal.nD Cert.NormZKernelIdeal.τ Cert.NormZKernelIdeal.sig) → Buf (Elt Ideal) ℓ

/-- a memory of the reference's program. -/
abbrev MemR := (ℓ : Loc Cert.NormZReferenceIdeal.nD Cert.NormZReferenceIdeal.τ Cert.NormZReferenceIdeal.sig) → Buf (Elt Ideal) ℓ

/-- the printed kernel's frame. -/
theorem frame_p : Cert.quiescent_NormZKernel := fun m ρ _ => Cert.NormZKernel.Gen.frame m ρ

/-- the idealized kernel's frame. -/
theorem frame_pi : Cert.quiescent_NormZKernelIdeal := fun m ρ _ => Cert.NormZKernelIdeal.Gen.frame m ρ

/-- the reference's frame: it declares no semaphore. -/
theorem frame_ri : Cert.quiescent_NormZReferenceIdeal := fun m g _ =>
  (θ_run Cert.NormZReferenceIdeal.defs _ _).mono
    (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩, sem_eq_zero_of_no_sems (by decide) r.2⟩)
    (Cert.NormZReferenceIdeal.Value.run m g)

/-- the idealized kernel's frame under the precondition. -/
theorem frame_pi_pre : Cert.quiescent_NormZKernelIdeal_pre_finite_norm0 := fun m ρ _ => Cert.NormZKernelIdeal.Gen.frame m ρ

/-- the reference's frame under the precondition. -/
theorem frame_ri_pre : Cert.quiescent_NormZReferenceIdeal_pre_finite_norm0 := fun m g _ => frame_ri m g trivial

theorem fin_inp (m : MemK) (c : Dev Cert.NormZKernelIdeal.nD) (hpre : Cert.Pre_NormZKernelIdeal_finite_norm0 m) (i) :
    RealKit.Fin' (Cert.NormZReferenceIdeal.Value.inp (m ((tK c).loc Cert.NormZKernelIdeal.main_arg0)) i) :=
  FinitePre.finite_norm0_x _ _ _ _ _ _ _ (hpre c) _

/-- the cotangent of the normed array is finite. -/
theorem fin_ct (m : MemK) (c : Dev Cert.NormZKernelIdeal.nD) (hpre : Cert.Pre_NormZKernelIdeal_finite_norm0 m) (b : Fin 2) (s : Fin 4096) (k : Fin 1024) :
    RealKit.Fin' (Cert.NormZReferenceIdeal.Value.modCt (m ((tK c).loc Cert.NormZKernelIdeal.main_arg4)) (m ((tK c).loc Cert.NormZKernelIdeal.main_arg6)) (ix3 b s k) * (1 + (m ((tK c).loc Cert.NormZKernelIdeal.main_arg2)) (ix3 b 0 k)) * (m ((tK c).loc Cert.NormZKernelIdeal.main_arg1)) (ix1 k)) := by
  rw [Cert.NormZKernelIdeal.Value.modCt_at]
  exact FinitePre.fin_mul (FinitePre.fin_mul ((FinitePre.fin_sum fun k => FinitePre.fin_mul (FinitePre.finite_norm0_p _ _ _ _ _ _ _ (hpre c) _) (FinitePre.finite_norm0_w _ _ _ _ _ _ _ (hpre c) _)))
    (FinitePre.fin_add FinitePre.fin_one (FinitePre.finite_norm0_sc _ _ _ _ _ _ _ (hpre c) _))) (FinitePre.finite_norm0_gain _ _ _ _ _ _ _ (hpre c) _)

/-- the reference's term for window 6's array, at the kernel's arguments. -/
theorem out_6 (m : MemK)
    (m' : MemR) (c : Dev Cert.NormZKernelIdeal.nD)
    (hpre : Cert.Pre_NormZKernelIdeal_finite_norm0 m)
    (a0 : m' ((tR c).loc Cert.NormZReferenceIdeal.main_arg0) = m ((tK c).loc Cert.NormZKernelIdeal.main_arg0))
    (a1 : m' ((tR c).loc Cert.NormZReferenceIdeal.main_arg1) = m ((tK c).loc Cert.NormZKernelIdeal.main_arg1))
    (a2 : m' ((tR c).loc Cert.NormZReferenceIdeal.main_arg2) = m ((tK c).loc Cert.NormZKernelIdeal.main_arg2))
    (a4 : m' ((tR c).loc Cert.NormZReferenceIdeal.main_arg4) = m ((tK c).loc Cert.NormZKernelIdeal.main_arg4))
    (a5 : m' ((tR c).loc Cert.NormZReferenceIdeal.main_arg5) = m ((tK c).loc Cert.NormZKernelIdeal.main_arg5))
    (a6 : m' ((tR c).loc Cert.NormZReferenceIdeal.main_arg6) = m ((tK c).loc Cert.NormZKernelIdeal.main_arg6)) :
    Cert.NormZReferenceIdeal.Value.REF_v52 (m' ((tR c).loc Cert.NormZReferenceIdeal.main_arg0)) (m' ((tR c).loc Cert.NormZReferenceIdeal.main_arg1)) (m' ((tR c).loc Cert.NormZReferenceIdeal.main_arg2)) (m' ((tR c).loc Cert.NormZReferenceIdeal.main_arg4)) (m' ((tR c).loc Cert.NormZReferenceIdeal.main_arg5)) (m' ((tR c).loc Cert.NormZReferenceIdeal.main_arg6))
      = (Cert.NormZKernelIdeal.Gen.dats m 0 c).arrAt 6 (Cert.NormZKernelIdeal.cfgs 0).N := by
  rw [a0, a1, a2, a4, a5, a6]
  exact (Cert.NormZKernelIdeal.Value.final_6 m c (fin_inp m c hpre) (fin_ct m c hpre)).symm

/-- the reference's term for window 7's array, at the kernel's arguments. -/
theorem out_7 (m : MemK)
    (m' : MemR) (c : Dev Cert.NormZKernelIdeal.nD)
    (a4 : m' ((tR c).loc Cert.NormZReferenceIdeal.main_arg4) = m ((tK c).loc Cert.NormZKernelIdeal.main_arg4))
    (a6 : m' ((tR c).loc Cert.NormZReferenceIdeal.main_arg6) = m ((tK c).loc Cert.NormZKernelIdeal.main_arg6)) :
    Cert.NormZReferenceIdeal.Value.REF_v26 (m' ((tR c).loc Cert.NormZReferenceIdeal.main_arg4)) (m' ((tR c).loc Cert.NormZReferenceIdeal.main_arg6))
      = (Cert.NormZKernelIdeal.Gen.dats m 0 c).arrAt 7 (Cert.NormZKernelIdeal.cfgs 0).N := by
  rw [a4, a6]
  exact (Cert.NormZKernelIdeal.Value.final_7 m c).symm

/-- the reference's term for window 8's array, at the kernel's arguments. -/
theorem out_8 (m : MemK)
    (m' : MemR) (c : Dev Cert.NormZKernelIdeal.nD)
    (a0 : m' ((tR c).loc Cert.NormZReferenceIdeal.main_arg0) = m ((tK c).loc Cert.NormZKernelIdeal.main_arg0))
    (a1 : m' ((tR c).loc Cert.NormZReferenceIdeal.main_arg1) = m ((tK c).loc Cert.NormZKernelIdeal.main_arg1))
    (a4 : m' ((tR c).loc Cert.NormZReferenceIdeal.main_arg4) = m ((tK c).loc Cert.NormZKernelIdeal.main_arg4))
    (a6 : m' ((tR c).loc Cert.NormZReferenceIdeal.main_arg6) = m ((tK c).loc Cert.NormZKernelIdeal.main_arg6)) :
    Cert.NormZReferenceIdeal.Value.REF_v29 (m' ((tR c).loc Cert.NormZReferenceIdeal.main_arg0)) (m' ((tR c).loc Cert.NormZReferenceIdeal.main_arg1)) (m' ((tR c).loc Cert.NormZReferenceIdeal.main_arg4)) (m' ((tR c).loc Cert.NormZReferenceIdeal.main_arg6))
      = (Cert.NormZKernelIdeal.Gen.dats m 0 c).arrAt 8 (Cert.NormZKernelIdeal.cfgs 0).N := by
  rw [a0, a1, a4, a6]
  exact (Cert.NormZKernelIdeal.Value.final_8 m c).symm

/-- the reference's term for window 9's array, at the kernel's arguments. -/
theorem out_9 (m : MemK)
    (m' : MemR) (c : Dev Cert.NormZKernelIdeal.nD)
    (a0 : m' ((tR c).loc Cert.NormZReferenceIdeal.main_arg0) = m ((tK c).loc Cert.NormZKernelIdeal.main_arg0))
    (a2 : m' ((tR c).loc Cert.NormZReferenceIdeal.main_arg2) = m ((tK c).loc Cert.NormZKernelIdeal.main_arg2))
    (a4 : m' ((tR c).loc Cert.NormZReferenceIdeal.main_arg4) = m ((tK c).loc Cert.NormZKernelIdeal.main_arg4))
    (a6 : m' ((tR c).loc Cert.NormZReferenceIdeal.main_arg6) = m ((tK c).loc Cert.NormZKernelIdeal.main_arg6)) :
    Cert.NormZReferenceIdeal.Value.REF_v34 (m' ((tR c).loc Cert.NormZReferenceIdeal.main_arg0)) (m' ((tR c).loc Cert.NormZReferenceIdeal.main_arg2)) (m' ((tR c).loc Cert.NormZReferenceIdeal.main_arg4)) (m' ((tR c).loc Cert.NormZReferenceIdeal.main_arg6))
      = (Cert.NormZKernelIdeal.Gen.dats m 0 c).arrAt 9 (Cert.NormZKernelIdeal.cfgs 0).N := by
  rw [a0, a2, a4, a6]
  exact (Cert.NormZKernelIdeal.Value.final_9 m c).symm

/-- the idealized kernel computes the derivative of the forward lines. -/
theorem algebraic : Cert.algebraic_NormZKernelIdeal_NormZReferenceIdeal_pre_finite_norm0 := by
  pair_intro
  · run_from Cert.NormZKernelIdeal.Gen.run_main m g
  · exact (θ_run Cert.NormZReferenceIdeal.defs _ _).mono
      (fun r h c => ⟨(h c).1.trans (out_6 m m' c hpre (hagree c).1 (hagree c).2.1 (hagree c).2.2.1 (hagree c).2.2.2.2.1 (hagree c).2.2.2.2.2.1 (hagree c).2.2.2.2.2.2), (h c).2.1.trans (out_7 m m' c (hagree c).2.2.2.2.1 (hagree c).2.2.2.2.2.2), (h c).2.2.1.trans (out_8 m m' c (hagree c).1 (hagree c).2.1 (hagree c).2.2.2.2.1 (hagree c).2.2.2.2.2.2), (h c).2.2.2.1.trans (out_9 m m' c (hagree c).1 (hagree c).2.2.1 (hagree c).2.2.2.2.1 (hagree c).2.2.2.2.2.2),
        (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩)
      (Cert.NormZReferenceIdeal.Value.run m' g')

end Cert.Proof.NormZ

end
-- ==== Proof.QkClaim.lean ====
/- The claims about `QkKernel`, its idealization and its reference. -/
module

public import proofs.«01_k».proof.Defs
public import proofs.«01_k».proof.Proof.Gen.QkKernel.Frame
public import proofs.«01_k».proof.Proof.Gen.QkKernelIdeal.Frame
public import proofs.«01_k».proof.Proof.Gen.QkReferenceIdeal.Run
public import Idealize.ShloMosaic.Lib.Claim

@[expose] public section

set_option maxRecDepth 16384

noncomputable section

namespace Cert.Proof.Qk

open Idealize.ShloMosaic Idealize.ShloMosaic.TcCoe Idealize.SL.Sem

instance : Cert.QkKernel.Facts := Cert.QkKernel.Gen.facts
instance : Cert.QkKernelIdeal.Facts := Cert.QkKernelIdeal.Gen.facts
instance : Cert.QkReferenceIdeal.Facts := Cert.QkReferenceIdeal.Gen.facts

/-- the printed kernel's frame. -/
theorem frame_p : Cert.quiescent_QkKernel := fun m ρ _ => Cert.QkKernel.Gen.frame m ρ

/-- the idealized kernel's frame. -/
theorem frame_pi : Cert.quiescent_QkKernelIdeal := fun m ρ _ => Cert.QkKernelIdeal.Gen.frame m ρ

/-- the reference's frame: it declares no semaphore. -/
theorem frame_ri : Cert.quiescent_QkReferenceIdeal := fun m g _ =>
  (θ_run Cert.QkReferenceIdeal.defs _ _).mono
    (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩, sem_eq_zero_of_no_sems (by decide) r.2⟩)
    (Cert.QkReferenceIdeal.Value.run m g)

end Cert.Proof.Qk

end
-- ==== Proof.SwaClaim.lean ====
/- The claims about `SwaKernel`, its idealization. -/
module

public import proofs.«01_k».proof.Defs
public import proofs.«01_k».proof.Proof.Gen.SwaKernel.Frame
public import proofs.«01_k».proof.Proof.Gen.SwaKernelIdeal.Frame

public import Idealize.ShloMosaic.Lib.Claim

@[expose] public section

set_option maxRecDepth 16384

noncomputable section

namespace Cert.Proof.Swa

open Idealize.ShloMosaic Idealize.ShloMosaic.TcCoe Idealize.SL.Sem

instance : Cert.SwaKernel.Facts := Cert.SwaKernel.Gen.facts
instance : Cert.SwaKernelIdeal.Facts := Cert.SwaKernelIdeal.Gen.facts

/-- the printed kernel's frame. -/
theorem frame_p : Cert.quiescent_SwaKernel := fun m ρ _ => Cert.SwaKernel.Gen.frame m ρ

/-- the idealized kernel's frame. -/
theorem frame_pi : Cert.quiescent_SwaKernelIdeal := fun m ρ _ => Cert.SwaKernelIdeal.Gen.frame m ρ

end Cert.Proof.Swa

end
-- ==== Proof.UnitRef.lean ====
/- The reference results of `Cert.UnitReferenceIdeal` as named functions of its arguments. -/
module

public import proofs.«01_k».proof.Proof.Gen.UnitReferenceIdeal.Run
public import Idealize.ShloMosaic.Lib.Pipeline.ValueKit

@[expose] public section

set_option maxRecDepth 16384

noncomputable section

namespace Cert.UnitReferenceIdeal.Value

open Cert.UnitReferenceIdeal Cert.UnitReferenceIdeal.Gen Idealize.ShloMosaic Idealize.ShloMosaic.TcCoe Idealize.SL.Sem Idealize.ShloMosaic.StableHlo

/-- What the reference leaves in `main_v6`. -/
abbrev REF_v6 (a0 : FVec Ideal S2x4096x1024 .bf16) (a1 : FVec Ideal S1024x2816 .f32) : FVec Ideal S8192x2816 .bf16 :=
  truncf .bf16 (shapeCast _ (Host.dotGeneral dot_S2x4096x1024_S1024x2816_S2x4096x2816_2_0_01_1_n_n none (extf .f32 a0 bitsLt_bf16_f32) a1) shapeCasts_S2x4096x2816_S8192x2816) bitsLt_bf16_f32

/-- What the reference leaves in `main_v8`. -/
abbrev REF_v8 (a0 : FVec Ideal S2x4096x1024 .bf16) (a2 : FVec Ideal S1024x2816 .f32) : FVec Ideal S8192x2816 .bf16 :=
  truncf .bf16 (shapeCast _ (Host.dotGeneral dot_S2x4096x1024_S1024x2816_S2x4096x2816_2_0_01_1_n_n none (extf .f32 a0 bitsLt_bf16_f32) a2) shapeCasts_S2x4096x2816_S8192x2816) bitsLt_bf16_f32

/-- What the reference leaves in `main_v10`. -/
abbrev REF_v10 (a0 : FVec Ideal S2x4096x1024 .bf16) (a1 : FVec Ideal S1024x2816 .f32) (a2 : FVec Ideal S1024x2816 .f32) : FVec Ideal S8192x2816 .bf16 :=
  truncf .bf16 (shapeCast _ (mulf (mulf (Host.dotGeneral dot_S2x4096x1024_S1024x2816_S2x4096x2816_2_0_01_1_n_n none (extf .f32 a0 bitsLt_bf16_f32) a1) (Host.divf (broadcastInDim S2x4096x2816 ![] bcast_S_S2x4096x2816 (constant S_ .f32 0x3F800000#32)) (addf (broadcastInDim S2x4096x2816 ![] bcast_S_S2x4096x2816 (constant S_ .f32 0x3F800000#32)) (Host.exp (Host.negf (Host.dotGeneral dot_S2x4096x1024_S1024x2816_S2x4096x2816_2_0_01_1_n_n none (extf .f32 a0 bitsLt_bf16_f32) a1)))))) (Host.dotGeneral dot_S2x4096x1024_S1024x2816_S2x4096x2816_2_0_01_1_n_n none (extf .f32 a0 bitsLt_bf16_f32) a2)) shapeCasts_S2x4096x2816_S8192x2816) bitsLt_bf16_f32

end Cert.UnitReferenceIdeal.Value

end
-- ==== Proof.UnitValue.lean ====
/- What `UnitKernelIdeal` leaves in its results, against the reference's terms. -/
module

public import proofs.«01_k».proof.Proof.Gen.UnitKernelIdeal.Value
public import proofs.«01_k».proof.Proof.UnitRef
public import proofs.«01_k».proof.Proof.NormKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.UnitKernelIdeal.Value

open Cert.UnitKernelIdeal Cert.UnitKernelIdeal.Gen Cert.UnitReferenceIdeal.Value

variable (m : (ℓ : Loc nD τ sig) → Buf (Elt Ideal) ℓ)

/-- every window's block index at every grid point (decided). -/
theorem idx_val : ∀ t : Fin cfg0.N, win0_0.index t = ![t.val % 8, 0]
    ∧ win0_1.index t = ![t.val / 8, 0]
    ∧ win0_2.index t = ![t.val / 8, 0]
    ∧ win0_3.index t = ![t.val % 8, t.val / 8]
    ∧ win0_4.index t = ![t.val % 8, t.val / 8]
    ∧ win0_5.index t = ![t.val % 8, t.val / 8] :=
  (by decide +kernel : ∀ t : Fin grid0.N, _)

theorem lt_N (t : Fin cfg0.N) : t.val < 16 := t.isLt

/-- the row of the flat array that a block's row is. -/
abbrev row (t : Fin cfg0.N) (a : Fin 1024) : Fin 8192 := ⟨t.val % 8 * 1024 + a.val, by omega⟩

/-- the column that a block's column is. -/
abbrev col (t : Fin cfg0.N) (b : Fin 1408) : Fin 2816 := ⟨t.val / 8 * 1408 + b.val, by have := lt_N t; omega⟩

/-- a column's product with a row, at coordinates of the flat rows. -/
def lin (h : FVec Ideal S2x4096x1024 .bf16) (w : FVec Ideal S1024x2816 .f32) (r : Fin 8192) (b : Fin 2816) : EReal :=
  ∑ k : Fin 1024, h (ix3 (⟨r.val / 4096, by omega⟩ : Fin 2) (⟨r.val % 4096, by omega⟩ : Fin 4096) k) * w (ix2 k b)

theorem blk_0 (c : Dev nD) (t : Fin cfg0.N) (a : Fin 1024) (k : Fin 1024) :
    iblk m c 0 t (ix2 a k) = m ((c : Thread nD τ).loc main_arg0) (ix3 (⟨(row t a).val / 4096, by omega⟩ : Fin 2) (⟨(row t a).val % 4096, by omega⟩ : Fin 4096) k) := by
  blk_simp [iblk, idx_val t]; entry_read; pointwise; blk_ext [idx_val t]

theorem blk_1 (c : Dev nD) (t : Fin cfg0.N) (b : Fin 1408) (k : Fin 1024) :
    iblk m c 1 t (ix2 b k) = m ((c : Thread nD τ).loc main_arg1) (ix2 k (col t b)) := by
  blk_simp [iblk, idx_val t]; entry_read; pointwise; blk_ext [idx_val t]

theorem blk_2 (c : Dev nD) (t : Fin cfg0.N) (b : Fin 1408) (k : Fin 1024) :
    iblk m c 2 t (ix2 b k) = m ((c : Thread nD τ).loc main_arg2) (ix2 k (col t b)) := by
  blk_simp [iblk, idx_val t]; entry_read; pointwise; blk_ext [idx_val t]

theorem emb_3 (t : Fin cfg0.N) (a : Fin 1024) (b : Fin 1408) :
    ((cfg0.win 3).blk t).view.emb (ix2 a b) = (ix2 (row t a) (col t b) : S8192x2816.Idx) := by
  blk_ext [idx_val t]

theorem emb_4 (t : Fin cfg0.N) (a : Fin 1024) (b : Fin 1408) :
    ((cfg0.win 4).blk t).view.emb (ix2 a b) = (ix2 (row t a) (col t b) : S8192x2816.Idx) := by
  blk_ext [idx_val t]

theorem emb_5 (t : Fin cfg0.N) (a : Fin 1024) (b : Fin 1408) :
    ((cfg0.win 5).blk t).view.emb (ix2 a b) = (ix2 (row t a) (col t b) : S8192x2816.Idx) := by
  blk_ext [idx_val t]

theorem pay_gate (v : Vec Ideal S1024x1024 .bf16) (w : Vec Ideal S1408x1024 .bf16) (a : Fin 1024) (b : Fin 1408) :
    k0_pay2 (F := Ideal) v w (ix2 a b) = ∑ k : Fin 1024, v (ix2 a k) * w (ix2 b k) := by
  pointwise [k0_pay2, k0_pay1]

theorem gate_at (c : Dev nD) (t : Fin cfg0.N) (a : Fin 1024) (b : Fin 1408) :
    k0_pay2 (F := Ideal) (iblk m c 0 t) (iblk m c 1 t) (ix2 a b) = lin (m ((c : Thread nD τ).loc main_arg0)) (m ((c : Thread nD τ).loc main_arg1)) (row t a) (col t b) := by
  refine (pay_gate _ _ a b).trans ?_
  simp only [blk_0 m c t, blk_1 m c t]
  rfl

theorem pay_up (v : Vec Ideal S1024x1024 .bf16) (w : Vec Ideal S1408x1024 .bf16) (a : Fin 1024) (b : Fin 1408) :
    k0_pay3 (F := Ideal) v w (ix2 a b) = ∑ k : Fin 1024, v (ix2 a k) * w (ix2 b k) := by
  pointwise [k0_pay3, k0_pay1]

theorem up_at (c : Dev nD) (t : Fin cfg0.N) (a : Fin 1024) (b : Fin 1408) :
    k0_pay3 (F := Ideal) (iblk m c 0 t) (iblk m c 2 t) (ix2 a b) = lin (m ((c : Thread nD τ).loc main_arg0)) (m ((c : Thread nD τ).loc main_arg2)) (row t a) (col t b) := by
  refine (pay_up _ _ a b).trans ?_
  simp only [blk_0 m c t, blk_2 m c t]
  rfl

theorem ref_gate (h : FVec Ideal S2x4096x1024 .bf16) (w : FVec Ideal S1024x2816 .f32) (r : Fin 8192) (b : Fin 2816) :
    REF_v6 h w (ix2 r b) = lin h w r b := by
  unfold lin
  pointwise [REF_v6]

theorem ref_up (h : FVec Ideal S2x4096x1024 .bf16) (w : FVec Ideal S1024x2816 .f32) (r : Fin 8192) (b : Fin 2816) :
    REF_v8 h w (ix2 r b) = lin h w r b := by
  unfold lin
  pointwise [REF_v8]

theorem ref_act (h : FVec Ideal S2x4096x1024 .bf16) (w v : FVec Ideal S1024x2816 .f32) (r : Fin 8192) (b : Fin 2816) :
    REF_v10 h w v (ix2 r b) = lin h w r b * Ideal.logistic (lin h w r b) * lin h v r b := by
  unfold lin Ideal.logistic
  pointwise [REF_v10]

theorem pay_act (v : Vec Ideal S1024x1024 .bf16) (w u : Vec Ideal S1408x1024 .bf16) (a : Fin 1024) (b : Fin 1408) :
    k0_pay6 (F := Ideal) v w u (ix2 a b) = k0_pay2 v w (ix2 a b) * Ideal.logistic (k0_pay2 v w (ix2 a b)) * k0_pay3 v u (ix2 a b) := by
  pointwise [k0_pay6]

/-- the array of window 3 after the run. -/
theorem final_3 (c : Dev nD) : (dats m 0 c).arrAt 3 (cfgs 0).N = REF_v6 (m ((c : Thread nD τ).loc main_arg0)) (m ((c : Thread nD τ).loc main_arg1)) := by
  refine (dats m 0 c).arrAt_eq_of_covers 3 _ (by decide +kernel) fun t hf y => ?_
  blk_simp; rw [after0_3]; frame_out
  idx_vars y
  rw [emb_3, ref_gate]
  exact gate_at m c t y0 y1

/-- the array of window 4 after the run. -/
theorem final_4 (c : Dev nD) : (dats m 0 c).arrAt 4 (cfgs 0).N = REF_v8 (m ((c : Thread nD τ).loc main_arg0)) (m ((c : Thread nD τ).loc main_arg2)) := by
  refine (dats m 0 c).arrAt_eq_of_covers 4 _ (by decide +kernel) fun t hf y => ?_
  blk_simp; rw [after0_4]; frame_out
  idx_vars y
  rw [emb_4, ref_up]
  exact up_at m c t y0 y1

/-- the array of window 5 after the run. -/
theorem final_5 (c : Dev nD) : (dats m 0 c).arrAt 5 (cfgs 0).N = REF_v10 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  idx_vars y
  rw [emb_5, ref_act]
  refine (pay_act _ _ _ y0 y1).trans ?_
  rw [gate_at, up_at]

end Cert.UnitKernelIdeal.Value

end
-- ==== Proof.UnitClaim.lean ====
/- The claims about `UnitKernel`, its idealization and its reference. -/
module

public import proofs.«01_k».proof.Defs
public import proofs.«01_k».proof.Proof.Gen.UnitKernel.Frame
public import proofs.«01_k».proof.Proof.Gen.UnitKernelIdeal.Frame
public import proofs.«01_k».proof.Proof.Gen.UnitReferenceIdeal.Run
public import proofs.«01_k».proof.Proof.UnitValue
public import Idealize.ShloMosaic.Lib.Claim

@[expose] public section

set_option maxRecDepth 16384

noncomputable section

namespace Cert.Proof.Unit

open Idealize.ShloMosaic Idealize.ShloMosaic.TcCoe Idealize.SL.Sem

instance : Cert.UnitKernel.Facts := Cert.UnitKernel.Gen.facts
instance : Cert.UnitKernelIdeal.Facts := Cert.UnitKernelIdeal.Gen.facts
instance : Cert.UnitReferenceIdeal.Facts := Cert.UnitReferenceIdeal.Gen.facts

/-- the kernel's thread on a device. -/
abbrev tK (c : Dev Cert.UnitKernelIdeal.nD) : Thread Cert.UnitKernelIdeal.nD Cert.UnitKernelIdeal.τ := c.tc

/-- the reference's thread on a device. -/
abbrev tR (c : Dev Cert.UnitReferenceIdeal.nD) : Thread Cert.UnitReferenceIdeal.nD Cert.UnitReferenceIdeal.τ := c.tc

/-- a memory of the kernel's program. -/
abbrev MemK := (ℓ : Loc Cert.UnitKernelIdeal.nD Cert.UnitKernelIdeal.τ Cert.UnitKernelIdeal.sig) → Buf (Elt Ideal) ℓ

/-- a memory of the reference's program. -/
abbrev MemR := (ℓ : Loc Cert.UnitReferenceIdeal.nD Cert.UnitReferenceIdeal.τ Cert.UnitReferenceIdeal.sig) → Buf (Elt Ideal) ℓ

/-- the printed kernel's frame. -/
theorem frame_p : Cert.quiescent_UnitKernel := fun m ρ _ => Cert.UnitKernel.Gen.frame m ρ

/-- the idealized kernel's frame. -/
theorem frame_pi : Cert.quiescent_UnitKernelIdeal := fun m ρ _ => Cert.UnitKernelIdeal.Gen.frame m ρ

/-- the reference's frame: it declares no semaphore. -/
theorem frame_ri : Cert.quiescent_UnitReferenceIdeal := fun m g _ =>
  (θ_run Cert.UnitReferenceIdeal.defs _ _).mono
    (fun r h => ⟨fun c => ⟨(h c).2.2.2.1, (h c).2.2.2.2.1, (h c).2.2.2.2.2⟩, sem_eq_zero_of_no_sems (by decide) r.2⟩)
    (Cert.UnitReferenceIdeal.Value.run m g)

/-- the reference's term for window 3's array, at the kernel's arguments. -/
theorem out_3 (m : MemK)
    (m' : MemR) (c : Dev Cert.UnitKernelIdeal.nD)
    (a0 : m' ((tR c).loc Cert.UnitReferenceIdeal.main_arg0) = m ((tK c).loc Cert.UnitKernelIdeal.main_arg0))
    (a1 : m' ((tR c).loc Cert.UnitReferenceIdeal.main_arg1) = m ((tK c).loc Cert.UnitKernelIdeal.main_arg1)) :
    Cert.UnitReferenceIdeal.Value.REF_v6 (m' ((tR c).loc Cert.UnitReferenceIdeal.main_arg0)) (m' ((tR c).loc Cert.UnitReferenceIdeal.main_arg1))
      = (Cert.UnitKernelIdeal.Gen.dats m 0 c).arrAt 3 (Cert.UnitKernelIdeal.cfgs 0).N := by
  rw [a0, a1]
  exact (Cert.UnitKernelIdeal.Value.final_3 m c).symm

/-- the reference's term for window 4's array, at the kernel's arguments. -/
theorem out_4 (m : MemK)
    (m' : MemR) (c : Dev Cert.UnitKernelIdeal.nD)
    (a0 : m' ((tR c).loc Cert.UnitReferenceIdeal.main_arg0) = m ((tK c).loc Cert.UnitKernelIdeal.main_arg0))
    (a2 : m' ((tR c).loc Cert.UnitReferenceIdeal.main_arg2) = m ((tK c).loc Cert.UnitKernelIdeal.main_arg2)) :
    Cert.UnitReferenceIdeal.Value.REF_v8 (m' ((tR c).loc Cert.UnitReferenceIdeal.main_arg0)) (m' ((tR c).loc Cert.UnitReferenceIdeal.main_arg2))
      = (Cert.UnitKernelIdeal.Gen.dats m 0 c).arrAt 4 (Cert.UnitKernelIdeal.cfgs 0).N := by
  rw [a0, a2]
  exact (Cert.UnitKernelIdeal.Value.final_4 m c).symm

/-- the reference's term for window 5's array, at the kernel's arguments. -/
theorem out_5 (m : MemK)
    (m' : MemR) (c : Dev Cert.UnitKernelIdeal.nD)
    (a0 : m' ((tR c).loc Cert.UnitReferenceIdeal.main_arg0) = m ((tK c).loc Cert.UnitKernelIdeal.main_arg0))
    (a1 : m' ((tR c).loc Cert.UnitReferenceIdeal.main_arg1) = m ((tK c).loc Cert.UnitKernelIdeal.main_arg1))
    (a2 : m' ((tR c).loc Cert.UnitReferenceIdeal.main_arg2) = m ((tK c).loc Cert.UnitKernelIdeal.main_arg2)) :
    Cert.UnitReferenceIdeal.Value.REF_v10 (m' ((tR c).loc Cert.UnitReferenceIdeal.main_arg0)) (m' ((tR c).loc Cert.UnitReferenceIdeal.main_arg1)) (m' ((tR c).loc Cert.UnitReferenceIdeal.main_arg2))
      = (Cert.UnitKernelIdeal.Gen.dats m 0 c).arrAt 5 (Cert.UnitKernelIdeal.cfgs 0).N := by
  rw [a0, a1, a2]
  exact (Cert.UnitKernelIdeal.Value.final_5 m c).symm

/-- the idealized kernel computes the forward lines. -/
theorem algebraic : Cert.algebraic_UnitKernelIdeal_UnitReferenceIdeal := by
  pair_intro
  · run_from Cert.UnitKernelIdeal.Gen.run_main m g
  · exact (θ_run Cert.UnitReferenceIdeal.defs _ _).mono
      (fun r h c => ⟨(h c).1.trans (out_3 m m' c (hagree c).1 (hagree c).2.1), (h c).2.1.trans (out_4 m m' c (hagree c).1 (hagree c).2.2), (h c).2.2.1.trans (out_5 m m' c (hagree c).1 (hagree c).2.1 (hagree c).2.2),
        (h c).2.2.2.1, (h c).2.2.2.2.1, (h c).2.2.2.2.2⟩)
      (Cert.UnitReferenceIdeal.Value.run m' g')

end Cert.Proof.Unit

end
-- ==== Proof.OutRef.lean ====
/- The reference results of `Cert.OutReferenceIdeal` as named functions of its arguments. -/
module

public import proofs.«01_k».proof.Proof.Gen.OutReferenceIdeal.Run
public import Idealize.ShloMosaic.Lib.Pipeline.ValueKit

@[expose] public section

set_option maxRecDepth 16384

noncomputable section

namespace Cert.OutReferenceIdeal.Value

open Cert.OutReferenceIdeal Cert.OutReferenceIdeal.Gen Idealize.ShloMosaic Idealize.ShloMosaic.TcCoe Idealize.SL.Sem Idealize.ShloMosaic.StableHlo

/-- the rows after the residual line. -/
def mid (a0 : FVec Ideal S2x4096x2816 .bf16) (a1 : FVec Ideal S2816x1024 .f32) (a2 : FVec Ideal S2x4096x1024 .f32) (a3 : FVec Ideal S2x1x1024 .f32) : FVec Ideal S2x4096x1024 .f32 :=
  addf a2 (mulf (broadcastInDim S2x4096x1024 ![0, 1, 2] bcast_S2x1x1024_S2x4096x1024_0_1_2 a3) (Host.dotGeneral dot_S2x4096x2816_S2816x1024_S2x4096x1024_2_0_01_1_n_n none (extf .f32 a0 bitsLt_bf16_f32) a1))

/-- What the reference leaves in `main_v6`. -/
abbrev REF_v6 (a0 : FVec Ideal S2x4096x2816 .bf16) (a1 : FVec Ideal S2816x1024 .f32) : FVec Ideal S8192x1024 .bf16 :=
  truncf .bf16 (shapeCast _ (Host.dotGeneral dot_S2x4096x2816_S2816x1024_S2x4096x1024_2_0_01_1_n_n none (extf .f32 a0 bitsLt_bf16_f32) a1) shapeCasts_S2x4096x1024_S8192x1024) bitsLt_bf16_f32

/-- What the reference leaves in `main_v7`. -/
abbrev REF_v7 (a0 : FVec Ideal S2x4096x2816 .bf16) (a1 : FVec Ideal S2816x1024 .f32) (a2 : FVec Ideal S2x4096x1024 .f32) (a3 : FVec Ideal S2x1x1024 .f32) : FVec Ideal S8192x1024 .f32 :=
  shapeCast _ (mid a0 a1 a2 a3) shapeCasts_S2x4096x1024_S8192x1024

/-- What the reference leaves in `main_v28`. -/
abbrev REF_v28 (a0 : FVec Ideal S2x4096x2816 .bf16) (a1 : FVec Ideal S2816x1024 .f32) (a2 : FVec Ideal S2x4096x1024 .f32) (a3 : FVec Ideal S2x1x1024 .f32) (a4 : FVec Ideal S1024 .f32) (a5 : FVec Ideal S2x1x1024 .f32) (a6 : FVec Ideal S2x1x1024 .f32) : FVec Ideal S8192x1024 .bf16 :=
  truncf .bf16 (shapeCast _ (addf (mulf (mulf (mulf (mid a0 a1 a2 a3) (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf (mid a0 a1 a2 a3) (mid a0 a1 a2 a3)) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 a4))) (broadcastInDim S2x4096x1024 ![0, 1, 2] bcast_S2x1x1024_S2x4096x1024_0_1_2 (addf (broadcastInDim S2x1x1024 ![] bcast_S_S2x1x1024 (constant S_ .f32 0x3F800000#32)) a5))) (broadcastInDim S2x4096x1024 ![0, 1, 2] bcast_S2x1x1024_S2x4096x1024_0_1_2 a6)) shapeCasts_S2x4096x1024_S8192x1024) bitsLt_bf16_f32

end Cert.OutReferenceIdeal.Value

end
-- ==== Proof.OutValue.lean ====
/- What `OutKernelIdeal` leaves in its results, against the reference's terms. -/
module

public import proofs.«01_k».proof.Proof.Gen.OutKernelIdeal.Value
public import proofs.«01_k».proof.Proof.OutRef
public import proofs.«01_k».proof.Proof.NormKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutKernelIdeal.Value

open Cert.OutKernelIdeal Cert.OutKernelIdeal.Gen Cert.OutReferenceIdeal.Value

variable (m : (ℓ : Loc nD τ sig) → Buf (Elt Ideal) ℓ)

/-- every window's block index at every grid point (decided). -/
theorem idx_val : ∀ t : Fin cfg0.N, win0_0.index t = ![t.val, 0]
    ∧ win0_1.index t = ![0, 0]
    ∧ win0_2.index t = ![t.val, 0]
    ∧ win0_3.index t = ![t.val / 8, 0, 0]
    ∧ win0_4.index t = ![0, 0]
    ∧ win0_5.index t = ![t.val / 8, 0, 0]
    ∧ win0_6.index t = ![t.val / 8, 0, 0]
    ∧ win0_7.index t = ![t.val, 0]
    ∧ win0_8.index t = ![t.val, 0]
    ∧ win0_9.index t = ![t.val, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

/-- the row of the flat array that a block's row is. -/
abbrev row (t : Fin cfg0.N) (a : Fin 512) : Fin 8192 := ⟨t.val * 512 + a.val, by have := lt_N t; omega⟩

theorem row_smp (t : Fin cfg0.N) (a : Fin 512) (h : (row t a).val / 4096 < 2) : (⟨(row t a).val / 4096, h⟩ : Fin 2) = smp t :=
  Fin.ext (by dsimp only; omega)

theorem row_tok (t : Fin cfg0.N) (a : Fin 512) (h : (row t a).val % 4096 < 4096) : (⟨(row t a).val % 4096, h⟩ : Fin 4096) = tok t a :=
  Fin.ext (by dsimp only; omega)

theorem blk_0 (c : Dev nD) (t : Fin cfg0.N) (a : Fin 512) (k : Fin 2816) :
    iblk m c 0 t (ix2 a k) = m ((c : Thread nD τ).loc main_arg0) (ix3 (smp t) (tok t a) k) := by
  blk_simp [iblk, idx_val t]; entry_read; pointwise; blk_ext [idx_val t]

theorem blk_1 (c : Dev nD) (t : Fin cfg0.N) (k : Fin 2816) (b : Fin 1024) :
    iblk m c 1 t (ix2 k b) = m ((c : Thread nD τ).loc main_arg1) (ix2 k b) := by
  blk_simp [iblk, idx_val t]; entry_read; pointwise; blk_ext [idx_val t]

theorem blk_2 (c : Dev nD) (t : Fin cfg0.N) (a : Fin 512) (k : Fin 1024) :
    iblk m c 2 t (ix2 a k) = m ((c : Thread nD τ).loc main_arg2) (ix3 (smp t) (tok t a) k) := by
  blk_simp [iblk, idx_val t]; entry_read; pointwise; blk_ext [idx_val t]

theorem blk_3 (c : Dev nD) (t : Fin cfg0.N) (b : Fin 1024) :
    iblk m c 3 t (ix3 0 0 b) = m ((c : Thread nD τ).loc main_arg3) (ix3 (smp t) 0 b) := by
  blk_simp [iblk, V, idx_val t]; blk_ext [idx_val t]

theorem blk_4 (c : Dev nD) (t : Fin cfg0.N) (b : Fin 1024) :
    iblk m c 4 t (ix2 0 b) = m ((c : Thread nD τ).loc main_arg4) (ix1 b) := by
  blk_simp [iblk, idx_val t]; entry_read; pointwise; blk_ext [idx_val t]

theorem blk_5 (c : Dev nD) (t : Fin cfg0.N) (b : Fin 1024) :
    iblk m c 5 t (ix3 0 0 b) = m ((c : Thread nD τ).loc main_arg5) (ix3 (smp t) 0 b) := by
  blk_simp [iblk, V, idx_val t]; blk_ext [idx_val t]

theorem blk_6 (c : Dev nD) (t : Fin cfg0.N) (b : Fin 1024) :
    iblk m c 6 t (ix3 0 0 b) = m ((c : Thread nD τ).loc main_arg6) (ix3 (smp t) 0 b) := by
  blk_simp [iblk, V, idx_val t]; blk_ext [idx_val t]

theorem emb_7 (t : Fin cfg0.N) (a : Fin 512) (b : Fin 1024) :
    ((cfg0.win 7).blk t).view.emb (ix2 a b) = (ix2 (row t a) b : S8192x1024.Idx) := by
  blk_ext [idx_val t]

theorem emb_8 (t : Fin cfg0.N) (a : Fin 512) (b : Fin 1024) :
    ((cfg0.win 8).blk t).view.emb (ix2 a b) = (ix2 (row t a) b : S8192x1024.Idx) := by
  blk_ext [idx_val t]

theorem emb_9 (t : Fin cfg0.N) (a : Fin 512) (b : Fin 1024) :
    ((cfg0.win 9).blk t).view.emb (ix2 a b) = (ix2 (row t a) b : S8192x1024.Idx) := by
  blk_ext [idx_val t]

/-- a column's product with a row. -/
def lin (u : FVec Ideal S2x4096x2816 .bf16) (w : FVec Ideal S2816x1024 .f32) (p : Fin 2) (q : Fin 4096) (b : Fin 1024) : EReal :=
  ∑ k : Fin 2816, u (ix3 p q k) * w (ix2 k b)

/-- the product, at coordinates. -/
theorem pay_dot (v0 : Vec Ideal S512x2816 .bf16) (v2 : Vec Ideal S2816x1024 .bf16) (a : Fin 512) (b : Fin 1024) :
    k0_pay2 (F := Ideal) v0 v2 (ix2 a b) = ∑ k : Fin 2816, v0 (ix2 a k) * v2 (ix2 k b) := by
  pointwise [k0_pay2]

theorem dot_at (c : Dev nD) (t : Fin cfg0.N) (a : Fin 512) (b : Fin 1024) :
    k0_pay2 (F := Ideal) (iblk m c 0 t) (iblk m c 1 t) (ix2 a b)
      = lin (m ((c : Thread nD τ).loc main_arg0)) (m ((c : Thread nD τ).loc main_arg1)) (smp t) (tok t a) b := by
  refine (pay_dot _ _ a b).trans ?_
  simp only [blk_0 m c t, blk_1 m c t]
  rfl

theorem ref_y (u : FVec Ideal S2x4096x2816 .bf16) (w : FVec Ideal S2816x1024 .f32) (r : Fin 8192) (b : Fin 1024) :
    REF_v6 u w (ix2 r b) = lin u w (⟨r.val / 4096, by omega⟩ : Fin 2) (⟨r.val % 4096, by omega⟩ : Fin 4096) b := by
  unfold lin
  pointwise [REF_v6]

/-- the residual line of the reference, at coordinates. -/
theorem mid_at (u : FVec Ideal S2x4096x2816 .bf16) (w : FVec Ideal S2816x1024 .f32) (x : FVec Ideal S2x4096x1024 .f32) (g : FVec Ideal S2x1x1024 .f32) (p : Fin 2) (q : Fin 4096) (b : Fin 1024) :
    mid u w x g (ix3 p q b) = x (ix3 p q b) + g (ix3 p 0 b) * lin u w p q b := by
  unfold lin
  pointwise [mid]

theorem ref_x (u : FVec Ideal S2x4096x2816 .bf16) (w : FVec Ideal S2816x1024 .f32) (x : FVec Ideal S2x4096x1024 .f32) (g : FVec Ideal S2x1x1024 .f32) (r : Fin 8192) (b : Fin 1024) :
    REF_v7 u w x g (ix2 r b) = mid u w x g (ix3 (⟨r.val / 4096, by omega⟩ : Fin 2) (⟨r.val % 4096, by omega⟩ : Fin 4096) b) := by
  pointwise [REF_v7]

theorem pay_res (v0 : Vec Ideal S512x2816 .bf16) (v2 : Vec Ideal S2816x1024 .bf16) (x : Vec Ideal S512x1024 .f32) (g : Vec Ideal S1x1x1024 .f32) (a : Fin 512) (b : Fin 1024) :
    k0_pay3 (F := Ideal) v0 v2 x g (ix2 a b) = x (ix2 a b) + g (ix3 0 0 b) * k0_pay2 v0 v2 (ix2 a b) := by
  pointwise [k0_pay3]

/-- the residual line, at a grid point. -/
theorem res_at (c : Dev nD) (t : Fin cfg0.N) (a : Fin 512) (b : Fin 1024) :
    k0_pay3 (F := Ideal) (iblk m c 0 t) (iblk m c 1 t) (iblk m c 2 t) (iblk m c 3 t) (ix2 a b) = mid (m ((c : Thread nD τ).loc main_arg0)) (m ((c : Thread nD τ).loc main_arg1)) (m ((c : Thread nD τ).loc main_arg2)) (m ((c : Thread nD τ).loc main_arg3)) (ix3 (smp t) (tok t a) b) := by
  refine (pay_res _ _ _ _ a b).trans ?_
  rw [mid_at]
  exact Ideal.add_congr (blk_2 m c t a b) (Ideal.mul_congr (blk_3 m c t b) (dot_at m c t a b))

/-- the array of window 7 after the run. -/
theorem final_7 (c : Dev nD) : (dats m 0 c).arrAt 7 (cfgs 0).N = REF_v6 (m ((c : Thread nD τ).loc main_arg0)) (m ((c : Thread nD τ).loc main_arg1)) := by
  refine (dats m 0 c).arrAt_eq_of_covers 7 _ (by decide +kernel) fun t hf y => ?_
  blk_simp; rw [after0_7]; frame_out
  idx_vars y
  rw [emb_7, ref_y, row_smp, row_tok]
  exact dot_at m c t y0 y1

/-- the array of window 8 after the run. -/
theorem final_8 (c : Dev nD) : (dats m 0 c).arrAt 8 (cfgs 0).N = REF_v7 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp; rw [after0_8]; frame_out
  idx_vars y
  rw [emb_8, ref_x, row_smp, row_tok]
  exact res_at m c t y0 y1

theorem pay_mod (v0 : Vec Ideal S512x2816 .bf16) (v2 : Vec Ideal S2816x1024 .bf16) (x : Vec Ideal S512x1024 .f32) (g : Vec Ideal S1x1x1024 .f32) (n : Vec Ideal S1x1024 .f32) (sc sh : Vec Ideal S1x1x1024 .f32) (a : Fin 512) (b : Fin 1024) :
    k0_pay4 (F := Ideal) v0 v2 x g n sc sh (ix2 a b)
      = k0_pay3 v0 v2 x g (ix2 a b) * (NormKit.normRow fun k => k0_pay3 v0 v2 x g (ix2 a k)) * n (ix2 0 b) * (1 + sc (ix3 0 0 b)) + sh (ix3 0 0 b) := by
  pointwise [k0_pay4]; rfl

theorem ref_h (u : FVec Ideal S2x4096x2816 .bf16) (w : FVec Ideal S2816x1024 .f32) (x : FVec Ideal S2x4096x1024 .f32) (g : FVec Ideal S2x1x1024 .f32) (n : FVec Ideal S1024 .f32) (sc sh : FVec Ideal S2x1x1024 .f32) (r : Fin 8192) (b : Fin 1024) :
    REF_v28 u w x g n sc sh (ix2 r b) = NormKit.modRow (fun k => mid u w x g (ix3 (⟨r.val / 4096, by omega⟩ : Fin 2) (⟨r.val % 4096, by omega⟩ : Fin 4096) k)) b (n (ix1 b)) (sc (ix3 (⟨r.val / 4096, by omega⟩ : Fin 2) 0 b)) (sh (ix3 (⟨r.val / 4096, by omega⟩ : Fin 2) 0 b)) := by
  pointwise [REF_v28]; rfl

/-- the array of window 9 after the run. -/
theorem final_9 (c : Dev nD) : (dats m 0 c).arrAt 9 (cfgs 0).N = REF_v28 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp; rw [after0_9]; frame_out
  idx_vars y
  rw [emb_9, ref_h, row_smp, row_tok]
  refine (pay_mod _ _ _ _ _ _ _ y0 y1).trans ?_
  rw [NormKit.modRow]
  have e : (fun k => k0_pay3 (F := Ideal) (iblk m c 0 t) (iblk m c 1 t) (iblk m c 2 t) (iblk m c 3 t) (ix2 y0 k)) = fun k => mid (m ((c : Thread nD τ).loc main_arg0)) (m ((c : Thread nD τ).loc main_arg1)) (m ((c : Thread nD τ).loc main_arg2)) (m ((c : Thread nD τ).loc main_arg3)) (ix3 (smp t) (tok t y0) k) :=
    funext fun k => res_at m c t y0 k
  exact Ideal.add_congr (Ideal.mul_congr (Ideal.mul_congr (Ideal.mul_congr (res_at m c t y0 y1) (congrArg NormKit.normRow e)) (blk_4 m c t y1)) (Ideal.add_congr rfl (blk_5 m c t y1))) (blk_6 m c t y1)

end Cert.OutKernelIdeal.Value

end
-- ==== Proof.OutClaim.lean ====
/- The claims about `OutKernel`, its idealization and its reference. -/
module

public import proofs.«01_k».proof.Defs
public import proofs.«01_k».proof.Proof.Gen.OutKernel.Frame
public import proofs.«01_k».proof.Proof.Gen.OutKernelIdeal.Frame
public import proofs.«01_k».proof.Proof.Gen.OutReferenceIdeal.Run
public import proofs.«01_k».proof.Proof.OutValue
public import Idealize.ShloMosaic.Lib.Claim

@[expose] public section

set_option maxRecDepth 16384

noncomputable section

namespace Cert.Proof.Out

open Idealize.ShloMosaic Idealize.ShloMosaic.TcCoe Idealize.SL.Sem

instance : Cert.OutKernel.Facts := Cert.OutKernel.Gen.facts
instance : Cert.OutKernelIdeal.Facts := Cert.OutKernelIdeal.Gen.facts
instance : Cert.OutReferenceIdeal.Facts := Cert.OutReferenceIdeal.Gen.facts

/-- the kernel's thread on a device. -/
abbrev tK (c : Dev Cert.OutKernelIdeal.nD) : Thread Cert.OutKernelIdeal.nD Cert.OutKernelIdeal.τ := c.tc

/-- the reference's thread on a device. -/
abbrev tR (c : Dev Cert.OutReferenceIdeal.nD) : Thread Cert.OutReferenceIdeal.nD Cert.OutReferenceIdeal.τ := c.tc

/-- a memory of the kernel's program. -/
abbrev MemK := (ℓ : Loc Cert.OutKernelIdeal.nD Cert.OutKernelIdeal.τ Cert.OutKernelIdeal.sig) → Buf (Elt Ideal) ℓ

/-- a memory of the reference's program. -/
abbrev MemR := (ℓ : Loc Cert.OutReferenceIdeal.nD Cert.OutReferenceIdeal.τ Cert.OutReferenceIdeal.sig) → Buf (Elt Ideal) ℓ

/-- the printed kernel's frame. -/
theorem frame_p : Cert.quiescent_OutKernel := fun m ρ _ => Cert.OutKernel.Gen.frame m ρ

/-- the idealized kernel's frame. -/
theorem frame_pi : Cert.quiescent_OutKernelIdeal := fun m ρ _ => Cert.OutKernelIdeal.Gen.frame m ρ

/-- the reference's frame: it declares no semaphore. -/
theorem frame_ri : Cert.quiescent_OutReferenceIdeal := fun m g _ =>
  (θ_run Cert.OutReferenceIdeal.defs _ _).mono
    (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.OutReferenceIdeal.Value.run m g)

/-- the reference's term for window 7's array, at the kernel's arguments. -/
theorem out_7 (m : MemK)
    (m' : MemR) (c : Dev Cert.OutKernelIdeal.nD)
    (a0 : m' ((tR c).loc Cert.OutReferenceIdeal.main_arg0) = m ((tK c).loc Cert.OutKernelIdeal.main_arg0))
    (a1 : m' ((tR c).loc Cert.OutReferenceIdeal.main_arg1) = m ((tK c).loc Cert.OutKernelIdeal.main_arg1)) :
    Cert.OutReferenceIdeal.Value.REF_v6 (m' ((tR c).loc Cert.OutReferenceIdeal.main_arg0)) (m' ((tR c).loc Cert.OutReferenceIdeal.main_arg1))
      = (Cert.OutKernelIdeal.Gen.dats m 0 c).arrAt 7 (Cert.OutKernelIdeal.cfgs 0).N := by
  rw [a0, a1]
  exact (Cert.OutKernelIdeal.Value.final_7 m c).symm

/-- the reference's term for window 8's array, at the kernel's arguments. -/
theorem out_8 (m : MemK)
    (m' : MemR) (c : Dev Cert.OutKernelIdeal.nD)
    (a0 : m' ((tR c).loc Cert.OutReferenceIdeal.main_arg0) = m ((tK c).loc Cert.OutKernelIdeal.main_arg0))
    (a1 : m' ((tR c).loc Cert.OutReferenceIdeal.main_arg1) = m ((tK c).loc Cert.OutKernelIdeal.main_arg1))
    (a2 : m' ((tR c).loc Cert.OutReferenceIdeal.main_arg2) = m ((tK c).loc Cert.OutKernelIdeal.main_arg2))
    (a3 : m' ((tR c).loc Cert.OutReferenceIdeal.main_arg3) = m ((tK c).loc Cert.OutKernelIdeal.main_arg3)) :
    Cert.OutReferenceIdeal.Value.REF_v7 (m' ((tR c).loc Cert.OutReferenceIdeal.main_arg0)) (m' ((tR c).loc Cert.OutReferenceIdeal.main_arg1)) (m' ((tR c).loc Cert.OutReferenceIdeal.main_arg2)) (m' ((tR c).loc Cert.OutReferenceIdeal.main_arg3))
      = (Cert.OutKernelIdeal.Gen.dats m 0 c).arrAt 8 (Cert.OutKernelIdeal.cfgs 0).N := by
  rw [a0, a1, a2, a3]
  exact (Cert.OutKernelIdeal.Value.final_8 m c).symm

/-- the reference's term for window 9's array, at the kernel's arguments. -/
theorem out_9 (m : MemK)
    (m' : MemR) (c : Dev Cert.OutKernelIdeal.nD)
    (a0 : m' ((tR c).loc Cert.OutReferenceIdeal.main_arg0) = m ((tK c).loc Cert.OutKernelIdeal.main_arg0))
    (a1 : m' ((tR c).loc Cert.OutReferenceIdeal.main_arg1) = m ((tK c).loc Cert.OutKernelIdeal.main_arg1))
    (a2 : m' ((tR c).loc Cert.OutReferenceIdeal.main_arg2) = m ((tK c).loc Cert.OutKernelIdeal.main_arg2))
    (a3 : m' ((tR c).loc Cert.OutReferenceIdeal.main_arg3) = m ((tK c).loc Cert.OutKernelIdeal.main_arg3))
    (a4 : m' ((tR c).loc Cert.OutReferenceIdeal.main_arg4) = m ((tK c).loc Cert.OutKernelIdeal.main_arg4))
    (a5 : m' ((tR c).loc Cert.OutReferenceIdeal.main_arg5) = m ((tK c).loc Cert.OutKernelIdeal.main_arg5))
    (a6 : m' ((tR c).loc Cert.OutReferenceIdeal.main_arg6) = m ((tK c).loc Cert.OutKernelIdeal.main_arg6)) :
    Cert.OutReferenceIdeal.Value.REF_v28 (m' ((tR c).loc Cert.OutReferenceIdeal.main_arg0)) (m' ((tR c).loc Cert.OutReferenceIdeal.main_arg1)) (m' ((tR c).loc Cert.OutReferenceIdeal.main_arg2)) (m' ((tR c).loc Cert.OutReferenceIdeal.main_arg3)) (m' ((tR c).loc Cert.OutReferenceIdeal.main_arg4)) (m' ((tR c).loc Cert.OutReferenceIdeal.main_arg5)) (m' ((tR c).loc Cert.OutReferenceIdeal.main_arg6))
      = (Cert.OutKernelIdeal.Gen.dats m 0 c).arrAt 9 (Cert.OutKernelIdeal.cfgs 0).N := by
  rw [a0, a1, a2, a3, a4, a5, a6]
  exact (Cert.OutKernelIdeal.Value.final_9 m c).symm

/-- the idealized kernel computes the forward lines. -/
theorem algebraic : Cert.algebraic_OutKernelIdeal_OutReferenceIdeal := by
  pair_intro
  · run_from Cert.OutKernelIdeal.Gen.run_main m g
  · exact (θ_run Cert.OutReferenceIdeal.defs _ _).mono
      (fun r h c => ⟨(h c).1.trans (out_7 m m' c (hagree c).1 (hagree c).2.1), (h c).2.1.trans (out_8 m m' c (hagree c).1 (hagree c).2.1 (hagree c).2.2.1 (hagree c).2.2.2.1), (h c).2.2.1.trans (out_9 m m' c (hagree c).1 (hagree c).2.1 (hagree c).2.2.1 (hagree c).2.2.2.1 (hagree c).2.2.2.2.1 (hagree c).2.2.2.2.2.1 (hagree c).2.2.2.2.2.2),
        (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩)
      (Cert.OutReferenceIdeal.Value.run m' g')

end Cert.Proof.Out

end
-- ==== Proof.OutARef.lean ====
/- The reference results of `Cert.OutAReferenceIdeal` as named functions of its arguments. -/
module

public import proofs.«01_k».proof.Proof.Gen.OutAReferenceIdeal.Run
public import Idealize.ShloMosaic.Lib.Pipeline.ValueKit

@[expose] public section

set_option maxRecDepth 16384

noncomputable section

namespace Cert.OutAReferenceIdeal.Value

open Cert.OutAReferenceIdeal Cert.OutAReferenceIdeal.Gen Idealize.ShloMosaic Idealize.ShloMosaic.TcCoe Idealize.SL.Sem Idealize.ShloMosaic.StableHlo

/-- the rows after the residual line. -/
def mid (a0 : FVec Ideal S2x4096x1024 .bf16) (a1 : FVec Ideal S1024x1024 .f32) (a2 : FVec Ideal S2x4096x1024 .f32) (a3 : FVec Ideal S2x1x1024 .f32) : FVec Ideal S2x4096x1024 .f32 :=
  addf a2 (mulf (broadcastInDim S2x4096x1024 ![0, 1, 2] bcast_S2x1x1024_S2x4096x1024_0_1_2 a3) (Host.dotGeneral dot_S2x4096x1024_S1024x1024_S2x4096x1024_2_0_01_1_n_n none (extf .f32 a0 bitsLt_bf16_f32) a1))

/-- What the reference leaves in `main_v6`. -/
abbrev REF_v6 (a0 : FVec Ideal S2x4096x1024 .bf16) (a1 : FVec Ideal S1024x1024 .f32) : FVec Ideal S8192x1024 .bf16 :=
  truncf .bf16 (shapeCast _ (Host.dotGeneral dot_S2x4096x1024_S1024x1024_S2x4096x1024_2_0_01_1_n_n none (extf .f32 a0 bitsLt_bf16_f32) a1) shapeCasts_S2x4096x1024_S8192x1024) bitsLt_bf16_f32

/-- What the reference leaves in `main_v7`. -/
abbrev REF_v7 (a0 : FVec Ideal S2x4096x1024 .bf16) (a1 : FVec Ideal S1024x1024 .f32) (a2 : FVec Ideal S2x4096x1024 .f32) (a3 : FVec Ideal S2x1x1024 .f32) : FVec Ideal S8192x1024 .f32 :=
  shapeCast _ (mid a0 a1 a2 a3) shapeCasts_S2x4096x1024_S8192x1024

/-- What the reference leaves in `main_v28`. -/
abbrev REF_v28 (a0 : FVec Ideal S2x4096x1024 .bf16) (a1 : FVec Ideal S1024x1024 .f32) (a2 : FVec Ideal S2x4096x1024 .f32) (a3 : FVec Ideal S2x1x1024 .f32) (a4 : FVec Ideal S1024 .f32) (a5 : FVec Ideal S2x1x1024 .f32) (a6 : FVec Ideal S2x1x1024 .f32) : FVec Ideal S8192x1024 .bf16 :=
  truncf .bf16 (shapeCast _ (addf (mulf (mulf (mulf (mid a0 a1 a2 a3) (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf (mid a0 a1 a2 a3) (mid a0 a1 a2 a3)) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 a4))) (broadcastInDim S2x4096x1024 ![0, 1, 2] bcast_S2x1x1024_S2x4096x1024_0_1_2 (addf (broadcastInDim S2x1x1024 ![] bcast_S_S2x1x1024 (constant S_ .f32 0x3F800000#32)) a5))) (broadcastInDim S2x4096x1024 ![0, 1, 2] bcast_S2x1x1024_S2x4096x1024_0_1_2 a6)) shapeCasts_S2x4096x1024_S8192x1024) bitsLt_bf16_f32

end Cert.OutAReferenceIdeal.Value

end
-- ==== Proof.OutAValue.lean ====
/- What `OutAKernelIdeal` leaves in its results, against the reference's terms. -/
module

public import proofs.«01_k».proof.Proof.Gen.OutAKernelIdeal.Value
public import proofs.«01_k».proof.Proof.OutARef
public import proofs.«01_k».proof.Proof.NormKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutAKernelIdeal.Value

open Cert.OutAKernelIdeal Cert.OutAKernelIdeal.Gen Cert.OutAReferenceIdeal.Value

variable (m : (ℓ : Loc nD τ sig) → Buf (Elt Ideal) ℓ)

/-- every window's block index at every grid point (decided). -/
theorem idx_val : ∀ t : Fin cfg0.N, win0_0.index t = ![t.val, 0]
    ∧ win0_1.index t = ![0, 0]
    ∧ win0_2.index t = ![t.val, 0]
    ∧ win0_3.index t = ![t.val / 8, 0, 0]
    ∧ win0_4.index t = ![0, 0]
    ∧ win0_5.index t = ![t.val / 8, 0, 0]
    ∧ win0_6.index t = ![t.val / 8, 0, 0]
    ∧ win0_7.index t = ![t.val, 0]
    ∧ win0_8.index t = ![t.val, 0]
    ∧ win0_9.index t = ![t.val, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

/-- the row of the flat array that a block's row is. -/
abbrev row (t : Fin cfg0.N) (a : Fin 512) : Fin 8192 := ⟨t.val * 512 + a.val, by have := lt_N t; omega⟩

theorem row_smp (t : Fin cfg0.N) (a : Fin 512) (h : (row t a).val / 4096 < 2) : (⟨(row t a).val / 4096, h⟩ : Fin 2) = smp t :=
  Fin.ext (by dsimp only; omega)

theorem row_tok (t : Fin cfg0.N) (a : Fin 512) (h : (row t a).val % 4096 < 4096) : (⟨(row t a).val % 4096, h⟩ : Fin 4096) = tok t a :=
  Fin.ext (by dsimp only; omega)

theorem blk_0 (c : Dev nD) (t : Fin cfg0.N) (a : Fin 512) (k : Fin 1024) :
    iblk m c 0 t (ix2 a k) = m ((c : Thread nD τ).loc main_arg0) (ix3 (smp t) (tok t a) k) := by
  blk_simp [iblk, idx_val t]; entry_read; pointwise; blk_ext [idx_val t]

theorem blk_1 (c : Dev nD) (t : Fin cfg0.N) (k : Fin 1024) (b : Fin 1024) :
    iblk m c 1 t (ix2 k b) = m ((c : Thread nD τ).loc main_arg1) (ix2 k b) := by
  blk_simp [iblk, idx_val t]; entry_read; pointwise; blk_ext [idx_val t]

theorem blk_2 (c : Dev nD) (t : Fin cfg0.N) (a : Fin 512) (k : Fin 1024) :
    iblk m c 2 t (ix2 a k) = m ((c : Thread nD τ).loc main_arg2) (ix3 (smp t) (tok t a) k) := by
  blk_simp [iblk, idx_val t]; entry_read; pointwise; blk_ext [idx_val t]

theorem blk_3 (c : Dev nD) (t : Fin cfg0.N) (b : Fin 1024) :
    iblk m c 3 t (ix3 0 0 b) = m ((c : Thread nD τ).loc main_arg3) (ix3 (smp t) 0 b) := by
  blk_simp [iblk, V, idx_val t]; blk_ext [idx_val t]

theorem blk_4 (c : Dev nD) (t : Fin cfg0.N) (b : Fin 1024) :
    iblk m c 4 t (ix2 0 b) = m ((c : Thread nD τ).loc main_arg4) (ix1 b) := by
  blk_simp [iblk, idx_val t]; entry_read; pointwise; blk_ext [idx_val t]

theorem blk_5 (c : Dev nD) (t : Fin cfg0.N) (b : Fin 1024) :
    iblk m c 5 t (ix3 0 0 b) = m ((c : Thread nD τ).loc main_arg5) (ix3 (smp t) 0 b) := by
  blk_simp [iblk, V, idx_val t]; blk_ext [idx_val t]

theorem blk_6 (c : Dev nD) (t : Fin cfg0.N) (b : Fin 1024) :
    iblk m c 6 t (ix3 0 0 b) = m ((c : Thread nD τ).loc main_arg6) (ix3 (smp t) 0 b) := by
  blk_simp [iblk, V, idx_val t]; blk_ext [idx_val t]

theorem emb_7 (t : Fin cfg0.N) (a : Fin 512) (b : Fin 1024) :
    ((cfg0.win 7).blk t).view.emb (ix2 a b) = (ix2 (row t a) b : S8192x1024.Idx) := by
  blk_ext [idx_val t]

theorem emb_8 (t : Fin cfg0.N) (a : Fin 512) (b : Fin 1024) :
    ((cfg0.win 8).blk t).view.emb (ix2 a b) = (ix2 (row t a) b : S8192x1024.Idx) := by
  blk_ext [idx_val t]

theorem emb_9 (t : Fin cfg0.N) (a : Fin 512) (b : Fin 1024) :
    ((cfg0.win 9).blk t).view.emb (ix2 a b) = (ix2 (row t a) b : S8192x1024.Idx) := by
  blk_ext [idx_val t]

/-- a column's product with a row. -/
def lin (u : FVec Ideal S2x4096x1024 .bf16) (w : FVec Ideal S1024x1024 .f32) (p : Fin 2) (q : Fin 4096) (b : Fin 1024) : EReal :=
  ∑ k : Fin 1024, u (ix3 p q k) * w (ix2 k b)

/-- the product, at coordinates. -/
theorem pay_dot (v0 : Vec Ideal S512x1024 .bf16) (v2 : Vec Ideal S1024x1024 .bf16) (a : Fin 512) (b : Fin 1024) :
    k0_pay2 (F := Ideal) v0 v2 (ix2 a b) = ∑ k : Fin 1024, v0 (ix2 a k) * v2 (ix2 k b) := by
  pointwise [k0_pay2]

theorem dot_at (c : Dev nD) (t : Fin cfg0.N) (a : Fin 512) (b : Fin 1024) :
    k0_pay2 (F := Ideal) (iblk m c 0 t) (iblk m c 1 t) (ix2 a b)
      = lin (m ((c : Thread nD τ).loc main_arg0)) (m ((c : Thread nD τ).loc main_arg1)) (smp t) (tok t a) b := by
  refine (pay_dot _ _ a b).trans ?_
  simp only [blk_0 m c t, blk_1 m c t]
  rfl

theorem ref_y (u : FVec Ideal S2x4096x1024 .bf16) (w : FVec Ideal S1024x1024 .f32) (r : Fin 8192) (b : Fin 1024) :
    REF_v6 u w (ix2 r b) = lin u w (⟨r.val / 4096, by omega⟩ : Fin 2) (⟨r.val % 4096, by omega⟩ : Fin 4096) b := by
  unfold lin
  pointwise [REF_v6]

/-- the residual line of the reference, at coordinates. -/
theorem mid_at (u : FVec Ideal S2x4096x1024 .bf16) (w : FVec Ideal S1024x1024 .f32) (x : FVec Ideal S2x4096x1024 .f32) (g : FVec Ideal S2x1x1024 .f32) (p : Fin 2) (q : Fin 4096) (b : Fin 1024) :
    mid u w x g (ix3 p q b) = x (ix3 p q b) + g (ix3 p 0 b) * lin u w p q b := by
  unfold lin
  pointwise [mid]

theorem ref_x (u : FVec Ideal S2x4096x1024 .bf16) (w : FVec Ideal S1024x1024 .f32) (x : FVec Ideal S2x4096x1024 .f32) (g : FVec Ideal S2x1x1024 .f32) (r : Fin 8192) (b : Fin 1024) :
    REF_v7 u w x g (ix2 r b) = mid u w x g (ix3 (⟨r.val / 4096, by omega⟩ : Fin 2) (⟨r.val % 4096, by omega⟩ : Fin 4096) b) := by
  pointwise [REF_v7]

theorem pay_res (v0 : Vec Ideal S512x1024 .bf16) (v2 : Vec Ideal S1024x1024 .bf16) (x : Vec Ideal S512x1024 .f32) (g : Vec Ideal S1x1x1024 .f32) (a : Fin 512) (b : Fin 1024) :
    k0_pay3 (F := Ideal) v0 v2 x g (ix2 a b) = x (ix2 a b) + g (ix3 0 0 b) * k0_pay2 v0 v2 (ix2 a b) := by
  pointwise [k0_pay3]

/-- the residual line, at a grid point. -/
theorem res_at (c : Dev nD) (t : Fin cfg0.N) (a : Fin 512) (b : Fin 1024) :
    k0_pay3 (F := Ideal) (iblk m c 0 t) (iblk m c 1 t) (iblk m c 2 t) (iblk m c 3 t) (ix2 a b) = mid (m ((c : Thread nD τ).loc main_arg0)) (m ((c : Thread nD τ).loc main_arg1)) (m ((c : Thread nD τ).loc main_arg2)) (m ((c : Thread nD τ).loc main_arg3)) (ix3 (smp t) (tok t a) b) := by
  refine (pay_res _ _ _ _ a b).trans ?_
  rw [mid_at]
  exact Ideal.add_congr (blk_2 m c t a b) (Ideal.mul_congr (blk_3 m c t b) (dot_at m c t a b))

/-- the array of window 7 after the run. -/
theorem final_7 (c : Dev nD) : (dats m 0 c).arrAt 7 (cfgs 0).N = REF_v6 (m ((c : Thread nD τ).loc main_arg0)) (m ((c : Thread nD τ).loc main_arg1)) := by
  refine (dats m 0 c).arrAt_eq_of_covers 7 _ (by decide +kernel) fun t hf y => ?_
  blk_simp; rw [after0_7]; frame_out
  idx_vars y
  rw [emb_7, ref_y, row_smp, row_tok]
  exact dot_at m c t y0 y1

/-- the array of window 8 after the run. -/
theorem final_8 (c : Dev nD) : (dats m 0 c).arrAt 8 (cfgs 0).N = REF_v7 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp; rw [after0_8]; frame_out
  idx_vars y
  rw [emb_8, ref_x, row_smp, row_tok]
  exact res_at m c t y0 y1

theorem pay_mod (v0 : Vec Ideal S512x1024 .bf16) (v2 : Vec Ideal S1024x1024 .bf16) (x : Vec Ideal S512x1024 .f32) (g : Vec Ideal S1x1x1024 .f32) (n : Vec Ideal S1x1024 .f32) (sc sh : Vec Ideal S1x1x1024 .f32) (a : Fin 512) (b : Fin 1024) :
    k0_pay4 (F := Ideal) v0 v2 x g n sc sh (ix2 a b)
      = k0_pay3 v0 v2 x g (ix2 a b) * (NormKit.normRow fun k => k0_pay3 v0 v2 x g (ix2 a k)) * n (ix2 0 b) * (1 + sc (ix3 0 0 b)) + sh (ix3 0 0 b) := by
  pointwise [k0_pay4]; rfl

theorem ref_h (u : FVec Ideal S2x4096x1024 .bf16) (w : FVec Ideal S1024x1024 .f32) (x : FVec Ideal S2x4096x1024 .f32) (g : FVec Ideal S2x1x1024 .f32) (n : FVec Ideal S1024 .f32) (sc sh : FVec Ideal S2x1x1024 .f32) (r : Fin 8192) (b : Fin 1024) :
    REF_v28 u w x g n sc sh (ix2 r b) = NormKit.modRow (fun k => mid u w x g (ix3 (⟨r.val / 4096, by omega⟩ : Fin 2) (⟨r.val % 4096, by omega⟩ : Fin 4096) k)) b (n (ix1 b)) (sc (ix3 (⟨r.val / 4096, by omega⟩ : Fin 2) 0 b)) (sh (ix3 (⟨r.val / 4096, by omega⟩ : Fin 2) 0 b)) := by
  pointwise [REF_v28]; rfl

/-- the array of window 9 after the run. -/
theorem final_9 (c : Dev nD) : (dats m 0 c).arrAt 9 (cfgs 0).N = REF_v28 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp; rw [after0_9]; frame_out
  idx_vars y
  rw [emb_9, ref_h, row_smp, row_tok]
  refine (pay_mod _ _ _ _ _ _ _ y0 y1).trans ?_
  rw [NormKit.modRow]
  have e : (fun k => k0_pay3 (F := Ideal) (iblk m c 0 t) (iblk m c 1 t) (iblk m c 2 t) (iblk m c 3 t) (ix2 y0 k)) = fun k => mid (m ((c : Thread nD τ).loc main_arg0)) (m ((c : Thread nD τ).loc main_arg1)) (m ((c : Thread nD τ).loc main_arg2)) (m ((c : Thread nD τ).loc main_arg3)) (ix3 (smp t) (tok t y0) k) :=
    funext fun k => res_at m c t y0 k
  exact Ideal.add_congr (Ideal.mul_congr (Ideal.mul_congr (Ideal.mul_congr (res_at m c t y0 y1) (congrArg NormKit.normRow e)) (blk_4 m c t y1)) (Ideal.add_congr rfl (blk_5 m c t y1))) (blk_6 m c t y1)

end Cert.OutAKernelIdeal.Value

end
-- ==== Proof.OutAClaim.lean ====
/- The claims about `OutAKernel`, its idealization and its reference. -/
module

public import proofs.«01_k».proof.Defs
public import proofs.«01_k».proof.Proof.Gen.OutAKernel.Frame
public import proofs.«01_k».proof.Proof.Gen.OutAKernelIdeal.Frame
public import proofs.«01_k».proof.Proof.Gen.OutAReferenceIdeal.Run
public import proofs.«01_k».proof.Proof.OutAValue
public import Idealize.ShloMosaic.Lib.Claim

@[expose] public section

set_option maxRecDepth 16384

noncomputable section

namespace Cert.Proof.OutA

open Idealize.ShloMosaic Idealize.ShloMosaic.TcCoe Idealize.SL.Sem

instance : Cert.OutAKernel.Facts := Cert.OutAKernel.Gen.facts
instance : Cert.OutAKernelIdeal.Facts := Cert.OutAKernelIdeal.Gen.facts
instance : Cert.OutAReferenceIdeal.Facts := Cert.OutAReferenceIdeal.Gen.facts

/-- the kernel's thread on a device. -/
abbrev tK (c : Dev Cert.OutAKernelIdeal.nD) : Thread Cert.OutAKernelIdeal.nD Cert.OutAKernelIdeal.τ := c.tc

/-- the reference's thread on a device. -/
abbrev tR (c : Dev Cert.OutAReferenceIdeal.nD) : Thread Cert.OutAReferenceIdeal.nD Cert.OutAReferenceIdeal.τ := c.tc

/-- a memory of the kernel's program. -/
abbrev MemK := (ℓ : Loc Cert.OutAKernelIdeal.nD Cert.OutAKernelIdeal.τ Cert.OutAKernelIdeal.sig) → Buf (Elt Ideal) ℓ

/-- a memory of the reference's program. -/
abbrev MemR := (ℓ : Loc Cert.OutAReferenceIdeal.nD Cert.OutAReferenceIdeal.τ Cert.OutAReferenceIdeal.sig) → Buf (Elt Ideal) ℓ

/-- the printed kernel's frame. -/
theorem frame_p : Cert.quiescent_OutAKernel := fun m ρ _ => Cert.OutAKernel.Gen.frame m ρ

/-- the idealized kernel's frame. -/
theorem frame_pi : Cert.quiescent_OutAKernelIdeal := fun m ρ _ => Cert.OutAKernelIdeal.Gen.frame m ρ

/-- the reference's frame: it declares no semaphore. -/
theorem frame_ri : Cert.quiescent_OutAReferenceIdeal := fun m g _ =>
  (θ_run Cert.OutAReferenceIdeal.defs _ _).mono
    (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.OutAReferenceIdeal.Value.run m g)

/-- the reference's term for window 7's array, at the kernel's arguments. -/
theorem out_7 (m : MemK)
    (m' : MemR) (c : Dev Cert.OutAKernelIdeal.nD)
    (a0 : m' ((tR c).loc Cert.OutAReferenceIdeal.main_arg0) = m ((tK c).loc Cert.OutAKernelIdeal.main_arg0))
    (a1 : m' ((tR c).loc Cert.OutAReferenceIdeal.main_arg1) = m ((tK c).loc Cert.OutAKernelIdeal.main_arg1)) :
    Cert.OutAReferenceIdeal.Value.REF_v6 (m' ((tR c).loc Cert.OutAReferenceIdeal.main_arg0)) (m' ((tR c).loc Cert.OutAReferenceIdeal.main_arg1))
      = (Cert.OutAKernelIdeal.Gen.dats m 0 c).arrAt 7 (Cert.OutAKernelIdeal.cfgs 0).N := by
  rw [a0, a1]
  exact (Cert.OutAKernelIdeal.Value.final_7 m c).symm

/-- the reference's term for window 8's array, at the kernel's arguments. -/
theorem out_8 (m : MemK)
    (m' : MemR) (c : Dev Cert.OutAKernelIdeal.nD)
    (a0 : m' ((tR c).loc Cert.OutAReferenceIdeal.main_arg0) = m ((tK c).loc Cert.OutAKernelIdeal.main_arg0))
    (a1 : m' ((tR c).loc Cert.OutAReferenceIdeal.main_arg1) = m ((tK c).loc Cert.OutAKernelIdeal.main_arg1))
    (a2 : m' ((tR c).loc Cert.OutAReferenceIdeal.main_arg2) = m ((tK c).loc Cert.OutAKernelIdeal.main_arg2))
    (a3 : m' ((tR c).loc Cert.OutAReferenceIdeal.main_arg3) = m ((tK c).loc Cert.OutAKernelIdeal.main_arg3)) :
    Cert.OutAReferenceIdeal.Value.REF_v7 (m' ((tR c).loc Cert.OutAReferenceIdeal.main_arg0)) (m' ((tR c).loc Cert.OutAReferenceIdeal.main_arg1)) (m' ((tR c).loc Cert.OutAReferenceIdeal.main_arg2)) (m' ((tR c).loc Cert.OutAReferenceIdeal.main_arg3))
      = (Cert.OutAKernelIdeal.Gen.dats m 0 c).arrAt 8 (Cert.OutAKernelIdeal.cfgs 0).N := by
  rw [a0, a1, a2, a3]
  exact (Cert.OutAKernelIdeal.Value.final_8 m c).symm

/-- the reference's term for window 9's array, at the kernel's arguments. -/
theorem out_9 (m : MemK)
    (m' : MemR) (c : Dev Cert.OutAKernelIdeal.nD)
    (a0 : m' ((tR c).loc Cert.OutAReferenceIdeal.main_arg0) = m ((tK c).loc Cert.OutAKernelIdeal.main_arg0))
    (a1 : m' ((tR c).loc Cert.OutAReferenceIdeal.main_arg1) = m ((tK c).loc Cert.OutAKernelIdeal.main_arg1))
    (a2 : m' ((tR c).loc Cert.OutAReferenceIdeal.main_arg2) = m ((tK c).loc Cert.OutAKernelIdeal.main_arg2))
    (a3 : m' ((tR c).loc Cert.OutAReferenceIdeal.main_arg3) = m ((tK c).loc Cert.OutAKernelIdeal.main_arg3))
    (a4 : m' ((tR c).loc Cert.OutAReferenceIdeal.main_arg4) = m ((tK c).loc Cert.OutAKernelIdeal.main_arg4))
    (a5 : m' ((tR c).loc Cert.OutAReferenceIdeal.main_arg5) = m ((tK c).loc Cert.OutAKernelIdeal.main_arg5))
    (a6 : m' ((tR c).loc Cert.OutAReferenceIdeal.main_arg6) = m ((tK c).loc Cert.OutAKernelIdeal.main_arg6)) :
    Cert.OutAReferenceIdeal.Value.REF_v28 (m' ((tR c).loc Cert.OutAReferenceIdeal.main_arg0)) (m' ((tR c).loc Cert.OutAReferenceIdeal.main_arg1)) (m' ((tR c).loc Cert.OutAReferenceIdeal.main_arg2)) (m' ((tR c).loc Cert.OutAReferenceIdeal.main_arg3)) (m' ((tR c).loc Cert.OutAReferenceIdeal.main_arg4)) (m' ((tR c).loc Cert.OutAReferenceIdeal.main_arg5)) (m' ((tR c).loc Cert.OutAReferenceIdeal.main_arg6))
      = (Cert.OutAKernelIdeal.Gen.dats m 0 c).arrAt 9 (Cert.OutAKernelIdeal.cfgs 0).N := by
  rw [a0, a1, a2, a3, a4, a5, a6]
  exact (Cert.OutAKernelIdeal.Value.final_9 m c).symm

/-- the idealized kernel computes the forward lines. -/
theorem algebraic : Cert.algebraic_OutAKernelIdeal_OutAReferenceIdeal := by
  pair_intro
  · run_from Cert.OutAKernelIdeal.Gen.run_main m g
  · exact (θ_run Cert.OutAReferenceIdeal.defs _ _).mono
      (fun r h c => ⟨(h c).1.trans (out_7 m m' c (hagree c).1 (hagree c).2.1), (h c).2.1.trans (out_8 m m' c (hagree c).1 (hagree c).2.1 (hagree c).2.2.1 (hagree c).2.2.2.1), (h c).2.2.1.trans (out_9 m m' c (hagree c).1 (hagree c).2.1 (hagree c).2.2.1 (hagree c).2.2.2.1 (hagree c).2.2.2.2.1 (hagree c).2.2.2.2.2.1 (hagree c).2.2.2.2.2.2),
        (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩)
      (Cert.OutAReferenceIdeal.Value.run m' g')

end Cert.Proof.OutA

end
-- ==== Proof.TopRef.lean ====
/- The reference results of `Cert.TopReferenceIdeal` as named functions of its arguments. -/
module

public import proofs.«01_k».proof.Proof.Gen.TopReferenceIdeal.Run
public import Idealize.ShloMosaic.Lib.Pipeline.ValueKit

@[expose] public section

set_option maxRecDepth 16384

noncomputable section

namespace Cert.TopReferenceIdeal.Value

open Cert.TopReferenceIdeal Cert.TopReferenceIdeal.Gen Idealize.ShloMosaic Idealize.ShloMosaic.TcCoe Idealize.SL.Sem Idealize.ShloMosaic.StableHlo

/-- the rows after the residual line. -/
def mid (a0 : FVec Ideal S2x4096x2816 .bf16) (a1 : FVec Ideal S2816x1024 .f32) (a2 : FVec Ideal S2x4096x1024 .f32) (a3 : FVec Ideal S2x1x1024 .f32) : FVec Ideal S2x4096x1024 .f32 :=
  addf a2 (mulf (broadcastInDim S2x4096x1024 ![0, 1, 2] bcast_S2x1x1024_S2x4096x1024_0_1_2 a3) (Host.dotGeneral dot_S2x4096x2816_S2816x1024_S2x4096x1024_2_0_01_1_n_n none (extf .f32 a0 bitsLt_bf16_f32) a1))

/-- What the reference leaves in `main_v3`. -/
abbrev REF_v3 (a0 : FVec Ideal S2x4096x2816 .bf16) (a1 : FVec Ideal S2816x1024 .f32) : FVec Ideal S8192x1024 .bf16 :=
  truncf .bf16 (shapeCast _ (Host.dotGeneral dot_S2x4096x2816_S2816x1024_S2x4096x1024_2_0_01_1_n_n none (extf .f32 a0 bitsLt_bf16_f32) a1) shapeCasts_S2x4096x1024_S8192x1024) bitsLt_bf16_f32

/-- What the reference leaves in `main_v7`. -/
abbrev REF_v7 (a0 : FVec Ideal S2x4096x2816 .bf16) (a1 : FVec Ideal S2816x1024 .f32) (a2 : FVec Ideal S2x4096x1024 .f32) (a3 : FVec Ideal S2x1x1024 .f32) : FVec Ideal S8192x1024 .f32 :=
  shapeCast _ (mid a0 a1 a2 a3) shapeCasts_S2x4096x1024_S8192x1024

end Cert.TopReferenceIdeal.Value

end
-- ==== Proof.TopValue.lean ====
/- What `TopKernelIdeal` leaves in its results, against the reference's terms. -/
module

public import proofs.«01_k».proof.Proof.Gen.TopKernelIdeal.Value
public import proofs.«01_k».proof.Proof.TopRef
public import proofs.«01_k».proof.Proof.NormKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.TopKernelIdeal.Value

open Cert.TopKernelIdeal Cert.TopKernelIdeal.Gen Cert.TopReferenceIdeal.Value

variable (m : (ℓ : Loc nD τ sig) → Buf (Elt Ideal) ℓ)

/-- every window's block index at every grid point (decided). -/
theorem idx_val : ∀ t : Fin cfg0.N, win0_0.index t = ![t.val, 0]
    ∧ win0_1.index t = ![0, 0]
    ∧ win0_2.index t = ![t.val, 0]
    ∧ win0_3.index t = ![t.val / 8, 0, 0]
    ∧ win0_4.index t = ![t.val, 0]
    ∧ win0_5.index t = ![t.val, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

/-- the row of the flat array that a block's row is. -/
abbrev row (t : Fin cfg0.N) (a : Fin 512) : Fin 8192 := ⟨t.val * 512 + a.val, by have := lt_N t; omega⟩

theorem row_smp (t : Fin cfg0.N) (a : Fin 512) (h : (row t a).val / 4096 < 2) : (⟨(row t a).val / 4096, h⟩ : Fin 2) = smp t :=
  Fin.ext (by dsimp only; omega)

theorem row_tok (t : Fin cfg0.N) (a : Fin 512) (h : (row t a).val % 4096 < 4096) : (⟨(row t a).val % 4096, h⟩ : Fin 4096) = tok t a :=
  Fin.ext (by dsimp only; omega)

theorem blk_0 (c : Dev nD) (t : Fin cfg0.N) (a : Fin 512) (k : Fin 2816) :
    iblk m c 0 t (ix2 a k) = m ((c : Thread nD τ).loc main_arg0) (ix3 (smp t) (tok t a) k) := by
  blk_simp [iblk, idx_val t]; entry_read; pointwise; blk_ext [idx_val t]

theorem blk_1 (c : Dev nD) (t : Fin cfg0.N) (k : Fin 2816) (b : Fin 1024) :
    iblk m c 1 t (ix2 k b) = m ((c : Thread nD τ).loc main_arg1) (ix2 k b) := by
  blk_simp [iblk, idx_val t]; entry_read; pointwise; blk_ext [idx_val t]

theorem blk_2 (c : Dev nD) (t : Fin cfg0.N) (a : Fin 512) (k : Fin 1024) :
    iblk m c 2 t (ix2 a k) = m ((c : Thread nD τ).loc main_arg2) (ix3 (smp t) (tok t a) k) := by
  blk_simp [iblk, idx_val t]; entry_read; pointwise; blk_ext [idx_val t]

theorem blk_3 (c : Dev nD) (t : Fin cfg0.N) (b : Fin 1024) :
    iblk m c 3 t (ix3 0 0 b) = m ((c : Thread nD τ).loc main_arg3) (ix3 (smp t) 0 b) := by
  blk_simp [iblk, V, idx_val t]; blk_ext [idx_val t]

theorem emb_4 (t : Fin cfg0.N) (a : Fin 512) (b : Fin 1024) :
    ((cfg0.win 4).blk t).view.emb (ix2 a b) = (ix2 (row t a) b : S8192x1024.Idx) := by
  blk_ext [idx_val t]

theorem emb_5 (t : Fin cfg0.N) (a : Fin 512) (b : Fin 1024) :
    ((cfg0.win 5).blk t).view.emb (ix2 a b) = (ix2 (row t a) b : S8192x1024.Idx) := by
  blk_ext [idx_val t]

/-- a column's product with a row. -/
def lin (u : FVec Ideal S2x4096x2816 .bf16) (w : FVec Ideal S2816x1024 .f32) (p : Fin 2) (q : Fin 4096) (b : Fin 1024) : EReal :=
  ∑ k : Fin 2816, u (ix3 p q k) * w (ix2 k b)

/-- the product, at coordinates. -/
theorem pay_dot (v0 : Vec Ideal S512x2816 .bf16) (v2 : Vec Ideal S2816x1024 .bf16) (a : Fin 512) (b : Fin 1024) :
    k0_pay1 (F := Ideal) v0 v2 (ix2 a b) = ∑ k : Fin 2816, v0 (ix2 a k) * v2 (ix2 k b) := by
  pointwise [k0_pay1]

theorem dot_at (c : Dev nD) (t : Fin cfg0.N) (a : Fin 512) (b : Fin 1024) :
    k0_pay1 (F := Ideal) (iblk m c 0 t) (iblk m c 1 t) (ix2 a b)
      = lin (m ((c : Thread nD τ).loc main_arg0)) (m ((c : Thread nD τ).loc main_arg1)) (smp t) (tok t a) b := by
  refine (pay_dot _ _ a b).trans ?_
  simp only [blk_0 m c t, blk_1 m c t]
  rfl

theorem ref_y (u : FVec Ideal S2x4096x2816 .bf16) (w : FVec Ideal S2816x1024 .f32) (r : Fin 8192) (b : Fin 1024) :
    REF_v3 u w (ix2 r b) = lin u w (⟨r.val / 4096, by omega⟩ : Fin 2) (⟨r.val % 4096, by omega⟩ : Fin 4096) b := by
  unfold lin
  pointwise [REF_v3]

/-- the residual line of the reference, at coordinates. -/
theorem mid_at (u : FVec Ideal S2x4096x2816 .bf16) (w : FVec Ideal S2816x1024 .f32) (x : FVec Ideal S2x4096x1024 .f32) (g : FVec Ideal S2x1x1024 .f32) (p : Fin 2) (q : Fin 4096) (b : Fin 1024) :
    mid u w x g (ix3 p q b) = x (ix3 p q b) + g (ix3 p 0 b) * lin u w p q b := by
  unfold lin
  pointwise [mid]

theorem ref_x (u : FVec Ideal S2x4096x2816 .bf16) (w : FVec Ideal S2816x1024 .f32) (x : FVec Ideal S2x4096x1024 .f32) (g : FVec Ideal S2x1x1024 .f32) (r : Fin 8192) (b : Fin 1024) :
    REF_v7 u w x g (ix2 r b) = mid u w x g (ix3 (⟨r.val / 4096, by omega⟩ : Fin 2) (⟨r.val % 4096, by omega⟩ : Fin 4096) b) := by
  pointwise [REF_v7]

theorem pay_res (v0 : Vec Ideal S512x2816 .bf16) (v2 : Vec Ideal S2816x1024 .bf16) (x : Vec Ideal S512x1024 .f32) (g : Vec Ideal S1x1x1024 .f32) (a : Fin 512) (b : Fin 1024) :
    k0_pay2 (F := Ideal) v0 v2 x g (ix2 a b) = x (ix2 a b) + g (ix3 0 0 b) * k0_pay1 v0 v2 (ix2 a b) := by
  pointwise [k0_pay2]

/-- the residual line, at a grid point. -/
theorem res_at (c : Dev nD) (t : Fin cfg0.N) (a : Fin 512) (b : Fin 1024) :
    k0_pay2 (F := Ideal) (iblk m c 0 t) (iblk m c 1 t) (iblk m c 2 t) (iblk m c 3 t) (ix2 a b) = mid (m ((c : Thread nD τ).loc main_arg0)) (m ((c : Thread nD τ).loc main_arg1)) (m ((c : Thread nD τ).loc main_arg2)) (m ((c : Thread nD τ).loc main_arg3)) (ix3 (smp t) (tok t a) b) := by
  refine (pay_res _ _ _ _ a b).trans ?_
  rw [mid_at]
  exact Ideal.add_congr (blk_2 m c t a b) (Ideal.mul_congr (blk_3 m c t b) (dot_at m c t a b))

/-- the array of window 4 after the run. -/
theorem final_4 (c : Dev nD) : (dats m 0 c).arrAt 4 (cfgs 0).N = REF_v3 (m ((c : Thread nD τ).loc main_arg0)) (m ((c : Thread nD τ).loc main_arg1)) := by
  refine (dats m 0 c).arrAt_eq_of_covers 4 _ (by decide +kernel) fun t hf y => ?_
  blk_simp; rw [after0_4]; frame_out
  idx_vars y
  rw [emb_4, ref_y, row_smp, row_tok]
  exact dot_at m c t y0 y1

/-- the array of window 5 after the run. -/
theorem final_5 (c : Dev nD) : (dats m 0 c).arrAt 5 (cfgs 0).N = REF_v7 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  idx_vars y
  rw [emb_5, ref_x, row_smp, row_tok]
  exact res_at m c t y0 y1

end Cert.TopKernelIdeal.Value

end
-- ==== Proof.TopClaim.lean ====
/- The claims about `TopKernel`, its idealization and its reference. -/
module

public import proofs.«01_k».proof.Defs
public import proofs.«01_k».proof.Proof.Gen.TopKernel.Frame
public import proofs.«01_k».proof.Proof.Gen.TopKernelIdeal.Frame
public import proofs.«01_k».proof.Proof.Gen.TopReferenceIdeal.Run
public import proofs.«01_k».proof.Proof.TopValue
public import Idealize.ShloMosaic.Lib.Claim

@[expose] public section

set_option maxRecDepth 16384

noncomputable section

namespace Cert.Proof.Top

open Idealize.ShloMosaic Idealize.ShloMosaic.TcCoe Idealize.SL.Sem

instance : Cert.TopKernel.Facts := Cert.TopKernel.Gen.facts
instance : Cert.TopKernelIdeal.Facts := Cert.TopKernelIdeal.Gen.facts
instance : Cert.TopReferenceIdeal.Facts := Cert.TopReferenceIdeal.Gen.facts

/-- the kernel's thread on a device. -/
abbrev tK (c : Dev Cert.TopKernelIdeal.nD) : Thread Cert.TopKernelIdeal.nD Cert.TopKernelIdeal.τ := c.tc

/-- the reference's thread on a device. -/
abbrev tR (c : Dev Cert.TopReferenceIdeal.nD) : Thread Cert.TopReferenceIdeal.nD Cert.TopReferenceIdeal.τ := c.tc

/-- a memory of the kernel's program. -/
abbrev MemK := (ℓ : Loc Cert.TopKernelIdeal.nD Cert.TopKernelIdeal.τ Cert.TopKernelIdeal.sig) → Buf (Elt Ideal) ℓ

/-- a memory of the reference's program. -/
abbrev MemR := (ℓ : Loc Cert.TopReferenceIdeal.nD Cert.TopReferenceIdeal.τ Cert.TopReferenceIdeal.sig) → Buf (Elt Ideal) ℓ

/-- the printed kernel's frame. -/
theorem frame_p : Cert.quiescent_TopKernel := fun m ρ _ => Cert.TopKernel.Gen.frame m ρ

/-- the idealized kernel's frame. -/
theorem frame_pi : Cert.quiescent_TopKernelIdeal := fun m ρ _ => Cert.TopKernelIdeal.Gen.frame m ρ

/-- the reference's frame: it declares no semaphore. -/
theorem frame_ri : Cert.quiescent_TopReferenceIdeal := fun m g _ =>
  (θ_run Cert.TopReferenceIdeal.defs _ _).mono
    (fun r h => ⟨fun c => ⟨(h c).2.2.1, (h c).2.2.2.1, (h c).2.2.2.2.1, (h c).2.2.2.2.2⟩, sem_eq_zero_of_no_sems (by decide) r.2⟩)
    (Cert.TopReferenceIdeal.Value.run m g)

/-- the reference's term for window 4's array, at the kernel's arguments. -/
theorem out_4 (m : MemK)
    (m' : MemR) (c : Dev Cert.TopKernelIdeal.nD)
    (a0 : m' ((tR c).loc Cert.TopReferenceIdeal.main_arg0) = m ((tK c).loc Cert.TopKernelIdeal.main_arg0))
    (a1 : m' ((tR c).loc Cert.TopReferenceIdeal.main_arg1) = m ((tK c).loc Cert.TopKernelIdeal.main_arg1)) :
    Cert.TopReferenceIdeal.Value.REF_v3 (m' ((tR c).loc Cert.TopReferenceIdeal.main_arg0)) (m' ((tR c).loc Cert.TopReferenceIdeal.main_arg1))
      = (Cert.TopKernelIdeal.Gen.dats m 0 c).arrAt 4 (Cert.TopKernelIdeal.cfgs 0).N := by
  rw [a0, a1]
  exact (Cert.TopKernelIdeal.Value.final_4 m c).symm

/-- the reference's term for window 5's array, at the kernel's arguments. -/
theorem out_5 (m : MemK)
    (m' : MemR) (c : Dev Cert.TopKernelIdeal.nD)
    (a0 : m' ((tR c).loc Cert.TopReferenceIdeal.main_arg0) = m ((tK c).loc Cert.TopKernelIdeal.main_arg0))
    (a1 : m' ((tR c).loc Cert.TopReferenceIdeal.main_arg1) = m ((tK c).loc Cert.TopKernelIdeal.main_arg1))
    (a2 : m' ((tR c).loc Cert.TopReferenceIdeal.main_arg2) = m ((tK c).loc Cert.TopKernelIdeal.main_arg2))
    (a3 : m' ((tR c).loc Cert.TopReferenceIdeal.main_arg3) = m ((tK c).loc Cert.TopKernelIdeal.main_arg3)) :
    Cert.TopReferenceIdeal.Value.REF_v7 (m' ((tR c).loc Cert.TopReferenceIdeal.main_arg0)) (m' ((tR c).loc Cert.TopReferenceIdeal.main_arg1)) (m' ((tR c).loc Cert.TopReferenceIdeal.main_arg2)) (m' ((tR c).loc Cert.TopReferenceIdeal.main_arg3))
      = (Cert.TopKernelIdeal.Gen.dats m 0 c).arrAt 5 (Cert.TopKernelIdeal.cfgs 0).N := by
  rw [a0, a1, a2, a3]
  exact (Cert.TopKernelIdeal.Value.final_5 m c).symm

/-- the idealized kernel computes the forward lines. -/
theorem algebraic : Cert.algebraic_TopKernelIdeal_TopReferenceIdeal := by
  pair_intro
  · run_from Cert.TopKernelIdeal.Gen.run_main m g
  · exact (θ_run Cert.TopReferenceIdeal.defs _ _).mono
      (fun r h c => ⟨(h c).1.trans (out_4 m m' c (hagree c).1 (hagree c).2.1), (h c).2.1.trans (out_5 m m' c (hagree c).1 (hagree c).2.1 (hagree c).2.2.1 (hagree c).2.2.2),
        (h c).2.2.1, (h c).2.2.2.1, (h c).2.2.2.2.1, (h c).2.2.2.2.2⟩)
      (Cert.TopReferenceIdeal.Value.run m' g')

end Cert.Proof.Top

end
-- ==== Proof.ModRef.lean ====
/- The reference results of `Cert.ModReferenceIdeal` as named functions of its arguments. -/
module

public import proofs.«01_k».proof.Proof.Gen.ModReferenceIdeal.Run
public import Idealize.ShloMosaic.Lib.Pipeline.ValueKit

@[expose] public section

set_option maxRecDepth 16384

noncomputable section

namespace Cert.ModReferenceIdeal.Value

open Cert.ModReferenceIdeal Cert.ModReferenceIdeal.Gen Idealize.ShloMosaic Idealize.ShloMosaic.TcCoe Idealize.SL.Sem Idealize.ShloMosaic.StableHlo

/-- What the reference leaves in `main_v20`. -/
abbrev REF_v20 (a0 : FVec Ideal S2x4096x1024 .f32) (a1 : FVec Ideal S1024 .f32) (a2 : FVec Ideal S2x1x1024 .f32) (a3 : FVec Ideal S2x1x1024 .f32) : FVec Ideal S8192x1024 .bf16 :=
  truncf .bf16 (shapeCast _ (addf (mulf (mulf (mulf a0 (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf a0 a0) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 a1))) (broadcastInDim S2x4096x1024 ![0, 1, 2] bcast_S2x1x1024_S2x4096x1024_0_1_2 (addf (broadcastInDim S2x1x1024 ![] bcast_S_S2x1x1024 (constant S_ .f32 0x3F800000#32)) a2))) (broadcastInDim S2x4096x1024 ![0, 1, 2] bcast_S2x1x1024_S2x4096x1024_0_1_2 a3)) shapeCasts_S2x4096x1024_S8192x1024) bitsLt_bf16_f32

end Cert.ModReferenceIdeal.Value

end
-- ==== Proof.ModValue.lean ====
/- What `ModKernelIdeal` leaves in its results, against the reference's terms. -/
module

public import proofs.«01_k».proof.Proof.Gen.ModKernelIdeal.Value
public import proofs.«01_k».proof.Proof.ModRef
public import proofs.«01_k».proof.Proof.NormKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ModKernelIdeal.Value

open Cert.ModKernelIdeal Cert.ModKernelIdeal.Gen Cert.ModReferenceIdeal.Value

variable (m : (ℓ : Loc nD τ sig) → Buf (Elt Ideal) ℓ)

/-- every window's block index at every grid point (decided). -/
theorem idx_val : ∀ t : Fin cfg0.N, win0_0.index t = ![t.val, 0]
    ∧ win0_1.index t = ![0, 0]
    ∧ win0_2.index t = ![t.val / 8, 0, 0]
    ∧ win0_3.index t = ![t.val / 8, 0, 0]
    ∧ win0_4.index t = ![t.val, 0] :=
  (by decide +kernel : ∀ t : Fin grid0.N, _)

theorem lt_N (t : Fin cfg0.N) : t.val < 16 := t.isLt

/-- the sample a grid point works on. -/
abbrev smp (t : Fin cfg0.N) : Fin 2 := ⟨t.val / 8, by have := lt_N t; omega⟩

/-- the token that a block's row is. -/
abbrev tok (t : Fin cfg0.N) (a : Fin 512) : Fin 4096 := ⟨t.val % 8 * 512 + a.val, by omega⟩

/-- the row of the flat array that a block's row is. -/
abbrev row (t : Fin cfg0.N) (a : Fin 512) : Fin 8192 := ⟨t.val * 512 + a.val, by have := lt_N t; omega⟩

theorem row_smp (t : Fin cfg0.N) (a : Fin 512) (h : (row t a).val / 4096 < 2) : (⟨(row t a).val / 4096, h⟩ : Fin 2) = smp t :=
  Fin.ext (by dsimp only; omega)

theorem row_tok (t : Fin cfg0.N) (a : Fin 512) (h : (row t a).val % 4096 < 4096) : (⟨(row t a).val % 4096, h⟩ : Fin 4096) = tok t a :=
  Fin.ext (by dsimp only; omega)

theorem blk_0 (c : Dev nD) (t : Fin cfg0.N) (a : Fin 512) (k : Fin 1024) :
    iblk m c 0 t (ix2 a k) = m ((c : Thread nD τ).loc main_arg0) (ix3 (smp t) (tok t a) k) := by
  blk_simp [iblk, idx_val t]; entry_read; pointwise; blk_ext [idx_val t]

theorem blk_1 (c : Dev nD) (t : Fin cfg0.N) (b : Fin 1024) :
    iblk m c 1 t (ix2 0 b) = m ((c : Thread nD τ).loc main_arg1) (ix1 b) := by
  blk_simp [iblk, idx_val t]; entry_read; pointwise; blk_ext [idx_val t]

theorem blk_2 (c : Dev nD) (t : Fin cfg0.N) (b : Fin 1024) :
    iblk m c 2 t (ix3 0 0 b) = m ((c : Thread nD τ).loc main_arg2) (ix3 (smp t) 0 b) := by
  blk_simp [iblk, V, idx_val t]; blk_ext [idx_val t]

theorem blk_3 (c : Dev nD) (t : Fin cfg0.N) (b : Fin 1024) :
    iblk m c 3 t (ix3 0 0 b) = m ((c : Thread nD τ).loc main_arg3) (ix3 (smp t) 0 b) := by
  blk_simp [iblk, V, idx_val t]; blk_ext [idx_val t]

theorem emb_4 (t : Fin cfg0.N) (a : Fin 512) (b : Fin 1024) :
    ((cfg0.win 4).blk t).view.emb (ix2 a b) = (ix2 (row t a) b : S8192x1024.Idx) := by
  blk_ext [idx_val t]

theorem pay_mod (x : Vec Ideal S512x1024 .f32) (n : Vec Ideal S1x1024 .f32) (sc sh : Vec Ideal S1x1x1024 .f32) (a : Fin 512) (b : Fin 1024) :
    k0_pay1 (F := Ideal) x n sc sh (ix2 a b) = NormKit.modRow (fun k => x (ix2 a k)) b (n (ix2 0 b)) (sc (ix3 0 0 b)) (sh (ix3 0 0 b)) := by
  pointwise [k0_pay1]; rfl

theorem ref_h (x : FVec Ideal S2x4096x1024 .f32) (n : FVec Ideal S1024 .f32) (sc sh : FVec Ideal S2x1x1024 .f32) (r : Fin 8192) (b : Fin 1024) :
    REF_v20 x n sc sh (ix2 r b) = NormKit.modRow (fun k => x (ix3 (⟨r.val / 4096, by omega⟩ : Fin 2) (⟨r.val % 4096, by omega⟩ : Fin 4096) k)) b (n (ix1 b)) (sc (ix3 (⟨r.val / 4096, by omega⟩ : Fin 2) 0 b)) (sh (ix3 (⟨r.val / 4096, by omega⟩ : Fin 2) 0 b)) := by
  pointwise [REF_v20]; rfl

/-- the array of window 4 after the run. -/
theorem final_4 (c : Dev nD) : (dats m 0 c).arrAt 4 (cfgs 0).N = REF_v20 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  idx_vars y
  rw [emb_4, ref_h, row_smp]
  refine (pay_mod _ _ _ _ y0 y1).trans ?_
  simp only [blk_0 m c t, blk_1 m c t, blk_2 m c t, blk_3 m c t]
  rw [row_tok]

end Cert.ModKernelIdeal.Value

end
-- ==== Proof.ModClaim.lean ====
/- The claims about `ModKernel`, its idealization and its reference. -/
module

public import proofs.«01_k».proof.Defs
public import proofs.«01_k».proof.Proof.Gen.ModKernel.Frame
public import proofs.«01_k».proof.Proof.Gen.ModKernelIdeal.Frame
public import proofs.«01_k».proof.Proof.Gen.ModReferenceIdeal.Run
public import proofs.«01_k».proof.Proof.ModValue
public import Idealize.ShloMosaic.Lib.Claim

@[expose] public section

set_option maxRecDepth 16384

noncomputable section

namespace Cert.Proof.Mod

open Idealize.ShloMosaic Idealize.ShloMosaic.TcCoe Idealize.SL.Sem

instance : Cert.ModKernel.Facts := Cert.ModKernel.Gen.facts
instance : Cert.ModKernelIdeal.Facts := Cert.ModKernelIdeal.Gen.facts
instance : Cert.ModReferenceIdeal.Facts := Cert.ModReferenceIdeal.Gen.facts

/-- the kernel's thread on a device. -/
abbrev tK (c : Dev Cert.ModKernelIdeal.nD) : Thread Cert.ModKernelIdeal.nD Cert.ModKernelIdeal.τ := c.tc

/-- the reference's thread on a device. -/
abbrev tR (c : Dev Cert.ModReferenceIdeal.nD) : Thread Cert.ModReferenceIdeal.nD Cert.ModReferenceIdeal.τ := c.tc

/-- a memory of the kernel's program. -/
abbrev MemK := (ℓ : Loc Cert.ModKernelIdeal.nD Cert.ModKernelIdeal.τ Cert.ModKernelIdeal.sig) → Buf (Elt Ideal) ℓ

/-- a memory of the reference's program. -/
abbrev MemR := (ℓ : Loc Cert.ModReferenceIdeal.nD Cert.ModReferenceIdeal.τ Cert.ModReferenceIdeal.sig) → Buf (Elt Ideal) ℓ

/-- the printed kernel's frame. -/
theorem frame_p : Cert.quiescent_ModKernel := fun m ρ _ => Cert.ModKernel.Gen.frame m ρ

/-- the idealized kernel's frame. -/
theorem frame_pi : Cert.quiescent_ModKernelIdeal := fun m ρ _ => Cert.ModKernelIdeal.Gen.frame m ρ

/-- the reference's frame: it declares no semaphore. -/
theorem frame_ri : Cert.quiescent_ModReferenceIdeal := fun m g _ =>
  (θ_run Cert.ModReferenceIdeal.defs _ _).mono
    (fun r h => ⟨fun c => ⟨(h c).2.1, (h c).2.2.1, (h c).2.2.2.1, (h c).2.2.2.2⟩, sem_eq_zero_of_no_sems (by decide) r.2⟩)
    (Cert.ModReferenceIdeal.Value.run m g)

/-- the reference's term for window 4's array, at the kernel's arguments. -/
theorem out_4 (m : MemK)
    (m' : MemR) (c : Dev Cert.ModKernelIdeal.nD)
    (a0 : m' ((tR c).loc Cert.ModReferenceIdeal.main_arg0) = m ((tK c).loc Cert.ModKernelIdeal.main_arg0))
    (a1 : m' ((tR c).loc Cert.ModReferenceIdeal.main_arg1) = m ((tK c).loc Cert.ModKernelIdeal.main_arg1))
    (a2 : m' ((tR c).loc Cert.ModReferenceIdeal.main_arg2) = m ((tK c).loc Cert.ModKernelIdeal.main_arg2))
    (a3 : m' ((tR c).loc Cert.ModReferenceIdeal.main_arg3) = m ((tK c).loc Cert.ModKernelIdeal.main_arg3)) :
    Cert.ModReferenceIdeal.Value.REF_v20 (m' ((tR c).loc Cert.ModReferenceIdeal.main_arg0)) (m' ((tR c).loc Cert.ModReferenceIdeal.main_arg1)) (m' ((tR c).loc Cert.ModReferenceIdeal.main_arg2)) (m' ((tR c).loc Cert.ModReferenceIdeal.main_arg3))
      = (Cert.ModKernelIdeal.Gen.dats m 0 c).arrAt 4 (Cert.ModKernelIdeal.cfgs 0).N := by
  rw [a0, a1, a2, a3]
  exact (Cert.ModKernelIdeal.Value.final_4 m c).symm

/-- the idealized kernel computes the forward lines. -/
theorem algebraic : Cert.algebraic_ModKernelIdeal_ModReferenceIdeal := by
  pair_intro
  · run_from Cert.ModKernelIdeal.Gen.run_main m g
  · exact (θ_run Cert.ModReferenceIdeal.defs _ _).mono
      (fun r h c => ⟨(h c).1.trans (out_4 m m' c (hagree c).1 (hagree c).2.1 (hagree c).2.2.1 (hagree c).2.2.2),
        (h c).2.1, (h c).2.2.1, (h c).2.2.2.1, (h c).2.2.2.2⟩)
      (Cert.ModReferenceIdeal.Value.run m' g')

end Cert.Proof.Mod

end
-- ==== Proof.AdaFwdRef.lean ====
/- The reference results of `Cert.AdaFwdReferenceIdeal` as named functions of its arguments. -/
module

public import proofs.«01_k».proof.Proof.Gen.AdaFwdReferenceIdeal.Run
public import Idealize.ShloMosaic.Lib.Pipeline.ValueKit

@[expose] public section

set_option maxRecDepth 16384

noncomputable section

namespace Cert.AdaFwdReferenceIdeal.Value

open Cert.AdaFwdReferenceIdeal Cert.AdaFwdReferenceIdeal.Gen Idealize.ShloMosaic Idealize.ShloMosaic.TcCoe Idealize.SL.Sem Idealize.ShloMosaic.StableHlo

/-- What the reference leaves in `main_v5`. -/
abbrev REF_v5 (a0 : FVec Ideal S16x1024 .f32) (a1 : FVec Ideal S4x1024x768 .f32) (a2 : FVec Ideal S4x768 .f32) : FVec Ideal S4x16x768 .f32 :=
  addf (transpose S4x16x768 [1, 0, 2] (Host.dotGeneral dot_S16x1024_S4x1024x768_S16x4x768_1_1_0_02_n_n none (mulf a0 (Host.divf (broadcastInDim S16x1024 ![] bcast_S_S16x1024 (constant S_ .f32 0x3F800000#32)) (addf (broadcastInDim S16x1024 ![] bcast_S_S16x1024 (constant S_ .f32 0x3F800000#32)) (Host.exp (Host.negf a0))))) a1) transposes_S16x4x768_S4x16x768_1_0_2) (broadcastInDim S4x16x768 ![0, 1, 2] bcast_S4x1x768_S4x16x768_0_1_2 (broadcastInDim S4x1x768 ![0, 2] bcast_S4x768_S4x1x768_0_2 a2))

end Cert.AdaFwdReferenceIdeal.Value

end
-- ==== Proof.AdaFwdValue.lean ====
/- What `AdaFwdKernelIdeal` leaves in its results, against the reference's terms. -/
module

public import proofs.«01_k».proof.Proof.Gen.AdaFwdKernelIdeal.Value
public import proofs.«01_k».proof.Proof.AdaFwdRef
public import proofs.«01_k».proof.Proof.NormKit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdaFwdKernelIdeal.Value

open Cert.AdaFwdKernelIdeal Cert.AdaFwdKernelIdeal.Gen Cert.AdaFwdReferenceIdeal.Value

variable (m : (ℓ : Loc nD τ sig) → Buf (Elt Ideal) ℓ)

/-- every window's block index at every grid point (decided). -/
theorem idx_val : ∀ t : Fin cfg0.N, win0_0.index t = ![0, 0]
    ∧ win0_1.index t = ![t.val, 0, 0]
    ∧ win0_2.index t = ![t.val, 0, 0]
    ∧ win0_3.index t = ![t.val, 0, 0] :=
  (by decide +kernel : ∀ t : Fin grid0.N, _)

theorem lt_N (t : Fin cfg0.N) : t.val < 4 := t.isLt

/-- the layer a grid point works on. -/
abbrev lay (t : Fin cfg0.N) : Fin 4 := ⟨t.val, lt_N t⟩

theorem blk_0 (c : Dev nD) (t : Fin cfg0.N) (a : Fin 16) (k : Fin 1024) :
    iblk m c 0 t (ix2 a k) = m ((c : Thread nD τ).loc main_arg0) (ix2 a k) := by
  blk_simp [iblk, V, idx_val t]; blk_ext [idx_val t]

theorem blk_1 (c : Dev nD) (t : Fin cfg0.N) (k : Fin 1024) (b : Fin 768) :
    iblk m c 1 t (ix3 0 k b) = m ((c : Thread nD τ).loc main_arg1) (ix3 (lay t) k b) := by
  blk_simp [iblk, V, idx_val t]; blk_ext [idx_val t]

theorem blk_2 (c : Dev nD) (t : Fin cfg0.N) (b : Fin 768) :
    iblk m c 2 t (ix3 0 0 b) = m ((c : Thread nD τ).loc main_arg2) (ix2 (lay t) b) := by
  blk_simp [iblk, idx_val t]; entry_read; pointwise; blk_ext [idx_val t]

theorem emb_3 (t : Fin cfg0.N) (a : Fin 16) (b : Fin 768) :
    ((cfg0.win 3).blk t).view.emb (ix3 0 a b) = (ix3 (lay t) a b : S4x16x768.Idx) := by
  blk_ext [idx_val t]

theorem pay_at (x : Vec Ideal S16x1024 .f32) (w : Vec Ideal S1x1024x768 .f32) (v : Vec Ideal S1x1x768 .f32) (a : Fin 16) (b : Fin 768) :
    k0_pay1 (F := Ideal) x w v (ix3 0 a b) = (∑ k : Fin 1024, x (ix2 a k) * Ideal.logistic (x (ix2 a k)) * w (ix3 0 k b)) + v (ix3 0 0 b) := by
  pointwise [k0_pay1]

theorem ref_at (x : FVec Ideal S16x1024 .f32) (w : FVec Ideal S4x1024x768 .f32) (v : FVec Ideal S4x768 .f32) (l : Fin 4) (a : Fin 16) (b : Fin 768) :
    REF_v5 x w v (ix3 l a b) = (∑ k : Fin 1024, x (ix2 a k) * Ideal.logistic (x (ix2 a k)) * w (ix3 l k b)) + v (ix2 l b) := by
  unfold Ideal.logistic
  pointwise [REF_v5]

/-- the array of window 3 after the run. -/
theorem final_3 (c : Dev nD) : (dats m 0 c).arrAt 3 (cfgs 0).N = REF_v5 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  obtain ⟨a, b, rfl⟩ : ∃ (a : Fin 16) (b : Fin 768), y = ix3 0 a b :=
    ⟨y 1, y 2, (eq_ix3 y).trans ((ix3_inj ..).2 ⟨Subsingleton.elim _ _, rfl, rfl⟩)⟩
  rw [emb_3, ref_at]
  refine (pay_at _ _ _ a b).trans ?_
  simp only [blk_0 m c t, blk_1 m c t, blk_2 m c t]

end Cert.AdaFwdKernelIdeal.Value

end
-- ==== Proof.AdaFwdClaim.lean ====
/- The claims about `AdaFwdKernel`, its idealization and its reference. -/
module

public import proofs.«01_k».proof.Defs
public import proofs.«01_k».proof.Proof.Gen.AdaFwdKernel.Frame
public import proofs.«01_k».proof.Proof.Gen.AdaFwdKernelIdeal.Frame
public import proofs.«01_k».proof.Proof.Gen.AdaFwdReferenceIdeal.Run
public import proofs.«01_k».proof.Proof.AdaFwdValue
public import Idealize.ShloMosaic.Lib.Claim

@[expose] public section

set_option maxRecDepth 16384

noncomputable section

namespace Cert.Proof.AdaFwd

open Idealize.ShloMosaic Idealize.ShloMosaic.TcCoe Idealize.SL.Sem

instance : Cert.AdaFwdKernel.Facts := Cert.AdaFwdKernel.Gen.facts
instance : Cert.AdaFwdKernelIdeal.Facts := Cert.AdaFwdKernelIdeal.Gen.facts
instance : Cert.AdaFwdReferenceIdeal.Facts := Cert.AdaFwdReferenceIdeal.Gen.facts

/-- the kernel's thread on a device. -/
abbrev tK (c : Dev Cert.AdaFwdKernelIdeal.nD) : Thread Cert.AdaFwdKernelIdeal.nD Cert.AdaFwdKernelIdeal.τ := c.tc

/-- the reference's thread on a device. -/
abbrev tR (c : Dev Cert.AdaFwdReferenceIdeal.nD) : Thread Cert.AdaFwdReferenceIdeal.nD Cert.AdaFwdReferenceIdeal.τ := c.tc

/-- a memory of the kernel's program. -/
abbrev MemK := (ℓ : Loc Cert.AdaFwdKernelIdeal.nD Cert.AdaFwdKernelIdeal.τ Cert.AdaFwdKernelIdeal.sig) → Buf (Elt Ideal) ℓ

/-- a memory of the reference's program. -/
abbrev MemR := (ℓ : Loc Cert.AdaFwdReferenceIdeal.nD Cert.AdaFwdReferenceIdeal.τ Cert.AdaFwdReferenceIdeal.sig) → Buf (Elt Ideal) ℓ

/-- the printed kernel's frame. -/
theorem frame_p : Cert.quiescent_AdaFwdKernel := fun m ρ _ => Cert.AdaFwdKernel.Gen.frame m ρ

/-- the idealized kernel's frame. -/
theorem frame_pi : Cert.quiescent_AdaFwdKernelIdeal := fun m ρ _ => Cert.AdaFwdKernelIdeal.Gen.frame m ρ

/-- the reference's frame: it declares no semaphore. -/
theorem frame_ri : Cert.quiescent_AdaFwdReferenceIdeal := fun m g _ =>
  (θ_run Cert.AdaFwdReferenceIdeal.defs _ _).mono
    (fun r h => ⟨fun c => ⟨(h c).2.1, (h c).2.2.1, (h c).2.2.2⟩, sem_eq_zero_of_no_sems (by decide) r.2⟩)
    (Cert.AdaFwdReferenceIdeal.Value.run m g)

/-- the reference's term for window 3's array, at the kernel's arguments. -/
theorem out_3 (m : MemK)
    (m' : MemR) (c : Dev Cert.AdaFwdKernelIdeal.nD)
    (a0 : m' ((tR c).loc Cert.AdaFwdReferenceIdeal.main_arg0) = m ((tK c).loc Cert.AdaFwdKernelIdeal.main_arg0))
    (a1 : m' ((tR c).loc Cert.AdaFwdReferenceIdeal.main_arg1) = m ((tK c).loc Cert.AdaFwdKernelIdeal.main_arg1))
    (a2 : m' ((tR c).loc Cert.AdaFwdReferenceIdeal.main_arg2) = m ((tK c).loc Cert.AdaFwdKernelIdeal.main_arg2)) :
    Cert.AdaFwdReferenceIdeal.Value.REF_v5 (m' ((tR c).loc Cert.AdaFwdReferenceIdeal.main_arg0)) (m' ((tR c).loc Cert.AdaFwdReferenceIdeal.main_arg1)) (m' ((tR c).loc Cert.AdaFwdReferenceIdeal.main_arg2))
      = (Cert.AdaFwdKernelIdeal.Gen.dats m 0 c).arrAt 3 (Cert.AdaFwdKernelIdeal.cfgs 0).N := by
  rw [a0, a1, a2]
  exact (Cert.AdaFwdKernelIdeal.Value.final_3 m c).symm

/-- the idealized kernel computes the forward lines. -/
theorem algebraic : Cert.algebraic_AdaFwdKernelIdeal_AdaFwdReferenceIdeal := by
  pair_intro
  · run_from Cert.AdaFwdKernelIdeal.Gen.run_main m g
  · exact (θ_run Cert.AdaFwdReferenceIdeal.defs _ _).mono
      (fun r h c => ⟨(h c).1.trans (out_3 m m' c (hagree c).1 (hagree c).2.1 (hagree c).2.2),
        (h c).2.1, (h c).2.2.1, (h c).2.2.2⟩)
      (Cert.AdaFwdReferenceIdeal.Value.run m' g')

end Cert.Proof.AdaFwd

end
-- ==== Proof.AdamRef.lean ====
/- The reference results of `Cert.AdamReferenceIdeal` as named functions of its arguments. -/
module

public import proofs.«01_k».proof.Proof.Gen.AdamReferenceIdeal.Run
public import Idealize.ShloMosaic.Lib.Pipeline.ValueKit

@[expose] public section

set_option maxRecDepth 16384

noncomputable section

namespace Cert.AdamReferenceIdeal.Value

open Cert.AdamReferenceIdeal Cert.AdamReferenceIdeal.Gen Idealize.ShloMosaic Idealize.ShloMosaic.TcCoe Idealize.SL.Sem Idealize.ShloMosaic.StableHlo

/-- What the reference leaves in `main_v24`. -/
abbrev REF_v24 (a0 : FVec Ideal S4x128x2816 .f32) (a1 : FVec Ideal S4x128x2816 .f32) (a2 : FVec Ideal S4x128x2816 .f32) (a3 : FVec Ideal S4x128x2816 .f32) : FVec Ideal S512x2816 .f32 :=
  shapeCast _ (mulf (broadcastInDim S4x128x2816 ![] bcast_S_S4x128x2816 (constant S_ .f32 0xBA83126F#32)) (addf (Host.divf (Host.divf (addf (mulf (broadcastInDim S4x128x2816 ![] bcast_S_S4x128x2816 (constant S_ .f32 0x3F666666#32)) a2) (mulf (broadcastInDim S4x128x2816 ![] bcast_S_S4x128x2816 (constant S_ .f32 0x3DCCCCCD#32)) a1)) (broadcastInDim S4x128x2816 ![] bcast_S_S4x128x2816 (constant S_ .f32 0x3F26BD02#32))) (addf (Host.sqrt (Host.divf (addf (mulf (broadcastInDim S4x128x2816 ![] bcast_S_S4x128x2816 (constant S_ .f32 0x3F7FBE77#32)) a3) (mulf (broadcastInDim S4x128x2816 ![] bcast_S_S4x128x2816 (constant S_ .f32 0x3A83126F#32)) (mulf a1 a1))) (broadcastInDim S4x128x2816 ![] bcast_S_S4x128x2816 (constant S_ .f32 0x3C231ACC#32)))) (broadcastInDim S4x128x2816 ![] bcast_S_S4x128x2816 (constant S_ .f32 0x322BCC77#32)))) (mulf (broadcastInDim S4x128x2816 ![] bcast_S_S4x128x2816 (constant S_ .f32 0x3C23D70A#32)) a0))) shapeCasts_S4x128x2816_S512x2816

/-- What the reference leaves in `main_v25`. -/
abbrev REF_v25 (a1 : FVec Ideal S4x128x2816 .f32) (a2 : FVec Ideal S4x128x2816 .f32) : FVec Ideal S512x2816 .f32 :=
  shapeCast _ (addf (mulf (broadcastInDim S4x128x2816 ![] bcast_S_S4x128x2816 (constant S_ .f32 0x3F666666#32)) a2) (mulf (broadcastInDim S4x128x2816 ![] bcast_S_S4x128x2816 (constant S_ .f32 0x3DCCCCCD#32)) a1)) shapeCasts_S4x128x2816_S512x2816

/-- What the reference leaves in `main_v26`. -/
abbrev REF_v26 (a1 : FVec Ideal S4x128x2816 .f32) (a3 : FVec Ideal S4x128x2816 .f32) : FVec Ideal S512x2816 .f32 :=
  shapeCast _ (addf (mulf (broadcastInDim S4x128x2816 ![] bcast_S_S4x128x2816 (constant S_ .f32 0x3F7FBE77#32)) a3) (mulf (broadcastInDim S4x128x2816 ![] bcast_S_S4x128x2816 (constant S_ .f32 0x3A83126F#32)) (mulf a1 a1))) shapeCasts_S4x128x2816_S512x2816

end Cert.AdamReferenceIdeal.Value

end
-- ==== Proof.AdamValue.lean ====
/- What `AdamKernelIdeal` leaves in its results, against the reference's terms. -/
module

public import proofs.«01_k».proof.Proof.Gen.AdamKernelIdeal.Value
public import proofs.«01_k».proof.Proof.AdamRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AdamKernelIdeal.Value

open Cert.AdamKernelIdeal Cert.AdamKernelIdeal.Gen Cert.AdamReferenceIdeal.Value

variable (m : (ℓ : Loc nD τ sig) → Buf (Elt Ideal) ℓ)

/-- every window's block is the grid point's (decided). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem lt_N (t : Fin cfg0.N) : t.val < 4 := t.isLt

/-- the layer a grid point works on. -/
abbrev lay (t : Fin cfg0.N) : Fin 4 := ⟨t.val, lt_N t⟩

/-- the row of the flat array that a block's row is. -/
abbrev row (t : Fin cfg0.N) (a : Fin 128) : Fin 512 := ⟨t.val * 128 + a.val, by have := lt_N t; omega⟩

theorem row_lay (t : Fin cfg0.N) (a : Fin 128) (h : (row t a).val / 128 < 4) : (⟨(row t a).val / 128, h⟩ : Fin 4) = lay t :=
  Fin.ext (by dsimp only; omega)

theorem row_in (t : Fin cfg0.N) (a : Fin 128) (h : (row t a).val % 128 < 128) : (⟨(row t a).val % 128, h⟩ : Fin 128) = a :=
  Fin.ext (by dsimp only; omega)

theorem blk_0 (c : Dev nD) (t : Fin cfg0.N) (a : Fin 128) (k : Fin 2816) :
    iblk m c 0 t (ix2 a k) = m ((c : Thread nD τ).loc main_arg0) (ix3 (lay t) a k) := by
  blk_simp [iblk, idx_val t]; entry_read; pointwise; blk_ext [idx_val t]

theorem blk_1 (c : Dev nD) (t : Fin cfg0.N) (a : Fin 128) (k : Fin 2816) :
    iblk m c 1 t (ix2 a k) = m ((c : Thread nD τ).loc main_arg1) (ix3 (lay t) a k) := by
  blk_simp [iblk, idx_val t]; entry_read; pointwise; blk_ext [idx_val t]

theorem blk_2 (c : Dev nD) (t : Fin cfg0.N) (a : Fin 128) (k : Fin 2816) :
    iblk m c 2 t (ix2 a k) = m ((c : Thread nD τ).loc main_arg2) (ix3 (lay t) a k) := by
  blk_simp [iblk, idx_val t]; entry_read; pointwise; blk_ext [idx_val t]

theorem blk_3 (c : Dev nD) (t : Fin cfg0.N) (a : Fin 128) (k : Fin 2816) :
    iblk m c 3 t (ix2 a k) = m ((c : Thread nD τ).loc main_arg3) (ix3 (lay t) a k) := by
  blk_simp [iblk, idx_val t]; entry_read; pointwise; blk_ext [idx_val t]

theorem emb_4 (t : Fin cfg0.N) (a : Fin 128) (b : Fin 2816) :
    ((cfg0.win 4).blk t).view.emb (ix2 a b) = (ix2 (row t a) b : S512x2816.Idx) := by
  blk_ext [idx_val t]

theorem emb_5 (t : Fin cfg0.N) (a : Fin 128) (b : Fin 2816) :
    ((cfg0.win 5).blk t).view.emb (ix2 a b) = (ix2 (row t a) b : S512x2816.Idx) := by
  blk_ext [idx_val t]

theorem emb_6 (t : Fin cfg0.N) (a : Fin 128) (b : Fin 2816) :
    ((cfg0.win 6).blk t).view.emb (ix2 a b) = (ix2 (row t a) b : S512x2816.Idx) := by
  blk_ext [idx_val t]

/-- the running mean of the gradient after a step. -/
def mean (g m : EReal) : EReal := Ideal.ofBits .f32 0x3F666666#32 * m + Ideal.ofBits .f32 0x3DCCCCCD#32 * g

/-- the running mean of its square after a step. -/
def square (g v : EReal) : EReal := Ideal.ofBits .f32 0x3F7FBE77#32 * v + Ideal.ofBits .f32 0x3A83126F#32 * (g * g)

/-- the step itself, from the two means. -/
def delta (w mn vn : EReal) : EReal :=
  Ideal.ofBits .f32 0xBA83126F#32 * (Ideal.div (Ideal.div mn (Ideal.ofBits .f32 0x3F26BD02#32))
    (Ideal.sqrt (Ideal.div vn (Ideal.ofBits .f32 0x3C231ACC#32)) + Ideal.ofBits .f32 0x322BCC77#32) + Ideal.ofBits .f32 0x3C23D70A#32 * w)

theorem pay_mean (g mm : Vec Ideal S128x2816 .f32) (a : Fin 128) (b : Fin 2816) :
    k0_pay2 (F := Ideal) g mm (ix2 a b) = mean (g (ix2 a b)) (mm (ix2 a b)) := by
  pointwise [k0_pay2, k0_pay1]; rfl

theorem pay_square (g v : Vec Ideal S128x2816 .f32) (a : Fin 128) (b : Fin 2816) :
    k0_pay3 (F := Ideal) g v (ix2 a b) = square (g (ix2 a b)) (v (ix2 a b)) := by
  pointwise [k0_pay3, k0_pay1]; rfl

theorem pay_delta (g mm v w : Vec Ideal S128x2816 .f32) (a : Fin 128) (b : Fin 2816) :
    k0_pay4 (F := Ideal) g mm v w (ix2 a b) = delta (w (ix2 a b)) (mean (g (ix2 a b)) (mm (ix2 a b))) (square (g (ix2 a b)) (v (ix2 a b))) := by
  pointwise [k0_pay4, k0_pay3, k0_pay2, k0_pay1]; rfl

section reference
variable (w g mm v : FVec Ideal S4x128x2816 .f32) (r : Fin 512) (b : Fin 2816)

/-- the entry of a stacked array that a flat row and a column are. -/
def at3 (x : FVec Ideal S4x128x2816 .f32) : EReal := x (ix3 (⟨r.val / 128, by omega⟩ : Fin 4) (⟨r.val % 128, by omega⟩ : Fin 128) b)

theorem ref_mean : REF_v25 g mm (ix2 r b) = mean (at3 r b g) (at3 r b mm) := by
  pointwise [REF_v25]; rfl

theorem ref_square : REF_v26 g v (ix2 r b) = square (at3 r b g) (at3 r b v) := by
  pointwise [REF_v26]; rfl

theorem ref_delta : REF_v24 w g mm v (ix2 r b) = delta (at3 r b w) (mean (at3 r b g) (at3 r b mm)) (square (at3 r b g) (at3 r b v)) := by
  pointwise [REF_v24]; rfl
end reference

theorem at3_row (t : Fin cfg0.N) (a : Fin 128) (b : Fin 2816) (x : FVec Ideal S4x128x2816 .f32) : at3 (row t a) b x = x (ix3 (lay t) a b) := by
  rw [at3, row_lay, row_in]

/-- the array of window 5 after the run. -/
theorem final_5 (c : Dev nD) : (dats m 0 c).arrAt 5 (cfgs 0).N = REF_v25 (m ((c : Thread nD τ).loc main_arg1)) (m ((c : Thread nD τ).loc main_arg2)) := by
  refine (dats m 0 c).arrAt_eq_of_covers 5 _ (by decide +kernel) fun t hf y => ?_
  blk_simp; rw [after0_5]; frame_out
  idx_vars y
  rw [emb_5, ref_mean, at3_row, at3_row]
  refine (pay_mean _ _ y0 y1).trans ?_
  simp only [blk_1 m c t, blk_2 m c t]

/-- the array of window 6 after the run. -/
theorem final_6 (c : Dev nD) : (dats m 0 c).arrAt 6 (cfgs 0).N = REF_v26 (m ((c : Thread nD τ).loc main_arg1)) (m ((c : Thread nD τ).loc main_arg3)) := by
  refine (dats m 0 c).arrAt_eq_of_covers 6 _ (by decide +kernel) fun t hf y => ?_
  blk_simp; rw [after0_6]; frame_out
  idx_vars y
  rw [emb_6, ref_square, at3_row, at3_row]
  refine (pay_square _ _ y0 y1).trans ?_
  simp only [blk_1 m c t, blk_3 m c t]

/-- the array of window 4 after the run. -/
theorem final_4 (c : Dev nD) : (dats m 0 c).arrAt 4 (cfgs 0).N = REF_v24 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  idx_vars y
  rw [emb_4, ref_delta]
  simp only [at3_row]
  refine (pay_delta _ _ _ _ y0 y1).trans ?_
  simp only [blk_0 m c t, blk_1 m c t, blk_2 m c t, blk_3 m c t]

end Cert.AdamKernelIdeal.Value

end
-- ==== Proof.AdamClaim.lean ====
/- The claims about `AdamKernel`, its idealization and its reference. -/
module

public import proofs.«01_k».proof.Defs
public import proofs.«01_k».proof.Proof.Gen.AdamKernel.Frame
public import proofs.«01_k».proof.Proof.Gen.AdamKernelIdeal.Frame
public import proofs.«01_k».proof.Proof.Gen.AdamReferenceIdeal.Run
public import proofs.«01_k».proof.Proof.AdamValue
public import Idealize.ShloMosaic.Lib.Claim

@[expose] public section

set_option maxRecDepth 16384

noncomputable section

namespace Cert.Proof.Adam

open Idealize.ShloMosaic Idealize.ShloMosaic.TcCoe Idealize.SL.Sem

instance : Cert.AdamKernel.Facts := Cert.AdamKernel.Gen.facts
instance : Cert.AdamKernelIdeal.Facts := Cert.AdamKernelIdeal.Gen.facts
instance : Cert.AdamReferenceIdeal.Facts := Cert.AdamReferenceIdeal.Gen.facts

/-- the kernel's thread on a device. -/
abbrev tK (c : Dev Cert.AdamKernelIdeal.nD) : Thread Cert.AdamKernelIdeal.nD Cert.AdamKernelIdeal.τ := c.tc

/-- the reference's thread on a device. -/
abbrev tR (c : Dev Cert.AdamReferenceIdeal.nD) : Thread Cert.AdamReferenceIdeal.nD Cert.AdamReferenceIdeal.τ := c.tc

/-- a memory of the kernel's program. -/
abbrev MemK := (ℓ : Loc Cert.AdamKernelIdeal.nD Cert.AdamKernelIdeal.τ Cert.AdamKernelIdeal.sig) → Buf (Elt Ideal) ℓ

/-- a memory of the reference's program. -/
abbrev MemR := (ℓ : Loc Cert.AdamReferenceIdeal.nD Cert.AdamReferenceIdeal.τ Cert.AdamReferenceIdeal.sig) → Buf (Elt Ideal) ℓ

/-- the printed kernel's frame. -/
theorem frame_p : Cert.quiescent_AdamKernel := fun m ρ _ => Cert.AdamKernel.Gen.frame m ρ

/-- the idealized kernel's frame. -/
theorem frame_pi : Cert.quiescent_AdamKernelIdeal := fun m ρ _ => Cert.AdamKernelIdeal.Gen.frame m ρ

/-- the reference's frame: it declares no semaphore. -/
theorem frame_ri : Cert.quiescent_AdamReferenceIdeal := fun m g _ =>
  (θ_run Cert.AdamReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.AdamReferenceIdeal.Value.run m g)

/-- the reference's term for window 4's array, at the kernel's arguments. -/
theorem out_4 (m : MemK)
    (m' : MemR) (c : Dev Cert.AdamKernelIdeal.nD)
    (a0 : m' ((tR c).loc Cert.AdamReferenceIdeal.main_arg0) = m ((tK c).loc Cert.AdamKernelIdeal.main_arg0))
    (a1 : m' ((tR c).loc Cert.AdamReferenceIdeal.main_arg1) = m ((tK c).loc Cert.AdamKernelIdeal.main_arg1))
    (a2 : m' ((tR c).loc Cert.AdamReferenceIdeal.main_arg2) = m ((tK c).loc Cert.AdamKernelIdeal.main_arg2))
    (a3 : m' ((tR c).loc Cert.AdamReferenceIdeal.main_arg3) = m ((tK c).loc Cert.AdamKernelIdeal.main_arg3)) :
    Cert.AdamReferenceIdeal.Value.REF_v24 (m' ((tR c).loc Cert.AdamReferenceIdeal.main_arg0)) (m' ((tR c).loc Cert.AdamReferenceIdeal.main_arg1)) (m' ((tR c).loc Cert.AdamReferenceIdeal.main_arg2)) (m' ((tR c).loc Cert.AdamReferenceIdeal.main_arg3))
      = (Cert.AdamKernelIdeal.Gen.dats m 0 c).arrAt 4 (Cert.AdamKernelIdeal.cfgs 0).N := by
  rw [a0, a1, a2, a3]
  exact (Cert.AdamKernelIdeal.Value.final_4 m c).symm

/-- the reference's term for window 5's array, at the kernel's arguments. -/
theorem out_5 (m : MemK)
    (m' : MemR) (c : Dev Cert.AdamKernelIdeal.nD)
    (a1 : m' ((tR c).loc Cert.AdamReferenceIdeal.main_arg1) = m ((tK c).loc Cert.AdamKernelIdeal.main_arg1))
    (a2 : m' ((tR c).loc Cert.AdamReferenceIdeal.main_arg2) = m ((tK c).loc Cert.AdamKernelIdeal.main_arg2)) :
    Cert.AdamReferenceIdeal.Value.REF_v25 (m' ((tR c).loc Cert.AdamReferenceIdeal.main_arg1)) (m' ((tR c).loc Cert.AdamReferenceIdeal.main_arg2))
      = (Cert.AdamKernelIdeal.Gen.dats m 0 c).arrAt 5 (Cert.AdamKernelIdeal.cfgs 0).N := by
  rw [a1, a2]
  exact (Cert.AdamKernelIdeal.Value.final_5 m c).symm

/-- the reference's term for window 6's array, at the kernel's arguments. -/
theorem out_6 (m : MemK)
    (m' : MemR) (c : Dev Cert.AdamKernelIdeal.nD)
    (a1 : m' ((tR c).loc Cert.AdamReferenceIdeal.main_arg1) = m ((tK c).loc Cert.AdamKernelIdeal.main_arg1))
    (a3 : m' ((tR c).loc Cert.AdamReferenceIdeal.main_arg3) = m ((tK c).loc Cert.AdamKernelIdeal.main_arg3)) :
    Cert.AdamReferenceIdeal.Value.REF_v26 (m' ((tR c).loc Cert.AdamReferenceIdeal.main_arg1)) (m' ((tR c).loc Cert.AdamReferenceIdeal.main_arg3))
      = (Cert.AdamKernelIdeal.Gen.dats m 0 c).arrAt 6 (Cert.AdamKernelIdeal.cfgs 0).N := by
  rw [a1, a3]
  exact (Cert.AdamKernelIdeal.Value.final_6 m c).symm

/-- the idealized kernel makes the optimiser step. -/
theorem algebraic : Cert.algebraic_AdamKernelIdeal_AdamReferenceIdeal := by
  pair_intro
  · run_from Cert.AdamKernelIdeal.Gen.run_main m g
  · exact (θ_run Cert.AdamReferenceIdeal.defs _ _).mono
      (fun r h c => ⟨(h c).1.trans (out_4 m m' c (hagree c).1 (hagree c).2.1 (hagree c).2.2.1 (hagree c).2.2.2), (h c).2.1.trans (out_5 m m' c (hagree c).2.1 (hagree c).2.2.1), (h c).2.2.1.trans (out_6 m m' c (hagree c).2.1 (hagree c).2.2.2),
        (h c).2.2.2.1, (h c).2.2.2.2.1, (h c).2.2.2.2.2.1, (h c).2.2.2.2.2.2⟩)
      (Cert.AdamReferenceIdeal.Value.run m' g')

end Cert.Proof.Adam

end
-- ==== Proof.SumRef.lean ====
/- The reference results of `Cert.SumReferenceIdeal` as named functions of its arguments. -/
module

public import proofs.«01_k».proof.Proof.Gen.SumReferenceIdeal.Run
public import Idealize.ShloMosaic.Lib.Pipeline.ValueKit

@[expose] public section

set_option maxRecDepth 16384

noncomputable section

namespace Cert.SumReferenceIdeal.Value

open Cert.SumReferenceIdeal Cert.SumReferenceIdeal.Gen Idealize.ShloMosaic Idealize.ShloMosaic.TcCoe Idealize.SL.Sem Idealize.ShloMosaic.StableHlo

/-- What the reference leaves in `main_v0`. -/
abbrev REF_v0 (a0 : FVec Ideal S16x24x1024 .f32) : FVec Ideal S24x1024 .f32 :=
  Host.reduceAdd a0 (constant S_ .f32 0x00000000#32) reducesTo_S16x24x1024_S24x1024_d0 h_S_

end Cert.SumReferenceIdeal.Value

end
-- ==== Proof.SumValue.lean ====
/- What `SumKernelIdeal` leaves in its result, against the reference's term. -/
module

public import proofs.«01_k».proof.Proof.Gen.SumKernelIdeal.Value
public import proofs.«01_k».proof.Proof.SumRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SumKernelIdeal.Value

open Cert.SumKernelIdeal Cert.SumKernelIdeal.Gen Cert.SumReferenceIdeal.Value

variable (m : (ℓ : Loc nD τ sig) → Buf (Elt Ideal) ℓ)

/-- the reference sums the 16 parts, at coordinates. -/
theorem ref_at (r : FVec Ideal S16x24x1024 .f32) (a : Fin 24) (b : Fin 1024) : REF_v0 r (ix2 a b) = ∑ k : Fin 16, r (ix3 k a b) := by
  pointwise [REF_v0]

/-- the kernel adds them one after the other. -/
theorem sum_at (r : FVec Ideal S16x24x1024 .f32) (a : Fin 24) (b : Fin 1024) : G1 (F := Ideal) r (ix2 a b) = ∑ k : Fin 16, r (ix3 k a b) := by
  simp only [Fin.sum_univ_castSucc, Fin.sum_univ_zero, zero_add]
  pointwise [G1, k0_pay1, k0_pay2]
  rfl

/-- the array of the result's window after the run. -/
theorem final_1 (c : Dev nD) : (dats m 0 c).arrAt 1 (cfgs 0).N = REF_v0 (m ((c : Thread nD τ).loc main_arg0)) := by
  refine (final1 m c).trans (funext fun y => ?_)
  idx_vars y
  exact (sum_at _ y0 y1).trans (ref_at _ y0 y1).symm

end Cert.SumKernelIdeal.Value

end
-- ==== Proof.SumClaim.lean ====
/- The claims about `SumKernel`, its idealization and its reference. -/
module

public import proofs.«01_k».proof.Defs
public import proofs.«01_k».proof.Proof.Gen.SumKernel.Frame
public import proofs.«01_k».proof.Proof.Gen.SumKernelIdeal.Frame
public import proofs.«01_k».proof.Proof.Gen.SumReferenceIdeal.Run
public import proofs.«01_k».proof.Proof.SumValue
public import Idealize.ShloMosaic.Lib.Claim

@[expose] public section

set_option maxRecDepth 16384

noncomputable section

namespace Cert.Proof.Sum

open Idealize.ShloMosaic Idealize.ShloMosaic.TcCoe Idealize.SL.Sem

instance : Cert.SumKernel.Facts := Cert.SumKernel.Gen.facts
instance : Cert.SumKernelIdeal.Facts := Cert.SumKernelIdeal.Gen.facts
instance : Cert.SumReferenceIdeal.Facts := Cert.SumReferenceIdeal.Gen.facts

/-- the printed kernel's frame. -/
theorem frame_p : Cert.quiescent_SumKernel := fun m ρ _ => Cert.SumKernel.Gen.frame m ρ

/-- the idealized kernel's frame. -/
theorem frame_pi : Cert.quiescent_SumKernelIdeal := fun m ρ _ => Cert.SumKernelIdeal.Gen.frame m ρ

/-- the reference's frame: it declares no semaphore. -/
theorem frame_ri : Cert.quiescent_SumReferenceIdeal := fun m g _ =>
  (θ_run Cert.SumReferenceIdeal.defs _ _).mono
    (fun r h => ⟨fun c => (h c).2, sem_eq_zero_of_no_sems (by decide) r.2⟩)
    (Cert.SumReferenceIdeal.Value.run m g)

/-- the reference's term for window 1's array, at the kernel's arguments. -/
theorem out_1 (m : (ℓ : Loc Cert.SumKernelIdeal.nD Cert.SumKernelIdeal.τ Cert.SumKernelIdeal.sig) → Buf (Elt Ideal) ℓ)
    (m' : (ℓ : Loc Cert.SumReferenceIdeal.nD Cert.SumReferenceIdeal.τ Cert.SumReferenceIdeal.sig) → Buf (Elt Ideal) ℓ) (c : Dev Cert.SumKernelIdeal.nD)
    (a0 : m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) :
    Cert.SumReferenceIdeal.Value.REF_v0 (m' ((c.tc : Thread Cert.SumReferenceIdeal.nD Cert.SumReferenceIdeal.τ).loc Cert.SumReferenceIdeal.main_arg0))
      = (Cert.SumKernelIdeal.Gen.dats m 0 c).arrAt 1 (Cert.SumKernelIdeal.cfgs 0).N := by
  rw [a0]
  exact (Cert.SumKernelIdeal.Value.final_1 m c).symm

/-- the idealized kernel computes the derivative of the forward lines. -/
theorem algebraic : Cert.algebraic_SumKernelIdeal_SumReferenceIdeal := by
  pair_intro
  · run_from Cert.SumKernelIdeal.Gen.run_main m g
  · exact (θ_run Cert.SumReferenceIdeal.defs _ _).mono
      (fun r h c => ⟨(h c).1.trans (out_1 m m' c (hagree c)),
        (h c).2⟩)
      (Cert.SumReferenceIdeal.Value.run m' g')

end Cert.Proof.Sum

end
-- ==== Proof.SumMRef.lean ====
/- The reference results of `Cert.SumMReferenceIdeal` as named functions of its arguments. -/
module

public import proofs.«01_k».proof.Proof.Gen.SumMReferenceIdeal.Run
public import Idealize.ShloMosaic.Lib.Pipeline.ValueKit

@[expose] public section

set_option maxRecDepth 16384

noncomputable section

namespace Cert.SumMReferenceIdeal.Value

open Cert.SumMReferenceIdeal Cert.SumMReferenceIdeal.Gen Idealize.ShloMosaic Idealize.ShloMosaic.TcCoe Idealize.SL.Sem Idealize.ShloMosaic.StableHlo

/-- What the reference leaves in `main_v0`. -/
abbrev REF_v0 (a0 : FVec Ideal S8x24x1024 .f32) : FVec Ideal S24x1024 .f32 :=
  Host.reduceAdd a0 (constant S_ .f32 0x00000000#32) reducesTo_S8x24x1024_S24x1024_d0 h_S_

end Cert.SumMReferenceIdeal.Value

end
-- ==== Proof.SumMValue.lean ====
/- What `SumMKernelIdeal` leaves in its result, against the reference's term. -/
module

public import proofs.«01_k».proof.Proof.Gen.SumMKernelIdeal.Value
public import proofs.«01_k».proof.Proof.SumMRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SumMKernelIdeal.Value

open Cert.SumMKernelIdeal Cert.SumMKernelIdeal.Gen Cert.SumMReferenceIdeal.Value

variable (m : (ℓ : Loc nD τ sig) → Buf (Elt Ideal) ℓ)

/-- the reference sums the 8 parts, at coordinates. -/
theorem ref_at (r : FVec Ideal S8x24x1024 .f32) (a : Fin 24) (b : Fin 1024) : REF_v0 r (ix2 a b) = ∑ k : Fin 8, r (ix3 k a b) := by
  pointwise [REF_v0]

/-- the kernel adds them one after the other. -/
theorem sum_at (r : FVec Ideal S8x24x1024 .f32) (a : Fin 24) (b : Fin 1024) : G1 (F := Ideal) r (ix2 a b) = ∑ k : Fin 8, r (ix3 k a b) := by
  simp only [Fin.sum_univ_castSucc, Fin.sum_univ_zero, zero_add]
  pointwise [G1, k0_pay1]
  rfl

/-- the array of the result's window after the run. -/
theorem final_1 (c : Dev nD) : (dats m 0 c).arrAt 1 (cfgs 0).N = REF_v0 (m ((c : Thread nD τ).loc main_arg0)) := by
  refine (final1 m c).trans (funext fun y => ?_)
  idx_vars y
  exact (sum_at _ y0 y1).trans (ref_at _ y0 y1).symm

end Cert.SumMKernelIdeal.Value

end
-- ==== Proof.SumMClaim.lean ====
/- The claims about `SumMKernel`, its idealization and its reference. -/
module

public import proofs.«01_k».proof.Defs
public import proofs.«01_k».proof.Proof.Gen.SumMKernel.Frame
public import proofs.«01_k».proof.Proof.Gen.SumMKernelIdeal.Frame
public import proofs.«01_k».proof.Proof.Gen.SumMReferenceIdeal.Run
public import proofs.«01_k».proof.Proof.SumMValue
public import Idealize.ShloMosaic.Lib.Claim

@[expose] public section

set_option maxRecDepth 16384

noncomputable section

namespace Cert.Proof.SumM

open Idealize.ShloMosaic Idealize.ShloMosaic.TcCoe Idealize.SL.Sem

instance : Cert.SumMKernel.Facts := Cert.SumMKernel.Gen.facts
instance : Cert.SumMKernelIdeal.Facts := Cert.SumMKernelIdeal.Gen.facts
instance : Cert.SumMReferenceIdeal.Facts := Cert.SumMReferenceIdeal.Gen.facts

/-- the printed kernel's frame. -/
theorem frame_p : Cert.quiescent_SumMKernel := fun m ρ _ => Cert.SumMKernel.Gen.frame m ρ

/-- the idealized kernel's frame. -/
theorem frame_pi : Cert.quiescent_SumMKernelIdeal := fun m ρ _ => Cert.SumMKernelIdeal.Gen.frame m ρ

/-- the reference's frame: it declares no semaphore. -/
theorem frame_ri : Cert.quiescent_SumMReferenceIdeal := fun m g _ =>
  (θ_run Cert.SumMReferenceIdeal.defs _ _).mono
    (fun r h => ⟨fun c => (h c).2, sem_eq_zero_of_no_sems (by decide) r.2⟩)
    (Cert.SumMReferenceIdeal.Value.run m g)

/-- the reference's term for window 1's array, at the kernel's arguments. -/
theorem out_1 (m : (ℓ : Loc Cert.SumMKernelIdeal.nD Cert.SumMKernelIdeal.τ Cert.SumMKernelIdeal.sig) → Buf (Elt Ideal) ℓ)
    (m' : (ℓ : Loc Cert.SumMReferenceIdeal.nD Cert.SumMReferenceIdeal.τ Cert.SumMReferenceIdeal.sig) → Buf (Elt Ideal) ℓ) (c : Dev Cert.SumMKernelIdeal.nD)
    (a0 : m' ((c.tc : Thread Cert.SumMReferenceIdeal.nD Cert.SumMReferenceIdeal.τ).loc Cert.SumMReferenceIdeal.main_arg0) = m ((c.tc : Thread Cert.SumMKernelIdeal.nD Cert.SumMKernelIdeal.τ).loc Cert.SumMKernelIdeal.main_arg0)) :
    Cert.SumMReferenceIdeal.Value.REF_v0 (m' ((c.tc : Thread Cert.SumMReferenceIdeal.nD Cert.SumMReferenceIdeal.τ).loc Cert.SumMReferenceIdeal.main_arg0))
      = (Cert.SumMKernelIdeal.Gen.dats m 0 c).arrAt 1 (Cert.SumMKernelIdeal.cfgs 0).N := by
  rw [a0]
  exact (Cert.SumMKernelIdeal.Value.final_1 m c).symm

/-- the idealized kernel computes the derivative of the forward lines. -/
theorem algebraic : Cert.algebraic_SumMKernelIdeal_SumMReferenceIdeal := by
  pair_intro
  · run_from Cert.SumMKernelIdeal.Gen.run_main m g
  · exact (θ_run Cert.SumMReferenceIdeal.defs _ _).mono
      (fun r h c => ⟨(h c).1.trans (out_1 m m' c (hagree c)),
        (h c).2⟩)
      (Cert.SumMReferenceIdeal.Value.run m' g')

end Cert.Proof.SumM

end
-- ==== Proof.SumNRef.lean ====
/- The reference results of `Cert.SumNReferenceIdeal` as named functions of its arguments. -/
module

public import proofs.«01_k».proof.Proof.Gen.SumNReferenceIdeal.Run
public import Idealize.ShloMosaic.Lib.Pipeline.ValueKit

@[expose] public section

set_option maxRecDepth 16384

noncomputable section

namespace Cert.SumNReferenceIdeal.Value

open Cert.SumNReferenceIdeal Cert.SumNReferenceIdeal.Gen Idealize.ShloMosaic Idealize.ShloMosaic.TcCoe Idealize.SL.Sem Idealize.ShloMosaic.StableHlo

/-- What the reference leaves in `main_v0`. -/
abbrev REF_v0 (a0 : FVec Ideal S4x2x1024 .f32) : FVec Ideal S4x1024 .f32 :=
  Host.reduceAdd a0 (constant S_ .f32 0x00000000#32) reducesTo_S4x2x1024_S4x1024_d1 h_S_

end Cert.SumNReferenceIdeal.Value

end
-- ==== Proof.SumNValue.lean ====
/- What `SumNKernelIdeal` leaves in its result, against the reference's term. -/
module

public import proofs.«01_k».proof.Proof.Gen.SumNKernelIdeal.Value
public import proofs.«01_k».proof.Proof.SumNRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SumNKernelIdeal.Value

open Cert.SumNKernelIdeal Cert.SumNKernelIdeal.Gen Cert.SumNReferenceIdeal.Value

variable (m : (ℓ : Loc nD τ sig) → Buf (Elt Ideal) ℓ)

theorem idx_val : ∀ t : Fin cfg0.N, win0_0.index t = ![0, 0, 0] ∧ win0_1.index t = ![0, 0] :=
  (by decide +kernel : ∀ t : Fin grid0.N, _)

/-- the two samples' rows, as the call gets them (the sample axis in front). -/
theorem blk_0 (c : Dev nD) (t : Fin cfg0.N) (k : Fin 2) (a : Fin 4) (b : Fin 1024) :
    iblk m c 0 t (ix3 k a b) = m ((c : Thread nD τ).loc main_arg0) (ix3 a k b) := by
  blk_simp [iblk, idx_val t]; entry_read; pointwise; blk_ext [idx_val t]

theorem emb_1 (t : Fin cfg0.N) (a : Fin 4) (b : Fin 1024) :
    ((cfg0.win 1).blk t).view.emb (ix2 a b) = (ix2 a b : S4x1024.Idx) := by
  blk_ext [idx_val t]

/-- the reference sums over the samples, at coordinates. -/
theorem ref_at (r : FVec Ideal S4x2x1024 .f32) (a : Fin 4) (b : Fin 1024) : REF_v0 r (ix2 a b) = r (ix3 a 0 b) + r (ix3 a 1 b) := by
  refine Eq.trans ?_ (Fin.sum_univ_two fun k : Fin 2 => r (ix3 a k b))
  pointwise [REF_v0]

/-- the kernel adds the two. -/
theorem pay_at (p q : Vec Ideal S1x4x1024 .f32) (a : Fin 4) (b : Fin 1024) :
    k0_pay1 (F := Ideal) p q (ix2 a b) = p (ix3 0 a b) + q (ix3 0 a b) := by
  pointwise [k0_pay1]

theorem ld_0 (v : Vec Ideal S2x4x1024 .f32) (a : Fin 4) (b : Fin 1024) : View.ld v r0_0 (ix3 0 a b) = v (ix3 0 a b) := by
  pointwise

theorem ld_1 (v : Vec Ideal S2x4x1024 .f32) (a : Fin 4) (b : Fin 1024) : View.ld v r0_1 (ix3 0 a b) = v (ix3 1 a b) := by
  pointwise

/-- the array of the result's window after the run. -/
theorem final_1 (c : Dev nD) : (dats m 0 c).arrAt 1 (cfgs 0).N = REF_v0 (m ((c : Thread nD τ).loc main_arg0)) := by
  refine (dats m 0 c).arrAt_eq_of_covers 1 _ (by decide +kernel) fun t hf y => ?_
  blk_simp; rw [after0_1]; frame_out
  idx_vars y
  rw [emb_1, ref_at]
  refine (pay_at _ _ y0 y1).trans ?_
  exact congrArg₂ (· + ·) ((ld_0 _ y0 y1).trans (blk_0 m c t 0 y0 y1)) ((ld_1 _ y0 y1).trans (blk_0 m c t 1 y0 y1))

end Cert.SumNKernelIdeal.Value

end
-- ==== Proof.SumNClaim.lean ====
/- The claims about `SumNKernel`, its idealization and its reference. -/
module

public import proofs.«01_k».proof.Defs
public import proofs.«01_k».proof.Proof.Gen.SumNKernel.Frame
public import proofs.«01_k».proof.Proof.Gen.SumNKernelIdeal.Frame
public import proofs.«01_k».proof.Proof.Gen.SumNReferenceIdeal.Run
public import proofs.«01_k».proof.Proof.SumNValue
public import Idealize.ShloMosaic.Lib.Claim

@[expose] public section

set_option maxRecDepth 16384

noncomputable section

namespace Cert.Proof.SumN

open Idealize.ShloMosaic Idealize.ShloMosaic.TcCoe Idealize.SL.Sem

instance : Cert.SumNKernel.Facts := Cert.SumNKernel.Gen.facts
instance : Cert.SumNKernelIdeal.Facts := Cert.SumNKernelIdeal.Gen.facts
instance : Cert.SumNReferenceIdeal.Facts := Cert.SumNReferenceIdeal.Gen.facts

/-- the printed kernel's frame. -/
theorem frame_p : Cert.quiescent_SumNKernel := fun m ρ _ => Cert.SumNKernel.Gen.frame m ρ

/-- the idealized kernel's frame. -/
theorem frame_pi : Cert.quiescent_SumNKernelIdeal := fun m ρ _ => Cert.SumNKernelIdeal.Gen.frame m ρ

/-- the reference's frame: it declares no semaphore. -/
theorem frame_ri : Cert.quiescent_SumNReferenceIdeal := fun m g _ =>
  (θ_run Cert.SumNReferenceIdeal.defs _ _).mono
    (fun r h => ⟨fun c => (h c).2, sem_eq_zero_of_no_sems (by decide) r.2⟩)
    (Cert.SumNReferenceIdeal.Value.run m g)

/-- the reference's term for window 1's array, at the kernel's arguments. -/
theorem out_1 (m : (ℓ : Loc Cert.SumNKernelIdeal.nD Cert.SumNKernelIdeal.τ Cert.SumNKernelIdeal.sig) → Buf (Elt Ideal) ℓ)
    (m' : (ℓ : Loc Cert.SumNReferenceIdeal.nD Cert.SumNReferenceIdeal.τ Cert.SumNReferenceIdeal.sig) → Buf (Elt Ideal) ℓ) (c : Dev Cert.SumNKernelIdeal.nD)
    (a0 : m' ((c.tc : Thread Cert.SumNReferenceIdeal.nD Cert.SumNReferenceIdeal.τ).loc Cert.SumNReferenceIdeal.main_arg0) = m ((c.tc : Thread Cert.SumNKernelIdeal.nD Cert.SumNKernelIdeal.τ).loc Cert.SumNKernelIdeal.main_arg0)) :
    Cert.SumNReferenceIdeal.Value.REF_v0 (m' ((c.tc : Thread Cert.SumNReferenceIdeal.nD Cert.SumNReferenceIdeal.τ).loc Cert.SumNReferenceIdeal.main_arg0))
      = (Cert.SumNKernelIdeal.Gen.dats m 0 c).arrAt 1 (Cert.SumNKernelIdeal.cfgs 0).N := by
  rw [a0]
  exact (Cert.SumNKernelIdeal.Value.final_1 m c).symm

/-- the idealized kernel computes the derivative of the forward lines. -/
theorem algebraic : Cert.algebraic_SumNKernelIdeal_SumNReferenceIdeal := by
  pair_intro
  · run_from Cert.SumNKernelIdeal.Gen.run_main m g
  · exact (θ_run Cert.SumNReferenceIdeal.defs _ _).mono
      (fun r h c => ⟨(h c).1.trans (out_1 m m' c (hagree c)),
        (h c).2⟩)
      (Cert.SumNReferenceIdeal.Value.run m' g')

end Cert.Proof.SumN

end
-- ==== Proof.NtRef.lean ====
/- The reference results of `Cert.NtReferenceIdeal` as named functions of its arguments. -/
module

public import proofs.«01_k».proof.Proof.Gen.NtReferenceIdeal.Run
public import Idealize.ShloMosaic.Lib.Pipeline.ValueKit

@[expose] public section

set_option maxRecDepth 16384

noncomputable section

namespace Cert.NtReferenceIdeal.Value

open Cert.NtReferenceIdeal Cert.NtReferenceIdeal.Gen Idealize.ShloMosaic Idealize.ShloMosaic.TcCoe Idealize.SL.Sem Idealize.ShloMosaic.StableHlo

/-- What the reference leaves in `main_v3`. -/
abbrev REF_v3 (a0 : FVec Ideal S2x4096x1024 .bf16) (a1 : FVec Ideal S1024x3072 .f32) : FVec Ideal S8192x3072 .bf16 :=
  truncf .bf16 (shapeCast _ (Host.dotGeneral dot_S2x4096x1024_S1024x3072_S2x4096x3072_2_0_01_1_n_n none (extf .f32 a0 bitsLt_bf16_f32) a1) shapeCasts_S2x4096x3072_S8192x3072) bitsLt_bf16_f32

end Cert.NtReferenceIdeal.Value

end
-- ==== Proof.NtValue.lean ====
/- What `NtKernelIdeal` leaves in its result, against the reference's term. -/
module

public import proofs.«01_k».proof.Proof.Gen.NtKernelIdeal.Value
public import proofs.«01_k».proof.Proof.NtRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.NtKernelIdeal.Value

open Cert.NtKernelIdeal Cert.NtKernelIdeal.Gen Cert.NtReferenceIdeal.Value

variable (m : (ℓ : Loc nD τ sig) → Buf (Elt Ideal) ℓ)

theorem idx_val : ∀ t : Fin cfg0.N, win0_0.index t = ![t.val % 8, 0]
    ∧ win0_1.index t = ![t.val / 8, 0]
    ∧ win0_2.index t = ![t.val % 8, t.val / 8] :=
  (by decide +kernel : ∀ t : Fin grid0.N, _)

theorem lt_N (t : Fin cfg0.N) : t.val < 16 := t.isLt

/-- the row of the flat array that a block's row is. -/
abbrev row (t : Fin cfg0.N) (a : Fin 1024) : Fin 8192 := ⟨t.val % 8 * 1024 + a.val, by omega⟩

/-- the column that a block's column is. -/
abbrev col (t : Fin cfg0.N) (b : Fin 1536) : Fin 3072 := ⟨t.val / 8 * 1536 + b.val, by have := lt_N t; omega⟩

/-- a row's product with a column, at coordinates of the flat rows. -/
def lin (h : FVec Ideal S2x4096x1024 .bf16) (w : FVec Ideal S1024x3072 .f32) (r : Fin 8192) (b : Fin 3072) : EReal :=
  ∑ k : Fin 1024, h (ix3 (⟨r.val / 4096, by omega⟩ : Fin 2) (⟨r.val % 4096, by omega⟩ : Fin 4096) k) * w (ix2 k b)

theorem blk_0 (c : Dev nD) (t : Fin cfg0.N) (a : Fin 1024) (k : Fin 1024) :
    iblk m c 0 t (ix2 a k) = m ((c : Thread nD τ).loc main_arg0) (ix3 (⟨(row t a).val / 4096, by omega⟩ : Fin 2) (⟨(row t a).val % 4096, by omega⟩ : Fin 4096) k) := by
  blk_simp [iblk, idx_val t]; entry_read; pointwise; blk_ext [idx_val t]

theorem blk_1 (c : Dev nD) (t : Fin cfg0.N) (b : Fin 1536) (k : Fin 1024) :
    iblk m c 1 t (ix2 b k) = m ((c : Thread nD τ).loc main_arg1) (ix2 k (col t b)) := by
  blk_simp [iblk, idx_val t]; entry_read; pointwise; blk_ext [idx_val t]

theorem emb_2 (t : Fin cfg0.N) (a : Fin 1024) (b : Fin 1536) :
    ((cfg0.win 2).blk t).view.emb (ix2 a b) = (ix2 (row t a) (col t b) : S8192x3072.Idx) := by
  blk_ext [idx_val t]

theorem pay_at (v : Vec Ideal S1024x1024 .bf16) (w : Vec Ideal S1536x1024 .bf16) (a : Fin 1024) (b : Fin 1536) :
    k0_pay1 (F := Ideal) v w (ix2 a b) = ∑ k : Fin 1024, v (ix2 a k) * w (ix2 b k) := by
  pointwise [k0_pay1]

theorem ref_at (h : FVec Ideal S2x4096x1024 .bf16) (w : FVec Ideal S1024x3072 .f32) (r : Fin 8192) (b : Fin 3072) :
    REF_v3 h w (ix2 r b) = lin h w r b := by
  unfold lin
  pointwise [REF_v3]

/-- the array of the result's window after the run. -/
theorem final_2 (c : Dev nD) : (dats m 0 c).arrAt 2 (cfgs 0).N = REF_v3 (m ((c : Thread nD τ).loc main_arg0)) (m ((c : Thread nD τ).loc main_arg1)) := by
  refine (dats m 0 c).arrAt_eq_of_covers 2 _ (by decide +kernel) fun t hf y => ?_
  blk_simp; rw [after0_2]; frame_out
  idx_vars y
  rw [emb_2, ref_at]
  refine (pay_at _ _ y0 y1).trans ?_
  simp only [blk_0 m c t, blk_1 m c t]
  rfl

end Cert.NtKernelIdeal.Value

end
-- ==== Proof.NtClaim.lean ====
/- The claims about `NtKernel`, its idealization and its reference. -/
module

public import proofs.«01_k».proof.Defs
public import proofs.«01_k».proof.Proof.Gen.NtKernel.Frame
public import proofs.«01_k».proof.Proof.Gen.NtKernelIdeal.Frame
public import proofs.«01_k».proof.Proof.Gen.NtReferenceIdeal.Run
public import proofs.«01_k».proof.Proof.NtValue
public import Idealize.ShloMosaic.Lib.Claim

@[expose] public section

set_option maxRecDepth 16384

noncomputable section

namespace Cert.Proof.Nt

open Idealize.ShloMosaic Idealize.ShloMosaic.TcCoe Idealize.SL.Sem

instance : Cert.NtKernel.Facts := Cert.NtKernel.Gen.facts
instance : Cert.NtKernelIdeal.Facts := Cert.NtKernelIdeal.Gen.facts
instance : Cert.NtReferenceIdeal.Facts := Cert.NtReferenceIdeal.Gen.facts

/-- the printed kernel's frame. -/
theorem frame_p : Cert.quiescent_NtKernel := fun m ρ _ => Cert.NtKernel.Gen.frame m ρ

/-- the idealized kernel's frame. -/
theorem frame_pi : Cert.quiescent_NtKernelIdeal := fun m ρ _ => Cert.NtKernelIdeal.Gen.frame m ρ

/-- the reference's frame: it declares no semaphore. -/
theorem frame_ri : Cert.quiescent_NtReferenceIdeal := fun m g _ =>
  (θ_run Cert.NtReferenceIdeal.defs _ _).mono
    (fun r h => ⟨fun c => ⟨(h c).2.1, (h c).2.2⟩, sem_eq_zero_of_no_sems (by decide) r.2⟩)
    (Cert.NtReferenceIdeal.Value.run m g)

/-- the reference's term for window 2's array, at the kernel's arguments. -/
theorem out_2 (m : (ℓ : Loc Cert.NtKernelIdeal.nD Cert.NtKernelIdeal.τ Cert.NtKernelIdeal.sig) → Buf (Elt Ideal) ℓ)
    (m' : (ℓ : Loc Cert.NtReferenceIdeal.nD Cert.NtReferenceIdeal.τ Cert.NtReferenceIdeal.sig) → Buf (Elt Ideal) ℓ) (c : Dev Cert.NtKernelIdeal.nD)
    (a0 : m' ((c.tc : Thread Cert.NtReferenceIdeal.nD Cert.NtReferenceIdeal.τ).loc Cert.NtReferenceIdeal.main_arg0) = m ((c.tc : Thread Cert.NtKernelIdeal.nD Cert.NtKernelIdeal.τ).loc Cert.NtKernelIdeal.main_arg0))
    (a1 : m' ((c.tc : Thread Cert.NtReferenceIdeal.nD Cert.NtReferenceIdeal.τ).loc Cert.NtReferenceIdeal.main_arg1) = m ((c.tc : Thread Cert.NtKernelIdeal.nD Cert.NtKernelIdeal.τ).loc Cert.NtKernelIdeal.main_arg1)) :
    Cert.NtReferenceIdeal.Value.REF_v3 (m' ((c.tc : Thread Cert.NtReferenceIdeal.nD Cert.NtReferenceIdeal.τ).loc Cert.NtReferenceIdeal.main_arg0)) (m' ((c.tc : Thread Cert.NtReferenceIdeal.nD Cert.NtReferenceIdeal.τ).loc Cert.NtReferenceIdeal.main_arg1))
      = (Cert.NtKernelIdeal.Gen.dats m 0 c).arrAt 2 (Cert.NtKernelIdeal.cfgs 0).N := by
  rw [a0, a1]
  exact (Cert.NtKernelIdeal.Value.final_2 m c).symm

/-- the idealized kernel computes the derivative of the forward lines. -/
theorem algebraic : Cert.algebraic_NtKernelIdeal_NtReferenceIdeal := by
  pair_intro
  · run_from Cert.NtKernelIdeal.Gen.run_main m g
  · exact (θ_run Cert.NtReferenceIdeal.defs _ _).mono
      (fun r h c => ⟨(h c).1.trans (out_2 m m' c (hagree c).1 (hagree c).2),
        (h c).2.1, (h c).2.2⟩)
      (Cert.NtReferenceIdeal.Value.run m' g')

end Cert.Proof.Nt

end
-- ==== Proof.TnRef.lean ====
/- The reference results of `Cert.TnReferenceIdeal` as named functions of its arguments. -/
module

public import proofs.«01_k».proof.Proof.Gen.TnReferenceIdeal.Run
public import Idealize.ShloMosaic.Lib.Pipeline.ValueKit

@[expose] public section

set_option maxRecDepth 16384

noncomputable section

namespace Cert.TnReferenceIdeal.Value

open Cert.TnReferenceIdeal Cert.TnReferenceIdeal.Gen Idealize.ShloMosaic Idealize.ShloMosaic.TcCoe Idealize.SL.Sem Idealize.ShloMosaic.StableHlo

/-- What the reference leaves in `main_v4`. -/
abbrev REF_v4 (a0 : FVec Ideal S8192x2816 .bf16) (a1 : FVec Ideal S8192x1024 .bf16) : FVec Ideal S2816x1024 .bf16 :=
  truncf .bf16 (Host.dotGeneral dot_S2816x8192_S8192x1024_S2816x1024_1_0_0_1_n_n none (transpose S2816x8192 [1, 0] (extf .f32 a0 bitsLt_bf16_f32) transposes_S8192x2816_S2816x8192_1_0) (extf .f32 a1 bitsLt_bf16_f32)) bitsLt_bf16_f32

end Cert.TnReferenceIdeal.Value

end
-- ==== Proof.TnValue.lean ====
/- What `TnKernelIdeal` leaves in its result, against the reference's term. -/
module

public import proofs.«01_k».proof.Proof.Gen.TnKernelIdeal.Value
public import proofs.«01_k».proof.Proof.TnRef
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.TnKernelIdeal.Value

open Cert.TnKernelIdeal Cert.TnKernelIdeal.Gen Cert.TnReferenceIdeal.Value

variable (m : (ℓ : Loc nD τ sig) → Buf (Elt Ideal) ℓ)

theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

theorem lt_N (t : Fin cfg0.N) : t.val < 8 := t.isLt

/-- the row that a block's row is. -/
abbrev row (t : Fin cfg0.N) (k : Fin 2048) : Fin 8192 := ⟨t.val % 4 * 2048 + k.val, by omega⟩

/-- the column of the first operand that a block's column is. -/
abbrev col (t : Fin cfg0.N) (a : Fin 1408) : Fin 2816 := ⟨t.val / 4 * 1408 + a.val, by have := lt_N t; omega⟩

theorem blk_0 (c : Dev nD) (t : Fin cfg0.N) (k : Fin 2048) (a : Fin 1408) :
    iblk m c 0 t (ix2 k a) = m ((c : Thread nD τ).loc main_arg0) (ix2 (row t k) (col t a)) := by
  blk_simp [iblk, V, idx_val t]; blk_ext [idx_val t]

theorem blk_1 (c : Dev nD) (t : Fin cfg0.N) (k : Fin 2048) (b : Fin 1024) :
    iblk m c 1 t (ix2 k b) = m ((c : Thread nD τ).loc main_arg1) (ix2 (row t k) b) := by
  blk_simp [iblk, V, idx_val t]; blk_ext [idx_val t]

theorem emb_2 (t : Fin cfg0.N) (a : Fin 1408) (b : Fin 1024) :
    ((cfg0.win 2).blk t).view.emb (ix2 a b) = (ix2 (col t a) b : S2816x1024.Idx) := by
  blk_ext [idx_val t]

/-- the accumulator starts at zero. -/
theorem zero_at (y : S1408x1024.Idx) : k0_pay1 (F := Ideal) y = 0 := by
  pointwise [k0_pay1]

/-- what a block adds to the accumulator. -/
theorem step_at (acc : Vec Ideal S1408x1024 .f32) (v : Vec Ideal S2048x1408 .bf16) (w : Vec Ideal S2048x1024 .bf16) (y : S1408x1024.Idx) :
    k0_pay2 (F := Ideal) acc v w y = acc y + ∑ k : Fin 2048, v (ix2 k (y 0)) * w (ix2 k (y 1)) := by
  idx_vars y
  pointwise [k0_pay2]

/-- the result is the accumulator, rounded. -/
theorem out_at (acc : Vec Ideal S1408x1024 .f32) (y : S1408x1024.Idx) : k0_pay3 (F := Ideal) acc y = acc y := by
  pointwise [k0_pay3]

/-- what a point adds to the accumulator. -/
def part (c : Dev nD) (t : Fin cfg0.N) (y : S1408x1024.Idx) : EReal :=
  let v : Vec Ideal S2048x1408 .bf16 := iblk m c 0 t
  let w : Vec Ideal S2048x1024 .bf16 := iblk m c 1 t
  ∑ k : Fin 2048, v (ix2 k (y 0)) * w (ix2 k (y 1))

/-- the first point of a run of four leaves its own part. -/
theorem acc_first (c : Dev nD) (t : Fin cfg0.N) (h : t.val % 4 = 0) (y : S1408x1024.Idx) :
    (outsAt0 m c t.val t.isLt).2 y = 0 + part m c t y := by
  rw [outsAt0_A m c t h (by omega)]; dsimp only; frame_out
  exact (step_at _ _ _ y).trans (congrArg (· + _) (zero_at y))

/-- a later point adds its part to what the point before left. -/
theorem acc_next (c : Dev nD) (t : Fin cfg0.N) (h : ¬t.val % 4 = 0) (y : S1408x1024.Idx) :
    (outsAt0 m c t.val t.isLt).2 y = (outsAt0 m c (t.val - 1) (Nat.lt_of_le_of_lt (Nat.sub_le _ _) t.isLt)).2 y + part m c t y := by
  by_cases h1 : t.val % 4 = 3
  · rw [outsAt0_C m c t h h1]; dsimp only; frame_out
    exact (step_at _ _ _ y).trans (congrArg (· + _) (congrFun (read_unread_whole cc0_scratch0 _ _) y))
  · rw [outsAt0_B m c t h h1]; dsimp only; frame_out
    exact (step_at _ _ _ y).trans (congrArg (· + _) (congrFun (read_unread_whole cc0_scratch0 _ _) y))

/-- the last point of a run writes the accumulator out. -/
theorem out_last (c : Dev nD) (t : Fin cfg0.N) (h : t.val % 4 = 3) (y : S1408x1024.Idx) :
    (outsAt0 m c t.val t.isLt).1 y = (outsAt0 m c t.val t.isLt).2 y := by
  rw [outsAt0_C m c t (by omega) h]; dsimp only; frame_out
  exact out_at _ y

/-- a row's share of a column's product with a column. -/
def prod (u : FVec Ideal S8192x2816 .bf16) (v : FVec Ideal S8192x1024 .bf16) (a : Fin 2816) (b : Fin 1024) (r : Fin 8192) : EReal :=
  u (ix2 r a) * v (ix2 r b)

/-- a column's product with a column. -/
def lin (u : FVec Ideal S8192x2816 .bf16) (v : FVec Ideal S8192x1024 .bf16) (a : Fin 2816) (b : Fin 1024) : EReal :=
  ∑ r : Fin 8192, prod u v a b r

theorem ref_at (u : FVec Ideal S8192x2816 .bf16) (v : FVec Ideal S8192x1024 .bf16) (a : Fin 2816) (b : Fin 1024) :
    REF_v4 u v (ix2 a b) = lin u v a b := by
  unfold lin prod
  pointwise [REF_v4]

/-- a sum over all the rows is a sum over the four blocks of rows. -/
theorem sum_rows (f : Fin 8192 → EReal) :
    ∑ r : Fin 8192, f r = ∑ s : Fin 4, ∑ k : Fin 2048, f ⟨s.val * 2048 + k.val, by omega⟩ := by
  rw [← Fintype.sum_prod_type', ← Equiv.sum_comp (finProdFinEquiv (m := 4) (n := 2048)) f]
  exact Finset.sum_congr rfl fun p _ => congrArg f (Fin.ext (by simp only [finProdFinEquiv_apply_val]; omega))

/-- the array of the result's window after the run. -/
theorem final_2 (c : Dev nD) : (dats m 0 c).arrAt 2 (cfgs 0).N = REF_v4 (m ((c : Thread nD τ).loc main_arg0)) (m ((c : Thread nD τ).loc main_arg1)) := by
  refine (dats m 0 c).arrAt_eq_of_covers 2 _ (by decide +kernel) fun t hf y => ?_
  have hr := (flush0_2 t).mp hf
  idx_vars y
  have key : ∑ s : Fin 4, part m c ⟨4 * (t.val / 4) + s.val, Pipeline.run_point_lt_of_flush t hr s⟩ (ix2 y0 y1)
      = lin (m ((c : Thread nD τ).loc main_arg0)) (m ((c : Thread nD τ).loc main_arg1)) (col t y0) y1 := by
    refine Eq.trans ?_ (sum_rows fun r => prod (m ((c : Thread nD τ).loc main_arg0)) (m ((c : Thread nD τ).loc main_arg1)) (col t y0) y1 r).symm
    refine Finset.sum_congr rfl fun s _ => Finset.sum_congr rfl fun k _ => ?_
    have e0 : (4 * (t.val / 4) + s.val) % 4 = s.val := by omega
    have e1 : (4 * (t.val / 4) + s.val) / 4 = t.val / 4 := by omega
    refine congrArg₂ (· * ·) ((blk_0 m c _ k _).trans ?_) ((blk_1 m c _ k _).trans ?_)
    · exact congrArg _ ((ix2_inj ..).2 ⟨Fin.ext (congrArg (· * 2048 + k.val) e0), Fin.ext (congrArg (· * 1408 + y0.val) e1)⟩)
    · exact congrArg _ ((ix2_inj ..).2 ⟨Fin.ext (congrArg (· * 2048 + k.val) e0), rfl⟩)
  blk_simp
  rw [after0_2, emb_2, ref_at, out_last m c t hr, Pipeline.eq_sum_fin_of_reset_step_apply_of_flush (fun n h => (outsAt0 m c n h).2) 4 (fun _ => 0) (part m c)
    (fun t h j => acc_first m c t h j) (fun t h j => acc_next m c t h j) t hr _, zero_add]
  exact key

end Cert.TnKernelIdeal.Value

end
-- ==== Proof.TnClaim.lean ====
/- The claims about `TnKernel`, its idealization and its reference. -/
module

public import proofs.«01_k».proof.Defs
public import proofs.«01_k».proof.Proof.Gen.TnKernel.Frame
public import proofs.«01_k».proof.Proof.Gen.TnKernelIdeal.Frame
public import proofs.«01_k».proof.Proof.Gen.TnReferenceIdeal.Run
public import proofs.«01_k».proof.Proof.TnValue
public import Idealize.ShloMosaic.Lib.Claim

@[expose] public section

set_option maxRecDepth 16384

noncomputable section

namespace Cert.Proof.Tn

open Idealize.ShloMosaic Idealize.ShloMosaic.TcCoe Idealize.SL.Sem

instance : Cert.TnKernel.Facts := Cert.TnKernel.Gen.facts
instance : Cert.TnKernelIdeal.Facts := Cert.TnKernelIdeal.Gen.facts
instance : Cert.TnReferenceIdeal.Facts := Cert.TnReferenceIdeal.Gen.facts

/-- the printed kernel's frame. -/
theorem frame_p : Cert.quiescent_TnKernel := fun m ρ _ => Cert.TnKernel.Gen.frame m ρ

/-- the idealized kernel's frame. -/
theorem frame_pi : Cert.quiescent_TnKernelIdeal := fun m ρ _ => Cert.TnKernelIdeal.Gen.frame m ρ

/-- the reference's frame: it declares no semaphore. -/
theorem frame_ri : Cert.quiescent_TnReferenceIdeal := fun m g _ =>
  (θ_run Cert.TnReferenceIdeal.defs _ _).mono
    (fun r h => ⟨fun c => ⟨(h c).2.1, (h c).2.2⟩, sem_eq_zero_of_no_sems (by decide) r.2⟩)
    (Cert.TnReferenceIdeal.Value.run m g)

/-- the reference's term for window 2's array, at the kernel's arguments. -/
theorem out_2 (m : (ℓ : Loc Cert.TnKernelIdeal.nD Cert.TnKernelIdeal.τ Cert.TnKernelIdeal.sig) → Buf (Elt Ideal) ℓ)
    (m' : (ℓ : Loc Cert.TnReferenceIdeal.nD Cert.TnReferenceIdeal.τ Cert.TnReferenceIdeal.sig) → Buf (Elt Ideal) ℓ) (c : Dev Cert.TnKernelIdeal.nD)
    (a0 : m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0))
    (a1 : m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)) :
    Cert.TnReferenceIdeal.Value.REF_v4 (m' ((c.tc : Thread Cert.TnReferenceIdeal.nD Cert.TnReferenceIdeal.τ).loc Cert.TnReferenceIdeal.main_arg0)) (m' ((c.tc : Thread Cert.TnReferenceIdeal.nD Cert.TnReferenceIdeal.τ).loc Cert.TnReferenceIdeal.main_arg1))
      = (Cert.TnKernelIdeal.Gen.dats m 0 c).arrAt 2 (Cert.TnKernelIdeal.cfgs 0).N := by
  rw [a0, a1]
  exact (Cert.TnKernelIdeal.Value.final_2 m c).symm

/-- the idealized kernel computes the derivative of the forward lines. -/
theorem algebraic : Cert.algebraic_TnKernelIdeal_TnReferenceIdeal := by
  pair_intro
  · run_from Cert.TnKernelIdeal.Gen.run_main m g
  · exact (θ_run Cert.TnReferenceIdeal.defs _ _).mono
      (fun r h c => ⟨(h c).1.trans (out_2 m m' c (hagree c).1 (hagree c).2),
        (h c).2.1, (h c).2.2⟩)
      (Cert.TnReferenceIdeal.Value.run m' g')

end Cert.Proof.Tn

end
-- ==== Proof.lean ====
module

public import proofs.«01_k».proof.Defs
public import proofs.«01_k».proof.Proof.GateClaim
public import proofs.«01_k».proof.Proof.LossClaim
public import proofs.«01_k».proof.Proof.SwigluClaim
public import proofs.«01_k».proof.Proof.SbClaim
public import proofs.«01_k».proof.Proof.AdaClaim
public import proofs.«01_k».proof.Proof.NormClaim
public import proofs.«01_k».proof.Proof.NormBClaim
public import proofs.«01_k».proof.Proof.NormAClaim
public import proofs.«01_k».proof.Proof.NormZClaim
public import proofs.«01_k».proof.Proof.QkClaim
public import proofs.«01_k».proof.Proof.SwaClaim
public import proofs.«01_k».proof.Proof.UnitClaim
public import proofs.«01_k».proof.Proof.OutClaim
public import proofs.«01_k».proof.Proof.OutAClaim
public import proofs.«01_k».proof.Proof.TopClaim
public import proofs.«01_k».proof.Proof.ModClaim
public import proofs.«01_k».proof.Proof.AdaFwdClaim
public import proofs.«01_k».proof.Proof.AdamClaim
public import proofs.«01_k».proof.Proof.SumClaim
public import proofs.«01_k».proof.Proof.SumMClaim
public import proofs.«01_k».proof.Proof.SumNClaim
public import proofs.«01_k».proof.Proof.NtClaim
public import proofs.«01_k».proof.Proof.TnClaim
public import proofs.«01_k».proof.Proof.Gen.SumKernelIdeal.Value
public import proofs.«01_k».proof.Proof.Gen.SumKernel.Frame
public import proofs.«01_k».proof.Proof.Gen.SumReferenceIdeal.Run
public import proofs.«01_k».proof.Proof.Gen.SumMKernelIdeal.Value
public import proofs.«01_k».proof.Proof.Gen.SumMKernel.Frame
public import proofs.«01_k».proof.Proof.Gen.SumMReferenceIdeal.Run
public import proofs.«01_k».proof.Proof.Gen.SumNKernelIdeal.Value
public import proofs.«01_k».proof.Proof.Gen.SumNKernel.Frame
public import proofs.«01_k».proof.Proof.Gen.SumNReferenceIdeal.Run
public import proofs.«01_k».proof.Proof.Gen.NtKernelIdeal.Value
public import proofs.«01_k».proof.Proof.Gen.NtKernel.Frame
public import proofs.«01_k».proof.Proof.Gen.NtReferenceIdeal.Run
public import proofs.«01_k».proof.Proof.Gen.TnKernelIdeal.Value
public import proofs.«01_k».proof.Proof.Gen.TnKernel.Frame
public import proofs.«01_k».proof.Proof.Gen.TnReferenceIdeal.Run
public import proofs.«01_k».proof.Proof.Gen.AdamKernelIdeal.Value
public import proofs.«01_k».proof.Proof.Gen.AdamKernel.Frame
public import proofs.«01_k».proof.Proof.Gen.AdamReferenceIdeal.Run
public import proofs.«01_k».proof.Proof.Gen.UnitKernelIdeal.Value
public import proofs.«01_k».proof.Proof.Gen.UnitKernel.Frame
public import proofs.«01_k».proof.Proof.Gen.UnitReferenceIdeal.Run
public import proofs.«01_k».proof.Proof.Gen.OutKernelIdeal.Value
public import proofs.«01_k».proof.Proof.Gen.OutKernel.Frame
public import proofs.«01_k».proof.Proof.Gen.OutReferenceIdeal.Run
public import proofs.«01_k».proof.Proof.Gen.OutAKernelIdeal.Value
public import proofs.«01_k».proof.Proof.Gen.OutAKernel.Frame
public import proofs.«01_k».proof.Proof.Gen.OutAReferenceIdeal.Run
public import proofs.«01_k».proof.Proof.Gen.TopKernelIdeal.Value
public import proofs.«01_k».proof.Proof.Gen.TopKernel.Frame
public import proofs.«01_k».proof.Proof.Gen.TopReferenceIdeal.Run
public import proofs.«01_k».proof.Proof.Gen.ModKernelIdeal.Value
public import proofs.«01_k».proof.Proof.Gen.ModKernel.Frame
public import proofs.«01_k».proof.Proof.Gen.ModReferenceIdeal.Run
public import proofs.«01_k».proof.Proof.Gen.AdaFwdKernelIdeal.Value
public import proofs.«01_k».proof.Proof.Gen.AdaFwdKernel.Frame
public import proofs.«01_k».proof.Proof.Gen.AdaFwdReferenceIdeal.Run
public import proofs.«01_k».proof.Proof.Gen.GateKernelIdeal.Value
public import proofs.«01_k».proof.Proof.Gen.GateReferenceIdeal.Run
public import proofs.«01_k».proof.Proof.Gen.LossKernelIdeal.Value
public import proofs.«01_k».proof.Proof.Gen.LossReferenceIdeal.Run
public import proofs.«01_k».proof.Proof.Gen.SwigluKernelIdeal.Value
public import proofs.«01_k».proof.Proof.Gen.SwigluReferenceIdeal.Run
public import proofs.«01_k».proof.Proof.Gen.SbKernel
public import proofs.«01_k».proof.Proof.Gen.SbKernel.Frame
public import proofs.«01_k».proof.Proof.Gen.SbKernel.Loops
public import proofs.«01_k».proof.Proof.Gen.SbKernelIdeal
public import proofs.«01_k».proof.Proof.Gen.SbKernelIdeal.Frame
public import proofs.«01_k».proof.Proof.Gen.SbKernelIdeal.Loops
public import proofs.«01_k».proof.Proof.Gen.SbReferenceIdeal
public import proofs.«01_k».proof.Proof.Gen.SbReferenceIdeal.Run
public import proofs.«01_k».proof.Proof.Gen.AdaKernel.Frame
public import proofs.«01_k».proof.Proof.Gen.AdaKernelIdeal.Frame
public import proofs.«01_k».proof.Proof.Gen.AdaKernelIdeal.Value
public import proofs.«01_k».proof.Proof.Gen.AdaReferenceIdeal.Run
public import proofs.«01_k».proof.Proof.Gen.SwaKernel.Frame
public import proofs.«01_k».proof.Proof.Gen.SwaKernelIdeal.Frame
public import proofs.«01_k».proof.Proof.Gen.QkKernel.Frame
public import proofs.«01_k».proof.Proof.Gen.QkKernelIdeal.Frame
public import proofs.«01_k».proof.Proof.Gen.QkKernelIdeal.Value
public import proofs.«01_k».proof.Proof.Gen.QkReferenceIdeal.Run
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.NormBKernel.Frame
public import proofs.«01_k».proof.Proof.Gen.NormBKernelIdeal.Frame
public import proofs.«01_k».proof.Proof.Gen.NormBKernelIdeal.Value
public import proofs.«01_k».proof.Proof.Gen.NormBReferenceIdeal.Run
public import proofs.«01_k».proof.Proof.Gen.NormAKernel.Frame
public import proofs.«01_k».proof.Proof.Gen.NormAKernelIdeal.Frame
public import proofs.«01_k».proof.Proof.Gen.NormAKernelIdeal.Value
public import proofs.«01_k».proof.Proof.Gen.NormAReferenceIdeal.Run
public import proofs.«01_k».proof.Proof.Gen.NormZKernel.Frame
public import proofs.«01_k».proof.Proof.Gen.NormZKernelIdeal.Frame
public import proofs.«01_k».proof.Proof.Gen.NormZKernelIdeal.Value
public import proofs.«01_k».proof.Proof.Gen.NormZReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.GateKernel.Gen.facts,
    Cert.GateKernelIdeal.Gen.facts,
    Cert.GateReferenceIdeal.Gen.facts,
    Cert.LossKernel.Gen.facts,
    Cert.LossKernelIdeal.Gen.facts,
    Cert.LossReferenceIdeal.Gen.facts,
    Cert.SwigluKernel.Gen.facts,
    Cert.SwigluKernelIdeal.Gen.facts,
    Cert.SwigluReferenceIdeal.Gen.facts,
    Cert.SbKernel.Gen.facts,
    Cert.SbKernelIdeal.Gen.facts,
    Cert.SbReferenceIdeal.Gen.facts,
    Cert.AdaKernel.Gen.facts,
    Cert.AdaKernelIdeal.Gen.facts,
    Cert.AdaReferenceIdeal.Gen.facts,
    Cert.NormKernel.Gen.facts,
    Cert.NormKernelIdeal.Gen.facts,
    Cert.NormReferenceIdeal.Gen.facts,
    Cert.NormBKernel.Gen.facts,
    Cert.NormBKernelIdeal.Gen.facts,
    Cert.NormBReferenceIdeal.Gen.facts,
    Cert.NormAKernel.Gen.facts,
    Cert.NormAKernelIdeal.Gen.facts,
    Cert.NormAReferenceIdeal.Gen.facts,
    Cert.NormZKernel.Gen.facts,
    Cert.NormZKernelIdeal.Gen.facts,
    Cert.NormZReferenceIdeal.Gen.facts,
    Cert.QkKernel.Gen.facts,
    Cert.QkKernelIdeal.Gen.facts,
    Cert.QkReferenceIdeal.Gen.facts,
    Cert.SwaKernel.Gen.facts,
    Cert.SwaKernelIdeal.Gen.facts,
    Cert.UnitKernel.Gen.facts,
    Cert.UnitKernelIdeal.Gen.facts,
    Cert.UnitReferenceIdeal.Gen.facts,
    Cert.OutKernel.Gen.facts,
    Cert.OutKernelIdeal.Gen.facts,
    Cert.OutReferenceIdeal.Gen.facts,
    Cert.OutAKernel.Gen.facts,
    Cert.OutAKernelIdeal.Gen.facts,
    Cert.OutAReferenceIdeal.Gen.facts,
    Cert.TopKernel.Gen.facts,
    Cert.TopKernelIdeal.Gen.facts,
    Cert.TopReferenceIdeal.Gen.facts,
    Cert.ModKernel.Gen.facts,
    Cert.ModKernelIdeal.Gen.facts,
    Cert.ModReferenceIdeal.Gen.facts,
    Cert.AdaFwdKernel.Gen.facts,
    Cert.AdaFwdKernelIdeal.Gen.facts,
    Cert.AdaFwdReferenceIdeal.Gen.facts,
    Cert.AdamKernel.Gen.facts,
    Cert.AdamKernelIdeal.Gen.facts,
    Cert.AdamReferenceIdeal.Gen.facts,
    Cert.SumKernel.Gen.facts,
    Cert.SumKernelIdeal.Gen.facts,
    Cert.SumReferenceIdeal.Gen.facts,
    Cert.SumMKernel.Gen.facts,
    Cert.SumMKernelIdeal.Gen.facts,
    Cert.SumMReferenceIdeal.Gen.facts,
    Cert.SumNKernel.Gen.facts,
    Cert.SumNKernelIdeal.Gen.facts,
    Cert.SumNReferenceIdeal.Gen.facts,
    Cert.NtKernel.Gen.facts,
    Cert.NtKernelIdeal.Gen.facts,
    Cert.NtReferenceIdeal.Gen.facts,
    Cert.TnKernel.Gen.facts,
    Cert.TnKernelIdeal.Gen.facts,
    Cert.TnReferenceIdeal.Gen.facts,
    FinitePre.finite_swiglu_facts,
    FinitePre.finite_sb_facts,
    FinitePre.finite_norm2_facts,
    FinitePre.finite_norm1b_facts,
    FinitePre.finite_norm1a_facts,
    FinitePre.finite_norm0_facts,
    Gate.frame_p,
    Gate.frame_pi,
    Gate.frame_ri,
    Loss.frame_p,
    Loss.frame_pi,
    Loss.frame_ri,
    Swiglu.frame_p,
    Swiglu.frame_pi,
    Swiglu.frame_pi_pre,
    Swiglu.frame_ri,
    Swiglu.frame_ri_pre,
    Sb.frame_p,
    Sb.frame_pi,
    Sb.frame_pi_pre,
    Sb.frame_ri,
    Sb.frame_ri_pre,
    Ada.frame_p,
    Ada.frame_pi,
    Ada.frame_ri,
    Norm.frame_p,
    Norm.frame_pi,
    Norm.frame_pi_pre,
    Norm.frame_ri,
    Norm.frame_ri_pre,
    NormB.frame_p,
    NormB.frame_pi,
    NormB.frame_pi_pre,
    NormB.frame_ri,
    NormB.frame_ri_pre,
    NormA.frame_p,
    NormA.frame_pi,
    NormA.frame_pi_pre,
    NormA.frame_ri,
    NormA.frame_ri_pre,
    NormZ.frame_p,
    NormZ.frame_pi,
    NormZ.frame_pi_pre,
    NormZ.frame_ri,
    NormZ.frame_ri_pre,
    Qk.frame_p,
    Qk.frame_pi,
    Qk.frame_ri,
    Swa.frame_p,
    Swa.frame_pi,
    Unit.frame_p,
    Unit.frame_pi,
    Unit.frame_ri,
    Out.frame_p,
    Out.frame_pi,
    Out.frame_ri,
    OutA.frame_p,
    OutA.frame_pi,
    OutA.frame_ri,
    Top.frame_p,
    Top.frame_pi,
    Top.frame_ri,
    Mod.frame_p,
    Mod.frame_pi,
    Mod.frame_ri,
    AdaFwd.frame_p,
    AdaFwd.frame_pi,
    AdaFwd.frame_ri,
    Adam.frame_p,
    Adam.frame_pi,
    Adam.frame_ri,
    Sum.frame_p,
    Sum.frame_pi,
    Sum.frame_ri,
    SumM.frame_p,
    SumM.frame_pi,
    SumM.frame_ri,
    SumN.frame_p,
    SumN.frame_pi,
    SumN.frame_ri,
    Nt.frame_p,
    Nt.frame_pi,
    Nt.frame_ri,
    Tn.frame_p,
    Tn.frame_pi,
    Tn.frame_ri,
    trivial,
    Gate.algebraic,
    trivial,
    Loss.algebraic,
    trivial,
    Swiglu.algebraic,
    Sb.preserves,
    Sb.algebraic,
    trivial,
    Ada.algebraic,
    trivial,
    Norm.algebraic,
    trivial,
    NormB.algebraic,
    trivial,
    NormA.algebraic,
    trivial,
    NormZ.algebraic,
    trivial,
    trivial,
    trivial,
    Unit.algebraic,
    trivial,
    Out.algebraic,
    trivial,
    OutA.algebraic,
    trivial,
    Top.algebraic,
    trivial,
    Mod.algebraic,
    trivial,
    AdaFwd.algebraic,
    trivial,
    Adam.algebraic,
    trivial,
    Sum.algebraic,
    trivial,
    SumM.algebraic,
    trivial,
    SumN.algebraic,
    trivial,
    Nt.algebraic,
    trivial,
    Tn.algebraic⟩

end Cert.Proof

end
